-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S2x200000x64 : Shape := ⟨3, ![2, 200000, 64]⟩
abbrev S100000 : Shape := ⟨1, ![100000]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn_part1 {F : FTy → Type} [FloatOps F] (main_arg4 : IVec S100000 32) (main_arg5 : IVec S100000 32) (main_v14 : IVec S_ 1) (main_c_7 : IVec S_ 32) : IVec S_ 1 :=
  let main_v15 : IVec S100000 32 := broadcastInDim S100000 ![] bcast_S_S100000 main_c_7
  let main_v16 : IVec S100000 1 := cmpi .sge main_arg4 main_v15
  let main_c_8 : IVec S_ 1 := constantI S_ 1 1#1
  let main_v17 : IVec S_ 1 := (fun x v => Host.reduce IntOp.andi x v reducesTo_S100000_S_d0 h_S_) main_v16 main_c_8
  let main_v18 : IVec S_ 1 := andi main_v14 main_v17
  let main_c_9 : IVec S_ 32 := constantI S_ 32 200000#32
  let main_v19 : IVec S100000 32 := broadcastInDim S100000 ![] bcast_S_S100000 main_c_9
  let main_v20 : IVec S100000 1 := cmpi .slt main_arg4 main_v19
  let main_c_10 : IVec S_ 1 := constantI S_ 1 1#1
  let main_v21 : IVec S_ 1 := (fun x v => Host.reduce IntOp.andi x v reducesTo_S100000_S_d0 h_S_) main_v20 main_c_10
  let main_v22 : IVec S_ 1 := andi main_v18 main_v21
  let main_c_11 : IVec S_ 32 := constantI S_ 32 0#32
  let main_v23 : IVec S100000 32 := broadcastInDim S100000 ![] bcast_S_S100000 main_c_11
  let main_v24 : IVec S100000 1 := cmpi .sge main_arg5 main_v23
  let main_c_12 : IVec S_ 1 := constantI S_ 1 1#1
  let main_v25 : IVec S_ 1 := (fun x v => Host.reduce IntOp.andi x v reducesTo_S100000_S_d0 h_S_) main_v24 main_c_12
  let main_v26 : IVec S_ 1 := andi main_v22 main_v25
  let main_c_13 : IVec S_ 32 := constantI S_ 32 200000#32
  let main_v27 : IVec S100000 32 := broadcastInDim S100000 ![] bcast_S_S100000 main_c_13
  let main_v28 : IVec S100000 1 := cmpi .slt main_arg5 main_v27
  let main_c_14 : IVec S_ 1 := constantI S_ 1 1#1
  let main_v29 : IVec S_ 1 := (fun x v => Host.reduce IntOp.andi x v reducesTo_S100000_S_d0 h_S_) main_v28 main_c_14
  let main_v30 : IVec S_ 1 := andi main_v26 main_v29
  main_v30

def fn {F : FTy → Type} [FloatOps F] (main_arg0 : FVec F S2x200000x64 .f32) (main_arg1 : FVec F S2x200000x64 .f32) (main_arg2 : IVec S100000 32) (main_arg3 : IVec S100000 32) (main_arg4 : IVec S100000 32) (main_arg5 : IVec S100000 32) : IVec S_ 1 :=
  let main_c : IVec S_ 32 := constantI S_ 32 0#32
  let main_v0 : IVec S100000 32 := broadcastInDim S100000 ![] bcast_S_S100000 main_c
  let main_v1 : IVec S100000 1 := cmpi .sge main_arg2 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 200000#32
  let main_v3 : IVec S100000 32 := broadcastInDim S100000 ![] bcast_S_S100000 main_c_1
  let main_v4 : IVec S100000 1 := cmpi .slt main_arg2 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  let main_c_3 : IVec S_ 32 := constantI S_ 32 0#32
  let main_v7 : IVec S100000 32 := broadcastInDim S100000 ![] bcast_S_S100000 main_c_3
  let main_v8 : IVec S100000 1 := cmpi .sge main_arg3 main_v7
  let main_c_4 : IVec S_ 1 := constantI S_ 1 1#1
  let main_v9 : IVec S_ 1 := (fun x v => Host.reduce IntOp.andi x v reducesTo_S100000_S_d0 h_S_) main_v8 main_c_4
  let main_v10 : IVec S_ 1 := andi main_v6 main_v9
  let main_c_5 : IVec S_ 32 := constantI S_ 32 200000#32
  let main_v11 : IVec S100000 32 := broadcastInDim S100000 ![] bcast_S_S100000 main_c_5
  let main_v12 : IVec S100000 1 := cmpi .slt main_arg3 main_v11
  let main_c_6 : IVec S_ 1 := constantI S_ 1 1#1
  let main_v13 : IVec S_ 1 := (fun x v => Host.reduce IntOp.andi x v reducesTo_S100000_S_d0 h_S_) main_v12 main_c_6
  let main_v14 : IVec S_ 1 := andi main_v10 main_v13
  let main_c_7 : IVec S_ 32 := constantI S_ 32 0#32
  fn_part1 (F := F) main_arg4 main_arg5 main_v14 main_c_7
-- ==== Kernel.lean ====
abbrev S2x200000x64 : Shape := ⟨3, ![2, 200000, 64]⟩
abbrev S100000 : Shape := ⟨1, ![100000]⟩
abbrev S_ : Shape := ⟨0, ![]⟩
abbrev S128x128 : Shape := ⟨2, ![128, 128]⟩
abbrev S2x200000x128 : Shape := ⟨3, ![2, 200000, 128]⟩
abbrev S6256 : Shape := ⟨1, ![6256]⟩
abbrev S4000 : Shape := ⟨1, ![4000]⟩
abbrev S6528 : Shape := ⟨1, ![6528]⟩
abbrev S512x128 : Shape := ⟨2, ![512, 128]⟩
abbrev S16 : Shape := ⟨1, ![16]⟩
abbrev S1 : Shape := ⟨1, ![1]⟩
abbrev S128 : Shape := ⟨1, ![128]⟩
abbrev S1x200000x128 : Shape := ⟨3, ![1, 200000, 128]⟩
abbrev S200000x128 : Shape := ⟨2, ![200000, 128]⟩

abbrev nBuf : Table → Nat
  | .hbm => 16
  | .local .scVector .vmem => 10
  | _ => 0

abbrev bufTy : (tb : Table) → Fin (nBuf tb) → BufTy
  | .hbm, ⟨0, _⟩ => ⟨S2x200000x64, .f32⟩
  | .hbm, ⟨1, _⟩ => ⟨S2x200000x64, .f32⟩
  | .hbm, ⟨2, _⟩ => ⟨S100000, .i32⟩
  | .hbm, ⟨3, _⟩ => ⟨S100000, .i32⟩
  | .hbm, ⟨4, _⟩ => ⟨S100000, .i32⟩
  | .hbm, ⟨5, _⟩ => ⟨S100000, .i32⟩
  | .hbm, ⟨6, _⟩ => ⟨S_, .f32⟩
  | .hbm, ⟨7, _⟩ => ⟨S128x128, .f32⟩
  | .hbm, ⟨8, _⟩ => ⟨S_, .i32⟩
  | .hbm, ⟨9, _⟩ => ⟨S_, .f32⟩
  | .hbm, ⟨10, _⟩ => ⟨S2x200000x128, .f32⟩
  | .hbm, ⟨11, _⟩ => ⟨S_, .i32⟩
  | .hbm, ⟨12, _⟩ => ⟨S_, .f32⟩
  | .hbm, ⟨13, _⟩ => ⟨S2x200000x128, .f32⟩
  | .hbm, ⟨14, _⟩ => ⟨S2x200000x128, .f32⟩
  | .hbm, ⟨15, _⟩ => ⟨S2x200000x64, .f32⟩
  | .local .scVector .vmem, ⟨0, _⟩ => ⟨S6256, .i32⟩
  | .local .scVector .vmem, ⟨1, _⟩ => ⟨S4000, .i32⟩
  | .local .scVector .vmem, ⟨2, _⟩ => ⟨S4000, .i32⟩
  | .local .scVector .vmem, ⟨3, _⟩ => ⟨S6528, .i32⟩
  | .local .scVector .vmem, ⟨4, _⟩ => ⟨S6528, .i32⟩
  | .local .scVector .vmem, ⟨5, _⟩ => ⟨S6528, .i32⟩
  | .local .scVector .vmem, ⟨6, _⟩ => ⟨S6528, .i32⟩
  | .local .scVector .vmem, ⟨7, _⟩ => ⟨S6528, .i32⟩
  | .local .scVector .vmem, ⟨8, _⟩ => ⟨S512x128, .f32⟩
  | .local .scVector .vmem, ⟨9, _⟩ => ⟨S128x128, .f32⟩
  | _, _ => ⟨S2x200000x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v1_scv : Ref sig .scVector := ⟨.hbm, 10, rfl⟩
abbrev main_v2_scv : Ref sig .scVector := ⟨.hbm, 13, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_arg5_scv : Ref sig .scVector := ⟨.hbm, 5, rfl⟩
abbrev main_v0_scv : Ref sig .scVector := ⟨.hbm, 7, rfl⟩
abbrev main_v3_scv : Ref sig .scVector := ⟨.hbm, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c391_i32 : BitVec 32 := 391#32
  let v7 : BitVec 32 := Scalar.addi c0_i32_1 c391_i32
  let c1_i32_2 : BitVec 32 := 1#32
  ⟨c0_i32_1, v7, c1_i32_2⟩
def k0_off1 (k0_t1 : Fin k0_t1_loop.trips) : Fin 1 → Nat :=
  let c0_i32_1 : BitVec 32 := 0#32
  let c1_i32_2 : BitVec 32 := 1#32
  let arg22 : BitVec 32 := Scf.iv c0_i32_1 c1_i32_2 k0_t1
  let c16_i32_198 : BitVec 32 := 16#32
  let v420 : BitVec 32 := Scalar.muli arg22 c16_i32_198
  let v421 : Index := Scalar.indexCast v420
  ![v421.toNat]
@[reducible] def k0_t2_loop : Scf.Loop 32 :=
  let c0_i32_5 : BitVec 32 := 0#32
  let c25_i32 : BitVec 32 := 25#32
  let v8 : BitVec 32 := Scalar.addi c0_i32_5 c25_i32
  let c1_i32_6 : BitVec 32 := 1#32
  ⟨c0_i32_5, v8, c1_i32_6⟩
def k0_off2 (k0_t2 : Fin k0_t2_loop.trips) : Fin 1 → Nat :=
  let c0_i32_5 : BitVec 32 := 0#32
  let c1_i32_6 : BitVec 32 := 1#32
  let arg22 : BitVec 32 := Scf.iv c0_i32_5 c1_i32_6 k0_t2
  let c4000_i32 : BitVec 32 := 4000#32
  let v420 : BitVec 32 := Scalar.muli arg22 c4000_i32
  ![v420.toNat]
@[reducible] def k0_t3_loop : Scf.Loop 32 :=
  let c0_i32_200 : BitVec 32 := 0#32
  let c250_i32 : BitVec 32 := 250#32
  let v422 : BitVec 32 := Scalar.addi c0_i32_200 c250_i32
  let c1_i32_201 : BitVec 32 := 1#32
  ⟨c0_i32_200, v422, c1_i32_201⟩
def k0_off3 (k0_t3 : Fin k0_t3_loop.trips) : Fin 1 → Nat :=
  let c0_i32_200 : BitVec 32 := 0#32
  let c1_i32_201 : BitVec 32 := 1#32
  let arg23 : BitVec 32 := Scf.iv c0_i32_200 c1_i32_201 k0_t3
  let c16_i32_203 : BitVec 32 := 16#32
  let v423 : BitVec 32 := Scalar.muli arg23 c16_i32_203
  let v424 : Index := Scalar.indexCast v423
  ![v424.toNat]

def k0_chk1 (v439 : IVec S16 32) : Prop :=
  (∀ a x, ((![v439] : Fin 1 → IVec S16 32) a x).toNat < S6256.size a)
theorem k0_idx1_inb : ∀ (v439 : IVec S16 32) (k0_hw1 : k0_chk1 v439), ∀ a x, ((![v439] : Fin 1 → IVec S16 32) a x).toNat < S6256.size a := fun v439 k0_hw1 => k0_hw1
@[reducible] def k0_t4_loop : Scf.Loop 32 :=
  let c0_i32_9 : BitVec 32 := 0#32
  let c25_i32_10 : BitVec 32 := 25#32
  let v9 : BitVec 32 := Scalar.addi c0_i32_9 c25_i32_10
  let c1_i32_11 : BitVec 32 := 1#32
  ⟨c0_i32_9, v9, c1_i32_11⟩
def k0_off4 (k0_t4 : Fin k0_t4_loop.trips) : Fin 1 → Nat :=
  let c0_i32_9 : BitVec 32 := 0#32
  let c1_i32_11 : BitVec 32 := 1#32
  let arg22 : BitVec 32 := Scf.iv c0_i32_9 c1_i32_11 k0_t4
  let c4000_i32 : BitVec 32 := 4000#32
  let v420 : BitVec 32 := Scalar.muli arg22 c4000_i32
  ![v420.toNat]
@[reducible] def k0_t5_loop : Scf.Loop 32 :=
  let c0_i32_200 : BitVec 32 := 0#32
  let c250_i32 : BitVec 32 := 250#32
  let v422 : BitVec 32 := Scalar.addi c0_i32_200 c250_i32
  let c1_i32_201 : BitVec 32 := 1#32
  ⟨c0_i32_200, v422, c1_i32_201⟩
def k0_off5 (k0_t5 : Fin k0_t5_loop.trips) : Fin 1 → Nat :=
  let c0_i32_200 : BitVec 32 := 0#32
  let c1_i32_201 : BitVec 32 := 1#32
  let arg23 : BitVec 32 := Scf.iv c0_i32_200 c1_i32_201 k0_t5
  let c16_i32_203 : BitVec 32 := 16#32
  let v423 : BitVec 32 := Scalar.muli arg23 c16_i32_203
  let v424 : Index := Scalar.indexCast v423
  ![v424.toNat]

def k0_chk2 (v439 : IVec S16 32) : Prop :=
  (∀ a x, ((![v439] : Fin 1 → IVec S16 32) a x).toNat < S6256.size a)
theorem k0_idx2_inb : ∀ (v439 : IVec S16 32) (k0_hw2 : k0_chk2 v439), ∀ a x, ((![v439] : Fin 1 → IVec S16 32) a x).toNat < S6256.size a := fun v439 k0_hw2 => k0_hw2
@[reducible] def k0_t6_loop : Scf.Loop 32 :=
  let c0_i32_16 : BitVec 32 := 0#32
  let c391_i32_17 : BitVec 32 := 391#32
  let v10 : BitVec 32 := Scalar.addi c0_i32_16 c391_i32_17
  let c1_i32_18 : BitVec 32 := 1#32
  ⟨c0_i32_16, v10, c1_i32_18⟩
def k0_off6 (k0_t6 : Fin k0_t6_loop.trips) : Fin 1 → Nat :=
  let c0_i32_16 : BitVec 32 := 0#32
  let c1_i32_18 : BitVec 32 := 1#32
  let arg22 : BitVec 32 := Scf.iv c0_i32_16 c1_i32_18 k0_t6
  let c16_i32_198 : BitVec 32 := 16#32
  let v420 : BitVec 32 := Scalar.muli arg22 c16_i32_198
  let v421 : Index := Scalar.indexCast v420
  ![v421.toNat]

def k0_chk3 (v452 : IVec S16 32) : Prop :=
  (∀ a x, ((![v452] : Fin 1 → IVec S16 32) a x).toNat < S6528.size a) ∧
  (∀ a x, ((![v452] : Fin 1 → IVec S16 32) a x).toNat < S6528.size a)
theorem k0_idx3_inb : ∀ (v452 : IVec S16 32) (k0_hw3 : k0_chk3 v452), ∀ a x, ((![v452] : Fin 1 → IVec S16 32) a x).toNat < S6528.size a := fun v452 k0_hw3 => k0_hw3.1
theorem k0_idx4_inb : ∀ (v452 : IVec S16 32) (k0_hw3 : k0_chk3 v452), ∀ a x, ((![v452] : Fin 1 → IVec S16 32) a x).toNat < S6528.size a := fun v452 k0_hw3 => k0_hw3.2

def k0_chk4 (v456 : IVec S16 32) : Prop :=
  (∀ a x, ((![v456] : Fin 1 → IVec S16 32) a x).toNat < S6528.size a) ∧
  (∀ a x, ((![v456] : Fin 1 → IVec S16 32) a x).toNat < S6528.size a)
theorem k0_idx5_inb : ∀ (v456 : IVec S16 32) (k0_hw4 : k0_chk4 v456), ∀ a x, ((![v456] : Fin 1 → IVec S16 32) a x).toNat < S6528.size a := fun v456 k0_hw4 => k0_hw4.1
theorem k0_idx6_inb : ∀ (v456 : IVec S16 32) (k0_hw4 : k0_chk4 v456), ∀ a x, ((![v456] : Fin 1 → IVec S16 32) a x).toNat < S6528.size a := fun v456 k0_hw4 => k0_hw4.2

def k0_chk5 (v460 : IVec S16 32) : Prop :=
  (∀ a x, ((![v460] : Fin 1 → IVec S16 32) a x).toNat < S6528.size a)
theorem k0_idx7_inb : ∀ (v460 : IVec S16 32) (k0_hw5 : k0_chk5 v460), ∀ a x, ((![v460] : Fin 1 → IVec S16 32) a x).toNat < S6528.size a := fun v460 k0_hw5 => k0_hw5
def k0_off7 (v11_0 : BitVec 32) (c0_i32_23 : BitVec 32) : Fin 1 → Nat :=
  let v24 : BitVec 32 := Scalar.addi v11_0 c0_i32_23
  let v25 : Index := Scalar.indexCast v24
  ![v25.toNat]

def k0_off8 (v11_1 : BitVec 32) (c0_i32_36 : BitVec 32) : Fin 1 → Nat :=
  let v84 : BitVec 32 := Scalar.addi v11_1 c0_i32_36
  let v85 : Index := Scalar.indexCast v84
  ![v85.toNat]

def k0_off9 (v11_2 : BitVec 32) (c0_i32_54 : BitVec 32) : Fin 1 → Nat :=
  let v138 : BitVec 32 := Scalar.addi v11_2 c0_i32_54
  let v139 : Index := Scalar.indexCast v138
  ![v139.toNat]

@[reducible] def k0_t7_loop (v11_0 : BitVec 32) : Scf.Loop 32 :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_81 : BitVec 32 := 1#32
  ⟨c0_i32_79, v204, c1_i32_81⟩
def k0_off10 (v11_0 : BitVec 32) (k0_t7 : Fin (k0_t7_loop v11_0).trips) : Fin 1 → Nat :=
  let c0_i32_79 : BitVec 32 := 0#32
  let c1_i32_81 : BitVec 32 := 1#32
  let arg22 : BitVec 32 := Scf.iv c0_i32_79 c1_i32_81 k0_t7
  let c4_i32_198 : BitVec 32 := 4#32
  let v420 : BitVec 32 := Scalar.muli arg22 c4_i32_198
  let c0_i32_199 : BitVec 32 := 0#32
  let v421 : BitVec 32 := Scalar.addi v420 c0_i32_199
  let c128_i32_245 : BitVec 32 := 128#32
  let v500 : BitVec 32 := Scalar.muli v421 c128_i32_245
  ![v500.toNat]
def k0_cond1 (v11_0 : BitVec 32) (k0_t7 : Fin (k0_t7_loop v11_0).trips) : BitVec 1 :=
  let c0_i32_79 : BitVec 32 := 0#32
  let c1_i32_81 : BitVec 32 := 1#32
  let arg22 : BitVec 32 := Scf.iv c0_i32_79 c1_i32_81 k0_t7
  let c4_i32_198 : BitVec 32 := 4#32
  let v420 : BitVec 32 := Scalar.muli arg22 c4_i32_198
  let c0_i32_199 : BitVec 32 := 0#32
  let v421 : BitVec 32 := Scalar.addi v420 c0_i32_199
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let v422 : BitVec 1 := Scalar.cmpi .slt v421 v180
  let v423 : BitVec 32 := Scalar.extui v422
  let c0_i32_200 : BitVec 32 := 0#32
  let v424 : BitVec 1 := Scalar.cmpi .ne v423 c0_i32_200
  v424

def k0_off11 (v11_0 : BitVec 32) (k0_t7 : Fin (k0_t7_loop v11_0).trips) : Fin 1 → Nat :=
  let c0_i32_79 : BitVec 32 := 0#32
  let c1_i32_81 : BitVec 32 := 1#32
  let arg22 : BitVec 32 := Scf.iv c0_i32_79 c1_i32_81 k0_t7
  let c4_i32_201 : BitVec 32 := 4#32
  let v425 : BitVec 32 := Scalar.muli arg22 c4_i32_201
  let c1_i32_202 : BitVec 32 := 1#32
  let v426 : BitVec 32 := Scalar.addi v425 c1_i32_202
  let c128_i32_245 : BitVec 32 := 128#32
  let v500 : BitVec 32 := Scalar.muli v426 c128_i32_245
  ![v500.toNat]
def k0_cond2 (v11_0 : BitVec 32) (k0_t7 : Fin (k0_t7_loop v11_0).trips) : BitVec 1 :=
  let c0_i32_79 : BitVec 32 := 0#32
  let c1_i32_81 : BitVec 32 := 1#32
  let arg22 : BitVec 32 := Scf.iv c0_i32_79 c1_i32_81 k0_t7
  let c4_i32_201 : BitVec 32 := 4#32
  let v425 : BitVec 32 := Scalar.muli arg22 c4_i32_201
  let c1_i32_202 : BitVec 32 := 1#32
  let v426 : BitVec 32 := Scalar.addi v425 c1_i32_202
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let v427 : BitVec 1 := Scalar.cmpi .slt v426 v180
  let v428 : BitVec 32 := Scalar.extui v427
  let c0_i32_203 : BitVec 32 := 0#32
  let v429 : BitVec 1 := Scalar.cmpi .ne v428 c0_i32_203
  v429

def k0_off12 (v11_0 : BitVec 32) (k0_t7 : Fin (k0_t7_loop v11_0).trips) : Fin 1 → Nat :=
  let c0_i32_79 : BitVec 32 := 0#32
  let c1_i32_81 : BitVec 32 := 1#32
  let arg22 : BitVec 32 := Scf.iv c0_i32_79 c1_i32_81 k0_t7
  let c4_i32_204 : BitVec 32 := 4#32
  let v430 : BitVec 32 := Scalar.muli arg22 c4_i32_204
  let c2_i32_205 : BitVec 32 := 2#32
  let v431 : BitVec 32 := Scalar.addi v430 c2_i32_205
  let c128_i32_245 : BitVec 32 := 128#32
  let v500 : BitVec 32 := Scalar.muli v431 c128_i32_245
  ![v500.toNat]
def k0_cond3 (v11_0 : BitVec 32) (k0_t7 : Fin (k0_t7_loop v11_0).trips) : BitVec 1 :=
  let c0_i32_79 : BitVec 32 := 0#32
  let c1_i32_81 : BitVec 32 := 1#32
  let arg22 : BitVec 32 := Scf.iv c0_i32_79 c1_i32_81 k0_t7
  let c4_i32_204 : BitVec 32 := 4#32
  let v430 : BitVec 32 := Scalar.muli arg22 c4_i32_204
  let c2_i32_205 : BitVec 32 := 2#32
  let v431 : BitVec 32 := Scalar.addi v430 c2_i32_205
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let v432 : BitVec 1 := Scalar.cmpi .slt v431 v180
  let v433 : BitVec 32 := Scalar.extui v432
  let c0_i32_206 : BitVec 32 := 0#32
  let v434 : BitVec 1 := Scalar.cmpi .ne v433 c0_i32_206
  v434

def k0_off13 (v11_0 : BitVec 32) (k0_t7 : Fin (k0_t7_loop v11_0).trips) : Fin 1 → Nat :=
  let c0_i32_79 : BitVec 32 := 0#32
  let c1_i32_81 : BitVec 32 := 1#32
  let arg22 : BitVec 32 := Scf.iv c0_i32_79 c1_i32_81 k0_t7
  let c4_i32_207 : BitVec 32 := 4#32
  let v435 : BitVec 32 := Scalar.muli arg22 c4_i32_207
  let c3_i32 : BitVec 32 := 3#32
  let v436 : BitVec 32 := Scalar.addi v435 c3_i32
  let c128_i32_245 : BitVec 32 := 128#32
  let v500 : BitVec 32 := Scalar.muli v436 c128_i32_245
  ![v500.toNat]
def k0_cond4 (v11_0 : BitVec 32) (k0_t7 : Fin (k0_t7_loop v11_0).trips) : BitVec 1 :=
  let c0_i32_79 : BitVec 32 := 0#32
  let c1_i32_81 : BitVec 32 := 1#32
  let arg22 : BitVec 32 := Scf.iv c0_i32_79 c1_i32_81 k0_t7
  let c4_i32_207 : BitVec 32 := 4#32
  let v435 : BitVec 32 := Scalar.muli arg22 c4_i32_207
  let c3_i32 : BitVec 32 := 3#32
  let v436 : BitVec 32 := Scalar.addi v435 c3_i32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let v437 : BitVec 1 := Scalar.cmpi .slt v436 v180
  let v438 : BitVec 32 := Scalar.extui v437
  let c0_i32_208 : BitVec 32 := 0#32
  let v439 : BitVec 1 := Scalar.cmpi .ne v438 c0_i32_208
  v439

def k0_off14 (v11_0 : BitVec 32) (k0_t7 : Fin (k0_t7_loop v11_0).trips) : Fin 1 → Nat :=
  let c0_i32_79 : BitVec 32 := 0#32
  let c1_i32_81 : BitVec 32 := 1#32
  let arg22 : BitVec 32 := Scf.iv c0_i32_79 c1_i32_81 k0_t7
  let c4_i32_209 : BitVec 32 := 4#32
  let v440 : BitVec 32 := Scalar.muli arg22 c4_i32_209
  let c0_i32_210 : BitVec 32 := 0#32
  let v441 : BitVec 32 := Scalar.addi v440 c0_i32_210
  let c128_i32_245 : BitVec 32 := 128#32
  let v500 : BitVec 32 := Scalar.muli v441 c128_i32_245
  ![v500.toNat]
def k0_cond5 (v11_0 : BitVec 32) (k0_t7 : Fin (k0_t7_loop v11_0).trips) : BitVec 1 :=
  let c0_i32_79 : BitVec 32 := 0#32
  let c1_i32_81 : BitVec 32 := 1#32
  let arg22 : BitVec 32 := Scf.iv c0_i32_79 c1_i32_81 k0_t7
  let c4_i32_209 : BitVec 32 := 4#32
  let v440 : BitVec 32 := Scalar.muli arg22 c4_i32_209
  let c0_i32_210 : BitVec 32 := 0#32
  let v441 : BitVec 32 := Scalar.addi v440 c0_i32_210
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let v442 : BitVec 1 := Scalar.cmpi .slt v441 v180
  let v443 : BitVec 32 := Scalar.extui v442
  let c0_i32_211 : BitVec 32 := 0#32
  let v444 : BitVec 1 := Scalar.cmpi .ne v443 c0_i32_211
  v444

def k0_off15 (v11_0 : BitVec 32) (k0_t7 : Fin (k0_t7_loop v11_0).trips) : Fin 1 → Nat :=
  let c0_i32_79 : BitVec 32 := 0#32
  let c1_i32_81 : BitVec 32 := 1#32
  let arg22 : BitVec 32 := Scf.iv c0_i32_79 c1_i32_81 k0_t7
  let c4_i32_212 : BitVec 32 := 4#32
  let v445 : BitVec 32 := Scalar.muli arg22 c4_i32_212
  let c1_i32_213 : BitVec 32 := 1#32
  let v446 : BitVec 32 := Scalar.addi v445 c1_i32_213
  let c128_i32_245 : BitVec 32 := 128#32
  let v500 : BitVec 32 := Scalar.muli v446 c128_i32_245
  ![v500.toNat]
def k0_cond6 (v11_0 : BitVec 32) (k0_t7 : Fin (k0_t7_loop v11_0).trips) : BitVec 1 :=
  let c0_i32_79 : BitVec 32 := 0#32
  let c1_i32_81 : BitVec 32 := 1#32
  let arg22 : BitVec 32 := Scf.iv c0_i32_79 c1_i32_81 k0_t7
  let c4_i32_212 : BitVec 32 := 4#32
  let v445 : BitVec 32 := Scalar.muli arg22 c4_i32_212
  let c1_i32_213 : BitVec 32 := 1#32
  let v446 : BitVec 32 := Scalar.addi v445 c1_i32_213
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let v447 : BitVec 1 := Scalar.cmpi .slt v446 v180
  let v448 : BitVec 32 := Scalar.extui v447
  let c0_i32_214 : BitVec 32 := 0#32
  let v449 : BitVec 1 := Scalar.cmpi .ne v448 c0_i32_214
  v449

def k0_off16 (v11_0 : BitVec 32) (k0_t7 : Fin (k0_t7_loop v11_0).trips) : Fin 1 → Nat :=
  let c0_i32_79 : BitVec 32 := 0#32
  let c1_i32_81 : BitVec 32 := 1#32
  let arg22 : BitVec 32 := Scf.iv c0_i32_79 c1_i32_81 k0_t7
  let c4_i32_215 : BitVec 32 := 4#32
  let v450 : BitVec 32 := Scalar.muli arg22 c4_i32_215
  let c2_i32_216 : BitVec 32 := 2#32
  let v451 : BitVec 32 := Scalar.addi v450 c2_i32_216
  let c128_i32_245 : BitVec 32 := 128#32
  let v500 : BitVec 32 := Scalar.muli v451 c128_i32_245
  ![v500.toNat]
def k0_cond7 (v11_0 : BitVec 32) (k0_t7 : Fin (k0_t7_loop v11_0).trips) : BitVec 1 :=
  let c0_i32_79 : BitVec 32 := 0#32
  let c1_i32_81 : BitVec 32 := 1#32
  let arg22 : BitVec 32 := Scf.iv c0_i32_79 c1_i32_81 k0_t7
  let c4_i32_215 : BitVec 32 := 4#32
  let v450 : BitVec 32 := Scalar.muli arg22 c4_i32_215
  let c2_i32_216 : BitVec 32 := 2#32
  let v451 : BitVec 32 := Scalar.addi v450 c2_i32_216
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let v452 : BitVec 1 := Scalar.cmpi .slt v451 v180
  let v453 : BitVec 32 := Scalar.extui v452
  let c0_i32_217 : BitVec 32 := 0#32
  let v454 : BitVec 1 := Scalar.cmpi .ne v453 c0_i32_217
  v454

def k0_off17 (v11_0 : BitVec 32) (k0_t7 : Fin (k0_t7_loop v11_0).trips) : Fin 1 → Nat :=
  let c0_i32_79 : BitVec 32 := 0#32
  let c1_i32_81 : BitVec 32 := 1#32
  let arg22 : BitVec 32 := Scf.iv c0_i32_79 c1_i32_81 k0_t7
  let c4_i32_218 : BitVec 32 := 4#32
  let v455 : BitVec 32 := Scalar.muli arg22 c4_i32_218
  let c3_i32_219 : BitVec 32 := 3#32
  let v456 : BitVec 32 := Scalar.addi v455 c3_i32_219
  let c128_i32_245 : BitVec 32 := 128#32
  let v500 : BitVec 32 := Scalar.muli v456 c128_i32_245
  ![v500.toNat]
def k0_cond8 (v11_0 : BitVec 32) (k0_t7 : Fin (k0_t7_loop v11_0).trips) : BitVec 1 :=
  let c0_i32_79 : BitVec 32 := 0#32
  let c1_i32_81 : BitVec 32 := 1#32
  let arg22 : BitVec 32 := Scf.iv c0_i32_79 c1_i32_81 k0_t7
  let c4_i32_218 : BitVec 32 := 4#32
  let v455 : BitVec 32 := Scalar.muli arg22 c4_i32_218
  let c3_i32_219 : BitVec 32 := 3#32
  let v456 : BitVec 32 := Scalar.addi v455 c3_i32_219
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let v457 : BitVec 1 := Scalar.cmpi .slt v456 v180
  let v458 : BitVec 32 := Scalar.extui v457
  let c0_i32_220 : BitVec 32 := 0#32
  let v459 : BitVec 1 := Scalar.cmpi .ne v458 c0_i32_220
  v459

def k0_off18 (v11_0 : BitVec 32) (k0_t7 : Fin (k0_t7_loop v11_0).trips) : Fin 1 → Nat :=
  let c0_i32_79 : BitVec 32 := 0#32
  let c1_i32_81 : BitVec 32 := 1#32
  let arg22 : BitVec 32 := Scf.iv c0_i32_79 c1_i32_81 k0_t7
  let c4_i32_221 : BitVec 32 := 4#32
  let v460 : BitVec 32 := Scalar.muli arg22 c4_i32_221
  let c0_i32_222 : BitVec 32 := 0#32
  let v461 : BitVec 32 := Scalar.addi v460 c0_i32_222
  let c128_i32_245 : BitVec 32 := 128#32
  let v500 : BitVec 32 := Scalar.muli v461 c128_i32_245
  ![v500.toNat]
def k0_cond9 (v11_0 : BitVec 32) (k0_t7 : Fin (k0_t7_loop v11_0).trips) : BitVec 1 :=
  let c0_i32_79 : BitVec 32 := 0#32
  let c1_i32_81 : BitVec 32 := 1#32
  let arg22 : BitVec 32 := Scf.iv c0_i32_79 c1_i32_81 k0_t7
  let c4_i32_221 : BitVec 32 := 4#32
  let v460 : BitVec 32 := Scalar.muli arg22 c4_i32_221
  let c0_i32_222 : BitVec 32 := 0#32
  let v461 : BitVec 32 := Scalar.addi v460 c0_i32_222
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let v462 : BitVec 1 := Scalar.cmpi .slt v461 v180
  let v463 : BitVec 32 := Scalar.extui v462
  let c0_i32_223 : BitVec 32 := 0#32
  let v464 : BitVec 1 := Scalar.cmpi .ne v463 c0_i32_223
  v464

def k0_off19 (v11_0 : BitVec 32) (k0_t7 : Fin (k0_t7_loop v11_0).trips) : Fin 1 → Nat :=
  let c0_i32_79 : BitVec 32 := 0#32
  let c1_i32_81 : BitVec 32 := 1#32
  let arg22 : BitVec 32 := Scf.iv c0_i32_79 c1_i32_81 k0_t7
  let c4_i32_224 : BitVec 32 := 4#32
  let v465 : BitVec 32 := Scalar.muli arg22 c4_i32_224
  let c1_i32_225 : BitVec 32 := 1#32
  let v466 : BitVec 32 := Scalar.addi v465 c1_i32_225
  let c128_i32_245 : BitVec 32 := 128#32
  let v500 : BitVec 32 := Scalar.muli v466 c128_i32_245
  ![v500.toNat]
def k0_cond10 (v11_0 : BitVec 32) (k0_t7 : Fin (k0_t7_loop v11_0).trips) : BitVec 1 :=
  let c0_i32_79 : BitVec 32 := 0#32
  let c1_i32_81 : BitVec 32 := 1#32
  let arg22 : BitVec 32 := Scf.iv c0_i32_79 c1_i32_81 k0_t7
  let c4_i32_224 : BitVec 32 := 4#32
  let v465 : BitVec 32 := Scalar.muli arg22 c4_i32_224
  let c1_i32_225 : BitVec 32 := 1#32
  let v466 : BitVec 32 := Scalar.addi v465 c1_i32_225
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let v467 : BitVec 1 := Scalar.cmpi .slt v466 v180
  let v468 : BitVec 32 := Scalar.extui v467
  let c0_i32_226 : BitVec 32 := 0#32
  let v469 : BitVec 1 := Scalar.cmpi .ne v468 c0_i32_226
  v469

def k0_off20 (v11_0 : BitVec 32) (k0_t7 : Fin (k0_t7_loop v11_0).trips) : Fin 1 → Nat :=
  let c0_i32_79 : BitVec 32 := 0#32
  let c1_i32_81 : BitVec 32 := 1#32
  let arg22 : BitVec 32 := Scf.iv c0_i32_79 c1_i32_81 k0_t7
  let c4_i32_227 : BitVec 32 := 4#32
  let v470 : BitVec 32 := Scalar.muli arg22 c4_i32_227
  let c2_i32_228 : BitVec 32 := 2#32
  let v471 : BitVec 32 := Scalar.addi v470 c2_i32_228
  let c128_i32_245 : BitVec 32 := 128#32
  let v500 : BitVec 32 := Scalar.muli v471 c128_i32_245
  ![v500.toNat]
def k0_cond11 (v11_0 : BitVec 32) (k0_t7 : Fin (k0_t7_loop v11_0).trips) : BitVec 1 :=
  let c0_i32_79 : BitVec 32 := 0#32
  let c1_i32_81 : BitVec 32 := 1#32
  let arg22 : BitVec 32 := Scf.iv c0_i32_79 c1_i32_81 k0_t7
  let c4_i32_227 : BitVec 32 := 4#32
  let v470 : BitVec 32 := Scalar.muli arg22 c4_i32_227
  let c2_i32_228 : BitVec 32 := 2#32
  let v471 : BitVec 32 := Scalar.addi v470 c2_i32_228
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let v472 : BitVec 1 := Scalar.cmpi .slt v471 v180
  let v473 : BitVec 32 := Scalar.extui v472
  let c0_i32_229 : BitVec 32 := 0#32
  let v474 : BitVec 1 := Scalar.cmpi .ne v473 c0_i32_229
  v474

def k0_off21 (v11_0 : BitVec 32) (k0_t7 : Fin (k0_t7_loop v11_0).trips) : Fin 1 → Nat :=
  let c0_i32_79 : BitVec 32 := 0#32
  let c1_i32_81 : BitVec 32 := 1#32
  let arg22 : BitVec 32 := Scf.iv c0_i32_79 c1_i32_81 k0_t7
  let c4_i32_230 : BitVec 32 := 4#32
  let v475 : BitVec 32 := Scalar.muli arg22 c4_i32_230
  let c3_i32_231 : BitVec 32 := 3#32
  let v476 : BitVec 32 := Scalar.addi v475 c3_i32_231
  let c128_i32_245 : BitVec 32 := 128#32
  let v500 : BitVec 32 := Scalar.muli v476 c128_i32_245
  ![v500.toNat]
def k0_cond12 (v11_0 : BitVec 32) (k0_t7 : Fin (k0_t7_loop v11_0).trips) : BitVec 1 :=
  let c0_i32_79 : BitVec 32 := 0#32
  let c1_i32_81 : BitVec 32 := 1#32
  let arg22 : BitVec 32 := Scf.iv c0_i32_79 c1_i32_81 k0_t7
  let c4_i32_230 : BitVec 32 := 4#32
  let v475 : BitVec 32 := Scalar.muli arg22 c4_i32_230
  let c3_i32_231 : BitVec 32 := 3#32
  let v476 : BitVec 32 := Scalar.addi v475 c3_i32_231
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let v477 : BitVec 1 := Scalar.cmpi .slt v476 v180
  let v478 : BitVec 32 := Scalar.extui v477
  let c0_i32_232 : BitVec 32 := 0#32
  let v479 : BitVec 1 := Scalar.cmpi .ne v478 c0_i32_232
  v479

def k0_off22 (v11_0 : BitVec 32) (k0_t7 : Fin (k0_t7_loop v11_0).trips) : Fin 1 → Nat :=
  let c0_i32_79 : BitVec 32 := 0#32
  let c1_i32_81 : BitVec 32 := 1#32
  let arg22 : BitVec 32 := Scf.iv c0_i32_79 c1_i32_81 k0_t7
  let c4_i32_233 : BitVec 32 := 4#32
  let v480 : BitVec 32 := Scalar.muli arg22 c4_i32_233
  let c0_i32_234 : BitVec 32 := 0#32
  let v481 : BitVec 32 := Scalar.addi v480 c0_i32_234
  let c128_i32_245 : BitVec 32 := 128#32
  let v500 : BitVec 32 := Scalar.muli v481 c128_i32_245
  ![v500.toNat]
def k0_cond13 (v11_0 : BitVec 32) (k0_t7 : Fin (k0_t7_loop v11_0).trips) : BitVec 1 :=
  let c0_i32_79 : BitVec 32 := 0#32
  let c1_i32_81 : BitVec 32 := 1#32
  let arg22 : BitVec 32 := Scf.iv c0_i32_79 c1_i32_81 k0_t7
  let c4_i32_233 : BitVec 32 := 4#32
  let v480 : BitVec 32 := Scalar.muli arg22 c4_i32_233
  let c0_i32_234 : BitVec 32 := 0#32
  let v481 : BitVec 32 := Scalar.addi v480 c0_i32_234
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let v482 : BitVec 1 := Scalar.cmpi .slt v481 v180
  let v483 : BitVec 32 := Scalar.extui v482
  let c0_i32_235 : BitVec 32 := 0#32
  let v484 : BitVec 1 := Scalar.cmpi .ne v483 c0_i32_235
  v484

def k0_off23 (v11_0 : BitVec 32) (k0_t7 : Fin (k0_t7_loop v11_0).trips) : Fin 1 → Nat :=
  let c0_i32_79 : BitVec 32 := 0#32
  let c1_i32_81 : BitVec 32 := 1#32
  let arg22 : BitVec 32 := Scf.iv c0_i32_79 c1_i32_81 k0_t7
  let c4_i32_236 : BitVec 32 := 4#32
  let v485 : BitVec 32 := Scalar.muli arg22 c4_i32_236
  let c1_i32_237 : BitVec 32 := 1#32
  let v486 : BitVec 32 := Scalar.addi v485 c1_i32_237
  let c128_i32_245 : BitVec 32 := 128#32
  let v500 : BitVec 32 := Scalar.muli v486 c128_i32_245
  ![v500.toNat]
def k0_cond14 (v11_0 : BitVec 32) (k0_t7 : Fin (k0_t7_loop v11_0).trips) : BitVec 1 :=
  let c0_i32_79 : BitVec 32 := 0#32
  let c1_i32_81 : BitVec 32 := 1#32
  let arg22 : BitVec 32 := Scf.iv c0_i32_79 c1_i32_81 k0_t7
  let c4_i32_236 : BitVec 32 := 4#32
  let v485 : BitVec 32 := Scalar.muli arg22 c4_i32_236
  let c1_i32_237 : BitVec 32 := 1#32
  let v486 : BitVec 32 := Scalar.addi v485 c1_i32_237
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let v487 : BitVec 1 := Scalar.cmpi .slt v486 v180
  let v488 : BitVec 32 := Scalar.extui v487
  let c0_i32_238 : BitVec 32 := 0#32
  let v489 : BitVec 1 := Scalar.cmpi .ne v488 c0_i32_238
  v489

def k0_off24 (v11_0 : BitVec 32) (k0_t7 : Fin (k0_t7_loop v11_0).trips) : Fin 1 → Nat :=
  let c0_i32_79 : BitVec 32 := 0#32
  let c1_i32_81 : BitVec 32 := 1#32
  let arg22 : BitVec 32 := Scf.iv c0_i32_79 c1_i32_81 k0_t7
  let c4_i32_239 : BitVec 32 := 4#32
  let v490 : BitVec 32 := Scalar.muli arg22 c4_i32_239
  let c2_i32_240 : BitVec 32 := 2#32
  let v491 : BitVec 32 := Scalar.addi v490 c2_i32_240
  let c128_i32_245 : BitVec 32 := 128#32
  let v500 : BitVec 32 := Scalar.muli v491 c128_i32_245
  ![v500.toNat]
def k0_cond15 (v11_0 : BitVec 32) (k0_t7 : Fin (k0_t7_loop v11_0).trips) : BitVec 1 :=
  let c0_i32_79 : BitVec 32 := 0#32
  let c1_i32_81 : BitVec 32 := 1#32
  let arg22 : BitVec 32 := Scf.iv c0_i32_79 c1_i32_81 k0_t7
  let c4_i32_239 : BitVec 32 := 4#32
  let v490 : BitVec 32 := Scalar.muli arg22 c4_i32_239
  let c2_i32_240 : BitVec 32 := 2#32
  let v491 : BitVec 32 := Scalar.addi v490 c2_i32_240
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let v492 : BitVec 1 := Scalar.cmpi .slt v491 v180
  let v493 : BitVec 32 := Scalar.extui v492
  let c0_i32_241 : BitVec 32 := 0#32
  let v494 : BitVec 1 := Scalar.cmpi .ne v493 c0_i32_241
  v494

def k0_off25 (v11_0 : BitVec 32) (k0_t7 : Fin (k0_t7_loop v11_0).trips) : Fin 1 → Nat :=
  let c0_i32_79 : BitVec 32 := 0#32
  let c1_i32_81 : BitVec 32 := 1#32
  let arg22 : BitVec 32 := Scf.iv c0_i32_79 c1_i32_81 k0_t7
  let c4_i32_242 : BitVec 32 := 4#32
  let v495 : BitVec 32 := Scalar.muli arg22 c4_i32_242
  let c3_i32_243 : BitVec 32 := 3#32
  let v496 : BitVec 32 := Scalar.addi v495 c3_i32_243
  let c128_i32_245 : BitVec 32 := 128#32
  let v500 : BitVec 32 := Scalar.muli v496 c128_i32_245
  ![v500.toNat]
def k0_cond16 (v11_0 : BitVec 32) (k0_t7 : Fin (k0_t7_loop v11_0).trips) : BitVec 1 :=
  let c0_i32_79 : BitVec 32 := 0#32
  let c1_i32_81 : BitVec 32 := 1#32
  let arg22 : BitVec 32 := Scf.iv c0_i32_79 c1_i32_81 k0_t7
  let c4_i32_242 : BitVec 32 := 4#32
  let v495 : BitVec 32 := Scalar.muli arg22 c4_i32_242
  let c3_i32_243 : BitVec 32 := 3#32
  let v496 : BitVec 32 := Scalar.addi v495 c3_i32_243
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let v497 : BitVec 1 := Scalar.cmpi .slt v496 v180
  let v498 : BitVec 32 := Scalar.extui v497
  let c0_i32_244 : BitVec 32 := 0#32
  let v499 : BitVec 1 := Scalar.cmpi .ne v498 c0_i32_244
  v499

@[reducible] def k0_t8_loop (v11_0 : BitVec 32) : Scf.Loop 32 :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let v201 : BitVec 32 := Scalar.addi c0_i32_79 v200
  let c1_i32_82 : BitVec 32 := 1#32
  ⟨v204, v201, c1_i32_82⟩
def k0_off26 (v11_0 : BitVec 32) (k0_t8 : Fin (k0_t8_loop v11_0).trips) : Fin 1 → Nat :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_198 : BitVec 32 := 4#32
  let v420 : BitVec 32 := Scalar.muli arg22 c4_i32_198
  let c0_i32_199 : BitVec 32 := 0#32
  let v421 : BitVec 32 := Scalar.addi v420 c0_i32_199
  let c128_i32_245 : BitVec 32 := 128#32
  let v500 : BitVec 32 := Scalar.muli v421 c128_i32_245
  ![v500.toNat]
def k0_cond17 (v11_0 : BitVec 32) (k0_t8 : Fin (k0_t8_loop v11_0).trips) : BitVec 1 :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_198 : BitVec 32 := 4#32
  let v420 : BitVec 32 := Scalar.muli arg22 c4_i32_198
  let c0_i32_199 : BitVec 32 := 0#32
  let v421 : BitVec 32 := Scalar.addi v420 c0_i32_199
  let v422 : BitVec 1 := Scalar.cmpi .slt v421 v180
  let v423 : BitVec 32 := Scalar.extui v422
  let c0_i32_200 : BitVec 32 := 0#32
  let v424 : BitVec 1 := Scalar.cmpi .ne v423 c0_i32_200
  v424

def k0_off27 (v11_0 : BitVec 32) (k0_t8 : Fin (k0_t8_loop v11_0).trips) : Fin 1 → Nat :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_201 : BitVec 32 := 4#32
  let v425 : BitVec 32 := Scalar.muli arg22 c4_i32_201
  let c1_i32_202 : BitVec 32 := 1#32
  let v426 : BitVec 32 := Scalar.addi v425 c1_i32_202
  let c128_i32_245 : BitVec 32 := 128#32
  let v500 : BitVec 32 := Scalar.muli v426 c128_i32_245
  ![v500.toNat]
def k0_cond18 (v11_0 : BitVec 32) (k0_t8 : Fin (k0_t8_loop v11_0).trips) : BitVec 1 :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_201 : BitVec 32 := 4#32
  let v425 : BitVec 32 := Scalar.muli arg22 c4_i32_201
  let c1_i32_202 : BitVec 32 := 1#32
  let v426 : BitVec 32 := Scalar.addi v425 c1_i32_202
  let v427 : BitVec 1 := Scalar.cmpi .slt v426 v180
  let v428 : BitVec 32 := Scalar.extui v427
  let c0_i32_203 : BitVec 32 := 0#32
  let v429 : BitVec 1 := Scalar.cmpi .ne v428 c0_i32_203
  v429

def k0_off28 (v11_0 : BitVec 32) (k0_t8 : Fin (k0_t8_loop v11_0).trips) : Fin 1 → Nat :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_204 : BitVec 32 := 4#32
  let v430 : BitVec 32 := Scalar.muli arg22 c4_i32_204
  let c2_i32_205 : BitVec 32 := 2#32
  let v431 : BitVec 32 := Scalar.addi v430 c2_i32_205
  let c128_i32_245 : BitVec 32 := 128#32
  let v500 : BitVec 32 := Scalar.muli v431 c128_i32_245
  ![v500.toNat]
def k0_cond19 (v11_0 : BitVec 32) (k0_t8 : Fin (k0_t8_loop v11_0).trips) : BitVec 1 :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_204 : BitVec 32 := 4#32
  let v430 : BitVec 32 := Scalar.muli arg22 c4_i32_204
  let c2_i32_205 : BitVec 32 := 2#32
  let v431 : BitVec 32 := Scalar.addi v430 c2_i32_205
  let v432 : BitVec 1 := Scalar.cmpi .slt v431 v180
  let v433 : BitVec 32 := Scalar.extui v432
  let c0_i32_206 : BitVec 32 := 0#32
  let v434 : BitVec 1 := Scalar.cmpi .ne v433 c0_i32_206
  v434

def k0_off29 (v11_0 : BitVec 32) (k0_t8 : Fin (k0_t8_loop v11_0).trips) : Fin 1 → Nat :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_207 : BitVec 32 := 4#32
  let v435 : BitVec 32 := Scalar.muli arg22 c4_i32_207
  let c3_i32 : BitVec 32 := 3#32
  let v436 : BitVec 32 := Scalar.addi v435 c3_i32
  let c128_i32_245 : BitVec 32 := 128#32
  let v500 : BitVec 32 := Scalar.muli v436 c128_i32_245
  ![v500.toNat]
def k0_cond20 (v11_0 : BitVec 32) (k0_t8 : Fin (k0_t8_loop v11_0).trips) : BitVec 1 :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_207 : BitVec 32 := 4#32
  let v435 : BitVec 32 := Scalar.muli arg22 c4_i32_207
  let c3_i32 : BitVec 32 := 3#32
  let v436 : BitVec 32 := Scalar.addi v435 c3_i32
  let v437 : BitVec 1 := Scalar.cmpi .slt v436 v180
  let v438 : BitVec 32 := Scalar.extui v437
  let c0_i32_208 : BitVec 32 := 0#32
  let v439 : BitVec 1 := Scalar.cmpi .ne v438 c0_i32_208
  v439

def k0_off30 (v11_0 : BitVec 32) (k0_t8 : Fin (k0_t8_loop v11_0).trips) : Fin 1 → Nat :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_209 : BitVec 32 := 4#32
  let v440 : BitVec 32 := Scalar.muli arg22 c4_i32_209
  let c0_i32_210 : BitVec 32 := 0#32
  let v441 : BitVec 32 := Scalar.addi v440 c0_i32_210
  let c128_i32_245 : BitVec 32 := 128#32
  let v500 : BitVec 32 := Scalar.muli v441 c128_i32_245
  ![v500.toNat]
def k0_cond21 (v11_0 : BitVec 32) (k0_t8 : Fin (k0_t8_loop v11_0).trips) : BitVec 1 :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_209 : BitVec 32 := 4#32
  let v440 : BitVec 32 := Scalar.muli arg22 c4_i32_209
  let c0_i32_210 : BitVec 32 := 0#32
  let v441 : BitVec 32 := Scalar.addi v440 c0_i32_210
  let v442 : BitVec 1 := Scalar.cmpi .slt v441 v180
  let v443 : BitVec 32 := Scalar.extui v442
  let c0_i32_211 : BitVec 32 := 0#32
  let v444 : BitVec 1 := Scalar.cmpi .ne v443 c0_i32_211
  v444

def k0_off31 (v11_0 : BitVec 32) (k0_t8 : Fin (k0_t8_loop v11_0).trips) : Fin 1 → Nat :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_212 : BitVec 32 := 4#32
  let v445 : BitVec 32 := Scalar.muli arg22 c4_i32_212
  let c1_i32_213 : BitVec 32 := 1#32
  let v446 : BitVec 32 := Scalar.addi v445 c1_i32_213
  let c128_i32_245 : BitVec 32 := 128#32
  let v500 : BitVec 32 := Scalar.muli v446 c128_i32_245
  ![v500.toNat]
def k0_cond22 (v11_0 : BitVec 32) (k0_t8 : Fin (k0_t8_loop v11_0).trips) : BitVec 1 :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_212 : BitVec 32 := 4#32
  let v445 : BitVec 32 := Scalar.muli arg22 c4_i32_212
  let c1_i32_213 : BitVec 32 := 1#32
  let v446 : BitVec 32 := Scalar.addi v445 c1_i32_213
  let v447 : BitVec 1 := Scalar.cmpi .slt v446 v180
  let v448 : BitVec 32 := Scalar.extui v447
  let c0_i32_214 : BitVec 32 := 0#32
  let v449 : BitVec 1 := Scalar.cmpi .ne v448 c0_i32_214
  v449

def k0_off32 (v11_0 : BitVec 32) (k0_t8 : Fin (k0_t8_loop v11_0).trips) : Fin 1 → Nat :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_215 : BitVec 32 := 4#32
  let v450 : BitVec 32 := Scalar.muli arg22 c4_i32_215
  let c2_i32_216 : BitVec 32 := 2#32
  let v451 : BitVec 32 := Scalar.addi v450 c2_i32_216
  let c128_i32_245 : BitVec 32 := 128#32
  let v500 : BitVec 32 := Scalar.muli v451 c128_i32_245
  ![v500.toNat]
def k0_cond23 (v11_0 : BitVec 32) (k0_t8 : Fin (k0_t8_loop v11_0).trips) : BitVec 1 :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_215 : BitVec 32 := 4#32
  let v450 : BitVec 32 := Scalar.muli arg22 c4_i32_215
  let c2_i32_216 : BitVec 32 := 2#32
  let v451 : BitVec 32 := Scalar.addi v450 c2_i32_216
  let v452 : BitVec 1 := Scalar.cmpi .slt v451 v180
  let v453 : BitVec 32 := Scalar.extui v452
  let c0_i32_217 : BitVec 32 := 0#32
  let v454 : BitVec 1 := Scalar.cmpi .ne v453 c0_i32_217
  v454

def k0_off33 (v11_0 : BitVec 32) (k0_t8 : Fin (k0_t8_loop v11_0).trips) : Fin 1 → Nat :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_218 : BitVec 32 := 4#32
  let v455 : BitVec 32 := Scalar.muli arg22 c4_i32_218
  let c3_i32_219 : BitVec 32 := 3#32
  let v456 : BitVec 32 := Scalar.addi v455 c3_i32_219
  let c128_i32_245 : BitVec 32 := 128#32
  let v500 : BitVec 32 := Scalar.muli v456 c128_i32_245
  ![v500.toNat]
def k0_cond24 (v11_0 : BitVec 32) (k0_t8 : Fin (k0_t8_loop v11_0).trips) : BitVec 1 :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_218 : BitVec 32 := 4#32
  let v455 : BitVec 32 := Scalar.muli arg22 c4_i32_218
  let c3_i32_219 : BitVec 32 := 3#32
  let v456 : BitVec 32 := Scalar.addi v455 c3_i32_219
  let v457 : BitVec 1 := Scalar.cmpi .slt v456 v180
  let v458 : BitVec 32 := Scalar.extui v457
  let c0_i32_220 : BitVec 32 := 0#32
  let v459 : BitVec 1 := Scalar.cmpi .ne v458 c0_i32_220
  v459

def k0_off34 (v11_0 : BitVec 32) (k0_t8 : Fin (k0_t8_loop v11_0).trips) : Fin 1 → Nat :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_221 : BitVec 32 := 4#32
  let v460 : BitVec 32 := Scalar.muli arg22 c4_i32_221
  let c0_i32_222 : BitVec 32 := 0#32
  let v461 : BitVec 32 := Scalar.addi v460 c0_i32_222
  let c128_i32_245 : BitVec 32 := 128#32
  let v500 : BitVec 32 := Scalar.muli v461 c128_i32_245
  ![v500.toNat]
def k0_cond25 (v11_0 : BitVec 32) (k0_t8 : Fin (k0_t8_loop v11_0).trips) : BitVec 1 :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_221 : BitVec 32 := 4#32
  let v460 : BitVec 32 := Scalar.muli arg22 c4_i32_221
  let c0_i32_222 : BitVec 32 := 0#32
  let v461 : BitVec 32 := Scalar.addi v460 c0_i32_222
  let v462 : BitVec 1 := Scalar.cmpi .slt v461 v180
  let v463 : BitVec 32 := Scalar.extui v462
  let c0_i32_223 : BitVec 32 := 0#32
  let v464 : BitVec 1 := Scalar.cmpi .ne v463 c0_i32_223
  v464

def k0_off35 (v11_0 : BitVec 32) (k0_t8 : Fin (k0_t8_loop v11_0).trips) : Fin 1 → Nat :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_224 : BitVec 32 := 4#32
  let v465 : BitVec 32 := Scalar.muli arg22 c4_i32_224
  let c1_i32_225 : BitVec 32 := 1#32
  let v466 : BitVec 32 := Scalar.addi v465 c1_i32_225
  let c128_i32_245 : BitVec 32 := 128#32
  let v500 : BitVec 32 := Scalar.muli v466 c128_i32_245
  ![v500.toNat]
def k0_cond26 (v11_0 : BitVec 32) (k0_t8 : Fin (k0_t8_loop v11_0).trips) : BitVec 1 :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_224 : BitVec 32 := 4#32
  let v465 : BitVec 32 := Scalar.muli arg22 c4_i32_224
  let c1_i32_225 : BitVec 32 := 1#32
  let v466 : BitVec 32 := Scalar.addi v465 c1_i32_225
  let v467 : BitVec 1 := Scalar.cmpi .slt v466 v180
  let v468 : BitVec 32 := Scalar.extui v467
  let c0_i32_226 : BitVec 32 := 0#32
  let v469 : BitVec 1 := Scalar.cmpi .ne v468 c0_i32_226
  v469

def k0_off36 (v11_0 : BitVec 32) (k0_t8 : Fin (k0_t8_loop v11_0).trips) : Fin 1 → Nat :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_227 : BitVec 32 := 4#32
  let v470 : BitVec 32 := Scalar.muli arg22 c4_i32_227
  let c2_i32_228 : BitVec 32 := 2#32
  let v471 : BitVec 32 := Scalar.addi v470 c2_i32_228
  let c128_i32_245 : BitVec 32 := 128#32
  let v500 : BitVec 32 := Scalar.muli v471 c128_i32_245
  ![v500.toNat]
def k0_cond27 (v11_0 : BitVec 32) (k0_t8 : Fin (k0_t8_loop v11_0).trips) : BitVec 1 :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_227 : BitVec 32 := 4#32
  let v470 : BitVec 32 := Scalar.muli arg22 c4_i32_227
  let c2_i32_228 : BitVec 32 := 2#32
  let v471 : BitVec 32 := Scalar.addi v470 c2_i32_228
  let v472 : BitVec 1 := Scalar.cmpi .slt v471 v180
  let v473 : BitVec 32 := Scalar.extui v472
  let c0_i32_229 : BitVec 32 := 0#32
  let v474 : BitVec 1 := Scalar.cmpi .ne v473 c0_i32_229
  v474

def k0_off37 (v11_0 : BitVec 32) (k0_t8 : Fin (k0_t8_loop v11_0).trips) : Fin 1 → Nat :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_230 : BitVec 32 := 4#32
  let v475 : BitVec 32 := Scalar.muli arg22 c4_i32_230
  let c3_i32_231 : BitVec 32 := 3#32
  let v476 : BitVec 32 := Scalar.addi v475 c3_i32_231
  let c128_i32_245 : BitVec 32 := 128#32
  let v500 : BitVec 32 := Scalar.muli v476 c128_i32_245
  ![v500.toNat]
def k0_cond28 (v11_0 : BitVec 32) (k0_t8 : Fin (k0_t8_loop v11_0).trips) : BitVec 1 :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_230 : BitVec 32 := 4#32
  let v475 : BitVec 32 := Scalar.muli arg22 c4_i32_230
  let c3_i32_231 : BitVec 32 := 3#32
  let v476 : BitVec 32 := Scalar.addi v475 c3_i32_231
  let v477 : BitVec 1 := Scalar.cmpi .slt v476 v180
  let v478 : BitVec 32 := Scalar.extui v477
  let c0_i32_232 : BitVec 32 := 0#32
  let v479 : BitVec 1 := Scalar.cmpi .ne v478 c0_i32_232
  v479

def k0_off38 (v11_0 : BitVec 32) (k0_t8 : Fin (k0_t8_loop v11_0).trips) : Fin 1 → Nat :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_233 : BitVec 32 := 4#32
  let v480 : BitVec 32 := Scalar.muli arg22 c4_i32_233
  let c0_i32_234 : BitVec 32 := 0#32
  let v481 : BitVec 32 := Scalar.addi v480 c0_i32_234
  let c128_i32_245 : BitVec 32 := 128#32
  let v500 : BitVec 32 := Scalar.muli v481 c128_i32_245
  ![v500.toNat]
def k0_cond29 (v11_0 : BitVec 32) (k0_t8 : Fin (k0_t8_loop v11_0).trips) : BitVec 1 :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_233 : BitVec 32 := 4#32
  let v480 : BitVec 32 := Scalar.muli arg22 c4_i32_233
  let c0_i32_234 : BitVec 32 := 0#32
  let v481 : BitVec 32 := Scalar.addi v480 c0_i32_234
  let v482 : BitVec 1 := Scalar.cmpi .slt v481 v180
  let v483 : BitVec 32 := Scalar.extui v482
  let c0_i32_235 : BitVec 32 := 0#32
  let v484 : BitVec 1 := Scalar.cmpi .ne v483 c0_i32_235
  v484

def k0_off39 (v11_0 : BitVec 32) (k0_t8 : Fin (k0_t8_loop v11_0).trips) : Fin 1 → Nat :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_236 : BitVec 32 := 4#32
  let v485 : BitVec 32 := Scalar.muli arg22 c4_i32_236
  let c1_i32_237 : BitVec 32 := 1#32
  let v486 : BitVec 32 := Scalar.addi v485 c1_i32_237
  let c128_i32_245 : BitVec 32 := 128#32
  let v500 : BitVec 32 := Scalar.muli v486 c128_i32_245
  ![v500.toNat]
def k0_cond30 (v11_0 : BitVec 32) (k0_t8 : Fin (k0_t8_loop v11_0).trips) : BitVec 1 :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_236 : BitVec 32 := 4#32
  let v485 : BitVec 32 := Scalar.muli arg22 c4_i32_236
  let c1_i32_237 : BitVec 32 := 1#32
  let v486 : BitVec 32 := Scalar.addi v485 c1_i32_237
  let v487 : BitVec 1 := Scalar.cmpi .slt v486 v180
  let v488 : BitVec 32 := Scalar.extui v487
  let c0_i32_238 : BitVec 32 := 0#32
  let v489 : BitVec 1 := Scalar.cmpi .ne v488 c0_i32_238
  v489

def k0_off40 (v11_0 : BitVec 32) (k0_t8 : Fin (k0_t8_loop v11_0).trips) : Fin 1 → Nat :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_239 : BitVec 32 := 4#32
  let v490 : BitVec 32 := Scalar.muli arg22 c4_i32_239
  let c2_i32_240 : BitVec 32 := 2#32
  let v491 : BitVec 32 := Scalar.addi v490 c2_i32_240
  let c128_i32_245 : BitVec 32 := 128#32
  let v500 : BitVec 32 := Scalar.muli v491 c128_i32_245
  ![v500.toNat]
def k0_cond31 (v11_0 : BitVec 32) (k0_t8 : Fin (k0_t8_loop v11_0).trips) : BitVec 1 :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_239 : BitVec 32 := 4#32
  let v490 : BitVec 32 := Scalar.muli arg22 c4_i32_239
  let c2_i32_240 : BitVec 32 := 2#32
  let v491 : BitVec 32 := Scalar.addi v490 c2_i32_240
  let v492 : BitVec 1 := Scalar.cmpi .slt v491 v180
  let v493 : BitVec 32 := Scalar.extui v492
  let c0_i32_241 : BitVec 32 := 0#32
  let v494 : BitVec 1 := Scalar.cmpi .ne v493 c0_i32_241
  v494

def k0_off41 (v11_0 : BitVec 32) (k0_t8 : Fin (k0_t8_loop v11_0).trips) : Fin 1 → Nat :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_242 : BitVec 32 := 4#32
  let v495 : BitVec 32 := Scalar.muli arg22 c4_i32_242
  let c3_i32_243 : BitVec 32 := 3#32
  let v496 : BitVec 32 := Scalar.addi v495 c3_i32_243
  let c128_i32_245 : BitVec 32 := 128#32
  let v500 : BitVec 32 := Scalar.muli v496 c128_i32_245
  ![v500.toNat]
def k0_cond32 (v11_0 : BitVec 32) (k0_t8 : Fin (k0_t8_loop v11_0).trips) : BitVec 1 :=
  let c0_i32_79 : BitVec 32 := 0#32
  let c128_i32 : BitVec 32 := 128#32
  let v162 : BitVec 32 := Scalar.addi v11_0 c128_i32
  let c1_i32_62 : BitVec 32 := 1#32
  let v163 : BitVec 32 := Scalar.subi v162 c1_i32_62
  let c0_i32_64 : BitVec 32 := 0#32
  let v165 : BitVec 1 := Scalar.cmpi .sgt v163 c0_i32_64
  let v166 : BitVec 32 := Scalar.extui v165
  let c0_i32_65 : BitVec 32 := 0#32
  let v167 : BitVec 1 := Scalar.cmpi .slt v163 c0_i32_65
  let v168 : BitVec 32 := Scalar.extui v167
  let v169 : BitVec 32 := Scalar.subi v166 v168
  let c128_i32_63 : BitVec 32 := 128#32
  let c0_i32_66 : BitVec 32 := 0#32
  let v170 : BitVec 1 := Scalar.cmpi .sgt c128_i32_63 c0_i32_66
  let v171 : BitVec 32 := Scalar.extui v170
  let c0_i32_67 : BitVec 32 := 0#32
  let v172 : BitVec 1 := Scalar.cmpi .slt c128_i32_63 c0_i32_67
  let v173 : BitVec 32 := Scalar.extui v172
  let v174 : BitVec 32 := Scalar.subi v171 v173
  let v175 : BitVec 1 := Scalar.cmpi .ne v169 v174
  let v176 : BitVec 32 := Scalar.remsi v163 c128_i32_63
  let c0_i32_68 : BitVec 32 := 0#32
  let v177 : BitVec 1 := Scalar.cmpi .ne v176 c0_i32_68
  let v178 : BitVec 1 := Scalar.andi v175 v177
  let v164 : BitVec 32 := Scalar.divsi v163 c128_i32_63
  let c1_i32_69 : BitVec 32 := 1#32
  let v179 : BitVec 32 := Scalar.subi v164 c1_i32_69
  let v180 : BitVec 32 := Scalar.select v178 v179 v164
  let c4_i32 : BitVec 32 := 4#32
  let v181 : BitVec 32 := Scalar.addi v180 c4_i32
  let c1_i32_70 : BitVec 32 := 1#32
  let v182 : BitVec 32 := Scalar.subi v181 c1_i32_70
  let c0_i32_72 : BitVec 32 := 0#32
  let v184 : BitVec 1 := Scalar.cmpi .sgt v182 c0_i32_72
  let v185 : BitVec 32 := Scalar.extui v184
  let c0_i32_73 : BitVec 32 := 0#32
  let v186 : BitVec 1 := Scalar.cmpi .slt v182 c0_i32_73
  let v187 : BitVec 32 := Scalar.extui v186
  let v188 : BitVec 32 := Scalar.subi v185 v187
  let c4_i32_71 : BitVec 32 := 4#32
  let c0_i32_74 : BitVec 32 := 0#32
  let v189 : BitVec 1 := Scalar.cmpi .sgt c4_i32_71 c0_i32_74
  let v190 : BitVec 32 := Scalar.extui v189
  let c0_i32_75 : BitVec 32 := 0#32
  let v191 : BitVec 1 := Scalar.cmpi .slt c4_i32_71 c0_i32_75
  let v192 : BitVec 32 := Scalar.extui v191
  let v193 : BitVec 32 := Scalar.subi v190 v192
  let v194 : BitVec 1 := Scalar.cmpi .ne v188 v193
  let v195 : BitVec 32 := Scalar.remsi v182 c4_i32_71
  let c0_i32_76 : BitVec 32 := 0#32
  let v196 : BitVec 1 := Scalar.cmpi .ne v195 c0_i32_76
  let v197 : BitVec 1 := Scalar.andi v194 v196
  let v183 : BitVec 32 := Scalar.divsi v182 c4_i32_71
  let c1_i32_77 : BitVec 32 := 1#32
  let v198 : BitVec 32 := Scalar.subi v183 c1_i32_77
  let v199 : BitVec 32 := Scalar.select v197 v198 v183
  let v200 : BitVec 32 := Scalar.subi v199 c0_i32_79
  let c1_i32_80 : BitVec 32 := 1#32
  let v202 : BitVec 32 := Scalar.divsi v200 c1_i32_80
  let v203 : BitVec 32 := Scalar.muli v202 c1_i32_80
  let v204 : BitVec 32 := Scalar.addi c0_i32_79 v203
  let c1_i32_82 : BitVec 32 := 1#32
  let arg22 : BitVec 32 := Scf.iv v204 c1_i32_82 k0_t8
  let c4_i32_242 : BitVec 32 := 4#32
  let v495 : BitVec 32 := Scalar.muli arg22 c4_i32_242
  let c3_i32_243 : BitVec 32 := 3#32
  let v496 : BitVec 32 := Scalar.addi v495 c3_i32_243
  let v497 : BitVec 1 := Scalar.cmpi .slt v496 v180
  let v498 : BitVec 32 := Scalar.extui v497
  let c0_i32_244 : BitVec 32 := 0#32
  let v499 : BitVec 1 := Scalar.cmpi .ne v498 c0_i32_244
  v499

@[reducible] def k0_t9_loop (v11_1 : BitVec 32) : Scf.Loop 32 :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_104 : BitVec 32 := 1#32
  ⟨c0_i32_102, v247, c1_i32_104⟩
def k0_off42 (v11_1 : BitVec 32) (k0_t9 : Fin (k0_t9_loop v11_1).trips) : Fin 1 → Nat :=
  let c0_i32_102 : BitVec 32 := 0#32
  let c1_i32_104 : BitVec 32 := 1#32
  let arg22 : BitVec 32 := Scf.iv c0_i32_102 c1_i32_104 k0_t9
  let c4_i32_198 : BitVec 32 := 4#32
  let v420 : BitVec 32 := Scalar.muli arg22 c4_i32_198
  let c0_i32_199 : BitVec 32 := 0#32
  let v421 : BitVec 32 := Scalar.addi v420 c0_i32_199
  let c128_i32_245 : BitVec 32 := 128#32
  let v500 : BitVec 32 := Scalar.muli v421 c128_i32_245
  ![v500.toNat]
def k0_cond33 (v11_1 : BitVec 32) (k0_t9 : Fin (k0_t9_loop v11_1).trips) : BitVec 1 :=
  let c0_i32_102 : BitVec 32 := 0#32
  let c1_i32_104 : BitVec 32 := 1#32
  let arg22 : BitVec 32 := Scf.iv c0_i32_102 c1_i32_104 k0_t9
  let c4_i32_198 : BitVec 32 := 4#32
  let v420 : BitVec 32 := Scalar.muli arg22 c4_i32_198
  let c0_i32_199 : BitVec 32 := 0#32
  let v421 : BitVec 32 := Scalar.addi v420 c0_i32_199
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let v422 : BitVec 1 := Scalar.cmpi .slt v421 v223
  let v423 : BitVec 32 := Scalar.extui v422
  let c0_i32_200 : BitVec 32 := 0#32
  let v424 : BitVec 1 := Scalar.cmpi .ne v423 c0_i32_200
  v424

def k0_off43 (v11_1 : BitVec 32) (k0_t9 : Fin (k0_t9_loop v11_1).trips) : Fin 1 → Nat :=
  let c0_i32_102 : BitVec 32 := 0#32
  let c1_i32_104 : BitVec 32 := 1#32
  let arg22 : BitVec 32 := Scf.iv c0_i32_102 c1_i32_104 k0_t9
  let c4_i32_201 : BitVec 32 := 4#32
  let v425 : BitVec 32 := Scalar.muli arg22 c4_i32_201
  let c1_i32_202 : BitVec 32 := 1#32
  let v426 : BitVec 32 := Scalar.addi v425 c1_i32_202
  let c128_i32_245 : BitVec 32 := 128#32
  let v500 : BitVec 32 := Scalar.muli v426 c128_i32_245
  ![v500.toNat]
def k0_cond34 (v11_1 : BitVec 32) (k0_t9 : Fin (k0_t9_loop v11_1).trips) : BitVec 1 :=
  let c0_i32_102 : BitVec 32 := 0#32
  let c1_i32_104 : BitVec 32 := 1#32
  let arg22 : BitVec 32 := Scf.iv c0_i32_102 c1_i32_104 k0_t9
  let c4_i32_201 : BitVec 32 := 4#32
  let v425 : BitVec 32 := Scalar.muli arg22 c4_i32_201
  let c1_i32_202 : BitVec 32 := 1#32
  let v426 : BitVec 32 := Scalar.addi v425 c1_i32_202
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let v427 : BitVec 1 := Scalar.cmpi .slt v426 v223
  let v428 : BitVec 32 := Scalar.extui v427
  let c0_i32_203 : BitVec 32 := 0#32
  let v429 : BitVec 1 := Scalar.cmpi .ne v428 c0_i32_203
  v429

def k0_off44 (v11_1 : BitVec 32) (k0_t9 : Fin (k0_t9_loop v11_1).trips) : Fin 1 → Nat :=
  let c0_i32_102 : BitVec 32 := 0#32
  let c1_i32_104 : BitVec 32 := 1#32
  let arg22 : BitVec 32 := Scf.iv c0_i32_102 c1_i32_104 k0_t9
  let c4_i32_204 : BitVec 32 := 4#32
  let v430 : BitVec 32 := Scalar.muli arg22 c4_i32_204
  let c2_i32_205 : BitVec 32 := 2#32
  let v431 : BitVec 32 := Scalar.addi v430 c2_i32_205
  let c128_i32_245 : BitVec 32 := 128#32
  let v500 : BitVec 32 := Scalar.muli v431 c128_i32_245
  ![v500.toNat]
def k0_cond35 (v11_1 : BitVec 32) (k0_t9 : Fin (k0_t9_loop v11_1).trips) : BitVec 1 :=
  let c0_i32_102 : BitVec 32 := 0#32
  let c1_i32_104 : BitVec 32 := 1#32
  let arg22 : BitVec 32 := Scf.iv c0_i32_102 c1_i32_104 k0_t9
  let c4_i32_204 : BitVec 32 := 4#32
  let v430 : BitVec 32 := Scalar.muli arg22 c4_i32_204
  let c2_i32_205 : BitVec 32 := 2#32
  let v431 : BitVec 32 := Scalar.addi v430 c2_i32_205
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let v432 : BitVec 1 := Scalar.cmpi .slt v431 v223
  let v433 : BitVec 32 := Scalar.extui v432
  let c0_i32_206 : BitVec 32 := 0#32
  let v434 : BitVec 1 := Scalar.cmpi .ne v433 c0_i32_206
  v434

def k0_off45 (v11_1 : BitVec 32) (k0_t9 : Fin (k0_t9_loop v11_1).trips) : Fin 1 → Nat :=
  let c0_i32_102 : BitVec 32 := 0#32
  let c1_i32_104 : BitVec 32 := 1#32
  let arg22 : BitVec 32 := Scf.iv c0_i32_102 c1_i32_104 k0_t9
  let c4_i32_207 : BitVec 32 := 4#32
  let v435 : BitVec 32 := Scalar.muli arg22 c4_i32_207
  let c3_i32 : BitVec 32 := 3#32
  let v436 : BitVec 32 := Scalar.addi v435 c3_i32
  let c128_i32_245 : BitVec 32 := 128#32
  let v500 : BitVec 32 := Scalar.muli v436 c128_i32_245
  ![v500.toNat]
def k0_cond36 (v11_1 : BitVec 32) (k0_t9 : Fin (k0_t9_loop v11_1).trips) : BitVec 1 :=
  let c0_i32_102 : BitVec 32 := 0#32
  let c1_i32_104 : BitVec 32 := 1#32
  let arg22 : BitVec 32 := Scf.iv c0_i32_102 c1_i32_104 k0_t9
  let c4_i32_207 : BitVec 32 := 4#32
  let v435 : BitVec 32 := Scalar.muli arg22 c4_i32_207
  let c3_i32 : BitVec 32 := 3#32
  let v436 : BitVec 32 := Scalar.addi v435 c3_i32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let v437 : BitVec 1 := Scalar.cmpi .slt v436 v223
  let v438 : BitVec 32 := Scalar.extui v437
  let c0_i32_208 : BitVec 32 := 0#32
  let v439 : BitVec 1 := Scalar.cmpi .ne v438 c0_i32_208
  v439

def k0_off46 (v11_1 : BitVec 32) (k0_t9 : Fin (k0_t9_loop v11_1).trips) : Fin 1 → Nat :=
  let c0_i32_102 : BitVec 32 := 0#32
  let c1_i32_104 : BitVec 32 := 1#32
  let arg22 : BitVec 32 := Scf.iv c0_i32_102 c1_i32_104 k0_t9
  let c4_i32_209 : BitVec 32 := 4#32
  let v440 : BitVec 32 := Scalar.muli arg22 c4_i32_209
  let c0_i32_210 : BitVec 32 := 0#32
  let v441 : BitVec 32 := Scalar.addi v440 c0_i32_210
  let c128_i32_245 : BitVec 32 := 128#32
  let v500 : BitVec 32 := Scalar.muli v441 c128_i32_245
  ![v500.toNat]
def k0_cond37 (v11_1 : BitVec 32) (k0_t9 : Fin (k0_t9_loop v11_1).trips) : BitVec 1 :=
  let c0_i32_102 : BitVec 32 := 0#32
  let c1_i32_104 : BitVec 32 := 1#32
  let arg22 : BitVec 32 := Scf.iv c0_i32_102 c1_i32_104 k0_t9
  let c4_i32_209 : BitVec 32 := 4#32
  let v440 : BitVec 32 := Scalar.muli arg22 c4_i32_209
  let c0_i32_210 : BitVec 32 := 0#32
  let v441 : BitVec 32 := Scalar.addi v440 c0_i32_210
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let v442 : BitVec 1 := Scalar.cmpi .slt v441 v223
  let v443 : BitVec 32 := Scalar.extui v442
  let c0_i32_211 : BitVec 32 := 0#32
  let v444 : BitVec 1 := Scalar.cmpi .ne v443 c0_i32_211
  v444

def k0_off47 (v11_1 : BitVec 32) (k0_t9 : Fin (k0_t9_loop v11_1).trips) : Fin 1 → Nat :=
  let c0_i32_102 : BitVec 32 := 0#32
  let c1_i32_104 : BitVec 32 := 1#32
  let arg22 : BitVec 32 := Scf.iv c0_i32_102 c1_i32_104 k0_t9
  let c4_i32_212 : BitVec 32 := 4#32
  let v445 : BitVec 32 := Scalar.muli arg22 c4_i32_212
  let c1_i32_213 : BitVec 32 := 1#32
  let v446 : BitVec 32 := Scalar.addi v445 c1_i32_213
  let c128_i32_245 : BitVec 32 := 128#32
  let v500 : BitVec 32 := Scalar.muli v446 c128_i32_245
  ![v500.toNat]
def k0_cond38 (v11_1 : BitVec 32) (k0_t9 : Fin (k0_t9_loop v11_1).trips) : BitVec 1 :=
  let c0_i32_102 : BitVec 32 := 0#32
  let c1_i32_104 : BitVec 32 := 1#32
  let arg22 : BitVec 32 := Scf.iv c0_i32_102 c1_i32_104 k0_t9
  let c4_i32_212 : BitVec 32 := 4#32
  let v445 : BitVec 32 := Scalar.muli arg22 c4_i32_212
  let c1_i32_213 : BitVec 32 := 1#32
  let v446 : BitVec 32 := Scalar.addi v445 c1_i32_213
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let v447 : BitVec 1 := Scalar.cmpi .slt v446 v223
  let v448 : BitVec 32 := Scalar.extui v447
  let c0_i32_214 : BitVec 32 := 0#32
  let v449 : BitVec 1 := Scalar.cmpi .ne v448 c0_i32_214
  v449

def k0_off48 (v11_1 : BitVec 32) (k0_t9 : Fin (k0_t9_loop v11_1).trips) : Fin 1 → Nat :=
  let c0_i32_102 : BitVec 32 := 0#32
  let c1_i32_104 : BitVec 32 := 1#32
  let arg22 : BitVec 32 := Scf.iv c0_i32_102 c1_i32_104 k0_t9
  let c4_i32_215 : BitVec 32 := 4#32
  let v450 : BitVec 32 := Scalar.muli arg22 c4_i32_215
  let c2_i32_216 : BitVec 32 := 2#32
  let v451 : BitVec 32 := Scalar.addi v450 c2_i32_216
  let c128_i32_245 : BitVec 32 := 128#32
  let v500 : BitVec 32 := Scalar.muli v451 c128_i32_245
  ![v500.toNat]
def k0_cond39 (v11_1 : BitVec 32) (k0_t9 : Fin (k0_t9_loop v11_1).trips) : BitVec 1 :=
  let c0_i32_102 : BitVec 32 := 0#32
  let c1_i32_104 : BitVec 32 := 1#32
  let arg22 : BitVec 32 := Scf.iv c0_i32_102 c1_i32_104 k0_t9
  let c4_i32_215 : BitVec 32 := 4#32
  let v450 : BitVec 32 := Scalar.muli arg22 c4_i32_215
  let c2_i32_216 : BitVec 32 := 2#32
  let v451 : BitVec 32 := Scalar.addi v450 c2_i32_216
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let v452 : BitVec 1 := Scalar.cmpi .slt v451 v223
  let v453 : BitVec 32 := Scalar.extui v452
  let c0_i32_217 : BitVec 32 := 0#32
  let v454 : BitVec 1 := Scalar.cmpi .ne v453 c0_i32_217
  v454

def k0_off49 (v11_1 : BitVec 32) (k0_t9 : Fin (k0_t9_loop v11_1).trips) : Fin 1 → Nat :=
  let c0_i32_102 : BitVec 32 := 0#32
  let c1_i32_104 : BitVec 32 := 1#32
  let arg22 : BitVec 32 := Scf.iv c0_i32_102 c1_i32_104 k0_t9
  let c4_i32_218 : BitVec 32 := 4#32
  let v455 : BitVec 32 := Scalar.muli arg22 c4_i32_218
  let c3_i32_219 : BitVec 32 := 3#32
  let v456 : BitVec 32 := Scalar.addi v455 c3_i32_219
  let c128_i32_245 : BitVec 32 := 128#32
  let v500 : BitVec 32 := Scalar.muli v456 c128_i32_245
  ![v500.toNat]
def k0_cond40 (v11_1 : BitVec 32) (k0_t9 : Fin (k0_t9_loop v11_1).trips) : BitVec 1 :=
  let c0_i32_102 : BitVec 32 := 0#32
  let c1_i32_104 : BitVec 32 := 1#32
  let arg22 : BitVec 32 := Scf.iv c0_i32_102 c1_i32_104 k0_t9
  let c4_i32_218 : BitVec 32 := 4#32
  let v455 : BitVec 32 := Scalar.muli arg22 c4_i32_218
  let c3_i32_219 : BitVec 32 := 3#32
  let v456 : BitVec 32 := Scalar.addi v455 c3_i32_219
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let v457 : BitVec 1 := Scalar.cmpi .slt v456 v223
  let v458 : BitVec 32 := Scalar.extui v457
  let c0_i32_220 : BitVec 32 := 0#32
  let v459 : BitVec 1 := Scalar.cmpi .ne v458 c0_i32_220
  v459

def k0_off50 (v11_1 : BitVec 32) (k0_t9 : Fin (k0_t9_loop v11_1).trips) : Fin 1 → Nat :=
  let c0_i32_102 : BitVec 32 := 0#32
  let c1_i32_104 : BitVec 32 := 1#32
  let arg22 : BitVec 32 := Scf.iv c0_i32_102 c1_i32_104 k0_t9
  let c4_i32_221 : BitVec 32 := 4#32
  let v460 : BitVec 32 := Scalar.muli arg22 c4_i32_221
  let c0_i32_222 : BitVec 32 := 0#32
  let v461 : BitVec 32 := Scalar.addi v460 c0_i32_222
  let c128_i32_245 : BitVec 32 := 128#32
  let v500 : BitVec 32 := Scalar.muli v461 c128_i32_245
  ![v500.toNat]
def k0_cond41 (v11_1 : BitVec 32) (k0_t9 : Fin (k0_t9_loop v11_1).trips) : BitVec 1 :=
  let c0_i32_102 : BitVec 32 := 0#32
  let c1_i32_104 : BitVec 32 := 1#32
  let arg22 : BitVec 32 := Scf.iv c0_i32_102 c1_i32_104 k0_t9
  let c4_i32_221 : BitVec 32 := 4#32
  let v460 : BitVec 32 := Scalar.muli arg22 c4_i32_221
  let c0_i32_222 : BitVec 32 := 0#32
  let v461 : BitVec 32 := Scalar.addi v460 c0_i32_222
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let v462 : BitVec 1 := Scalar.cmpi .slt v461 v223
  let v463 : BitVec 32 := Scalar.extui v462
  let c0_i32_223 : BitVec 32 := 0#32
  let v464 : BitVec 1 := Scalar.cmpi .ne v463 c0_i32_223
  v464

def k0_off51 (v11_1 : BitVec 32) (k0_t9 : Fin (k0_t9_loop v11_1).trips) : Fin 1 → Nat :=
  let c0_i32_102 : BitVec 32 := 0#32
  let c1_i32_104 : BitVec 32 := 1#32
  let arg22 : BitVec 32 := Scf.iv c0_i32_102 c1_i32_104 k0_t9
  let c4_i32_224 : BitVec 32 := 4#32
  let v465 : BitVec 32 := Scalar.muli arg22 c4_i32_224
  let c1_i32_225 : BitVec 32 := 1#32
  let v466 : BitVec 32 := Scalar.addi v465 c1_i32_225
  let c128_i32_245 : BitVec 32 := 128#32
  let v500 : BitVec 32 := Scalar.muli v466 c128_i32_245
  ![v500.toNat]
def k0_cond42 (v11_1 : BitVec 32) (k0_t9 : Fin (k0_t9_loop v11_1).trips) : BitVec 1 :=
  let c0_i32_102 : BitVec 32 := 0#32
  let c1_i32_104 : BitVec 32 := 1#32
  let arg22 : BitVec 32 := Scf.iv c0_i32_102 c1_i32_104 k0_t9
  let c4_i32_224 : BitVec 32 := 4#32
  let v465 : BitVec 32 := Scalar.muli arg22 c4_i32_224
  let c1_i32_225 : BitVec 32 := 1#32
  let v466 : BitVec 32 := Scalar.addi v465 c1_i32_225
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let v467 : BitVec 1 := Scalar.cmpi .slt v466 v223
  let v468 : BitVec 32 := Scalar.extui v467
  let c0_i32_226 : BitVec 32 := 0#32
  let v469 : BitVec 1 := Scalar.cmpi .ne v468 c0_i32_226
  v469

def k0_off52 (v11_1 : BitVec 32) (k0_t9 : Fin (k0_t9_loop v11_1).trips) : Fin 1 → Nat :=
  let c0_i32_102 : BitVec 32 := 0#32
  let c1_i32_104 : BitVec 32 := 1#32
  let arg22 : BitVec 32 := Scf.iv c0_i32_102 c1_i32_104 k0_t9
  let c4_i32_227 : BitVec 32 := 4#32
  let v470 : BitVec 32 := Scalar.muli arg22 c4_i32_227
  let c2_i32_228 : BitVec 32 := 2#32
  let v471 : BitVec 32 := Scalar.addi v470 c2_i32_228
  let c128_i32_245 : BitVec 32 := 128#32
  let v500 : BitVec 32 := Scalar.muli v471 c128_i32_245
  ![v500.toNat]
def k0_cond43 (v11_1 : BitVec 32) (k0_t9 : Fin (k0_t9_loop v11_1).trips) : BitVec 1 :=
  let c0_i32_102 : BitVec 32 := 0#32
  let c1_i32_104 : BitVec 32 := 1#32
  let arg22 : BitVec 32 := Scf.iv c0_i32_102 c1_i32_104 k0_t9
  let c4_i32_227 : BitVec 32 := 4#32
  let v470 : BitVec 32 := Scalar.muli arg22 c4_i32_227
  let c2_i32_228 : BitVec 32 := 2#32
  let v471 : BitVec 32 := Scalar.addi v470 c2_i32_228
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let v472 : BitVec 1 := Scalar.cmpi .slt v471 v223
  let v473 : BitVec 32 := Scalar.extui v472
  let c0_i32_229 : BitVec 32 := 0#32
  let v474 : BitVec 1 := Scalar.cmpi .ne v473 c0_i32_229
  v474

def k0_off53 (v11_1 : BitVec 32) (k0_t9 : Fin (k0_t9_loop v11_1).trips) : Fin 1 → Nat :=
  let c0_i32_102 : BitVec 32 := 0#32
  let c1_i32_104 : BitVec 32 := 1#32
  let arg22 : BitVec 32 := Scf.iv c0_i32_102 c1_i32_104 k0_t9
  let c4_i32_230 : BitVec 32 := 4#32
  let v475 : BitVec 32 := Scalar.muli arg22 c4_i32_230
  let c3_i32_231 : BitVec 32 := 3#32
  let v476 : BitVec 32 := Scalar.addi v475 c3_i32_231
  let c128_i32_245 : BitVec 32 := 128#32
  let v500 : BitVec 32 := Scalar.muli v476 c128_i32_245
  ![v500.toNat]
def k0_cond44 (v11_1 : BitVec 32) (k0_t9 : Fin (k0_t9_loop v11_1).trips) : BitVec 1 :=
  let c0_i32_102 : BitVec 32 := 0#32
  let c1_i32_104 : BitVec 32 := 1#32
  let arg22 : BitVec 32 := Scf.iv c0_i32_102 c1_i32_104 k0_t9
  let c4_i32_230 : BitVec 32 := 4#32
  let v475 : BitVec 32 := Scalar.muli arg22 c4_i32_230
  let c3_i32_231 : BitVec 32 := 3#32
  let v476 : BitVec 32 := Scalar.addi v475 c3_i32_231
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let v477 : BitVec 1 := Scalar.cmpi .slt v476 v223
  let v478 : BitVec 32 := Scalar.extui v477
  let c0_i32_232 : BitVec 32 := 0#32
  let v479 : BitVec 1 := Scalar.cmpi .ne v478 c0_i32_232
  v479

def k0_off54 (v11_1 : BitVec 32) (k0_t9 : Fin (k0_t9_loop v11_1).trips) : Fin 1 → Nat :=
  let c0_i32_102 : BitVec 32 := 0#32
  let c1_i32_104 : BitVec 32 := 1#32
  let arg22 : BitVec 32 := Scf.iv c0_i32_102 c1_i32_104 k0_t9
  let c4_i32_233 : BitVec 32 := 4#32
  let v480 : BitVec 32 := Scalar.muli arg22 c4_i32_233
  let c0_i32_234 : BitVec 32 := 0#32
  let v481 : BitVec 32 := Scalar.addi v480 c0_i32_234
  let c128_i32_245 : BitVec 32 := 128#32
  let v500 : BitVec 32 := Scalar.muli v481 c128_i32_245
  ![v500.toNat]
def k0_cond45 (v11_1 : BitVec 32) (k0_t9 : Fin (k0_t9_loop v11_1).trips) : BitVec 1 :=
  let c0_i32_102 : BitVec 32 := 0#32
  let c1_i32_104 : BitVec 32 := 1#32
  let arg22 : BitVec 32 := Scf.iv c0_i32_102 c1_i32_104 k0_t9
  let c4_i32_233 : BitVec 32 := 4#32
  let v480 : BitVec 32 := Scalar.muli arg22 c4_i32_233
  let c0_i32_234 : BitVec 32 := 0#32
  let v481 : BitVec 32 := Scalar.addi v480 c0_i32_234
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let v482 : BitVec 1 := Scalar.cmpi .slt v481 v223
  let v483 : BitVec 32 := Scalar.extui v482
  let c0_i32_235 : BitVec 32 := 0#32
  let v484 : BitVec 1 := Scalar.cmpi .ne v483 c0_i32_235
  v484

def k0_off55 (v11_1 : BitVec 32) (k0_t9 : Fin (k0_t9_loop v11_1).trips) : Fin 1 → Nat :=
  let c0_i32_102 : BitVec 32 := 0#32
  let c1_i32_104 : BitVec 32 := 1#32
  let arg22 : BitVec 32 := Scf.iv c0_i32_102 c1_i32_104 k0_t9
  let c4_i32_236 : BitVec 32 := 4#32
  let v485 : BitVec 32 := Scalar.muli arg22 c4_i32_236
  let c1_i32_237 : BitVec 32 := 1#32
  let v486 : BitVec 32 := Scalar.addi v485 c1_i32_237
  let c128_i32_245 : BitVec 32 := 128#32
  let v500 : BitVec 32 := Scalar.muli v486 c128_i32_245
  ![v500.toNat]
def k0_cond46 (v11_1 : BitVec 32) (k0_t9 : Fin (k0_t9_loop v11_1).trips) : BitVec 1 :=
  let c0_i32_102 : BitVec 32 := 0#32
  let c1_i32_104 : BitVec 32 := 1#32
  let arg22 : BitVec 32 := Scf.iv c0_i32_102 c1_i32_104 k0_t9
  let c4_i32_236 : BitVec 32 := 4#32
  let v485 : BitVec 32 := Scalar.muli arg22 c4_i32_236
  let c1_i32_237 : BitVec 32 := 1#32
  let v486 : BitVec 32 := Scalar.addi v485 c1_i32_237
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let v487 : BitVec 1 := Scalar.cmpi .slt v486 v223
  let v488 : BitVec 32 := Scalar.extui v487
  let c0_i32_238 : BitVec 32 := 0#32
  let v489 : BitVec 1 := Scalar.cmpi .ne v488 c0_i32_238
  v489

def k0_off56 (v11_1 : BitVec 32) (k0_t9 : Fin (k0_t9_loop v11_1).trips) : Fin 1 → Nat :=
  let c0_i32_102 : BitVec 32 := 0#32
  let c1_i32_104 : BitVec 32 := 1#32
  let arg22 : BitVec 32 := Scf.iv c0_i32_102 c1_i32_104 k0_t9
  let c4_i32_239 : BitVec 32 := 4#32
  let v490 : BitVec 32 := Scalar.muli arg22 c4_i32_239
  let c2_i32_240 : BitVec 32 := 2#32
  let v491 : BitVec 32 := Scalar.addi v490 c2_i32_240
  let c128_i32_245 : BitVec 32 := 128#32
  let v500 : BitVec 32 := Scalar.muli v491 c128_i32_245
  ![v500.toNat]
def k0_cond47 (v11_1 : BitVec 32) (k0_t9 : Fin (k0_t9_loop v11_1).trips) : BitVec 1 :=
  let c0_i32_102 : BitVec 32 := 0#32
  let c1_i32_104 : BitVec 32 := 1#32
  let arg22 : BitVec 32 := Scf.iv c0_i32_102 c1_i32_104 k0_t9
  let c4_i32_239 : BitVec 32 := 4#32
  let v490 : BitVec 32 := Scalar.muli arg22 c4_i32_239
  let c2_i32_240 : BitVec 32 := 2#32
  let v491 : BitVec 32 := Scalar.addi v490 c2_i32_240
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let v492 : BitVec 1 := Scalar.cmpi .slt v491 v223
  let v493 : BitVec 32 := Scalar.extui v492
  let c0_i32_241 : BitVec 32 := 0#32
  let v494 : BitVec 1 := Scalar.cmpi .ne v493 c0_i32_241
  v494

def k0_off57 (v11_1 : BitVec 32) (k0_t9 : Fin (k0_t9_loop v11_1).trips) : Fin 1 → Nat :=
  let c0_i32_102 : BitVec 32 := 0#32
  let c1_i32_104 : BitVec 32 := 1#32
  let arg22 : BitVec 32 := Scf.iv c0_i32_102 c1_i32_104 k0_t9
  let c4_i32_242 : BitVec 32 := 4#32
  let v495 : BitVec 32 := Scalar.muli arg22 c4_i32_242
  let c3_i32_243 : BitVec 32 := 3#32
  let v496 : BitVec 32 := Scalar.addi v495 c3_i32_243
  let c128_i32_245 : BitVec 32 := 128#32
  let v500 : BitVec 32 := Scalar.muli v496 c128_i32_245
  ![v500.toNat]
def k0_cond48 (v11_1 : BitVec 32) (k0_t9 : Fin (k0_t9_loop v11_1).trips) : BitVec 1 :=
  let c0_i32_102 : BitVec 32 := 0#32
  let c1_i32_104 : BitVec 32 := 1#32
  let arg22 : BitVec 32 := Scf.iv c0_i32_102 c1_i32_104 k0_t9
  let c4_i32_242 : BitVec 32 := 4#32
  let v495 : BitVec 32 := Scalar.muli arg22 c4_i32_242
  let c3_i32_243 : BitVec 32 := 3#32
  let v496 : BitVec 32 := Scalar.addi v495 c3_i32_243
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let v497 : BitVec 1 := Scalar.cmpi .slt v496 v223
  let v498 : BitVec 32 := Scalar.extui v497
  let c0_i32_244 : BitVec 32 := 0#32
  let v499 : BitVec 1 := Scalar.cmpi .ne v498 c0_i32_244
  v499

@[reducible] def k0_t10_loop (v11_1 : BitVec 32) : Scf.Loop 32 :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let v244 : BitVec 32 := Scalar.addi c0_i32_102 v243
  let c1_i32_105 : BitVec 32 := 1#32
  ⟨v247, v244, c1_i32_105⟩
def k0_off58 (v11_1 : BitVec 32) (k0_t10 : Fin (k0_t10_loop v11_1).trips) : Fin 1 → Nat :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_198 : BitVec 32 := 4#32
  let v420 : BitVec 32 := Scalar.muli arg22 c4_i32_198
  let c0_i32_199 : BitVec 32 := 0#32
  let v421 : BitVec 32 := Scalar.addi v420 c0_i32_199
  let c128_i32_245 : BitVec 32 := 128#32
  let v500 : BitVec 32 := Scalar.muli v421 c128_i32_245
  ![v500.toNat]
def k0_cond49 (v11_1 : BitVec 32) (k0_t10 : Fin (k0_t10_loop v11_1).trips) : BitVec 1 :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_198 : BitVec 32 := 4#32
  let v420 : BitVec 32 := Scalar.muli arg22 c4_i32_198
  let c0_i32_199 : BitVec 32 := 0#32
  let v421 : BitVec 32 := Scalar.addi v420 c0_i32_199
  let v422 : BitVec 1 := Scalar.cmpi .slt v421 v223
  let v423 : BitVec 32 := Scalar.extui v422
  let c0_i32_200 : BitVec 32 := 0#32
  let v424 : BitVec 1 := Scalar.cmpi .ne v423 c0_i32_200
  v424

def k0_off59 (v11_1 : BitVec 32) (k0_t10 : Fin (k0_t10_loop v11_1).trips) : Fin 1 → Nat :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_201 : BitVec 32 := 4#32
  let v425 : BitVec 32 := Scalar.muli arg22 c4_i32_201
  let c1_i32_202 : BitVec 32 := 1#32
  let v426 : BitVec 32 := Scalar.addi v425 c1_i32_202
  let c128_i32_245 : BitVec 32 := 128#32
  let v500 : BitVec 32 := Scalar.muli v426 c128_i32_245
  ![v500.toNat]
def k0_cond50 (v11_1 : BitVec 32) (k0_t10 : Fin (k0_t10_loop v11_1).trips) : BitVec 1 :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_201 : BitVec 32 := 4#32
  let v425 : BitVec 32 := Scalar.muli arg22 c4_i32_201
  let c1_i32_202 : BitVec 32 := 1#32
  let v426 : BitVec 32 := Scalar.addi v425 c1_i32_202
  let v427 : BitVec 1 := Scalar.cmpi .slt v426 v223
  let v428 : BitVec 32 := Scalar.extui v427
  let c0_i32_203 : BitVec 32 := 0#32
  let v429 : BitVec 1 := Scalar.cmpi .ne v428 c0_i32_203
  v429

def k0_off60 (v11_1 : BitVec 32) (k0_t10 : Fin (k0_t10_loop v11_1).trips) : Fin 1 → Nat :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_204 : BitVec 32 := 4#32
  let v430 : BitVec 32 := Scalar.muli arg22 c4_i32_204
  let c2_i32_205 : BitVec 32 := 2#32
  let v431 : BitVec 32 := Scalar.addi v430 c2_i32_205
  let c128_i32_245 : BitVec 32 := 128#32
  let v500 : BitVec 32 := Scalar.muli v431 c128_i32_245
  ![v500.toNat]
def k0_cond51 (v11_1 : BitVec 32) (k0_t10 : Fin (k0_t10_loop v11_1).trips) : BitVec 1 :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_204 : BitVec 32 := 4#32
  let v430 : BitVec 32 := Scalar.muli arg22 c4_i32_204
  let c2_i32_205 : BitVec 32 := 2#32
  let v431 : BitVec 32 := Scalar.addi v430 c2_i32_205
  let v432 : BitVec 1 := Scalar.cmpi .slt v431 v223
  let v433 : BitVec 32 := Scalar.extui v432
  let c0_i32_206 : BitVec 32 := 0#32
  let v434 : BitVec 1 := Scalar.cmpi .ne v433 c0_i32_206
  v434

def k0_off61 (v11_1 : BitVec 32) (k0_t10 : Fin (k0_t10_loop v11_1).trips) : Fin 1 → Nat :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_207 : BitVec 32 := 4#32
  let v435 : BitVec 32 := Scalar.muli arg22 c4_i32_207
  let c3_i32 : BitVec 32 := 3#32
  let v436 : BitVec 32 := Scalar.addi v435 c3_i32
  let c128_i32_245 : BitVec 32 := 128#32
  let v500 : BitVec 32 := Scalar.muli v436 c128_i32_245
  ![v500.toNat]
def k0_cond52 (v11_1 : BitVec 32) (k0_t10 : Fin (k0_t10_loop v11_1).trips) : BitVec 1 :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_207 : BitVec 32 := 4#32
  let v435 : BitVec 32 := Scalar.muli arg22 c4_i32_207
  let c3_i32 : BitVec 32 := 3#32
  let v436 : BitVec 32 := Scalar.addi v435 c3_i32
  let v437 : BitVec 1 := Scalar.cmpi .slt v436 v223
  let v438 : BitVec 32 := Scalar.extui v437
  let c0_i32_208 : BitVec 32 := 0#32
  let v439 : BitVec 1 := Scalar.cmpi .ne v438 c0_i32_208
  v439

def k0_off62 (v11_1 : BitVec 32) (k0_t10 : Fin (k0_t10_loop v11_1).trips) : Fin 1 → Nat :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_209 : BitVec 32 := 4#32
  let v440 : BitVec 32 := Scalar.muli arg22 c4_i32_209
  let c0_i32_210 : BitVec 32 := 0#32
  let v441 : BitVec 32 := Scalar.addi v440 c0_i32_210
  let c128_i32_245 : BitVec 32 := 128#32
  let v500 : BitVec 32 := Scalar.muli v441 c128_i32_245
  ![v500.toNat]
def k0_cond53 (v11_1 : BitVec 32) (k0_t10 : Fin (k0_t10_loop v11_1).trips) : BitVec 1 :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_209 : BitVec 32 := 4#32
  let v440 : BitVec 32 := Scalar.muli arg22 c4_i32_209
  let c0_i32_210 : BitVec 32 := 0#32
  let v441 : BitVec 32 := Scalar.addi v440 c0_i32_210
  let v442 : BitVec 1 := Scalar.cmpi .slt v441 v223
  let v443 : BitVec 32 := Scalar.extui v442
  let c0_i32_211 : BitVec 32 := 0#32
  let v444 : BitVec 1 := Scalar.cmpi .ne v443 c0_i32_211
  v444

def k0_off63 (v11_1 : BitVec 32) (k0_t10 : Fin (k0_t10_loop v11_1).trips) : Fin 1 → Nat :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_212 : BitVec 32 := 4#32
  let v445 : BitVec 32 := Scalar.muli arg22 c4_i32_212
  let c1_i32_213 : BitVec 32 := 1#32
  let v446 : BitVec 32 := Scalar.addi v445 c1_i32_213
  let c128_i32_245 : BitVec 32 := 128#32
  let v500 : BitVec 32 := Scalar.muli v446 c128_i32_245
  ![v500.toNat]
def k0_cond54 (v11_1 : BitVec 32) (k0_t10 : Fin (k0_t10_loop v11_1).trips) : BitVec 1 :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_212 : BitVec 32 := 4#32
  let v445 : BitVec 32 := Scalar.muli arg22 c4_i32_212
  let c1_i32_213 : BitVec 32 := 1#32
  let v446 : BitVec 32 := Scalar.addi v445 c1_i32_213
  let v447 : BitVec 1 := Scalar.cmpi .slt v446 v223
  let v448 : BitVec 32 := Scalar.extui v447
  let c0_i32_214 : BitVec 32 := 0#32
  let v449 : BitVec 1 := Scalar.cmpi .ne v448 c0_i32_214
  v449

def k0_off64 (v11_1 : BitVec 32) (k0_t10 : Fin (k0_t10_loop v11_1).trips) : Fin 1 → Nat :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_215 : BitVec 32 := 4#32
  let v450 : BitVec 32 := Scalar.muli arg22 c4_i32_215
  let c2_i32_216 : BitVec 32 := 2#32
  let v451 : BitVec 32 := Scalar.addi v450 c2_i32_216
  let c128_i32_245 : BitVec 32 := 128#32
  let v500 : BitVec 32 := Scalar.muli v451 c128_i32_245
  ![v500.toNat]
def k0_cond55 (v11_1 : BitVec 32) (k0_t10 : Fin (k0_t10_loop v11_1).trips) : BitVec 1 :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_215 : BitVec 32 := 4#32
  let v450 : BitVec 32 := Scalar.muli arg22 c4_i32_215
  let c2_i32_216 : BitVec 32 := 2#32
  let v451 : BitVec 32 := Scalar.addi v450 c2_i32_216
  let v452 : BitVec 1 := Scalar.cmpi .slt v451 v223
  let v453 : BitVec 32 := Scalar.extui v452
  let c0_i32_217 : BitVec 32 := 0#32
  let v454 : BitVec 1 := Scalar.cmpi .ne v453 c0_i32_217
  v454

def k0_off65 (v11_1 : BitVec 32) (k0_t10 : Fin (k0_t10_loop v11_1).trips) : Fin 1 → Nat :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_218 : BitVec 32 := 4#32
  let v455 : BitVec 32 := Scalar.muli arg22 c4_i32_218
  let c3_i32_219 : BitVec 32 := 3#32
  let v456 : BitVec 32 := Scalar.addi v455 c3_i32_219
  let c128_i32_245 : BitVec 32 := 128#32
  let v500 : BitVec 32 := Scalar.muli v456 c128_i32_245
  ![v500.toNat]
def k0_cond56 (v11_1 : BitVec 32) (k0_t10 : Fin (k0_t10_loop v11_1).trips) : BitVec 1 :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_218 : BitVec 32 := 4#32
  let v455 : BitVec 32 := Scalar.muli arg22 c4_i32_218
  let c3_i32_219 : BitVec 32 := 3#32
  let v456 : BitVec 32 := Scalar.addi v455 c3_i32_219
  let v457 : BitVec 1 := Scalar.cmpi .slt v456 v223
  let v458 : BitVec 32 := Scalar.extui v457
  let c0_i32_220 : BitVec 32 := 0#32
  let v459 : BitVec 1 := Scalar.cmpi .ne v458 c0_i32_220
  v459

def k0_off66 (v11_1 : BitVec 32) (k0_t10 : Fin (k0_t10_loop v11_1).trips) : Fin 1 → Nat :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_221 : BitVec 32 := 4#32
  let v460 : BitVec 32 := Scalar.muli arg22 c4_i32_221
  let c0_i32_222 : BitVec 32 := 0#32
  let v461 : BitVec 32 := Scalar.addi v460 c0_i32_222
  let c128_i32_245 : BitVec 32 := 128#32
  let v500 : BitVec 32 := Scalar.muli v461 c128_i32_245
  ![v500.toNat]
def k0_cond57 (v11_1 : BitVec 32) (k0_t10 : Fin (k0_t10_loop v11_1).trips) : BitVec 1 :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_221 : BitVec 32 := 4#32
  let v460 : BitVec 32 := Scalar.muli arg22 c4_i32_221
  let c0_i32_222 : BitVec 32 := 0#32
  let v461 : BitVec 32 := Scalar.addi v460 c0_i32_222
  let v462 : BitVec 1 := Scalar.cmpi .slt v461 v223
  let v463 : BitVec 32 := Scalar.extui v462
  let c0_i32_223 : BitVec 32 := 0#32
  let v464 : BitVec 1 := Scalar.cmpi .ne v463 c0_i32_223
  v464

def k0_off67 (v11_1 : BitVec 32) (k0_t10 : Fin (k0_t10_loop v11_1).trips) : Fin 1 → Nat :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_224 : BitVec 32 := 4#32
  let v465 : BitVec 32 := Scalar.muli arg22 c4_i32_224
  let c1_i32_225 : BitVec 32 := 1#32
  let v466 : BitVec 32 := Scalar.addi v465 c1_i32_225
  let c128_i32_245 : BitVec 32 := 128#32
  let v500 : BitVec 32 := Scalar.muli v466 c128_i32_245
  ![v500.toNat]
def k0_cond58 (v11_1 : BitVec 32) (k0_t10 : Fin (k0_t10_loop v11_1).trips) : BitVec 1 :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_224 : BitVec 32 := 4#32
  let v465 : BitVec 32 := Scalar.muli arg22 c4_i32_224
  let c1_i32_225 : BitVec 32 := 1#32
  let v466 : BitVec 32 := Scalar.addi v465 c1_i32_225
  let v467 : BitVec 1 := Scalar.cmpi .slt v466 v223
  let v468 : BitVec 32 := Scalar.extui v467
  let c0_i32_226 : BitVec 32 := 0#32
  let v469 : BitVec 1 := Scalar.cmpi .ne v468 c0_i32_226
  v469

def k0_off68 (v11_1 : BitVec 32) (k0_t10 : Fin (k0_t10_loop v11_1).trips) : Fin 1 → Nat :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_227 : BitVec 32 := 4#32
  let v470 : BitVec 32 := Scalar.muli arg22 c4_i32_227
  let c2_i32_228 : BitVec 32 := 2#32
  let v471 : BitVec 32 := Scalar.addi v470 c2_i32_228
  let c128_i32_245 : BitVec 32 := 128#32
  let v500 : BitVec 32 := Scalar.muli v471 c128_i32_245
  ![v500.toNat]
def k0_cond59 (v11_1 : BitVec 32) (k0_t10 : Fin (k0_t10_loop v11_1).trips) : BitVec 1 :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_227 : BitVec 32 := 4#32
  let v470 : BitVec 32 := Scalar.muli arg22 c4_i32_227
  let c2_i32_228 : BitVec 32 := 2#32
  let v471 : BitVec 32 := Scalar.addi v470 c2_i32_228
  let v472 : BitVec 1 := Scalar.cmpi .slt v471 v223
  let v473 : BitVec 32 := Scalar.extui v472
  let c0_i32_229 : BitVec 32 := 0#32
  let v474 : BitVec 1 := Scalar.cmpi .ne v473 c0_i32_229
  v474

def k0_off69 (v11_1 : BitVec 32) (k0_t10 : Fin (k0_t10_loop v11_1).trips) : Fin 1 → Nat :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_230 : BitVec 32 := 4#32
  let v475 : BitVec 32 := Scalar.muli arg22 c4_i32_230
  let c3_i32_231 : BitVec 32 := 3#32
  let v476 : BitVec 32 := Scalar.addi v475 c3_i32_231
  let c128_i32_245 : BitVec 32 := 128#32
  let v500 : BitVec 32 := Scalar.muli v476 c128_i32_245
  ![v500.toNat]
def k0_cond60 (v11_1 : BitVec 32) (k0_t10 : Fin (k0_t10_loop v11_1).trips) : BitVec 1 :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_230 : BitVec 32 := 4#32
  let v475 : BitVec 32 := Scalar.muli arg22 c4_i32_230
  let c3_i32_231 : BitVec 32 := 3#32
  let v476 : BitVec 32 := Scalar.addi v475 c3_i32_231
  let v477 : BitVec 1 := Scalar.cmpi .slt v476 v223
  let v478 : BitVec 32 := Scalar.extui v477
  let c0_i32_232 : BitVec 32 := 0#32
  let v479 : BitVec 1 := Scalar.cmpi .ne v478 c0_i32_232
  v479

def k0_off70 (v11_1 : BitVec 32) (k0_t10 : Fin (k0_t10_loop v11_1).trips) : Fin 1 → Nat :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_233 : BitVec 32 := 4#32
  let v480 : BitVec 32 := Scalar.muli arg22 c4_i32_233
  let c0_i32_234 : BitVec 32 := 0#32
  let v481 : BitVec 32 := Scalar.addi v480 c0_i32_234
  let c128_i32_245 : BitVec 32 := 128#32
  let v500 : BitVec 32 := Scalar.muli v481 c128_i32_245
  ![v500.toNat]
def k0_cond61 (v11_1 : BitVec 32) (k0_t10 : Fin (k0_t10_loop v11_1).trips) : BitVec 1 :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_233 : BitVec 32 := 4#32
  let v480 : BitVec 32 := Scalar.muli arg22 c4_i32_233
  let c0_i32_234 : BitVec 32 := 0#32
  let v481 : BitVec 32 := Scalar.addi v480 c0_i32_234
  let v482 : BitVec 1 := Scalar.cmpi .slt v481 v223
  let v483 : BitVec 32 := Scalar.extui v482
  let c0_i32_235 : BitVec 32 := 0#32
  let v484 : BitVec 1 := Scalar.cmpi .ne v483 c0_i32_235
  v484

def k0_off71 (v11_1 : BitVec 32) (k0_t10 : Fin (k0_t10_loop v11_1).trips) : Fin 1 → Nat :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_236 : BitVec 32 := 4#32
  let v485 : BitVec 32 := Scalar.muli arg22 c4_i32_236
  let c1_i32_237 : BitVec 32 := 1#32
  let v486 : BitVec 32 := Scalar.addi v485 c1_i32_237
  let c128_i32_245 : BitVec 32 := 128#32
  let v500 : BitVec 32 := Scalar.muli v486 c128_i32_245
  ![v500.toNat]
def k0_cond62 (v11_1 : BitVec 32) (k0_t10 : Fin (k0_t10_loop v11_1).trips) : BitVec 1 :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_236 : BitVec 32 := 4#32
  let v485 : BitVec 32 := Scalar.muli arg22 c4_i32_236
  let c1_i32_237 : BitVec 32 := 1#32
  let v486 : BitVec 32 := Scalar.addi v485 c1_i32_237
  let v487 : BitVec 1 := Scalar.cmpi .slt v486 v223
  let v488 : BitVec 32 := Scalar.extui v487
  let c0_i32_238 : BitVec 32 := 0#32
  let v489 : BitVec 1 := Scalar.cmpi .ne v488 c0_i32_238
  v489

def k0_off72 (v11_1 : BitVec 32) (k0_t10 : Fin (k0_t10_loop v11_1).trips) : Fin 1 → Nat :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_239 : BitVec 32 := 4#32
  let v490 : BitVec 32 := Scalar.muli arg22 c4_i32_239
  let c2_i32_240 : BitVec 32 := 2#32
  let v491 : BitVec 32 := Scalar.addi v490 c2_i32_240
  let c128_i32_245 : BitVec 32 := 128#32
  let v500 : BitVec 32 := Scalar.muli v491 c128_i32_245
  ![v500.toNat]
def k0_cond63 (v11_1 : BitVec 32) (k0_t10 : Fin (k0_t10_loop v11_1).trips) : BitVec 1 :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_239 : BitVec 32 := 4#32
  let v490 : BitVec 32 := Scalar.muli arg22 c4_i32_239
  let c2_i32_240 : BitVec 32 := 2#32
  let v491 : BitVec 32 := Scalar.addi v490 c2_i32_240
  let v492 : BitVec 1 := Scalar.cmpi .slt v491 v223
  let v493 : BitVec 32 := Scalar.extui v492
  let c0_i32_241 : BitVec 32 := 0#32
  let v494 : BitVec 1 := Scalar.cmpi .ne v493 c0_i32_241
  v494

def k0_off73 (v11_1 : BitVec 32) (k0_t10 : Fin (k0_t10_loop v11_1).trips) : Fin 1 → Nat :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_242 : BitVec 32 := 4#32
  let v495 : BitVec 32 := Scalar.muli arg22 c4_i32_242
  let c3_i32_243 : BitVec 32 := 3#32
  let v496 : BitVec 32 := Scalar.addi v495 c3_i32_243
  let c128_i32_245 : BitVec 32 := 128#32
  let v500 : BitVec 32 := Scalar.muli v496 c128_i32_245
  ![v500.toNat]
def k0_cond64 (v11_1 : BitVec 32) (k0_t10 : Fin (k0_t10_loop v11_1).trips) : BitVec 1 :=
  let c0_i32_102 : BitVec 32 := 0#32
  let c128_i32_83 : BitVec 32 := 128#32
  let v205 : BitVec 32 := Scalar.addi v11_1 c128_i32_83
  let c1_i32_84 : BitVec 32 := 1#32
  let v206 : BitVec 32 := Scalar.subi v205 c1_i32_84
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c128_i32_85 : BitVec 32 := 128#32
  let c0_i32_88 : BitVec 32 := 0#32
  let v213 : BitVec 1 := Scalar.cmpi .sgt c128_i32_85 c0_i32_88
  let v214 : BitVec 32 := Scalar.extui v213
  let c0_i32_89 : BitVec 32 := 0#32
  let v215 : BitVec 1 := Scalar.cmpi .slt c128_i32_85 c0_i32_89
  let v216 : BitVec 32 := Scalar.extui v215
  let v217 : BitVec 32 := Scalar.subi v214 v216
  let v218 : BitVec 1 := Scalar.cmpi .ne v212 v217
  let v219 : BitVec 32 := Scalar.remsi v206 c128_i32_85
  let c0_i32_90 : BitVec 32 := 0#32
  let v220 : BitVec 1 := Scalar.cmpi .ne v219 c0_i32_90
  let v221 : BitVec 1 := Scalar.andi v218 v220
  let v207 : BitVec 32 := Scalar.divsi v206 c128_i32_85
  let c1_i32_91 : BitVec 32 := 1#32
  let v222 : BitVec 32 := Scalar.subi v207 c1_i32_91
  let v223 : BitVec 32 := Scalar.select v221 v222 v207
  let c4_i32_92 : BitVec 32 := 4#32
  let v224 : BitVec 32 := Scalar.addi v223 c4_i32_92
  let c1_i32_93 : BitVec 32 := 1#32
  let v225 : BitVec 32 := Scalar.subi v224 c1_i32_93
  let c0_i32_95 : BitVec 32 := 0#32
  let v227 : BitVec 1 := Scalar.cmpi .sgt v225 c0_i32_95
  let v228 : BitVec 32 := Scalar.extui v227
  let c0_i32_96 : BitVec 32 := 0#32
  let v229 : BitVec 1 := Scalar.cmpi .slt v225 c0_i32_96
  let v230 : BitVec 32 := Scalar.extui v229
  let v231 : BitVec 32 := Scalar.subi v228 v230
  let c4_i32_94 : BitVec 32 := 4#32
  let c0_i32_97 : BitVec 32 := 0#32
  let v232 : BitVec 1 := Scalar.cmpi .sgt c4_i32_94 c0_i32_97
  let v233 : BitVec 32 := Scalar.extui v232
  let c0_i32_98 : BitVec 32 := 0#32
  let v234 : BitVec 1 := Scalar.cmpi .slt c4_i32_94 c0_i32_98
  let v235 : BitVec 32 := Scalar.extui v234
  let v236 : BitVec 32 := Scalar.subi v233 v235
  let v237 : BitVec 1 := Scalar.cmpi .ne v231 v236
  let v238 : BitVec 32 := Scalar.remsi v225 c4_i32_94
  let c0_i32_99 : BitVec 32 := 0#32
  let v239 : BitVec 1 := Scalar.cmpi .ne v238 c0_i32_99
  let v240 : BitVec 1 := Scalar.andi v237 v239
  let v226 : BitVec 32 := Scalar.divsi v225 c4_i32_94
  let c1_i32_100 : BitVec 32 := 1#32
  let v241 : BitVec 32 := Scalar.subi v226 c1_i32_100
  let v242 : BitVec 32 := Scalar.select v240 v241 v226
  let v243 : BitVec 32 := Scalar.subi v242 c0_i32_102
  let c1_i32_103 : BitVec 32 := 1#32
  let v245 : BitVec 32 := Scalar.divsi v243 c1_i32_103
  let v246 : BitVec 32 := Scalar.muli v245 c1_i32_103
  let v247 : BitVec 32 := Scalar.addi c0_i32_102 v246
  let c1_i32_105 : BitVec 32 := 1#32
  let arg22 : BitVec 32 := Scf.iv v247 c1_i32_105 k0_t10
  let c4_i32_242 : BitVec 32 := 4#32
  let v495 : BitVec 32 := Scalar.muli arg22 c4_i32_242
  let c3_i32_243 : BitVec 32 := 3#32
  let v496 : BitVec 32 := Scalar.addi v495 c3_i32_243
  let v497 : BitVec 1 := Scalar.cmpi .slt v496 v223
  let v498 : BitVec 32 := Scalar.extui v497
  let c0_i32_244 : BitVec 32 := 0#32
  let v499 : BitVec 1 := Scalar.cmpi .ne v498 c0_i32_244
  v499

@[reducible] def k0_t11_loop (v11_2 : BitVec 32) : Scf.Loop 32 :=
  let c0_i32_125 : BitVec 32 := 0#32
  let c128_i32_106 : BitVec 32 := 128#32
  let v248 : BitVec 32 := Scalar.addi v11_2 c128_i32_106
  let c1_i32_107 : BitVec 32 := 1#32
  let v249 : BitVec 32 := Scalar.subi v248 c1_i32_107
  let c0_i32_109 : BitVec 32 := 0#32
  let v251 : BitVec 1 := Scalar.cmpi .sgt v249 c0_i32_109
  let v252 : BitVec 32 := Scalar.extui v251
  let c0_i32_110 : BitVec 32 := 0#32
  let v253 : BitVec 1 := Scalar.cmpi .slt v249 c0_i32_110
  let v254 : BitVec 32 := Scalar.extui v253
  let v255 : BitVec 32 := Scalar.subi v252 v254
  let c128_i32_108 : BitVec 32 := 128#32
  let c0_i32_111 : BitVec 32 := 0#32
  let v256 : BitVec 1 := Scalar.cmpi .sgt c128_i32_108 c0_i32_111
  let v257 : BitVec 32 := Scalar.extui v256
  let c0_i32_112 : BitVec 32 := 0#32
  let v258 : BitVec 1 := Scalar.cmpi .slt c128_i32_108 c0_i32_112
  let v259 : BitVec 32 := Scalar.extui v258
  let v260 : BitVec 32 := Scalar.subi v257 v259
  let v261 : BitVec 1 := Scalar.cmpi .ne v255 v260
  let v262 : BitVec 32 := Scalar.remsi v249 c128_i32_108
  let c0_i32_113 : BitVec 32 := 0#32
  let v263 : BitVec 1 := Scalar.cmpi .ne v262 c0_i32_113
  let v264 : BitVec 1 := Scalar.andi v261 v263
  let v250 : BitVec 32 := Scalar.divsi v249 c128_i32_108
  let c1_i32_114 : BitVec 32 := 1#32
  let v265 : BitVec 32 := Scalar.subi v250 c1_i32_114
  let v266 : BitVec 32 := Scalar.select v264 v265 v250
  let c4_i32_115 : BitVec 32 := 4#32
  let v267 : BitVec 32 := Scalar.addi v266 c4_i32_115
  let c1_i32_116 : BitVec 32 := 1#32
  let v268 : BitVec 32 := Scalar.subi v267 c1_i32_116
  let c0_i32_118 : BitVec 32 := 0#32
  let v270 : BitVec 1 := Scalar.cmpi .sgt v268 c0_i32_118
  let v271 : BitVec 32 := Scalar.extui v270
  let c0_i32_119 : BitVec 32 := 0#32
  let v272 : BitVec 1 := Scalar.cmpi .slt v268 c0_i32_119
  let v273 : BitVec 32 := Scalar.extui v272
  let v274 : BitVec 32 := Scalar.subi v271 v273
  let c4_i32_117 : BitVec 32 := 4#32
  let c0_i32_120 : BitVec 32 := 0#32
  let v275 : BitVec 1 := Scalar.cmpi .sgt c4_i32_117 c0_i32_120
  let v276 : BitVec 32 := Scalar.extui v275
  let c0_i32_121 : BitVec 32 := 0#32
  let v277 : BitVec 1 := Scalar.cmpi .slt c4_i32_117 c0_i32_121
  let v278 : BitVec 32 := Scalar.extui v277
  let v279 : BitVec 32 := Scalar.subi v276 v278
  let v280 : BitVec 1 := Scalar.cmpi .ne v274 v279
  let v281 : BitVec 32 := Scalar.remsi v268 c4_i32_117
  let c0_i32_122 : BitVec 32 := 0#32
  let v282 : BitVec 1 := Scalar.cmpi .ne v281 c0_i32_122
  let v283 : BitVec 1 := Scalar.andi v280 v282
  let v269 : BitVec 32 := Scalar.divsi v268 c4_i32_117
  let c1_i32_123 : BitVec 32 := 1#32
  let v284 : BitVec 32 := Scalar.subi v269 c1_i32_123
  let v285 : BitVec 32 := Scalar.select v283 v284 v269
  let v286 : BitVec 32 := Scalar.subi v285 c0_i32_125
  let c1_i32_126 : BitVec 32 := 1#32
  let v288 : BitVec 32 := Scalar.divsi v286 c1_i32_126
  let v289 : BitVec 32 := Scalar.muli v288 c1_i32_126
  let v290 : BitVec 32 := Scalar.addi c0_i32_125 v289
  let c1_i32_127 : BitVec 32 := 1#32
  ⟨c0_i32_125, v290, c1_i32_127⟩
def k0_off74 (v11_2 : BitVec 32) (k0_t11 : Fin (k0_t11_loop v11_2).trips) : Fin 1 → Nat :=
  let c0_i32_125 : BitVec 32 := 0#32
  let c1_i32_127 : BitVec 32 := 1#32
  let arg22 : BitVec 32 := Scf.iv c0_i32_125 c1_i32_127 k0_t11
  let c4_i32_198 : BitVec 32 := 4#32
  let v420 : BitVec 32 := Scalar.muli arg22 c4_i32_198
  let c0_i32_199 : BitVec 32 := 0#32
  let v421 : BitVec 32 := Scalar.addi v420 c0_i32_199
  let c128_i32_221 : BitVec 32 := 128#32
  let v460 : BitVec 32 := Scalar.muli v421 c128_i32_221
  ![v460.toNat]
def k0_cond65 (v11_2 : BitVec 32) (k0_t11 : Fin (k0_t11_loop v11_2).trips) : BitVec 1 :=
  let c0_i32_125 : BitVec 32 := 0#32
  let c1_i32_127 : BitVec 32 := 1#32
  let arg22 : BitVec 32 := Scf.iv c0_i32_125 c1_i32_127 k0_t11
  let c4_i32_198 : BitVec 32 := 4#32
  let v420 : BitVec 32 := Scalar.muli arg22 c4_i32_198
  let c0_i32_199 : BitVec 32 := 0#32
  let v421 : BitVec 32 := Scalar.addi v420 c0_i32_199
  let c128_i32_106 : BitVec 32 := 128#32
  let v248 : BitVec 32 := Scalar.addi v11_2 c128_i32_106
  let c1_i32_107 : BitVec 32 := 1#32
  let v249 : BitVec 32 := Scalar.subi v248 c1_i32_107
  let c0_i32_109 : BitVec 32 := 0#32
  let v251 : BitVec 1 := Scalar.cmpi .sgt v249 c0_i32_109
  let v252 : BitVec 32 := Scalar.extui v251
  let c0_i32_110 : BitVec 32 := 0#32
  let v253 : BitVec 1 := Scalar.cmpi .slt v249 c0_i32_110
  let v254 : BitVec 32 := Scalar.extui v253
  let v255 : BitVec 32 := Scalar.subi v252 v254
  let c128_i32_108 : BitVec 32 := 128#32
  let c0_i32_111 : BitVec 32 := 0#32
  let v256 : BitVec 1 := Scalar.cmpi .sgt c128_i32_108 c0_i32_111
  let v257 : BitVec 32 := Scalar.extui v256
  let c0_i32_112 : BitVec 32 := 0#32
  let v258 : BitVec 1 := Scalar.cmpi .slt c128_i32_108 c0_i32_112
  let v259 : BitVec 32 := Scalar.extui v258
  let v260 : BitVec 32 := Scalar.subi v257 v259
  let v261 : BitVec 1 := Scalar.cmpi .ne v255 v260
  let v262 : BitVec 32 := Scalar.remsi v249 c128_i32_108
  let c0_i32_113 : BitVec 32 := 0#32
  let v263 : BitVec 1 := Scalar.cmpi .ne v262 c0_i32_113
  let v264 : BitVec 1 := Scalar.andi v261 v263
  let v250 : BitVec 32 := Scalar.divsi v249 c128_i32_108
  let c1_i32_114 : BitVec 32 := 1#32
  let v265 : BitVec 32 := Scalar.subi v250 c1_i32_114
  let v266 : BitVec 32 := Scalar.select v264 v265 v250
  let v422 : BitVec 1 := Scalar.cmpi .slt v421 v266
  let v423 : BitVec 32 := Scalar.extui v422
  let c0_i32_200 : BitVec 32 := 0#32
  let v424 : BitVec 1 := Scalar.cmpi .ne v423 c0_i32_200
  v424

def k0_off75 (v11_2 : BitVec 32) (k0_t11 : Fin (k0_t11_loop v11_2).trips) : Fin 1 → Nat :=
  let c0_i32_125 : BitVec 32 := 0#32
  let c1_i32_127 : BitVec 32 := 1#32
  let arg22 : BitVec 32 := Scf.iv c0_i32_125 c1_i32_127 k0_t11
  let c4_i32_201 : BitVec 32 := 4#32
  let v425 : BitVec 32 := Scalar.muli arg22 c4_i32_201
  let c1_i32_202 : BitVec 32 := 1#32
  let v426 : BitVec 32 := Scalar.addi v425 c1_i32_202
  let c128_i32_221 : BitVec 32 := 128#32
  let v460 : BitVec 32 := Scalar.muli v426 c128_i32_221
  ![v460.toNat]
def k0_cond66 (v11_2 : BitVec 32) (k0_t11 : Fin (k0_t11_loop v11_2).trips) : BitVec 1 :=
  let c0_i32_125 : BitVec 32 := 0#32
  let c1_i32_127 : BitVec 32 := 1#32
  let arg22 : BitVec 32 := Scf.iv c0_i32_125 c1_i32_127 k0_t11
  let c4_i32_201 : BitVec 32 := 4#32
  let v425 : BitVec 32 := Scalar.muli arg22 c4_i32_201
  let c1_i32_202 : BitVec 32 := 1#32
  let v426 : BitVec 32 := Scalar.addi v425 c1_i32_202
  let c128_i32_106 : BitVec 32 := 128#32
  let v248 : BitVec 32 := Scalar.addi v11_2 c128_i32_106
  let c1_i32_107 : BitVec 32 := 1#32
  let v249 : BitVec 32 := Scalar.subi v248 c1_i32_107
  let c0_i32_109 : BitVec 32 := 0#32
  let v251 : BitVec 1 := Scalar.cmpi .sgt v249 c0_i32_109
  let v252 : BitVec 32 := Scalar.extui v251
  let c0_i32_110 : BitVec 32 := 0#32
  let v253 : BitVec 1 := Scalar.cmpi .slt v249 c0_i32_110
  let v254 : BitVec 32 := Scalar.extui v253
  let v255 : BitVec 32 := Scalar.subi v252 v254
  let c128_i32_108 : BitVec 32 := 128#32
  let c0_i32_111 : BitVec 32 := 0#32
  let v256 : BitVec 1 := Scalar.cmpi .sgt c128_i32_108 c0_i32_111
  let v257 : BitVec 32 := Scalar.extui v256
  let c0_i32_112 : BitVec 32 := 0#32
  let v258 : BitVec 1 := Scalar.cmpi .slt c128_i32_108 c0_i32_112
  let v259 : BitVec 32 := Scalar.extui v258
  let v260 : BitVec 32 := Scalar.subi v257 v259
  let v261 : BitVec 1 := Scalar.cmpi .ne v255 v260
  let v262 : BitVec 32 := Scalar.remsi v249 c128_i32_108
  let c0_i32_113 : BitVec 32 := 0#32
  let v263 : BitVec 1 := Scalar.cmpi .ne v262 c0_i32_113
  let v264 : BitVec 1 := Scalar.andi v261 v263
  let v250 : BitVec 32 := Scalar.divsi v249 c128_i32_108
  let c1_i32_114 : BitVec 32 := 1#32
  let v265 : BitVec 32 := Scalar.subi v250 c1_i32_114
  let v266 : BitVec 32 := Scalar.select v264 v265 v250
  let v427 : BitVec 1 := Scalar.cmpi .slt v426 v266
  let v428 : BitVec 32 := Scalar.extui v427
  let c0_i32_203 : BitVec 32 := 0#32
  let v429 : BitVec 1 := Scalar.cmpi .ne v428 c0_i32_203
  v429

def k0_off76 (v11_2 : BitVec 32) (k0_t11 : Fin (k0_t11_loop v11_2).trips) : Fin 1 → Nat :=
  let c0_i32_125 : BitVec 32 := 0#32
  let c1_i32_127 : BitVec 32 := 1#32
  let arg22 : BitVec 32 := Scf.iv c0_i32_125 c1_i32_127 k0_t11
  let c4_i32_204 : BitVec 32 := 4#32
  let v430 : BitVec 32 := Scalar.muli arg22 c4_i32_204
  let c2_i32_205 : BitVec 32 := 2#32
  let v431 : BitVec 32 := Scalar.addi v430 c2_i32_205
  let c128_i32_221 : BitVec 32 := 128#32
  let v460 : BitVec 32 := Scalar.muli v431 c128_i32_221
  ![v460.toNat]
def k0_cond67 (v11_2 : BitVec 32) (k0_t11 : Fin (k0_t11_loop v11_2).trips) : BitVec 1 :=
  let c0_i32_125 : BitVec 32 := 0#32
  let c1_i32_127 : BitVec 32 := 1#32
  let arg22 : BitVec 32 := Scf.iv c0_i32_125 c1_i32_127 k0_t11
  let c4_i32_204 : BitVec 32 := 4#32
  let v430 : BitVec 32 := Scalar.muli arg22 c4_i32_204
  let c2_i32_205 : BitVec 32 := 2#32
  let v431 : BitVec 32 := Scalar.addi v430 c2_i32_205
  let c128_i32_106 : BitVec 32 := 128#32
  let v248 : BitVec 32 := Scalar.addi v11_2 c128_i32_106
  let c1_i32_107 : BitVec 32 := 1#32
  let v249 : BitVec 32 := Scalar.subi v248 c1_i32_107
  let c0_i32_109 : BitVec 32 := 0#32
  let v251 : BitVec 1 := Scalar.cmpi .sgt v249 c0_i32_109
  let v252 : BitVec 32 := Scalar.extui v251
  let c0_i32_110 : BitVec 32 := 0#32
  let v253 : BitVec 1 := Scalar.cmpi .slt v249 c0_i32_110
  let v254 : BitVec 32 := Scalar.extui v253
  let v255 : BitVec 32 := Scalar.subi v252 v254
  let c128_i32_108 : BitVec 32 := 128#32
  let c0_i32_111 : BitVec 32 := 0#32
  let v256 : BitVec 1 := Scalar.cmpi .sgt c128_i32_108 c0_i32_111
  let v257 : BitVec 32 := Scalar.extui v256
  let c0_i32_112 : BitVec 32 := 0#32
  let v258 : BitVec 1 := Scalar.cmpi .slt c128_i32_108 c0_i32_112
  let v259 : BitVec 32 := Scalar.extui v258
  let v260 : BitVec 32 := Scalar.subi v257 v259
  let v261 : BitVec 1 := Scalar.cmpi .ne v255 v260
  let v262 : BitVec 32 := Scalar.remsi v249 c128_i32_108
  let c0_i32_113 : BitVec 32 := 0#32
  let v263 : BitVec 1 := Scalar.cmpi .ne v262 c0_i32_113
  let v264 : BitVec 1 := Scalar.andi v261 v263
  let v250 : BitVec 32 := Scalar.divsi v249 c128_i32_108
  let c1_i32_114 : BitVec 32 := 1#32
  let v265 : BitVec 32 := Scalar.subi v250 c1_i32_114
  let v266 : BitVec 32 := Scalar.select v264 v265 v250
  let v432 : BitVec 1 := Scalar.cmpi .slt v431 v266
  let v433 : BitVec 32 := Scalar.extui v432
  let c0_i32_206 : BitVec 32 := 0#32
  let v434 : BitVec 1 := Scalar.cmpi .ne v433 c0_i32_206
  v434

def k0_off77 (v11_2 : BitVec 32) (k0_t11 : Fin (k0_t11_loop v11_2).trips) : Fin 1 → Nat :=
  let c0_i32_125 : BitVec 32 := 0#32
  let c1_i32_127 : BitVec 32 := 1#32
  let arg22 : BitVec 32 := Scf.iv c0_i32_125 c1_i32_127 k0_t11
  let c4_i32_207 : BitVec 32 := 4#32
  let v435 : BitVec 32 := Scalar.muli arg22 c4_i32_207
  let c3_i32 : BitVec 32 := 3#32
  let v436 : BitVec 32 := Scalar.addi v435 c3_i32
  let c128_i32_221 : BitVec 32 := 128#32
  let v460 : BitVec 32 := Scalar.muli v436 c128_i32_221
  ![v460.toNat]
def k0_cond68 (v11_2 : BitVec 32) (k0_t11 : Fin (k0_t11_loop v11_2).trips) : BitVec 1 :=
  let c0_i32_125 : BitVec 32 := 0#32
  let c1_i32_127 : BitVec 32 := 1#32
  let arg22 : BitVec 32 := Scf.iv c0_i32_125 c1_i32_127 k0_t11
  let c4_i32_207 : BitVec 32 := 4#32
  let v435 : BitVec 32 := Scalar.muli arg22 c4_i32_207
  let c3_i32 : BitVec 32 := 3#32
  let v436 : BitVec 32 := Scalar.addi v435 c3_i32
  let c128_i32_106 : BitVec 32 := 128#32
  let v248 : BitVec 32 := Scalar.addi v11_2 c128_i32_106
  let c1_i32_107 : BitVec 32 := 1#32
  let v249 : BitVec 32 := Scalar.subi v248 c1_i32_107
  let c0_i32_109 : BitVec 32 := 0#32
  let v251 : BitVec 1 := Scalar.cmpi .sgt v249 c0_i32_109
  let v252 : BitVec 32 := Scalar.extui v251
  let c0_i32_110 : BitVec 32 := 0#32
  let v253 : BitVec 1 := Scalar.cmpi .slt v249 c0_i32_110
  let v254 : BitVec 32 := Scalar.extui v253
  let v255 : BitVec 32 := Scalar.subi v252 v254
  let c128_i32_108 : BitVec 32 := 128#32
  let c0_i32_111 : BitVec 32 := 0#32
  let v256 : BitVec 1 := Scalar.cmpi .sgt c128_i32_108 c0_i32_111
  let v257 : BitVec 32 := Scalar.extui v256
  let c0_i32_112 : BitVec 32 := 0#32
  let v258 : BitVec 1 := Scalar.cmpi .slt c128_i32_108 c0_i32_112
  let v259 : BitVec 32 := Scalar.extui v258
  let v260 : BitVec 32 := Scalar.subi v257 v259
  let v261 : BitVec 1 := Scalar.cmpi .ne v255 v260
  let v262 : BitVec 32 := Scalar.remsi v249 c128_i32_108
  let c0_i32_113 : BitVec 32 := 0#32
  let v263 : BitVec 1 := Scalar.cmpi .ne v262 c0_i32_113
  let v264 : BitVec 1 := Scalar.andi v261 v263
  let v250 : BitVec 32 := Scalar.divsi v249 c128_i32_108
  let c1_i32_114 : BitVec 32 := 1#32
  let v265 : BitVec 32 := Scalar.subi v250 c1_i32_114
  let v266 : BitVec 32 := Scalar.select v264 v265 v250
  let v437 : BitVec 1 := Scalar.cmpi .slt v436 v266
  let v438 : BitVec 32 := Scalar.extui v437
  let c0_i32_208 : BitVec 32 := 0#32
  let v439 : BitVec 1 := Scalar.cmpi .ne v438 c0_i32_208
  v439

def k0_off78 (v11_2 : BitVec 32) (k0_t11 : Fin (k0_t11_loop v11_2).trips) : Fin 1 → Nat :=
  let c0_i32_125 : BitVec 32 := 0#32
  let c1_i32_127 : BitVec 32 := 1#32
  let arg22 : BitVec 32 := Scf.iv c0_i32_125 c1_i32_127 k0_t11
  let c4_i32_209 : BitVec 32 := 4#32
  let v440 : BitVec 32 := Scalar.muli arg22 c4_i32_209
  let c0_i32_210 : BitVec 32 := 0#32
  let v441 : BitVec 32 := Scalar.addi v440 c0_i32_210
  let c128_i32_221 : BitVec 32 := 128#32
  let v460 : BitVec 32 := Scalar.muli v441 c128_i32_221
  ![v460.toNat]
def k0_cond69 (v11_2 : BitVec 32) (k0_t11 : Fin (k0_t11_loop v11_2).trips) : BitVec 1 :=
  let c0_i32_125 : BitVec 32 := 0#32
  let c1_i32_127 : BitVec 32 := 1#32
  let arg22 : BitVec 32 := Scf.iv c0_i32_125 c1_i32_127 k0_t11
  let c4_i32_209 : BitVec 32 := 4#32
  let v440 : BitVec 32 := Scalar.muli arg22 c4_i32_209
  let c0_i32_210 : BitVec 32 := 0#32
  let v441 : BitVec 32 := Scalar.addi v440 c0_i32_210
  let c128_i32_106 : BitVec 32 := 128#32
  let v248 : BitVec 32 := Scalar.addi v11_2 c128_i32_106
  let c1_i32_107 : BitVec 32 := 1#32
  let v249 : BitVec 32 := Scalar.subi v248 c1_i32_107
  let c0_i32_109 : BitVec 32 := 0#32
  let v251 : BitVec 1 := Scalar.cmpi .sgt v249 c0_i32_109
  let v252 : BitVec 32 := Scalar.extui v251
  let c0_i32_110 : BitVec 32 := 0#32
  let v253 : BitVec 1 := Scalar.cmpi .slt v249 c0_i32_110
  let v254 : BitVec 32 := Scalar.extui v253
  let v255 : BitVec 32 := Scalar.subi v252 v254
  let c128_i32_108 : BitVec 32 := 128#32
  let c0_i32_111 : BitVec 32 := 0#32
  let v256 : BitVec 1 := Scalar.cmpi .sgt c128_i32_108 c0_i32_111
  let v257 : BitVec 32 := Scalar.extui v256
  let c0_i32_112 : BitVec 32 := 0#32
  let v258 : BitVec 1 := Scalar.cmpi .slt c128_i32_108 c0_i32_112
  let v259 : BitVec 32 := Scalar.extui v258
  let v260 : BitVec 32 := Scalar.subi v257 v259
  let v261 : BitVec 1 := Scalar.cmpi .ne v255 v260
  let v262 : BitVec 32 := Scalar.remsi v249 c128_i32_108
  let c0_i32_113 : BitVec 32 := 0#32
  let v263 : BitVec 1 := Scalar.cmpi .ne v262 c0_i32_113
  let v264 : BitVec 1 := Scalar.andi v261 v263
  let v250 : BitVec 32 := Scalar.divsi v249 c128_i32_108
  let c1_i32_114 : BitVec 32 := 1#32
  let v265 : BitVec 32 := Scalar.subi v250 c1_i32_114
  let v266 : BitVec 32 := Scalar.select v264 v265 v250
  let v442 : BitVec 1 := Scalar.cmpi .slt v441 v266
  let v443 : BitVec 32 := Scalar.extui v442
  let c0_i32_211 : BitVec 32 := 0#32
  let v444 : BitVec 1 := Scalar.cmpi .ne v443 c0_i32_211
  v444

def k0_off79 (v11_2 : BitVec 32) (k0_t11 : Fin (k0_t11_loop v11_2).trips) : Fin 1 → Nat :=
  let c0_i32_125 : BitVec 32 := 0#32
  let c1_i32_127 : BitVec 32 := 1#32
  let arg22 : BitVec 32 := Scf.iv c0_i32_125 c1_i32_127 k0_t11
  let c4_i32_212 : BitVec 32 := 4#32
  let v445 : BitVec 32 := Scalar.muli arg22 c4_i32_212
  let c1_i32_213 : BitVec 32 := 1#32
  let v446 : BitVec 32 := Scalar.addi v445 c1_i32_213
  let c128_i32_221 : BitVec 32 := 128#32
  let v460 : BitVec 32 := Scalar.muli v446 c128_i32_221
  ![v460.toNat]
def k0_cond70 (v11_2 : BitVec 32) (k0_t11 : Fin (k0_t11_loop v11_2).trips) : BitVec 1 :=
  let c0_i32_125 : BitVec 32 := 0#32
  let c1_i32_127 : BitVec 32 := 1#32
  let arg22 : BitVec 32 := Scf.iv c0_i32_125 c1_i32_127 k0_t11
  let c4_i32_212 : BitVec 32 := 4#32
  let v445 : BitVec 32 := Scalar.muli arg22 c4_i32_212
  let c1_i32_213 : BitVec 32 := 1#32
  let v446 : BitVec 32 := Scalar.addi v445 c1_i32_213
  let c128_i32_106 : BitVec 32 := 128#32
  let v248 : BitVec 32 := Scalar.addi v11_2 c128_i32_106
  let c1_i32_107 : BitVec 32 := 1#32
  let v249 : BitVec 32 := Scalar.subi v248 c1_i32_107
  let c0_i32_109 : BitVec 32 := 0#32
  let v251 : BitVec 1 := Scalar.cmpi .sgt v249 c0_i32_109
  let v252 : BitVec 32 := Scalar.extui v251
  let c0_i32_110 : BitVec 32 := 0#32
  let v253 : BitVec 1 := Scalar.cmpi .slt v249 c0_i32_110
  let v254 : BitVec 32 := Scalar.extui v253
  let v255 : BitVec 32 := Scalar.subi v252 v254
  let c128_i32_108 : BitVec 32 := 128#32
  let c0_i32_111 : BitVec 32 := 0#32
  let v256 : BitVec 1 := Scalar.cmpi .sgt c128_i32_108 c0_i32_111
  let v257 : BitVec 32 := Scalar.extui v256
  let c0_i32_112 : BitVec 32 := 0#32
  let v258 : BitVec 1 := Scalar.cmpi .slt c128_i32_108 c0_i32_112
  let v259 : BitVec 32 := Scalar.extui v258
  let v260 : BitVec 32 := Scalar.subi v257 v259
  let v261 : BitVec 1 := Scalar.cmpi .ne v255 v260
  let v262 : BitVec 32 := Scalar.remsi v249 c128_i32_108
  let c0_i32_113 : BitVec 32 := 0#32
  let v263 : BitVec 1 := Scalar.cmpi .ne v262 c0_i32_113
  let v264 : BitVec 1 := Scalar.andi v261 v263
  let v250 : BitVec 32 := Scalar.divsi v249 c128_i32_108
  let c1_i32_114 : BitVec 32 := 1#32
  let v265 : BitVec 32 := Scalar.subi v250 c1_i32_114
  let v266 : BitVec 32 := Scalar.select v264 v265 v250
  let v447 : BitVec 1 := Scalar.cmpi .slt v446 v266
  let v448 : BitVec 32 := Scalar.extui v447
  let c0_i32_214 : BitVec 32 := 0#32
  let v449 : BitVec 1 := Scalar.cmpi .ne v448 c0_i32_214
  v449

def k0_off80 (v11_2 : BitVec 32) (k0_t11 : Fin (k0_t11_loop v11_2).trips) : Fin 1 → Nat :=
  let c0_i32_125 : BitVec 32 := 0#32
  let c1_i32_127 : BitVec 32 := 1#32
  let arg22 : BitVec 32 := Scf.iv c0_i32_125 c1_i32_127 k0_t11
  let c4_i32_215 : BitVec 32 := 4#32
  let v450 : BitVec 32 := Scalar.muli arg22 c4_i32_215
  let c2_i32_216 : BitVec 32 := 2#32
  let v451 : BitVec 32 := Scalar.addi v450 c2_i32_216
  let c128_i32_221 : BitVec 32 := 128#32
  let v460 : BitVec 32 := Scalar.muli v451 c128_i32_221
  ![v460.toNat]
def k0_cond71 (v11_2 : BitVec 32) (k0_t11 : Fin (k0_t11_loop v11_2).trips) : BitVec 1 :=
  let c0_i32_125 : BitVec 32 := 0#32
  let c1_i32_127 : BitVec 32 := 1#32
  let arg22 : BitVec 32 := Scf.iv c0_i32_125 c1_i32_127 k0_t11
  let c4_i32_215 : BitVec 32 := 4#32
  let v450 : BitVec 32 := Scalar.muli arg22 c4_i32_215
  let c2_i32_216 : BitVec 32 := 2#32
  let v451 : BitVec 32 := Scalar.addi v450 c2_i32_216
  let c128_i32_106 : BitVec 32 := 128#32
  let v248 : BitVec 32 := Scalar.addi v11_2 c128_i32_106
  let c1_i32_107 : BitVec 32 := 1#32
  let v249 : BitVec 32 := Scalar.subi v248 c1_i32_107
  let c0_i32_109 : BitVec 32 := 0#32
  let v251 : BitVec 1 := Scalar.cmpi .sgt v249 c0_i32_109
  let v252 : BitVec 32 := Scalar.extui v251
  let c0_i32_110 : BitVec 32 := 0#32
  let v253 : BitVec 1 := Scalar.cmpi .slt v249 c0_i32_110
  let v254 : BitVec 32 := Scalar.extui v253
  let v255 : BitVec 32 := Scalar.subi v252 v254
  let c128_i32_108 : BitVec 32 := 128#32
  let c0_i32_111 : BitVec 32 := 0#32
  let v256 : BitVec 1 := Scalar.cmpi .sgt c128_i32_108 c0_i32_111
  let v257 : BitVec 32 := Scalar.extui v256
  let c0_i32_112 : BitVec 32 := 0#32
  let v258 : BitVec 1 := Scalar.cmpi .slt c128_i32_108 c0_i32_112
  let v259 : BitVec 32 := Scalar.extui v258
  let v260 : BitVec 32 := Scalar.subi v257 v259
  let v261 : BitVec 1 := Scalar.cmpi .ne v255 v260
  let v262 : BitVec 32 := Scalar.remsi v249 c128_i32_108
  let c0_i32_113 : BitVec 32 := 0#32
  let v263 : BitVec 1 := Scalar.cmpi .ne v262 c0_i32_113
  let v264 : BitVec 1 := Scalar.andi v261 v263
  let v250 : BitVec 32 := Scalar.divsi v249 c128_i32_108
  let c1_i32_114 : BitVec 32 := 1#32
  let v265 : BitVec 32 := Scalar.subi v250 c1_i32_114
  let v266 : BitVec 32 := Scalar.select v264 v265 v250
  let v452 : BitVec 1 := Scalar.cmpi .slt v451 v266
  let v453 : BitVec 32 := Scalar.extui v452
  let c0_i32_217 : BitVec 32 := 0#32
  let v454 : BitVec 1 := Scalar.cmpi .ne v453 c0_i32_217
  v454

def k0_off81 (v11_2 : BitVec 32) (k0_t11 : Fin (k0_t11_loop v11_2).trips) : Fin 1 → Nat :=
  let c0_i32_125 : BitVec 32 := 0#32
  let c1_i32_127 : BitVec 32 := 1#32
  let arg22 : BitVec 32 := Scf.iv c0_i32_125 c1_i32_127 k0_t11
  let c4_i32_218 : BitVec 32 := 4#32
  let v455 : BitVec 32 := Scalar.muli arg22 c4_i32_218
  let c3_i32_219 : BitVec 32 := 3#32
  let v456 : BitVec 32 := Scalar.addi v455 c3_i32_219
  let c128_i32_221 : BitVec 32 := 128#32
  let v460 : BitVec 32 := Scalar.muli v456 c128_i32_221
  ![v460.toNat]
def k0_cond72 (v11_2 : BitVec 32) (k0_t11 : Fin (k0_t11_loop v11_2).trips) : BitVec 1 :=
  let c0_i32_125 : BitVec 32 := 0#32
  let c1_i32_127 : BitVec 32 := 1#32
  let arg22 : BitVec 32 := Scf.iv c0_i32_125 c1_i32_127 k0_t11
  let c4_i32_218 : BitVec 32 := 4#32
  let v455 : BitVec 32 := Scalar.muli arg22 c4_i32_218
  let c3_i32_219 : BitVec 32 := 3#32
  let v456 : BitVec 32 := Scalar.addi v455 c3_i32_219
  let c128_i32_106 : BitVec 32 := 128#32
  let v248 : BitVec 32 := Scalar.addi v11_2 c128_i32_106
  let c1_i32_107 : BitVec 32 := 1#32
  let v249 : BitVec 32 := Scalar.subi v248 c1_i32_107
  let c0_i32_109 : BitVec 32 := 0#32
  let v251 : BitVec 1 := Scalar.cmpi .sgt v249 c0_i32_109
  let v252 : BitVec 32 := Scalar.extui v251
  let c0_i32_110 : BitVec 32 := 0#32
  let v253 : BitVec 1 := Scalar.cmpi .slt v249 c0_i32_110
  let v254 : BitVec 32 := Scalar.extui v253
  let v255 : BitVec 32 := Scalar.subi v252 v254
  let c128_i32_108 : BitVec 32 := 128#32
  let c0_i32_111 : BitVec 32 := 0#32
  let v256 : BitVec 1 := Scalar.cmpi .sgt c128_i32_108 c0_i32_111
  let v257 : BitVec 32 := Scalar.extui v256
  let c0_i32_112 : BitVec 32 := 0#32
  let v258 : BitVec 1 := Scalar.cmpi .slt c128_i32_108 c0_i32_112
  let v259 : BitVec 32 := Scalar.extui v258
  let v260 : BitVec 32 := Scalar.subi v257 v259
  let v261 : BitVec 1 := Scalar.cmpi .ne v255 v260
  let v262 : BitVec 32 := Scalar.remsi v249 c128_i32_108
  let c0_i32_113 : BitVec 32 := 0#32
  let v263 : BitVec 1 := Scalar.cmpi .ne v262 c0_i32_113
  let v264 : BitVec 1 := Scalar.andi v261 v263
  let v250 : BitVec 32 := Scalar.divsi v249 c128_i32_108
  let c1_i32_114 : BitVec 32 := 1#32
  let v265 : BitVec 32 := Scalar.subi v250 c1_i32_114
  let v266 : BitVec 32 := Scalar.select v264 v265 v250
  let v457 : BitVec 1 := Scalar.cmpi .slt v456 v266
  let v458 : BitVec 32 := Scalar.extui v457
  let c0_i32_220 : BitVec 32 := 0#32
  let v459 : BitVec 1 := Scalar.cmpi .ne v458 c0_i32_220
  v459

@[reducible] def k0_t12_loop (v11_2 : BitVec 32) : Scf.Loop 32 :=
  let c0_i32_125 : BitVec 32 := 0#32
  let c128_i32_106 : BitVec 32 := 128#32
  let v248 : BitVec 32 := Scalar.addi v11_2 c128_i32_106
  let c1_i32_107 : BitVec 32 := 1#32
  let v249 : BitVec 32 := Scalar.subi v248 c1_i32_107
  let c0_i32_109 : BitVec 32 := 0#32
  let v251 : BitVec 1 := Scalar.cmpi .sgt v249 c0_i32_109
  let v252 : BitVec 32 := Scalar.extui v251
  let c0_i32_110 : BitVec 32 := 0#32
  let v253 : BitVec 1 := Scalar.cmpi .slt v249 c0_i32_110
  let v254 : BitVec 32 := Scalar.extui v253
  let v255 : BitVec 32 := Scalar.subi v252 v254
  let c128_i32_108 : BitVec 32 := 128#32
  let c0_i32_111 : BitVec 32 := 0#32
  let v256 : BitVec 1 := Scalar.cmpi .sgt c128_i32_108 c0_i32_111
  let v257 : BitVec 32 := Scalar.extui v256
  let c0_i32_112 : BitVec 32 := 0#32
  let v258 : BitVec 1 := Scalar.cmpi .slt c128_i32_108 c0_i32_112
  let v259 : BitVec 32 := Scalar.extui v258
  let v260 : BitVec 32 := Scalar.subi v257 v259
  let v261 : BitVec 1 := Scalar.cmpi .ne v255 v260
  let v262 : BitVec 32 := Scalar.remsi v249 c128_i32_108
  let c0_i32_113 : BitVec 32 := 0#32
  let v263 : BitVec 1 := Scalar.cmpi .ne v262 c0_i32_113
  let v264 : BitVec 1 := Scalar.andi v261 v263
  let v250 : BitVec 32 := Scalar.divsi v249 c128_i32_108
  let c1_i32_114 : BitVec 32 := 1#32
  let v265 : BitVec 32 := Scalar.subi v250 c1_i32_114
  let v266 : BitVec 32 := Scalar.select v264 v265 v250
  let c4_i32_115 : BitVec 32 := 4#32
  let v267 : BitVec 32 := Scalar.addi v266 c4_i32_115
  let c1_i32_116 : BitVec 32 := 1#32
  let v268 : BitVec 32 := Scalar.subi v267 c1_i32_116
  let c0_i32_118 : BitVec 32 := 0#32
  let v270 : BitVec 1 := Scalar.cmpi .sgt v268 c0_i32_118
  let v271 : BitVec 32 := Scalar.extui v270
  let c0_i32_119 : BitVec 32 := 0#32
  let v272 : BitVec 1 := Scalar.cmpi .slt v268 c0_i32_119
  let v273 : BitVec 32 := Scalar.extui v272
  let v274 : BitVec 32 := Scalar.subi v271 v273
  let c4_i32_117 : BitVec 32 := 4#32
  let c0_i32_120 : BitVec 32 := 0#32
  let v275 : BitVec 1 := Scalar.cmpi .sgt c4_i32_117 c0_i32_120
  let v276 : BitVec 32 := Scalar.extui v275
  let c0_i32_121 : BitVec 32 := 0#32
  let v277 : BitVec 1 := Scalar.cmpi .slt c4_i32_117 c0_i32_121
  let v278 : BitVec 32 := Scalar.extui v277
  let v279 : BitVec 32 := Scalar.subi v276 v278
  let v280 : BitVec 1 := Scalar.cmpi .ne v274 v279
  let v281 : BitVec 32 := Scalar.remsi v268 c4_i32_117
  let c0_i32_122 : BitVec 32 := 0#32
  let v282 : BitVec 1 := Scalar.cmpi .ne v281 c0_i32_122
  let v283 : BitVec 1 := Scalar.andi v280 v282
  let v269 : BitVec 32 := Scalar.divsi v268 c4_i32_117
  let c1_i32_123 : BitVec 32 := 1#32
  let v284 : BitVec 32 := Scalar.subi v269 c1_i32_123
  let v285 : BitVec 32 := Scalar.select v283 v284 v269
  let v286 : BitVec 32 := Scalar.subi v285 c0_i32_125
  let c1_i32_126 : BitVec 32 := 1#32
  let v288 : BitVec 32 := Scalar.divsi v286 c1_i32_126
  let v289 : BitVec 32 := Scalar.muli v288 c1_i32_126
  let v290 : BitVec 32 := Scalar.addi c0_i32_125 v289
  let v287 : BitVec 32 := Scalar.addi c0_i32_125 v286
  let c1_i32_128 : BitVec 32 := 1#32
  ⟨v290, v287, c1_i32_128⟩
def k0_off82 (v11_2 : BitVec 32) (k0_t12 : Fin (k0_t12_loop v11_2).trips) : Fin 1 → Nat :=
  let c0_i32_125 : BitVec 32 := 0#32
  let c128_i32_106 : BitVec 32 := 128#32
  let v248 : BitVec 32 := Scalar.addi v11_2 c128_i32_106
  let c1_i32_107 : BitVec 32 := 1#32
  let v249 : BitVec 32 := Scalar.subi v248 c1_i32_107
  let c0_i32_109 : BitVec 32 := 0#32
  let v251 : BitVec 1 := Scalar.cmpi .sgt v249 c0_i32_109
  let v252 : BitVec 32 := Scalar.extui v251
  let c0_i32_110 : BitVec 32 := 0#32
  let v253 : BitVec 1 := Scalar.cmpi .slt v249 c0_i32_110
  let v254 : BitVec 32 := Scalar.extui v253
  let v255 : BitVec 32 := Scalar.subi v252 v254
  let c128_i32_108 : BitVec 32 := 128#32
  let c0_i32_111 : BitVec 32 := 0#32
  let v256 : BitVec 1 := Scalar.cmpi .sgt c128_i32_108 c0_i32_111
  let v257 : BitVec 32 := Scalar.extui v256
  let c0_i32_112 : BitVec 32 := 0#32
  let v258 : BitVec 1 := Scalar.cmpi .slt c128_i32_108 c0_i32_112
  let v259 : BitVec 32 := Scalar.extui v258
  let v260 : BitVec 32 := Scalar.subi v257 v259
  let v261 : BitVec 1 := Scalar.cmpi .ne v255 v260
  let v262 : BitVec 32 := Scalar.remsi v249 c128_i32_108
  let c0_i32_113 : BitVec 32 := 0#32
  let v263 : BitVec 1 := Scalar.cmpi .ne v262 c0_i32_113
  let v264 : BitVec 1 := Scalar.andi v261 v263
  let v250 : BitVec 32 := Scalar.divsi v249 c128_i32_108
  let c1_i32_114 : BitVec 32 := 1#32
  let v265 : BitVec 32 := Scalar.subi v250 c1_i32_114
  let v266 : BitVec 32 := Scalar.select v264 v265 v250
  let c4_i32_115 : BitVec 32 := 4#32
  let v267 : BitVec 32 := Scalar.addi v266 c4_i32_115
  let c1_i32_116 : BitVec 32 := 1#32
  let v268 : BitVec 32 := Scalar.subi v267 c1_i32_116
  let c0_i32_118 : BitVec 32 := 0#32
  let v270 : BitVec 1 := Scalar.cmpi .sgt v268 c0_i32_118
  let v271 : BitVec 32 := Scalar.extui v270
  let c0_i32_119 : BitVec 32 := 0#32
  let v272 : BitVec 1 := Scalar.cmpi .slt v268 c0_i32_119
  let v273 : BitVec 32 := Scalar.extui v272
  let v274 : BitVec 32 := Scalar.subi v271 v273
  let c4_i32_117 : BitVec 32 := 4#32
  let c0_i32_120 : BitVec 32 := 0#32
  let v275 : BitVec 1 := Scalar.cmpi .sgt c4_i32_117 c0_i32_120
  let v276 : BitVec 32 := Scalar.extui v275
  let c0_i32_121 : BitVec 32 := 0#32
  let v277 : BitVec 1 := Scalar.cmpi .slt c4_i32_117 c0_i32_121
  let v278 : BitVec 32 := Scalar.extui v277
  let v279 : BitVec 32 := Scalar.subi v276 v278
  let v280 : BitVec 1 := Scalar.cmpi .ne v274 v279
  let v281 : BitVec 32 := Scalar.remsi v268 c4_i32_117
  let c0_i32_122 : BitVec 32 := 0#32
  let v282 : BitVec 1 := Scalar.cmpi .ne v281 c0_i32_122
  let v283 : BitVec 1 := Scalar.andi v280 v282
  let v269 : BitVec 32 := Scalar.divsi v268 c4_i32_117
  let c1_i32_123 : BitVec 32 := 1#32
  let v284 : BitVec 32 := Scalar.subi v269 c1_i32_123
  let v285 : BitVec 32 := Scalar.select v283 v284 v269
  let v286 : BitVec 32 := Scalar.subi v285 c0_i32_125
  let c1_i32_126 : BitVec 32 := 1#32
  let v288 : BitVec 32 := Scalar.divsi v286 c1_i32_126
  let v289 : BitVec 32 := Scalar.muli v288 c1_i32_126
  let v290 : BitVec 32 := Scalar.addi c0_i32_125 v289
  let c1_i32_128 : BitVec 32 := 1#32
  let arg22 : BitVec 32 := Scf.iv v290 c1_i32_128 k0_t12
  let c4_i32_198 : BitVec 32 := 4#32
  let v420 : BitVec 32 := Scalar.muli arg22 c4_i32_198
  let c0_i32_199 : BitVec 32 := 0#32
  let v421 : BitVec 32 := Scalar.addi v420 c0_i32_199
  let c128_i32_221 : BitVec 32 := 128#32
  let v460 : BitVec 32 := Scalar.muli v421 c128_i32_221
  ![v460.toNat]
def k0_cond73 (v11_2 : BitVec 32) (k0_t12 : Fin (k0_t12_loop v11_2).trips) : BitVec 1 :=
  let c0_i32_125 : BitVec 32 := 0#32
  let c128_i32_106 : BitVec 32 := 128#32
  let v248 : BitVec 32 := Scalar.addi v11_2 c128_i32_106
  let c1_i32_107 : BitVec 32 := 1#32
  let v249 : BitVec 32 := Scalar.subi v248 c1_i32_107
  let c0_i32_109 : BitVec 32 := 0#32
  let v251 : BitVec 1 := Scalar.cmpi .sgt v249 c0_i32_109
  let v252 : BitVec 32 := Scalar.extui v251
  let c0_i32_110 : BitVec 32 := 0#32
  let v253 : BitVec 1 := Scalar.cmpi .slt v249 c0_i32_110
  let v254 : BitVec 32 := Scalar.extui v253
  let v255 : BitVec 32 := Scalar.subi v252 v254
  let c128_i32_108 : BitVec 32 := 128#32
  let c0_i32_111 : BitVec 32 := 0#32
  let v256 : BitVec 1 := Scalar.cmpi .sgt c128_i32_108 c0_i32_111
  let v257 : BitVec 32 := Scalar.extui v256
  let c0_i32_112 : BitVec 32 := 0#32
  let v258 : BitVec 1 := Scalar.cmpi .slt c128_i32_108 c0_i32_112
  let v259 : BitVec 32 := Scalar.extui v258
  let v260 : BitVec 32 := Scalar.subi v257 v259
  let v261 : BitVec 1 := Scalar.cmpi .ne v255 v260
  let v262 : BitVec 32 := Scalar.remsi v249 c128_i32_108
  let c0_i32_113 : BitVec 32 := 0#32
  let v263 : BitVec 1 := Scalar.cmpi .ne v262 c0_i32_113
  let v264 : BitVec 1 := Scalar.andi v261 v263
  let v250 : BitVec 32 := Scalar.divsi v249 c128_i32_108
  let c1_i32_114 : BitVec 32 := 1#32
  let v265 : BitVec 32 := Scalar.subi v250 c1_i32_114
  let v266 : BitVec 32 := Scalar.select v264 v265 v250
  let c4_i32_115 : BitVec 32 := 4#32
  let v267 : BitVec 32 := Scalar.addi v266 c4_i32_115
  let c1_i32_116 : BitVec 32 := 1#32
  let v268 : BitVec 32 := Scalar.subi v267 c1_i32_116
  let c0_i32_118 : BitVec 32 := 0#32
  let v270 : BitVec 1 := Scalar.cmpi .sgt v268 c0_i32_118
  let v271 : BitVec 32 := Scalar.extui v270
  let c0_i32_119 : BitVec 32 := 0#32
  let v272 : BitVec 1 := Scalar.cmpi .slt v268 c0_i32_119
  let v273 : BitVec 32 := Scalar.extui v272
  let v274 : BitVec 32 := Scalar.subi v271 v273
  let c4_i32_117 : BitVec 32 := 4#32
  let c0_i32_120 : BitVec 32 := 0#32
  let v275 : BitVec 1 := Scalar.cmpi .sgt c4_i32_117 c0_i32_120
  let v276 : BitVec 32 := Scalar.extui v275
  let c0_i32_121 : BitVec 32 := 0#32
  let v277 : BitVec 1 := Scalar.cmpi .slt c4_i32_117 c0_i32_121
  let v278 : BitVec 32 := Scalar.extui v277
  let v279 : BitVec 32 := Scalar.subi v276 v278
  let v280 : BitVec 1 := Scalar.cmpi .ne v274 v279
  let v281 : BitVec 32 := Scalar.remsi v268 c4_i32_117
  let c0_i32_122 : BitVec 32 := 0#32
  let v282 : BitVec 1 := Scalar.cmpi .ne v281 c0_i32_122
  let v283 : BitVec 1 := Scalar.andi v280 v282
  let v269 : BitVec 32 := Scalar.divsi v268 c4_i32_117
  let c1_i32_123 : BitVec 32 := 1#32
  let v284 : BitVec 32 := Scalar.subi v269 c1_i32_123
  let v285 : BitVec 32 := Scalar.select v283 v284 v269
  let v286 : BitVec 32 := Scalar.subi v285 c0_i32_125
  let c1_i32_126 : BitVec 32 := 1#32
  let v288 : BitVec 32 := Scalar.divsi v286 c1_i32_126
  let v289 : BitVec 32 := Scalar.muli v288 c1_i32_126
  let v290 : BitVec 32 := Scalar.addi c0_i32_125 v289
  let c1_i32_128 : BitVec 32 := 1#32
  let arg22 : BitVec 32 := Scf.iv v290 c1_i32_128 k0_t12
  let c4_i32_198 : BitVec 32 := 4#32
  let v420 : BitVec 32 := Scalar.muli arg22 c4_i32_198
  let c0_i32_199 : BitVec 32 := 0#32
  let v421 : BitVec 32 := Scalar.addi v420 c0_i32_199
  let v422 : BitVec 1 := Scalar.cmpi .slt v421 v266
  let v423 : BitVec 32 := Scalar.extui v422
  let c0_i32_200 : BitVec 32 := 0#32
  let v424 : BitVec 1 := Scalar.cmpi .ne v423 c0_i32_200
  v424

def k0_off83 (v11_2 : BitVec 32) (k0_t12 : Fin (k0_t12_loop v11_2).trips) : Fin 1 → Nat :=
  let c0_i32_125 : BitVec 32 := 0#32
  let c128_i32_106 : BitVec 32 := 128#32
  let v248 : BitVec 32 := Scalar.addi v11_2 c128_i32_106
  let c1_i32_107 : BitVec 32 := 1#32
  let v249 : BitVec 32 := Scalar.subi v248 c1_i32_107
  let c0_i32_109 : BitVec 32 := 0#32
  let v251 : BitVec 1 := Scalar.cmpi .sgt v249 c0_i32_109
  let v252 : BitVec 32 := Scalar.extui v251
  let c0_i32_110 : BitVec 32 := 0#32
  let v253 : BitVec 1 := Scalar.cmpi .slt v249 c0_i32_110
  let v254 : BitVec 32 := Scalar.extui v253
  let v255 : BitVec 32 := Scalar.subi v252 v254
  let c128_i32_108 : BitVec 32 := 128#32
  let c0_i32_111 : BitVec 32 := 0#32
  let v256 : BitVec 1 := Scalar.cmpi .sgt c128_i32_108 c0_i32_111
  let v257 : BitVec 32 := Scalar.extui v256
  let c0_i32_112 : BitVec 32 := 0#32
  let v258 : BitVec 1 := Scalar.cmpi .slt c128_i32_108 c0_i32_112
  let v259 : BitVec 32 := Scalar.extui v258
  let v260 : BitVec 32 := Scalar.subi v257 v259
  let v261 : BitVec 1 := Scalar.cmpi .ne v255 v260
  let v262 : BitVec 32 := Scalar.remsi v249 c128_i32_108
  let c0_i32_113 : BitVec 32 := 0#32
  let v263 : BitVec 1 := Scalar.cmpi .ne v262 c0_i32_113
  let v264 : BitVec 1 := Scalar.andi v261 v263
  let v250 : BitVec 32 := Scalar.divsi v249 c128_i32_108
  let c1_i32_114 : BitVec 32 := 1#32
  let v265 : BitVec 32 := Scalar.subi v250 c1_i32_114
  let v266 : BitVec 32 := Scalar.select v264 v265 v250
  let c4_i32_115 : BitVec 32 := 4#32
  let v267 : BitVec 32 := Scalar.addi v266 c4_i32_115
  let c1_i32_116 : BitVec 32 := 1#32
  let v268 : BitVec 32 := Scalar.subi v267 c1_i32_116
  let c0_i32_118 : BitVec 32 := 0#32
  let v270 : BitVec 1 := Scalar.cmpi .sgt v268 c0_i32_118
  let v271 : BitVec 32 := Scalar.extui v270
  let c0_i32_119 : BitVec 32 := 0#32
  let v272 : BitVec 1 := Scalar.cmpi .slt v268 c0_i32_119
  let v273 : BitVec 32 := Scalar.extui v272
  let v274 : BitVec 32 := Scalar.subi v271 v273
  let c4_i32_117 : BitVec 32 := 4#32
  let c0_i32_120 : BitVec 32 := 0#32
  let v275 : BitVec 1 := Scalar.cmpi .sgt c4_i32_117 c0_i32_120
  let v276 : BitVec 32 := Scalar.extui v275
  let c0_i32_121 : BitVec 32 := 0#32
  let v277 : BitVec 1 := Scalar.cmpi .slt c4_i32_117 c0_i32_121
  let v278 : BitVec 32 := Scalar.extui v277
  let v279 : BitVec 32 := Scalar.subi v276 v278
  let v280 : BitVec 1 := Scalar.cmpi .ne v274 v279
  let v281 : BitVec 32 := Scalar.remsi v268 c4_i32_117
  let c0_i32_122 : BitVec 32 := 0#32
  let v282 : BitVec 1 := Scalar.cmpi .ne v281 c0_i32_122
  let v283 : BitVec 1 := Scalar.andi v280 v282
  let v269 : BitVec 32 := Scalar.divsi v268 c4_i32_117
  let c1_i32_123 : BitVec 32 := 1#32
  let v284 : BitVec 32 := Scalar.subi v269 c1_i32_123
  let v285 : BitVec 32 := Scalar.select v283 v284 v269
  let v286 : BitVec 32 := Scalar.subi v285 c0_i32_125
  let c1_i32_126 : BitVec 32 := 1#32
  let v288 : BitVec 32 := Scalar.divsi v286 c1_i32_126
  let v289 : BitVec 32 := Scalar.muli v288 c1_i32_126
  let v290 : BitVec 32 := Scalar.addi c0_i32_125 v289
  let c1_i32_128 : BitVec 32 := 1#32
  let arg22 : BitVec 32 := Scf.iv v290 c1_i32_128 k0_t12
  let c4_i32_201 : BitVec 32 := 4#32
  let v425 : BitVec 32 := Scalar.muli arg22 c4_i32_201
  let c1_i32_202 : BitVec 32 := 1#32
  let v426 : BitVec 32 := Scalar.addi v425 c1_i32_202
  let c128_i32_221 : BitVec 32 := 128#32
  let v460 : BitVec 32 := Scalar.muli v426 c128_i32_221
  ![v460.toNat]
def k0_cond74 (v11_2 : BitVec 32) (k0_t12 : Fin (k0_t12_loop v11_2).trips) : BitVec 1 :=
  let c0_i32_125 : BitVec 32 := 0#32
  let c128_i32_106 : BitVec 32 := 128#32
  let v248 : BitVec 32 := Scalar.addi v11_2 c128_i32_106
  let c1_i32_107 : BitVec 32 := 1#32
  let v249 : BitVec 32 := Scalar.subi v248 c1_i32_107
  let c0_i32_109 : BitVec 32 := 0#32
  let v251 : BitVec 1 := Scalar.cmpi .sgt v249 c0_i32_109
  let v252 : BitVec 32 := Scalar.extui v251
  let c0_i32_110 : BitVec 32 := 0#32
  let v253 : BitVec 1 := Scalar.cmpi .slt v249 c0_i32_110
  let v254 : BitVec 32 := Scalar.extui v253
  let v255 : BitVec 32 := Scalar.subi v252 v254
  let c128_i32_108 : BitVec 32 := 128#32
  let c0_i32_111 : BitVec 32 := 0#32
  let v256 : BitVec 1 := Scalar.cmpi .sgt c128_i32_108 c0_i32_111
  let v257 : BitVec 32 := Scalar.extui v256
  let c0_i32_112 : BitVec 32 := 0#32
  let v258 : BitVec 1 := Scalar.cmpi .slt c128_i32_108 c0_i32_112
  let v259 : BitVec 32 := Scalar.extui v258
  let v260 : BitVec 32 := Scalar.subi v257 v259
  let v261 : BitVec 1 := Scalar.cmpi .ne v255 v260
  let v262 : BitVec 32 := Scalar.remsi v249 c128_i32_108
  let c0_i32_113 : BitVec 32 := 0#32
  let v263 : BitVec 1 := Scalar.cmpi .ne v262 c0_i32_113
  let v264 : BitVec 1 := Scalar.andi v261 v263
  let v250 : BitVec 32 := Scalar.divsi v249 c128_i32_108
  let c1_i32_114 : BitVec 32 := 1#32
  let v265 : BitVec 32 := Scalar.subi v250 c1_i32_114
  let v266 : BitVec 32 := Scalar.select v264 v265 v250
  let c4_i32_115 : BitVec 32 := 4#32
  let v267 : BitVec 32 := Scalar.addi v266 c4_i32_115
  let c1_i32_116 : BitVec 32 := 1#32
  let v268 : BitVec 32 := Scalar.subi v267 c1_i32_116
  let c0_i32_118 : BitVec 32 := 0#32
  let v270 : BitVec 1 := Scalar.cmpi .sgt v268 c0_i32_118
  let v271 : BitVec 32 := Scalar.extui v270
  let c0_i32_119 : BitVec 32 := 0#32
  let v272 : BitVec 1 := Scalar.cmpi .slt v268 c0_i32_119
  let v273 : BitVec 32 := Scalar.extui v272
  let v274 : BitVec 32 := Scalar.subi v271 v273
  let c4_i32_117 : BitVec 32 := 4#32
  let c0_i32_120 : BitVec 32 := 0#32
  let v275 : BitVec 1 := Scalar.cmpi .sgt c4_i32_117 c0_i32_120
  let v276 : BitVec 32 := Scalar.extui v275
  let c0_i32_121 : BitVec 32 := 0#32
  let v277 : BitVec 1 := Scalar.cmpi .slt c4_i32_117 c0_i32_121
  let v278 : BitVec 32 := Scalar.extui v277
  let v279 : BitVec 32 := Scalar.subi v276 v278
  let v280 : BitVec 1 := Scalar.cmpi .ne v274 v279
  let v281 : BitVec 32 := Scalar.remsi v268 c4_i32_117
  let c0_i32_122 : BitVec 32 := 0#32
  let v282 : BitVec 1 := Scalar.cmpi .ne v281 c0_i32_122
  let v283 : BitVec 1 := Scalar.andi v280 v282
  let v269 : BitVec 32 := Scalar.divsi v268 c4_i32_117
  let c1_i32_123 : BitVec 32 := 1#32
  let v284 : BitVec 32 := Scalar.subi v269 c1_i32_123
  let v285 : BitVec 32 := Scalar.select v283 v284 v269
  let v286 : BitVec 32 := Scalar.subi v285 c0_i32_125
  let c1_i32_126 : BitVec 32 := 1#32
  let v288 : BitVec 32 := Scalar.divsi v286 c1_i32_126
  let v289 : BitVec 32 := Scalar.muli v288 c1_i32_126
  let v290 : BitVec 32 := Scalar.addi c0_i32_125 v289
  let c1_i32_128 : BitVec 32 := 1#32
  let arg22 : BitVec 32 := Scf.iv v290 c1_i32_128 k0_t12
  let c4_i32_201 : BitVec 32 := 4#32
  let v425 : BitVec 32 := Scalar.muli arg22 c4_i32_201
  let c1_i32_202 : BitVec 32 := 1#32
  let v426 : BitVec 32 := Scalar.addi v425 c1_i32_202
  let v427 : BitVec 1 := Scalar.cmpi .slt v426 v266
  let v428 : BitVec 32 := Scalar.extui v427
  let c0_i32_203 : BitVec 32 := 0#32
  let v429 : BitVec 1 := Scalar.cmpi .ne v428 c0_i32_203
  v429

def k0_off84 (v11_2 : BitVec 32) (k0_t12 : Fin (k0_t12_loop v11_2).trips) : Fin 1 → Nat :=
  let c0_i32_125 : BitVec 32 := 0#32
  let c128_i32_106 : BitVec 32 := 128#32
  let v248 : BitVec 32 := Scalar.addi v11_2 c128_i32_106
  let c1_i32_107 : BitVec 32 := 1#32
  let v249 : BitVec 32 := Scalar.subi v248 c1_i32_107
  let c0_i32_109 : BitVec 32 := 0#32
  let v251 : BitVec 1 := Scalar.cmpi .sgt v249 c0_i32_109
  let v252 : BitVec 32 := Scalar.extui v251
  let c0_i32_110 : BitVec 32 := 0#32
  let v253 : BitVec 1 := Scalar.cmpi .slt v249 c0_i32_110
  let v254 : BitVec 32 := Scalar.extui v253
  let v255 : BitVec 32 := Scalar.subi v252 v254
  let c128_i32_108 : BitVec 32 := 128#32
  let c0_i32_111 : BitVec 32 := 0#32
  let v256 : BitVec 1 := Scalar.cmpi .sgt c128_i32_108 c0_i32_111
  let v257 : BitVec 32 := Scalar.extui v256
  let c0_i32_112 : BitVec 32 := 0#32
  let v258 : BitVec 1 := Scalar.cmpi .slt c128_i32_108 c0_i32_112
  let v259 : BitVec 32 := Scalar.extui v258
  let v260 : BitVec 32 := Scalar.subi v257 v259
  let v261 : BitVec 1 := Scalar.cmpi .ne v255 v260
  let v262 : BitVec 32 := Scalar.remsi v249 c128_i32_108
  let c0_i32_113 : BitVec 32 := 0#32
  let v263 : BitVec 1 := Scalar.cmpi .ne v262 c0_i32_113
  let v264 : BitVec 1 := Scalar.andi v261 v263
  let v250 : BitVec 32 := Scalar.divsi v249 c128_i32_108
  let c1_i32_114 : BitVec 32 := 1#32
  let v265 : BitVec 32 := Scalar.subi v250 c1_i32_114
  let v266 : BitVec 32 := Scalar.select v264 v265 v250
  let c4_i32_115 : BitVec 32 := 4#32
  let v267 : BitVec 32 := Scalar.addi v266 c4_i32_115
  let c1_i32_116 : BitVec 32 := 1#32
  let v268 : BitVec 32 := Scalar.subi v267 c1_i32_116
  let c0_i32_118 : BitVec 32 := 0#32
  let v270 : BitVec 1 := Scalar.cmpi .sgt v268 c0_i32_118
  let v271 : BitVec 32 := Scalar.extui v270
  let c0_i32_119 : BitVec 32 := 0#32
  let v272 : BitVec 1 := Scalar.cmpi .slt v268 c0_i32_119
  let v273 : BitVec 32 := Scalar.extui v272
  let v274 : BitVec 32 := Scalar.subi v271 v273
  let c4_i32_117 : BitVec 32 := 4#32
  let c0_i32_120 : BitVec 32 := 0#32
  let v275 : BitVec 1 := Scalar.cmpi .sgt c4_i32_117 c0_i32_120
  let v276 : BitVec 32 := Scalar.extui v275
  let c0_i32_121 : BitVec 32 := 0#32
  let v277 : BitVec 1 := Scalar.cmpi .slt c4_i32_117 c0_i32_121
  let v278 : BitVec 32 := Scalar.extui v277
  let v279 : BitVec 32 := Scalar.subi v276 v278
  let v280 : BitVec 1 := Scalar.cmpi .ne v274 v279
  let v281 : BitVec 32 := Scalar.remsi v268 c4_i32_117
  let c0_i32_122 : BitVec 32 := 0#32
  let v282 : BitVec 1 := Scalar.cmpi .ne v281 c0_i32_122
  let v283 : BitVec 1 := Scalar.andi v280 v282
  let v269 : BitVec 32 := Scalar.divsi v268 c4_i32_117
  let c1_i32_123 : BitVec 32 := 1#32
  let v284 : BitVec 32 := Scalar.subi v269 c1_i32_123
  let v285 : BitVec 32 := Scalar.select v283 v284 v269
  let v286 : BitVec 32 := Scalar.subi v285 c0_i32_125
  let c1_i32_126 : BitVec 32 := 1#32
  let v288 : BitVec 32 := Scalar.divsi v286 c1_i32_126
  let v289 : BitVec 32 := Scalar.muli v288 c1_i32_126
  let v290 : BitVec 32 := Scalar.addi c0_i32_125 v289
  let c1_i32_128 : BitVec 32 := 1#32
  let arg22 : BitVec 32 := Scf.iv v290 c1_i32_128 k0_t12
  let c4_i32_204 : BitVec 32 := 4#32
  let v430 : BitVec 32 := Scalar.muli arg22 c4_i32_204
  let c2_i32_205 : BitVec 32 := 2#32
  let v431 : BitVec 32 := Scalar.addi v430 c2_i32_205
  let c128_i32_221 : BitVec 32 := 128#32
  let v460 : BitVec 32 := Scalar.muli v431 c128_i32_221
  ![v460.toNat]
def k0_cond75 (v11_2 : BitVec 32) (k0_t12 : Fin (k0_t12_loop v11_2).trips) : BitVec 1 :=
  let c0_i32_125 : BitVec 32 := 0#32
  let c128_i32_106 : BitVec 32 := 128#32
  let v248 : BitVec 32 := Scalar.addi v11_2 c128_i32_106
  let c1_i32_107 : BitVec 32 := 1#32
  let v249 : BitVec 32 := Scalar.subi v248 c1_i32_107
  let c0_i32_109 : BitVec 32 := 0#32
  let v251 : BitVec 1 := Scalar.cmpi .sgt v249 c0_i32_109
  let v252 : BitVec 32 := Scalar.extui v251
  let c0_i32_110 : BitVec 32 := 0#32
  let v253 : BitVec 1 := Scalar.cmpi .slt v249 c0_i32_110
  let v254 : BitVec 32 := Scalar.extui v253
  let v255 : BitVec 32 := Scalar.subi v252 v254
  let c128_i32_108 : BitVec 32 := 128#32
  let c0_i32_111 : BitVec 32 := 0#32
  let v256 : BitVec 1 := Scalar.cmpi .sgt c128_i32_108 c0_i32_111
  let v257 : BitVec 32 := Scalar.extui v256
  let c0_i32_112 : BitVec 32 := 0#32
  let v258 : BitVec 1 := Scalar.cmpi .slt c128_i32_108 c0_i32_112
  let v259 : BitVec 32 := Scalar.extui v258
  let v260 : BitVec 32 := Scalar.subi v257 v259
  let v261 : BitVec 1 := Scalar.cmpi .ne v255 v260
  let v262 : BitVec 32 := Scalar.remsi v249 c128_i32_108
  let c0_i32_113 : BitVec 32 := 0#32
  let v263 : BitVec 1 := Scalar.cmpi .ne v262 c0_i32_113
  let v264 : BitVec 1 := Scalar.andi v261 v263
  let v250 : BitVec 32 := Scalar.divsi v249 c128_i32_108
  let c1_i32_114 : BitVec 32 := 1#32
  let v265 : BitVec 32 := Scalar.subi v250 c1_i32_114
  let v266 : BitVec 32 := Scalar.select v264 v265 v250
  let c4_i32_115 : BitVec 32 := 4#32
  let v267 : BitVec 32 := Scalar.addi v266 c4_i32_115
  let c1_i32_116 : BitVec 32 := 1#32
  let v268 : BitVec 32 := Scalar.subi v267 c1_i32_116
  let c0_i32_118 : BitVec 32 := 0#32
  let v270 : BitVec 1 := Scalar.cmpi .sgt v268 c0_i32_118
  let v271 : BitVec 32 := Scalar.extui v270
  let c0_i32_119 : BitVec 32 := 0#32
  let v272 : BitVec 1 := Scalar.cmpi .slt v268 c0_i32_119
  let v273 : BitVec 32 := Scalar.extui v272
  let v274 : BitVec 32 := Scalar.subi v271 v273
  let c4_i32_117 : BitVec 32 := 4#32
  let c0_i32_120 : BitVec 32 := 0#32
  let v275 : BitVec 1 := Scalar.cmpi .sgt c4_i32_117 c0_i32_120
  let v276 : BitVec 32 := Scalar.extui v275
  let c0_i32_121 : BitVec 32 := 0#32
  let v277 : BitVec 1 := Scalar.cmpi .slt c4_i32_117 c0_i32_121
  let v278 : BitVec 32 := Scalar.extui v277
  let v279 : BitVec 32 := Scalar.subi v276 v278
  let v280 : BitVec 1 := Scalar.cmpi .ne v274 v279
  let v281 : BitVec 32 := Scalar.remsi v268 c4_i32_117
  let c0_i32_122 : BitVec 32 := 0#32
  let v282 : BitVec 1 := Scalar.cmpi .ne v281 c0_i32_122
  let v283 : BitVec 1 := Scalar.andi v280 v282
  let v269 : BitVec 32 := Scalar.divsi v268 c4_i32_117
  let c1_i32_123 : BitVec 32 := 1#32
  let v284 : BitVec 32 := Scalar.subi v269 c1_i32_123
  let v285 : BitVec 32 := Scalar.select v283 v284 v269
  let v286 : BitVec 32 := Scalar.subi v285 c0_i32_125
  let c1_i32_126 : BitVec 32 := 1#32
  let v288 : BitVec 32 := Scalar.divsi v286 c1_i32_126
  let v289 : BitVec 32 := Scalar.muli v288 c1_i32_126
  let v290 : BitVec 32 := Scalar.addi c0_i32_125 v289
  let c1_i32_128 : BitVec 32 := 1#32
  let arg22 : BitVec 32 := Scf.iv v290 c1_i32_128 k0_t12
  let c4_i32_204 : BitVec 32 := 4#32
  let v430 : BitVec 32 := Scalar.muli arg22 c4_i32_204
  let c2_i32_205 : BitVec 32 := 2#32
  let v431 : BitVec 32 := Scalar.addi v430 c2_i32_205
  let v432 : BitVec 1 := Scalar.cmpi .slt v431 v266
  let v433 : BitVec 32 := Scalar.extui v432
  let c0_i32_206 : BitVec 32 := 0#32
  let v434 : BitVec 1 := Scalar.cmpi .ne v433 c0_i32_206
  v434

def k0_off85 (v11_2 : BitVec 32) (k0_t12 : Fin (k0_t12_loop v11_2).trips) : Fin 1 → Nat :=
  let c0_i32_125 : BitVec 32 := 0#32
  let c128_i32_106 : BitVec 32 := 128#32
  let v248 : BitVec 32 := Scalar.addi v11_2 c128_i32_106
  let c1_i32_107 : BitVec 32 := 1#32
  let v249 : BitVec 32 := Scalar.subi v248 c1_i32_107
  let c0_i32_109 : BitVec 32 := 0#32
  let v251 : BitVec 1 := Scalar.cmpi .sgt v249 c0_i32_109
  let v252 : BitVec 32 := Scalar.extui v251
  let c0_i32_110 : BitVec 32 := 0#32
  let v253 : BitVec 1 := Scalar.cmpi .slt v249 c0_i32_110
  let v254 : BitVec 32 := Scalar.extui v253
  let v255 : BitVec 32 := Scalar.subi v252 v254
  let c128_i32_108 : BitVec 32 := 128#32
  let c0_i32_111 : BitVec 32 := 0#32
  let v256 : BitVec 1 := Scalar.cmpi .sgt c128_i32_108 c0_i32_111
  let v257 : BitVec 32 := Scalar.extui v256
  let c0_i32_112 : BitVec 32 := 0#32
  let v258 : BitVec 1 := Scalar.cmpi .slt c128_i32_108 c0_i32_112
  let v259 : BitVec 32 := Scalar.extui v258
  let v260 : BitVec 32 := Scalar.subi v257 v259
  let v261 : BitVec 1 := Scalar.cmpi .ne v255 v260
  let v262 : BitVec 32 := Scalar.remsi v249 c128_i32_108
  let c0_i32_113 : BitVec 32 := 0#32
  let v263 : BitVec 1 := Scalar.cmpi .ne v262 c0_i32_113
  let v264 : BitVec 1 := Scalar.andi v261 v263
  let v250 : BitVec 32 := Scalar.divsi v249 c128_i32_108
  let c1_i32_114 : BitVec 32 := 1#32
  let v265 : BitVec 32 := Scalar.subi v250 c1_i32_114
  let v266 : BitVec 32 := Scalar.select v264 v265 v250
  let c4_i32_115 : BitVec 32 := 4#32
  let v267 : BitVec 32 := Scalar.addi v266 c4_i32_115
  let c1_i32_116 : BitVec 32 := 1#32
  let v268 : BitVec 32 := Scalar.subi v267 c1_i32_116
  let c0_i32_118 : BitVec 32 := 0#32
  let v270 : BitVec 1 := Scalar.cmpi .sgt v268 c0_i32_118
  let v271 : BitVec 32 := Scalar.extui v270
  let c0_i32_119 : BitVec 32 := 0#32
  let v272 : BitVec 1 := Scalar.cmpi .slt v268 c0_i32_119
  let v273 : BitVec 32 := Scalar.extui v272
  let v274 : BitVec 32 := Scalar.subi v271 v273
  let c4_i32_117 : BitVec 32 := 4#32
  let c0_i32_120 : BitVec 32 := 0#32
  let v275 : BitVec 1 := Scalar.cmpi .sgt c4_i32_117 c0_i32_120
  let v276 : BitVec 32 := Scalar.extui v275
  let c0_i32_121 : BitVec 32 := 0#32
  let v277 : BitVec 1 := Scalar.cmpi .slt c4_i32_117 c0_i32_121
  let v278 : BitVec 32 := Scalar.extui v277
  let v279 : BitVec 32 := Scalar.subi v276 v278
  let v280 : BitVec 1 := Scalar.cmpi .ne v274 v279
  let v281 : BitVec 32 := Scalar.remsi v268 c4_i32_117
  let c0_i32_122 : BitVec 32 := 0#32
  let v282 : BitVec 1 := Scalar.cmpi .ne v281 c0_i32_122
  let v283 : BitVec 1 := Scalar.andi v280 v282
  let v269 : BitVec 32 := Scalar.divsi v268 c4_i32_117
  let c1_i32_123 : BitVec 32 := 1#32
  let v284 : BitVec 32 := Scalar.subi v269 c1_i32_123
  let v285 : BitVec 32 := Scalar.select v283 v284 v269
  let v286 : BitVec 32 := Scalar.subi v285 c0_i32_125
  let c1_i32_126 : BitVec 32 := 1#32
  let v288 : BitVec 32 := Scalar.divsi v286 c1_i32_126
  let v289 : BitVec 32 := Scalar.muli v288 c1_i32_126
  let v290 : BitVec 32 := Scalar.addi c0_i32_125 v289
  let c1_i32_128 : BitVec 32 := 1#32
  let arg22 : BitVec 32 := Scf.iv v290 c1_i32_128 k0_t12
  let c4_i32_207 : BitVec 32 := 4#32
  let v435 : BitVec 32 := Scalar.muli arg22 c4_i32_207
  let c3_i32 : BitVec 32 := 3#32
  let v436 : BitVec 32 := Scalar.addi v435 c3_i32
  let c128_i32_221 : BitVec 32 := 128#32
  let v460 : BitVec 32 := Scalar.muli v436 c128_i32_221
  ![v460.toNat]
def k0_cond76 (v11_2 : BitVec 32) (k0_t12 : Fin (k0_t12_loop v11_2).trips) : BitVec 1 :=
  let c0_i32_125 : BitVec 32 := 0#32
  let c128_i32_106 : BitVec 32 := 128#32
  let v248 : BitVec 32 := Scalar.addi v11_2 c128_i32_106
  let c1_i32_107 : BitVec 32 := 1#32
  let v249 : BitVec 32 := Scalar.subi v248 c1_i32_107
  let c0_i32_109 : BitVec 32 := 0#32
  let v251 : BitVec 1 := Scalar.cmpi .sgt v249 c0_i32_109
  let v252 : BitVec 32 := Scalar.extui v251
  let c0_i32_110 : BitVec 32 := 0#32
  let v253 : BitVec 1 := Scalar.cmpi .slt v249 c0_i32_110
  let v254 : BitVec 32 := Scalar.extui v253
  let v255 : BitVec 32 := Scalar.subi v252 v254
  let c128_i32_108 : BitVec 32 := 128#32
  let c0_i32_111 : BitVec 32 := 0#32
  let v256 : BitVec 1 := Scalar.cmpi .sgt c128_i32_108 c0_i32_111
  let v257 : BitVec 32 := Scalar.extui v256
  let c0_i32_112 : BitVec 32 := 0#32
  let v258 : BitVec 1 := Scalar.cmpi .slt c128_i32_108 c0_i32_112
  let v259 : BitVec 32 := Scalar.extui v258
  let v260 : BitVec 32 := Scalar.subi v257 v259
  let v261 : BitVec 1 := Scalar.cmpi .ne v255 v260
  let v262 : BitVec 32 := Scalar.remsi v249 c128_i32_108
  let c0_i32_113 : BitVec 32 := 0#32
  let v263 : BitVec 1 := Scalar.cmpi .ne v262 c0_i32_113
  let v264 : BitVec 1 := Scalar.andi v261 v263
  let v250 : BitVec 32 := Scalar.divsi v249 c128_i32_108
  let c1_i32_114 : BitVec 32 := 1#32
  let v265 : BitVec 32 := Scalar.subi v250 c1_i32_114
  let v266 : BitVec 32 := Scalar.select v264 v265 v250
  let c4_i32_115 : BitVec 32 := 4#32
  let v267 : BitVec 32 := Scalar.addi v266 c4_i32_115
  let c1_i32_116 : BitVec 32 := 1#32
  let v268 : BitVec 32 := Scalar.subi v267 c1_i32_116
  let c0_i32_118 : BitVec 32 := 0#32
  let v270 : BitVec 1 := Scalar.cmpi .sgt v268 c0_i32_118
  let v271 : BitVec 32 := Scalar.extui v270
  let c0_i32_119 : BitVec 32 := 0#32
  let v272 : BitVec 1 := Scalar.cmpi .slt v268 c0_i32_119
  let v273 : BitVec 32 := Scalar.extui v272
  let v274 : BitVec 32 := Scalar.subi v271 v273
  let c4_i32_117 : BitVec 32 := 4#32
  let c0_i32_120 : BitVec 32 := 0#32
  let v275 : BitVec 1 := Scalar.cmpi .sgt c4_i32_117 c0_i32_120
  let v276 : BitVec 32 := Scalar.extui v275
  let c0_i32_121 : BitVec 32 := 0#32
  let v277 : BitVec 1 := Scalar.cmpi .slt c4_i32_117 c0_i32_121
  let v278 : BitVec 32 := Scalar.extui v277
  let v279 : BitVec 32 := Scalar.subi v276 v278
  let v280 : BitVec 1 := Scalar.cmpi .ne v274 v279
  let v281 : BitVec 32 := Scalar.remsi v268 c4_i32_117
  let c0_i32_122 : BitVec 32 := 0#32
  let v282 : BitVec 1 := Scalar.cmpi .ne v281 c0_i32_122
  let v283 : BitVec 1 := Scalar.andi v280 v282
  let v269 : BitVec 32 := Scalar.divsi v268 c4_i32_117
  let c1_i32_123 : BitVec 32 := 1#32
  let v284 : BitVec 32 := Scalar.subi v269 c1_i32_123
  let v285 : BitVec 32 := Scalar.select v283 v284 v269
  let v286 : BitVec 32 := Scalar.subi v285 c0_i32_125
  let c1_i32_126 : BitVec 32 := 1#32
  let v288 : BitVec 32 := Scalar.divsi v286 c1_i32_126
  let v289 : BitVec 32 := Scalar.muli v288 c1_i32_126
  let v290 : BitVec 32 := Scalar.addi c0_i32_125 v289
  let c1_i32_128 : BitVec 32 := 1#32
  let arg22 : BitVec 32 := Scf.iv v290 c1_i32_128 k0_t12
  let c4_i32_207 : BitVec 32 := 4#32
  let v435 : BitVec 32 := Scalar.muli arg22 c4_i32_207
  let c3_i32 : BitVec 32 := 3#32
  let v436 : BitVec 32 := Scalar.addi v435 c3_i32
  let v437 : BitVec 1 := Scalar.cmpi .slt v436 v266
  let v438 : BitVec 32 := Scalar.extui v437
  let c0_i32_208 : BitVec 32 := 0#32
  let v439 : BitVec 1 := Scalar.cmpi .ne v438 c0_i32_208
  v439

def k0_off86 (v11_2 : BitVec 32) (k0_t12 : Fin (k0_t12_loop v11_2).trips) : Fin 1 → Nat :=
  let c0_i32_125 : BitVec 32 := 0#32
  let c128_i32_106 : BitVec 32 := 128#32
  let v248 : BitVec 32 := Scalar.addi v11_2 c128_i32_106
  let c1_i32_107 : BitVec 32 := 1#32
  let v249 : BitVec 32 := Scalar.subi v248 c1_i32_107
  let c0_i32_109 : BitVec 32 := 0#32
  let v251 : BitVec 1 := Scalar.cmpi .sgt v249 c0_i32_109
  let v252 : BitVec 32 := Scalar.extui v251
  let c0_i32_110 : BitVec 32 := 0#32
  let v253 : BitVec 1 := Scalar.cmpi .slt v249 c0_i32_110
  let v254 : BitVec 32 := Scalar.extui v253
  let v255 : BitVec 32 := Scalar.subi v252 v254
  let c128_i32_108 : BitVec 32 := 128#32
  let c0_i32_111 : BitVec 32 := 0#32
  let v256 : BitVec 1 := Scalar.cmpi .sgt c128_i32_108 c0_i32_111
  let v257 : BitVec 32 := Scalar.extui v256
  let c0_i32_112 : BitVec 32 := 0#32
  let v258 : BitVec 1 := Scalar.cmpi .slt c128_i32_108 c0_i32_112
  let v259 : BitVec 32 := Scalar.extui v258
  let v260 : BitVec 32 := Scalar.subi v257 v259
  let v261 : BitVec 1 := Scalar.cmpi .ne v255 v260
  let v262 : BitVec 32 := Scalar.remsi v249 c128_i32_108
  let c0_i32_113 : BitVec 32 := 0#32
  let v263 : BitVec 1 := Scalar.cmpi .ne v262 c0_i32_113
  let v264 : BitVec 1 := Scalar.andi v261 v263
  let v250 : BitVec 32 := Scalar.divsi v249 c128_i32_108
  let c1_i32_114 : BitVec 32 := 1#32
  let v265 : BitVec 32 := Scalar.subi v250 c1_i32_114
  let v266 : BitVec 32 := Scalar.select v264 v265 v250
  let c4_i32_115 : BitVec 32 := 4#32
  let v267 : BitVec 32 := Scalar.addi v266 c4_i32_115
  let c1_i32_116 : BitVec 32 := 1#32
  let v268 : BitVec 32 := Scalar.subi v267 c1_i32_116
  let c0_i32_118 : BitVec 32 := 0#32
  let v270 : BitVec 1 := Scalar.cmpi .sgt v268 c0_i32_118
  let v271 : BitVec 32 := Scalar.extui v270
  let c0_i32_119 : BitVec 32 := 0#32
  let v272 : BitVec 1 := Scalar.cmpi .slt v268 c0_i32_119
  let v273 : BitVec 32 := Scalar.extui v272
  let v274 : BitVec 32 := Scalar.subi v271 v273
  let c4_i32_117 : BitVec 32 := 4#32
  let c0_i32_120 : BitVec 32 := 0#32
  let v275 : BitVec 1 := Scalar.cmpi .sgt c4_i32_117 c0_i32_120
  let v276 : BitVec 32 := Scalar.extui v275
  let c0_i32_121 : BitVec 32 := 0#32
  let v277 : BitVec 1 := Scalar.cmpi .slt c4_i32_117 c0_i32_121
  let v278 : BitVec 32 := Scalar.extui v277
  let v279 : BitVec 32 := Scalar.subi v276 v278
  let v280 : BitVec 1 := Scalar.cmpi .ne v274 v279
  let v281 : BitVec 32 := Scalar.remsi v268 c4_i32_117
  let c0_i32_122 : BitVec 32 := 0#32
  let v282 : BitVec 1 := Scalar.cmpi .ne v281 c0_i32_122
  let v283 : BitVec 1 := Scalar.andi v280 v282
  let v269 : BitVec 32 := Scalar.divsi v268 c4_i32_117
  let c1_i32_123 : BitVec 32 := 1#32
  let v284 : BitVec 32 := Scalar.subi v269 c1_i32_123
  let v285 : BitVec 32 := Scalar.select v283 v284 v269
  let v286 : BitVec 32 := Scalar.subi v285 c0_i32_125
  let c1_i32_126 : BitVec 32 := 1#32
  let v288 : BitVec 32 := Scalar.divsi v286 c1_i32_126
  let v289 : BitVec 32 := Scalar.muli v288 c1_i32_126
  let v290 : BitVec 32 := Scalar.addi c0_i32_125 v289
  let c1_i32_128 : BitVec 32 := 1#32
  let arg22 : BitVec 32 := Scf.iv v290 c1_i32_128 k0_t12
  let c4_i32_209 : BitVec 32 := 4#32
  let v440 : BitVec 32 := Scalar.muli arg22 c4_i32_209
  let c0_i32_210 : BitVec 32 := 0#32
  let v441 : BitVec 32 := Scalar.addi v440 c0_i32_210
  let c128_i32_221 : BitVec 32 := 128#32
  let v460 : BitVec 32 := Scalar.muli v441 c128_i32_221
  ![v460.toNat]
def k0_cond77 (v11_2 : BitVec 32) (k0_t12 : Fin (k0_t12_loop v11_2).trips) : BitVec 1 :=
  let c0_i32_125 : BitVec 32 := 0#32
  let c128_i32_106 : BitVec 32 := 128#32
  let v248 : BitVec 32 := Scalar.addi v11_2 c128_i32_106
  let c1_i32_107 : BitVec 32 := 1#32
  let v249 : BitVec 32 := Scalar.subi v248 c1_i32_107
  let c0_i32_109 : BitVec 32 := 0#32
  let v251 : BitVec 1 := Scalar.cmpi .sgt v249 c0_i32_109
  let v252 : BitVec 32 := Scalar.extui v251
  let c0_i32_110 : BitVec 32 := 0#32
  let v253 : BitVec 1 := Scalar.cmpi .slt v249 c0_i32_110
  let v254 : BitVec 32 := Scalar.extui v253
  let v255 : BitVec 32 := Scalar.subi v252 v254
  let c128_i32_108 : BitVec 32 := 128#32
  let c0_i32_111 : BitVec 32 := 0#32
  let v256 : BitVec 1 := Scalar.cmpi .sgt c128_i32_108 c0_i32_111
  let v257 : BitVec 32 := Scalar.extui v256
  let c0_i32_112 : BitVec 32 := 0#32
  let v258 : BitVec 1 := Scalar.cmpi .slt c128_i32_108 c0_i32_112
  let v259 : BitVec 32 := Scalar.extui v258
  let v260 : BitVec 32 := Scalar.subi v257 v259
  let v261 : BitVec 1 := Scalar.cmpi .ne v255 v260
  let v262 : BitVec 32 := Scalar.remsi v249 c128_i32_108
  let c0_i32_113 : BitVec 32 := 0#32
  let v263 : BitVec 1 := Scalar.cmpi .ne v262 c0_i32_113
  let v264 : BitVec 1 := Scalar.andi v261 v263
  let v250 : BitVec 32 := Scalar.divsi v249 c128_i32_108
  let c1_i32_114 : BitVec 32 := 1#32
  let v265 : BitVec 32 := Scalar.subi v250 c1_i32_114
  let v266 : BitVec 32 := Scalar.select v264 v265 v250
  let c4_i32_115 : BitVec 32 := 4#32
  let v267 : BitVec 32 := Scalar.addi v266 c4_i32_115
  let c1_i32_116 : BitVec 32 := 1#32
  let v268 : BitVec 32 := Scalar.subi v267 c1_i32_116
  let c0_i32_118 : BitVec 32 := 0#32
  let v270 : BitVec 1 := Scalar.cmpi .sgt v268 c0_i32_118
  let v271 : BitVec 32 := Scalar.extui v270
  let c0_i32_119 : BitVec 32 := 0#32
  let v272 : BitVec 1 := Scalar.cmpi .slt v268 c0_i32_119
  let v273 : BitVec 32 := Scalar.extui v272
  let v274 : BitVec 32 := Scalar.subi v271 v273
  let c4_i32_117 : BitVec 32 := 4#32
  let c0_i32_120 : BitVec 32 := 0#32
  let v275 : BitVec 1 := Scalar.cmpi .sgt c4_i32_117 c0_i32_120
  let v276 : BitVec 32 := Scalar.extui v275
  let c0_i32_121 : BitVec 32 := 0#32
  let v277 : BitVec 1 := Scalar.cmpi .slt c4_i32_117 c0_i32_121
  let v278 : BitVec 32 := Scalar.extui v277
  let v279 : BitVec 32 := Scalar.subi v276 v278
  let v280 : BitVec 1 := Scalar.cmpi .ne v274 v279
  let v281 : BitVec 32 := Scalar.remsi v268 c4_i32_117
  let c0_i32_122 : BitVec 32 := 0#32
  let v282 : BitVec 1 := Scalar.cmpi .ne v281 c0_i32_122
  let v283 : BitVec 1 := Scalar.andi v280 v282
  let v269 : BitVec 32 := Scalar.divsi v268 c4_i32_117
  let c1_i32_123 : BitVec 32 := 1#32
  let v284 : BitVec 32 := Scalar.subi v269 c1_i32_123
  let v285 : BitVec 32 := Scalar.select v283 v284 v269
  let v286 : BitVec 32 := Scalar.subi v285 c0_i32_125
  let c1_i32_126 : BitVec 32 := 1#32
  let v288 : BitVec 32 := Scalar.divsi v286 c1_i32_126
  let v289 : BitVec 32 := Scalar.muli v288 c1_i32_126
  let v290 : BitVec 32 := Scalar.addi c0_i32_125 v289
  let c1_i32_128 : BitVec 32 := 1#32
  let arg22 : BitVec 32 := Scf.iv v290 c1_i32_128 k0_t12
  let c4_i32_209 : BitVec 32 := 4#32
  let v440 : BitVec 32 := Scalar.muli arg22 c4_i32_209
  let c0_i32_210 : BitVec 32 := 0#32
  let v441 : BitVec 32 := Scalar.addi v440 c0_i32_210
  let v442 : BitVec 1 := Scalar.cmpi .slt v441 v266
  let v443 : BitVec 32 := Scalar.extui v442
  let c0_i32_211 : BitVec 32 := 0#32
  let v444 : BitVec 1 := Scalar.cmpi .ne v443 c0_i32_211
  v444

def k0_off87 (v11_2 : BitVec 32) (k0_t12 : Fin (k0_t12_loop v11_2).trips) : Fin 1 → Nat :=
  let c0_i32_125 : BitVec 32 := 0#32
  let c128_i32_106 : BitVec 32 := 128#32
  let v248 : BitVec 32 := Scalar.addi v11_2 c128_i32_106
  let c1_i32_107 : BitVec 32 := 1#32
  let v249 : BitVec 32 := Scalar.subi v248 c1_i32_107
  let c0_i32_109 : BitVec 32 := 0#32
  let v251 : BitVec 1 := Scalar.cmpi .sgt v249 c0_i32_109
  let v252 : BitVec 32 := Scalar.extui v251
  let c0_i32_110 : BitVec 32 := 0#32
  let v253 : BitVec 1 := Scalar.cmpi .slt v249 c0_i32_110
  let v254 : BitVec 32 := Scalar.extui v253
  let v255 : BitVec 32 := Scalar.subi v252 v254
  let c128_i32_108 : BitVec 32 := 128#32
  let c0_i32_111 : BitVec 32 := 0#32
  let v256 : BitVec 1 := Scalar.cmpi .sgt c128_i32_108 c0_i32_111
  let v257 : BitVec 32 := Scalar.extui v256
  let c0_i32_112 : BitVec 32 := 0#32
  let v258 : BitVec 1 := Scalar.cmpi .slt c128_i32_108 c0_i32_112
  let v259 : BitVec 32 := Scalar.extui v258
  let v260 : BitVec 32 := Scalar.subi v257 v259
  let v261 : BitVec 1 := Scalar.cmpi .ne v255 v260
  let v262 : BitVec 32 := Scalar.remsi v249 c128_i32_108
  let c0_i32_113 : BitVec 32 := 0#32
  let v263 : BitVec 1 := Scalar.cmpi .ne v262 c0_i32_113
  let v264 : BitVec 1 := Scalar.andi v261 v263
  let v250 : BitVec 32 := Scalar.divsi v249 c128_i32_108
  let c1_i32_114 : BitVec 32 := 1#32
  let v265 : BitVec 32 := Scalar.subi v250 c1_i32_114
  let v266 : BitVec 32 := Scalar.select v264 v265 v250
  let c4_i32_115 : BitVec 32 := 4#32
  let v267 : BitVec 32 := Scalar.addi v266 c4_i32_115
  let c1_i32_116 : BitVec 32 := 1#32
  let v268 : BitVec 32 := Scalar.subi v267 c1_i32_116
  let c0_i32_118 : BitVec 32 := 0#32
  let v270 : BitVec 1 := Scalar.cmpi .sgt v268 c0_i32_118
  let v271 : BitVec 32 := Scalar.extui v270
  let c0_i32_119 : BitVec 32 := 0#32
  let v272 : BitVec 1 := Scalar.cmpi .slt v268 c0_i32_119
  let v273 : BitVec 32 := Scalar.extui v272
  let v274 : BitVec 32 := Scalar.subi v271 v273
  let c4_i32_117 : BitVec 32 := 4#32
  let c0_i32_120 : BitVec 32 := 0#32
  let v275 : BitVec 1 := Scalar.cmpi .sgt c4_i32_117 c0_i32_120
  let v276 : BitVec 32 := Scalar.extui v275
  let c0_i32_121 : BitVec 32 := 0#32
  let v277 : BitVec 1 := Scalar.cmpi .slt c4_i32_117 c0_i32_121
  let v278 : BitVec 32 := Scalar.extui v277
  let v279 : BitVec 32 := Scalar.subi v276 v278
  let v280 : BitVec 1 := Scalar.cmpi .ne v274 v279
  let v281 : BitVec 32 := Scalar.remsi v268 c4_i32_117
  let c0_i32_122 : BitVec 32 := 0#32
  let v282 : BitVec 1 := Scalar.cmpi .ne v281 c0_i32_122
  let v283 : BitVec 1 := Scalar.andi v280 v282
  let v269 : BitVec 32 := Scalar.divsi v268 c4_i32_117
  let c1_i32_123 : BitVec 32 := 1#32
  let v284 : BitVec 32 := Scalar.subi v269 c1_i32_123
  let v285 : BitVec 32 := Scalar.select v283 v284 v269
  let v286 : BitVec 32 := Scalar.subi v285 c0_i32_125
  let c1_i32_126 : BitVec 32 := 1#32
  let v288 : BitVec 32 := Scalar.divsi v286 c1_i32_126
  let v289 : BitVec 32 := Scalar.muli v288 c1_i32_126
  let v290 : BitVec 32 := Scalar.addi c0_i32_125 v289
  let c1_i32_128 : BitVec 32 := 1#32
  let arg22 : BitVec 32 := Scf.iv v290 c1_i32_128 k0_t12
  let c4_i32_212 : BitVec 32 := 4#32
  let v445 : BitVec 32 := Scalar.muli arg22 c4_i32_212
  let c1_i32_213 : BitVec 32 := 1#32
  let v446 : BitVec 32 := Scalar.addi v445 c1_i32_213
  let c128_i32_221 : BitVec 32 := 128#32
  let v460 : BitVec 32 := Scalar.muli v446 c128_i32_221
  ![v460.toNat]
def k0_cond78 (v11_2 : BitVec 32) (k0_t12 : Fin (k0_t12_loop v11_2).trips) : BitVec 1 :=
  let c0_i32_125 : BitVec 32 := 0#32
  let c128_i32_106 : BitVec 32 := 128#32
  let v248 : BitVec 32 := Scalar.addi v11_2 c128_i32_106
  let c1_i32_107 : BitVec 32 := 1#32
  let v249 : BitVec 32 := Scalar.subi v248 c1_i32_107
  let c0_i32_109 : BitVec 32 := 0#32
  let v251 : BitVec 1 := Scalar.cmpi .sgt v249 c0_i32_109
  let v252 : BitVec 32 := Scalar.extui v251
  let c0_i32_110 : BitVec 32 := 0#32
  let v253 : BitVec 1 := Scalar.cmpi .slt v249 c0_i32_110
  let v254 : BitVec 32 := Scalar.extui v253
  let v255 : BitVec 32 := Scalar.subi v252 v254
  let c128_i32_108 : BitVec 32 := 128#32
  let c0_i32_111 : BitVec 32 := 0#32
  let v256 : BitVec 1 := Scalar.cmpi .sgt c128_i32_108 c0_i32_111
  let v257 : BitVec 32 := Scalar.extui v256
  let c0_i32_112 : BitVec 32 := 0#32
  let v258 : BitVec 1 := Scalar.cmpi .slt c128_i32_108 c0_i32_112
  let v259 : BitVec 32 := Scalar.extui v258
  let v260 : BitVec 32 := Scalar.subi v257 v259
  let v261 : BitVec 1 := Scalar.cmpi .ne v255 v260
  let v262 : BitVec 32 := Scalar.remsi v249 c128_i32_108
  let c0_i32_113 : BitVec 32 := 0#32
  let v263 : BitVec 1 := Scalar.cmpi .ne v262 c0_i32_113
  let v264 : BitVec 1 := Scalar.andi v261 v263
  let v250 : BitVec 32 := Scalar.divsi v249 c128_i32_108
  let c1_i32_114 : BitVec 32 := 1#32
  let v265 : BitVec 32 := Scalar.subi v250 c1_i32_114
  let v266 : BitVec 32 := Scalar.select v264 v265 v250
  let c4_i32_115 : BitVec 32 := 4#32
  let v267 : BitVec 32 := Scalar.addi v266 c4_i32_115
  let c1_i32_116 : BitVec 32 := 1#32
  let v268 : BitVec 32 := Scalar.subi v267 c1_i32_116
  let c0_i32_118 : BitVec 32 := 0#32
  let v270 : BitVec 1 := Scalar.cmpi .sgt v268 c0_i32_118
  let v271 : BitVec 32 := Scalar.extui v270
  let c0_i32_119 : BitVec 32 := 0#32
  let v272 : BitVec 1 := Scalar.cmpi .slt v268 c0_i32_119
  let v273 : BitVec 32 := Scalar.extui v272
  let v274 : BitVec 32 := Scalar.subi v271 v273
  let c4_i32_117 : BitVec 32 := 4#32
  let c0_i32_120 : BitVec 32 := 0#32
  let v275 : BitVec 1 := Scalar.cmpi .sgt c4_i32_117 c0_i32_120
  let v276 : BitVec 32 := Scalar.extui v275
  let c0_i32_121 : BitVec 32 := 0#32
  let v277 : BitVec 1 := Scalar.cmpi .slt c4_i32_117 c0_i32_121
  let v278 : BitVec 32 := Scalar.extui v277
  let v279 : BitVec 32 := Scalar.subi v276 v278
  let v280 : BitVec 1 := Scalar.cmpi .ne v274 v279
  let v281 : BitVec 32 := Scalar.remsi v268 c4_i32_117
  let c0_i32_122 : BitVec 32 := 0#32
  let v282 : BitVec 1 := Scalar.cmpi .ne v281 c0_i32_122
  let v283 : BitVec 1 := Scalar.andi v280 v282
  let v269 : BitVec 32 := Scalar.divsi v268 c4_i32_117
  let c1_i32_123 : BitVec 32 := 1#32
  let v284 : BitVec 32 := Scalar.subi v269 c1_i32_123
  let v285 : BitVec 32 := Scalar.select v283 v284 v269
  let v286 : BitVec 32 := Scalar.subi v285 c0_i32_125
  let c1_i32_126 : BitVec 32 := 1#32
  let v288 : BitVec 32 := Scalar.divsi v286 c1_i32_126
  let v289 : BitVec 32 := Scalar.muli v288 c1_i32_126
  let v290 : BitVec 32 := Scalar.addi c0_i32_125 v289
  let c1_i32_128 : BitVec 32 := 1#32
  let arg22 : BitVec 32 := Scf.iv v290 c1_i32_128 k0_t12
  let c4_i32_212 : BitVec 32 := 4#32
  let v445 : BitVec 32 := Scalar.muli arg22 c4_i32_212
  let c1_i32_213 : BitVec 32 := 1#32
  let v446 : BitVec 32 := Scalar.addi v445 c1_i32_213
  let v447 : BitVec 1 := Scalar.cmpi .slt v446 v266
  let v448 : BitVec 32 := Scalar.extui v447
  let c0_i32_214 : BitVec 32 := 0#32
  let v449 : BitVec 1 := Scalar.cmpi .ne v448 c0_i32_214
  v449

def k0_off88 (v11_2 : BitVec 32) (k0_t12 : Fin (k0_t12_loop v11_2).trips) : Fin 1 → Nat :=
  let c0_i32_125 : BitVec 32 := 0#32
  let c128_i32_106 : BitVec 32 := 128#32
  let v248 : BitVec 32 := Scalar.addi v11_2 c128_i32_106
  let c1_i32_107 : BitVec 32 := 1#32
  let v249 : BitVec 32 := Scalar.subi v248 c1_i32_107
  let c0_i32_109 : BitVec 32 := 0#32
  let v251 : BitVec 1 := Scalar.cmpi .sgt v249 c0_i32_109
  let v252 : BitVec 32 := Scalar.extui v251
  let c0_i32_110 : BitVec 32 := 0#32
  let v253 : BitVec 1 := Scalar.cmpi .slt v249 c0_i32_110
  let v254 : BitVec 32 := Scalar.extui v253
  let v255 : BitVec 32 := Scalar.subi v252 v254
  let c128_i32_108 : BitVec 32 := 128#32
  let c0_i32_111 : BitVec 32 := 0#32
  let v256 : BitVec 1 := Scalar.cmpi .sgt c128_i32_108 c0_i32_111
  let v257 : BitVec 32 := Scalar.extui v256
  let c0_i32_112 : BitVec 32 := 0#32
  let v258 : BitVec 1 := Scalar.cmpi .slt c128_i32_108 c0_i32_112
  let v259 : BitVec 32 := Scalar.extui v258
  let v260 : BitVec 32 := Scalar.subi v257 v259
  let v261 : BitVec 1 := Scalar.cmpi .ne v255 v260
  let v262 : BitVec 32 := Scalar.remsi v249 c128_i32_108
  let c0_i32_113 : BitVec 32 := 0#32
  let v263 : BitVec 1 := Scalar.cmpi .ne v262 c0_i32_113
  let v264 : BitVec 1 := Scalar.andi v261 v263
  let v250 : BitVec 32 := Scalar.divsi v249 c128_i32_108
  let c1_i32_114 : BitVec 32 := 1#32
  let v265 : BitVec 32 := Scalar.subi v250 c1_i32_114
  let v266 : BitVec 32 := Scalar.select v264 v265 v250
  let c4_i32_115 : BitVec 32 := 4#32
  let v267 : BitVec 32 := Scalar.addi v266 c4_i32_115
  let c1_i32_116 : BitVec 32 := 1#32
  let v268 : BitVec 32 := Scalar.subi v267 c1_i32_116
  let c0_i32_118 : BitVec 32 := 0#32
  let v270 : BitVec 1 := Scalar.cmpi .sgt v268 c0_i32_118
  let v271 : BitVec 32 := Scalar.extui v270
  let c0_i32_119 : BitVec 32 := 0#32
  let v272 : BitVec 1 := Scalar.cmpi .slt v268 c0_i32_119
  let v273 : BitVec 32 := Scalar.extui v272
  let v274 : BitVec 32 := Scalar.subi v271 v273
  let c4_i32_117 : BitVec 32 := 4#32
  let c0_i32_120 : BitVec 32 := 0#32
  let v275 : BitVec 1 := Scalar.cmpi .sgt c4_i32_117 c0_i32_120
  let v276 : BitVec 32 := Scalar.extui v275
  let c0_i32_121 : BitVec 32 := 0#32
  let v277 : BitVec 1 := Scalar.cmpi .slt c4_i32_117 c0_i32_121
  let v278 : BitVec 32 := Scalar.extui v277
  let v279 : BitVec 32 := Scalar.subi v276 v278
  let v280 : BitVec 1 := Scalar.cmpi .ne v274 v279
  let v281 : BitVec 32 := Scalar.remsi v268 c4_i32_117
  let c0_i32_122 : BitVec 32 := 0#32
  let v282 : BitVec 1 := Scalar.cmpi .ne v281 c0_i32_122
  let v283 : BitVec 1 := Scalar.andi v280 v282
  let v269 : BitVec 32 := Scalar.divsi v268 c4_i32_117
  let c1_i32_123 : BitVec 32 := 1#32
  let v284 : BitVec 32 := Scalar.subi v269 c1_i32_123
  let v285 : BitVec 32 := Scalar.select v283 v284 v269
  let v286 : BitVec 32 := Scalar.subi v285 c0_i32_125
  let c1_i32_126 : BitVec 32 := 1#32
  let v288 : BitVec 32 := Scalar.divsi v286 c1_i32_126
  let v289 : BitVec 32 := Scalar.muli v288 c1_i32_126
  let v290 : BitVec 32 := Scalar.addi c0_i32_125 v289
  let c1_i32_128 : BitVec 32 := 1#32
  let arg22 : BitVec 32 := Scf.iv v290 c1_i32_128 k0_t12
  let c4_i32_215 : BitVec 32 := 4#32
  let v450 : BitVec 32 := Scalar.muli arg22 c4_i32_215
  let c2_i32_216 : BitVec 32 := 2#32
  let v451 : BitVec 32 := Scalar.addi v450 c2_i32_216
  let c128_i32_221 : BitVec 32 := 128#32
  let v460 : BitVec 32 := Scalar.muli v451 c128_i32_221
  ![v460.toNat]
def k0_cond79 (v11_2 : BitVec 32) (k0_t12 : Fin (k0_t12_loop v11_2).trips) : BitVec 1 :=
  let c0_i32_125 : BitVec 32 := 0#32
  let c128_i32_106 : BitVec 32 := 128#32
  let v248 : BitVec 32 := Scalar.addi v11_2 c128_i32_106
  let c1_i32_107 : BitVec 32 := 1#32
  let v249 : BitVec 32 := Scalar.subi v248 c1_i32_107
  let c0_i32_109 : BitVec 32 := 0#32
  let v251 : BitVec 1 := Scalar.cmpi .sgt v249 c0_i32_109
  let v252 : BitVec 32 := Scalar.extui v251
  let c0_i32_110 : BitVec 32 := 0#32
  let v253 : BitVec 1 := Scalar.cmpi .slt v249 c0_i32_110
  let v254 : BitVec 32 := Scalar.extui v253
  let v255 : BitVec 32 := Scalar.subi v252 v254
  let c128_i32_108 : BitVec 32 := 128#32
  let c0_i32_111 : BitVec 32 := 0#32
  let v256 : BitVec 1 := Scalar.cmpi .sgt c128_i32_108 c0_i32_111
  let v257 : BitVec 32 := Scalar.extui v256
  let c0_i32_112 : BitVec 32 := 0#32
  let v258 : BitVec 1 := Scalar.cmpi .slt c128_i32_108 c0_i32_112
  let v259 : BitVec 32 := Scalar.extui v258
  let v260 : BitVec 32 := Scalar.subi v257 v259
  let v261 : BitVec 1 := Scalar.cmpi .ne v255 v260
  let v262 : BitVec 32 := Scalar.remsi v249 c128_i32_108
  let c0_i32_113 : BitVec 32 := 0#32
  let v263 : BitVec 1 := Scalar.cmpi .ne v262 c0_i32_113
  let v264 : BitVec 1 := Scalar.andi v261 v263
  let v250 : BitVec 32 := Scalar.divsi v249 c128_i32_108
  let c1_i32_114 : BitVec 32 := 1#32
  let v265 : BitVec 32 := Scalar.subi v250 c1_i32_114
  let v266 : BitVec 32 := Scalar.select v264 v265 v250
  let c4_i32_115 : BitVec 32 := 4#32
  let v267 : BitVec 32 := Scalar.addi v266 c4_i32_115
  let c1_i32_116 : BitVec 32 := 1#32
  let v268 : BitVec 32 := Scalar.subi v267 c1_i32_116
  let c0_i32_118 : BitVec 32 := 0#32
  let v270 : BitVec 1 := Scalar.cmpi .sgt v268 c0_i32_118
  let v271 : BitVec 32 := Scalar.extui v270
  let c0_i32_119 : BitVec 32 := 0#32
  let v272 : BitVec 1 := Scalar.cmpi .slt v268 c0_i32_119
  let v273 : BitVec 32 := Scalar.extui v272
  let v274 : BitVec 32 := Scalar.subi v271 v273
  let c4_i32_117 : BitVec 32 := 4#32
  let c0_i32_120 : BitVec 32 := 0#32
  let v275 : BitVec 1 := Scalar.cmpi .sgt c4_i32_117 c0_i32_120
  let v276 : BitVec 32 := Scalar.extui v275
  let c0_i32_121 : BitVec 32 := 0#32
  let v277 : BitVec 1 := Scalar.cmpi .slt c4_i32_117 c0_i32_121
  let v278 : BitVec 32 := Scalar.extui v277
  let v279 : BitVec 32 := Scalar.subi v276 v278
  let v280 : BitVec 1 := Scalar.cmpi .ne v274 v279
  let v281 : BitVec 32 := Scalar.remsi v268 c4_i32_117
  let c0_i32_122 : BitVec 32 := 0#32
  let v282 : BitVec 1 := Scalar.cmpi .ne v281 c0_i32_122
  let v283 : BitVec 1 := Scalar.andi v280 v282
  let v269 : BitVec 32 := Scalar.divsi v268 c4_i32_117
  let c1_i32_123 : BitVec 32 := 1#32
  let v284 : BitVec 32 := Scalar.subi v269 c1_i32_123
  let v285 : BitVec 32 := Scalar.select v283 v284 v269
  let v286 : BitVec 32 := Scalar.subi v285 c0_i32_125
  let c1_i32_126 : BitVec 32 := 1#32
  let v288 : BitVec 32 := Scalar.divsi v286 c1_i32_126
  let v289 : BitVec 32 := Scalar.muli v288 c1_i32_126
  let v290 : BitVec 32 := Scalar.addi c0_i32_125 v289
  let c1_i32_128 : BitVec 32 := 1#32
  let arg22 : BitVec 32 := Scf.iv v290 c1_i32_128 k0_t12
  let c4_i32_215 : BitVec 32 := 4#32
  let v450 : BitVec 32 := Scalar.muli arg22 c4_i32_215
  let c2_i32_216 : BitVec 32 := 2#32
  let v451 : BitVec 32 := Scalar.addi v450 c2_i32_216
  let v452 : BitVec 1 := Scalar.cmpi .slt v451 v266
  let v453 : BitVec 32 := Scalar.extui v452
  let c0_i32_217 : BitVec 32 := 0#32
  let v454 : BitVec 1 := Scalar.cmpi .ne v453 c0_i32_217
  v454

def k0_off89 (v11_2 : BitVec 32) (k0_t12 : Fin (k0_t12_loop v11_2).trips) : Fin 1 → Nat :=
  let c0_i32_125 : BitVec 32 := 0#32
  let c128_i32_106 : BitVec 32 := 128#32
  let v248 : BitVec 32 := Scalar.addi v11_2 c128_i32_106
  let c1_i32_107 : BitVec 32 := 1#32
  let v249 : BitVec 32 := Scalar.subi v248 c1_i32_107
  let c0_i32_109 : BitVec 32 := 0#32
  let v251 : BitVec 1 := Scalar.cmpi .sgt v249 c0_i32_109
  let v252 : BitVec 32 := Scalar.extui v251
  let c0_i32_110 : BitVec 32 := 0#32
  let v253 : BitVec 1 := Scalar.cmpi .slt v249 c0_i32_110
  let v254 : BitVec 32 := Scalar.extui v253
  let v255 : BitVec 32 := Scalar.subi v252 v254
  let c128_i32_108 : BitVec 32 := 128#32
  let c0_i32_111 : BitVec 32 := 0#32
  let v256 : BitVec 1 := Scalar.cmpi .sgt c128_i32_108 c0_i32_111
  let v257 : BitVec 32 := Scalar.extui v256
  let c0_i32_112 : BitVec 32 := 0#32
  let v258 : BitVec 1 := Scalar.cmpi .slt c128_i32_108 c0_i32_112
  let v259 : BitVec 32 := Scalar.extui v258
  let v260 : BitVec 32 := Scalar.subi v257 v259
  let v261 : BitVec 1 := Scalar.cmpi .ne v255 v260
  let v262 : BitVec 32 := Scalar.remsi v249 c128_i32_108
  let c0_i32_113 : BitVec 32 := 0#32
  let v263 : BitVec 1 := Scalar.cmpi .ne v262 c0_i32_113
  let v264 : BitVec 1 := Scalar.andi v261 v263
  let v250 : BitVec 32 := Scalar.divsi v249 c128_i32_108
  let c1_i32_114 : BitVec 32 := 1#32
  let v265 : BitVec 32 := Scalar.subi v250 c1_i32_114
  let v266 : BitVec 32 := Scalar.select v264 v265 v250
  let c4_i32_115 : BitVec 32 := 4#32
  let v267 : BitVec 32 := Scalar.addi v266 c4_i32_115
  let c1_i32_116 : BitVec 32 := 1#32
  let v268 : BitVec 32 := Scalar.subi v267 c1_i32_116
  let c0_i32_118 : BitVec 32 := 0#32
  let v270 : BitVec 1 := Scalar.cmpi .sgt v268 c0_i32_118
  let v271 : BitVec 32 := Scalar.extui v270
  let c0_i32_119 : BitVec 32 := 0#32
  let v272 : BitVec 1 := Scalar.cmpi .slt v268 c0_i32_119
  let v273 : BitVec 32 := Scalar.extui v272
  let v274 : BitVec 32 := Scalar.subi v271 v273
  let c4_i32_117 : BitVec 32 := 4#32
  let c0_i32_120 : BitVec 32 := 0#32
  let v275 : BitVec 1 := Scalar.cmpi .sgt c4_i32_117 c0_i32_120
  let v276 : BitVec 32 := Scalar.extui v275
  let c0_i32_121 : BitVec 32 := 0#32
  let v277 : BitVec 1 := Scalar.cmpi .slt c4_i32_117 c0_i32_121
  let v278 : BitVec 32 := Scalar.extui v277
  let v279 : BitVec 32 := Scalar.subi v276 v278
  let v280 : BitVec 1 := Scalar.cmpi .ne v274 v279
  let v281 : BitVec 32 := Scalar.remsi v268 c4_i32_117
  let c0_i32_122 : BitVec 32 := 0#32
  let v282 : BitVec 1 := Scalar.cmpi .ne v281 c0_i32_122
  let v283 : BitVec 1 := Scalar.andi v280 v282
  let v269 : BitVec 32 := Scalar.divsi v268 c4_i32_117
  let c1_i32_123 : BitVec 32 := 1#32
  let v284 : BitVec 32 := Scalar.subi v269 c1_i32_123
  let v285 : BitVec 32 := Scalar.select v283 v284 v269
  let v286 : BitVec 32 := Scalar.subi v285 c0_i32_125
  let c1_i32_126 : BitVec 32 := 1#32
  let v288 : BitVec 32 := Scalar.divsi v286 c1_i32_126
  let v289 : BitVec 32 := Scalar.muli v288 c1_i32_126
  let v290 : BitVec 32 := Scalar.addi c0_i32_125 v289
  let c1_i32_128 : BitVec 32 := 1#32
  let arg22 : BitVec 32 := Scf.iv v290 c1_i32_128 k0_t12
  let c4_i32_218 : BitVec 32 := 4#32
  let v455 : BitVec 32 := Scalar.muli arg22 c4_i32_218
  let c3_i32_219 : BitVec 32 := 3#32
  let v456 : BitVec 32 := Scalar.addi v455 c3_i32_219
  let c128_i32_221 : BitVec 32 := 128#32
  let v460 : BitVec 32 := Scalar.muli v456 c128_i32_221
  ![v460.toNat]
def k0_cond80 (v11_2 : BitVec 32) (k0_t12 : Fin (k0_t12_loop v11_2).trips) : BitVec 1 :=
  let c0_i32_125 : BitVec 32 := 0#32
  let c128_i32_106 : BitVec 32 := 128#32
  let v248 : BitVec 32 := Scalar.addi v11_2 c128_i32_106
  let c1_i32_107 : BitVec 32 := 1#32
  let v249 : BitVec 32 := Scalar.subi v248 c1_i32_107
  let c0_i32_109 : BitVec 32 := 0#32
  let v251 : BitVec 1 := Scalar.cmpi .sgt v249 c0_i32_109
  let v252 : BitVec 32 := Scalar.extui v251
  let c0_i32_110 : BitVec 32 := 0#32
  let v253 : BitVec 1 := Scalar.cmpi .slt v249 c0_i32_110
  let v254 : BitVec 32 := Scalar.extui v253
  let v255 : BitVec 32 := Scalar.subi v252 v254
  let c128_i32_108 : BitVec 32 := 128#32
  let c0_i32_111 : BitVec 32 := 0#32
  let v256 : BitVec 1 := Scalar.cmpi .sgt c128_i32_108 c0_i32_111
  let v257 : BitVec 32 := Scalar.extui v256
  let c0_i32_112 : BitVec 32 := 0#32
  let v258 : BitVec 1 := Scalar.cmpi .slt c128_i32_108 c0_i32_112
  let v259 : BitVec 32 := Scalar.extui v258
  let v260 : BitVec 32 := Scalar.subi v257 v259
  let v261 : BitVec 1 := Scalar.cmpi .ne v255 v260
  let v262 : BitVec 32 := Scalar.remsi v249 c128_i32_108
  let c0_i32_113 : BitVec 32 := 0#32
  let v263 : BitVec 1 := Scalar.cmpi .ne v262 c0_i32_113
  let v264 : BitVec 1 := Scalar.andi v261 v263
  let v250 : BitVec 32 := Scalar.divsi v249 c128_i32_108
  let c1_i32_114 : BitVec 32 := 1#32
  let v265 : BitVec 32 := Scalar.subi v250 c1_i32_114
  let v266 : BitVec 32 := Scalar.select v264 v265 v250
  let c4_i32_115 : BitVec 32 := 4#32
  let v267 : BitVec 32 := Scalar.addi v266 c4_i32_115
  let c1_i32_116 : BitVec 32 := 1#32
  let v268 : BitVec 32 := Scalar.subi v267 c1_i32_116
  let c0_i32_118 : BitVec 32 := 0#32
  let v270 : BitVec 1 := Scalar.cmpi .sgt v268 c0_i32_118
  let v271 : BitVec 32 := Scalar.extui v270
  let c0_i32_119 : BitVec 32 := 0#32
  let v272 : BitVec 1 := Scalar.cmpi .slt v268 c0_i32_119
  let v273 : BitVec 32 := Scalar.extui v272
  let v274 : BitVec 32 := Scalar.subi v271 v273
  let c4_i32_117 : BitVec 32 := 4#32
  let c0_i32_120 : BitVec 32 := 0#32
  let v275 : BitVec 1 := Scalar.cmpi .sgt c4_i32_117 c0_i32_120
  let v276 : BitVec 32 := Scalar.extui v275
  let c0_i32_121 : BitVec 32 := 0#32
  let v277 : BitVec 1 := Scalar.cmpi .slt c4_i32_117 c0_i32_121
  let v278 : BitVec 32 := Scalar.extui v277
  let v279 : BitVec 32 := Scalar.subi v276 v278
  let v280 : BitVec 1 := Scalar.cmpi .ne v274 v279
  let v281 : BitVec 32 := Scalar.remsi v268 c4_i32_117
  let c0_i32_122 : BitVec 32 := 0#32
  let v282 : BitVec 1 := Scalar.cmpi .ne v281 c0_i32_122
  let v283 : BitVec 1 := Scalar.andi v280 v282
  let v269 : BitVec 32 := Scalar.divsi v268 c4_i32_117
  let c1_i32_123 : BitVec 32 := 1#32
  let v284 : BitVec 32 := Scalar.subi v269 c1_i32_123
  let v285 : BitVec 32 := Scalar.select v283 v284 v269
  let v286 : BitVec 32 := Scalar.subi v285 c0_i32_125
  let c1_i32_126 : BitVec 32 := 1#32
  let v288 : BitVec 32 := Scalar.divsi v286 c1_i32_126
  let v289 : BitVec 32 := Scalar.muli v288 c1_i32_126
  let v290 : BitVec 32 := Scalar.addi c0_i32_125 v289
  let c1_i32_128 : BitVec 32 := 1#32
  let arg22 : BitVec 32 := Scf.iv v290 c1_i32_128 k0_t12
  let c4_i32_218 : BitVec 32 := 4#32
  let v455 : BitVec 32 := Scalar.muli arg22 c4_i32_218
  let c3_i32_219 : BitVec 32 := 3#32
  let v456 : BitVec 32 := Scalar.addi v455 c3_i32_219
  let v457 : BitVec 1 := Scalar.cmpi .slt v456 v266
  let v458 : BitVec 32 := Scalar.extui v457
  let c0_i32_220 : BitVec 32 := 0#32
  let v459 : BitVec 1 := Scalar.cmpi .ne v458 c0_i32_220
  v459

@[reducible] def k0_t13_loop (v11_0 : BitVec 32) : Scf.Loop 32 :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_150 : BitVec 32 := 1#32
  ⟨c0_i32_148, v333, c1_i32_150⟩
def k0_off90 (v11_0 : BitVec 32) (k0_t13 : Fin (k0_t13_loop v11_0).trips) : Fin 1 → Nat :=
  let c0_i32_148 : BitVec 32 := 0#32
  let c1_i32_150 : BitVec 32 := 1#32
  let arg22 : BitVec 32 := Scf.iv c0_i32_148 c1_i32_150 k0_t13
  let c4_i32_198 : BitVec 32 := 4#32
  let v420 : BitVec 32 := Scalar.muli arg22 c4_i32_198
  let c0_i32_199 : BitVec 32 := 0#32
  let v421 : BitVec 32 := Scalar.addi v420 c0_i32_199
  let c128_i32_245 : BitVec 32 := 128#32
  let v500 : BitVec 32 := Scalar.muli v421 c128_i32_245
  ![v500.toNat]
def k0_cond81 (v11_0 : BitVec 32) (k0_t13 : Fin (k0_t13_loop v11_0).trips) : BitVec 1 :=
  let c0_i32_148 : BitVec 32 := 0#32
  let c1_i32_150 : BitVec 32 := 1#32
  let arg22 : BitVec 32 := Scf.iv c0_i32_148 c1_i32_150 k0_t13
  let c4_i32_198 : BitVec 32 := 4#32
  let v420 : BitVec 32 := Scalar.muli arg22 c4_i32_198
  let c0_i32_199 : BitVec 32 := 0#32
  let v421 : BitVec 32 := Scalar.addi v420 c0_i32_199
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let v422 : BitVec 1 := Scalar.cmpi .slt v421 v309
  let v423 : BitVec 32 := Scalar.extui v422
  let c0_i32_200 : BitVec 32 := 0#32
  let v424 : BitVec 1 := Scalar.cmpi .ne v423 c0_i32_200
  v424

def k0_off91 (v11_0 : BitVec 32) (k0_t13 : Fin (k0_t13_loop v11_0).trips) : Fin 1 → Nat :=
  let c0_i32_148 : BitVec 32 := 0#32
  let c1_i32_150 : BitVec 32 := 1#32
  let arg22 : BitVec 32 := Scf.iv c0_i32_148 c1_i32_150 k0_t13
  let c4_i32_201 : BitVec 32 := 4#32
  let v425 : BitVec 32 := Scalar.muli arg22 c4_i32_201
  let c1_i32_202 : BitVec 32 := 1#32
  let v426 : BitVec 32 := Scalar.addi v425 c1_i32_202
  let c128_i32_245 : BitVec 32 := 128#32
  let v500 : BitVec 32 := Scalar.muli v426 c128_i32_245
  ![v500.toNat]
def k0_cond82 (v11_0 : BitVec 32) (k0_t13 : Fin (k0_t13_loop v11_0).trips) : BitVec 1 :=
  let c0_i32_148 : BitVec 32 := 0#32
  let c1_i32_150 : BitVec 32 := 1#32
  let arg22 : BitVec 32 := Scf.iv c0_i32_148 c1_i32_150 k0_t13
  let c4_i32_201 : BitVec 32 := 4#32
  let v425 : BitVec 32 := Scalar.muli arg22 c4_i32_201
  let c1_i32_202 : BitVec 32 := 1#32
  let v426 : BitVec 32 := Scalar.addi v425 c1_i32_202
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let v427 : BitVec 1 := Scalar.cmpi .slt v426 v309
  let v428 : BitVec 32 := Scalar.extui v427
  let c0_i32_203 : BitVec 32 := 0#32
  let v429 : BitVec 1 := Scalar.cmpi .ne v428 c0_i32_203
  v429

def k0_off92 (v11_0 : BitVec 32) (k0_t13 : Fin (k0_t13_loop v11_0).trips) : Fin 1 → Nat :=
  let c0_i32_148 : BitVec 32 := 0#32
  let c1_i32_150 : BitVec 32 := 1#32
  let arg22 : BitVec 32 := Scf.iv c0_i32_148 c1_i32_150 k0_t13
  let c4_i32_204 : BitVec 32 := 4#32
  let v430 : BitVec 32 := Scalar.muli arg22 c4_i32_204
  let c2_i32_205 : BitVec 32 := 2#32
  let v431 : BitVec 32 := Scalar.addi v430 c2_i32_205
  let c128_i32_245 : BitVec 32 := 128#32
  let v500 : BitVec 32 := Scalar.muli v431 c128_i32_245
  ![v500.toNat]
def k0_cond83 (v11_0 : BitVec 32) (k0_t13 : Fin (k0_t13_loop v11_0).trips) : BitVec 1 :=
  let c0_i32_148 : BitVec 32 := 0#32
  let c1_i32_150 : BitVec 32 := 1#32
  let arg22 : BitVec 32 := Scf.iv c0_i32_148 c1_i32_150 k0_t13
  let c4_i32_204 : BitVec 32 := 4#32
  let v430 : BitVec 32 := Scalar.muli arg22 c4_i32_204
  let c2_i32_205 : BitVec 32 := 2#32
  let v431 : BitVec 32 := Scalar.addi v430 c2_i32_205
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let v432 : BitVec 1 := Scalar.cmpi .slt v431 v309
  let v433 : BitVec 32 := Scalar.extui v432
  let c0_i32_206 : BitVec 32 := 0#32
  let v434 : BitVec 1 := Scalar.cmpi .ne v433 c0_i32_206
  v434

def k0_off93 (v11_0 : BitVec 32) (k0_t13 : Fin (k0_t13_loop v11_0).trips) : Fin 1 → Nat :=
  let c0_i32_148 : BitVec 32 := 0#32
  let c1_i32_150 : BitVec 32 := 1#32
  let arg22 : BitVec 32 := Scf.iv c0_i32_148 c1_i32_150 k0_t13
  let c4_i32_207 : BitVec 32 := 4#32
  let v435 : BitVec 32 := Scalar.muli arg22 c4_i32_207
  let c3_i32 : BitVec 32 := 3#32
  let v436 : BitVec 32 := Scalar.addi v435 c3_i32
  let c128_i32_245 : BitVec 32 := 128#32
  let v500 : BitVec 32 := Scalar.muli v436 c128_i32_245
  ![v500.toNat]
def k0_cond84 (v11_0 : BitVec 32) (k0_t13 : Fin (k0_t13_loop v11_0).trips) : BitVec 1 :=
  let c0_i32_148 : BitVec 32 := 0#32
  let c1_i32_150 : BitVec 32 := 1#32
  let arg22 : BitVec 32 := Scf.iv c0_i32_148 c1_i32_150 k0_t13
  let c4_i32_207 : BitVec 32 := 4#32
  let v435 : BitVec 32 := Scalar.muli arg22 c4_i32_207
  let c3_i32 : BitVec 32 := 3#32
  let v436 : BitVec 32 := Scalar.addi v435 c3_i32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let v437 : BitVec 1 := Scalar.cmpi .slt v436 v309
  let v438 : BitVec 32 := Scalar.extui v437
  let c0_i32_208 : BitVec 32 := 0#32
  let v439 : BitVec 1 := Scalar.cmpi .ne v438 c0_i32_208
  v439

def k0_off94 (v11_0 : BitVec 32) (k0_t13 : Fin (k0_t13_loop v11_0).trips) : Fin 1 → Nat :=
  let c0_i32_148 : BitVec 32 := 0#32
  let c1_i32_150 : BitVec 32 := 1#32
  let arg22 : BitVec 32 := Scf.iv c0_i32_148 c1_i32_150 k0_t13
  let c4_i32_209 : BitVec 32 := 4#32
  let v440 : BitVec 32 := Scalar.muli arg22 c4_i32_209
  let c0_i32_210 : BitVec 32 := 0#32
  let v441 : BitVec 32 := Scalar.addi v440 c0_i32_210
  let c128_i32_245 : BitVec 32 := 128#32
  let v500 : BitVec 32 := Scalar.muli v441 c128_i32_245
  ![v500.toNat]
def k0_cond85 (v11_0 : BitVec 32) (k0_t13 : Fin (k0_t13_loop v11_0).trips) : BitVec 1 :=
  let c0_i32_148 : BitVec 32 := 0#32
  let c1_i32_150 : BitVec 32 := 1#32
  let arg22 : BitVec 32 := Scf.iv c0_i32_148 c1_i32_150 k0_t13
  let c4_i32_209 : BitVec 32 := 4#32
  let v440 : BitVec 32 := Scalar.muli arg22 c4_i32_209
  let c0_i32_210 : BitVec 32 := 0#32
  let v441 : BitVec 32 := Scalar.addi v440 c0_i32_210
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let v442 : BitVec 1 := Scalar.cmpi .slt v441 v309
  let v443 : BitVec 32 := Scalar.extui v442
  let c0_i32_211 : BitVec 32 := 0#32
  let v444 : BitVec 1 := Scalar.cmpi .ne v443 c0_i32_211
  v444

def k0_off95 (v11_0 : BitVec 32) (k0_t13 : Fin (k0_t13_loop v11_0).trips) : Fin 1 → Nat :=
  let c0_i32_148 : BitVec 32 := 0#32
  let c1_i32_150 : BitVec 32 := 1#32
  let arg22 : BitVec 32 := Scf.iv c0_i32_148 c1_i32_150 k0_t13
  let c4_i32_212 : BitVec 32 := 4#32
  let v445 : BitVec 32 := Scalar.muli arg22 c4_i32_212
  let c1_i32_213 : BitVec 32 := 1#32
  let v446 : BitVec 32 := Scalar.addi v445 c1_i32_213
  let c128_i32_245 : BitVec 32 := 128#32
  let v500 : BitVec 32 := Scalar.muli v446 c128_i32_245
  ![v500.toNat]
def k0_cond86 (v11_0 : BitVec 32) (k0_t13 : Fin (k0_t13_loop v11_0).trips) : BitVec 1 :=
  let c0_i32_148 : BitVec 32 := 0#32
  let c1_i32_150 : BitVec 32 := 1#32
  let arg22 : BitVec 32 := Scf.iv c0_i32_148 c1_i32_150 k0_t13
  let c4_i32_212 : BitVec 32 := 4#32
  let v445 : BitVec 32 := Scalar.muli arg22 c4_i32_212
  let c1_i32_213 : BitVec 32 := 1#32
  let v446 : BitVec 32 := Scalar.addi v445 c1_i32_213
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let v447 : BitVec 1 := Scalar.cmpi .slt v446 v309
  let v448 : BitVec 32 := Scalar.extui v447
  let c0_i32_214 : BitVec 32 := 0#32
  let v449 : BitVec 1 := Scalar.cmpi .ne v448 c0_i32_214
  v449

def k0_off96 (v11_0 : BitVec 32) (k0_t13 : Fin (k0_t13_loop v11_0).trips) : Fin 1 → Nat :=
  let c0_i32_148 : BitVec 32 := 0#32
  let c1_i32_150 : BitVec 32 := 1#32
  let arg22 : BitVec 32 := Scf.iv c0_i32_148 c1_i32_150 k0_t13
  let c4_i32_215 : BitVec 32 := 4#32
  let v450 : BitVec 32 := Scalar.muli arg22 c4_i32_215
  let c2_i32_216 : BitVec 32 := 2#32
  let v451 : BitVec 32 := Scalar.addi v450 c2_i32_216
  let c128_i32_245 : BitVec 32 := 128#32
  let v500 : BitVec 32 := Scalar.muli v451 c128_i32_245
  ![v500.toNat]
def k0_cond87 (v11_0 : BitVec 32) (k0_t13 : Fin (k0_t13_loop v11_0).trips) : BitVec 1 :=
  let c0_i32_148 : BitVec 32 := 0#32
  let c1_i32_150 : BitVec 32 := 1#32
  let arg22 : BitVec 32 := Scf.iv c0_i32_148 c1_i32_150 k0_t13
  let c4_i32_215 : BitVec 32 := 4#32
  let v450 : BitVec 32 := Scalar.muli arg22 c4_i32_215
  let c2_i32_216 : BitVec 32 := 2#32
  let v451 : BitVec 32 := Scalar.addi v450 c2_i32_216
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let v452 : BitVec 1 := Scalar.cmpi .slt v451 v309
  let v453 : BitVec 32 := Scalar.extui v452
  let c0_i32_217 : BitVec 32 := 0#32
  let v454 : BitVec 1 := Scalar.cmpi .ne v453 c0_i32_217
  v454

def k0_off97 (v11_0 : BitVec 32) (k0_t13 : Fin (k0_t13_loop v11_0).trips) : Fin 1 → Nat :=
  let c0_i32_148 : BitVec 32 := 0#32
  let c1_i32_150 : BitVec 32 := 1#32
  let arg22 : BitVec 32 := Scf.iv c0_i32_148 c1_i32_150 k0_t13
  let c4_i32_218 : BitVec 32 := 4#32
  let v455 : BitVec 32 := Scalar.muli arg22 c4_i32_218
  let c3_i32_219 : BitVec 32 := 3#32
  let v456 : BitVec 32 := Scalar.addi v455 c3_i32_219
  let c128_i32_245 : BitVec 32 := 128#32
  let v500 : BitVec 32 := Scalar.muli v456 c128_i32_245
  ![v500.toNat]
def k0_cond88 (v11_0 : BitVec 32) (k0_t13 : Fin (k0_t13_loop v11_0).trips) : BitVec 1 :=
  let c0_i32_148 : BitVec 32 := 0#32
  let c1_i32_150 : BitVec 32 := 1#32
  let arg22 : BitVec 32 := Scf.iv c0_i32_148 c1_i32_150 k0_t13
  let c4_i32_218 : BitVec 32 := 4#32
  let v455 : BitVec 32 := Scalar.muli arg22 c4_i32_218
  let c3_i32_219 : BitVec 32 := 3#32
  let v456 : BitVec 32 := Scalar.addi v455 c3_i32_219
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let v457 : BitVec 1 := Scalar.cmpi .slt v456 v309
  let v458 : BitVec 32 := Scalar.extui v457
  let c0_i32_220 : BitVec 32 := 0#32
  let v459 : BitVec 1 := Scalar.cmpi .ne v458 c0_i32_220
  v459

def k0_off98 (v11_0 : BitVec 32) (k0_t13 : Fin (k0_t13_loop v11_0).trips) : Fin 1 → Nat :=
  let c0_i32_148 : BitVec 32 := 0#32
  let c1_i32_150 : BitVec 32 := 1#32
  let arg22 : BitVec 32 := Scf.iv c0_i32_148 c1_i32_150 k0_t13
  let c4_i32_221 : BitVec 32 := 4#32
  let v460 : BitVec 32 := Scalar.muli arg22 c4_i32_221
  let c0_i32_222 : BitVec 32 := 0#32
  let v461 : BitVec 32 := Scalar.addi v460 c0_i32_222
  let c128_i32_245 : BitVec 32 := 128#32
  let v500 : BitVec 32 := Scalar.muli v461 c128_i32_245
  ![v500.toNat]
def k0_cond89 (v11_0 : BitVec 32) (k0_t13 : Fin (k0_t13_loop v11_0).trips) : BitVec 1 :=
  let c0_i32_148 : BitVec 32 := 0#32
  let c1_i32_150 : BitVec 32 := 1#32
  let arg22 : BitVec 32 := Scf.iv c0_i32_148 c1_i32_150 k0_t13
  let c4_i32_221 : BitVec 32 := 4#32
  let v460 : BitVec 32 := Scalar.muli arg22 c4_i32_221
  let c0_i32_222 : BitVec 32 := 0#32
  let v461 : BitVec 32 := Scalar.addi v460 c0_i32_222
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let v462 : BitVec 1 := Scalar.cmpi .slt v461 v309
  let v463 : BitVec 32 := Scalar.extui v462
  let c0_i32_223 : BitVec 32 := 0#32
  let v464 : BitVec 1 := Scalar.cmpi .ne v463 c0_i32_223
  v464

def k0_off99 (v11_0 : BitVec 32) (k0_t13 : Fin (k0_t13_loop v11_0).trips) : Fin 1 → Nat :=
  let c0_i32_148 : BitVec 32 := 0#32
  let c1_i32_150 : BitVec 32 := 1#32
  let arg22 : BitVec 32 := Scf.iv c0_i32_148 c1_i32_150 k0_t13
  let c4_i32_224 : BitVec 32 := 4#32
  let v465 : BitVec 32 := Scalar.muli arg22 c4_i32_224
  let c1_i32_225 : BitVec 32 := 1#32
  let v466 : BitVec 32 := Scalar.addi v465 c1_i32_225
  let c128_i32_245 : BitVec 32 := 128#32
  let v500 : BitVec 32 := Scalar.muli v466 c128_i32_245
  ![v500.toNat]
def k0_cond90 (v11_0 : BitVec 32) (k0_t13 : Fin (k0_t13_loop v11_0).trips) : BitVec 1 :=
  let c0_i32_148 : BitVec 32 := 0#32
  let c1_i32_150 : BitVec 32 := 1#32
  let arg22 : BitVec 32 := Scf.iv c0_i32_148 c1_i32_150 k0_t13
  let c4_i32_224 : BitVec 32 := 4#32
  let v465 : BitVec 32 := Scalar.muli arg22 c4_i32_224
  let c1_i32_225 : BitVec 32 := 1#32
  let v466 : BitVec 32 := Scalar.addi v465 c1_i32_225
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let v467 : BitVec 1 := Scalar.cmpi .slt v466 v309
  let v468 : BitVec 32 := Scalar.extui v467
  let c0_i32_226 : BitVec 32 := 0#32
  let v469 : BitVec 1 := Scalar.cmpi .ne v468 c0_i32_226
  v469

def k0_off100 (v11_0 : BitVec 32) (k0_t13 : Fin (k0_t13_loop v11_0).trips) : Fin 1 → Nat :=
  let c0_i32_148 : BitVec 32 := 0#32
  let c1_i32_150 : BitVec 32 := 1#32
  let arg22 : BitVec 32 := Scf.iv c0_i32_148 c1_i32_150 k0_t13
  let c4_i32_227 : BitVec 32 := 4#32
  let v470 : BitVec 32 := Scalar.muli arg22 c4_i32_227
  let c2_i32_228 : BitVec 32 := 2#32
  let v471 : BitVec 32 := Scalar.addi v470 c2_i32_228
  let c128_i32_245 : BitVec 32 := 128#32
  let v500 : BitVec 32 := Scalar.muli v471 c128_i32_245
  ![v500.toNat]
def k0_cond91 (v11_0 : BitVec 32) (k0_t13 : Fin (k0_t13_loop v11_0).trips) : BitVec 1 :=
  let c0_i32_148 : BitVec 32 := 0#32
  let c1_i32_150 : BitVec 32 := 1#32
  let arg22 : BitVec 32 := Scf.iv c0_i32_148 c1_i32_150 k0_t13
  let c4_i32_227 : BitVec 32 := 4#32
  let v470 : BitVec 32 := Scalar.muli arg22 c4_i32_227
  let c2_i32_228 : BitVec 32 := 2#32
  let v471 : BitVec 32 := Scalar.addi v470 c2_i32_228
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let v472 : BitVec 1 := Scalar.cmpi .slt v471 v309
  let v473 : BitVec 32 := Scalar.extui v472
  let c0_i32_229 : BitVec 32 := 0#32
  let v474 : BitVec 1 := Scalar.cmpi .ne v473 c0_i32_229
  v474

def k0_off101 (v11_0 : BitVec 32) (k0_t13 : Fin (k0_t13_loop v11_0).trips) : Fin 1 → Nat :=
  let c0_i32_148 : BitVec 32 := 0#32
  let c1_i32_150 : BitVec 32 := 1#32
  let arg22 : BitVec 32 := Scf.iv c0_i32_148 c1_i32_150 k0_t13
  let c4_i32_230 : BitVec 32 := 4#32
  let v475 : BitVec 32 := Scalar.muli arg22 c4_i32_230
  let c3_i32_231 : BitVec 32 := 3#32
  let v476 : BitVec 32 := Scalar.addi v475 c3_i32_231
  let c128_i32_245 : BitVec 32 := 128#32
  let v500 : BitVec 32 := Scalar.muli v476 c128_i32_245
  ![v500.toNat]
def k0_cond92 (v11_0 : BitVec 32) (k0_t13 : Fin (k0_t13_loop v11_0).trips) : BitVec 1 :=
  let c0_i32_148 : BitVec 32 := 0#32
  let c1_i32_150 : BitVec 32 := 1#32
  let arg22 : BitVec 32 := Scf.iv c0_i32_148 c1_i32_150 k0_t13
  let c4_i32_230 : BitVec 32 := 4#32
  let v475 : BitVec 32 := Scalar.muli arg22 c4_i32_230
  let c3_i32_231 : BitVec 32 := 3#32
  let v476 : BitVec 32 := Scalar.addi v475 c3_i32_231
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let v477 : BitVec 1 := Scalar.cmpi .slt v476 v309
  let v478 : BitVec 32 := Scalar.extui v477
  let c0_i32_232 : BitVec 32 := 0#32
  let v479 : BitVec 1 := Scalar.cmpi .ne v478 c0_i32_232
  v479

def k0_off102 (v11_0 : BitVec 32) (k0_t13 : Fin (k0_t13_loop v11_0).trips) : Fin 1 → Nat :=
  let c0_i32_148 : BitVec 32 := 0#32
  let c1_i32_150 : BitVec 32 := 1#32
  let arg22 : BitVec 32 := Scf.iv c0_i32_148 c1_i32_150 k0_t13
  let c4_i32_233 : BitVec 32 := 4#32
  let v480 : BitVec 32 := Scalar.muli arg22 c4_i32_233
  let c0_i32_234 : BitVec 32 := 0#32
  let v481 : BitVec 32 := Scalar.addi v480 c0_i32_234
  let c128_i32_245 : BitVec 32 := 128#32
  let v500 : BitVec 32 := Scalar.muli v481 c128_i32_245
  ![v500.toNat]
def k0_cond93 (v11_0 : BitVec 32) (k0_t13 : Fin (k0_t13_loop v11_0).trips) : BitVec 1 :=
  let c0_i32_148 : BitVec 32 := 0#32
  let c1_i32_150 : BitVec 32 := 1#32
  let arg22 : BitVec 32 := Scf.iv c0_i32_148 c1_i32_150 k0_t13
  let c4_i32_233 : BitVec 32 := 4#32
  let v480 : BitVec 32 := Scalar.muli arg22 c4_i32_233
  let c0_i32_234 : BitVec 32 := 0#32
  let v481 : BitVec 32 := Scalar.addi v480 c0_i32_234
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let v482 : BitVec 1 := Scalar.cmpi .slt v481 v309
  let v483 : BitVec 32 := Scalar.extui v482
  let c0_i32_235 : BitVec 32 := 0#32
  let v484 : BitVec 1 := Scalar.cmpi .ne v483 c0_i32_235
  v484

def k0_off103 (v11_0 : BitVec 32) (k0_t13 : Fin (k0_t13_loop v11_0).trips) : Fin 1 → Nat :=
  let c0_i32_148 : BitVec 32 := 0#32
  let c1_i32_150 : BitVec 32 := 1#32
  let arg22 : BitVec 32 := Scf.iv c0_i32_148 c1_i32_150 k0_t13
  let c4_i32_236 : BitVec 32 := 4#32
  let v485 : BitVec 32 := Scalar.muli arg22 c4_i32_236
  let c1_i32_237 : BitVec 32 := 1#32
  let v486 : BitVec 32 := Scalar.addi v485 c1_i32_237
  let c128_i32_245 : BitVec 32 := 128#32
  let v500 : BitVec 32 := Scalar.muli v486 c128_i32_245
  ![v500.toNat]
def k0_cond94 (v11_0 : BitVec 32) (k0_t13 : Fin (k0_t13_loop v11_0).trips) : BitVec 1 :=
  let c0_i32_148 : BitVec 32 := 0#32
  let c1_i32_150 : BitVec 32 := 1#32
  let arg22 : BitVec 32 := Scf.iv c0_i32_148 c1_i32_150 k0_t13
  let c4_i32_236 : BitVec 32 := 4#32
  let v485 : BitVec 32 := Scalar.muli arg22 c4_i32_236
  let c1_i32_237 : BitVec 32 := 1#32
  let v486 : BitVec 32 := Scalar.addi v485 c1_i32_237
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let v487 : BitVec 1 := Scalar.cmpi .slt v486 v309
  let v488 : BitVec 32 := Scalar.extui v487
  let c0_i32_238 : BitVec 32 := 0#32
  let v489 : BitVec 1 := Scalar.cmpi .ne v488 c0_i32_238
  v489

def k0_off104 (v11_0 : BitVec 32) (k0_t13 : Fin (k0_t13_loop v11_0).trips) : Fin 1 → Nat :=
  let c0_i32_148 : BitVec 32 := 0#32
  let c1_i32_150 : BitVec 32 := 1#32
  let arg22 : BitVec 32 := Scf.iv c0_i32_148 c1_i32_150 k0_t13
  let c4_i32_239 : BitVec 32 := 4#32
  let v490 : BitVec 32 := Scalar.muli arg22 c4_i32_239
  let c2_i32_240 : BitVec 32 := 2#32
  let v491 : BitVec 32 := Scalar.addi v490 c2_i32_240
  let c128_i32_245 : BitVec 32 := 128#32
  let v500 : BitVec 32 := Scalar.muli v491 c128_i32_245
  ![v500.toNat]
def k0_cond95 (v11_0 : BitVec 32) (k0_t13 : Fin (k0_t13_loop v11_0).trips) : BitVec 1 :=
  let c0_i32_148 : BitVec 32 := 0#32
  let c1_i32_150 : BitVec 32 := 1#32
  let arg22 : BitVec 32 := Scf.iv c0_i32_148 c1_i32_150 k0_t13
  let c4_i32_239 : BitVec 32 := 4#32
  let v490 : BitVec 32 := Scalar.muli arg22 c4_i32_239
  let c2_i32_240 : BitVec 32 := 2#32
  let v491 : BitVec 32 := Scalar.addi v490 c2_i32_240
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let v492 : BitVec 1 := Scalar.cmpi .slt v491 v309
  let v493 : BitVec 32 := Scalar.extui v492
  let c0_i32_241 : BitVec 32 := 0#32
  let v494 : BitVec 1 := Scalar.cmpi .ne v493 c0_i32_241
  v494

def k0_off105 (v11_0 : BitVec 32) (k0_t13 : Fin (k0_t13_loop v11_0).trips) : Fin 1 → Nat :=
  let c0_i32_148 : BitVec 32 := 0#32
  let c1_i32_150 : BitVec 32 := 1#32
  let arg22 : BitVec 32 := Scf.iv c0_i32_148 c1_i32_150 k0_t13
  let c4_i32_242 : BitVec 32 := 4#32
  let v495 : BitVec 32 := Scalar.muli arg22 c4_i32_242
  let c3_i32_243 : BitVec 32 := 3#32
  let v496 : BitVec 32 := Scalar.addi v495 c3_i32_243
  let c128_i32_245 : BitVec 32 := 128#32
  let v500 : BitVec 32 := Scalar.muli v496 c128_i32_245
  ![v500.toNat]
def k0_cond96 (v11_0 : BitVec 32) (k0_t13 : Fin (k0_t13_loop v11_0).trips) : BitVec 1 :=
  let c0_i32_148 : BitVec 32 := 0#32
  let c1_i32_150 : BitVec 32 := 1#32
  let arg22 : BitVec 32 := Scf.iv c0_i32_148 c1_i32_150 k0_t13
  let c4_i32_242 : BitVec 32 := 4#32
  let v495 : BitVec 32 := Scalar.muli arg22 c4_i32_242
  let c3_i32_243 : BitVec 32 := 3#32
  let v496 : BitVec 32 := Scalar.addi v495 c3_i32_243
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let v497 : BitVec 1 := Scalar.cmpi .slt v496 v309
  let v498 : BitVec 32 := Scalar.extui v497
  let c0_i32_244 : BitVec 32 := 0#32
  let v499 : BitVec 1 := Scalar.cmpi .ne v498 c0_i32_244
  v499

@[reducible] def k0_t14_loop (v11_0 : BitVec 32) : Scf.Loop 32 :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let v330 : BitVec 32 := Scalar.addi c0_i32_148 v329
  let c1_i32_151 : BitVec 32 := 1#32
  ⟨v333, v330, c1_i32_151⟩
def k0_off106 (v11_0 : BitVec 32) (k0_t14 : Fin (k0_t14_loop v11_0).trips) : Fin 1 → Nat :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_198 : BitVec 32 := 4#32
  let v420 : BitVec 32 := Scalar.muli arg22 c4_i32_198
  let c0_i32_199 : BitVec 32 := 0#32
  let v421 : BitVec 32 := Scalar.addi v420 c0_i32_199
  let c128_i32_245 : BitVec 32 := 128#32
  let v500 : BitVec 32 := Scalar.muli v421 c128_i32_245
  ![v500.toNat]
def k0_cond97 (v11_0 : BitVec 32) (k0_t14 : Fin (k0_t14_loop v11_0).trips) : BitVec 1 :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_198 : BitVec 32 := 4#32
  let v420 : BitVec 32 := Scalar.muli arg22 c4_i32_198
  let c0_i32_199 : BitVec 32 := 0#32
  let v421 : BitVec 32 := Scalar.addi v420 c0_i32_199
  let v422 : BitVec 1 := Scalar.cmpi .slt v421 v309
  let v423 : BitVec 32 := Scalar.extui v422
  let c0_i32_200 : BitVec 32 := 0#32
  let v424 : BitVec 1 := Scalar.cmpi .ne v423 c0_i32_200
  v424

def k0_off107 (v11_0 : BitVec 32) (k0_t14 : Fin (k0_t14_loop v11_0).trips) : Fin 1 → Nat :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_201 : BitVec 32 := 4#32
  let v425 : BitVec 32 := Scalar.muli arg22 c4_i32_201
  let c1_i32_202 : BitVec 32 := 1#32
  let v426 : BitVec 32 := Scalar.addi v425 c1_i32_202
  let c128_i32_245 : BitVec 32 := 128#32
  let v500 : BitVec 32 := Scalar.muli v426 c128_i32_245
  ![v500.toNat]
def k0_cond98 (v11_0 : BitVec 32) (k0_t14 : Fin (k0_t14_loop v11_0).trips) : BitVec 1 :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_201 : BitVec 32 := 4#32
  let v425 : BitVec 32 := Scalar.muli arg22 c4_i32_201
  let c1_i32_202 : BitVec 32 := 1#32
  let v426 : BitVec 32 := Scalar.addi v425 c1_i32_202
  let v427 : BitVec 1 := Scalar.cmpi .slt v426 v309
  let v428 : BitVec 32 := Scalar.extui v427
  let c0_i32_203 : BitVec 32 := 0#32
  let v429 : BitVec 1 := Scalar.cmpi .ne v428 c0_i32_203
  v429

def k0_off108 (v11_0 : BitVec 32) (k0_t14 : Fin (k0_t14_loop v11_0).trips) : Fin 1 → Nat :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_204 : BitVec 32 := 4#32
  let v430 : BitVec 32 := Scalar.muli arg22 c4_i32_204
  let c2_i32_205 : BitVec 32 := 2#32
  let v431 : BitVec 32 := Scalar.addi v430 c2_i32_205
  let c128_i32_245 : BitVec 32 := 128#32
  let v500 : BitVec 32 := Scalar.muli v431 c128_i32_245
  ![v500.toNat]
def k0_cond99 (v11_0 : BitVec 32) (k0_t14 : Fin (k0_t14_loop v11_0).trips) : BitVec 1 :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_204 : BitVec 32 := 4#32
  let v430 : BitVec 32 := Scalar.muli arg22 c4_i32_204
  let c2_i32_205 : BitVec 32 := 2#32
  let v431 : BitVec 32 := Scalar.addi v430 c2_i32_205
  let v432 : BitVec 1 := Scalar.cmpi .slt v431 v309
  let v433 : BitVec 32 := Scalar.extui v432
  let c0_i32_206 : BitVec 32 := 0#32
  let v434 : BitVec 1 := Scalar.cmpi .ne v433 c0_i32_206
  v434

def k0_off109 (v11_0 : BitVec 32) (k0_t14 : Fin (k0_t14_loop v11_0).trips) : Fin 1 → Nat :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_207 : BitVec 32 := 4#32
  let v435 : BitVec 32 := Scalar.muli arg22 c4_i32_207
  let c3_i32 : BitVec 32 := 3#32
  let v436 : BitVec 32 := Scalar.addi v435 c3_i32
  let c128_i32_245 : BitVec 32 := 128#32
  let v500 : BitVec 32 := Scalar.muli v436 c128_i32_245
  ![v500.toNat]
def k0_cond100 (v11_0 : BitVec 32) (k0_t14 : Fin (k0_t14_loop v11_0).trips) : BitVec 1 :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_207 : BitVec 32 := 4#32
  let v435 : BitVec 32 := Scalar.muli arg22 c4_i32_207
  let c3_i32 : BitVec 32 := 3#32
  let v436 : BitVec 32 := Scalar.addi v435 c3_i32
  let v437 : BitVec 1 := Scalar.cmpi .slt v436 v309
  let v438 : BitVec 32 := Scalar.extui v437
  let c0_i32_208 : BitVec 32 := 0#32
  let v439 : BitVec 1 := Scalar.cmpi .ne v438 c0_i32_208
  v439

def k0_off110 (v11_0 : BitVec 32) (k0_t14 : Fin (k0_t14_loop v11_0).trips) : Fin 1 → Nat :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_209 : BitVec 32 := 4#32
  let v440 : BitVec 32 := Scalar.muli arg22 c4_i32_209
  let c0_i32_210 : BitVec 32 := 0#32
  let v441 : BitVec 32 := Scalar.addi v440 c0_i32_210
  let c128_i32_245 : BitVec 32 := 128#32
  let v500 : BitVec 32 := Scalar.muli v441 c128_i32_245
  ![v500.toNat]
def k0_cond101 (v11_0 : BitVec 32) (k0_t14 : Fin (k0_t14_loop v11_0).trips) : BitVec 1 :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_209 : BitVec 32 := 4#32
  let v440 : BitVec 32 := Scalar.muli arg22 c4_i32_209
  let c0_i32_210 : BitVec 32 := 0#32
  let v441 : BitVec 32 := Scalar.addi v440 c0_i32_210
  let v442 : BitVec 1 := Scalar.cmpi .slt v441 v309
  let v443 : BitVec 32 := Scalar.extui v442
  let c0_i32_211 : BitVec 32 := 0#32
  let v444 : BitVec 1 := Scalar.cmpi .ne v443 c0_i32_211
  v444

def k0_off111 (v11_0 : BitVec 32) (k0_t14 : Fin (k0_t14_loop v11_0).trips) : Fin 1 → Nat :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_212 : BitVec 32 := 4#32
  let v445 : BitVec 32 := Scalar.muli arg22 c4_i32_212
  let c1_i32_213 : BitVec 32 := 1#32
  let v446 : BitVec 32 := Scalar.addi v445 c1_i32_213
  let c128_i32_245 : BitVec 32 := 128#32
  let v500 : BitVec 32 := Scalar.muli v446 c128_i32_245
  ![v500.toNat]
def k0_cond102 (v11_0 : BitVec 32) (k0_t14 : Fin (k0_t14_loop v11_0).trips) : BitVec 1 :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_212 : BitVec 32 := 4#32
  let v445 : BitVec 32 := Scalar.muli arg22 c4_i32_212
  let c1_i32_213 : BitVec 32 := 1#32
  let v446 : BitVec 32 := Scalar.addi v445 c1_i32_213
  let v447 : BitVec 1 := Scalar.cmpi .slt v446 v309
  let v448 : BitVec 32 := Scalar.extui v447
  let c0_i32_214 : BitVec 32 := 0#32
  let v449 : BitVec 1 := Scalar.cmpi .ne v448 c0_i32_214
  v449

def k0_off112 (v11_0 : BitVec 32) (k0_t14 : Fin (k0_t14_loop v11_0).trips) : Fin 1 → Nat :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_215 : BitVec 32 := 4#32
  let v450 : BitVec 32 := Scalar.muli arg22 c4_i32_215
  let c2_i32_216 : BitVec 32 := 2#32
  let v451 : BitVec 32 := Scalar.addi v450 c2_i32_216
  let c128_i32_245 : BitVec 32 := 128#32
  let v500 : BitVec 32 := Scalar.muli v451 c128_i32_245
  ![v500.toNat]
def k0_cond103 (v11_0 : BitVec 32) (k0_t14 : Fin (k0_t14_loop v11_0).trips) : BitVec 1 :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_215 : BitVec 32 := 4#32
  let v450 : BitVec 32 := Scalar.muli arg22 c4_i32_215
  let c2_i32_216 : BitVec 32 := 2#32
  let v451 : BitVec 32 := Scalar.addi v450 c2_i32_216
  let v452 : BitVec 1 := Scalar.cmpi .slt v451 v309
  let v453 : BitVec 32 := Scalar.extui v452
  let c0_i32_217 : BitVec 32 := 0#32
  let v454 : BitVec 1 := Scalar.cmpi .ne v453 c0_i32_217
  v454

def k0_off113 (v11_0 : BitVec 32) (k0_t14 : Fin (k0_t14_loop v11_0).trips) : Fin 1 → Nat :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_218 : BitVec 32 := 4#32
  let v455 : BitVec 32 := Scalar.muli arg22 c4_i32_218
  let c3_i32_219 : BitVec 32 := 3#32
  let v456 : BitVec 32 := Scalar.addi v455 c3_i32_219
  let c128_i32_245 : BitVec 32 := 128#32
  let v500 : BitVec 32 := Scalar.muli v456 c128_i32_245
  ![v500.toNat]
def k0_cond104 (v11_0 : BitVec 32) (k0_t14 : Fin (k0_t14_loop v11_0).trips) : BitVec 1 :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_218 : BitVec 32 := 4#32
  let v455 : BitVec 32 := Scalar.muli arg22 c4_i32_218
  let c3_i32_219 : BitVec 32 := 3#32
  let v456 : BitVec 32 := Scalar.addi v455 c3_i32_219
  let v457 : BitVec 1 := Scalar.cmpi .slt v456 v309
  let v458 : BitVec 32 := Scalar.extui v457
  let c0_i32_220 : BitVec 32 := 0#32
  let v459 : BitVec 1 := Scalar.cmpi .ne v458 c0_i32_220
  v459

def k0_off114 (v11_0 : BitVec 32) (k0_t14 : Fin (k0_t14_loop v11_0).trips) : Fin 1 → Nat :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_221 : BitVec 32 := 4#32
  let v460 : BitVec 32 := Scalar.muli arg22 c4_i32_221
  let c0_i32_222 : BitVec 32 := 0#32
  let v461 : BitVec 32 := Scalar.addi v460 c0_i32_222
  let c128_i32_245 : BitVec 32 := 128#32
  let v500 : BitVec 32 := Scalar.muli v461 c128_i32_245
  ![v500.toNat]
def k0_cond105 (v11_0 : BitVec 32) (k0_t14 : Fin (k0_t14_loop v11_0).trips) : BitVec 1 :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_221 : BitVec 32 := 4#32
  let v460 : BitVec 32 := Scalar.muli arg22 c4_i32_221
  let c0_i32_222 : BitVec 32 := 0#32
  let v461 : BitVec 32 := Scalar.addi v460 c0_i32_222
  let v462 : BitVec 1 := Scalar.cmpi .slt v461 v309
  let v463 : BitVec 32 := Scalar.extui v462
  let c0_i32_223 : BitVec 32 := 0#32
  let v464 : BitVec 1 := Scalar.cmpi .ne v463 c0_i32_223
  v464

def k0_off115 (v11_0 : BitVec 32) (k0_t14 : Fin (k0_t14_loop v11_0).trips) : Fin 1 → Nat :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_224 : BitVec 32 := 4#32
  let v465 : BitVec 32 := Scalar.muli arg22 c4_i32_224
  let c1_i32_225 : BitVec 32 := 1#32
  let v466 : BitVec 32 := Scalar.addi v465 c1_i32_225
  let c128_i32_245 : BitVec 32 := 128#32
  let v500 : BitVec 32 := Scalar.muli v466 c128_i32_245
  ![v500.toNat]
def k0_cond106 (v11_0 : BitVec 32) (k0_t14 : Fin (k0_t14_loop v11_0).trips) : BitVec 1 :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_224 : BitVec 32 := 4#32
  let v465 : BitVec 32 := Scalar.muli arg22 c4_i32_224
  let c1_i32_225 : BitVec 32 := 1#32
  let v466 : BitVec 32 := Scalar.addi v465 c1_i32_225
  let v467 : BitVec 1 := Scalar.cmpi .slt v466 v309
  let v468 : BitVec 32 := Scalar.extui v467
  let c0_i32_226 : BitVec 32 := 0#32
  let v469 : BitVec 1 := Scalar.cmpi .ne v468 c0_i32_226
  v469

def k0_off116 (v11_0 : BitVec 32) (k0_t14 : Fin (k0_t14_loop v11_0).trips) : Fin 1 → Nat :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_227 : BitVec 32 := 4#32
  let v470 : BitVec 32 := Scalar.muli arg22 c4_i32_227
  let c2_i32_228 : BitVec 32 := 2#32
  let v471 : BitVec 32 := Scalar.addi v470 c2_i32_228
  let c128_i32_245 : BitVec 32 := 128#32
  let v500 : BitVec 32 := Scalar.muli v471 c128_i32_245
  ![v500.toNat]
def k0_cond107 (v11_0 : BitVec 32) (k0_t14 : Fin (k0_t14_loop v11_0).trips) : BitVec 1 :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_227 : BitVec 32 := 4#32
  let v470 : BitVec 32 := Scalar.muli arg22 c4_i32_227
  let c2_i32_228 : BitVec 32 := 2#32
  let v471 : BitVec 32 := Scalar.addi v470 c2_i32_228
  let v472 : BitVec 1 := Scalar.cmpi .slt v471 v309
  let v473 : BitVec 32 := Scalar.extui v472
  let c0_i32_229 : BitVec 32 := 0#32
  let v474 : BitVec 1 := Scalar.cmpi .ne v473 c0_i32_229
  v474

def k0_off117 (v11_0 : BitVec 32) (k0_t14 : Fin (k0_t14_loop v11_0).trips) : Fin 1 → Nat :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_230 : BitVec 32 := 4#32
  let v475 : BitVec 32 := Scalar.muli arg22 c4_i32_230
  let c3_i32_231 : BitVec 32 := 3#32
  let v476 : BitVec 32 := Scalar.addi v475 c3_i32_231
  let c128_i32_245 : BitVec 32 := 128#32
  let v500 : BitVec 32 := Scalar.muli v476 c128_i32_245
  ![v500.toNat]
def k0_cond108 (v11_0 : BitVec 32) (k0_t14 : Fin (k0_t14_loop v11_0).trips) : BitVec 1 :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_230 : BitVec 32 := 4#32
  let v475 : BitVec 32 := Scalar.muli arg22 c4_i32_230
  let c3_i32_231 : BitVec 32 := 3#32
  let v476 : BitVec 32 := Scalar.addi v475 c3_i32_231
  let v477 : BitVec 1 := Scalar.cmpi .slt v476 v309
  let v478 : BitVec 32 := Scalar.extui v477
  let c0_i32_232 : BitVec 32 := 0#32
  let v479 : BitVec 1 := Scalar.cmpi .ne v478 c0_i32_232
  v479

def k0_off118 (v11_0 : BitVec 32) (k0_t14 : Fin (k0_t14_loop v11_0).trips) : Fin 1 → Nat :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_233 : BitVec 32 := 4#32
  let v480 : BitVec 32 := Scalar.muli arg22 c4_i32_233
  let c0_i32_234 : BitVec 32 := 0#32
  let v481 : BitVec 32 := Scalar.addi v480 c0_i32_234
  let c128_i32_245 : BitVec 32 := 128#32
  let v500 : BitVec 32 := Scalar.muli v481 c128_i32_245
  ![v500.toNat]
def k0_cond109 (v11_0 : BitVec 32) (k0_t14 : Fin (k0_t14_loop v11_0).trips) : BitVec 1 :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_233 : BitVec 32 := 4#32
  let v480 : BitVec 32 := Scalar.muli arg22 c4_i32_233
  let c0_i32_234 : BitVec 32 := 0#32
  let v481 : BitVec 32 := Scalar.addi v480 c0_i32_234
  let v482 : BitVec 1 := Scalar.cmpi .slt v481 v309
  let v483 : BitVec 32 := Scalar.extui v482
  let c0_i32_235 : BitVec 32 := 0#32
  let v484 : BitVec 1 := Scalar.cmpi .ne v483 c0_i32_235
  v484

def k0_off119 (v11_0 : BitVec 32) (k0_t14 : Fin (k0_t14_loop v11_0).trips) : Fin 1 → Nat :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_236 : BitVec 32 := 4#32
  let v485 : BitVec 32 := Scalar.muli arg22 c4_i32_236
  let c1_i32_237 : BitVec 32 := 1#32
  let v486 : BitVec 32 := Scalar.addi v485 c1_i32_237
  let c128_i32_245 : BitVec 32 := 128#32
  let v500 : BitVec 32 := Scalar.muli v486 c128_i32_245
  ![v500.toNat]
def k0_cond110 (v11_0 : BitVec 32) (k0_t14 : Fin (k0_t14_loop v11_0).trips) : BitVec 1 :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_236 : BitVec 32 := 4#32
  let v485 : BitVec 32 := Scalar.muli arg22 c4_i32_236
  let c1_i32_237 : BitVec 32 := 1#32
  let v486 : BitVec 32 := Scalar.addi v485 c1_i32_237
  let v487 : BitVec 1 := Scalar.cmpi .slt v486 v309
  let v488 : BitVec 32 := Scalar.extui v487
  let c0_i32_238 : BitVec 32 := 0#32
  let v489 : BitVec 1 := Scalar.cmpi .ne v488 c0_i32_238
  v489

def k0_off120 (v11_0 : BitVec 32) (k0_t14 : Fin (k0_t14_loop v11_0).trips) : Fin 1 → Nat :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_239 : BitVec 32 := 4#32
  let v490 : BitVec 32 := Scalar.muli arg22 c4_i32_239
  let c2_i32_240 : BitVec 32 := 2#32
  let v491 : BitVec 32 := Scalar.addi v490 c2_i32_240
  let c128_i32_245 : BitVec 32 := 128#32
  let v500 : BitVec 32 := Scalar.muli v491 c128_i32_245
  ![v500.toNat]
def k0_cond111 (v11_0 : BitVec 32) (k0_t14 : Fin (k0_t14_loop v11_0).trips) : BitVec 1 :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_239 : BitVec 32 := 4#32
  let v490 : BitVec 32 := Scalar.muli arg22 c4_i32_239
  let c2_i32_240 : BitVec 32 := 2#32
  let v491 : BitVec 32 := Scalar.addi v490 c2_i32_240
  let v492 : BitVec 1 := Scalar.cmpi .slt v491 v309
  let v493 : BitVec 32 := Scalar.extui v492
  let c0_i32_241 : BitVec 32 := 0#32
  let v494 : BitVec 1 := Scalar.cmpi .ne v493 c0_i32_241
  v494

def k0_off121 (v11_0 : BitVec 32) (k0_t14 : Fin (k0_t14_loop v11_0).trips) : Fin 1 → Nat :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_242 : BitVec 32 := 4#32
  let v495 : BitVec 32 := Scalar.muli arg22 c4_i32_242
  let c3_i32_243 : BitVec 32 := 3#32
  let v496 : BitVec 32 := Scalar.addi v495 c3_i32_243
  let c128_i32_245 : BitVec 32 := 128#32
  let v500 : BitVec 32 := Scalar.muli v496 c128_i32_245
  ![v500.toNat]
def k0_cond112 (v11_0 : BitVec 32) (k0_t14 : Fin (k0_t14_loop v11_0).trips) : BitVec 1 :=
  let c0_i32_148 : BitVec 32 := 0#32
  let c128_i32_129 : BitVec 32 := 128#32
  let v291 : BitVec 32 := Scalar.addi v11_0 c128_i32_129
  let c1_i32_130 : BitVec 32 := 1#32
  let v292 : BitVec 32 := Scalar.subi v291 c1_i32_130
  let c0_i32_132 : BitVec 32 := 0#32
  let v294 : BitVec 1 := Scalar.cmpi .sgt v292 c0_i32_132
  let v295 : BitVec 32 := Scalar.extui v294
  let c0_i32_133 : BitVec 32 := 0#32
  let v296 : BitVec 1 := Scalar.cmpi .slt v292 c0_i32_133
  let v297 : BitVec 32 := Scalar.extui v296
  let v298 : BitVec 32 := Scalar.subi v295 v297
  let c128_i32_131 : BitVec 32 := 128#32
  let c0_i32_134 : BitVec 32 := 0#32
  let v299 : BitVec 1 := Scalar.cmpi .sgt c128_i32_131 c0_i32_134
  let v300 : BitVec 32 := Scalar.extui v299
  let c0_i32_135 : BitVec 32 := 0#32
  let v301 : BitVec 1 := Scalar.cmpi .slt c128_i32_131 c0_i32_135
  let v302 : BitVec 32 := Scalar.extui v301
  let v303 : BitVec 32 := Scalar.subi v300 v302
  let v304 : BitVec 1 := Scalar.cmpi .ne v298 v303
  let v305 : BitVec 32 := Scalar.remsi v292 c128_i32_131
  let c0_i32_136 : BitVec 32 := 0#32
  let v306 : BitVec 1 := Scalar.cmpi .ne v305 c0_i32_136
  let v307 : BitVec 1 := Scalar.andi v304 v306
  let v293 : BitVec 32 := Scalar.divsi v292 c128_i32_131
  let c1_i32_137 : BitVec 32 := 1#32
  let v308 : BitVec 32 := Scalar.subi v293 c1_i32_137
  let v309 : BitVec 32 := Scalar.select v307 v308 v293
  let c4_i32_138 : BitVec 32 := 4#32
  let v310 : BitVec 32 := Scalar.addi v309 c4_i32_138
  let c1_i32_139 : BitVec 32 := 1#32
  let v311 : BitVec 32 := Scalar.subi v310 c1_i32_139
  let c0_i32_141 : BitVec 32 := 0#32
  let v313 : BitVec 1 := Scalar.cmpi .sgt v311 c0_i32_141
  let v314 : BitVec 32 := Scalar.extui v313
  let c0_i32_142 : BitVec 32 := 0#32
  let v315 : BitVec 1 := Scalar.cmpi .slt v311 c0_i32_142
  let v316 : BitVec 32 := Scalar.extui v315
  let v317 : BitVec 32 := Scalar.subi v314 v316
  let c4_i32_140 : BitVec 32 := 4#32
  let c0_i32_143 : BitVec 32 := 0#32
  let v318 : BitVec 1 := Scalar.cmpi .sgt c4_i32_140 c0_i32_143
  let v319 : BitVec 32 := Scalar.extui v318
  let c0_i32_144 : BitVec 32 := 0#32
  let v320 : BitVec 1 := Scalar.cmpi .slt c4_i32_140 c0_i32_144
  let v321 : BitVec 32 := Scalar.extui v320
  let v322 : BitVec 32 := Scalar.subi v319 v321
  let v323 : BitVec 1 := Scalar.cmpi .ne v317 v322
  let v324 : BitVec 32 := Scalar.remsi v311 c4_i32_140
  let c0_i32_145 : BitVec 32 := 0#32
  let v325 : BitVec 1 := Scalar.cmpi .ne v324 c0_i32_145
  let v326 : BitVec 1 := Scalar.andi v323 v325
  let v312 : BitVec 32 := Scalar.divsi v311 c4_i32_140
  let c1_i32_146 : BitVec 32 := 1#32
  let v327 : BitVec 32 := Scalar.subi v312 c1_i32_146
  let v328 : BitVec 32 := Scalar.select v326 v327 v312
  let v329 : BitVec 32 := Scalar.subi v328 c0_i32_148
  let c1_i32_149 : BitVec 32 := 1#32
  let v331 : BitVec 32 := Scalar.divsi v329 c1_i32_149
  let v332 : BitVec 32 := Scalar.muli v331 c1_i32_149
  let v333 : BitVec 32 := Scalar.addi c0_i32_148 v332
  let c1_i32_151 : BitVec 32 := 1#32
  let arg22 : BitVec 32 := Scf.iv v333 c1_i32_151 k0_t14
  let c4_i32_242 : BitVec 32 := 4#32
  let v495 : BitVec 32 := Scalar.muli arg22 c4_i32_242
  let c3_i32_243 : BitVec 32 := 3#32
  let v496 : BitVec 32 := Scalar.addi v495 c3_i32_243
  let v497 : BitVec 1 := Scalar.cmpi .slt v496 v309
  let v498 : BitVec 32 := Scalar.extui v497
  let c0_i32_244 : BitVec 32 := 0#32
  let v499 : BitVec 1 := Scalar.cmpi .ne v498 c0_i32_244
  v499

def k0_chk6_0 (v11_0 : BitVec 32) : Prop :=
  (∀ (r : Fin 8), ∀ a, (k0_off7 v11_0 (BitVec.ofNat 32 (16 * r.val))) a + S16.size a ≤ S6528.size a) ∧
  ((k0_t7_loop v11_0).OK) ∧
  (∀ k0_t7 : Fin (k0_t7_loop v11_0).trips, ∀ (k0_h1 : k0_cond1 v11_0 k0_t7 = 1#1), ∀ a, (k0_off10 v11_0 k0_t7) a + S128.size a ≤ S6528.size a) ∧
  (∀ k0_t7 : Fin (k0_t7_loop v11_0).trips, ∀ (k0_h2 : k0_cond2 v11_0 k0_t7 = 1#1), ∀ a, (k0_off11 v11_0 k0_t7) a + S128.size a ≤ S6528.size a) ∧
  (∀ k0_t7 : Fin (k0_t7_loop v11_0).trips, ∀ (k0_h3 : k0_cond3 v11_0 k0_t7 = 1#1), ∀ a, (k0_off12 v11_0 k0_t7) a + S128.size a ≤ S6528.size a) ∧
  (∀ k0_t7 : Fin (k0_t7_loop v11_0).trips, ∀ (k0_h4 : k0_cond4 v11_0 k0_t7 = 1#1), ∀ a, (k0_off13 v11_0 k0_t7) a + S128.size a ≤ S6528.size a) ∧
  (∀ k0_t7 : Fin (k0_t7_loop v11_0).trips, ∀ (k0_h5 : k0_cond5 v11_0 k0_t7 = 1#1), ∀ a, (k0_off14 v11_0 k0_t7) a + S128.size a ≤ S6528.size a) ∧
  (∀ k0_t7 : Fin (k0_t7_loop v11_0).trips, ∀ (k0_h6 : k0_cond6 v11_0 k0_t7 = 1#1), ∀ a, (k0_off15 v11_0 k0_t7) a + S128.size a ≤ S6528.size a) ∧
  (∀ k0_t7 : Fin (k0_t7_loop v11_0).trips, ∀ (k0_h7 : k0_cond7 v11_0 k0_t7 = 1#1), ∀ a, (k0_off16 v11_0 k0_t7) a + S128.size a ≤ S6528.size a) ∧
  (∀ k0_t7 : Fin (k0_t7_loop v11_0).trips, ∀ (k0_h8 : k0_cond8 v11_0 k0_t7 = 1#1), ∀ a, (k0_off17 v11_0 k0_t7) a + S128.size a ≤ S6528.size a) ∧
  (∀ k0_t7 : Fin (k0_t7_loop v11_0).trips, ∀ (k0_h9 : k0_cond9 v11_0 k0_t7 = 1#1), ∀ a, (k0_off18 v11_0 k0_t7) a + S128.size a ≤ S6528.size a) ∧
  (∀ k0_t7 : Fin (k0_t7_loop v11_0).trips, ∀ (k0_h10 : k0_cond10 v11_0 k0_t7 = 1#1), ∀ a, (k0_off19 v11_0 k0_t7) a + S128.size a ≤ S6528.size a) ∧
  (∀ k0_t7 : Fin (k0_t7_loop v11_0).trips, ∀ (k0_h11 : k0_cond11 v11_0 k0_t7 = 1#1), ∀ a, (k0_off20 v11_0 k0_t7) a + S128.size a ≤ S6528.size a) ∧
  (∀ k0_t7 : Fin (k0_t7_loop v11_0).trips, ∀ (k0_h12 : k0_cond12 v11_0 k0_t7 = 1#1), ∀ a, (k0_off21 v11_0 k0_t7) a + S128.size a ≤ S6528.size a) ∧
  (∀ k0_t7 : Fin (k0_t7_loop v11_0).trips, ∀ (k0_h13 : k0_cond13 v11_0 k0_t7 = 1#1), ∀ a, (k0_off22 v11_0 k0_t7) a + S128.size a ≤ S6528.size a) ∧
  (∀ k0_t7 : Fin (k0_t7_loop v11_0).trips, ∀ (k0_h14 : k0_cond14 v11_0 k0_t7 = 1#1), ∀ a, (k0_off23 v11_0 k0_t7) a + S128.size a ≤ S6528.size a) ∧
  (∀ k0_t7 : Fin (k0_t7_loop v11_0).trips, ∀ (k0_h15 : k0_cond15 v11_0 k0_t7 = 1#1), ∀ a, (k0_off24 v11_0 k0_t7) a + S128.size a ≤ S6528.size a) ∧
  (∀ k0_t7 : Fin (k0_t7_loop v11_0).trips, ∀ (k0_h16 : k0_cond16 v11_0 k0_t7 = 1#1), ∀ a, (k0_off25 v11_0 k0_t7) a + S128.size a ≤ S6528.size a) ∧
  ((k0_t8_loop v11_0).OK) ∧
  (∀ k0_t8 : Fin (k0_t8_loop v11_0).trips, ∀ (k0_h17 : k0_cond17 v11_0 k0_t8 = 1#1), ∀ a, (k0_off26 v11_0 k0_t8) a + S128.size a ≤ S6528.size a) ∧
  (∀ k0_t8 : Fin (k0_t8_loop v11_0).trips, ∀ (k0_h18 : k0_cond18 v11_0 k0_t8 = 1#1), ∀ a, (k0_off27 v11_0 k0_t8) a + S128.size a ≤ S6528.size a) ∧
  (∀ k0_t8 : Fin (k0_t8_loop v11_0).trips, ∀ (k0_h19 : k0_cond19 v11_0 k0_t8 = 1#1), ∀ a, (k0_off28 v11_0 k0_t8) a + S128.size a ≤ S6528.size a) ∧
  (∀ k0_t8 : Fin (k0_t8_loop v11_0).trips, ∀ (k0_h20 : k0_cond20 v11_0 k0_t8 = 1#1), ∀ a, (k0_off29 v11_0 k0_t8) a + S128.size a ≤ S6528.size a) ∧
  (∀ k0_t8 : Fin (k0_t8_loop v11_0).trips, ∀ (k0_h21 : k0_cond21 v11_0 k0_t8 = 1#1), ∀ a, (k0_off30 v11_0 k0_t8) a + S128.size a ≤ S6528.size a) ∧
  (∀ k0_t8 : Fin (k0_t8_loop v11_0).trips, ∀ (k0_h22 : k0_cond22 v11_0 k0_t8 = 1#1), ∀ a, (k0_off31 v11_0 k0_t8) a + S128.size a ≤ S6528.size a) ∧
  (∀ k0_t8 : Fin (k0_t8_loop v11_0).trips, ∀ (k0_h23 : k0_cond23 v11_0 k0_t8 = 1#1), ∀ a, (k0_off32 v11_0 k0_t8) a + S128.size a ≤ S6528.size a) ∧
  (∀ k0_t8 : Fin (k0_t8_loop v11_0).trips, ∀ (k0_h24 : k0_cond24 v11_0 k0_t8 = 1#1), ∀ a, (k0_off33 v11_0 k0_t8) a + S128.size a ≤ S6528.size a) ∧
  (∀ k0_t8 : Fin (k0_t8_loop v11_0).trips, ∀ (k0_h25 : k0_cond25 v11_0 k0_t8 = 1#1), ∀ a, (k0_off34 v11_0 k0_t8) a + S128.size a ≤ S6528.size a) ∧
  (∀ k0_t8 : Fin (k0_t8_loop v11_0).trips, ∀ (k0_h26 : k0_cond26 v11_0 k0_t8 = 1#1), ∀ a, (k0_off35 v11_0 k0_t8) a + S128.size a ≤ S6528.size a) ∧
  (∀ k0_t8 : Fin (k0_t8_loop v11_0).trips, ∀ (k0_h27 : k0_cond27 v11_0 k0_t8 = 1#1), ∀ a, (k0_off36 v11_0 k0_t8) a + S128.size a ≤ S6528.size a) ∧
  (∀ k0_t8 : Fin (k0_t8_loop v11_0).trips, ∀ (k0_h28 : k0_cond28 v11_0 k0_t8 = 1#1), ∀ a, (k0_off37 v11_0 k0_t8) a + S128.size a ≤ S6528.size a) ∧
  (∀ k0_t8 : Fin (k0_t8_loop v11_0).trips, ∀ (k0_h29 : k0_cond29 v11_0 k0_t8 = 1#1), ∀ a, (k0_off38 v11_0 k0_t8) a + S128.size a ≤ S6528.size a)
def k0_chk6_1 (v11_0 : BitVec 32) : Prop :=
  (∀ k0_t8 : Fin (k0_t8_loop v11_0).trips, ∀ (k0_h30 : k0_cond30 v11_0 k0_t8 = 1#1), ∀ a, (k0_off39 v11_0 k0_t8) a + S128.size a ≤ S6528.size a) ∧
  (∀ k0_t8 : Fin (k0_t8_loop v11_0).trips, ∀ (k0_h31 : k0_cond31 v11_0 k0_t8 = 1#1), ∀ a, (k0_off40 v11_0 k0_t8) a + S128.size a ≤ S6528.size a) ∧
  (∀ k0_t8 : Fin (k0_t8_loop v11_0).trips, ∀ (k0_h32 : k0_cond32 v11_0 k0_t8 = 1#1), ∀ a, (k0_off41 v11_0 k0_t8) a + S128.size a ≤ S6528.size a) ∧
  ((k0_t13_loop v11_0).OK) ∧
  (∀ k0_t13 : Fin (k0_t13_loop v11_0).trips, ∀ (k0_h81 : k0_cond81 v11_0 k0_t13 = 1#1), ∀ a, (k0_off90 v11_0 k0_t13) a + S128.size a ≤ S6528.size a) ∧
  (∀ k0_t13 : Fin (k0_t13_loop v11_0).trips, ∀ (k0_h82 : k0_cond82 v11_0 k0_t13 = 1#1), ∀ a, (k0_off91 v11_0 k0_t13) a + S128.size a ≤ S6528.size a) ∧
  (∀ k0_t13 : Fin (k0_t13_loop v11_0).trips, ∀ (k0_h83 : k0_cond83 v11_0 k0_t13 = 1#1), ∀ a, (k0_off92 v11_0 k0_t13) a + S128.size a ≤ S6528.size a) ∧
  (∀ k0_t13 : Fin (k0_t13_loop v11_0).trips, ∀ (k0_h84 : k0_cond84 v11_0 k0_t13 = 1#1), ∀ a, (k0_off93 v11_0 k0_t13) a + S128.size a ≤ S6528.size a) ∧
  (∀ k0_t13 : Fin (k0_t13_loop v11_0).trips, ∀ (k0_h85 : k0_cond85 v11_0 k0_t13 = 1#1), ∀ a, (k0_off94 v11_0 k0_t13) a + S128.size a ≤ S6528.size a) ∧
  (∀ k0_t13 : Fin (k0_t13_loop v11_0).trips, ∀ (k0_h86 : k0_cond86 v11_0 k0_t13 = 1#1), ∀ a, (k0_off95 v11_0 k0_t13) a + S128.size a ≤ S6528.size a) ∧
  (∀ k0_t13 : Fin (k0_t13_loop v11_0).trips, ∀ (k0_h87 : k0_cond87 v11_0 k0_t13 = 1#1), ∀ a, (k0_off96 v11_0 k0_t13) a + S128.size a ≤ S6528.size a) ∧
  (∀ k0_t13 : Fin (k0_t13_loop v11_0).trips, ∀ (k0_h88 : k0_cond88 v11_0 k0_t13 = 1#1), ∀ a, (k0_off97 v11_0 k0_t13) a + S128.size a ≤ S6528.size a) ∧
  (∀ k0_t13 : Fin (k0_t13_loop v11_0).trips, ∀ (k0_h89 : k0_cond89 v11_0 k0_t13 = 1#1), ∀ a, (k0_off98 v11_0 k0_t13) a + S128.size a ≤ S6528.size a) ∧
  (∀ k0_t13 : Fin (k0_t13_loop v11_0).trips, ∀ (k0_h90 : k0_cond90 v11_0 k0_t13 = 1#1), ∀ a, (k0_off99 v11_0 k0_t13) a + S128.size a ≤ S6528.size a) ∧
  (∀ k0_t13 : Fin (k0_t13_loop v11_0).trips, ∀ (k0_h91 : k0_cond91 v11_0 k0_t13 = 1#1), ∀ a, (k0_off100 v11_0 k0_t13) a + S128.size a ≤ S6528.size a) ∧
  (∀ k0_t13 : Fin (k0_t13_loop v11_0).trips, ∀ (k0_h92 : k0_cond92 v11_0 k0_t13 = 1#1), ∀ a, (k0_off101 v11_0 k0_t13) a + S128.size a ≤ S6528.size a) ∧
  (∀ k0_t13 : Fin (k0_t13_loop v11_0).trips, ∀ (k0_h93 : k0_cond93 v11_0 k0_t13 = 1#1), ∀ a, (k0_off102 v11_0 k0_t13) a + S128.size a ≤ S6528.size a) ∧
  (∀ k0_t13 : Fin (k0_t13_loop v11_0).trips, ∀ (k0_h94 : k0_cond94 v11_0 k0_t13 = 1#1), ∀ a, (k0_off103 v11_0 k0_t13) a + S128.size a ≤ S6528.size a) ∧
  (∀ k0_t13 : Fin (k0_t13_loop v11_0).trips, ∀ (k0_h95 : k0_cond95 v11_0 k0_t13 = 1#1), ∀ a, (k0_off104 v11_0 k0_t13) a + S128.size a ≤ S6528.size a) ∧
  (∀ k0_t13 : Fin (k0_t13_loop v11_0).trips, ∀ (k0_h96 : k0_cond96 v11_0 k0_t13 = 1#1), ∀ a, (k0_off105 v11_0 k0_t13) a + S128.size a ≤ S6528.size a) ∧
  ((k0_t14_loop v11_0).OK) ∧
  (∀ k0_t14 : Fin (k0_t14_loop v11_0).trips, ∀ (k0_h97 : k0_cond97 v11_0 k0_t14 = 1#1), ∀ a, (k0_off106 v11_0 k0_t14) a + S128.size a ≤ S6528.size a) ∧
  (∀ k0_t14 : Fin (k0_t14_loop v11_0).trips, ∀ (k0_h98 : k0_cond98 v11_0 k0_t14 = 1#1), ∀ a, (k0_off107 v11_0 k0_t14) a + S128.size a ≤ S6528.size a) ∧
  (∀ k0_t14 : Fin (k0_t14_loop v11_0).trips, ∀ (k0_h99 : k0_cond99 v11_0 k0_t14 = 1#1), ∀ a, (k0_off108 v11_0 k0_t14) a + S128.size a ≤ S6528.size a) ∧
  (∀ k0_t14 : Fin (k0_t14_loop v11_0).trips, ∀ (k0_h100 : k0_cond100 v11_0 k0_t14 = 1#1), ∀ a, (k0_off109 v11_0 k0_t14) a + S128.size a ≤ S6528.size a) ∧
  (∀ k0_t14 : Fin (k0_t14_loop v11_0).trips, ∀ (k0_h101 : k0_cond101 v11_0 k0_t14 = 1#1), ∀ a, (k0_off110 v11_0 k0_t14) a + S128.size a ≤ S6528.size a) ∧
  (∀ k0_t14 : Fin (k0_t14_loop v11_0).trips, ∀ (k0_h102 : k0_cond102 v11_0 k0_t14 = 1#1), ∀ a, (k0_off111 v11_0 k0_t14) a + S128.size a ≤ S6528.size a) ∧
  (∀ k0_t14 : Fin (k0_t14_loop v11_0).trips, ∀ (k0_h103 : k0_cond103 v11_0 k0_t14 = 1#1), ∀ a, (k0_off112 v11_0 k0_t14) a + S128.size a ≤ S6528.size a) ∧
  (∀ k0_t14 : Fin (k0_t14_loop v11_0).trips, ∀ (k0_h104 : k0_cond104 v11_0 k0_t14 = 1#1), ∀ a, (k0_off113 v11_0 k0_t14) a + S128.size a ≤ S6528.size a) ∧
  (∀ k0_t14 : Fin (k0_t14_loop v11_0).trips, ∀ (k0_h105 : k0_cond105 v11_0 k0_t14 = 1#1), ∀ a, (k0_off114 v11_0 k0_t14) a + S128.size a ≤ S6528.size a) ∧
  (∀ k0_t14 : Fin (k0_t14_loop v11_0).trips, ∀ (k0_h106 : k0_cond106 v11_0 k0_t14 = 1#1), ∀ a, (k0_off115 v11_0 k0_t14) a + S128.size a ≤ S6528.size a) ∧
  (∀ k0_t14 : Fin (k0_t14_loop v11_0).trips, ∀ (k0_h107 : k0_cond107 v11_0 k0_t14 = 1#1), ∀ a, (k0_off116 v11_0 k0_t14) a + S128.size a ≤ S6528.size a)
def k0_chk6_2 (v11_0 : BitVec 32) : Prop :=
  (∀ k0_t14 : Fin (k0_t14_loop v11_0).trips, ∀ (k0_h108 : k0_cond108 v11_0 k0_t14 = 1#1), ∀ a, (k0_off117 v11_0 k0_t14) a + S128.size a ≤ S6528.size a) ∧
  (∀ k0_t14 : Fin (k0_t14_loop v11_0).trips, ∀ (k0_h109 : k0_cond109 v11_0 k0_t14 = 1#1), ∀ a, (k0_off118 v11_0 k0_t14) a + S128.size a ≤ S6528.size a) ∧
  (∀ k0_t14 : Fin (k0_t14_loop v11_0).trips, ∀ (k0_h110 : k0_cond110 v11_0 k0_t14 = 1#1), ∀ a, (k0_off119 v11_0 k0_t14) a + S128.size a ≤ S6528.size a) ∧
  (∀ k0_t14 : Fin (k0_t14_loop v11_0).trips, ∀ (k0_h111 : k0_cond111 v11_0 k0_t14 = 1#1), ∀ a, (k0_off120 v11_0 k0_t14) a + S128.size a ≤ S6528.size a) ∧
  (∀ k0_t14 : Fin (k0_t14_loop v11_0).trips, ∀ (k0_h112 : k0_cond112 v11_0 k0_t14 = 1#1), ∀ a, (k0_off121 v11_0 k0_t14) a + S128.size a ≤ S6528.size a)
def k0_chk6 (v11_0 : BitVec 32) : Prop :=
  k0_chk6_0 v11_0 ∧
  k0_chk6_1 v11_0 ∧
  k0_chk6_2 v11_0
theorem k0_off7_inb : ∀ (v11_0 : BitVec 32) (k0_hw6 : k0_chk6 v11_0), ∀ (r : Fin 8), ∀ a, (k0_off7 v11_0 (BitVec.ofNat 32 (16 * r.val))) a + S16.size a ≤ S6528.size a := fun v11_0 k0_hw6 r => k0_hw6.1.1 r
theorem k0_t7_ok : ∀ (v11_0 : BitVec 32) (k0_hw6 : k0_chk6 v11_0), (k0_t7_loop v11_0).OK := fun v11_0 k0_hw6 => k0_hw6.1.2.1
theorem k0_off10_inb : ∀ (v11_0 : BitVec 32) (k0_hw6 : k0_chk6 v11_0) (k0_t7 : Fin (k0_t7_loop v11_0).trips), ∀ (k0_h1 : k0_cond1 v11_0 k0_t7 = 1#1), ∀ a, (k0_off10 v11_0 k0_t7) a + S128.size a ≤ S6528.size a := fun v11_0 k0_hw6 k0_t7 k0_h1 => k0_hw6.1.2.2.1 k0_t7 k0_h1
theorem k0_off11_inb : ∀ (v11_0 : BitVec 32) (k0_hw6 : k0_chk6 v11_0) (k0_t7 : Fin (k0_t7_loop v11_0).trips), ∀ (k0_h2 : k0_cond2 v11_0 k0_t7 = 1#1), ∀ a, (k0_off11 v11_0 k0_t7) a + S128.size a ≤ S6528.size a := fun v11_0 k0_hw6 k0_t7 k0_h2 => k0_hw6.1.2.2.2.1 k0_t7 k0_h2
theorem k0_off12_inb : ∀ (v11_0 : BitVec 32) (k0_hw6 : k0_chk6 v11_0) (k0_t7 : Fin (k0_t7_loop v11_0).trips), ∀ (k0_h3 : k0_cond3 v11_0 k0_t7 = 1#1), ∀ a, (k0_off12 v11_0 k0_t7) a + S128.size a ≤ S6528.size a := fun v11_0 k0_hw6 k0_t7 k0_h3 => k0_hw6.1.2.2.2.2.1 k0_t7 k0_h3
theorem k0_off13_inb : ∀ (v11_0 : BitVec 32) (k0_hw6 : k0_chk6 v11_0) (k0_t7 : Fin (k0_t7_loop v11_0).trips), ∀ (k0_h4 : k0_cond4 v11_0 k0_t7 = 1#1), ∀ a, (k0_off13 v11_0 k0_t7) a + S128.size a ≤ S6528.size a := fun v11_0 k0_hw6 k0_t7 k0_h4 => k0_hw6.1.2.2.2.2.2.1 k0_t7 k0_h4
theorem k0_off14_inb : ∀ (v11_0 : BitVec 32) (k0_hw6 : k0_chk6 v11_0) (k0_t7 : Fin (k0_t7_loop v11_0).trips), ∀ (k0_h5 : k0_cond5 v11_0 k0_t7 = 1#1), ∀ a, (k0_off14 v11_0 k0_t7) a + S128.size a ≤ S6528.size a := fun v11_0 k0_hw6 k0_t7 k0_h5 => k0_hw6.1.2.2.2.2.2.2.1 k0_t7 k0_h5
theorem k0_off15_inb : ∀ (v11_0 : BitVec 32) (k0_hw6 : k0_chk6 v11_0) (k0_t7 : Fin (k0_t7_loop v11_0).trips), ∀ (k0_h6 : k0_cond6 v11_0 k0_t7 = 1#1), ∀ a, (k0_off15 v11_0 k0_t7) a + S128.size a ≤ S6528.size a := fun v11_0 k0_hw6 k0_t7 k0_h6 => k0_hw6.1.2.2.2.2.2.2.2.1 k0_t7 k0_h6
theorem k0_off16_inb : ∀ (v11_0 : BitVec 32) (k0_hw6 : k0_chk6 v11_0) (k0_t7 : Fin (k0_t7_loop v11_0).trips), ∀ (k0_h7 : k0_cond7 v11_0 k0_t7 = 1#1), ∀ a, (k0_off16 v11_0 k0_t7) a + S128.size a ≤ S6528.size a := fun v11_0 k0_hw6 k0_t7 k0_h7 => k0_hw6.1.2.2.2.2.2.2.2.2.1 k0_t7 k0_h7
theorem k0_off17_inb : ∀ (v11_0 : BitVec 32) (k0_hw6 : k0_chk6 v11_0) (k0_t7 : Fin (k0_t7_loop v11_0).trips), ∀ (k0_h8 : k0_cond8 v11_0 k0_t7 = 1#1), ∀ a, (k0_off17 v11_0 k0_t7) a + S128.size a ≤ S6528.size a := fun v11_0 k0_hw6 k0_t7 k0_h8 => k0_hw6.1.2.2.2.2.2.2.2.2.2.1 k0_t7 k0_h8
theorem k0_off18_inb : ∀ (v11_0 : BitVec 32) (k0_hw6 : k0_chk6 v11_0) (k0_t7 : Fin (k0_t7_loop v11_0).trips), ∀ (k0_h9 : k0_cond9 v11_0 k0_t7 = 1#1), ∀ a, (k0_off18 v11_0 k0_t7) a + S128.size a ≤ S6528.size a := fun v11_0 k0_hw6 k0_t7 k0_h9 => k0_hw6.1.2.2.2.2.2.2.2.2.2.2.1 k0_t7 k0_h9
theorem k0_off19_inb : ∀ (v11_0 : BitVec 32) (k0_hw6 : k0_chk6 v11_0) (k0_t7 : Fin (k0_t7_loop v11_0).trips), ∀ (k0_h10 : k0_cond10 v11_0 k0_t7 = 1#1), ∀ a, (k0_off19 v11_0 k0_t7) a + S128.size a ≤ S6528.size a := fun v11_0 k0_hw6 k0_t7 k0_h10 => k0_hw6.1.2.2.2.2.2.2.2.2.2.2.2.1 k0_t7 k0_h10
theorem k0_off20_inb : ∀ (v11_0 : BitVec 32) (k0_hw6 : k0_chk6 v11_0) (k0_t7 : Fin (k0_t7_loop v11_0).trips), ∀ (k0_h11 : k0_cond11 v11_0 k0_t7 = 1#1), ∀ a, (k0_off20 v11_0 k0_t7) a + S128.size a ≤ S6528.size a := fun v11_0 k0_hw6 k0_t7 k0_h11 => k0_hw6.1.2.2.2.2.2.2.2.2.2.2.2.2.1 k0_t7 k0_h11
theorem k0_off21_inb : ∀ (v11_0 : BitVec 32) (k0_hw6 : k0_chk6 v11_0) (k0_t7 : Fin (k0_t7_loop v11_0).trips), ∀ (k0_h12 : k0_cond12 v11_0 k0_t7 = 1#1), ∀ a, (k0_off21 v11_0 k0_t7) a + S128.size a ≤ S6528.size a := fun v11_0 k0_hw6 k0_t7 k0_h12 => k0_hw6.1.2.2.2.2.2.2.2.2.2.2.2.2.2.1 k0_t7 k0_h12
theorem k0_off22_inb : ∀ (v11_0 : BitVec 32) (k0_hw6 : k0_chk6 v11_0) (k0_t7 : Fin (k0_t7_loop v11_0).trips), ∀ (k0_h13 : k0_cond13 v11_0 k0_t7 = 1#1), ∀ a, (k0_off22 v11_0 k0_t7) a + S128.size a ≤ S6528.size a := fun v11_0 k0_hw6 k0_t7 k0_h13 => k0_hw6.1.2.2.2.2.2.2.2.2.2.2.2.2.2.2.1 k0_t7 k0_h13
theorem k0_off23_inb : ∀ (v11_0 : BitVec 32) (k0_hw6 : k0_chk6 v11_0) (k0_t7 : Fin (k0_t7_loop v11_0).trips), ∀ (k0_h14 : k0_cond14 v11_0 k0_t7 = 1#1), ∀ a, (k0_off23 v11_0 k0_t7) a + S128.size a ≤ S6528.size a := fun v11_0 k0_hw6 k0_t7 k0_h14 => k0_hw6.1.2.2.2.2.2.2.2.2.2.2.2.2.2.2.2.1 k0_t7 k0_h14
theorem k0_off24_inb : ∀ (v11_0 : BitVec 32) (k0_hw6 : k0_chk6 v11_0) (k0_t7 : Fin (k0_t7_loop v11_0).trips), ∀ (k0_h15 : k0_cond15 v11_0 k0_t7 = 1#1), ∀ a, (k0_off24 v11_0 k0_t7) a + S128.size a ≤ S6528.size a := fun v11_0 k0_hw6 k0_t7 k0_h15 => k0_hw6.1.2.2.2.2.2.2.2.2.2.2.2.2.2.2.2.2.1 k0_t7 k0_h15
theorem k0_off25_inb : ∀ (v11_0 : BitVec 32) (k0_hw6 : k0_chk6 v11_0) (k0_t7 : Fin (k0_t7_loop v11_0).trips), ∀ (k0_h16 : k0_cond16 v11_0 k0_t7 = 1#1), ∀ a, (k0_off25 v11_0 k0_t7) a + S128.size a ≤ S6528.size a := fun v11_0 k0_hw6 k0_t7 k0_h16 => k0_hw6.1.2.2.2.2.2.2.2.2.2.2.2.2.2.2.2.2.2.1 k0_t7 k0_h16
theorem k0_t8_ok : ∀ (v11_0 : BitVec 32) (k0_hw6 : k0_chk6 v11_0), (k0_t8_loop v11_0).OK := fun v11_0 k0_hw6 => k0_hw6.1.2.2.2.2.2.2.2.2.2.2.2.2.2.2.2.2.2.2.1
theorem k0_off26_inb : ∀ (v11_0 : BitVec 32) (k0_hw6 : k0_chk6 v11_0) (k0_t8 : Fin (k0_t8_loop v11_0).trips), ∀ (k0_h17 : k0_cond17 v11_0 k0_t8 = 1#1), ∀ a, (k0_off26 v11_0 k0_t8) a + S128.size a ≤ S6528.size a := fun v11_0 k0_hw6 k0_t8 k0_h17 => k0_hw6.1.2.2.2.2.2.2.2.2.2.2.2.2.2.2.2.2.2.2.2.1 k0_t8 k0_h17
theorem k0_off27_inb : ∀ (v11_0 : BitVec 32) (k0_hw6 : k0_chk6 v11_0) (k0_t8 : Fin (k0_t8_loop v11_0).trips), ∀ (k0_h18 : k0_cond18 v11_0 k0_t8 = 1#1), ∀ a, (k0_off27 v11_0 k0_t8) a + S128.size a ≤ S6528.size a := fun v11_0 k0_hw6 k0_t8 k0_h18 => k0_hw6.1.2.2.2.2.2.2.2.2.2.2.2.2.2.2.2.2.2.2.2.2.1 k0_t8 k0_h18
theorem k0_off28_inb : ∀ (v11_0 : BitVec 32) (k0_hw6 : k0_chk6 v11_0) (k0_t8 : Fin (k0_t8_loop v11_0).trips), ∀ (k0_h19 : k0_cond19 v11_0 k0_t8 = 1#1), ∀ a, (k0_off28 v11_0 k0_t8) a + S128.size a ≤ S6528.size a := fun v11_0 k0_hw6 k0_t8 k0_h19 => k0_hw6.1.2.2.2.2.2.2.2.2.2.2.2.2.2.2.2.2.2.2.2.2.2.1 k0_t8 k0_h19
theorem k0_off29_inb : ∀ (v11_0 : BitVec 32) (k0_hw6 : k0_chk6 v11_0) (k0_t8 : Fin (k0_t8_loop v11_0).trips), ∀ (k0_h20 : k0_cond20 v11_0 k0_t8 = 1#1), ∀ a, (k0_off29 v11_0 k0_t8) a + S128.size a ≤ S6528.size a := fun v11_0 k0_hw6 k0_t8 k0_h20 => k0_hw6.1.2.2.2.2.2.2.2.2.2.2.2.2.2.2.2.2.2.2.2.2.2.2.1 k0_t8 k0_h20
theorem k0_off30_inb : ∀ (v11_0 : BitVec 32) (k0_hw6 : k0_chk6 v11_0) (k0_t8 : Fin (k0_t8_loop v11_0).trips), ∀ (k0_h21 : k0_cond21 v11_0 k0_t8 = 1#1), ∀ a, (k0_off30 v11_0 k0_t8) a + S128.size a ≤ S6528.size a := fun v11_0 k0_hw6 k0_t8 k0_h21 => k0_hw6.1.2.2.2.2.2.2.2.2.2.2.2.2.2.2.2.2.2.2.2.2.2.2.2.1 k0_t8 k0_h21
theorem k0_off31_inb : ∀ (v11_0 : BitVec 32) (k0_hw6 : k0_chk6 v11_0) (k0_t8 : Fin (k0_t8_loop v11_0).trips), ∀ (k0_h22 : k0_cond22 v11_0 k0_t8 = 1#1), ∀ a, (k0_off31 v11_0 k0_t8) a + S128.size a ≤ S6528.size a := fun v11_0 k0_hw6 k0_t8 k0_h22 => k0_hw6.1.2.2.2.2.2.2.2.2.2.2.2.2.2.2.2.2.2.2.2.2.2.2.2.2.1 k0_t8 k0_h22
theorem k0_off32_inb : ∀ (v11_0 : BitVec 32) (k0_hw6 : k0_chk6 v11_0) (k0_t8 : Fin (k0_t8_loop v11_0).trips), ∀ (k0_h23 : k0_cond23 v11_0 k0_t8 = 1#1), ∀ a, (k0_off32 v11_0 k0_t8) a + S128.size a ≤ S6528.size a := fun v11_0 k0_hw6 k0_t8 k0_h23 => k0_hw6.1.2.2.2.2.2.2.2.2.2.2.2.2.2.2.2.2.2.2.2.2.2.2.2.2.2.1 k0_t8 k0_h23
theorem k0_off33_inb : ∀ (v11_0 : BitVec 32) (k0_hw6 : k0_chk6 v11_0) (k0_t8 : Fin (k0_t8_loop v11_0).trips), ∀ (k0_h24 : k0_cond24 v11_0 k0_t8 = 1#1), ∀ a, (k0_off33 v11_0 k0_t8) a + S128.size a ≤ S6528.size a := fun v11_0 k0_hw6 k0_t8 k0_h24 => k0_hw6.1.2.2.2.2.2.2.2.2.2.2.2.2.2.2.2.2.2.2.2.2.2.2.2.2.2.2.1 k0_t8 k0_h24
theorem k0_off34_inb : ∀ (v11_0 : BitVec 32) (k0_hw6 : k0_chk6 v11_0) (k0_t8 : Fin (k0_t8_loop v11_0).trips), ∀ (k0_h25 : k0_cond25 v11_0 k0_t8 = 1#1), ∀ a, (k0_off34 v11_0 k0_t8) a + S128.size a ≤ S6528.size a := fun v11_0 k0_hw6 k0_t8 k0_h25 => k0_hw6.1.2.2.2.2.2.2.2.2.2.2.2.2.2.2.2.2.2.2.2.2.2.2.2.2.2.2.2.1 k0_t8 k0_h25
theorem k0_off35_inb : ∀ (v11_0 : BitVec 32) (k0_hw6 : k0_chk6 v11_0) (k0_t8 : Fin (k0_t8_loop v11_0).trips), ∀ (k0_h26 : k0_cond26 v11_0 k0_t8 = 1#1), ∀ a, (k0_off35 v11_0 k0_t8) a + S128.size a ≤ S6528.size a := fun v11_0 k0_hw6 k0_t8 k0_h26 => k0_hw6.1.2.2.2.2.2.2.2.2.2.2.2.2.2.2.2.2.2.2.2.2.2.2.2.2.2.2.2.2.1 k0_t8 k0_h26
theorem k0_off36_inb : ∀ (v11_0 : BitVec 32) (k0_hw6 : k0_chk6 v11_0) (k0_t8 : Fin (k0_t8_loop v11_0).trips), ∀ (k0_h27 : k0_cond27 v11_0 k0_t8 = 1#1), ∀ a, (k0_off36 v11_0 k0_t8) a + S128.size a ≤ S6528.size a := fun v11_0 k0_hw6 k0_t8 k0_h27 => k0_hw6.1.2.2.2.2.2.2.2.2.2.2.2.2.2.2.2.2.2.2.2.2.2.2.2.2.2.2.2.2.2.1 k0_t8 k0_h27
theorem k0_off37_inb : ∀ (v11_0 : BitVec 32) (k0_hw6 : k0_chk6 v11_0) (k0_t8 : Fin (k0_t8_loop v11_0).trips), ∀ (k0_h28 : k0_cond28 v11_0 k0_t8 = 1#1), ∀ a, (k0_off37 v11_0 k0_t8) a + S128.size a ≤ S6528.size a := fun v11_0 k0_hw6 k0_t8 k0_h28 => k0_hw6.1.2.2.2.2.2.2.2.2.2.2.2.2.2.2.2.2.2.2.2.2.2.2.2.2.2.2.2.2.2.2.1 k0_t8 k0_h28
theorem k0_off38_inb : ∀ (v11_0 : BitVec 32) (k0_hw6 : k0_chk6 v11_0) (k0_t8 : Fin (k0_t8_loop v11_0).trips), ∀ (k0_h29 : k0_cond29 v11_0 k0_t8 = 1#1), ∀ a, (k0_off38 v11_0 k0_t8) a + S128.size a ≤ S6528.size a := fun v11_0 k0_hw6 k0_t8 k0_h29 => k0_hw6.1.2.2.2.2.2.2.2.2.2.2.2.2.2.2.2.2.2.2.2.2.2.2.2.2.2.2.2.2.2.2.2 k0_t8 k0_h29
theorem k0_off39_inb : ∀ (v11_0 : BitVec 32) (k0_hw6 : k0_chk6 v11_0) (k0_t8 : Fin (k0_t8_loop v11_0).trips), ∀ (k0_h30 : k0_cond30 v11_0 k0_t8 = 1#1), ∀ a, (k0_off39 v11_0 k0_t8) a + S128.size a ≤ S6528.size a := fun v11_0 k0_hw6 k0_t8 k0_h30 => k0_hw6.2.1.1 k0_t8 k0_h30
theorem k0_off40_inb : ∀ (v11_0 : BitVec 32) (k0_hw6 : k0_chk6 v11_0) (k0_t8 : Fin (k0_t8_loop v11_0).trips), ∀ (k0_h31 : k0_cond31 v11_0 k0_t8 = 1#1), ∀ a, (k0_off40 v11_0 k0_t8) a + S128.size a ≤ S6528.size a := fun v11_0 k0_hw6 k0_t8 k0_h31 => k0_hw6.2.1.2.1 k0_t8 k0_h31
theorem k0_off41_inb : ∀ (v11_0 : BitVec 32) (k0_hw6 : k0_chk6 v11_0) (k0_t8 : Fin (k0_t8_loop v11_0).trips), ∀ (k0_h32 : k0_cond32 v11_0 k0_t8 = 1#1), ∀ a, (k0_off41 v11_0 k0_t8) a + S128.size a ≤ S6528.size a := fun v11_0 k0_hw6 k0_t8 k0_h32 => k0_hw6.2.1.2.2.1 k0_t8 k0_h32
theorem k0_t13_ok : ∀ (v11_0 : BitVec 32) (k0_hw6 : k0_chk6 v11_0), (k0_t13_loop v11_0).OK := fun v11_0 k0_hw6 => k0_hw6.2.1.2.2.2.1
theorem k0_off90_inb : ∀ (v11_0 : BitVec 32) (k0_hw6 : k0_chk6 v11_0) (k0_t13 : Fin (k0_t13_loop v11_0).trips), ∀ (k0_h81 : k0_cond81 v11_0 k0_t13 = 1#1), ∀ a, (k0_off90 v11_0 k0_t13) a + S128.size a ≤ S6528.size a := fun v11_0 k0_hw6 k0_t13 k0_h81 => k0_hw6.2.1.2.2.2.2.1 k0_t13 k0_h81
theorem k0_off91_inb : ∀ (v11_0 : BitVec 32) (k0_hw6 : k0_chk6 v11_0) (k0_t13 : Fin (k0_t13_loop v11_0).trips), ∀ (k0_h82 : k0_cond82 v11_0 k0_t13 = 1#1), ∀ a, (k0_off91 v11_0 k0_t13) a + S128.size a ≤ S6528.size a := fun v11_0 k0_hw6 k0_t13 k0_h82 => k0_hw6.2.1.2.2.2.2.2.1 k0_t13 k0_h82
theorem k0_off92_inb : ∀ (v11_0 : BitVec 32) (k0_hw6 : k0_chk6 v11_0) (k0_t13 : Fin (k0_t13_loop v11_0).trips), ∀ (k0_h83 : k0_cond83 v11_0 k0_t13 = 1#1), ∀ a, (k0_off92 v11_0 k0_t13) a + S128.size a ≤ S6528.size a := fun v11_0 k0_hw6 k0_t13 k0_h83 => k0_hw6.2.1.2.2.2.2.2.2.1 k0_t13 k0_h83
theorem k0_off93_inb : ∀ (v11_0 : BitVec 32) (k0_hw6 : k0_chk6 v11_0) (k0_t13 : Fin (k0_t13_loop v11_0).trips), ∀ (k0_h84 : k0_cond84 v11_0 k0_t13 = 1#1), ∀ a, (k0_off93 v11_0 k0_t13) a + S128.size a ≤ S6528.size a := fun v11_0 k0_hw6 k0_t13 k0_h84 => k0_hw6.2.1.2.2.2.2.2.2.2.1 k0_t13 k0_h84
theorem k0_off94_inb : ∀ (v11_0 : BitVec 32) (k0_hw6 : k0_chk6 v11_0) (k0_t13 : Fin (k0_t13_loop v11_0).trips), ∀ (k0_h85 : k0_cond85 v11_0 k0_t13 = 1#1), ∀ a, (k0_off94 v11_0 k0_t13) a + S128.size a ≤ S6528.size a := fun v11_0 k0_hw6 k0_t13 k0_h85 => k0_hw6.2.1.2.2.2.2.2.2.2.2.1 k0_t13 k0_h85
theorem k0_off95_inb : ∀ (v11_0 : BitVec 32) (k0_hw6 : k0_chk6 v11_0) (k0_t13 : Fin (k0_t13_loop v11_0).trips), ∀ (k0_h86 : k0_cond86 v11_0 k0_t13 = 1#1), ∀ a, (k0_off95 v11_0 k0_t13) a + S128.size a ≤ S6528.size a := fun v11_0 k0_hw6 k0_t13 k0_h86 => k0_hw6.2.1.2.2.2.2.2.2.2.2.2.1 k0_t13 k0_h86
theorem k0_off96_inb : ∀ (v11_0 : BitVec 32) (k0_hw6 : k0_chk6 v11_0) (k0_t13 : Fin (k0_t13_loop v11_0).trips), ∀ (k0_h87 : k0_cond87 v11_0 k0_t13 = 1#1), ∀ a, (k0_off96 v11_0 k0_t13) a + S128.size a ≤ S6528.size a := fun v11_0 k0_hw6 k0_t13 k0_h87 => k0_hw6.2.1.2.2.2.2.2.2.2.2.2.2.1 k0_t13 k0_h87
theorem k0_off97_inb : ∀ (v11_0 : BitVec 32) (k0_hw6 : k0_chk6 v11_0) (k0_t13 : Fin (k0_t13_loop v11_0).trips), ∀ (k0_h88 : k0_cond88 v11_0 k0_t13 = 1#1), ∀ a, (k0_off97 v11_0 k0_t13) a + S128.size a ≤ S6528.size a := fun v11_0 k0_hw6 k0_t13 k0_h88 => k0_hw6.2.1.2.2.2.2.2.2.2.2.2.2.2.1 k0_t13 k0_h88
theorem k0_off98_inb : ∀ (v11_0 : BitVec 32) (k0_hw6 : k0_chk6 v11_0) (k0_t13 : Fin (k0_t13_loop v11_0).trips), ∀ (k0_h89 : k0_cond89 v11_0 k0_t13 = 1#1), ∀ a, (k0_off98 v11_0 k0_t13) a + S128.size a ≤ S6528.size a := fun v11_0 k0_hw6 k0_t13 k0_h89 => k0_hw6.2.1.2.2.2.2.2.2.2.2.2.2.2.2.1 k0_t13 k0_h89
theorem k0_off99_inb : ∀ (v11_0 : BitVec 32) (k0_hw6 : k0_chk6 v11_0) (k0_t13 : Fin (k0_t13_loop v11_0).trips), ∀ (k0_h90 : k0_cond90 v11_0 k0_t13 = 1#1), ∀ a, (k0_off99 v11_0 k0_t13) a + S128.size a ≤ S6528.size a := fun v11_0 k0_hw6 k0_t13 k0_h90 => k0_hw6.2.1.2.2.2.2.2.2.2.2.2.2.2.2.2.1 k0_t13 k0_h90
theorem k0_off100_inb : ∀ (v11_0 : BitVec 32) (k0_hw6 : k0_chk6 v11_0) (k0_t13 : Fin (k0_t13_loop v11_0).trips), ∀ (k0_h91 : k0_cond91 v11_0 k0_t13 = 1#1), ∀ a, (k0_off100 v11_0 k0_t13) a + S128.size a ≤ S6528.size a := fun v11_0 k0_hw6 k0_t13 k0_h91 => k0_hw6.2.1.2.2.2.2.2.2.2.2.2.2.2.2.2.2.1 k0_t13 k0_h91
theorem k0_off101_inb : ∀ (v11_0 : BitVec 32) (k0_hw6 : k0_chk6 v11_0) (k0_t13 : Fin (k0_t13_loop v11_0).trips), ∀ (k0_h92 : k0_cond92 v11_0 k0_t13 = 1#1), ∀ a, (k0_off101 v11_0 k0_t13) a + S128.size a ≤ S6528.size a := fun v11_0 k0_hw6 k0_t13 k0_h92 => k0_hw6.2.1.2.2.2.2.2.2.2.2.2.2.2.2.2.2.2.1 k0_t13 k0_h92
theorem k0_off102_inb : ∀ (v11_0 : BitVec 32) (k0_hw6 : k0_chk6 v11_0) (k0_t13 : Fin (k0_t13_loop v11_0).trips), ∀ (k0_h93 : k0_cond93 v11_0 k0_t13 = 1#1), ∀ a, (k0_off102 v11_0 k0_t13) a + S128.size a ≤ S6528.size a := fun v11_0 k0_hw6 k0_t13 k0_h93 => k0_hw6.2.1.2.2.2.2.2.2.2.2.2.2.2.2.2.2.2.2.1 k0_t13 k0_h93
theorem k0_off103_inb : ∀ (v11_0 : BitVec 32) (k0_hw6 : k0_chk6 v11_0) (k0_t13 : Fin (k0_t13_loop v11_0).trips), ∀ (k0_h94 : k0_cond94 v11_0 k0_t13 = 1#1), ∀ a, (k0_off103 v11_0 k0_t13) a + S128.size a ≤ S6528.size a := fun v11_0 k0_hw6 k0_t13 k0_h94 => k0_hw6.2.1.2.2.2.2.2.2.2.2.2.2.2.2.2.2.2.2.2.1 k0_t13 k0_h94
theorem k0_off104_inb : ∀ (v11_0 : BitVec 32) (k0_hw6 : k0_chk6 v11_0) (k0_t13 : Fin (k0_t13_loop v11_0).trips), ∀ (k0_h95 : k0_cond95 v11_0 k0_t13 = 1#1), ∀ a, (k0_off104 v11_0 k0_t13) a + S128.size a ≤ S6528.size a := fun v11_0 k0_hw6 k0_t13 k0_h95 => k0_hw6.2.1.2.2.2.2.2.2.2.2.2.2.2.2.2.2.2.2.2.2.1 k0_t13 k0_h95
theorem k0_off105_inb : ∀ (v11_0 : BitVec 32) (k0_hw6 : k0_chk6 v11_0) (k0_t13 : Fin (k0_t13_loop v11_0).trips), ∀ (k0_h96 : k0_cond96 v11_0 k0_t13 = 1#1), ∀ a, (k0_off105 v11_0 k0_t13) a + S128.size a ≤ S6528.size a := fun v11_0 k0_hw6 k0_t13 k0_h96 => k0_hw6.2.1.2.2.2.2.2.2.2.2.2.2.2.2.2.2.2.2.2.2.2.1 k0_t13 k0_h96
theorem k0_t14_ok : ∀ (v11_0 : BitVec 32) (k0_hw6 : k0_chk6 v11_0), (k0_t14_loop v11_0).OK := fun v11_0 k0_hw6 => k0_hw6.2.1.2.2.2.2.2.2.2.2.2.2.2.2.2.2.2.2.2.2.2.2.1
theorem k0_off106_inb : ∀ (v11_0 : BitVec 32) (k0_hw6 : k0_chk6 v11_0) (k0_t14 : Fin (k0_t14_loop v11_0).trips), ∀ (k0_h97 : k0_cond97 v11_0 k0_t14 = 1#1), ∀ a, (k0_off106 v11_0 k0_t14) a + S128.size a ≤ S6528.size a := fun v11_0 k0_hw6 k0_t14 k0_h97 => k0_hw6.2.1.2.2.2.2.2.2.2.2.2.2.2.2.2.2.2.2.2.2.2.2.2.1 k0_t14 k0_h97
theorem k0_off107_inb : ∀ (v11_0 : BitVec 32) (k0_hw6 : k0_chk6 v11_0) (k0_t14 : Fin (k0_t14_loop v11_0).trips), ∀ (k0_h98 : k0_cond98 v11_0 k0_t14 = 1#1), ∀ a, (k0_off107 v11_0 k0_t14) a + S128.size a ≤ S6528.size a := fun v11_0 k0_hw6 k0_t14 k0_h98 => k0_hw6.2.1.2.2.2.2.2.2.2.2.2.2.2.2.2.2.2.2.2.2.2.2.2.2.1 k0_t14 k0_h98
theorem k0_off108_inb : ∀ (v11_0 : BitVec 32) (k0_hw6 : k0_chk6 v11_0) (k0_t14 : Fin (k0_t14_loop v11_0).trips), ∀ (k0_h99 : k0_cond99 v11_0 k0_t14 = 1#1), ∀ a, (k0_off108 v11_0 k0_t14) a + S128.size a ≤ S6528.size a := fun v11_0 k0_hw6 k0_t14 k0_h99 => k0_hw6.2.1.2.2.2.2.2.2.2.2.2.2.2.2.2.2.2.2.2.2.2.2.2.2.2.1 k0_t14 k0_h99
theorem k0_off109_inb : ∀ (v11_0 : BitVec 32) (k0_hw6 : k0_chk6 v11_0) (k0_t14 : Fin (k0_t14_loop v11_0).trips), ∀ (k0_h100 : k0_cond100 v11_0 k0_t14 = 1#1), ∀ a, (k0_off109 v11_0 k0_t14) a + S128.size a ≤ S6528.size a := fun v11_0 k0_hw6 k0_t14 k0_h100 => k0_hw6.2.1.2.2.2.2.2.2.2.2.2.2.2.2.2.2.2.2.2.2.2.2.2.2.2.2.1 k0_t14 k0_h100
theorem k0_off110_inb : ∀ (v11_0 : BitVec 32) (k0_hw6 : k0_chk6 v11_0) (k0_t14 : Fin (k0_t14_loop v11_0).trips), ∀ (k0_h101 : k0_cond101 v11_0 k0_t14 = 1#1), ∀ a, (k0_off110 v11_0 k0_t14) a + S128.size a ≤ S6528.size a := fun v11_0 k0_hw6 k0_t14 k0_h101 => k0_hw6.2.1.2.2.2.2.2.2.2.2.2.2.2.2.2.2.2.2.2.2.2.2.2.2.2.2.2.1 k0_t14 k0_h101
theorem k0_off111_inb : ∀ (v11_0 : BitVec 32) (k0_hw6 : k0_chk6 v11_0) (k0_t14 : Fin (k0_t14_loop v11_0).trips), ∀ (k0_h102 : k0_cond102 v11_0 k0_t14 = 1#1), ∀ a, (k0_off111 v11_0 k0_t14) a + S128.size a ≤ S6528.size a := fun v11_0 k0_hw6 k0_t14 k0_h102 => k0_hw6.2.1.2.2.2.2.2.2.2.2.2.2.2.2.2.2.2.2.2.2.2.2.2.2.2.2.2.2.1 k0_t14 k0_h102
theorem k0_off112_inb : ∀ (v11_0 : BitVec 32) (k0_hw6 : k0_chk6 v11_0) (k0_t14 : Fin (k0_t14_loop v11_0).trips), ∀ (k0_h103 : k0_cond103 v11_0 k0_t14 = 1#1), ∀ a, (k0_off112 v11_0 k0_t14) a + S128.size a ≤ S6528.size a := fun v11_0 k0_hw6 k0_t14 k0_h103 => k0_hw6.2.1.2.2.2.2.2.2.2.2.2.2.2.2.2.2.2.2.2.2.2.2.2.2.2.2.2.2.2.1 k0_t14 k0_h103
theorem k0_off113_inb : ∀ (v11_0 : BitVec 32) (k0_hw6 : k0_chk6 v11_0) (k0_t14 : Fin (k0_t14_loop v11_0).trips), ∀ (k0_h104 : k0_cond104 v11_0 k0_t14 = 1#1), ∀ a, (k0_off113 v11_0 k0_t14) a + S128.size a ≤ S6528.size a := fun v11_0 k0_hw6 k0_t14 k0_h104 => k0_hw6.2.1.2.2.2.2.2.2.2.2.2.2.2.2.2.2.2.2.2.2.2.2.2.2.2.2.2.2.2.2.1 k0_t14 k0_h104
theorem k0_off114_inb : ∀ (v11_0 : BitVec 32) (k0_hw6 : k0_chk6 v11_0) (k0_t14 : Fin (k0_t14_loop v11_0).trips), ∀ (k0_h105 : k0_cond105 v11_0 k0_t14 = 1#1), ∀ a, (k0_off114 v11_0 k0_t14) a + S128.size a ≤ S6528.size a := fun v11_0 k0_hw6 k0_t14 k0_h105 => k0_hw6.2.1.2.2.2.2.2.2.2.2.2.2.2.2.2.2.2.2.2.2.2.2.2.2.2.2.2.2.2.2.2.1 k0_t14 k0_h105
theorem k0_off115_inb : ∀ (v11_0 : BitVec 32) (k0_hw6 : k0_chk6 v11_0) (k0_t14 : Fin (k0_t14_loop v11_0).trips), ∀ (k0_h106 : k0_cond106 v11_0 k0_t14 = 1#1), ∀ a, (k0_off115 v11_0 k0_t14) a + S128.size a ≤ S6528.size a := fun v11_0 k0_hw6 k0_t14 k0_h106 => k0_hw6.2.1.2.2.2.2.2.2.2.2.2.2.2.2.2.2.2.2.2.2.2.2.2.2.2.2.2.2.2.2.2.2.1 k0_t14 k0_h106
theorem k0_off116_inb : ∀ (v11_0 : BitVec 32) (k0_hw6 : k0_chk6 v11_0) (k0_t14 : Fin (k0_t14_loop v11_0).trips), ∀ (k0_h107 : k0_cond107 v11_0 k0_t14 = 1#1), ∀ a, (k0_off116 v11_0 k0_t14) a + S128.size a ≤ S6528.size a := fun v11_0 k0_hw6 k0_t14 k0_h107 => k0_hw6.2.1.2.2.2.2.2.2.2.2.2.2.2.2.2.2.2.2.2.2.2.2.2.2.2.2.2.2.2.2.2.2.2 k0_t14 k0_h107
theorem k0_off117_inb : ∀ (v11_0 : BitVec 32) (k0_hw6 : k0_chk6 v11_0) (k0_t14 : Fin (k0_t14_loop v11_0).trips), ∀ (k0_h108 : k0_cond108 v11_0 k0_t14 = 1#1), ∀ a, (k0_off117 v11_0 k0_t14) a + S128.size a ≤ S6528.size a := fun v11_0 k0_hw6 k0_t14 k0_h108 => k0_hw6.2.2.1 k0_t14 k0_h108
theorem k0_off118_inb : ∀ (v11_0 : BitVec 32) (k0_hw6 : k0_chk6 v11_0) (k0_t14 : Fin (k0_t14_loop v11_0).trips), ∀ (k0_h109 : k0_cond109 v11_0 k0_t14 = 1#1), ∀ a, (k0_off118 v11_0 k0_t14) a + S128.size a ≤ S6528.size a := fun v11_0 k0_hw6 k0_t14 k0_h109 => k0_hw6.2.2.2.1 k0_t14 k0_h109
theorem k0_off119_inb : ∀ (v11_0 : BitVec 32) (k0_hw6 : k0_chk6 v11_0) (k0_t14 : Fin (k0_t14_loop v11_0).trips), ∀ (k0_h110 : k0_cond110 v11_0 k0_t14 = 1#1), ∀ a, (k0_off119 v11_0 k0_t14) a + S128.size a ≤ S6528.size a := fun v11_0 k0_hw6 k0_t14 k0_h110 => k0_hw6.2.2.2.2.1 k0_t14 k0_h110
theorem k0_off120_inb : ∀ (v11_0 : BitVec 32) (k0_hw6 : k0_chk6 v11_0) (k0_t14 : Fin (k0_t14_loop v11_0).trips), ∀ (k0_h111 : k0_cond111 v11_0 k0_t14 = 1#1), ∀ a, (k0_off120 v11_0 k0_t14) a + S128.size a ≤ S6528.size a := fun v11_0 k0_hw6 k0_t14 k0_h111 => k0_hw6.2.2.2.2.2.1 k0_t14 k0_h111
theorem k0_off121_inb : ∀ (v11_0 : BitVec 32) (k0_hw6 : k0_chk6 v11_0) (k0_t14 : Fin (k0_t14_loop v11_0).trips), ∀ (k0_h112 : k0_cond112 v11_0 k0_t14 = 1#1), ∀ a, (k0_off121 v11_0 k0_t14) a + S128.size a ≤ S6528.size a := fun v11_0 k0_hw6 k0_t14 k0_h112 => k0_hw6.2.2.2.2.2.2 k0_t14 k0_h112

@[reducible] def k0_t15_loop (v11_1 : BitVec 32) : Scf.Loop 32 :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_173 : BitVec 32 := 1#32
  ⟨c0_i32_171, v376, c1_i32_173⟩
def k0_off122 (v11_1 : BitVec 32) (k0_t15 : Fin (k0_t15_loop v11_1).trips) : Fin 1 → Nat :=
  let c0_i32_171 : BitVec 32 := 0#32
  let c1_i32_173 : BitVec 32 := 1#32
  let arg22 : BitVec 32 := Scf.iv c0_i32_171 c1_i32_173 k0_t15
  let c4_i32_198 : BitVec 32 := 4#32
  let v420 : BitVec 32 := Scalar.muli arg22 c4_i32_198
  let c0_i32_199 : BitVec 32 := 0#32
  let v421 : BitVec 32 := Scalar.addi v420 c0_i32_199
  let c128_i32_245 : BitVec 32 := 128#32
  let v500 : BitVec 32 := Scalar.muli v421 c128_i32_245
  ![v500.toNat]
def k0_cond113 (v11_1 : BitVec 32) (k0_t15 : Fin (k0_t15_loop v11_1).trips) : BitVec 1 :=
  let c0_i32_171 : BitVec 32 := 0#32
  let c1_i32_173 : BitVec 32 := 1#32
  let arg22 : BitVec 32 := Scf.iv c0_i32_171 c1_i32_173 k0_t15
  let c4_i32_198 : BitVec 32 := 4#32
  let v420 : BitVec 32 := Scalar.muli arg22 c4_i32_198
  let c0_i32_199 : BitVec 32 := 0#32
  let v421 : BitVec 32 := Scalar.addi v420 c0_i32_199
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let v422 : BitVec 1 := Scalar.cmpi .slt v421 v352
  let v423 : BitVec 32 := Scalar.extui v422
  let c0_i32_200 : BitVec 32 := 0#32
  let v424 : BitVec 1 := Scalar.cmpi .ne v423 c0_i32_200
  v424

def k0_off123 (v11_1 : BitVec 32) (k0_t15 : Fin (k0_t15_loop v11_1).trips) : Fin 1 → Nat :=
  let c0_i32_171 : BitVec 32 := 0#32
  let c1_i32_173 : BitVec 32 := 1#32
  let arg22 : BitVec 32 := Scf.iv c0_i32_171 c1_i32_173 k0_t15
  let c4_i32_201 : BitVec 32 := 4#32
  let v425 : BitVec 32 := Scalar.muli arg22 c4_i32_201
  let c1_i32_202 : BitVec 32 := 1#32
  let v426 : BitVec 32 := Scalar.addi v425 c1_i32_202
  let c128_i32_245 : BitVec 32 := 128#32
  let v500 : BitVec 32 := Scalar.muli v426 c128_i32_245
  ![v500.toNat]
def k0_cond114 (v11_1 : BitVec 32) (k0_t15 : Fin (k0_t15_loop v11_1).trips) : BitVec 1 :=
  let c0_i32_171 : BitVec 32 := 0#32
  let c1_i32_173 : BitVec 32 := 1#32
  let arg22 : BitVec 32 := Scf.iv c0_i32_171 c1_i32_173 k0_t15
  let c4_i32_201 : BitVec 32 := 4#32
  let v425 : BitVec 32 := Scalar.muli arg22 c4_i32_201
  let c1_i32_202 : BitVec 32 := 1#32
  let v426 : BitVec 32 := Scalar.addi v425 c1_i32_202
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let v427 : BitVec 1 := Scalar.cmpi .slt v426 v352
  let v428 : BitVec 32 := Scalar.extui v427
  let c0_i32_203 : BitVec 32 := 0#32
  let v429 : BitVec 1 := Scalar.cmpi .ne v428 c0_i32_203
  v429

def k0_off124 (v11_1 : BitVec 32) (k0_t15 : Fin (k0_t15_loop v11_1).trips) : Fin 1 → Nat :=
  let c0_i32_171 : BitVec 32 := 0#32
  let c1_i32_173 : BitVec 32 := 1#32
  let arg22 : BitVec 32 := Scf.iv c0_i32_171 c1_i32_173 k0_t15
  let c4_i32_204 : BitVec 32 := 4#32
  let v430 : BitVec 32 := Scalar.muli arg22 c4_i32_204
  let c2_i32_205 : BitVec 32 := 2#32
  let v431 : BitVec 32 := Scalar.addi v430 c2_i32_205
  let c128_i32_245 : BitVec 32 := 128#32
  let v500 : BitVec 32 := Scalar.muli v431 c128_i32_245
  ![v500.toNat]
def k0_cond115 (v11_1 : BitVec 32) (k0_t15 : Fin (k0_t15_loop v11_1).trips) : BitVec 1 :=
  let c0_i32_171 : BitVec 32 := 0#32
  let c1_i32_173 : BitVec 32 := 1#32
  let arg22 : BitVec 32 := Scf.iv c0_i32_171 c1_i32_173 k0_t15
  let c4_i32_204 : BitVec 32 := 4#32
  let v430 : BitVec 32 := Scalar.muli arg22 c4_i32_204
  let c2_i32_205 : BitVec 32 := 2#32
  let v431 : BitVec 32 := Scalar.addi v430 c2_i32_205
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let v432 : BitVec 1 := Scalar.cmpi .slt v431 v352
  let v433 : BitVec 32 := Scalar.extui v432
  let c0_i32_206 : BitVec 32 := 0#32
  let v434 : BitVec 1 := Scalar.cmpi .ne v433 c0_i32_206
  v434

def k0_off125 (v11_1 : BitVec 32) (k0_t15 : Fin (k0_t15_loop v11_1).trips) : Fin 1 → Nat :=
  let c0_i32_171 : BitVec 32 := 0#32
  let c1_i32_173 : BitVec 32 := 1#32
  let arg22 : BitVec 32 := Scf.iv c0_i32_171 c1_i32_173 k0_t15
  let c4_i32_207 : BitVec 32 := 4#32
  let v435 : BitVec 32 := Scalar.muli arg22 c4_i32_207
  let c3_i32 : BitVec 32 := 3#32
  let v436 : BitVec 32 := Scalar.addi v435 c3_i32
  let c128_i32_245 : BitVec 32 := 128#32
  let v500 : BitVec 32 := Scalar.muli v436 c128_i32_245
  ![v500.toNat]
def k0_cond116 (v11_1 : BitVec 32) (k0_t15 : Fin (k0_t15_loop v11_1).trips) : BitVec 1 :=
  let c0_i32_171 : BitVec 32 := 0#32
  let c1_i32_173 : BitVec 32 := 1#32
  let arg22 : BitVec 32 := Scf.iv c0_i32_171 c1_i32_173 k0_t15
  let c4_i32_207 : BitVec 32 := 4#32
  let v435 : BitVec 32 := Scalar.muli arg22 c4_i32_207
  let c3_i32 : BitVec 32 := 3#32
  let v436 : BitVec 32 := Scalar.addi v435 c3_i32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let v437 : BitVec 1 := Scalar.cmpi .slt v436 v352
  let v438 : BitVec 32 := Scalar.extui v437
  let c0_i32_208 : BitVec 32 := 0#32
  let v439 : BitVec 1 := Scalar.cmpi .ne v438 c0_i32_208
  v439

def k0_off126 (v11_1 : BitVec 32) (k0_t15 : Fin (k0_t15_loop v11_1).trips) : Fin 1 → Nat :=
  let c0_i32_171 : BitVec 32 := 0#32
  let c1_i32_173 : BitVec 32 := 1#32
  let arg22 : BitVec 32 := Scf.iv c0_i32_171 c1_i32_173 k0_t15
  let c4_i32_209 : BitVec 32 := 4#32
  let v440 : BitVec 32 := Scalar.muli arg22 c4_i32_209
  let c0_i32_210 : BitVec 32 := 0#32
  let v441 : BitVec 32 := Scalar.addi v440 c0_i32_210
  let c128_i32_245 : BitVec 32 := 128#32
  let v500 : BitVec 32 := Scalar.muli v441 c128_i32_245
  ![v500.toNat]
def k0_cond117 (v11_1 : BitVec 32) (k0_t15 : Fin (k0_t15_loop v11_1).trips) : BitVec 1 :=
  let c0_i32_171 : BitVec 32 := 0#32
  let c1_i32_173 : BitVec 32 := 1#32
  let arg22 : BitVec 32 := Scf.iv c0_i32_171 c1_i32_173 k0_t15
  let c4_i32_209 : BitVec 32 := 4#32
  let v440 : BitVec 32 := Scalar.muli arg22 c4_i32_209
  let c0_i32_210 : BitVec 32 := 0#32
  let v441 : BitVec 32 := Scalar.addi v440 c0_i32_210
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let v442 : BitVec 1 := Scalar.cmpi .slt v441 v352
  let v443 : BitVec 32 := Scalar.extui v442
  let c0_i32_211 : BitVec 32 := 0#32
  let v444 : BitVec 1 := Scalar.cmpi .ne v443 c0_i32_211
  v444

def k0_off127 (v11_1 : BitVec 32) (k0_t15 : Fin (k0_t15_loop v11_1).trips) : Fin 1 → Nat :=
  let c0_i32_171 : BitVec 32 := 0#32
  let c1_i32_173 : BitVec 32 := 1#32
  let arg22 : BitVec 32 := Scf.iv c0_i32_171 c1_i32_173 k0_t15
  let c4_i32_212 : BitVec 32 := 4#32
  let v445 : BitVec 32 := Scalar.muli arg22 c4_i32_212
  let c1_i32_213 : BitVec 32 := 1#32
  let v446 : BitVec 32 := Scalar.addi v445 c1_i32_213
  let c128_i32_245 : BitVec 32 := 128#32
  let v500 : BitVec 32 := Scalar.muli v446 c128_i32_245
  ![v500.toNat]
def k0_cond118 (v11_1 : BitVec 32) (k0_t15 : Fin (k0_t15_loop v11_1).trips) : BitVec 1 :=
  let c0_i32_171 : BitVec 32 := 0#32
  let c1_i32_173 : BitVec 32 := 1#32
  let arg22 : BitVec 32 := Scf.iv c0_i32_171 c1_i32_173 k0_t15
  let c4_i32_212 : BitVec 32 := 4#32
  let v445 : BitVec 32 := Scalar.muli arg22 c4_i32_212
  let c1_i32_213 : BitVec 32 := 1#32
  let v446 : BitVec 32 := Scalar.addi v445 c1_i32_213
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let v447 : BitVec 1 := Scalar.cmpi .slt v446 v352
  let v448 : BitVec 32 := Scalar.extui v447
  let c0_i32_214 : BitVec 32 := 0#32
  let v449 : BitVec 1 := Scalar.cmpi .ne v448 c0_i32_214
  v449

def k0_off128 (v11_1 : BitVec 32) (k0_t15 : Fin (k0_t15_loop v11_1).trips) : Fin 1 → Nat :=
  let c0_i32_171 : BitVec 32 := 0#32
  let c1_i32_173 : BitVec 32 := 1#32
  let arg22 : BitVec 32 := Scf.iv c0_i32_171 c1_i32_173 k0_t15
  let c4_i32_215 : BitVec 32 := 4#32
  let v450 : BitVec 32 := Scalar.muli arg22 c4_i32_215
  let c2_i32_216 : BitVec 32 := 2#32
  let v451 : BitVec 32 := Scalar.addi v450 c2_i32_216
  let c128_i32_245 : BitVec 32 := 128#32
  let v500 : BitVec 32 := Scalar.muli v451 c128_i32_245
  ![v500.toNat]
def k0_cond119 (v11_1 : BitVec 32) (k0_t15 : Fin (k0_t15_loop v11_1).trips) : BitVec 1 :=
  let c0_i32_171 : BitVec 32 := 0#32
  let c1_i32_173 : BitVec 32 := 1#32
  let arg22 : BitVec 32 := Scf.iv c0_i32_171 c1_i32_173 k0_t15
  let c4_i32_215 : BitVec 32 := 4#32
  let v450 : BitVec 32 := Scalar.muli arg22 c4_i32_215
  let c2_i32_216 : BitVec 32 := 2#32
  let v451 : BitVec 32 := Scalar.addi v450 c2_i32_216
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let v452 : BitVec 1 := Scalar.cmpi .slt v451 v352
  let v453 : BitVec 32 := Scalar.extui v452
  let c0_i32_217 : BitVec 32 := 0#32
  let v454 : BitVec 1 := Scalar.cmpi .ne v453 c0_i32_217
  v454

def k0_off129 (v11_1 : BitVec 32) (k0_t15 : Fin (k0_t15_loop v11_1).trips) : Fin 1 → Nat :=
  let c0_i32_171 : BitVec 32 := 0#32
  let c1_i32_173 : BitVec 32 := 1#32
  let arg22 : BitVec 32 := Scf.iv c0_i32_171 c1_i32_173 k0_t15
  let c4_i32_218 : BitVec 32 := 4#32
  let v455 : BitVec 32 := Scalar.muli arg22 c4_i32_218
  let c3_i32_219 : BitVec 32 := 3#32
  let v456 : BitVec 32 := Scalar.addi v455 c3_i32_219
  let c128_i32_245 : BitVec 32 := 128#32
  let v500 : BitVec 32 := Scalar.muli v456 c128_i32_245
  ![v500.toNat]
def k0_cond120 (v11_1 : BitVec 32) (k0_t15 : Fin (k0_t15_loop v11_1).trips) : BitVec 1 :=
  let c0_i32_171 : BitVec 32 := 0#32
  let c1_i32_173 : BitVec 32 := 1#32
  let arg22 : BitVec 32 := Scf.iv c0_i32_171 c1_i32_173 k0_t15
  let c4_i32_218 : BitVec 32 := 4#32
  let v455 : BitVec 32 := Scalar.muli arg22 c4_i32_218
  let c3_i32_219 : BitVec 32 := 3#32
  let v456 : BitVec 32 := Scalar.addi v455 c3_i32_219
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let v457 : BitVec 1 := Scalar.cmpi .slt v456 v352
  let v458 : BitVec 32 := Scalar.extui v457
  let c0_i32_220 : BitVec 32 := 0#32
  let v459 : BitVec 1 := Scalar.cmpi .ne v458 c0_i32_220
  v459

def k0_off130 (v11_1 : BitVec 32) (k0_t15 : Fin (k0_t15_loop v11_1).trips) : Fin 1 → Nat :=
  let c0_i32_171 : BitVec 32 := 0#32
  let c1_i32_173 : BitVec 32 := 1#32
  let arg22 : BitVec 32 := Scf.iv c0_i32_171 c1_i32_173 k0_t15
  let c4_i32_221 : BitVec 32 := 4#32
  let v460 : BitVec 32 := Scalar.muli arg22 c4_i32_221
  let c0_i32_222 : BitVec 32 := 0#32
  let v461 : BitVec 32 := Scalar.addi v460 c0_i32_222
  let c128_i32_245 : BitVec 32 := 128#32
  let v500 : BitVec 32 := Scalar.muli v461 c128_i32_245
  ![v500.toNat]
def k0_cond121 (v11_1 : BitVec 32) (k0_t15 : Fin (k0_t15_loop v11_1).trips) : BitVec 1 :=
  let c0_i32_171 : BitVec 32 := 0#32
  let c1_i32_173 : BitVec 32 := 1#32
  let arg22 : BitVec 32 := Scf.iv c0_i32_171 c1_i32_173 k0_t15
  let c4_i32_221 : BitVec 32 := 4#32
  let v460 : BitVec 32 := Scalar.muli arg22 c4_i32_221
  let c0_i32_222 : BitVec 32 := 0#32
  let v461 : BitVec 32 := Scalar.addi v460 c0_i32_222
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let v462 : BitVec 1 := Scalar.cmpi .slt v461 v352
  let v463 : BitVec 32 := Scalar.extui v462
  let c0_i32_223 : BitVec 32 := 0#32
  let v464 : BitVec 1 := Scalar.cmpi .ne v463 c0_i32_223
  v464

def k0_off131 (v11_1 : BitVec 32) (k0_t15 : Fin (k0_t15_loop v11_1).trips) : Fin 1 → Nat :=
  let c0_i32_171 : BitVec 32 := 0#32
  let c1_i32_173 : BitVec 32 := 1#32
  let arg22 : BitVec 32 := Scf.iv c0_i32_171 c1_i32_173 k0_t15
  let c4_i32_224 : BitVec 32 := 4#32
  let v465 : BitVec 32 := Scalar.muli arg22 c4_i32_224
  let c1_i32_225 : BitVec 32 := 1#32
  let v466 : BitVec 32 := Scalar.addi v465 c1_i32_225
  let c128_i32_245 : BitVec 32 := 128#32
  let v500 : BitVec 32 := Scalar.muli v466 c128_i32_245
  ![v500.toNat]
def k0_cond122 (v11_1 : BitVec 32) (k0_t15 : Fin (k0_t15_loop v11_1).trips) : BitVec 1 :=
  let c0_i32_171 : BitVec 32 := 0#32
  let c1_i32_173 : BitVec 32 := 1#32
  let arg22 : BitVec 32 := Scf.iv c0_i32_171 c1_i32_173 k0_t15
  let c4_i32_224 : BitVec 32 := 4#32
  let v465 : BitVec 32 := Scalar.muli arg22 c4_i32_224
  let c1_i32_225 : BitVec 32 := 1#32
  let v466 : BitVec 32 := Scalar.addi v465 c1_i32_225
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let v467 : BitVec 1 := Scalar.cmpi .slt v466 v352
  let v468 : BitVec 32 := Scalar.extui v467
  let c0_i32_226 : BitVec 32 := 0#32
  let v469 : BitVec 1 := Scalar.cmpi .ne v468 c0_i32_226
  v469

def k0_off132 (v11_1 : BitVec 32) (k0_t15 : Fin (k0_t15_loop v11_1).trips) : Fin 1 → Nat :=
  let c0_i32_171 : BitVec 32 := 0#32
  let c1_i32_173 : BitVec 32 := 1#32
  let arg22 : BitVec 32 := Scf.iv c0_i32_171 c1_i32_173 k0_t15
  let c4_i32_227 : BitVec 32 := 4#32
  let v470 : BitVec 32 := Scalar.muli arg22 c4_i32_227
  let c2_i32_228 : BitVec 32 := 2#32
  let v471 : BitVec 32 := Scalar.addi v470 c2_i32_228
  let c128_i32_245 : BitVec 32 := 128#32
  let v500 : BitVec 32 := Scalar.muli v471 c128_i32_245
  ![v500.toNat]
def k0_cond123 (v11_1 : BitVec 32) (k0_t15 : Fin (k0_t15_loop v11_1).trips) : BitVec 1 :=
  let c0_i32_171 : BitVec 32 := 0#32
  let c1_i32_173 : BitVec 32 := 1#32
  let arg22 : BitVec 32 := Scf.iv c0_i32_171 c1_i32_173 k0_t15
  let c4_i32_227 : BitVec 32 := 4#32
  let v470 : BitVec 32 := Scalar.muli arg22 c4_i32_227
  let c2_i32_228 : BitVec 32 := 2#32
  let v471 : BitVec 32 := Scalar.addi v470 c2_i32_228
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let v472 : BitVec 1 := Scalar.cmpi .slt v471 v352
  let v473 : BitVec 32 := Scalar.extui v472
  let c0_i32_229 : BitVec 32 := 0#32
  let v474 : BitVec 1 := Scalar.cmpi .ne v473 c0_i32_229
  v474

def k0_off133 (v11_1 : BitVec 32) (k0_t15 : Fin (k0_t15_loop v11_1).trips) : Fin 1 → Nat :=
  let c0_i32_171 : BitVec 32 := 0#32
  let c1_i32_173 : BitVec 32 := 1#32
  let arg22 : BitVec 32 := Scf.iv c0_i32_171 c1_i32_173 k0_t15
  let c4_i32_230 : BitVec 32 := 4#32
  let v475 : BitVec 32 := Scalar.muli arg22 c4_i32_230
  let c3_i32_231 : BitVec 32 := 3#32
  let v476 : BitVec 32 := Scalar.addi v475 c3_i32_231
  let c128_i32_245 : BitVec 32 := 128#32
  let v500 : BitVec 32 := Scalar.muli v476 c128_i32_245
  ![v500.toNat]
def k0_cond124 (v11_1 : BitVec 32) (k0_t15 : Fin (k0_t15_loop v11_1).trips) : BitVec 1 :=
  let c0_i32_171 : BitVec 32 := 0#32
  let c1_i32_173 : BitVec 32 := 1#32
  let arg22 : BitVec 32 := Scf.iv c0_i32_171 c1_i32_173 k0_t15
  let c4_i32_230 : BitVec 32 := 4#32
  let v475 : BitVec 32 := Scalar.muli arg22 c4_i32_230
  let c3_i32_231 : BitVec 32 := 3#32
  let v476 : BitVec 32 := Scalar.addi v475 c3_i32_231
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let v477 : BitVec 1 := Scalar.cmpi .slt v476 v352
  let v478 : BitVec 32 := Scalar.extui v477
  let c0_i32_232 : BitVec 32 := 0#32
  let v479 : BitVec 1 := Scalar.cmpi .ne v478 c0_i32_232
  v479

def k0_off134 (v11_1 : BitVec 32) (k0_t15 : Fin (k0_t15_loop v11_1).trips) : Fin 1 → Nat :=
  let c0_i32_171 : BitVec 32 := 0#32
  let c1_i32_173 : BitVec 32 := 1#32
  let arg22 : BitVec 32 := Scf.iv c0_i32_171 c1_i32_173 k0_t15
  let c4_i32_233 : BitVec 32 := 4#32
  let v480 : BitVec 32 := Scalar.muli arg22 c4_i32_233
  let c0_i32_234 : BitVec 32 := 0#32
  let v481 : BitVec 32 := Scalar.addi v480 c0_i32_234
  let c128_i32_245 : BitVec 32 := 128#32
  let v500 : BitVec 32 := Scalar.muli v481 c128_i32_245
  ![v500.toNat]
def k0_cond125 (v11_1 : BitVec 32) (k0_t15 : Fin (k0_t15_loop v11_1).trips) : BitVec 1 :=
  let c0_i32_171 : BitVec 32 := 0#32
  let c1_i32_173 : BitVec 32 := 1#32
  let arg22 : BitVec 32 := Scf.iv c0_i32_171 c1_i32_173 k0_t15
  let c4_i32_233 : BitVec 32 := 4#32
  let v480 : BitVec 32 := Scalar.muli arg22 c4_i32_233
  let c0_i32_234 : BitVec 32 := 0#32
  let v481 : BitVec 32 := Scalar.addi v480 c0_i32_234
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let v482 : BitVec 1 := Scalar.cmpi .slt v481 v352
  let v483 : BitVec 32 := Scalar.extui v482
  let c0_i32_235 : BitVec 32 := 0#32
  let v484 : BitVec 1 := Scalar.cmpi .ne v483 c0_i32_235
  v484

def k0_off135 (v11_1 : BitVec 32) (k0_t15 : Fin (k0_t15_loop v11_1).trips) : Fin 1 → Nat :=
  let c0_i32_171 : BitVec 32 := 0#32
  let c1_i32_173 : BitVec 32 := 1#32
  let arg22 : BitVec 32 := Scf.iv c0_i32_171 c1_i32_173 k0_t15
  let c4_i32_236 : BitVec 32 := 4#32
  let v485 : BitVec 32 := Scalar.muli arg22 c4_i32_236
  let c1_i32_237 : BitVec 32 := 1#32
  let v486 : BitVec 32 := Scalar.addi v485 c1_i32_237
  let c128_i32_245 : BitVec 32 := 128#32
  let v500 : BitVec 32 := Scalar.muli v486 c128_i32_245
  ![v500.toNat]
def k0_cond126 (v11_1 : BitVec 32) (k0_t15 : Fin (k0_t15_loop v11_1).trips) : BitVec 1 :=
  let c0_i32_171 : BitVec 32 := 0#32
  let c1_i32_173 : BitVec 32 := 1#32
  let arg22 : BitVec 32 := Scf.iv c0_i32_171 c1_i32_173 k0_t15
  let c4_i32_236 : BitVec 32 := 4#32
  let v485 : BitVec 32 := Scalar.muli arg22 c4_i32_236
  let c1_i32_237 : BitVec 32 := 1#32
  let v486 : BitVec 32 := Scalar.addi v485 c1_i32_237
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let v487 : BitVec 1 := Scalar.cmpi .slt v486 v352
  let v488 : BitVec 32 := Scalar.extui v487
  let c0_i32_238 : BitVec 32 := 0#32
  let v489 : BitVec 1 := Scalar.cmpi .ne v488 c0_i32_238
  v489

def k0_off136 (v11_1 : BitVec 32) (k0_t15 : Fin (k0_t15_loop v11_1).trips) : Fin 1 → Nat :=
  let c0_i32_171 : BitVec 32 := 0#32
  let c1_i32_173 : BitVec 32 := 1#32
  let arg22 : BitVec 32 := Scf.iv c0_i32_171 c1_i32_173 k0_t15
  let c4_i32_239 : BitVec 32 := 4#32
  let v490 : BitVec 32 := Scalar.muli arg22 c4_i32_239
  let c2_i32_240 : BitVec 32 := 2#32
  let v491 : BitVec 32 := Scalar.addi v490 c2_i32_240
  let c128_i32_245 : BitVec 32 := 128#32
  let v500 : BitVec 32 := Scalar.muli v491 c128_i32_245
  ![v500.toNat]
def k0_cond127 (v11_1 : BitVec 32) (k0_t15 : Fin (k0_t15_loop v11_1).trips) : BitVec 1 :=
  let c0_i32_171 : BitVec 32 := 0#32
  let c1_i32_173 : BitVec 32 := 1#32
  let arg22 : BitVec 32 := Scf.iv c0_i32_171 c1_i32_173 k0_t15
  let c4_i32_239 : BitVec 32 := 4#32
  let v490 : BitVec 32 := Scalar.muli arg22 c4_i32_239
  let c2_i32_240 : BitVec 32 := 2#32
  let v491 : BitVec 32 := Scalar.addi v490 c2_i32_240
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let v492 : BitVec 1 := Scalar.cmpi .slt v491 v352
  let v493 : BitVec 32 := Scalar.extui v492
  let c0_i32_241 : BitVec 32 := 0#32
  let v494 : BitVec 1 := Scalar.cmpi .ne v493 c0_i32_241
  v494

def k0_off137 (v11_1 : BitVec 32) (k0_t15 : Fin (k0_t15_loop v11_1).trips) : Fin 1 → Nat :=
  let c0_i32_171 : BitVec 32 := 0#32
  let c1_i32_173 : BitVec 32 := 1#32
  let arg22 : BitVec 32 := Scf.iv c0_i32_171 c1_i32_173 k0_t15
  let c4_i32_242 : BitVec 32 := 4#32
  let v495 : BitVec 32 := Scalar.muli arg22 c4_i32_242
  let c3_i32_243 : BitVec 32 := 3#32
  let v496 : BitVec 32 := Scalar.addi v495 c3_i32_243
  let c128_i32_245 : BitVec 32 := 128#32
  let v500 : BitVec 32 := Scalar.muli v496 c128_i32_245
  ![v500.toNat]
def k0_cond128 (v11_1 : BitVec 32) (k0_t15 : Fin (k0_t15_loop v11_1).trips) : BitVec 1 :=
  let c0_i32_171 : BitVec 32 := 0#32
  let c1_i32_173 : BitVec 32 := 1#32
  let arg22 : BitVec 32 := Scf.iv c0_i32_171 c1_i32_173 k0_t15
  let c4_i32_242 : BitVec 32 := 4#32
  let v495 : BitVec 32 := Scalar.muli arg22 c4_i32_242
  let c3_i32_243 : BitVec 32 := 3#32
  let v496 : BitVec 32 := Scalar.addi v495 c3_i32_243
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let v497 : BitVec 1 := Scalar.cmpi .slt v496 v352
  let v498 : BitVec 32 := Scalar.extui v497
  let c0_i32_244 : BitVec 32 := 0#32
  let v499 : BitVec 1 := Scalar.cmpi .ne v498 c0_i32_244
  v499

@[reducible] def k0_t16_loop (v11_1 : BitVec 32) : Scf.Loop 32 :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let v373 : BitVec 32 := Scalar.addi c0_i32_171 v372
  let c1_i32_174 : BitVec 32 := 1#32
  ⟨v376, v373, c1_i32_174⟩
def k0_off138 (v11_1 : BitVec 32) (k0_t16 : Fin (k0_t16_loop v11_1).trips) : Fin 1 → Nat :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_198 : BitVec 32 := 4#32
  let v420 : BitVec 32 := Scalar.muli arg22 c4_i32_198
  let c0_i32_199 : BitVec 32 := 0#32
  let v421 : BitVec 32 := Scalar.addi v420 c0_i32_199
  let c128_i32_245 : BitVec 32 := 128#32
  let v500 : BitVec 32 := Scalar.muli v421 c128_i32_245
  ![v500.toNat]
def k0_cond129 (v11_1 : BitVec 32) (k0_t16 : Fin (k0_t16_loop v11_1).trips) : BitVec 1 :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_198 : BitVec 32 := 4#32
  let v420 : BitVec 32 := Scalar.muli arg22 c4_i32_198
  let c0_i32_199 : BitVec 32 := 0#32
  let v421 : BitVec 32 := Scalar.addi v420 c0_i32_199
  let v422 : BitVec 1 := Scalar.cmpi .slt v421 v352
  let v423 : BitVec 32 := Scalar.extui v422
  let c0_i32_200 : BitVec 32 := 0#32
  let v424 : BitVec 1 := Scalar.cmpi .ne v423 c0_i32_200
  v424

def k0_off139 (v11_1 : BitVec 32) (k0_t16 : Fin (k0_t16_loop v11_1).trips) : Fin 1 → Nat :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_201 : BitVec 32 := 4#32
  let v425 : BitVec 32 := Scalar.muli arg22 c4_i32_201
  let c1_i32_202 : BitVec 32 := 1#32
  let v426 : BitVec 32 := Scalar.addi v425 c1_i32_202
  let c128_i32_245 : BitVec 32 := 128#32
  let v500 : BitVec 32 := Scalar.muli v426 c128_i32_245
  ![v500.toNat]
def k0_cond130 (v11_1 : BitVec 32) (k0_t16 : Fin (k0_t16_loop v11_1).trips) : BitVec 1 :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_201 : BitVec 32 := 4#32
  let v425 : BitVec 32 := Scalar.muli arg22 c4_i32_201
  let c1_i32_202 : BitVec 32 := 1#32
  let v426 : BitVec 32 := Scalar.addi v425 c1_i32_202
  let v427 : BitVec 1 := Scalar.cmpi .slt v426 v352
  let v428 : BitVec 32 := Scalar.extui v427
  let c0_i32_203 : BitVec 32 := 0#32
  let v429 : BitVec 1 := Scalar.cmpi .ne v428 c0_i32_203
  v429

def k0_off140 (v11_1 : BitVec 32) (k0_t16 : Fin (k0_t16_loop v11_1).trips) : Fin 1 → Nat :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_204 : BitVec 32 := 4#32
  let v430 : BitVec 32 := Scalar.muli arg22 c4_i32_204
  let c2_i32_205 : BitVec 32 := 2#32
  let v431 : BitVec 32 := Scalar.addi v430 c2_i32_205
  let c128_i32_245 : BitVec 32 := 128#32
  let v500 : BitVec 32 := Scalar.muli v431 c128_i32_245
  ![v500.toNat]
def k0_cond131 (v11_1 : BitVec 32) (k0_t16 : Fin (k0_t16_loop v11_1).trips) : BitVec 1 :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_204 : BitVec 32 := 4#32
  let v430 : BitVec 32 := Scalar.muli arg22 c4_i32_204
  let c2_i32_205 : BitVec 32 := 2#32
  let v431 : BitVec 32 := Scalar.addi v430 c2_i32_205
  let v432 : BitVec 1 := Scalar.cmpi .slt v431 v352
  let v433 : BitVec 32 := Scalar.extui v432
  let c0_i32_206 : BitVec 32 := 0#32
  let v434 : BitVec 1 := Scalar.cmpi .ne v433 c0_i32_206
  v434

def k0_off141 (v11_1 : BitVec 32) (k0_t16 : Fin (k0_t16_loop v11_1).trips) : Fin 1 → Nat :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_207 : BitVec 32 := 4#32
  let v435 : BitVec 32 := Scalar.muli arg22 c4_i32_207
  let c3_i32 : BitVec 32 := 3#32
  let v436 : BitVec 32 := Scalar.addi v435 c3_i32
  let c128_i32_245 : BitVec 32 := 128#32
  let v500 : BitVec 32 := Scalar.muli v436 c128_i32_245
  ![v500.toNat]
def k0_cond132 (v11_1 : BitVec 32) (k0_t16 : Fin (k0_t16_loop v11_1).trips) : BitVec 1 :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_207 : BitVec 32 := 4#32
  let v435 : BitVec 32 := Scalar.muli arg22 c4_i32_207
  let c3_i32 : BitVec 32 := 3#32
  let v436 : BitVec 32 := Scalar.addi v435 c3_i32
  let v437 : BitVec 1 := Scalar.cmpi .slt v436 v352
  let v438 : BitVec 32 := Scalar.extui v437
  let c0_i32_208 : BitVec 32 := 0#32
  let v439 : BitVec 1 := Scalar.cmpi .ne v438 c0_i32_208
  v439

def k0_off142 (v11_1 : BitVec 32) (k0_t16 : Fin (k0_t16_loop v11_1).trips) : Fin 1 → Nat :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_209 : BitVec 32 := 4#32
  let v440 : BitVec 32 := Scalar.muli arg22 c4_i32_209
  let c0_i32_210 : BitVec 32 := 0#32
  let v441 : BitVec 32 := Scalar.addi v440 c0_i32_210
  let c128_i32_245 : BitVec 32 := 128#32
  let v500 : BitVec 32 := Scalar.muli v441 c128_i32_245
  ![v500.toNat]
def k0_cond133 (v11_1 : BitVec 32) (k0_t16 : Fin (k0_t16_loop v11_1).trips) : BitVec 1 :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_209 : BitVec 32 := 4#32
  let v440 : BitVec 32 := Scalar.muli arg22 c4_i32_209
  let c0_i32_210 : BitVec 32 := 0#32
  let v441 : BitVec 32 := Scalar.addi v440 c0_i32_210
  let v442 : BitVec 1 := Scalar.cmpi .slt v441 v352
  let v443 : BitVec 32 := Scalar.extui v442
  let c0_i32_211 : BitVec 32 := 0#32
  let v444 : BitVec 1 := Scalar.cmpi .ne v443 c0_i32_211
  v444

def k0_off143 (v11_1 : BitVec 32) (k0_t16 : Fin (k0_t16_loop v11_1).trips) : Fin 1 → Nat :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_212 : BitVec 32 := 4#32
  let v445 : BitVec 32 := Scalar.muli arg22 c4_i32_212
  let c1_i32_213 : BitVec 32 := 1#32
  let v446 : BitVec 32 := Scalar.addi v445 c1_i32_213
  let c128_i32_245 : BitVec 32 := 128#32
  let v500 : BitVec 32 := Scalar.muli v446 c128_i32_245
  ![v500.toNat]
def k0_cond134 (v11_1 : BitVec 32) (k0_t16 : Fin (k0_t16_loop v11_1).trips) : BitVec 1 :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_212 : BitVec 32 := 4#32
  let v445 : BitVec 32 := Scalar.muli arg22 c4_i32_212
  let c1_i32_213 : BitVec 32 := 1#32
  let v446 : BitVec 32 := Scalar.addi v445 c1_i32_213
  let v447 : BitVec 1 := Scalar.cmpi .slt v446 v352
  let v448 : BitVec 32 := Scalar.extui v447
  let c0_i32_214 : BitVec 32 := 0#32
  let v449 : BitVec 1 := Scalar.cmpi .ne v448 c0_i32_214
  v449

def k0_off144 (v11_1 : BitVec 32) (k0_t16 : Fin (k0_t16_loop v11_1).trips) : Fin 1 → Nat :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_215 : BitVec 32 := 4#32
  let v450 : BitVec 32 := Scalar.muli arg22 c4_i32_215
  let c2_i32_216 : BitVec 32 := 2#32
  let v451 : BitVec 32 := Scalar.addi v450 c2_i32_216
  let c128_i32_245 : BitVec 32 := 128#32
  let v500 : BitVec 32 := Scalar.muli v451 c128_i32_245
  ![v500.toNat]
def k0_cond135 (v11_1 : BitVec 32) (k0_t16 : Fin (k0_t16_loop v11_1).trips) : BitVec 1 :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_215 : BitVec 32 := 4#32
  let v450 : BitVec 32 := Scalar.muli arg22 c4_i32_215
  let c2_i32_216 : BitVec 32 := 2#32
  let v451 : BitVec 32 := Scalar.addi v450 c2_i32_216
  let v452 : BitVec 1 := Scalar.cmpi .slt v451 v352
  let v453 : BitVec 32 := Scalar.extui v452
  let c0_i32_217 : BitVec 32 := 0#32
  let v454 : BitVec 1 := Scalar.cmpi .ne v453 c0_i32_217
  v454

def k0_off145 (v11_1 : BitVec 32) (k0_t16 : Fin (k0_t16_loop v11_1).trips) : Fin 1 → Nat :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_218 : BitVec 32 := 4#32
  let v455 : BitVec 32 := Scalar.muli arg22 c4_i32_218
  let c3_i32_219 : BitVec 32 := 3#32
  let v456 : BitVec 32 := Scalar.addi v455 c3_i32_219
  let c128_i32_245 : BitVec 32 := 128#32
  let v500 : BitVec 32 := Scalar.muli v456 c128_i32_245
  ![v500.toNat]
def k0_cond136 (v11_1 : BitVec 32) (k0_t16 : Fin (k0_t16_loop v11_1).trips) : BitVec 1 :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_218 : BitVec 32 := 4#32
  let v455 : BitVec 32 := Scalar.muli arg22 c4_i32_218
  let c3_i32_219 : BitVec 32 := 3#32
  let v456 : BitVec 32 := Scalar.addi v455 c3_i32_219
  let v457 : BitVec 1 := Scalar.cmpi .slt v456 v352
  let v458 : BitVec 32 := Scalar.extui v457
  let c0_i32_220 : BitVec 32 := 0#32
  let v459 : BitVec 1 := Scalar.cmpi .ne v458 c0_i32_220
  v459

def k0_off146 (v11_1 : BitVec 32) (k0_t16 : Fin (k0_t16_loop v11_1).trips) : Fin 1 → Nat :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_221 : BitVec 32 := 4#32
  let v460 : BitVec 32 := Scalar.muli arg22 c4_i32_221
  let c0_i32_222 : BitVec 32 := 0#32
  let v461 : BitVec 32 := Scalar.addi v460 c0_i32_222
  let c128_i32_245 : BitVec 32 := 128#32
  let v500 : BitVec 32 := Scalar.muli v461 c128_i32_245
  ![v500.toNat]
def k0_cond137 (v11_1 : BitVec 32) (k0_t16 : Fin (k0_t16_loop v11_1).trips) : BitVec 1 :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_221 : BitVec 32 := 4#32
  let v460 : BitVec 32 := Scalar.muli arg22 c4_i32_221
  let c0_i32_222 : BitVec 32 := 0#32
  let v461 : BitVec 32 := Scalar.addi v460 c0_i32_222
  let v462 : BitVec 1 := Scalar.cmpi .slt v461 v352
  let v463 : BitVec 32 := Scalar.extui v462
  let c0_i32_223 : BitVec 32 := 0#32
  let v464 : BitVec 1 := Scalar.cmpi .ne v463 c0_i32_223
  v464

def k0_off147 (v11_1 : BitVec 32) (k0_t16 : Fin (k0_t16_loop v11_1).trips) : Fin 1 → Nat :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_224 : BitVec 32 := 4#32
  let v465 : BitVec 32 := Scalar.muli arg22 c4_i32_224
  let c1_i32_225 : BitVec 32 := 1#32
  let v466 : BitVec 32 := Scalar.addi v465 c1_i32_225
  let c128_i32_245 : BitVec 32 := 128#32
  let v500 : BitVec 32 := Scalar.muli v466 c128_i32_245
  ![v500.toNat]
def k0_cond138 (v11_1 : BitVec 32) (k0_t16 : Fin (k0_t16_loop v11_1).trips) : BitVec 1 :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_224 : BitVec 32 := 4#32
  let v465 : BitVec 32 := Scalar.muli arg22 c4_i32_224
  let c1_i32_225 : BitVec 32 := 1#32
  let v466 : BitVec 32 := Scalar.addi v465 c1_i32_225
  let v467 : BitVec 1 := Scalar.cmpi .slt v466 v352
  let v468 : BitVec 32 := Scalar.extui v467
  let c0_i32_226 : BitVec 32 := 0#32
  let v469 : BitVec 1 := Scalar.cmpi .ne v468 c0_i32_226
  v469

def k0_off148 (v11_1 : BitVec 32) (k0_t16 : Fin (k0_t16_loop v11_1).trips) : Fin 1 → Nat :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_227 : BitVec 32 := 4#32
  let v470 : BitVec 32 := Scalar.muli arg22 c4_i32_227
  let c2_i32_228 : BitVec 32 := 2#32
  let v471 : BitVec 32 := Scalar.addi v470 c2_i32_228
  let c128_i32_245 : BitVec 32 := 128#32
  let v500 : BitVec 32 := Scalar.muli v471 c128_i32_245
  ![v500.toNat]
def k0_cond139 (v11_1 : BitVec 32) (k0_t16 : Fin (k0_t16_loop v11_1).trips) : BitVec 1 :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_227 : BitVec 32 := 4#32
  let v470 : BitVec 32 := Scalar.muli arg22 c4_i32_227
  let c2_i32_228 : BitVec 32 := 2#32
  let v471 : BitVec 32 := Scalar.addi v470 c2_i32_228
  let v472 : BitVec 1 := Scalar.cmpi .slt v471 v352
  let v473 : BitVec 32 := Scalar.extui v472
  let c0_i32_229 : BitVec 32 := 0#32
  let v474 : BitVec 1 := Scalar.cmpi .ne v473 c0_i32_229
  v474

def k0_off149 (v11_1 : BitVec 32) (k0_t16 : Fin (k0_t16_loop v11_1).trips) : Fin 1 → Nat :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_230 : BitVec 32 := 4#32
  let v475 : BitVec 32 := Scalar.muli arg22 c4_i32_230
  let c3_i32_231 : BitVec 32 := 3#32
  let v476 : BitVec 32 := Scalar.addi v475 c3_i32_231
  let c128_i32_245 : BitVec 32 := 128#32
  let v500 : BitVec 32 := Scalar.muli v476 c128_i32_245
  ![v500.toNat]
def k0_cond140 (v11_1 : BitVec 32) (k0_t16 : Fin (k0_t16_loop v11_1).trips) : BitVec 1 :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_230 : BitVec 32 := 4#32
  let v475 : BitVec 32 := Scalar.muli arg22 c4_i32_230
  let c3_i32_231 : BitVec 32 := 3#32
  let v476 : BitVec 32 := Scalar.addi v475 c3_i32_231
  let v477 : BitVec 1 := Scalar.cmpi .slt v476 v352
  let v478 : BitVec 32 := Scalar.extui v477
  let c0_i32_232 : BitVec 32 := 0#32
  let v479 : BitVec 1 := Scalar.cmpi .ne v478 c0_i32_232
  v479

def k0_off150 (v11_1 : BitVec 32) (k0_t16 : Fin (k0_t16_loop v11_1).trips) : Fin 1 → Nat :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_233 : BitVec 32 := 4#32
  let v480 : BitVec 32 := Scalar.muli arg22 c4_i32_233
  let c0_i32_234 : BitVec 32 := 0#32
  let v481 : BitVec 32 := Scalar.addi v480 c0_i32_234
  let c128_i32_245 : BitVec 32 := 128#32
  let v500 : BitVec 32 := Scalar.muli v481 c128_i32_245
  ![v500.toNat]
def k0_cond141 (v11_1 : BitVec 32) (k0_t16 : Fin (k0_t16_loop v11_1).trips) : BitVec 1 :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_233 : BitVec 32 := 4#32
  let v480 : BitVec 32 := Scalar.muli arg22 c4_i32_233
  let c0_i32_234 : BitVec 32 := 0#32
  let v481 : BitVec 32 := Scalar.addi v480 c0_i32_234
  let v482 : BitVec 1 := Scalar.cmpi .slt v481 v352
  let v483 : BitVec 32 := Scalar.extui v482
  let c0_i32_235 : BitVec 32 := 0#32
  let v484 : BitVec 1 := Scalar.cmpi .ne v483 c0_i32_235
  v484

def k0_off151 (v11_1 : BitVec 32) (k0_t16 : Fin (k0_t16_loop v11_1).trips) : Fin 1 → Nat :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_236 : BitVec 32 := 4#32
  let v485 : BitVec 32 := Scalar.muli arg22 c4_i32_236
  let c1_i32_237 : BitVec 32 := 1#32
  let v486 : BitVec 32 := Scalar.addi v485 c1_i32_237
  let c128_i32_245 : BitVec 32 := 128#32
  let v500 : BitVec 32 := Scalar.muli v486 c128_i32_245
  ![v500.toNat]
def k0_cond142 (v11_1 : BitVec 32) (k0_t16 : Fin (k0_t16_loop v11_1).trips) : BitVec 1 :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_236 : BitVec 32 := 4#32
  let v485 : BitVec 32 := Scalar.muli arg22 c4_i32_236
  let c1_i32_237 : BitVec 32 := 1#32
  let v486 : BitVec 32 := Scalar.addi v485 c1_i32_237
  let v487 : BitVec 1 := Scalar.cmpi .slt v486 v352
  let v488 : BitVec 32 := Scalar.extui v487
  let c0_i32_238 : BitVec 32 := 0#32
  let v489 : BitVec 1 := Scalar.cmpi .ne v488 c0_i32_238
  v489

def k0_off152 (v11_1 : BitVec 32) (k0_t16 : Fin (k0_t16_loop v11_1).trips) : Fin 1 → Nat :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_239 : BitVec 32 := 4#32
  let v490 : BitVec 32 := Scalar.muli arg22 c4_i32_239
  let c2_i32_240 : BitVec 32 := 2#32
  let v491 : BitVec 32 := Scalar.addi v490 c2_i32_240
  let c128_i32_245 : BitVec 32 := 128#32
  let v500 : BitVec 32 := Scalar.muli v491 c128_i32_245
  ![v500.toNat]
def k0_cond143 (v11_1 : BitVec 32) (k0_t16 : Fin (k0_t16_loop v11_1).trips) : BitVec 1 :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_239 : BitVec 32 := 4#32
  let v490 : BitVec 32 := Scalar.muli arg22 c4_i32_239
  let c2_i32_240 : BitVec 32 := 2#32
  let v491 : BitVec 32 := Scalar.addi v490 c2_i32_240
  let v492 : BitVec 1 := Scalar.cmpi .slt v491 v352
  let v493 : BitVec 32 := Scalar.extui v492
  let c0_i32_241 : BitVec 32 := 0#32
  let v494 : BitVec 1 := Scalar.cmpi .ne v493 c0_i32_241
  v494

def k0_off153 (v11_1 : BitVec 32) (k0_t16 : Fin (k0_t16_loop v11_1).trips) : Fin 1 → Nat :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_242 : BitVec 32 := 4#32
  let v495 : BitVec 32 := Scalar.muli arg22 c4_i32_242
  let c3_i32_243 : BitVec 32 := 3#32
  let v496 : BitVec 32 := Scalar.addi v495 c3_i32_243
  let c128_i32_245 : BitVec 32 := 128#32
  let v500 : BitVec 32 := Scalar.muli v496 c128_i32_245
  ![v500.toNat]
def k0_cond144 (v11_1 : BitVec 32) (k0_t16 : Fin (k0_t16_loop v11_1).trips) : BitVec 1 :=
  let c0_i32_171 : BitVec 32 := 0#32
  let c128_i32_152 : BitVec 32 := 128#32
  let v334 : BitVec 32 := Scalar.addi v11_1 c128_i32_152
  let c1_i32_153 : BitVec 32 := 1#32
  let v335 : BitVec 32 := Scalar.subi v334 c1_i32_153
  let c0_i32_155 : BitVec 32 := 0#32
  let v337 : BitVec 1 := Scalar.cmpi .sgt v335 c0_i32_155
  let v338 : BitVec 32 := Scalar.extui v337
  let c0_i32_156 : BitVec 32 := 0#32
  let v339 : BitVec 1 := Scalar.cmpi .slt v335 c0_i32_156
  let v340 : BitVec 32 := Scalar.extui v339
  let v341 : BitVec 32 := Scalar.subi v338 v340
  let c128_i32_154 : BitVec 32 := 128#32
  let c0_i32_157 : BitVec 32 := 0#32
  let v342 : BitVec 1 := Scalar.cmpi .sgt c128_i32_154 c0_i32_157
  let v343 : BitVec 32 := Scalar.extui v342
  let c0_i32_158 : BitVec 32 := 0#32
  let v344 : BitVec 1 := Scalar.cmpi .slt c128_i32_154 c0_i32_158
  let v345 : BitVec 32 := Scalar.extui v344
  let v346 : BitVec 32 := Scalar.subi v343 v345
  let v347 : BitVec 1 := Scalar.cmpi .ne v341 v346
  let v348 : BitVec 32 := Scalar.remsi v335 c128_i32_154
  let c0_i32_159 : BitVec 32 := 0#32
  let v349 : BitVec 1 := Scalar.cmpi .ne v348 c0_i32_159
  let v350 : BitVec 1 := Scalar.andi v347 v349
  let v336 : BitVec 32 := Scalar.divsi v335 c128_i32_154
  let c1_i32_160 : BitVec 32 := 1#32
  let v351 : BitVec 32 := Scalar.subi v336 c1_i32_160
  let v352 : BitVec 32 := Scalar.select v350 v351 v336
  let c4_i32_161 : BitVec 32 := 4#32
  let v353 : BitVec 32 := Scalar.addi v352 c4_i32_161
  let c1_i32_162 : BitVec 32 := 1#32
  let v354 : BitVec 32 := Scalar.subi v353 c1_i32_162
  let c0_i32_164 : BitVec 32 := 0#32
  let v356 : BitVec 1 := Scalar.cmpi .sgt v354 c0_i32_164
  let v357 : BitVec 32 := Scalar.extui v356
  let c0_i32_165 : BitVec 32 := 0#32
  let v358 : BitVec 1 := Scalar.cmpi .slt v354 c0_i32_165
  let v359 : BitVec 32 := Scalar.extui v358
  let v360 : BitVec 32 := Scalar.subi v357 v359
  let c4_i32_163 : BitVec 32 := 4#32
  let c0_i32_166 : BitVec 32 := 0#32
  let v361 : BitVec 1 := Scalar.cmpi .sgt c4_i32_163 c0_i32_166
  let v362 : BitVec 32 := Scalar.extui v361
  let c0_i32_167 : BitVec 32 := 0#32
  let v363 : BitVec 1 := Scalar.cmpi .slt c4_i32_163 c0_i32_167
  let v364 : BitVec 32 := Scalar.extui v363
  let v365 : BitVec 32 := Scalar.subi v362 v364
  let v366 : BitVec 1 := Scalar.cmpi .ne v360 v365
  let v367 : BitVec 32 := Scalar.remsi v354 c4_i32_163
  let c0_i32_168 : BitVec 32 := 0#32
  let v368 : BitVec 1 := Scalar.cmpi .ne v367 c0_i32_168
  let v369 : BitVec 1 := Scalar.andi v366 v368
  let v355 : BitVec 32 := Scalar.divsi v354 c4_i32_163
  let c1_i32_169 : BitVec 32 := 1#32
  let v370 : BitVec 32 := Scalar.subi v355 c1_i32_169
  let v371 : BitVec 32 := Scalar.select v369 v370 v355
  let v372 : BitVec 32 := Scalar.subi v371 c0_i32_171
  let c1_i32_172 : BitVec 32 := 1#32
  let v374 : BitVec 32 := Scalar.divsi v372 c1_i32_172
  let v375 : BitVec 32 := Scalar.muli v374 c1_i32_172
  let v376 : BitVec 32 := Scalar.addi c0_i32_171 v375
  let c1_i32_174 : BitVec 32 := 1#32
  let arg22 : BitVec 32 := Scf.iv v376 c1_i32_174 k0_t16
  let c4_i32_242 : BitVec 32 := 4#32
  let v495 : BitVec 32 := Scalar.muli arg22 c4_i32_242
  let c3_i32_243 : BitVec 32 := 3#32
  let v496 : BitVec 32 := Scalar.addi v495 c3_i32_243
  let v497 : BitVec 1 := Scalar.cmpi .slt v496 v352
  let v498 : BitVec 32 := Scalar.extui v497
  let c0_i32_244 : BitVec 32 := 0#32
  let v499 : BitVec 1 := Scalar.cmpi .ne v498 c0_i32_244
  v499

def k0_chk7_0 (v11_1 : BitVec 32) : Prop :=
  (∀ (r : Fin 8), ∀ a, (k0_off8 v11_1 (BitVec.ofNat 32 (16 * r.val))) a + S16.size a ≤ S6528.size a) ∧
  ((k0_t9_loop v11_1).OK) ∧
  (∀ k0_t9 : Fin (k0_t9_loop v11_1).trips, ∀ (k0_h33 : k0_cond33 v11_1 k0_t9 = 1#1), ∀ a, (k0_off42 v11_1 k0_t9) a + S128.size a ≤ S6528.size a) ∧
  (∀ k0_t9 : Fin (k0_t9_loop v11_1).trips, ∀ (k0_h34 : k0_cond34 v11_1 k0_t9 = 1#1), ∀ a, (k0_off43 v11_1 k0_t9) a + S128.size a ≤ S6528.size a) ∧
  (∀ k0_t9 : Fin (k0_t9_loop v11_1).trips, ∀ (k0_h35 : k0_cond35 v11_1 k0_t9 = 1#1), ∀ a, (k0_off44 v11_1 k0_t9) a + S128.size a ≤ S6528.size a) ∧
  (∀ k0_t9 : Fin (k0_t9_loop v11_1).trips, ∀ (k0_h36 : k0_cond36 v11_1 k0_t9 = 1#1), ∀ a, (k0_off45 v11_1 k0_t9) a + S128.size a ≤ S6528.size a) ∧
  (∀ k0_t9 : Fin (k0_t9_loop v11_1).trips, ∀ (k0_h37 : k0_cond37 v11_1 k0_t9 = 1#1), ∀ a, (k0_off46 v11_1 k0_t9) a + S128.size a ≤ S6528.size a) ∧
  (∀ k0_t9 : Fin (k0_t9_loop v11_1).trips, ∀ (k0_h38 : k0_cond38 v11_1 k0_t9 = 1#1), ∀ a, (k0_off47 v11_1 k0_t9) a + S128.size a ≤ S6528.size a) ∧
  (∀ k0_t9 : Fin (k0_t9_loop v11_1).trips, ∀ (k0_h39 : k0_cond39 v11_1 k0_t9 = 1#1), ∀ a, (k0_off48 v11_1 k0_t9) a + S128.size a ≤ S6528.size a) ∧
  (∀ k0_t9 : Fin (k0_t9_loop v11_1).trips, ∀ (k0_h40 : k0_cond40 v11_1 k0_t9 = 1#1), ∀ a, (k0_off49 v11_1 k0_t9) a + S128.size a ≤ S6528.size a) ∧
  (∀ k0_t9 : Fin (k0_t9_loop v11_1).trips, ∀ (k0_h41 : k0_cond41 v11_1 k0_t9 = 1#1), ∀ a, (k0_off50 v11_1 k0_t9) a + S128.size a ≤ S6528.size a) ∧
  (∀ k0_t9 : Fin (k0_t9_loop v11_1).trips, ∀ (k0_h42 : k0_cond42 v11_1 k0_t9 = 1#1), ∀ a, (k0_off51 v11_1 k0_t9) a + S128.size a ≤ S6528.size a) ∧
  (∀ k0_t9 : Fin (k0_t9_loop v11_1).trips, ∀ (k0_h43 : k0_cond43 v11_1 k0_t9 = 1#1), ∀ a, (k0_off52 v11_1 k0_t9) a + S128.size a ≤ S6528.size a) ∧
  (∀ k0_t9 : Fin (k0_t9_loop v11_1).trips, ∀ (k0_h44 : k0_cond44 v11_1 k0_t9 = 1#1), ∀ a, (k0_off53 v11_1 k0_t9) a + S128.size a ≤ S6528.size a) ∧
  (∀ k0_t9 : Fin (k0_t9_loop v11_1).trips, ∀ (k0_h45 : k0_cond45 v11_1 k0_t9 = 1#1), ∀ a, (k0_off54 v11_1 k0_t9) a + S128.size a ≤ S6528.size a) ∧
  (∀ k0_t9 : Fin (k0_t9_loop v11_1).trips, ∀ (k0_h46 : k0_cond46 v11_1 k0_t9 = 1#1), ∀ a, (k0_off55 v11_1 k0_t9) a + S128.size a ≤ S6528.size a) ∧
  (∀ k0_t9 : Fin (k0_t9_loop v11_1).trips, ∀ (k0_h47 : k0_cond47 v11_1 k0_t9 = 1#1), ∀ a, (k0_off56 v11_1 k0_t9) a + S128.size a ≤ S6528.size a) ∧
  (∀ k0_t9 : Fin (k0_t9_loop v11_1).trips, ∀ (k0_h48 : k0_cond48 v11_1 k0_t9 = 1#1), ∀ a, (k0_off57 v11_1 k0_t9) a + S128.size a ≤ S6528.size a) ∧
  ((k0_t10_loop v11_1).OK) ∧
  (∀ k0_t10 : Fin (k0_t10_loop v11_1).trips, ∀ (k0_h49 : k0_cond49 v11_1 k0_t10 = 1#1), ∀ a, (k0_off58 v11_1 k0_t10) a + S128.size a ≤ S6528.size a) ∧
  (∀ k0_t10 : Fin (k0_t10_loop v11_1).trips, ∀ (k0_h50 : k0_cond50 v11_1 k0_t10 = 1#1), ∀ a, (k0_off59 v11_1 k0_t10) a + S128.size a ≤ S6528.size a) ∧
  (∀ k0_t10 : Fin (k0_t10_loop v11_1).trips, ∀ (k0_h51 : k0_cond51 v11_1 k0_t10 = 1#1), ∀ a, (k0_off60 v11_1 k0_t10) a + S128.size a ≤ S6528.size a) ∧
  (∀ k0_t10 : Fin (k0_t10_loop v11_1).trips, ∀ (k0_h52 : k0_cond52 v11_1 k0_t10 = 1#1), ∀ a, (k0_off61 v11_1 k0_t10) a + S128.size a ≤ S6528.size a) ∧
  (∀ k0_t10 : Fin (k0_t10_loop v11_1).trips, ∀ (k0_h53 : k0_cond53 v11_1 k0_t10 = 1#1), ∀ a, (k0_off62 v11_1 k0_t10) a + S128.size a ≤ S6528.size a) ∧
  (∀ k0_t10 : Fin (k0_t10_loop v11_1).trips, ∀ (k0_h54 : k0_cond54 v11_1 k0_t10 = 1#1), ∀ a, (k0_off63 v11_1 k0_t10) a + S128.size a ≤ S6528.size a) ∧
  (∀ k0_t10 : Fin (k0_t10_loop v11_1).trips, ∀ (k0_h55 : k0_cond55 v11_1 k0_t10 = 1#1), ∀ a, (k0_off64 v11_1 k0_t10) a + S128.size a ≤ S6528.size a) ∧
  (∀ k0_t10 : Fin (k0_t10_loop v11_1).trips, ∀ (k0_h56 : k0_cond56 v11_1 k0_t10 = 1#1), ∀ a, (k0_off65 v11_1 k0_t10) a + S128.size a ≤ S6528.size a) ∧
  (∀ k0_t10 : Fin (k0_t10_loop v11_1).trips, ∀ (k0_h57 : k0_cond57 v11_1 k0_t10 = 1#1), ∀ a, (k0_off66 v11_1 k0_t10) a + S128.size a ≤ S6528.size a) ∧
  (∀ k0_t10 : Fin (k0_t10_loop v11_1).trips, ∀ (k0_h58 : k0_cond58 v11_1 k0_t10 = 1#1), ∀ a, (k0_off67 v11_1 k0_t10) a + S128.size a ≤ S6528.size a) ∧
  (∀ k0_t10 : Fin (k0_t10_loop v11_1).trips, ∀ (k0_h59 : k0_cond59 v11_1 k0_t10 = 1#1), ∀ a, (k0_off68 v11_1 k0_t10) a + S128.size a ≤ S6528.size a) ∧
  (∀ k0_t10 : Fin (k0_t10_loop v11_1).trips, ∀ (k0_h60 : k0_cond60 v11_1 k0_t10 = 1#1), ∀ a, (k0_off69 v11_1 k0_t10) a + S128.size a ≤ S6528.size a) ∧
  (∀ k0_t10 : Fin (k0_t10_loop v11_1).trips, ∀ (k0_h61 : k0_cond61 v11_1 k0_t10 = 1#1), ∀ a, (k0_off70 v11_1 k0_t10) a + S128.size a ≤ S6528.size a)
def k0_chk7_1 (v11_1 : BitVec 32) : Prop :=
  (∀ k0_t10 : Fin (k0_t10_loop v11_1).trips, ∀ (k0_h62 : k0_cond62 v11_1 k0_t10 = 1#1), ∀ a, (k0_off71 v11_1 k0_t10) a + S128.size a ≤ S6528.size a) ∧
  (∀ k0_t10 : Fin (k0_t10_loop v11_1).trips, ∀ (k0_h63 : k0_cond63 v11_1 k0_t10 = 1#1), ∀ a, (k0_off72 v11_1 k0_t10) a + S128.size a ≤ S6528.size a) ∧
  (∀ k0_t10 : Fin (k0_t10_loop v11_1).trips, ∀ (k0_h64 : k0_cond64 v11_1 k0_t10 = 1#1), ∀ a, (k0_off73 v11_1 k0_t10) a + S128.size a ≤ S6528.size a) ∧
  ((k0_t15_loop v11_1).OK) ∧
  (∀ k0_t15 : Fin (k0_t15_loop v11_1).trips, ∀ (k0_h113 : k0_cond113 v11_1 k0_t15 = 1#1), ∀ a, (k0_off122 v11_1 k0_t15) a + S128.size a ≤ S6528.size a) ∧
  (∀ k0_t15 : Fin (k0_t15_loop v11_1).trips, ∀ (k0_h114 : k0_cond114 v11_1 k0_t15 = 1#1), ∀ a, (k0_off123 v11_1 k0_t15) a + S128.size a ≤ S6528.size a) ∧
  (∀ k0_t15 : Fin (k0_t15_loop v11_1).trips, ∀ (k0_h115 : k0_cond115 v11_1 k0_t15 = 1#1), ∀ a, (k0_off124 v11_1 k0_t15) a + S128.size a ≤ S6528.size a) ∧
  (∀ k0_t15 : Fin (k0_t15_loop v11_1).trips, ∀ (k0_h116 : k0_cond116 v11_1 k0_t15 = 1#1), ∀ a, (k0_off125 v11_1 k0_t15) a + S128.size a ≤ S6528.size a) ∧
  (∀ k0_t15 : Fin (k0_t15_loop v11_1).trips, ∀ (k0_h117 : k0_cond117 v11_1 k0_t15 = 1#1), ∀ a, (k0_off126 v11_1 k0_t15) a + S128.size a ≤ S6528.size a) ∧
  (∀ k0_t15 : Fin (k0_t15_loop v11_1).trips, ∀ (k0_h118 : k0_cond118 v11_1 k0_t15 = 1#1), ∀ a, (k0_off127 v11_1 k0_t15) a + S128.size a ≤ S6528.size a) ∧
  (∀ k0_t15 : Fin (k0_t15_loop v11_1).trips, ∀ (k0_h119 : k0_cond119 v11_1 k0_t15 = 1#1), ∀ a, (k0_off128 v11_1 k0_t15) a + S128.size a ≤ S6528.size a) ∧
  (∀ k0_t15 : Fin (k0_t15_loop v11_1).trips, ∀ (k0_h120 : k0_cond120 v11_1 k0_t15 = 1#1), ∀ a, (k0_off129 v11_1 k0_t15) a + S128.size a ≤ S6528.size a) ∧
  (∀ k0_t15 : Fin (k0_t15_loop v11_1).trips, ∀ (k0_h121 : k0_cond121 v11_1 k0_t15 = 1#1), ∀ a, (k0_off130 v11_1 k0_t15) a + S128.size a ≤ S6528.size a) ∧
  (∀ k0_t15 : Fin (k0_t15_loop v11_1).trips, ∀ (k0_h122 : k0_cond122 v11_1 k0_t15 = 1#1), ∀ a, (k0_off131 v11_1 k0_t15) a + S128.size a ≤ S6528.size a) ∧
  (∀ k0_t15 : Fin (k0_t15_loop v11_1).trips, ∀ (k0_h123 : k0_cond123 v11_1 k0_t15 = 1#1), ∀ a, (k0_off132 v11_1 k0_t15) a + S128.size a ≤ S6528.size a) ∧
  (∀ k0_t15 : Fin (k0_t15_loop v11_1).trips, ∀ (k0_h124 : k0_cond124 v11_1 k0_t15 = 1#1), ∀ a, (k0_off133 v11_1 k0_t15) a + S128.size a ≤ S6528.size a) ∧
  (∀ k0_t15 : Fin (k0_t15_loop v11_1).trips, ∀ (k0_h125 : k0_cond125 v11_1 k0_t15 = 1#1), ∀ a, (k0_off134 v11_1 k0_t15) a + S128.size a ≤ S6528.size a) ∧
  (∀ k0_t15 : Fin (k0_t15_loop v11_1).trips, ∀ (k0_h126 : k0_cond126 v11_1 k0_t15 = 1#1), ∀ a, (k0_off135 v11_1 k0_t15) a + S128.size a ≤ S6528.size a) ∧
  (∀ k0_t15 : Fin (k0_t15_loop v11_1).trips, ∀ (k0_h127 : k0_cond127 v11_1 k0_t15 = 1#1), ∀ a, (k0_off136 v11_1 k0_t15) a + S128.size a ≤ S6528.size a) ∧
  (∀ k0_t15 : Fin (k0_t15_loop v11_1).trips, ∀ (k0_h128 : k0_cond128 v11_1 k0_t15 = 1#1), ∀ a, (k0_off137 v11_1 k0_t15) a + S128.size a ≤ S6528.size a) ∧
  ((k0_t16_loop v11_1).OK) ∧
  (∀ k0_t16 : Fin (k0_t16_loop v11_1).trips, ∀ (k0_h129 : k0_cond129 v11_1 k0_t16 = 1#1), ∀ a, (k0_off138 v11_1 k0_t16) a + S128.size a ≤ S6528.size a) ∧
  (∀ k0_t16 : Fin (k0_t16_loop v11_1).trips, ∀ (k0_h130 : k0_cond130 v11_1 k0_t16 = 1#1), ∀ a, (k0_off139 v11_1 k0_t16) a + S128.size a ≤ S6528.size a) ∧
  (∀ k0_t16 : Fin (k0_t16_loop v11_1).trips, ∀ (k0_h131 : k0_cond131 v11_1 k0_t16 = 1#1), ∀ a, (k0_off140 v11_1 k0_t16) a + S128.size a ≤ S6528.size a) ∧
  (∀ k0_t16 : Fin (k0_t16_loop v11_1).trips, ∀ (k0_h132 : k0_cond132 v11_1 k0_t16 = 1#1), ∀ a, (k0_off141 v11_1 k0_t16) a + S128.size a ≤ S6528.size a) ∧
  (∀ k0_t16 : Fin (k0_t16_loop v11_1).trips, ∀ (k0_h133 : k0_cond133 v11_1 k0_t16 = 1#1), ∀ a, (k0_off142 v11_1 k0_t16) a + S128.size a ≤ S6528.size a) ∧
  (∀ k0_t16 : Fin (k0_t16_loop v11_1).trips, ∀ (k0_h134 : k0_cond134 v11_1 k0_t16 = 1#1), ∀ a, (k0_off143 v11_1 k0_t16) a + S128.size a ≤ S6528.size a) ∧
  (∀ k0_t16 : Fin (k0_t16_loop v11_1).trips, ∀ (k0_h135 : k0_cond135 v11_1 k0_t16 = 1#1), ∀ a, (k0_off144 v11_1 k0_t16) a + S128.size a ≤ S6528.size a) ∧
  (∀ k0_t16 : Fin (k0_t16_loop v11_1).trips, ∀ (k0_h136 : k0_cond136 v11_1 k0_t16 = 1#1), ∀ a, (k0_off145 v11_1 k0_t16) a + S128.size a ≤ S6528.size a) ∧
  (∀ k0_t16 : Fin (k0_t16_loop v11_1).trips, ∀ (k0_h137 : k0_cond137 v11_1 k0_t16 = 1#1), ∀ a, (k0_off146 v11_1 k0_t16) a + S128.size a ≤ S6528.size a) ∧
  (∀ k0_t16 : Fin (k0_t16_loop v11_1).trips, ∀ (k0_h138 : k0_cond138 v11_1 k0_t16 = 1#1), ∀ a, (k0_off147 v11_1 k0_t16) a + S128.size a ≤ S6528.size a) ∧
  (∀ k0_t16 : Fin (k0_t16_loop v11_1).trips, ∀ (k0_h139 : k0_cond139 v11_1 k0_t16 = 1#1), ∀ a, (k0_off148 v11_1 k0_t16) a + S128.size a ≤ S6528.size a)
def k0_chk7_2 (v11_1 : BitVec 32) : Prop :=
  (∀ k0_t16 : Fin (k0_t16_loop v11_1).trips, ∀ (k0_h140 : k0_cond140 v11_1 k0_t16 = 1#1), ∀ a, (k0_off149 v11_1 k0_t16) a + S128.size a ≤ S6528.size a) ∧
  (∀ k0_t16 : Fin (k0_t16_loop v11_1).trips, ∀ (k0_h141 : k0_cond141 v11_1 k0_t16 = 1#1), ∀ a, (k0_off150 v11_1 k0_t16) a + S128.size a ≤ S6528.size a) ∧
  (∀ k0_t16 : Fin (k0_t16_loop v11_1).trips, ∀ (k0_h142 : k0_cond142 v11_1 k0_t16 = 1#1), ∀ a, (k0_off151 v11_1 k0_t16) a + S128.size a ≤ S6528.size a) ∧
  (∀ k0_t16 : Fin (k0_t16_loop v11_1).trips, ∀ (k0_h143 : k0_cond143 v11_1 k0_t16 = 1#1), ∀ a, (k0_off152 v11_1 k0_t16) a + S128.size a ≤ S6528.size a) ∧
  (∀ k0_t16 : Fin (k0_t16_loop v11_1).trips, ∀ (k0_h144 : k0_cond144 v11_1 k0_t16 = 1#1), ∀ a, (k0_off153 v11_1 k0_t16) a + S128.size a ≤ S6528.size a)
def k0_chk7 (v11_1 : BitVec 32) : Prop :=
  k0_chk7_0 v11_1 ∧
  k0_chk7_1 v11_1 ∧
  k0_chk7_2 v11_1
theorem k0_off8_inb : ∀ (v11_1 : BitVec 32) (k0_hw7 : k0_chk7 v11_1), ∀ (r : Fin 8), ∀ a, (k0_off8 v11_1 (BitVec.ofNat 32 (16 * r.val))) a + S16.size a ≤ S6528.size a := fun v11_1 k0_hw7 r => k0_hw7.1.1 r
theorem k0_t9_ok : ∀ (v11_1 : BitVec 32) (k0_hw7 : k0_chk7 v11_1), (k0_t9_loop v11_1).OK := fun v11_1 k0_hw7 => k0_hw7.1.2.1
theorem k0_off42_inb : ∀ (v11_1 : BitVec 32) (k0_hw7 : k0_chk7 v11_1) (k0_t9 : Fin (k0_t9_loop v11_1).trips), ∀ (k0_h33 : k0_cond33 v11_1 k0_t9 = 1#1), ∀ a, (k0_off42 v11_1 k0_t9) a + S128.size a ≤ S6528.size a := fun v11_1 k0_hw7 k0_t9 k0_h33 => k0_hw7.1.2.2.1 k0_t9 k0_h33
theorem k0_off43_inb : ∀ (v11_1 : BitVec 32) (k0_hw7 : k0_chk7 v11_1) (k0_t9 : Fin (k0_t9_loop v11_1).trips), ∀ (k0_h34 : k0_cond34 v11_1 k0_t9 = 1#1), ∀ a, (k0_off43 v11_1 k0_t9) a + S128.size a ≤ S6528.size a := fun v11_1 k0_hw7 k0_t9 k0_h34 => k0_hw7.1.2.2.2.1 k0_t9 k0_h34
theorem k0_off44_inb : ∀ (v11_1 : BitVec 32) (k0_hw7 : k0_chk7 v11_1) (k0_t9 : Fin (k0_t9_loop v11_1).trips), ∀ (k0_h35 : k0_cond35 v11_1 k0_t9 = 1#1), ∀ a, (k0_off44 v11_1 k0_t9) a + S128.size a ≤ S6528.size a := fun v11_1 k0_hw7 k0_t9 k0_h35 => k0_hw7.1.2.2.2.2.1 k0_t9 k0_h35
theorem k0_off45_inb : ∀ (v11_1 : BitVec 32) (k0_hw7 : k0_chk7 v11_1) (k0_t9 : Fin (k0_t9_loop v11_1).trips), ∀ (k0_h36 : k0_cond36 v11_1 k0_t9 = 1#1), ∀ a, (k0_off45 v11_1 k0_t9) a + S128.size a ≤ S6528.size a := fun v11_1 k0_hw7 k0_t9 k0_h36 => k0_hw7.1.2.2.2.2.2.1 k0_t9 k0_h36
theorem k0_off46_inb : ∀ (v11_1 : BitVec 32) (k0_hw7 : k0_chk7 v11_1) (k0_t9 : Fin (k0_t9_loop v11_1).trips), ∀ (k0_h37 : k0_cond37 v11_1 k0_t9 = 1#1), ∀ a, (k0_off46 v11_1 k0_t9) a + S128.size a ≤ S6528.size a := fun v11_1 k0_hw7 k0_t9 k0_h37 => k0_hw7.1.2.2.2.2.2.2.1 k0_t9 k0_h37
theorem k0_off47_inb : ∀ (v11_1 : BitVec 32) (k0_hw7 : k0_chk7 v11_1) (k0_t9 : Fin (k0_t9_loop v11_1).trips), ∀ (k0_h38 : k0_cond38 v11_1 k0_t9 = 1#1), ∀ a, (k0_off47 v11_1 k0_t9) a + S128.size a ≤ S6528.size a := fun v11_1 k0_hw7 k0_t9 k0_h38 => k0_hw7.1.2.2.2.2.2.2.2.1 k0_t9 k0_h38
theorem k0_off48_inb : ∀ (v11_1 : BitVec 32) (k0_hw7 : k0_chk7 v11_1) (k0_t9 : Fin (k0_t9_loop v11_1).trips), ∀ (k0_h39 : k0_cond39 v11_1 k0_t9 = 1#1), ∀ a, (k0_off48 v11_1 k0_t9) a + S128.size a ≤ S6528.size a := fun v11_1 k0_hw7 k0_t9 k0_h39 => k0_hw7.1.2.2.2.2.2.2.2.2.1 k0_t9 k0_h39
theorem k0_off49_inb : ∀ (v11_1 : BitVec 32) (k0_hw7 : k0_chk7 v11_1) (k0_t9 : Fin (k0_t9_loop v11_1).trips), ∀ (k0_h40 : k0_cond40 v11_1 k0_t9 = 1#1), ∀ a, (k0_off49 v11_1 k0_t9) a + S128.size a ≤ S6528.size a := fun v11_1 k0_hw7 k0_t9 k0_h40 => k0_hw7.1.2.2.2.2.2.2.2.2.2.1 k0_t9 k0_h40
theorem k0_off50_inb : ∀ (v11_1 : BitVec 32) (k0_hw7 : k0_chk7 v11_1) (k0_t9 : Fin (k0_t9_loop v11_1).trips), ∀ (k0_h41 : k0_cond41 v11_1 k0_t9 = 1#1), ∀ a, (k0_off50 v11_1 k0_t9) a + S128.size a ≤ S6528.size a := fun v11_1 k0_hw7 k0_t9 k0_h41 => k0_hw7.1.2.2.2.2.2.2.2.2.2.2.1 k0_t9 k0_h41
theorem k0_off51_inb : ∀ (v11_1 : BitVec 32) (k0_hw7 : k0_chk7 v11_1) (k0_t9 : Fin (k0_t9_loop v11_1).trips), ∀ (k0_h42 : k0_cond42 v11_1 k0_t9 = 1#1), ∀ a, (k0_off51 v11_1 k0_t9) a + S128.size a ≤ S6528.size a := fun v11_1 k0_hw7 k0_t9 k0_h42 => k0_hw7.1.2.2.2.2.2.2.2.2.2.2.2.1 k0_t9 k0_h42
theorem k0_off52_inb : ∀ (v11_1 : BitVec 32) (k0_hw7 : k0_chk7 v11_1) (k0_t9 : Fin (k0_t9_loop v11_1).trips), ∀ (k0_h43 : k0_cond43 v11_1 k0_t9 = 1#1), ∀ a, (k0_off52 v11_1 k0_t9) a + S128.size a ≤ S6528.size a := fun v11_1 k0_hw7 k0_t9 k0_h43 => k0_hw7.1.2.2.2.2.2.2.2.2.2.2.2.2.1 k0_t9 k0_h43
theorem k0_off53_inb : ∀ (v11_1 : BitVec 32) (k0_hw7 : k0_chk7 v11_1) (k0_t9 : Fin (k0_t9_loop v11_1).trips), ∀ (k0_h44 : k0_cond44 v11_1 k0_t9 = 1#1), ∀ a, (k0_off53 v11_1 k0_t9) a + S128.size a ≤ S6528.size a := fun v11_1 k0_hw7 k0_t9 k0_h44 => k0_hw7.1.2.2.2.2.2.2.2.2.2.2.2.2.2.1 k0_t9 k0_h44
theorem k0_off54_inb : ∀ (v11_1 : BitVec 32) (k0_hw7 : k0_chk7 v11_1) (k0_t9 : Fin (k0_t9_loop v11_1).trips), ∀ (k0_h45 : k0_cond45 v11_1 k0_t9 = 1#1), ∀ a, (k0_off54 v11_1 k0_t9) a + S128.size a ≤ S6528.size a := fun v11_1 k0_hw7 k0_t9 k0_h45 => k0_hw7.1.2.2.2.2.2.2.2.2.2.2.2.2.2.2.1 k0_t9 k0_h45
theorem k0_off55_inb : ∀ (v11_1 : BitVec 32) (k0_hw7 : k0_chk7 v11_1) (k0_t9 : Fin (k0_t9_loop v11_1).trips), ∀ (k0_h46 : k0_cond46 v11_1 k0_t9 = 1#1), ∀ a, (k0_off55 v11_1 k0_t9) a + S128.size a ≤ S6528.size a := fun v11_1 k0_hw7 k0_t9 k0_h46 => k0_hw7.1.2.2.2.2.2.2.2.2.2.2.2.2.2.2.2.1 k0_t9 k0_h46
theorem k0_off56_inb : ∀ (v11_1 : BitVec 32) (k0_hw7 : k0_chk7 v11_1) (k0_t9 : Fin (k0_t9_loop v11_1).trips), ∀ (k0_h47 : k0_cond47 v11_1 k0_t9 = 1#1), ∀ a, (k0_off56 v11_1 k0_t9) a + S128.size a ≤ S6528.size a := fun v11_1 k0_hw7 k0_t9 k0_h47 => k0_hw7.1.2.2.2.2.2.2.2.2.2.2.2.2.2.2.2.2.1 k0_t9 k0_h47
theorem k0_off57_inb : ∀ (v11_1 : BitVec 32) (k0_hw7 : k0_chk7 v11_1) (k0_t9 : Fin (k0_t9_loop v11_1).trips), ∀ (k0_h48 : k0_cond48 v11_1 k0_t9 = 1#1), ∀ a, (k0_off57 v11_1 k0_t9) a + S128.size a ≤ S6528.size a := fun v11_1 k0_hw7 k0_t9 k0_h48 => k0_hw7.1.2.2.2.2.2.2.2.2.2.2.2.2.2.2.2.2.2.1 k0_t9 k0_h48
theorem k0_t10_ok : ∀ (v11_1 : BitVec 32) (k0_hw7 : k0_chk7 v11_1), (k0_t10_loop v11_1).OK := fun v11_1 k0_hw7 => k0_hw7.1.2.2.2.2.2.2.2.2.2.2.2.2.2.2.2.2.2.2.1
theorem k0_off58_inb : ∀ (v11_1 : BitVec 32) (k0_hw7 : k0_chk7 v11_1) (k0_t10 : Fin (k0_t10_loop v11_1).trips), ∀ (k0_h49 : k0_cond49 v11_1 k0_t10 = 1#1), ∀ a, (k0_off58 v11_1 k0_t10) a + S128.size a ≤ S6528.size a := fun v11_1 k0_hw7 k0_t10 k0_h49 => k0_hw7.1.2.2.2.2.2.2.2.2.2.2.2.2.2.2.2.2.2.2.2.1 k0_t10 k0_h49
theorem k0_off59_inb : ∀ (v11_1 : BitVec 32) (k0_hw7 : k0_chk7 v11_1) (k0_t10 : Fin (k0_t10_loop v11_1).trips), ∀ (k0_h50 : k0_cond50 v11_1 k0_t10 = 1#1), ∀ a, (k0_off59 v11_1 k0_t10) a + S128.size a ≤ S6528.size a := fun v11_1 k0_hw7 k0_t10 k0_h50 => k0_hw7.1.2.2.2.2.2.2.2.2.2.2.2.2.2.2.2.2.2.2.2.2.1 k0_t10 k0_h50
theorem k0_off60_inb : ∀ (v11_1 : BitVec 32) (k0_hw7 : k0_chk7 v11_1) (k0_t10 : Fin (k0_t10_loop v11_1).trips), ∀ (k0_h51 : k0_cond51 v11_1 k0_t10 = 1#1), ∀ a, (k0_off60 v11_1 k0_t10) a + S128.size a ≤ S6528.size a := fun v11_1 k0_hw7 k0_t10 k0_h51 => k0_hw7.1.2.2.2.2.2.2.2.2.2.2.2.2.2.2.2.2.2.2.2.2.2.1 k0_t10 k0_h51
theorem k0_off61_inb : ∀ (v11_1 : BitVec 32) (k0_hw7 : k0_chk7 v11_1) (k0_t10 : Fin (k0_t10_loop v11_1).trips), ∀ (k0_h52 : k0_cond52 v11_1 k0_t10 = 1#1), ∀ a, (k0_off61 v11_1 k0_t10) a + S128.size a ≤ S6528.size a := fun v11_1 k0_hw7 k0_t10 k0_h52 => k0_hw7.1.2.2.2.2.2.2.2.2.2.2.2.2.2.2.2.2.2.2.2.2.2.2.1 k0_t10 k0_h52
theorem k0_off62_inb : ∀ (v11_1 : BitVec 32) (k0_hw7 : k0_chk7 v11_1) (k0_t10 : Fin (k0_t10_loop v11_1).trips), ∀ (k0_h53 : k0_cond53 v11_1 k0_t10 = 1#1), ∀ a, (k0_off62 v11_1 k0_t10) a + S128.size a ≤ S6528.size a := fun v11_1 k0_hw7 k0_t10 k0_h53 => k0_hw7.1.2.2.2.2.2.2.2.2.2.2.2.2.2.2.2.2.2.2.2.2.2.2.2.1 k0_t10 k0_h53
theorem k0_off63_inb : ∀ (v11_1 : BitVec 32) (k0_hw7 : k0_chk7 v11_1) (k0_t10 : Fin (k0_t10_loop v11_1).trips), ∀ (k0_h54 : k0_cond54 v11_1 k0_t10 = 1#1), ∀ a, (k0_off63 v11_1 k0_t10) a + S128.size a ≤ S6528.size a := fun v11_1 k0_hw7 k0_t10 k0_h54 => k0_hw7.1.2.2.2.2.2.2.2.2.2.2.2.2.2.2.2.2.2.2.2.2.2.2.2.2.1 k0_t10 k0_h54
theorem k0_off64_inb : ∀ (v11_1 : BitVec 32) (k0_hw7 : k0_chk7 v11_1) (k0_t10 : Fin (k0_t10_loop v11_1).trips), ∀ (k0_h55 : k0_cond55 v11_1 k0_t10 = 1#1), ∀ a, (k0_off64 v11_1 k0_t10) a + S128.size a ≤ S6528.size a := fun v11_1 k0_hw7 k0_t10 k0_h55 => k0_hw7.1.2.2.2.2.2.2.2.2.2.2.2.2.2.2.2.2.2.2.2.2.2.2.2.2.2.1 k0_t10 k0_h55
theorem k0_off65_inb : ∀ (v11_1 : BitVec 32) (k0_hw7 : k0_chk7 v11_1) (k0_t10 : Fin (k0_t10_loop v11_1).trips), ∀ (k0_h56 : k0_cond56 v11_1 k0_t10 = 1#1), ∀ a, (k0_off65 v11_1 k0_t10) a + S128.size a ≤ S6528.size a := fun v11_1 k0_hw7 k0_t10 k0_h56 => k0_hw7.1.2.2.2.2.2.2.2.2.2.2.2.2.2.2.2.2.2.2.2.2.2.2.2.2.2.2.1 k0_t10 k0_h56
theorem k0_off66_inb : ∀ (v11_1 : BitVec 32) (k0_hw7 : k0_chk7 v11_1) (k0_t10 : Fin (k0_t10_loop v11_1).trips), ∀ (k0_h57 : k0_cond57 v11_1 k0_t10 = 1#1), ∀ a, (k0_off66 v11_1 k0_t10) a + S128.size a ≤ S6528.size a := fun v11_1 k0_hw7 k0_t10 k0_h57 => k0_hw7.1.2.2.2.2.2.2.2.2.2.2.2.2.2.2.2.2.2.2.2.2.2.2.2.2.2.2.2.1 k0_t10 k0_h57
theorem k0_off67_inb : ∀ (v11_1 : BitVec 32) (k0_hw7 : k0_chk7 v11_1) (k0_t10 : Fin (k0_t10_loop v11_1).trips), ∀ (k0_h58 : k0_cond58 v11_1 k0_t10 = 1#1), ∀ a, (k0_off67 v11_1 k0_t10) a + S128.size a ≤ S6528.size a := fun v11_1 k0_hw7 k0_t10 k0_h58 => k0_hw7.1.2.2.2.2.2.2.2.2.2.2.2.2.2.2.2.2.2.2.2.2.2.2.2.2.2.2.2.2.1 k0_t10 k0_h58
theorem k0_off68_inb : ∀ (v11_1 : BitVec 32) (k0_hw7 : k0_chk7 v11_1) (k0_t10 : Fin (k0_t10_loop v11_1).trips), ∀ (k0_h59 : k0_cond59 v11_1 k0_t10 = 1#1), ∀ a, (k0_off68 v11_1 k0_t10) a + S128.size a ≤ S6528.size a := fun v11_1 k0_hw7 k0_t10 k0_h59 => k0_hw7.1.2.2.2.2.2.2.2.2.2.2.2.2.2.2.2.2.2.2.2.2.2.2.2.2.2.2.2.2.2.1 k0_t10 k0_h59
theorem k0_off69_inb : ∀ (v11_1 : BitVec 32) (k0_hw7 : k0_chk7 v11_1) (k0_t10 : Fin (k0_t10_loop v11_1).trips), ∀ (k0_h60 : k0_cond60 v11_1 k0_t10 = 1#1), ∀ a, (k0_off69 v11_1 k0_t10) a + S128.size a ≤ S6528.size a := fun v11_1 k0_hw7 k0_t10 k0_h60 => k0_hw7.1.2.2.2.2.2.2.2.2.2.2.2.2.2.2.2.2.2.2.2.2.2.2.2.2.2.2.2.2.2.2.1 k0_t10 k0_h60
theorem k0_off70_inb : ∀ (v11_1 : BitVec 32) (k0_hw7 : k0_chk7 v11_1) (k0_t10 : Fin (k0_t10_loop v11_1).trips), ∀ (k0_h61 : k0_cond61 v11_1 k0_t10 = 1#1), ∀ a, (k0_off70 v11_1 k0_t10) a + S128.size a ≤ S6528.size a := fun v11_1 k0_hw7 k0_t10 k0_h61 => k0_hw7.1.2.2.2.2.2.2.2.2.2.2.2.2.2.2.2.2.2.2.2.2.2.2.2.2.2.2.2.2.2.2.2 k0_t10 k0_h61
theorem k0_off71_inb : ∀ (v11_1 : BitVec 32) (k0_hw7 : k0_chk7 v11_1) (k0_t10 : Fin (k0_t10_loop v11_1).trips), ∀ (k0_h62 : k0_cond62 v11_1 k0_t10 = 1#1), ∀ a, (k0_off71 v11_1 k0_t10) a + S128.size a ≤ S6528.size a := fun v11_1 k0_hw7 k0_t10 k0_h62 => k0_hw7.2.1.1 k0_t10 k0_h62
theorem k0_off72_inb : ∀ (v11_1 : BitVec 32) (k0_hw7 : k0_chk7 v11_1) (k0_t10 : Fin (k0_t10_loop v11_1).trips), ∀ (k0_h63 : k0_cond63 v11_1 k0_t10 = 1#1), ∀ a, (k0_off72 v11_1 k0_t10) a + S128.size a ≤ S6528.size a := fun v11_1 k0_hw7 k0_t10 k0_h63 => k0_hw7.2.1.2.1 k0_t10 k0_h63
theorem k0_off73_inb : ∀ (v11_1 : BitVec 32) (k0_hw7 : k0_chk7 v11_1) (k0_t10 : Fin (k0_t10_loop v11_1).trips), ∀ (k0_h64 : k0_cond64 v11_1 k0_t10 = 1#1), ∀ a, (k0_off73 v11_1 k0_t10) a + S128.size a ≤ S6528.size a := fun v11_1 k0_hw7 k0_t10 k0_h64 => k0_hw7.2.1.2.2.1 k0_t10 k0_h64
theorem k0_t15_ok : ∀ (v11_1 : BitVec 32) (k0_hw7 : k0_chk7 v11_1), (k0_t15_loop v11_1).OK := fun v11_1 k0_hw7 => k0_hw7.2.1.2.2.2.1
theorem k0_off122_inb : ∀ (v11_1 : BitVec 32) (k0_hw7 : k0_chk7 v11_1) (k0_t15 : Fin (k0_t15_loop v11_1).trips), ∀ (k0_h113 : k0_cond113 v11_1 k0_t15 = 1#1), ∀ a, (k0_off122 v11_1 k0_t15) a + S128.size a ≤ S6528.size a := fun v11_1 k0_hw7 k0_t15 k0_h113 => k0_hw7.2.1.2.2.2.2.1 k0_t15 k0_h113
theorem k0_off123_inb : ∀ (v11_1 : BitVec 32) (k0_hw7 : k0_chk7 v11_1) (k0_t15 : Fin (k0_t15_loop v11_1).trips), ∀ (k0_h114 : k0_cond114 v11_1 k0_t15 = 1#1), ∀ a, (k0_off123 v11_1 k0_t15) a + S128.size a ≤ S6528.size a := fun v11_1 k0_hw7 k0_t15 k0_h114 => k0_hw7.2.1.2.2.2.2.2.1 k0_t15 k0_h114
theorem k0_off124_inb : ∀ (v11_1 : BitVec 32) (k0_hw7 : k0_chk7 v11_1) (k0_t15 : Fin (k0_t15_loop v11_1).trips), ∀ (k0_h115 : k0_cond115 v11_1 k0_t15 = 1#1), ∀ a, (k0_off124 v11_1 k0_t15) a + S128.size a ≤ S6528.size a := fun v11_1 k0_hw7 k0_t15 k0_h115 => k0_hw7.2.1.2.2.2.2.2.2.1 k0_t15 k0_h115
theorem k0_off125_inb : ∀ (v11_1 : BitVec 32) (k0_hw7 : k0_chk7 v11_1) (k0_t15 : Fin (k0_t15_loop v11_1).trips), ∀ (k0_h116 : k0_cond116 v11_1 k0_t15 = 1#1), ∀ a, (k0_off125 v11_1 k0_t15) a + S128.size a ≤ S6528.size a := fun v11_1 k0_hw7 k0_t15 k0_h116 => k0_hw7.2.1.2.2.2.2.2.2.2.1 k0_t15 k0_h116
theorem k0_off126_inb : ∀ (v11_1 : BitVec 32) (k0_hw7 : k0_chk7 v11_1) (k0_t15 : Fin (k0_t15_loop v11_1).trips), ∀ (k0_h117 : k0_cond117 v11_1 k0_t15 = 1#1), ∀ a, (k0_off126 v11_1 k0_t15) a + S128.size a ≤ S6528.size a := fun v11_1 k0_hw7 k0_t15 k0_h117 => k0_hw7.2.1.2.2.2.2.2.2.2.2.1 k0_t15 k0_h117
theorem k0_off127_inb : ∀ (v11_1 : BitVec 32) (k0_hw7 : k0_chk7 v11_1) (k0_t15 : Fin (k0_t15_loop v11_1).trips), ∀ (k0_h118 : k0_cond118 v11_1 k0_t15 = 1#1), ∀ a, (k0_off127 v11_1 k0_t15) a + S128.size a ≤ S6528.size a := fun v11_1 k0_hw7 k0_t15 k0_h118 => k0_hw7.2.1.2.2.2.2.2.2.2.2.2.1 k0_t15 k0_h118
theorem k0_off128_inb : ∀ (v11_1 : BitVec 32) (k0_hw7 : k0_chk7 v11_1) (k0_t15 : Fin (k0_t15_loop v11_1).trips), ∀ (k0_h119 : k0_cond119 v11_1 k0_t15 = 1#1), ∀ a, (k0_off128 v11_1 k0_t15) a + S128.size a ≤ S6528.size a := fun v11_1 k0_hw7 k0_t15 k0_h119 => k0_hw7.2.1.2.2.2.2.2.2.2.2.2.2.1 k0_t15 k0_h119
theorem k0_off129_inb : ∀ (v11_1 : BitVec 32) (k0_hw7 : k0_chk7 v11_1) (k0_t15 : Fin (k0_t15_loop v11_1).trips), ∀ (k0_h120 : k0_cond120 v11_1 k0_t15 = 1#1), ∀ a, (k0_off129 v11_1 k0_t15) a + S128.size a ≤ S6528.size a := fun v11_1 k0_hw7 k0_t15 k0_h120 => k0_hw7.2.1.2.2.2.2.2.2.2.2.2.2.2.1 k0_t15 k0_h120
theorem k0_off130_inb : ∀ (v11_1 : BitVec 32) (k0_hw7 : k0_chk7 v11_1) (k0_t15 : Fin (k0_t15_loop v11_1).trips), ∀ (k0_h121 : k0_cond121 v11_1 k0_t15 = 1#1), ∀ a, (k0_off130 v11_1 k0_t15) a + S128.size a ≤ S6528.size a := fun v11_1 k0_hw7 k0_t15 k0_h121 => k0_hw7.2.1.2.2.2.2.2.2.2.2.2.2.2.2.1 k0_t15 k0_h121
theorem k0_off131_inb : ∀ (v11_1 : BitVec 32) (k0_hw7 : k0_chk7 v11_1) (k0_t15 : Fin (k0_t15_loop v11_1).trips), ∀ (k0_h122 : k0_cond122 v11_1 k0_t15 = 1#1), ∀ a, (k0_off131 v11_1 k0_t15) a + S128.size a ≤ S6528.size a := fun v11_1 k0_hw7 k0_t15 k0_h122 => k0_hw7.2.1.2.2.2.2.2.2.2.2.2.2.2.2.2.1 k0_t15 k0_h122
theorem k0_off132_inb : ∀ (v11_1 : BitVec 32) (k0_hw7 : k0_chk7 v11_1) (k0_t15 : Fin (k0_t15_loop v11_1).trips), ∀ (k0_h123 : k0_cond123 v11_1 k0_t15 = 1#1), ∀ a, (k0_off132 v11_1 k0_t15) a + S128.size a ≤ S6528.size a := fun v11_1 k0_hw7 k0_t15 k0_h123 => k0_hw7.2.1.2.2.2.2.2.2.2.2.2.2.2.2.2.2.1 k0_t15 k0_h123
theorem k0_off133_inb : ∀ (v11_1 : BitVec 32) (k0_hw7 : k0_chk7 v11_1) (k0_t15 : Fin (k0_t15_loop v11_1).trips), ∀ (k0_h124 : k0_cond124 v11_1 k0_t15 = 1#1), ∀ a, (k0_off133 v11_1 k0_t15) a + S128.size a ≤ S6528.size a := fun v11_1 k0_hw7 k0_t15 k0_h124 => k0_hw7.2.1.2.2.2.2.2.2.2.2.2.2.2.2.2.2.2.1 k0_t15 k0_h124
theorem k0_off134_inb : ∀ (v11_1 : BitVec 32) (k0_hw7 : k0_chk7 v11_1) (k0_t15 : Fin (k0_t15_loop v11_1).trips), ∀ (k0_h125 : k0_cond125 v11_1 k0_t15 = 1#1), ∀ a, (k0_off134 v11_1 k0_t15) a + S128.size a ≤ S6528.size a := fun v11_1 k0_hw7 k0_t15 k0_h125 => k0_hw7.2.1.2.2.2.2.2.2.2.2.2.2.2.2.2.2.2.2.1 k0_t15 k0_h125
theorem k0_off135_inb : ∀ (v11_1 : BitVec 32) (k0_hw7 : k0_chk7 v11_1) (k0_t15 : Fin (k0_t15_loop v11_1).trips), ∀ (k0_h126 : k0_cond126 v11_1 k0_t15 = 1#1), ∀ a, (k0_off135 v11_1 k0_t15) a + S128.size a ≤ S6528.size a := fun v11_1 k0_hw7 k0_t15 k0_h126 => k0_hw7.2.1.2.2.2.2.2.2.2.2.2.2.2.2.2.2.2.2.2.1 k0_t15 k0_h126
theorem k0_off136_inb : ∀ (v11_1 : BitVec 32) (k0_hw7 : k0_chk7 v11_1) (k0_t15 : Fin (k0_t15_loop v11_1).trips), ∀ (k0_h127 : k0_cond127 v11_1 k0_t15 = 1#1), ∀ a, (k0_off136 v11_1 k0_t15) a + S128.size a ≤ S6528.size a := fun v11_1 k0_hw7 k0_t15 k0_h127 => k0_hw7.2.1.2.2.2.2.2.2.2.2.2.2.2.2.2.2.2.2.2.2.1 k0_t15 k0_h127
theorem k0_off137_inb : ∀ (v11_1 : BitVec 32) (k0_hw7 : k0_chk7 v11_1) (k0_t15 : Fin (k0_t15_loop v11_1).trips), ∀ (k0_h128 : k0_cond128 v11_1 k0_t15 = 1#1), ∀ a, (k0_off137 v11_1 k0_t15) a + S128.size a ≤ S6528.size a := fun v11_1 k0_hw7 k0_t15 k0_h128 => k0_hw7.2.1.2.2.2.2.2.2.2.2.2.2.2.2.2.2.2.2.2.2.2.1 k0_t15 k0_h128
theorem k0_t16_ok : ∀ (v11_1 : BitVec 32) (k0_hw7 : k0_chk7 v11_1), (k0_t16_loop v11_1).OK := fun v11_1 k0_hw7 => k0_hw7.2.1.2.2.2.2.2.2.2.2.2.2.2.2.2.2.2.2.2.2.2.2.1
theorem k0_off138_inb : ∀ (v11_1 : BitVec 32) (k0_hw7 : k0_chk7 v11_1) (k0_t16 : Fin (k0_t16_loop v11_1).trips), ∀ (k0_h129 : k0_cond129 v11_1 k0_t16 = 1#1), ∀ a, (k0_off138 v11_1 k0_t16) a + S128.size a ≤ S6528.size a := fun v11_1 k0_hw7 k0_t16 k0_h129 => k0_hw7.2.1.2.2.2.2.2.2.2.2.2.2.2.2.2.2.2.2.2.2.2.2.2.1 k0_t16 k0_h129
theorem k0_off139_inb : ∀ (v11_1 : BitVec 32) (k0_hw7 : k0_chk7 v11_1) (k0_t16 : Fin (k0_t16_loop v11_1).trips), ∀ (k0_h130 : k0_cond130 v11_1 k0_t16 = 1#1), ∀ a, (k0_off139 v11_1 k0_t16) a + S128.size a ≤ S6528.size a := fun v11_1 k0_hw7 k0_t16 k0_h130 => k0_hw7.2.1.2.2.2.2.2.2.2.2.2.2.2.2.2.2.2.2.2.2.2.2.2.2.1 k0_t16 k0_h130
theorem k0_off140_inb : ∀ (v11_1 : BitVec 32) (k0_hw7 : k0_chk7 v11_1) (k0_t16 : Fin (k0_t16_loop v11_1).trips), ∀ (k0_h131 : k0_cond131 v11_1 k0_t16 = 1#1), ∀ a, (k0_off140 v11_1 k0_t16) a + S128.size a ≤ S6528.size a := fun v11_1 k0_hw7 k0_t16 k0_h131 => k0_hw7.2.1.2.2.2.2.2.2.2.2.2.2.2.2.2.2.2.2.2.2.2.2.2.2.2.1 k0_t16 k0_h131
theorem k0_off141_inb : ∀ (v11_1 : BitVec 32) (k0_hw7 : k0_chk7 v11_1) (k0_t16 : Fin (k0_t16_loop v11_1).trips), ∀ (k0_h132 : k0_cond132 v11_1 k0_t16 = 1#1), ∀ a, (k0_off141 v11_1 k0_t16) a + S128.size a ≤ S6528.size a := fun v11_1 k0_hw7 k0_t16 k0_h132 => k0_hw7.2.1.2.2.2.2.2.2.2.2.2.2.2.2.2.2.2.2.2.2.2.2.2.2.2.2.1 k0_t16 k0_h132
theorem k0_off142_inb : ∀ (v11_1 : BitVec 32) (k0_hw7 : k0_chk7 v11_1) (k0_t16 : Fin (k0_t16_loop v11_1).trips), ∀ (k0_h133 : k0_cond133 v11_1 k0_t16 = 1#1), ∀ a, (k0_off142 v11_1 k0_t16) a + S128.size a ≤ S6528.size a := fun v11_1 k0_hw7 k0_t16 k0_h133 => k0_hw7.2.1.2.2.2.2.2.2.2.2.2.2.2.2.2.2.2.2.2.2.2.2.2.2.2.2.2.1 k0_t16 k0_h133
theorem k0_off143_inb : ∀ (v11_1 : BitVec 32) (k0_hw7 : k0_chk7 v11_1) (k0_t16 : Fin (k0_t16_loop v11_1).trips), ∀ (k0_h134 : k0_cond134 v11_1 k0_t16 = 1#1), ∀ a, (k0_off143 v11_1 k0_t16) a + S128.size a ≤ S6528.size a := fun v11_1 k0_hw7 k0_t16 k0_h134 => k0_hw7.2.1.2.2.2.2.2.2.2.2.2.2.2.2.2.2.2.2.2.2.2.2.2.2.2.2.2.2.1 k0_t16 k0_h134
theorem k0_off144_inb : ∀ (v11_1 : BitVec 32) (k0_hw7 : k0_chk7 v11_1) (k0_t16 : Fin (k0_t16_loop v11_1).trips), ∀ (k0_h135 : k0_cond135 v11_1 k0_t16 = 1#1), ∀ a, (k0_off144 v11_1 k0_t16) a + S128.size a ≤ S6528.size a := fun v11_1 k0_hw7 k0_t16 k0_h135 => k0_hw7.2.1.2.2.2.2.2.2.2.2.2.2.2.2.2.2.2.2.2.2.2.2.2.2.2.2.2.2.2.1 k0_t16 k0_h135
theorem k0_off145_inb : ∀ (v11_1 : BitVec 32) (k0_hw7 : k0_chk7 v11_1) (k0_t16 : Fin (k0_t16_loop v11_1).trips), ∀ (k0_h136 : k0_cond136 v11_1 k0_t16 = 1#1), ∀ a, (k0_off145 v11_1 k0_t16) a + S128.size a ≤ S6528.size a := fun v11_1 k0_hw7 k0_t16 k0_h136 => k0_hw7.2.1.2.2.2.2.2.2.2.2.2.2.2.2.2.2.2.2.2.2.2.2.2.2.2.2.2.2.2.2.1 k0_t16 k0_h136
theorem k0_off146_inb : ∀ (v11_1 : BitVec 32) (k0_hw7 : k0_chk7 v11_1) (k0_t16 : Fin (k0_t16_loop v11_1).trips), ∀ (k0_h137 : k0_cond137 v11_1 k0_t16 = 1#1), ∀ a, (k0_off146 v11_1 k0_t16) a + S128.size a ≤ S6528.size a := fun v11_1 k0_hw7 k0_t16 k0_h137 => k0_hw7.2.1.2.2.2.2.2.2.2.2.2.2.2.2.2.2.2.2.2.2.2.2.2.2.2.2.2.2.2.2.2.1 k0_t16 k0_h137
theorem k0_off147_inb : ∀ (v11_1 : BitVec 32) (k0_hw7 : k0_chk7 v11_1) (k0_t16 : Fin (k0_t16_loop v11_1).trips), ∀ (k0_h138 : k0_cond138 v11_1 k0_t16 = 1#1), ∀ a, (k0_off147 v11_1 k0_t16) a + S128.size a ≤ S6528.size a := fun v11_1 k0_hw7 k0_t16 k0_h138 => k0_hw7.2.1.2.2.2.2.2.2.2.2.2.2.2.2.2.2.2.2.2.2.2.2.2.2.2.2.2.2.2.2.2.2.1 k0_t16 k0_h138
theorem k0_off148_inb : ∀ (v11_1 : BitVec 32) (k0_hw7 : k0_chk7 v11_1) (k0_t16 : Fin (k0_t16_loop v11_1).trips), ∀ (k0_h139 : k0_cond139 v11_1 k0_t16 = 1#1), ∀ a, (k0_off148 v11_1 k0_t16) a + S128.size a ≤ S6528.size a := fun v11_1 k0_hw7 k0_t16 k0_h139 => k0_hw7.2.1.2.2.2.2.2.2.2.2.2.2.2.2.2.2.2.2.2.2.2.2.2.2.2.2.2.2.2.2.2.2.2 k0_t16 k0_h139
theorem k0_off149_inb : ∀ (v11_1 : BitVec 32) (k0_hw7 : k0_chk7 v11_1) (k0_t16 : Fin (k0_t16_loop v11_1).trips), ∀ (k0_h140 : k0_cond140 v11_1 k0_t16 = 1#1), ∀ a, (k0_off149 v11_1 k0_t16) a + S128.size a ≤ S6528.size a := fun v11_1 k0_hw7 k0_t16 k0_h140 => k0_hw7.2.2.1 k0_t16 k0_h140
theorem k0_off150_inb : ∀ (v11_1 : BitVec 32) (k0_hw7 : k0_chk7 v11_1) (k0_t16 : Fin (k0_t16_loop v11_1).trips), ∀ (k0_h141 : k0_cond141 v11_1 k0_t16 = 1#1), ∀ a, (k0_off150 v11_1 k0_t16) a + S128.size a ≤ S6528.size a := fun v11_1 k0_hw7 k0_t16 k0_h141 => k0_hw7.2.2.2.1 k0_t16 k0_h141
theorem k0_off151_inb : ∀ (v11_1 : BitVec 32) (k0_hw7 : k0_chk7 v11_1) (k0_t16 : Fin (k0_t16_loop v11_1).trips), ∀ (k0_h142 : k0_cond142 v11_1 k0_t16 = 1#1), ∀ a, (k0_off151 v11_1 k0_t16) a + S128.size a ≤ S6528.size a := fun v11_1 k0_hw7 k0_t16 k0_h142 => k0_hw7.2.2.2.2.1 k0_t16 k0_h142
theorem k0_off152_inb : ∀ (v11_1 : BitVec 32) (k0_hw7 : k0_chk7 v11_1) (k0_t16 : Fin (k0_t16_loop v11_1).trips), ∀ (k0_h143 : k0_cond143 v11_1 k0_t16 = 1#1), ∀ a, (k0_off152 v11_1 k0_t16) a + S128.size a ≤ S6528.size a := fun v11_1 k0_hw7 k0_t16 k0_h143 => k0_hw7.2.2.2.2.2.1 k0_t16 k0_h143
theorem k0_off153_inb : ∀ (v11_1 : BitVec 32) (k0_hw7 : k0_chk7 v11_1) (k0_t16 : Fin (k0_t16_loop v11_1).trips), ∀ (k0_h144 : k0_cond144 v11_1 k0_t16 = 1#1), ∀ a, (k0_off153 v11_1 k0_t16) a + S128.size a ≤ S6528.size a := fun v11_1 k0_hw7 k0_t16 k0_h144 => k0_hw7.2.2.2.2.2.2 k0_t16 k0_h144

@[reducible] def k0_t17_loop (v11_2 : BitVec 32) : Scf.Loop 32 :=
  let c0_i32_194 : BitVec 32 := 0#32
  let c128_i32_175 : BitVec 32 := 128#32
  let v377 : BitVec 32 := Scalar.addi v11_2 c128_i32_175
  let c1_i32_176 : BitVec 32 := 1#32
  let v378 : BitVec 32 := Scalar.subi v377 c1_i32_176
  let c0_i32_178 : BitVec 32 := 0#32
  let v380 : BitVec 1 := Scalar.cmpi .sgt v378 c0_i32_178
  let v381 : BitVec 32 := Scalar.extui v380
  let c0_i32_179 : BitVec 32 := 0#32
  let v382 : BitVec 1 := Scalar.cmpi .slt v378 c0_i32_179
  let v383 : BitVec 32 := Scalar.extui v382
  let v384 : BitVec 32 := Scalar.subi v381 v383
  let c128_i32_177 : BitVec 32 := 128#32
  let c0_i32_180 : BitVec 32 := 0#32
  let v385 : BitVec 1 := Scalar.cmpi .sgt c128_i32_177 c0_i32_180
  let v386 : BitVec 32 := Scalar.extui v385
  let c0_i32_181 : BitVec 32 := 0#32
  let v387 : BitVec 1 := Scalar.cmpi .slt c128_i32_177 c0_i32_181
  let v388 : BitVec 32 := Scalar.extui v387
  let v389 : BitVec 32 := Scalar.subi v386 v388
  let v390 : BitVec 1 := Scalar.cmpi .ne v384 v389
  let v391 : BitVec 32 := Scalar.remsi v378 c128_i32_177
  let c0_i32_182 : BitVec 32 := 0#32
  let v392 : BitVec 1 := Scalar.cmpi .ne v391 c0_i32_182
  let v393 : BitVec 1 := Scalar.andi v390 v392
  let v379 : BitVec 32 := Scalar.divsi v378 c128_i32_177
  let c1_i32_183 : BitVec 32 := 1#32
  let v394 : BitVec 32 := Scalar.subi v379 c1_i32_183
  let v395 : BitVec 32 := Scalar.select v393 v394 v379
  let c4_i32_184 : BitVec 32 := 4#32
  let v396 : BitVec 32 := Scalar.addi v395 c4_i32_184
  let c1_i32_185 : BitVec 32 := 1#32
  let v397 : BitVec 32 := Scalar.subi v396 c1_i32_185
  let c0_i32_187 : BitVec 32 := 0#32
  let v399 : BitVec 1 := Scalar.cmpi .sgt v397 c0_i32_187
  let v400 : BitVec 32 := Scalar.extui v399
  let c0_i32_188 : BitVec 32 := 0#32
  let v401 : BitVec 1 := Scalar.cmpi .slt v397 c0_i32_188
  let v402 : BitVec 32 := Scalar.extui v401
  let v403 : BitVec 32 := Scalar.subi v400 v402
  let c4_i32_186 : BitVec 32 := 4#32
  let c0_i32_189 : BitVec 32 := 0#32
  let v404 : BitVec 1 := Scalar.cmpi .sgt c4_i32_186 c0_i32_189
  let v405 : BitVec 32 := Scalar.extui v404
  let c0_i32_190 : BitVec 32 := 0#32
  let v406 : BitVec 1 := Scalar.cmpi .slt c4_i32_186 c0_i32_190
  let v407 : BitVec 32 := Scalar.extui v406
  let v408 : BitVec 32 := Scalar.subi v405 v407
  let v409 : BitVec 1 := Scalar.cmpi .ne v403 v408
  let v410 : BitVec 32 := Scalar.remsi v397 c4_i32_186
  let c0_i32_191 : BitVec 32 := 0#32
  let v411 : BitVec 1 := Scalar.cmpi .ne v410 c0_i32_191
  let v412 : BitVec 1 := Scalar.andi v409 v411
  let v398 : BitVec 32 := Scalar.divsi v397 c4_i32_186
  let c1_i32_192 : BitVec 32 := 1#32
  let v413 : BitVec 32 := Scalar.subi v398 c1_i32_192
  let v414 : BitVec 32 := Scalar.select v412 v413 v398
  let v415 : BitVec 32 := Scalar.subi v414 c0_i32_194
  let c1_i32_195 : BitVec 32 := 1#32
  let v417 : BitVec 32 := Scalar.divsi v415 c1_i32_195
  let v418 : BitVec 32 := Scalar.muli v417 c1_i32_195
  let v419 : BitVec 32 := Scalar.addi c0_i32_194 v418
  let c1_i32_196 : BitVec 32 := 1#32
  ⟨c0_i32_194, v419, c1_i32_196⟩
def k0_off154 (v11_2 : BitVec 32) (k0_t17 : Fin (k0_t17_loop v11_2).trips) : Fin 1 → Nat :=
  let c0_i32_194 : BitVec 32 := 0#32
  let c1_i32_196 : BitVec 32 := 1#32
  let arg22 : BitVec 32 := Scf.iv c0_i32_194 c1_i32_196 k0_t17
  let c4_i32_198 : BitVec 32 := 4#32
  let v420 : BitVec 32 := Scalar.muli arg22 c4_i32_198
  let c0_i32_199 : BitVec 32 := 0#32
  let v421 : BitVec 32 := Scalar.addi v420 c0_i32_199
  let c128_i32_221 : BitVec 32 := 128#32
  let v460 : BitVec 32 := Scalar.muli v421 c128_i32_221
  ![v460.toNat]
def k0_cond145 (v11_2 : BitVec 32) (k0_t17 : Fin (k0_t17_loop v11_2).trips) : BitVec 1 :=
  let c0_i32_194 : BitVec 32 := 0#32
  let c1_i32_196 : BitVec 32 := 1#32
  let arg22 : BitVec 32 := Scf.iv c0_i32_194 c1_i32_196 k0_t17
  let c4_i32_198 : BitVec 32 := 4#32
  let v420 : BitVec 32 := Scalar.muli arg22 c4_i32_198
  let c0_i32_199 : BitVec 32 := 0#32
  let v421 : BitVec 32 := Scalar.addi v420 c0_i32_199
  let c128_i32_175 : BitVec 32 := 128#32
  let v377 : BitVec 32 := Scalar.addi v11_2 c128_i32_175
  let c1_i32_176 : BitVec 32 := 1#32
  let v378 : BitVec 32 := Scalar.subi v377 c1_i32_176
  let c0_i32_178 : BitVec 32 := 0#32
  let v380 : BitVec 1 := Scalar.cmpi .sgt v378 c0_i32_178
  let v381 : BitVec 32 := Scalar.extui v380
  let c0_i32_179 : BitVec 32 := 0#32
  let v382 : BitVec 1 := Scalar.cmpi .slt v378 c0_i32_179
  let v383 : BitVec 32 := Scalar.extui v382
  let v384 : BitVec 32 := Scalar.subi v381 v383
  let c128_i32_177 : BitVec 32 := 128#32
  let c0_i32_180 : BitVec 32 := 0#32
  let v385 : BitVec 1 := Scalar.cmpi .sgt c128_i32_177 c0_i32_180
  let v386 : BitVec 32 := Scalar.extui v385
  let c0_i32_181 : BitVec 32 := 0#32
  let v387 : BitVec 1 := Scalar.cmpi .slt c128_i32_177 c0_i32_181
  let v388 : BitVec 32 := Scalar.extui v387
  let v389 : BitVec 32 := Scalar.subi v386 v388
  let v390 : BitVec 1 := Scalar.cmpi .ne v384 v389
  let v391 : BitVec 32 := Scalar.remsi v378 c128_i32_177
  let c0_i32_182 : BitVec 32 := 0#32
  let v392 : BitVec 1 := Scalar.cmpi .ne v391 c0_i32_182
  let v393 : BitVec 1 := Scalar.andi v390 v392
  let v379 : BitVec 32 := Scalar.divsi v378 c128_i32_177
  let c1_i32_183 : BitVec 32 := 1#32
  let v394 : BitVec 32 := Scalar.subi v379 c1_i32_183
  let v395 : BitVec 32 := Scalar.select v393 v394 v379
  let v422 : BitVec 1 := Scalar.cmpi .slt v421 v395
  let v423 : BitVec 32 := Scalar.extui v422
  let c0_i32_200 : BitVec 32 := 0#32
  let v424 : BitVec 1 := Scalar.cmpi .ne v423 c0_i32_200
  v424

def k0_off155 (v11_2 : BitVec 32) (k0_t17 : Fin (k0_t17_loop v11_2).trips) : Fin 1 → Nat :=
  let c0_i32_194 : BitVec 32 := 0#32
  let c1_i32_196 : BitVec 32 := 1#32
  let arg22 : BitVec 32 := Scf.iv c0_i32_194 c1_i32_196 k0_t17
  let c4_i32_201 : BitVec 32 := 4#32
  let v425 : BitVec 32 := Scalar.muli arg22 c4_i32_201
  let c1_i32_202 : BitVec 32 := 1#32
  let v426 : BitVec 32 := Scalar.addi v425 c1_i32_202
  let c128_i32_221 : BitVec 32 := 128#32
  let v460 : BitVec 32 := Scalar.muli v426 c128_i32_221
  ![v460.toNat]
def k0_cond146 (v11_2 : BitVec 32) (k0_t17 : Fin (k0_t17_loop v11_2).trips) : BitVec 1 :=
  let c0_i32_194 : BitVec 32 := 0#32
  let c1_i32_196 : BitVec 32 := 1#32
  let arg22 : BitVec 32 := Scf.iv c0_i32_194 c1_i32_196 k0_t17
  let c4_i32_201 : BitVec 32 := 4#32
  let v425 : BitVec 32 := Scalar.muli arg22 c4_i32_201
  let c1_i32_202 : BitVec 32 := 1#32
  let v426 : BitVec 32 := Scalar.addi v425 c1_i32_202
  let c128_i32_175 : BitVec 32 := 128#32
  let v377 : BitVec 32 := Scalar.addi v11_2 c128_i32_175
  let c1_i32_176 : BitVec 32 := 1#32
  let v378 : BitVec 32 := Scalar.subi v377 c1_i32_176
  let c0_i32_178 : BitVec 32 := 0#32
  let v380 : BitVec 1 := Scalar.cmpi .sgt v378 c0_i32_178
  let v381 : BitVec 32 := Scalar.extui v380
  let c0_i32_179 : BitVec 32 := 0#32
  let v382 : BitVec 1 := Scalar.cmpi .slt v378 c0_i32_179
  let v383 : BitVec 32 := Scalar.extui v382
  let v384 : BitVec 32 := Scalar.subi v381 v383
  let c128_i32_177 : BitVec 32 := 128#32
  let c0_i32_180 : BitVec 32 := 0#32
  let v385 : BitVec 1 := Scalar.cmpi .sgt c128_i32_177 c0_i32_180
  let v386 : BitVec 32 := Scalar.extui v385
  let c0_i32_181 : BitVec 32 := 0#32
  let v387 : BitVec 1 := Scalar.cmpi .slt c128_i32_177 c0_i32_181
  let v388 : BitVec 32 := Scalar.extui v387
  let v389 : BitVec 32 := Scalar.subi v386 v388
  let v390 : BitVec 1 := Scalar.cmpi .ne v384 v389
  let v391 : BitVec 32 := Scalar.remsi v378 c128_i32_177
  let c0_i32_182 : BitVec 32 := 0#32
  let v392 : BitVec 1 := Scalar.cmpi .ne v391 c0_i32_182
  let v393 : BitVec 1 := Scalar.andi v390 v392
  let v379 : BitVec 32 := Scalar.divsi v378 c128_i32_177
  let c1_i32_183 : BitVec 32 := 1#32
  let v394 : BitVec 32 := Scalar.subi v379 c1_i32_183
  let v395 : BitVec 32 := Scalar.select v393 v394 v379
  let v427 : BitVec 1 := Scalar.cmpi .slt v426 v395
  let v428 : BitVec 32 := Scalar.extui v427
  let c0_i32_203 : BitVec 32 := 0#32
  let v429 : BitVec 1 := Scalar.cmpi .ne v428 c0_i32_203
  v429

def k0_off156 (v11_2 : BitVec 32) (k0_t17 : Fin (k0_t17_loop v11_2).trips) : Fin 1 → Nat :=
  let c0_i32_194 : BitVec 32 := 0#32
  let c1_i32_196 : BitVec 32 := 1#32
  let arg22 : BitVec 32 := Scf.iv c0_i32_194 c1_i32_196 k0_t17
  let c4_i32_204 : BitVec 32 := 4#32
  let v430 : BitVec 32 := Scalar.muli arg22 c4_i32_204
  let c2_i32_205 : BitVec 32 := 2#32
  let v431 : BitVec 32 := Scalar.addi v430 c2_i32_205
  let c128_i32_221 : BitVec 32 := 128#32
  let v460 : BitVec 32 := Scalar.muli v431 c128_i32_221
  ![v460.toNat]
def k0_cond147 (v11_2 : BitVec 32) (k0_t17 : Fin (k0_t17_loop v11_2).trips) : BitVec 1 :=
  let c0_i32_194 : BitVec 32 := 0#32
  let c1_i32_196 : BitVec 32 := 1#32
  let arg22 : BitVec 32 := Scf.iv c0_i32_194 c1_i32_196 k0_t17
  let c4_i32_204 : BitVec 32 := 4#32
  let v430 : BitVec 32 := Scalar.muli arg22 c4_i32_204
  let c2_i32_205 : BitVec 32 := 2#32
  let v431 : BitVec 32 := Scalar.addi v430 c2_i32_205
  let c128_i32_175 : BitVec 32 := 128#32
  let v377 : BitVec 32 := Scalar.addi v11_2 c128_i32_175
  let c1_i32_176 : BitVec 32 := 1#32
  let v378 : BitVec 32 := Scalar.subi v377 c1_i32_176
  let c0_i32_178 : BitVec 32 := 0#32
  let v380 : BitVec 1 := Scalar.cmpi .sgt v378 c0_i32_178
  let v381 : BitVec 32 := Scalar.extui v380
  let c0_i32_179 : BitVec 32 := 0#32
  let v382 : BitVec 1 := Scalar.cmpi .slt v378 c0_i32_179
  let v383 : BitVec 32 := Scalar.extui v382
  let v384 : BitVec 32 := Scalar.subi v381 v383
  let c128_i32_177 : BitVec 32 := 128#32
  let c0_i32_180 : BitVec 32 := 0#32
  let v385 : BitVec 1 := Scalar.cmpi .sgt c128_i32_177 c0_i32_180
  let v386 : BitVec 32 := Scalar.extui v385
  let c0_i32_181 : BitVec 32 := 0#32
  let v387 : BitVec 1 := Scalar.cmpi .slt c128_i32_177 c0_i32_181
  let v388 : BitVec 32 := Scalar.extui v387
  let v389 : BitVec 32 := Scalar.subi v386 v388
  let v390 : BitVec 1 := Scalar.cmpi .ne v384 v389
  let v391 : BitVec 32 := Scalar.remsi v378 c128_i32_177
  let c0_i32_182 : BitVec 32 := 0#32
  let v392 : BitVec 1 := Scalar.cmpi .ne v391 c0_i32_182
  let v393 : BitVec 1 := Scalar.andi v390 v392
  let v379 : BitVec 32 := Scalar.divsi v378 c128_i32_177
  let c1_i32_183 : BitVec 32 := 1#32
  let v394 : BitVec 32 := Scalar.subi v379 c1_i32_183
  let v395 : BitVec 32 := Scalar.select v393 v394 v379
  let v432 : BitVec 1 := Scalar.cmpi .slt v431 v395
  let v433 : BitVec 32 := Scalar.extui v432
  let c0_i32_206 : BitVec 32 := 0#32
  let v434 : BitVec 1 := Scalar.cmpi .ne v433 c0_i32_206
  v434

def k0_off157 (v11_2 : BitVec 32) (k0_t17 : Fin (k0_t17_loop v11_2).trips) : Fin 1 → Nat :=
  let c0_i32_194 : BitVec 32 := 0#32
  let c1_i32_196 : BitVec 32 := 1#32
  let arg22 : BitVec 32 := Scf.iv c0_i32_194 c1_i32_196 k0_t17
  let c4_i32_207 : BitVec 32 := 4#32
  let v435 : BitVec 32 := Scalar.muli arg22 c4_i32_207
  let c3_i32 : BitVec 32 := 3#32
  let v436 : BitVec 32 := Scalar.addi v435 c3_i32
  let c128_i32_221 : BitVec 32 := 128#32
  let v460 : BitVec 32 := Scalar.muli v436 c128_i32_221
  ![v460.toNat]
def k0_cond148 (v11_2 : BitVec 32) (k0_t17 : Fin (k0_t17_loop v11_2).trips) : BitVec 1 :=
  let c0_i32_194 : BitVec 32 := 0#32
  let c1_i32_196 : BitVec 32 := 1#32
  let arg22 : BitVec 32 := Scf.iv c0_i32_194 c1_i32_196 k0_t17
  let c4_i32_207 : BitVec 32 := 4#32
  let v435 : BitVec 32 := Scalar.muli arg22 c4_i32_207
  let c3_i32 : BitVec 32 := 3#32
  let v436 : BitVec 32 := Scalar.addi v435 c3_i32
  let c128_i32_175 : BitVec 32 := 128#32
  let v377 : BitVec 32 := Scalar.addi v11_2 c128_i32_175
  let c1_i32_176 : BitVec 32 := 1#32
  let v378 : BitVec 32 := Scalar.subi v377 c1_i32_176
  let c0_i32_178 : BitVec 32 := 0#32
  let v380 : BitVec 1 := Scalar.cmpi .sgt v378 c0_i32_178
  let v381 : BitVec 32 := Scalar.extui v380
  let c0_i32_179 : BitVec 32 := 0#32
  let v382 : BitVec 1 := Scalar.cmpi .slt v378 c0_i32_179
  let v383 : BitVec 32 := Scalar.extui v382
  let v384 : BitVec 32 := Scalar.subi v381 v383
  let c128_i32_177 : BitVec 32 := 128#32
  let c0_i32_180 : BitVec 32 := 0#32
  let v385 : BitVec 1 := Scalar.cmpi .sgt c128_i32_177 c0_i32_180
  let v386 : BitVec 32 := Scalar.extui v385
  let c0_i32_181 : BitVec 32 := 0#32
  let v387 : BitVec 1 := Scalar.cmpi .slt c128_i32_177 c0_i32_181
  let v388 : BitVec 32 := Scalar.extui v387
  let v389 : BitVec 32 := Scalar.subi v386 v388
  let v390 : BitVec 1 := Scalar.cmpi .ne v384 v389
  let v391 : BitVec 32 := Scalar.remsi v378 c128_i32_177
  let c0_i32_182 : BitVec 32 := 0#32
  let v392 : BitVec 1 := Scalar.cmpi .ne v391 c0_i32_182
  let v393 : BitVec 1 := Scalar.andi v390 v392
  let v379 : BitVec 32 := Scalar.divsi v378 c128_i32_177
  let c1_i32_183 : BitVec 32 := 1#32
  let v394 : BitVec 32 := Scalar.subi v379 c1_i32_183
  let v395 : BitVec 32 := Scalar.select v393 v394 v379
  let v437 : BitVec 1 := Scalar.cmpi .slt v436 v395
  let v438 : BitVec 32 := Scalar.extui v437
  let c0_i32_208 : BitVec 32 := 0#32
  let v439 : BitVec 1 := Scalar.cmpi .ne v438 c0_i32_208
  v439

def k0_off158 (v11_2 : BitVec 32) (k0_t17 : Fin (k0_t17_loop v11_2).trips) : Fin 1 → Nat :=
  let c0_i32_194 : BitVec 32 := 0#32
  let c1_i32_196 : BitVec 32 := 1#32
  let arg22 : BitVec 32 := Scf.iv c0_i32_194 c1_i32_196 k0_t17
  let c4_i32_209 : BitVec 32 := 4#32
  let v440 : BitVec 32 := Scalar.muli arg22 c4_i32_209
  let c0_i32_210 : BitVec 32 := 0#32
  let v441 : BitVec 32 := Scalar.addi v440 c0_i32_210
  let c128_i32_221 : BitVec 32 := 128#32
  let v460 : BitVec 32 := Scalar.muli v441 c128_i32_221
  ![v460.toNat]
def k0_cond149 (v11_2 : BitVec 32) (k0_t17 : Fin (k0_t17_loop v11_2).trips) : BitVec 1 :=
  let c0_i32_194 : BitVec 32 := 0#32
  let c1_i32_196 : BitVec 32 := 1#32
  let arg22 : BitVec 32 := Scf.iv c0_i32_194 c1_i32_196 k0_t17
  let c4_i32_209 : BitVec 32 := 4#32
  let v440 : BitVec 32 := Scalar.muli arg22 c4_i32_209
  let c0_i32_210 : BitVec 32 := 0#32
  let v441 : BitVec 32 := Scalar.addi v440 c0_i32_210
  let c128_i32_175 : BitVec 32 := 128#32
  let v377 : BitVec 32 := Scalar.addi v11_2 c128_i32_175
  let c1_i32_176 : BitVec 32 := 1#32
  let v378 : BitVec 32 := Scalar.subi v377 c1_i32_176
  let c0_i32_178 : BitVec 32 := 0#32
  let v380 : BitVec 1 := Scalar.cmpi .sgt v378 c0_i32_178
  let v381 : BitVec 32 := Scalar.extui v380
  let c0_i32_179 : BitVec 32 := 0#32
  let v382 : BitVec 1 := Scalar.cmpi .slt v378 c0_i32_179
  let v383 : BitVec 32 := Scalar.extui v382
  let v384 : BitVec 32 := Scalar.subi v381 v383
  let c128_i32_177 : BitVec 32 := 128#32
  let c0_i32_180 : BitVec 32 := 0#32
  let v385 : BitVec 1 := Scalar.cmpi .sgt c128_i32_177 c0_i32_180
  let v386 : BitVec 32 := Scalar.extui v385
  let c0_i32_181 : BitVec 32 := 0#32
  let v387 : BitVec 1 := Scalar.cmpi .slt c128_i32_177 c0_i32_181
  let v388 : BitVec 32 := Scalar.extui v387
  let v389 : BitVec 32 := Scalar.subi v386 v388
  let v390 : BitVec 1 := Scalar.cmpi .ne v384 v389
  let v391 : BitVec 32 := Scalar.remsi v378 c128_i32_177
  let c0_i32_182 : BitVec 32 := 0#32
  let v392 : BitVec 1 := Scalar.cmpi .ne v391 c0_i32_182
  let v393 : BitVec 1 := Scalar.andi v390 v392
  let v379 : BitVec 32 := Scalar.divsi v378 c128_i32_177
  let c1_i32_183 : BitVec 32 := 1#32
  let v394 : BitVec 32 := Scalar.subi v379 c1_i32_183
  let v395 : BitVec 32 := Scalar.select v393 v394 v379
  let v442 : BitVec 1 := Scalar.cmpi .slt v441 v395
  let v443 : BitVec 32 := Scalar.extui v442
  let c0_i32_211 : BitVec 32 := 0#32
  let v444 : BitVec 1 := Scalar.cmpi .ne v443 c0_i32_211
  v444

def k0_off159 (v11_2 : BitVec 32) (k0_t17 : Fin (k0_t17_loop v11_2).trips) : Fin 1 → Nat :=
  let c0_i32_194 : BitVec 32 := 0#32
  let c1_i32_196 : BitVec 32 := 1#32
  let arg22 : BitVec 32 := Scf.iv c0_i32_194 c1_i32_196 k0_t17
  let c4_i32_212 : BitVec 32 := 4#32
  let v445 : BitVec 32 := Scalar.muli arg22 c4_i32_212
  let c1_i32_213 : BitVec 32 := 1#32
  let v446 : BitVec 32 := Scalar.addi v445 c1_i32_213
  let c128_i32_221 : BitVec 32 := 128#32
  let v460 : BitVec 32 := Scalar.muli v446 c128_i32_221
  ![v460.toNat]
def k0_cond150 (v11_2 : BitVec 32) (k0_t17 : Fin (k0_t17_loop v11_2).trips) : BitVec 1 :=
  let c0_i32_194 : BitVec 32 := 0#32
  let c1_i32_196 : BitVec 32 := 1#32
  let arg22 : BitVec 32 := Scf.iv c0_i32_194 c1_i32_196 k0_t17
  let c4_i32_212 : BitVec 32 := 4#32
  let v445 : BitVec 32 := Scalar.muli arg22 c4_i32_212
  let c1_i32_213 : BitVec 32 := 1#32
  let v446 : BitVec 32 := Scalar.addi v445 c1_i32_213
  let c128_i32_175 : BitVec 32 := 128#32
  let v377 : BitVec 32 := Scalar.addi v11_2 c128_i32_175
  let c1_i32_176 : BitVec 32 := 1#32
  let v378 : BitVec 32 := Scalar.subi v377 c1_i32_176
  let c0_i32_178 : BitVec 32 := 0#32
  let v380 : BitVec 1 := Scalar.cmpi .sgt v378 c0_i32_178
  let v381 : BitVec 32 := Scalar.extui v380
  let c0_i32_179 : BitVec 32 := 0#32
  let v382 : BitVec 1 := Scalar.cmpi .slt v378 c0_i32_179
  let v383 : BitVec 32 := Scalar.extui v382
  let v384 : BitVec 32 := Scalar.subi v381 v383
  let c128_i32_177 : BitVec 32 := 128#32
  let c0_i32_180 : BitVec 32 := 0#32
  let v385 : BitVec 1 := Scalar.cmpi .sgt c128_i32_177 c0_i32_180
  let v386 : BitVec 32 := Scalar.extui v385
  let c0_i32_181 : BitVec 32 := 0#32
  let v387 : BitVec 1 := Scalar.cmpi .slt c128_i32_177 c0_i32_181
  let v388 : BitVec 32 := Scalar.extui v387
  let v389 : BitVec 32 := Scalar.subi v386 v388
  let v390 : BitVec 1 := Scalar.cmpi .ne v384 v389
  let v391 : BitVec 32 := Scalar.remsi v378 c128_i32_177
  let c0_i32_182 : BitVec 32 := 0#32
  let v392 : BitVec 1 := Scalar.cmpi .ne v391 c0_i32_182
  let v393 : BitVec 1 := Scalar.andi v390 v392
  let v379 : BitVec 32 := Scalar.divsi v378 c128_i32_177
  let c1_i32_183 : BitVec 32 := 1#32
  let v394 : BitVec 32 := Scalar.subi v379 c1_i32_183
  let v395 : BitVec 32 := Scalar.select v393 v394 v379
  let v447 : BitVec 1 := Scalar.cmpi .slt v446 v395
  let v448 : BitVec 32 := Scalar.extui v447
  let c0_i32_214 : BitVec 32 := 0#32
  let v449 : BitVec 1 := Scalar.cmpi .ne v448 c0_i32_214
  v449

def k0_off160 (v11_2 : BitVec 32) (k0_t17 : Fin (k0_t17_loop v11_2).trips) : Fin 1 → Nat :=
  let c0_i32_194 : BitVec 32 := 0#32
  let c1_i32_196 : BitVec 32 := 1#32
  let arg22 : BitVec 32 := Scf.iv c0_i32_194 c1_i32_196 k0_t17
  let c4_i32_215 : BitVec 32 := 4#32
  let v450 : BitVec 32 := Scalar.muli arg22 c4_i32_215
  let c2_i32_216 : BitVec 32 := 2#32
  let v451 : BitVec 32 := Scalar.addi v450 c2_i32_216
  let c128_i32_221 : BitVec 32 := 128#32
  let v460 : BitVec 32 := Scalar.muli v451 c128_i32_221
  ![v460.toNat]
def k0_cond151 (v11_2 : BitVec 32) (k0_t17 : Fin (k0_t17_loop v11_2).trips) : BitVec 1 :=
  let c0_i32_194 : BitVec 32 := 0#32
  let c1_i32_196 : BitVec 32 := 1#32
  let arg22 : BitVec 32 := Scf.iv c0_i32_194 c1_i32_196 k0_t17
  let c4_i32_215 : BitVec 32 := 4#32
  let v450 : BitVec 32 := Scalar.muli arg22 c4_i32_215
  let c2_i32_216 : BitVec 32 := 2#32
  let v451 : BitVec 32 := Scalar.addi v450 c2_i32_216
  let c128_i32_175 : BitVec 32 := 128#32
  let v377 : BitVec 32 := Scalar.addi v11_2 c128_i32_175
  let c1_i32_176 : BitVec 32 := 1#32
  let v378 : BitVec 32 := Scalar.subi v377 c1_i32_176
  let c0_i32_178 : BitVec 32 := 0#32
  let v380 : BitVec 1 := Scalar.cmpi .sgt v378 c0_i32_178
  let v381 : BitVec 32 := Scalar.extui v380
  let c0_i32_179 : BitVec 32 := 0#32
  let v382 : BitVec 1 := Scalar.cmpi .slt v378 c0_i32_179
  let v383 : BitVec 32 := Scalar.extui v382
  let v384 : BitVec 32 := Scalar.subi v381 v383
  let c128_i32_177 : BitVec 32 := 128#32
  let c0_i32_180 : BitVec 32 := 0#32
  let v385 : BitVec 1 := Scalar.cmpi .sgt c128_i32_177 c0_i32_180
  let v386 : BitVec 32 := Scalar.extui v385
  let c0_i32_181 : BitVec 32 := 0#32
  let v387 : BitVec 1 := Scalar.cmpi .slt c128_i32_177 c0_i32_181
  let v388 : BitVec 32 := Scalar.extui v387
  let v389 : BitVec 32 := Scalar.subi v386 v388
  let v390 : BitVec 1 := Scalar.cmpi .ne v384 v389
  let v391 : BitVec 32 := Scalar.remsi v378 c128_i32_177
  let c0_i32_182 : BitVec 32 := 0#32
  let v392 : BitVec 1 := Scalar.cmpi .ne v391 c0_i32_182
  let v393 : BitVec 1 := Scalar.andi v390 v392
  let v379 : BitVec 32 := Scalar.divsi v378 c128_i32_177
  let c1_i32_183 : BitVec 32 := 1#32
  let v394 : BitVec 32 := Scalar.subi v379 c1_i32_183
  let v395 : BitVec 32 := Scalar.select v393 v394 v379
  let v452 : BitVec 1 := Scalar.cmpi .slt v451 v395
  let v453 : BitVec 32 := Scalar.extui v452
  let c0_i32_217 : BitVec 32 := 0#32
  let v454 : BitVec 1 := Scalar.cmpi .ne v453 c0_i32_217
  v454

def k0_off161 (v11_2 : BitVec 32) (k0_t17 : Fin (k0_t17_loop v11_2).trips) : Fin 1 → Nat :=
  let c0_i32_194 : BitVec 32 := 0#32
  let c1_i32_196 : BitVec 32 := 1#32
  let arg22 : BitVec 32 := Scf.iv c0_i32_194 c1_i32_196 k0_t17
  let c4_i32_218 : BitVec 32 := 4#32
  let v455 : BitVec 32 := Scalar.muli arg22 c4_i32_218
  let c3_i32_219 : BitVec 32 := 3#32
  let v456 : BitVec 32 := Scalar.addi v455 c3_i32_219
  let c128_i32_221 : BitVec 32 := 128#32
  let v460 : BitVec 32 := Scalar.muli v456 c128_i32_221
  ![v460.toNat]
def k0_cond152 (v11_2 : BitVec 32) (k0_t17 : Fin (k0_t17_loop v11_2).trips) : BitVec 1 :=
  let c0_i32_194 : BitVec 32 := 0#32
  let c1_i32_196 : BitVec 32 := 1#32
  let arg22 : BitVec 32 := Scf.iv c0_i32_194 c1_i32_196 k0_t17
  let c4_i32_218 : BitVec 32 := 4#32
  let v455 : BitVec 32 := Scalar.muli arg22 c4_i32_218
  let c3_i32_219 : BitVec 32 := 3#32
  let v456 : BitVec 32 := Scalar.addi v455 c3_i32_219
  let c128_i32_175 : BitVec 32 := 128#32
  let v377 : BitVec 32 := Scalar.addi v11_2 c128_i32_175
  let c1_i32_176 : BitVec 32 := 1#32
  let v378 : BitVec 32 := Scalar.subi v377 c1_i32_176
  let c0_i32_178 : BitVec 32 := 0#32
  let v380 : BitVec 1 := Scalar.cmpi .sgt v378 c0_i32_178
  let v381 : BitVec 32 := Scalar.extui v380
  let c0_i32_179 : BitVec 32 := 0#32
  let v382 : BitVec 1 := Scalar.cmpi .slt v378 c0_i32_179
  let v383 : BitVec 32 := Scalar.extui v382
  let v384 : BitVec 32 := Scalar.subi v381 v383
  let c128_i32_177 : BitVec 32 := 128#32
  let c0_i32_180 : BitVec 32 := 0#32
  let v385 : BitVec 1 := Scalar.cmpi .sgt c128_i32_177 c0_i32_180
  let v386 : BitVec 32 := Scalar.extui v385
  let c0_i32_181 : BitVec 32 := 0#32
  let v387 : BitVec 1 := Scalar.cmpi .slt c128_i32_177 c0_i32_181
  let v388 : BitVec 32 := Scalar.extui v387
  let v389 : BitVec 32 := Scalar.subi v386 v388
  let v390 : BitVec 1 := Scalar.cmpi .ne v384 v389
  let v391 : BitVec 32 := Scalar.remsi v378 c128_i32_177
  let c0_i32_182 : BitVec 32 := 0#32
  let v392 : BitVec 1 := Scalar.cmpi .ne v391 c0_i32_182
  let v393 : BitVec 1 := Scalar.andi v390 v392
  let v379 : BitVec 32 := Scalar.divsi v378 c128_i32_177
  let c1_i32_183 : BitVec 32 := 1#32
  let v394 : BitVec 32 := Scalar.subi v379 c1_i32_183
  let v395 : BitVec 32 := Scalar.select v393 v394 v379
  let v457 : BitVec 1 := Scalar.cmpi .slt v456 v395
  let v458 : BitVec 32 := Scalar.extui v457
  let c0_i32_220 : BitVec 32 := 0#32
  let v459 : BitVec 1 := Scalar.cmpi .ne v458 c0_i32_220
  v459

@[reducible] def k0_t18_loop (v11_2 : BitVec 32) : Scf.Loop 32 :=
  let c0_i32_194 : BitVec 32 := 0#32
  let c128_i32_175 : BitVec 32 := 128#32
  let v377 : BitVec 32 := Scalar.addi v11_2 c128_i32_175
  let c1_i32_176 : BitVec 32 := 1#32
  let v378 : BitVec 32 := Scalar.subi v377 c1_i32_176
  let c0_i32_178 : BitVec 32 := 0#32
  let v380 : BitVec 1 := Scalar.cmpi .sgt v378 c0_i32_178
  let v381 : BitVec 32 := Scalar.extui v380
  let c0_i32_179 : BitVec 32 := 0#32
  let v382 : BitVec 1 := Scalar.cmpi .slt v378 c0_i32_179
  let v383 : BitVec 32 := Scalar.extui v382
  let v384 : BitVec 32 := Scalar.subi v381 v383
  let c128_i32_177 : BitVec 32 := 128#32
  let c0_i32_180 : BitVec 32 := 0#32
  let v385 : BitVec 1 := Scalar.cmpi .sgt c128_i32_177 c0_i32_180
  let v386 : BitVec 32 := Scalar.extui v385
  let c0_i32_181 : BitVec 32 := 0#32
  let v387 : BitVec 1 := Scalar.cmpi .slt c128_i32_177 c0_i32_181
  let v388 : BitVec 32 := Scalar.extui v387
  let v389 : BitVec 32 := Scalar.subi v386 v388
  let v390 : BitVec 1 := Scalar.cmpi .ne v384 v389
  let v391 : BitVec 32 := Scalar.remsi v378 c128_i32_177
  let c0_i32_182 : BitVec 32 := 0#32
  let v392 : BitVec 1 := Scalar.cmpi .ne v391 c0_i32_182
  let v393 : BitVec 1 := Scalar.andi v390 v392
  let v379 : BitVec 32 := Scalar.divsi v378 c128_i32_177
  let c1_i32_183 : BitVec 32 := 1#32
  let v394 : BitVec 32 := Scalar.subi v379 c1_i32_183
  let v395 : BitVec 32 := Scalar.select v393 v394 v379
  let c4_i32_184 : BitVec 32 := 4#32
  let v396 : BitVec 32 := Scalar.addi v395 c4_i32_184
  let c1_i32_185 : BitVec 32 := 1#32
  let v397 : BitVec 32 := Scalar.subi v396 c1_i32_185
  let c0_i32_187 : BitVec 32 := 0#32
  let v399 : BitVec 1 := Scalar.cmpi .sgt v397 c0_i32_187
  let v400 : BitVec 32 := Scalar.extui v399
  let c0_i32_188 : BitVec 32 := 0#32
  let v401 : BitVec 1 := Scalar.cmpi .slt v397 c0_i32_188
  let v402 : BitVec 32 := Scalar.extui v401
  let v403 : BitVec 32 := Scalar.subi v400 v402
  let c4_i32_186 : BitVec 32 := 4#32
  let c0_i32_189 : BitVec 32 := 0#32
  let v404 : BitVec 1 := Scalar.cmpi .sgt c4_i32_186 c0_i32_189
  let v405 : BitVec 32 := Scalar.extui v404
  let c0_i32_190 : BitVec 32 := 0#32
  let v406 : BitVec 1 := Scalar.cmpi .slt c4_i32_186 c0_i32_190
  let v407 : BitVec 32 := Scalar.extui v406
  let v408 : BitVec 32 := Scalar.subi v405 v407
  let v409 : BitVec 1 := Scalar.cmpi .ne v403 v408
  let v410 : BitVec 32 := Scalar.remsi v397 c4_i32_186
  let c0_i32_191 : BitVec 32 := 0#32
  let v411 : BitVec 1 := Scalar.cmpi .ne v410 c0_i32_191
  let v412 : BitVec 1 := Scalar.andi v409 v411
  let v398 : BitVec 32 := Scalar.divsi v397 c4_i32_186
  let c1_i32_192 : BitVec 32 := 1#32
  let v413 : BitVec 32 := Scalar.subi v398 c1_i32_192
  let v414 : BitVec 32 := Scalar.select v412 v413 v398
  let v415 : BitVec 32 := Scalar.subi v414 c0_i32_194
  let c1_i32_195 : BitVec 32 := 1#32
  let v417 : BitVec 32 := Scalar.divsi v415 c1_i32_195
  let v418 : BitVec 32 := Scalar.muli v417 c1_i32_195
  let v419 : BitVec 32 := Scalar.addi c0_i32_194 v418
  let v416 : BitVec 32 := Scalar.addi c0_i32_194 v415
  let c1_i32_197 : BitVec 32 := 1#32
  ⟨v419, v416, c1_i32_197⟩
def k0_off162 (v11_2 : BitVec 32) (k0_t18 : Fin (k0_t18_loop v11_2).trips) : Fin 1 → Nat :=
  let c0_i32_194 : BitVec 32 := 0#32
  let c128_i32_175 : BitVec 32 := 128#32
  let v377 : BitVec 32 := Scalar.addi v11_2 c128_i32_175
  let c1_i32_176 : BitVec 32 := 1#32
  let v378 : BitVec 32 := Scalar.subi v377 c1_i32_176
  let c0_i32_178 : BitVec 32 := 0#32
  let v380 : BitVec 1 := Scalar.cmpi .sgt v378 c0_i32_178
  let v381 : BitVec 32 := Scalar.extui v380
  let c0_i32_179 : BitVec 32 := 0#32
  let v382 : BitVec 1 := Scalar.cmpi .slt v378 c0_i32_179
  let v383 : BitVec 32 := Scalar.extui v382
  let v384 : BitVec 32 := Scalar.subi v381 v383
  let c128_i32_177 : BitVec 32 := 128#32
  let c0_i32_180 : BitVec 32 := 0#32
  let v385 : BitVec 1 := Scalar.cmpi .sgt c128_i32_177 c0_i32_180
  let v386 : BitVec 32 := Scalar.extui v385
  let c0_i32_181 : BitVec 32 := 0#32
  let v387 : BitVec 1 := Scalar.cmpi .slt c128_i32_177 c0_i32_181
  let v388 : BitVec 32 := Scalar.extui v387
  let v389 : BitVec 32 := Scalar.subi v386 v388
  let v390 : BitVec 1 := Scalar.cmpi .ne v384 v389
  let v391 : BitVec 32 := Scalar.remsi v378 c128_i32_177
  let c0_i32_182 : BitVec 32 := 0#32
  let v392 : BitVec 1 := Scalar.cmpi .ne v391 c0_i32_182
  let v393 : BitVec 1 := Scalar.andi v390 v392
  let v379 : BitVec 32 := Scalar.divsi v378 c128_i32_177
  let c1_i32_183 : BitVec 32 := 1#32
  let v394 : BitVec 32 := Scalar.subi v379 c1_i32_183
  let v395 : BitVec 32 := Scalar.select v393 v394 v379
  let c4_i32_184 : BitVec 32 := 4#32
  let v396 : BitVec 32 := Scalar.addi v395 c4_i32_184
  let c1_i32_185 : BitVec 32 := 1#32
  let v397 : BitVec 32 := Scalar.subi v396 c1_i32_185
  let c0_i32_187 : BitVec 32 := 0#32
  let v399 : BitVec 1 := Scalar.cmpi .sgt v397 c0_i32_187
  let v400 : BitVec 32 := Scalar.extui v399
  let c0_i32_188 : BitVec 32 := 0#32
  let v401 : BitVec 1 := Scalar.cmpi .slt v397 c0_i32_188
  let v402 : BitVec 32 := Scalar.extui v401
  let v403 : BitVec 32 := Scalar.subi v400 v402
  let c4_i32_186 : BitVec 32 := 4#32
  let c0_i32_189 : BitVec 32 := 0#32
  let v404 : BitVec 1 := Scalar.cmpi .sgt c4_i32_186 c0_i32_189
  let v405 : BitVec 32 := Scalar.extui v404
  let c0_i32_190 : BitVec 32 := 0#32
  let v406 : BitVec 1 := Scalar.cmpi .slt c4_i32_186 c0_i32_190
  let v407 : BitVec 32 := Scalar.extui v406
  let v408 : BitVec 32 := Scalar.subi v405 v407
  let v409 : BitVec 1 := Scalar.cmpi .ne v403 v408
  let v410 : BitVec 32 := Scalar.remsi v397 c4_i32_186
  let c0_i32_191 : BitVec 32 := 0#32
  let v411 : BitVec 1 := Scalar.cmpi .ne v410 c0_i32_191
  let v412 : BitVec 1 := Scalar.andi v409 v411
  let v398 : BitVec 32 := Scalar.divsi v397 c4_i32_186
  let c1_i32_192 : BitVec 32 := 1#32
  let v413 : BitVec 32 := Scalar.subi v398 c1_i32_192
  let v414 : BitVec 32 := Scalar.select v412 v413 v398
  let v415 : BitVec 32 := Scalar.subi v414 c0_i32_194
  let c1_i32_195 : BitVec 32 := 1#32
  let v417 : BitVec 32 := Scalar.divsi v415 c1_i32_195
  let v418 : BitVec 32 := Scalar.muli v417 c1_i32_195
  let v419 : BitVec 32 := Scalar.addi c0_i32_194 v418
  let c1_i32_197 : BitVec 32 := 1#32
  let arg22 : BitVec 32 := Scf.iv v419 c1_i32_197 k0_t18
  let c4_i32_198 : BitVec 32 := 4#32
  let v420 : BitVec 32 := Scalar.muli arg22 c4_i32_198
  let c0_i32_199 : BitVec 32 := 0#32
  let v421 : BitVec 32 := Scalar.addi v420 c0_i32_199
  let c128_i32_221 : BitVec 32 := 128#32
  let v460 : BitVec 32 := Scalar.muli v421 c128_i32_221
  ![v460.toNat]
def k0_cond153 (v11_2 : BitVec 32) (k0_t18 : Fin (k0_t18_loop v11_2).trips) : BitVec 1 :=
  let c0_i32_194 : BitVec 32 := 0#32
  let c128_i32_175 : BitVec 32 := 128#32
  let v377 : BitVec 32 := Scalar.addi v11_2 c128_i32_175
  let c1_i32_176 : BitVec 32 := 1#32
  let v378 : BitVec 32 := Scalar.subi v377 c1_i32_176
  let c0_i32_178 : BitVec 32 := 0#32
  let v380 : BitVec 1 := Scalar.cmpi .sgt v378 c0_i32_178
  let v381 : BitVec 32 := Scalar.extui v380
  let c0_i32_179 : BitVec 32 := 0#32
  let v382 : BitVec 1 := Scalar.cmpi .slt v378 c0_i32_179
  let v383 : BitVec 32 := Scalar.extui v382
  let v384 : BitVec 32 := Scalar.subi v381 v383
  let c128_i32_177 : BitVec 32 := 128#32
  let c0_i32_180 : BitVec 32 := 0#32
  let v385 : BitVec 1 := Scalar.cmpi .sgt c128_i32_177 c0_i32_180
  let v386 : BitVec 32 := Scalar.extui v385
  let c0_i32_181 : BitVec 32 := 0#32
  let v387 : BitVec 1 := Scalar.cmpi .slt c128_i32_177 c0_i32_181
  let v388 : BitVec 32 := Scalar.extui v387
  let v389 : BitVec 32 := Scalar.subi v386 v388
  let v390 : BitVec 1 := Scalar.cmpi .ne v384 v389
  let v391 : BitVec 32 := Scalar.remsi v378 c128_i32_177
  let c0_i32_182 : BitVec 32 := 0#32
  let v392 : BitVec 1 := Scalar.cmpi .ne v391 c0_i32_182
  let v393 : BitVec 1 := Scalar.andi v390 v392
  let v379 : BitVec 32 := Scalar.divsi v378 c128_i32_177
  let c1_i32_183 : BitVec 32 := 1#32
  let v394 : BitVec 32 := Scalar.subi v379 c1_i32_183
  let v395 : BitVec 32 := Scalar.select v393 v394 v379
  let c4_i32_184 : BitVec 32 := 4#32
  let v396 : BitVec 32 := Scalar.addi v395 c4_i32_184
  let c1_i32_185 : BitVec 32 := 1#32
  let v397 : BitVec 32 := Scalar.subi v396 c1_i32_185
  let c0_i32_187 : BitVec 32 := 0#32
  let v399 : BitVec 1 := Scalar.cmpi .sgt v397 c0_i32_187
  let v400 : BitVec 32 := Scalar.extui v399
  let c0_i32_188 : BitVec 32 := 0#32
  let v401 : BitVec 1 := Scalar.cmpi .slt v397 c0_i32_188
  let v402 : BitVec 32 := Scalar.extui v401
  let v403 : BitVec 32 := Scalar.subi v400 v402
  let c4_i32_186 : BitVec 32 := 4#32
  let c0_i32_189 : BitVec 32 := 0#32
  let v404 : BitVec 1 := Scalar.cmpi .sgt c4_i32_186 c0_i32_189
  let v405 : BitVec 32 := Scalar.extui v404
  let c0_i32_190 : BitVec 32 := 0#32
  let v406 : BitVec 1 := Scalar.cmpi .slt c4_i32_186 c0_i32_190
  let v407 : BitVec 32 := Scalar.extui v406
  let v408 : BitVec 32 := Scalar.subi v405 v407
  let v409 : BitVec 1 := Scalar.cmpi .ne v403 v408
  let v410 : BitVec 32 := Scalar.remsi v397 c4_i32_186
  let c0_i32_191 : BitVec 32 := 0#32
  let v411 : BitVec 1 := Scalar.cmpi .ne v410 c0_i32_191
  let v412 : BitVec 1 := Scalar.andi v409 v411
  let v398 : BitVec 32 := Scalar.divsi v397 c4_i32_186
  let c1_i32_192 : BitVec 32 := 1#32
  let v413 : BitVec 32 := Scalar.subi v398 c1_i32_192
  let v414 : BitVec 32 := Scalar.select v412 v413 v398
  let v415 : BitVec 32 := Scalar.subi v414 c0_i32_194
  let c1_i32_195 : BitVec 32 := 1#32
  let v417 : BitVec 32 := Scalar.divsi v415 c1_i32_195
  let v418 : BitVec 32 := Scalar.muli v417 c1_i32_195
  let v419 : BitVec 32 := Scalar.addi c0_i32_194 v418
  let c1_i32_197 : BitVec 32 := 1#32
  let arg22 : BitVec 32 := Scf.iv v419 c1_i32_197 k0_t18
  let c4_i32_198 : BitVec 32 := 4#32
  let v420 : BitVec 32 := Scalar.muli arg22 c4_i32_198
  let c0_i32_199 : BitVec 32 := 0#32
  let v421 : BitVec 32 := Scalar.addi v420 c0_i32_199
  let v422 : BitVec 1 := Scalar.cmpi .slt v421 v395
  let v423 : BitVec 32 := Scalar.extui v422
  let c0_i32_200 : BitVec 32 := 0#32
  let v424 : BitVec 1 := Scalar.cmpi .ne v423 c0_i32_200
  v424

def k0_off163 (v11_2 : BitVec 32) (k0_t18 : Fin (k0_t18_loop v11_2).trips) : Fin 1 → Nat :=
  let c0_i32_194 : BitVec 32 := 0#32
  let c128_i32_175 : BitVec 32 := 128#32
  let v377 : BitVec 32 := Scalar.addi v11_2 c128_i32_175
  let c1_i32_176 : BitVec 32 := 1#32
  let v378 : BitVec 32 := Scalar.subi v377 c1_i32_176
  let c0_i32_178 : BitVec 32 := 0#32
  let v380 : BitVec 1 := Scalar.cmpi .sgt v378 c0_i32_178
  let v381 : BitVec 32 := Scalar.extui v380
  let c0_i32_179 : BitVec 32 := 0#32
  let v382 : BitVec 1 := Scalar.cmpi .slt v378 c0_i32_179
  let v383 : BitVec 32 := Scalar.extui v382
  let v384 : BitVec 32 := Scalar.subi v381 v383
  let c128_i32_177 : BitVec 32 := 128#32
  let c0_i32_180 : BitVec 32 := 0#32
  let v385 : BitVec 1 := Scalar.cmpi .sgt c128_i32_177 c0_i32_180
  let v386 : BitVec 32 := Scalar.extui v385
  let c0_i32_181 : BitVec 32 := 0#32
  let v387 : BitVec 1 := Scalar.cmpi .slt c128_i32_177 c0_i32_181
  let v388 : BitVec 32 := Scalar.extui v387
  let v389 : BitVec 32 := Scalar.subi v386 v388
  let v390 : BitVec 1 := Scalar.cmpi .ne v384 v389
  let v391 : BitVec 32 := Scalar.remsi v378 c128_i32_177
  let c0_i32_182 : BitVec 32 := 0#32
  let v392 : BitVec 1 := Scalar.cmpi .ne v391 c0_i32_182
  let v393 : BitVec 1 := Scalar.andi v390 v392
  let v379 : BitVec 32 := Scalar.divsi v378 c128_i32_177
  let c1_i32_183 : BitVec 32 := 1#32
  let v394 : BitVec 32 := Scalar.subi v379 c1_i32_183
  let v395 : BitVec 32 := Scalar.select v393 v394 v379
  let c4_i32_184 : BitVec 32 := 4#32
  let v396 : BitVec 32 := Scalar.addi v395 c4_i32_184
  let c1_i32_185 : BitVec 32 := 1#32
  let v397 : BitVec 32 := Scalar.subi v396 c1_i32_185
  let c0_i32_187 : BitVec 32 := 0#32
  let v399 : BitVec 1 := Scalar.cmpi .sgt v397 c0_i32_187
  let v400 : BitVec 32 := Scalar.extui v399
  let c0_i32_188 : BitVec 32 := 0#32
  let v401 : BitVec 1 := Scalar.cmpi .slt v397 c0_i32_188
  let v402 : BitVec 32 := Scalar.extui v401
  let v403 : BitVec 32 := Scalar.subi v400 v402
  let c4_i32_186 : BitVec 32 := 4#32
  let c0_i32_189 : BitVec 32 := 0#32
  let v404 : BitVec 1 := Scalar.cmpi .sgt c4_i32_186 c0_i32_189
  let v405 : BitVec 32 := Scalar.extui v404
  let c0_i32_190 : BitVec 32 := 0#32
  let v406 : BitVec 1 := Scalar.cmpi .slt c4_i32_186 c0_i32_190
  let v407 : BitVec 32 := Scalar.extui v406
  let v408 : BitVec 32 := Scalar.subi v405 v407
  let v409 : BitVec 1 := Scalar.cmpi .ne v403 v408
  let v410 : BitVec 32 := Scalar.remsi v397 c4_i32_186
  let c0_i32_191 : BitVec 32 := 0#32
  let v411 : BitVec 1 := Scalar.cmpi .ne v410 c0_i32_191
  let v412 : BitVec 1 := Scalar.andi v409 v411
  let v398 : BitVec 32 := Scalar.divsi v397 c4_i32_186
  let c1_i32_192 : BitVec 32 := 1#32
  let v413 : BitVec 32 := Scalar.subi v398 c1_i32_192
  let v414 : BitVec 32 := Scalar.select v412 v413 v398
  let v415 : BitVec 32 := Scalar.subi v414 c0_i32_194
  let c1_i32_195 : BitVec 32 := 1#32
  let v417 : BitVec 32 := Scalar.divsi v415 c1_i32_195
  let v418 : BitVec 32 := Scalar.muli v417 c1_i32_195
  let v419 : BitVec 32 := Scalar.addi c0_i32_194 v418
  let c1_i32_197 : BitVec 32 := 1#32
  let arg22 : BitVec 32 := Scf.iv v419 c1_i32_197 k0_t18
  let c4_i32_201 : BitVec 32 := 4#32
  let v425 : BitVec 32 := Scalar.muli arg22 c4_i32_201
  let c1_i32_202 : BitVec 32 := 1#32
  let v426 : BitVec 32 := Scalar.addi v425 c1_i32_202
  let c128_i32_221 : BitVec 32 := 128#32
  let v460 : BitVec 32 := Scalar.muli v426 c128_i32_221
  ![v460.toNat]
def k0_cond154 (v11_2 : BitVec 32) (k0_t18 : Fin (k0_t18_loop v11_2).trips) : BitVec 1 :=
  let c0_i32_194 : BitVec 32 := 0#32
  let c128_i32_175 : BitVec 32 := 128#32
  let v377 : BitVec 32 := Scalar.addi v11_2 c128_i32_175
  let c1_i32_176 : BitVec 32 := 1#32
  let v378 : BitVec 32 := Scalar.subi v377 c1_i32_176
  let c0_i32_178 : BitVec 32 := 0#32
  let v380 : BitVec 1 := Scalar.cmpi .sgt v378 c0_i32_178
  let v381 : BitVec 32 := Scalar.extui v380
  let c0_i32_179 : BitVec 32 := 0#32
  let v382 : BitVec 1 := Scalar.cmpi .slt v378 c0_i32_179
  let v383 : BitVec 32 := Scalar.extui v382
  let v384 : BitVec 32 := Scalar.subi v381 v383
  let c128_i32_177 : BitVec 32 := 128#32
  let c0_i32_180 : BitVec 32 := 0#32
  let v385 : BitVec 1 := Scalar.cmpi .sgt c128_i32_177 c0_i32_180
  let v386 : BitVec 32 := Scalar.extui v385
  let c0_i32_181 : BitVec 32 := 0#32
  let v387 : BitVec 1 := Scalar.cmpi .slt c128_i32_177 c0_i32_181
  let v388 : BitVec 32 := Scalar.extui v387
  let v389 : BitVec 32 := Scalar.subi v386 v388
  let v390 : BitVec 1 := Scalar.cmpi .ne v384 v389
  let v391 : BitVec 32 := Scalar.remsi v378 c128_i32_177
  let c0_i32_182 : BitVec 32 := 0#32
  let v392 : BitVec 1 := Scalar.cmpi .ne v391 c0_i32_182
  let v393 : BitVec 1 := Scalar.andi v390 v392
  let v379 : BitVec 32 := Scalar.divsi v378 c128_i32_177
  let c1_i32_183 : BitVec 32 := 1#32
  let v394 : BitVec 32 := Scalar.subi v379 c1_i32_183
  let v395 : BitVec 32 := Scalar.select v393 v394 v379
  let c4_i32_184 : BitVec 32 := 4#32
  let v396 : BitVec 32 := Scalar.addi v395 c4_i32_184
  let c1_i32_185 : BitVec 32 := 1#32
  let v397 : BitVec 32 := Scalar.subi v396 c1_i32_185
  let c0_i32_187 : BitVec 32 := 0#32
  let v399 : BitVec 1 := Scalar.cmpi .sgt v397 c0_i32_187
  let v400 : BitVec 32 := Scalar.extui v399
  let c0_i32_188 : BitVec 32 := 0#32
  let v401 : BitVec 1 := Scalar.cmpi .slt v397 c0_i32_188
  let v402 : BitVec 32 := Scalar.extui v401
  let v403 : BitVec 32 := Scalar.subi v400 v402
  let c4_i32_186 : BitVec 32 := 4#32
  let c0_i32_189 : BitVec 32 := 0#32
  let v404 : BitVec 1 := Scalar.cmpi .sgt c4_i32_186 c0_i32_189
  let v405 : BitVec 32 := Scalar.extui v404
  let c0_i32_190 : BitVec 32 := 0#32
  let v406 : BitVec 1 := Scalar.cmpi .slt c4_i32_186 c0_i32_190
  let v407 : BitVec 32 := Scalar.extui v406
  let v408 : BitVec 32 := Scalar.subi v405 v407
  let v409 : BitVec 1 := Scalar.cmpi .ne v403 v408
  let v410 : BitVec 32 := Scalar.remsi v397 c4_i32_186
  let c0_i32_191 : BitVec 32 := 0#32
  let v411 : BitVec 1 := Scalar.cmpi .ne v410 c0_i32_191
  let v412 : BitVec 1 := Scalar.andi v409 v411
  let v398 : BitVec 32 := Scalar.divsi v397 c4_i32_186
  let c1_i32_192 : BitVec 32 := 1#32
  let v413 : BitVec 32 := Scalar.subi v398 c1_i32_192
  let v414 : BitVec 32 := Scalar.select v412 v413 v398
  let v415 : BitVec 32 := Scalar.subi v414 c0_i32_194
  let c1_i32_195 : BitVec 32 := 1#32
  let v417 : BitVec 32 := Scalar.divsi v415 c1_i32_195
  let v418 : BitVec 32 := Scalar.muli v417 c1_i32_195
  let v419 : BitVec 32 := Scalar.addi c0_i32_194 v418
  let c1_i32_197 : BitVec 32 := 1#32
  let arg22 : BitVec 32 := Scf.iv v419 c1_i32_197 k0_t18
  let c4_i32_201 : BitVec 32 := 4#32
  let v425 : BitVec 32 := Scalar.muli arg22 c4_i32_201
  let c1_i32_202 : BitVec 32 := 1#32
  let v426 : BitVec 32 := Scalar.addi v425 c1_i32_202
  let v427 : BitVec 1 := Scalar.cmpi .slt v426 v395
  let v428 : BitVec 32 := Scalar.extui v427
  let c0_i32_203 : BitVec 32 := 0#32
  let v429 : BitVec 1 := Scalar.cmpi .ne v428 c0_i32_203
  v429

def k0_off164 (v11_2 : BitVec 32) (k0_t18 : Fin (k0_t18_loop v11_2).trips) : Fin 1 → Nat :=
  let c0_i32_194 : BitVec 32 := 0#32
  let c128_i32_175 : BitVec 32 := 128#32
  let v377 : BitVec 32 := Scalar.addi v11_2 c128_i32_175
  let c1_i32_176 : BitVec 32 := 1#32
  let v378 : BitVec 32 := Scalar.subi v377 c1_i32_176
  let c0_i32_178 : BitVec 32 := 0#32
  let v380 : BitVec 1 := Scalar.cmpi .sgt v378 c0_i32_178
  let v381 : BitVec 32 := Scalar.extui v380
  let c0_i32_179 : BitVec 32 := 0#32
  let v382 : BitVec 1 := Scalar.cmpi .slt v378 c0_i32_179
  let v383 : BitVec 32 := Scalar.extui v382
  let v384 : BitVec 32 := Scalar.subi v381 v383
  let c128_i32_177 : BitVec 32 := 128#32
  let c0_i32_180 : BitVec 32 := 0#32
  let v385 : BitVec 1 := Scalar.cmpi .sgt c128_i32_177 c0_i32_180
  let v386 : BitVec 32 := Scalar.extui v385
  let c0_i32_181 : BitVec 32 := 0#32
  let v387 : BitVec 1 := Scalar.cmpi .slt c128_i32_177 c0_i32_181
  let v388 : BitVec 32 := Scalar.extui v387
  let v389 : BitVec 32 := Scalar.subi v386 v388
  let v390 : BitVec 1 := Scalar.cmpi .ne v384 v389
  let v391 : BitVec 32 := Scalar.remsi v378 c128_i32_177
  let c0_i32_182 : BitVec 32 := 0#32
  let v392 : BitVec 1 := Scalar.cmpi .ne v391 c0_i32_182
  let v393 : BitVec 1 := Scalar.andi v390 v392
  let v379 : BitVec 32 := Scalar.divsi v378 c128_i32_177
  let c1_i32_183 : BitVec 32 := 1#32
  let v394 : BitVec 32 := Scalar.subi v379 c1_i32_183
  let v395 : BitVec 32 := Scalar.select v393 v394 v379
  let c4_i32_184 : BitVec 32 := 4#32
  let v396 : BitVec 32 := Scalar.addi v395 c4_i32_184
  let c1_i32_185 : BitVec 32 := 1#32
  let v397 : BitVec 32 := Scalar.subi v396 c1_i32_185
  let c0_i32_187 : BitVec 32 := 0#32
  let v399 : BitVec 1 := Scalar.cmpi .sgt v397 c0_i32_187
  let v400 : BitVec 32 := Scalar.extui v399
  let c0_i32_188 : BitVec 32 := 0#32
  let v401 : BitVec 1 := Scalar.cmpi .slt v397 c0_i32_188
  let v402 : BitVec 32 := Scalar.extui v401
  let v403 : BitVec 32 := Scalar.subi v400 v402
  let c4_i32_186 : BitVec 32 := 4#32
  let c0_i32_189 : BitVec 32 := 0#32
  let v404 : BitVec 1 := Scalar.cmpi .sgt c4_i32_186 c0_i32_189
  let v405 : BitVec 32 := Scalar.extui v404
  let c0_i32_190 : BitVec 32 := 0#32
  let v406 : BitVec 1 := Scalar.cmpi .slt c4_i32_186 c0_i32_190
  let v407 : BitVec 32 := Scalar.extui v406
  let v408 : BitVec 32 := Scalar.subi v405 v407
  let v409 : BitVec 1 := Scalar.cmpi .ne v403 v408
  let v410 : BitVec 32 := Scalar.remsi v397 c4_i32_186
  let c0_i32_191 : BitVec 32 := 0#32
  let v411 : BitVec 1 := Scalar.cmpi .ne v410 c0_i32_191
  let v412 : BitVec 1 := Scalar.andi v409 v411
  let v398 : BitVec 32 := Scalar.divsi v397 c4_i32_186
  let c1_i32_192 : BitVec 32 := 1#32
  let v413 : BitVec 32 := Scalar.subi v398 c1_i32_192
  let v414 : BitVec 32 := Scalar.select v412 v413 v398
  let v415 : BitVec 32 := Scalar.subi v414 c0_i32_194
  let c1_i32_195 : BitVec 32 := 1#32
  let v417 : BitVec 32 := Scalar.divsi v415 c1_i32_195
  let v418 : BitVec 32 := Scalar.muli v417 c1_i32_195
  let v419 : BitVec 32 := Scalar.addi c0_i32_194 v418
  let c1_i32_197 : BitVec 32 := 1#32
  let arg22 : BitVec 32 := Scf.iv v419 c1_i32_197 k0_t18
  let c4_i32_204 : BitVec 32 := 4#32
  let v430 : BitVec 32 := Scalar.muli arg22 c4_i32_204
  let c2_i32_205 : BitVec 32 := 2#32
  let v431 : BitVec 32 := Scalar.addi v430 c2_i32_205
  let c128_i32_221 : BitVec 32 := 128#32
  let v460 : BitVec 32 := Scalar.muli v431 c128_i32_221
  ![v460.toNat]
def k0_cond155 (v11_2 : BitVec 32) (k0_t18 : Fin (k0_t18_loop v11_2).trips) : BitVec 1 :=
  let c0_i32_194 : BitVec 32 := 0#32
  let c128_i32_175 : BitVec 32 := 128#32
  let v377 : BitVec 32 := Scalar.addi v11_2 c128_i32_175
  let c1_i32_176 : BitVec 32 := 1#32
  let v378 : BitVec 32 := Scalar.subi v377 c1_i32_176
  let c0_i32_178 : BitVec 32 := 0#32
  let v380 : BitVec 1 := Scalar.cmpi .sgt v378 c0_i32_178
  let v381 : BitVec 32 := Scalar.extui v380
  let c0_i32_179 : BitVec 32 := 0#32
  let v382 : BitVec 1 := Scalar.cmpi .slt v378 c0_i32_179
  let v383 : BitVec 32 := Scalar.extui v382
  let v384 : BitVec 32 := Scalar.subi v381 v383
  let c128_i32_177 : BitVec 32 := 128#32
  let c0_i32_180 : BitVec 32 := 0#32
  let v385 : BitVec 1 := Scalar.cmpi .sgt c128_i32_177 c0_i32_180
  let v386 : BitVec 32 := Scalar.extui v385
  let c0_i32_181 : BitVec 32 := 0#32
  let v387 : BitVec 1 := Scalar.cmpi .slt c128_i32_177 c0_i32_181
  let v388 : BitVec 32 := Scalar.extui v387
  let v389 : BitVec 32 := Scalar.subi v386 v388
  let v390 : BitVec 1 := Scalar.cmpi .ne v384 v389
  let v391 : BitVec 32 := Scalar.remsi v378 c128_i32_177
  let c0_i32_182 : BitVec 32 := 0#32
  let v392 : BitVec 1 := Scalar.cmpi .ne v391 c0_i32_182
  let v393 : BitVec 1 := Scalar.andi v390 v392
  let v379 : BitVec 32 := Scalar.divsi v378 c128_i32_177
  let c1_i32_183 : BitVec 32 := 1#32
  let v394 : BitVec 32 := Scalar.subi v379 c1_i32_183
  let v395 : BitVec 32 := Scalar.select v393 v394 v379
  let c4_i32_184 : BitVec 32 := 4#32
  let v396 : BitVec 32 := Scalar.addi v395 c4_i32_184
  let c1_i32_185 : BitVec 32 := 1#32
  let v397 : BitVec 32 := Scalar.subi v396 c1_i32_185
  let c0_i32_187 : BitVec 32 := 0#32
  let v399 : BitVec 1 := Scalar.cmpi .sgt v397 c0_i32_187
  let v400 : BitVec 32 := Scalar.extui v399
  let c0_i32_188 : BitVec 32 := 0#32
  let v401 : BitVec 1 := Scalar.cmpi .slt v397 c0_i32_188
  let v402 : BitVec 32 := Scalar.extui v401
  let v403 : BitVec 32 := Scalar.subi v400 v402
  let c4_i32_186 : BitVec 32 := 4#32
  let c0_i32_189 : BitVec 32 := 0#32
  let v404 : BitVec 1 := Scalar.cmpi .sgt c4_i32_186 c0_i32_189
  let v405 : BitVec 32 := Scalar.extui v404
  let c0_i32_190 : BitVec 32 := 0#32
  let v406 : BitVec 1 := Scalar.cmpi .slt c4_i32_186 c0_i32_190
  let v407 : BitVec 32 := Scalar.extui v406
  let v408 : BitVec 32 := Scalar.subi v405 v407
  let v409 : BitVec 1 := Scalar.cmpi .ne v403 v408
  let v410 : BitVec 32 := Scalar.remsi v397 c4_i32_186
  let c0_i32_191 : BitVec 32 := 0#32
  let v411 : BitVec 1 := Scalar.cmpi .ne v410 c0_i32_191
  let v412 : BitVec 1 := Scalar.andi v409 v411
  let v398 : BitVec 32 := Scalar.divsi v397 c4_i32_186
  let c1_i32_192 : BitVec 32 := 1#32
  let v413 : BitVec 32 := Scalar.subi v398 c1_i32_192
  let v414 : BitVec 32 := Scalar.select v412 v413 v398
  let v415 : BitVec 32 := Scalar.subi v414 c0_i32_194
  let c1_i32_195 : BitVec 32 := 1#32
  let v417 : BitVec 32 := Scalar.divsi v415 c1_i32_195
  let v418 : BitVec 32 := Scalar.muli v417 c1_i32_195
  let v419 : BitVec 32 := Scalar.addi c0_i32_194 v418
  let c1_i32_197 : BitVec 32 := 1#32
  let arg22 : BitVec 32 := Scf.iv v419 c1_i32_197 k0_t18
  let c4_i32_204 : BitVec 32 := 4#32
  let v430 : BitVec 32 := Scalar.muli arg22 c4_i32_204
  let c2_i32_205 : BitVec 32 := 2#32
  let v431 : BitVec 32 := Scalar.addi v430 c2_i32_205
  let v432 : BitVec 1 := Scalar.cmpi .slt v431 v395
  let v433 : BitVec 32 := Scalar.extui v432
  let c0_i32_206 : BitVec 32 := 0#32
  let v434 : BitVec 1 := Scalar.cmpi .ne v433 c0_i32_206
  v434

def k0_off165 (v11_2 : BitVec 32) (k0_t18 : Fin (k0_t18_loop v11_2).trips) : Fin 1 → Nat :=
  let c0_i32_194 : BitVec 32 := 0#32
  let c128_i32_175 : BitVec 32 := 128#32
  let v377 : BitVec 32 := Scalar.addi v11_2 c128_i32_175
  let c1_i32_176 : BitVec 32 := 1#32
  let v378 : BitVec 32 := Scalar.subi v377 c1_i32_176
  let c0_i32_178 : BitVec 32 := 0#32
  let v380 : BitVec 1 := Scalar.cmpi .sgt v378 c0_i32_178
  let v381 : BitVec 32 := Scalar.extui v380
  let c0_i32_179 : BitVec 32 := 0#32
  let v382 : BitVec 1 := Scalar.cmpi .slt v378 c0_i32_179
  let v383 : BitVec 32 := Scalar.extui v382
  let v384 : BitVec 32 := Scalar.subi v381 v383
  let c128_i32_177 : BitVec 32 := 128#32
  let c0_i32_180 : BitVec 32 := 0#32
  let v385 : BitVec 1 := Scalar.cmpi .sgt c128_i32_177 c0_i32_180
  let v386 : BitVec 32 := Scalar.extui v385
  let c0_i32_181 : BitVec 32 := 0#32
  let v387 : BitVec 1 := Scalar.cmpi .slt c128_i32_177 c0_i32_181
  let v388 : BitVec 32 := Scalar.extui v387
  let v389 : BitVec 32 := Scalar.subi v386 v388
  let v390 : BitVec 1 := Scalar.cmpi .ne v384 v389
  let v391 : BitVec 32 := Scalar.remsi v378 c128_i32_177
  let c0_i32_182 : BitVec 32 := 0#32
  let v392 : BitVec 1 := Scalar.cmpi .ne v391 c0_i32_182
  let v393 : BitVec 1 := Scalar.andi v390 v392
  let v379 : BitVec 32 := Scalar.divsi v378 c128_i32_177
  let c1_i32_183 : BitVec 32 := 1#32
  let v394 : BitVec 32 := Scalar.subi v379 c1_i32_183
  let v395 : BitVec 32 := Scalar.select v393 v394 v379
  let c4_i32_184 : BitVec 32 := 4#32
  let v396 : BitVec 32 := Scalar.addi v395 c4_i32_184
  let c1_i32_185 : BitVec 32 := 1#32
  let v397 : BitVec 32 := Scalar.subi v396 c1_i32_185
  let c0_i32_187 : BitVec 32 := 0#32
  let v399 : BitVec 1 := Scalar.cmpi .sgt v397 c0_i32_187
  let v400 : BitVec 32 := Scalar.extui v399
  let c0_i32_188 : BitVec 32 := 0#32
  let v401 : BitVec 1 := Scalar.cmpi .slt v397 c0_i32_188
  let v402 : BitVec 32 := Scalar.extui v401
  let v403 : BitVec 32 := Scalar.subi v400 v402
  let c4_i32_186 : BitVec 32 := 4#32
  let c0_i32_189 : BitVec 32 := 0#32
  let v404 : BitVec 1 := Scalar.cmpi .sgt c4_i32_186 c0_i32_189
  let v405 : BitVec 32 := Scalar.extui v404
  let c0_i32_190 : BitVec 32 := 0#32
  let v406 : BitVec 1 := Scalar.cmpi .slt c4_i32_186 c0_i32_190
  let v407 : BitVec 32 := Scalar.extui v406
  let v408 : BitVec 32 := Scalar.subi v405 v407
  let v409 : BitVec 1 := Scalar.cmpi .ne v403 v408
  let v410 : BitVec 32 := Scalar.remsi v397 c4_i32_186
  let c0_i32_191 : BitVec 32 := 0#32
  let v411 : BitVec 1 := Scalar.cmpi .ne v410 c0_i32_191
  let v412 : BitVec 1 := Scalar.andi v409 v411
  let v398 : BitVec 32 := Scalar.divsi v397 c4_i32_186
  let c1_i32_192 : BitVec 32 := 1#32
  let v413 : BitVec 32 := Scalar.subi v398 c1_i32_192
  let v414 : BitVec 32 := Scalar.select v412 v413 v398
  let v415 : BitVec 32 := Scalar.subi v414 c0_i32_194
  let c1_i32_195 : BitVec 32 := 1#32
  let v417 : BitVec 32 := Scalar.divsi v415 c1_i32_195
  let v418 : BitVec 32 := Scalar.muli v417 c1_i32_195
  let v419 : BitVec 32 := Scalar.addi c0_i32_194 v418
  let c1_i32_197 : BitVec 32 := 1#32
  let arg22 : BitVec 32 := Scf.iv v419 c1_i32_197 k0_t18
  let c4_i32_207 : BitVec 32 := 4#32
  let v435 : BitVec 32 := Scalar.muli arg22 c4_i32_207
  let c3_i32 : BitVec 32 := 3#32
  let v436 : BitVec 32 := Scalar.addi v435 c3_i32
  let c128_i32_221 : BitVec 32 := 128#32
  let v460 : BitVec 32 := Scalar.muli v436 c128_i32_221
  ![v460.toNat]
def k0_cond156 (v11_2 : BitVec 32) (k0_t18 : Fin (k0_t18_loop v11_2).trips) : BitVec 1 :=
  let c0_i32_194 : BitVec 32 := 0#32
  let c128_i32_175 : BitVec 32 := 128#32
  let v377 : BitVec 32 := Scalar.addi v11_2 c128_i32_175
  let c1_i32_176 : BitVec 32 := 1#32
  let v378 : BitVec 32 := Scalar.subi v377 c1_i32_176
  let c0_i32_178 : BitVec 32 := 0#32
  let v380 : BitVec 1 := Scalar.cmpi .sgt v378 c0_i32_178
  let v381 : BitVec 32 := Scalar.extui v380
  let c0_i32_179 : BitVec 32 := 0#32
  let v382 : BitVec 1 := Scalar.cmpi .slt v378 c0_i32_179
  let v383 : BitVec 32 := Scalar.extui v382
  let v384 : BitVec 32 := Scalar.subi v381 v383
  let c128_i32_177 : BitVec 32 := 128#32
  let c0_i32_180 : BitVec 32 := 0#32
  let v385 : BitVec 1 := Scalar.cmpi .sgt c128_i32_177 c0_i32_180
  let v386 : BitVec 32 := Scalar.extui v385
  let c0_i32_181 : BitVec 32 := 0#32
  let v387 : BitVec 1 := Scalar.cmpi .slt c128_i32_177 c0_i32_181
  let v388 : BitVec 32 := Scalar.extui v387
  let v389 : BitVec 32 := Scalar.subi v386 v388
  let v390 : BitVec 1 := Scalar.cmpi .ne v384 v389
  let v391 : BitVec 32 := Scalar.remsi v378 c128_i32_177
  let c0_i32_182 : BitVec 32 := 0#32
  let v392 : BitVec 1 := Scalar.cmpi .ne v391 c0_i32_182
  let v393 : BitVec 1 := Scalar.andi v390 v392
  let v379 : BitVec 32 := Scalar.divsi v378 c128_i32_177
  let c1_i32_183 : BitVec 32 := 1#32
  let v394 : BitVec 32 := Scalar.subi v379 c1_i32_183
  let v395 : BitVec 32 := Scalar.select v393 v394 v379
  let c4_i32_184 : BitVec 32 := 4#32
  let v396 : BitVec 32 := Scalar.addi v395 c4_i32_184
  let c1_i32_185 : BitVec 32 := 1#32
  let v397 : BitVec 32 := Scalar.subi v396 c1_i32_185
  let c0_i32_187 : BitVec 32 := 0#32
  let v399 : BitVec 1 := Scalar.cmpi .sgt v397 c0_i32_187
  let v400 : BitVec 32 := Scalar.extui v399
  let c0_i32_188 : BitVec 32 := 0#32
  let v401 : BitVec 1 := Scalar.cmpi .slt v397 c0_i32_188
  let v402 : BitVec 32 := Scalar.extui v401
  let v403 : BitVec 32 := Scalar.subi v400 v402
  let c4_i32_186 : BitVec 32 := 4#32
  let c0_i32_189 : BitVec 32 := 0#32
  let v404 : BitVec 1 := Scalar.cmpi .sgt c4_i32_186 c0_i32_189
  let v405 : BitVec 32 := Scalar.extui v404
  let c0_i32_190 : BitVec 32 := 0#32
  let v406 : BitVec 1 := Scalar.cmpi .slt c4_i32_186 c0_i32_190
  let v407 : BitVec 32 := Scalar.extui v406
  let v408 : BitVec 32 := Scalar.subi v405 v407
  let v409 : BitVec 1 := Scalar.cmpi .ne v403 v408
  let v410 : BitVec 32 := Scalar.remsi v397 c4_i32_186
  let c0_i32_191 : BitVec 32 := 0#32
  let v411 : BitVec 1 := Scalar.cmpi .ne v410 c0_i32_191
  let v412 : BitVec 1 := Scalar.andi v409 v411
  let v398 : BitVec 32 := Scalar.divsi v397 c4_i32_186
  let c1_i32_192 : BitVec 32 := 1#32
  let v413 : BitVec 32 := Scalar.subi v398 c1_i32_192
  let v414 : BitVec 32 := Scalar.select v412 v413 v398
  let v415 : BitVec 32 := Scalar.subi v414 c0_i32_194
  let c1_i32_195 : BitVec 32 := 1#32
  let v417 : BitVec 32 := Scalar.divsi v415 c1_i32_195
  let v418 : BitVec 32 := Scalar.muli v417 c1_i32_195
  let v419 : BitVec 32 := Scalar.addi c0_i32_194 v418
  let c1_i32_197 : BitVec 32 := 1#32
  let arg22 : BitVec 32 := Scf.iv v419 c1_i32_197 k0_t18
  let c4_i32_207 : BitVec 32 := 4#32
  let v435 : BitVec 32 := Scalar.muli arg22 c4_i32_207
  let c3_i32 : BitVec 32 := 3#32
  let v436 : BitVec 32 := Scalar.addi v435 c3_i32
  let v437 : BitVec 1 := Scalar.cmpi .slt v436 v395
  let v438 : BitVec 32 := Scalar.extui v437
  let c0_i32_208 : BitVec 32 := 0#32
  let v439 : BitVec 1 := Scalar.cmpi .ne v438 c0_i32_208
  v439

def k0_off166 (v11_2 : BitVec 32) (k0_t18 : Fin (k0_t18_loop v11_2).trips) : Fin 1 → Nat :=
  let c0_i32_194 : BitVec 32 := 0#32
  let c128_i32_175 : BitVec 32 := 128#32
  let v377 : BitVec 32 := Scalar.addi v11_2 c128_i32_175
  let c1_i32_176 : BitVec 32 := 1#32
  let v378 : BitVec 32 := Scalar.subi v377 c1_i32_176
  let c0_i32_178 : BitVec 32 := 0#32
  let v380 : BitVec 1 := Scalar.cmpi .sgt v378 c0_i32_178
  let v381 : BitVec 32 := Scalar.extui v380
  let c0_i32_179 : BitVec 32 := 0#32
  let v382 : BitVec 1 := Scalar.cmpi .slt v378 c0_i32_179
  let v383 : BitVec 32 := Scalar.extui v382
  let v384 : BitVec 32 := Scalar.subi v381 v383
  let c128_i32_177 : BitVec 32 := 128#32
  let c0_i32_180 : BitVec 32 := 0#32
  let v385 : BitVec 1 := Scalar.cmpi .sgt c128_i32_177 c0_i32_180
  let v386 : BitVec 32 := Scalar.extui v385
  let c0_i32_181 : BitVec 32 := 0#32
  let v387 : BitVec 1 := Scalar.cmpi .slt c128_i32_177 c0_i32_181
  let v388 : BitVec 32 := Scalar.extui v387
  let v389 : BitVec 32 := Scalar.subi v386 v388
  let v390 : BitVec 1 := Scalar.cmpi .ne v384 v389
  let v391 : BitVec 32 := Scalar.remsi v378 c128_i32_177
  let c0_i32_182 : BitVec 32 := 0#32
  let v392 : BitVec 1 := Scalar.cmpi .ne v391 c0_i32_182
  let v393 : BitVec 1 := Scalar.andi v390 v392
  let v379 : BitVec 32 := Scalar.divsi v378 c128_i32_177
  let c1_i32_183 : BitVec 32 := 1#32
  let v394 : BitVec 32 := Scalar.subi v379 c1_i32_183
  let v395 : BitVec 32 := Scalar.select v393 v394 v379
  let c4_i32_184 : BitVec 32 := 4#32
  let v396 : BitVec 32 := Scalar.addi v395 c4_i32_184
  let c1_i32_185 : BitVec 32 := 1#32
  let v397 : BitVec 32 := Scalar.subi v396 c1_i32_185
  let c0_i32_187 : BitVec 32 := 0#32
  let v399 : BitVec 1 := Scalar.cmpi .sgt v397 c0_i32_187
  let v400 : BitVec 32 := Scalar.extui v399
  let c0_i32_188 : BitVec 32 := 0#32
  let v401 : BitVec 1 := Scalar.cmpi .slt v397 c0_i32_188
  let v402 : BitVec 32 := Scalar.extui v401
  let v403 : BitVec 32 := Scalar.subi v400 v402
  let c4_i32_186 : BitVec 32 := 4#32
  let c0_i32_189 : BitVec 32 := 0#32
  let v404 : BitVec 1 := Scalar.cmpi .sgt c4_i32_186 c0_i32_189
  let v405 : BitVec 32 := Scalar.extui v404
  let c0_i32_190 : BitVec 32 := 0#32
  let v406 : BitVec 1 := Scalar.cmpi .slt c4_i32_186 c0_i32_190
  let v407 : BitVec 32 := Scalar.extui v406
  let v408 : BitVec 32 := Scalar.subi v405 v407
  let v409 : BitVec 1 := Scalar.cmpi .ne v403 v408
  let v410 : BitVec 32 := Scalar.remsi v397 c4_i32_186
  let c0_i32_191 : BitVec 32 := 0#32
  let v411 : BitVec 1 := Scalar.cmpi .ne v410 c0_i32_191
  let v412 : BitVec 1 := Scalar.andi v409 v411
  let v398 : BitVec 32 := Scalar.divsi v397 c4_i32_186
  let c1_i32_192 : BitVec 32 := 1#32
  let v413 : BitVec 32 := Scalar.subi v398 c1_i32_192
  let v414 : BitVec 32 := Scalar.select v412 v413 v398
  let v415 : BitVec 32 := Scalar.subi v414 c0_i32_194
  let c1_i32_195 : BitVec 32 := 1#32
  let v417 : BitVec 32 := Scalar.divsi v415 c1_i32_195
  let v418 : BitVec 32 := Scalar.muli v417 c1_i32_195
  let v419 : BitVec 32 := Scalar.addi c0_i32_194 v418
  let c1_i32_197 : BitVec 32 := 1#32
  let arg22 : BitVec 32 := Scf.iv v419 c1_i32_197 k0_t18
  let c4_i32_209 : BitVec 32 := 4#32
  let v440 : BitVec 32 := Scalar.muli arg22 c4_i32_209
  let c0_i32_210 : BitVec 32 := 0#32
  let v441 : BitVec 32 := Scalar.addi v440 c0_i32_210
  let c128_i32_221 : BitVec 32 := 128#32
  let v460 : BitVec 32 := Scalar.muli v441 c128_i32_221
  ![v460.toNat]
def k0_cond157 (v11_2 : BitVec 32) (k0_t18 : Fin (k0_t18_loop v11_2).trips) : BitVec 1 :=
  let c0_i32_194 : BitVec 32 := 0#32
  let c128_i32_175 : BitVec 32 := 128#32
  let v377 : BitVec 32 := Scalar.addi v11_2 c128_i32_175
  let c1_i32_176 : BitVec 32 := 1#32
  let v378 : BitVec 32 := Scalar.subi v377 c1_i32_176
  let c0_i32_178 : BitVec 32 := 0#32
  let v380 : BitVec 1 := Scalar.cmpi .sgt v378 c0_i32_178
  let v381 : BitVec 32 := Scalar.extui v380
  let c0_i32_179 : BitVec 32 := 0#32
  let v382 : BitVec 1 := Scalar.cmpi .slt v378 c0_i32_179
  let v383 : BitVec 32 := Scalar.extui v382
  let v384 : BitVec 32 := Scalar.subi v381 v383
  let c128_i32_177 : BitVec 32 := 128#32
  let c0_i32_180 : BitVec 32 := 0#32
  let v385 : BitVec 1 := Scalar.cmpi .sgt c128_i32_177 c0_i32_180
  let v386 : BitVec 32 := Scalar.extui v385
  let c0_i32_181 : BitVec 32 := 0#32
  let v387 : BitVec 1 := Scalar.cmpi .slt c128_i32_177 c0_i32_181
  let v388 : BitVec 32 := Scalar.extui v387
  let v389 : BitVec 32 := Scalar.subi v386 v388
  let v390 : BitVec 1 := Scalar.cmpi .ne v384 v389
  let v391 : BitVec 32 := Scalar.remsi v378 c128_i32_177
  let c0_i32_182 : BitVec 32 := 0#32
  let v392 : BitVec 1 := Scalar.cmpi .ne v391 c0_i32_182
  let v393 : BitVec 1 := Scalar.andi v390 v392
  let v379 : BitVec 32 := Scalar.divsi v378 c128_i32_177
  let c1_i32_183 : BitVec 32 := 1#32
  let v394 : BitVec 32 := Scalar.subi v379 c1_i32_183
  let v395 : BitVec 32 := Scalar.select v393 v394 v379
  let c4_i32_184 : BitVec 32 := 4#32
  let v396 : BitVec 32 := Scalar.addi v395 c4_i32_184
  let c1_i32_185 : BitVec 32 := 1#32
  let v397 : BitVec 32 := Scalar.subi v396 c1_i32_185
  let c0_i32_187 : BitVec 32 := 0#32
  let v399 : BitVec 1 := Scalar.cmpi .sgt v397 c0_i32_187
  let v400 : BitVec 32 := Scalar.extui v399
  let c0_i32_188 : BitVec 32 := 0#32
  let v401 : BitVec 1 := Scalar.cmpi .slt v397 c0_i32_188
  let v402 : BitVec 32 := Scalar.extui v401
  let v403 : BitVec 32 := Scalar.subi v400 v402
  let c4_i32_186 : BitVec 32 := 4#32
  let c0_i32_189 : BitVec 32 := 0#32
  let v404 : BitVec 1 := Scalar.cmpi .sgt c4_i32_186 c0_i32_189
  let v405 : BitVec 32 := Scalar.extui v404
  let c0_i32_190 : BitVec 32 := 0#32
  let v406 : BitVec 1 := Scalar.cmpi .slt c4_i32_186 c0_i32_190
  let v407 : BitVec 32 := Scalar.extui v406
  let v408 : BitVec 32 := Scalar.subi v405 v407
  let v409 : BitVec 1 := Scalar.cmpi .ne v403 v408
  let v410 : BitVec 32 := Scalar.remsi v397 c4_i32_186
  let c0_i32_191 : BitVec 32 := 0#32
  let v411 : BitVec 1 := Scalar.cmpi .ne v410 c0_i32_191
  let v412 : BitVec 1 := Scalar.andi v409 v411
  let v398 : BitVec 32 := Scalar.divsi v397 c4_i32_186
  let c1_i32_192 : BitVec 32 := 1#32
  let v413 : BitVec 32 := Scalar.subi v398 c1_i32_192
  let v414 : BitVec 32 := Scalar.select v412 v413 v398
  let v415 : BitVec 32 := Scalar.subi v414 c0_i32_194
  let c1_i32_195 : BitVec 32 := 1#32
  let v417 : BitVec 32 := Scalar.divsi v415 c1_i32_195
  let v418 : BitVec 32 := Scalar.muli v417 c1_i32_195
  let v419 : BitVec 32 := Scalar.addi c0_i32_194 v418
  let c1_i32_197 : BitVec 32 := 1#32
  let arg22 : BitVec 32 := Scf.iv v419 c1_i32_197 k0_t18
  let c4_i32_209 : BitVec 32 := 4#32
  let v440 : BitVec 32 := Scalar.muli arg22 c4_i32_209
  let c0_i32_210 : BitVec 32 := 0#32
  let v441 : BitVec 32 := Scalar.addi v440 c0_i32_210
  let v442 : BitVec 1 := Scalar.cmpi .slt v441 v395
  let v443 : BitVec 32 := Scalar.extui v442
  let c0_i32_211 : BitVec 32 := 0#32
  let v444 : BitVec 1 := Scalar.cmpi .ne v443 c0_i32_211
  v444

def k0_off167 (v11_2 : BitVec 32) (k0_t18 : Fin (k0_t18_loop v11_2).trips) : Fin 1 → Nat :=
  let c0_i32_194 : BitVec 32 := 0#32
  let c128_i32_175 : BitVec 32 := 128#32
  let v377 : BitVec 32 := Scalar.addi v11_2 c128_i32_175
  let c1_i32_176 : BitVec 32 := 1#32
  let v378 : BitVec 32 := Scalar.subi v377 c1_i32_176
  let c0_i32_178 : BitVec 32 := 0#32
  let v380 : BitVec 1 := Scalar.cmpi .sgt v378 c0_i32_178
  let v381 : BitVec 32 := Scalar.extui v380
  let c0_i32_179 : BitVec 32 := 0#32
  let v382 : BitVec 1 := Scalar.cmpi .slt v378 c0_i32_179
  let v383 : BitVec 32 := Scalar.extui v382
  let v384 : BitVec 32 := Scalar.subi v381 v383
  let c128_i32_177 : BitVec 32 := 128#32
  let c0_i32_180 : BitVec 32 := 0#32
  let v385 : BitVec 1 := Scalar.cmpi .sgt c128_i32_177 c0_i32_180
  let v386 : BitVec 32 := Scalar.extui v385
  let c0_i32_181 : BitVec 32 := 0#32
  let v387 : BitVec 1 := Scalar.cmpi .slt c128_i32_177 c0_i32_181
  let v388 : BitVec 32 := Scalar.extui v387
  let v389 : BitVec 32 := Scalar.subi v386 v388
  let v390 : BitVec 1 := Scalar.cmpi .ne v384 v389
  let v391 : BitVec 32 := Scalar.remsi v378 c128_i32_177
  let c0_i32_182 : BitVec 32 := 0#32
  let v392 : BitVec 1 := Scalar.cmpi .ne v391 c0_i32_182
  let v393 : BitVec 1 := Scalar.andi v390 v392
  let v379 : BitVec 32 := Scalar.divsi v378 c128_i32_177
  let c1_i32_183 : BitVec 32 := 1#32
  let v394 : BitVec 32 := Scalar.subi v379 c1_i32_183
  let v395 : BitVec 32 := Scalar.select v393 v394 v379
  let c4_i32_184 : BitVec 32 := 4#32
  let v396 : BitVec 32 := Scalar.addi v395 c4_i32_184
  let c1_i32_185 : BitVec 32 := 1#32
  let v397 : BitVec 32 := Scalar.subi v396 c1_i32_185
  let c0_i32_187 : BitVec 32 := 0#32
  let v399 : BitVec 1 := Scalar.cmpi .sgt v397 c0_i32_187
  let v400 : BitVec 32 := Scalar.extui v399
  let c0_i32_188 : BitVec 32 := 0#32
  let v401 : BitVec 1 := Scalar.cmpi .slt v397 c0_i32_188
  let v402 : BitVec 32 := Scalar.extui v401
  let v403 : BitVec 32 := Scalar.subi v400 v402
  let c4_i32_186 : BitVec 32 := 4#32
  let c0_i32_189 : BitVec 32 := 0#32
  let v404 : BitVec 1 := Scalar.cmpi .sgt c4_i32_186 c0_i32_189
  let v405 : BitVec 32 := Scalar.extui v404
  let c0_i32_190 : BitVec 32 := 0#32
  let v406 : BitVec 1 := Scalar.cmpi .slt c4_i32_186 c0_i32_190
  let v407 : BitVec 32 := Scalar.extui v406
  let v408 : BitVec 32 := Scalar.subi v405 v407
  let v409 : BitVec 1 := Scalar.cmpi .ne v403 v408
  let v410 : BitVec 32 := Scalar.remsi v397 c4_i32_186
  let c0_i32_191 : BitVec 32 := 0#32
  let v411 : BitVec 1 := Scalar.cmpi .ne v410 c0_i32_191
  let v412 : BitVec 1 := Scalar.andi v409 v411
  let v398 : BitVec 32 := Scalar.divsi v397 c4_i32_186
  let c1_i32_192 : BitVec 32 := 1#32
  let v413 : BitVec 32 := Scalar.subi v398 c1_i32_192
  let v414 : BitVec 32 := Scalar.select v412 v413 v398
  let v415 : BitVec 32 := Scalar.subi v414 c0_i32_194
  let c1_i32_195 : BitVec 32 := 1#32
  let v417 : BitVec 32 := Scalar.divsi v415 c1_i32_195
  let v418 : BitVec 32 := Scalar.muli v417 c1_i32_195
  let v419 : BitVec 32 := Scalar.addi c0_i32_194 v418
  let c1_i32_197 : BitVec 32 := 1#32
  let arg22 : BitVec 32 := Scf.iv v419 c1_i32_197 k0_t18
  let c4_i32_212 : BitVec 32 := 4#32
  let v445 : BitVec 32 := Scalar.muli arg22 c4_i32_212
  let c1_i32_213 : BitVec 32 := 1#32
  let v446 : BitVec 32 := Scalar.addi v445 c1_i32_213
  let c128_i32_221 : BitVec 32 := 128#32
  let v460 : BitVec 32 := Scalar.muli v446 c128_i32_221
  ![v460.toNat]
def k0_cond158 (v11_2 : BitVec 32) (k0_t18 : Fin (k0_t18_loop v11_2).trips) : BitVec 1 :=
  let c0_i32_194 : BitVec 32 := 0#32
  let c128_i32_175 : BitVec 32 := 128#32
  let v377 : BitVec 32 := Scalar.addi v11_2 c128_i32_175
  let c1_i32_176 : BitVec 32 := 1#32
  let v378 : BitVec 32 := Scalar.subi v377 c1_i32_176
  let c0_i32_178 : BitVec 32 := 0#32
  let v380 : BitVec 1 := Scalar.cmpi .sgt v378 c0_i32_178
  let v381 : BitVec 32 := Scalar.extui v380
  let c0_i32_179 : BitVec 32 := 0#32
  let v382 : BitVec 1 := Scalar.cmpi .slt v378 c0_i32_179
  let v383 : BitVec 32 := Scalar.extui v382
  let v384 : BitVec 32 := Scalar.subi v381 v383
  let c128_i32_177 : BitVec 32 := 128#32
  let c0_i32_180 : BitVec 32 := 0#32
  let v385 : BitVec 1 := Scalar.cmpi .sgt c128_i32_177 c0_i32_180
  let v386 : BitVec 32 := Scalar.extui v385
  let c0_i32_181 : BitVec 32 := 0#32
  let v387 : BitVec 1 := Scalar.cmpi .slt c128_i32_177 c0_i32_181
  let v388 : BitVec 32 := Scalar.extui v387
  let v389 : BitVec 32 := Scalar.subi v386 v388
  let v390 : BitVec 1 := Scalar.cmpi .ne v384 v389
  let v391 : BitVec 32 := Scalar.remsi v378 c128_i32_177
  let c0_i32_182 : BitVec 32 := 0#32
  let v392 : BitVec 1 := Scalar.cmpi .ne v391 c0_i32_182
  let v393 : BitVec 1 := Scalar.andi v390 v392
  let v379 : BitVec 32 := Scalar.divsi v378 c128_i32_177
  let c1_i32_183 : BitVec 32 := 1#32
  let v394 : BitVec 32 := Scalar.subi v379 c1_i32_183
  let v395 : BitVec 32 := Scalar.select v393 v394 v379
  let c4_i32_184 : BitVec 32 := 4#32
  let v396 : BitVec 32 := Scalar.addi v395 c4_i32_184
  let c1_i32_185 : BitVec 32 := 1#32
  let v397 : BitVec 32 := Scalar.subi v396 c1_i32_185
  let c0_i32_187 : BitVec 32 := 0#32
  let v399 : BitVec 1 := Scalar.cmpi .sgt v397 c0_i32_187
  let v400 : BitVec 32 := Scalar.extui v399
  let c0_i32_188 : BitVec 32 := 0#32
  let v401 : BitVec 1 := Scalar.cmpi .slt v397 c0_i32_188
  let v402 : BitVec 32 := Scalar.extui v401
  let v403 : BitVec 32 := Scalar.subi v400 v402
  let c4_i32_186 : BitVec 32 := 4#32
  let c0_i32_189 : BitVec 32 := 0#32
  let v404 : BitVec 1 := Scalar.cmpi .sgt c4_i32_186 c0_i32_189
  let v405 : BitVec 32 := Scalar.extui v404
  let c0_i32_190 : BitVec 32 := 0#32
  let v406 : BitVec 1 := Scalar.cmpi .slt c4_i32_186 c0_i32_190
  let v407 : BitVec 32 := Scalar.extui v406
  let v408 : BitVec 32 := Scalar.subi v405 v407
  let v409 : BitVec 1 := Scalar.cmpi .ne v403 v408
  let v410 : BitVec 32 := Scalar.remsi v397 c4_i32_186
  let c0_i32_191 : BitVec 32 := 0#32
  let v411 : BitVec 1 := Scalar.cmpi .ne v410 c0_i32_191
  let v412 : BitVec 1 := Scalar.andi v409 v411
  let v398 : BitVec 32 := Scalar.divsi v397 c4_i32_186
  let c1_i32_192 : BitVec 32 := 1#32
  let v413 : BitVec 32 := Scalar.subi v398 c1_i32_192
  let v414 : BitVec 32 := Scalar.select v412 v413 v398
  let v415 : BitVec 32 := Scalar.subi v414 c0_i32_194
  let c1_i32_195 : BitVec 32 := 1#32
  let v417 : BitVec 32 := Scalar.divsi v415 c1_i32_195
  let v418 : BitVec 32 := Scalar.muli v417 c1_i32_195
  let v419 : BitVec 32 := Scalar.addi c0_i32_194 v418
  let c1_i32_197 : BitVec 32 := 1#32
  let arg22 : BitVec 32 := Scf.iv v419 c1_i32_197 k0_t18
  let c4_i32_212 : BitVec 32 := 4#32
  let v445 : BitVec 32 := Scalar.muli arg22 c4_i32_212
  let c1_i32_213 : BitVec 32 := 1#32
  let v446 : BitVec 32 := Scalar.addi v445 c1_i32_213
  let v447 : BitVec 1 := Scalar.cmpi .slt v446 v395
  let v448 : BitVec 32 := Scalar.extui v447
  let c0_i32_214 : BitVec 32 := 0#32
  let v449 : BitVec 1 := Scalar.cmpi .ne v448 c0_i32_214
  v449

def k0_off168 (v11_2 : BitVec 32) (k0_t18 : Fin (k0_t18_loop v11_2).trips) : Fin 1 → Nat :=
  let c0_i32_194 : BitVec 32 := 0#32
  let c128_i32_175 : BitVec 32 := 128#32
  let v377 : BitVec 32 := Scalar.addi v11_2 c128_i32_175
  let c1_i32_176 : BitVec 32 := 1#32
  let v378 : BitVec 32 := Scalar.subi v377 c1_i32_176
  let c0_i32_178 : BitVec 32 := 0#32
  let v380 : BitVec 1 := Scalar.cmpi .sgt v378 c0_i32_178
  let v381 : BitVec 32 := Scalar.extui v380
  let c0_i32_179 : BitVec 32 := 0#32
  let v382 : BitVec 1 := Scalar.cmpi .slt v378 c0_i32_179
  let v383 : BitVec 32 := Scalar.extui v382
  let v384 : BitVec 32 := Scalar.subi v381 v383
  let c128_i32_177 : BitVec 32 := 128#32
  let c0_i32_180 : BitVec 32 := 0#32
  let v385 : BitVec 1 := Scalar.cmpi .sgt c128_i32_177 c0_i32_180
  let v386 : BitVec 32 := Scalar.extui v385
  let c0_i32_181 : BitVec 32 := 0#32
  let v387 : BitVec 1 := Scalar.cmpi .slt c128_i32_177 c0_i32_181
  let v388 : BitVec 32 := Scalar.extui v387
  let v389 : BitVec 32 := Scalar.subi v386 v388
  let v390 : BitVec 1 := Scalar.cmpi .ne v384 v389
  let v391 : BitVec 32 := Scalar.remsi v378 c128_i32_177
  let c0_i32_182 : BitVec 32 := 0#32
  let v392 : BitVec 1 := Scalar.cmpi .ne v391 c0_i32_182
  let v393 : BitVec 1 := Scalar.andi v390 v392
  let v379 : BitVec 32 := Scalar.divsi v378 c128_i32_177
  let c1_i32_183 : BitVec 32 := 1#32
  let v394 : BitVec 32 := Scalar.subi v379 c1_i32_183
  let v395 : BitVec 32 := Scalar.select v393 v394 v379
  let c4_i32_184 : BitVec 32 := 4#32
  let v396 : BitVec 32 := Scalar.addi v395 c4_i32_184
  let c1_i32_185 : BitVec 32 := 1#32
  let v397 : BitVec 32 := Scalar.subi v396 c1_i32_185
  let c0_i32_187 : BitVec 32 := 0#32
  let v399 : BitVec 1 := Scalar.cmpi .sgt v397 c0_i32_187
  let v400 : BitVec 32 := Scalar.extui v399
  let c0_i32_188 : BitVec 32 := 0#32
  let v401 : BitVec 1 := Scalar.cmpi .slt v397 c0_i32_188
  let v402 : BitVec 32 := Scalar.extui v401
  let v403 : BitVec 32 := Scalar.subi v400 v402
  let c4_i32_186 : BitVec 32 := 4#32
  let c0_i32_189 : BitVec 32 := 0#32
  let v404 : BitVec 1 := Scalar.cmpi .sgt c4_i32_186 c0_i32_189
  let v405 : BitVec 32 := Scalar.extui v404
  let c0_i32_190 : BitVec 32 := 0#32
  let v406 : BitVec 1 := Scalar.cmpi .slt c4_i32_186 c0_i32_190
  let v407 : BitVec 32 := Scalar.extui v406
  let v408 : BitVec 32 := Scalar.subi v405 v407
  let v409 : BitVec 1 := Scalar.cmpi .ne v403 v408
  let v410 : BitVec 32 := Scalar.remsi v397 c4_i32_186
  let c0_i32_191 : BitVec 32 := 0#32
  let v411 : BitVec 1 := Scalar.cmpi .ne v410 c0_i32_191
  let v412 : BitVec 1 := Scalar.andi v409 v411
  let v398 : BitVec 32 := Scalar.divsi v397 c4_i32_186
  let c1_i32_192 : BitVec 32 := 1#32
  let v413 : BitVec 32 := Scalar.subi v398 c1_i32_192
  let v414 : BitVec 32 := Scalar.select v412 v413 v398
  let v415 : BitVec 32 := Scalar.subi v414 c0_i32_194
  let c1_i32_195 : BitVec 32 := 1#32
  let v417 : BitVec 32 := Scalar.divsi v415 c1_i32_195
  let v418 : BitVec 32 := Scalar.muli v417 c1_i32_195
  let v419 : BitVec 32 := Scalar.addi c0_i32_194 v418
  let c1_i32_197 : BitVec 32 := 1#32
  let arg22 : BitVec 32 := Scf.iv v419 c1_i32_197 k0_t18
  let c4_i32_215 : BitVec 32 := 4#32
  let v450 : BitVec 32 := Scalar.muli arg22 c4_i32_215
  let c2_i32_216 : BitVec 32 := 2#32
  let v451 : BitVec 32 := Scalar.addi v450 c2_i32_216
  let c128_i32_221 : BitVec 32 := 128#32
  let v460 : BitVec 32 := Scalar.muli v451 c128_i32_221
  ![v460.toNat]
def k0_cond159 (v11_2 : BitVec 32) (k0_t18 : Fin (k0_t18_loop v11_2).trips) : BitVec 1 :=
  let c0_i32_194 : BitVec 32 := 0#32
  let c128_i32_175 : BitVec 32 := 128#32
  let v377 : BitVec 32 := Scalar.addi v11_2 c128_i32_175
  let c1_i32_176 : BitVec 32 := 1#32
  let v378 : BitVec 32 := Scalar.subi v377 c1_i32_176
  let c0_i32_178 : BitVec 32 := 0#32
  let v380 : BitVec 1 := Scalar.cmpi .sgt v378 c0_i32_178
  let v381 : BitVec 32 := Scalar.extui v380
  let c0_i32_179 : BitVec 32 := 0#32
  let v382 : BitVec 1 := Scalar.cmpi .slt v378 c0_i32_179
  let v383 : BitVec 32 := Scalar.extui v382
  let v384 : BitVec 32 := Scalar.subi v381 v383
  let c128_i32_177 : BitVec 32 := 128#32
  let c0_i32_180 : BitVec 32 := 0#32
  let v385 : BitVec 1 := Scalar.cmpi .sgt c128_i32_177 c0_i32_180
  let v386 : BitVec 32 := Scalar.extui v385
  let c0_i32_181 : BitVec 32 := 0#32
  let v387 : BitVec 1 := Scalar.cmpi .slt c128_i32_177 c0_i32_181
  let v388 : BitVec 32 := Scalar.extui v387
  let v389 : BitVec 32 := Scalar.subi v386 v388
  let v390 : BitVec 1 := Scalar.cmpi .ne v384 v389
  let v391 : BitVec 32 := Scalar.remsi v378 c128_i32_177
  let c0_i32_182 : BitVec 32 := 0#32
  let v392 : BitVec 1 := Scalar.cmpi .ne v391 c0_i32_182
  let v393 : BitVec 1 := Scalar.andi v390 v392
  let v379 : BitVec 32 := Scalar.divsi v378 c128_i32_177
  let c1_i32_183 : BitVec 32 := 1#32
  let v394 : BitVec 32 := Scalar.subi v379 c1_i32_183
  let v395 : BitVec 32 := Scalar.select v393 v394 v379
  let c4_i32_184 : BitVec 32 := 4#32
  let v396 : BitVec 32 := Scalar.addi v395 c4_i32_184
  let c1_i32_185 : BitVec 32 := 1#32
  let v397 : BitVec 32 := Scalar.subi v396 c1_i32_185
  let c0_i32_187 : BitVec 32 := 0#32
  let v399 : BitVec 1 := Scalar.cmpi .sgt v397 c0_i32_187
  let v400 : BitVec 32 := Scalar.extui v399
  let c0_i32_188 : BitVec 32 := 0#32
  let v401 : BitVec 1 := Scalar.cmpi .slt v397 c0_i32_188
  let v402 : BitVec 32 := Scalar.extui v401
  let v403 : BitVec 32 := Scalar.subi v400 v402
  let c4_i32_186 : BitVec 32 := 4#32
  let c0_i32_189 : BitVec 32 := 0#32
  let v404 : BitVec 1 := Scalar.cmpi .sgt c4_i32_186 c0_i32_189
  let v405 : BitVec 32 := Scalar.extui v404
  let c0_i32_190 : BitVec 32 := 0#32
  let v406 : BitVec 1 := Scalar.cmpi .slt c4_i32_186 c0_i32_190
  let v407 : BitVec 32 := Scalar.extui v406
  let v408 : BitVec 32 := Scalar.subi v405 v407
  let v409 : BitVec 1 := Scalar.cmpi .ne v403 v408
  let v410 : BitVec 32 := Scalar.remsi v397 c4_i32_186
  let c0_i32_191 : BitVec 32 := 0#32
  let v411 : BitVec 1 := Scalar.cmpi .ne v410 c0_i32_191
  let v412 : BitVec 1 := Scalar.andi v409 v411
  let v398 : BitVec 32 := Scalar.divsi v397 c4_i32_186
  let c1_i32_192 : BitVec 32 := 1#32
  let v413 : BitVec 32 := Scalar.subi v398 c1_i32_192
  let v414 : BitVec 32 := Scalar.select v412 v413 v398
  let v415 : BitVec 32 := Scalar.subi v414 c0_i32_194
  let c1_i32_195 : BitVec 32 := 1#32
  let v417 : BitVec 32 := Scalar.divsi v415 c1_i32_195
  let v418 : BitVec 32 := Scalar.muli v417 c1_i32_195
  let v419 : BitVec 32 := Scalar.addi c0_i32_194 v418
  let c1_i32_197 : BitVec 32 := 1#32
  let arg22 : BitVec 32 := Scf.iv v419 c1_i32_197 k0_t18
  let c4_i32_215 : BitVec 32 := 4#32
  let v450 : BitVec 32 := Scalar.muli arg22 c4_i32_215
  let c2_i32_216 : BitVec 32 := 2#32
  let v451 : BitVec 32 := Scalar.addi v450 c2_i32_216
  let v452 : BitVec 1 := Scalar.cmpi .slt v451 v395
  let v453 : BitVec 32 := Scalar.extui v452
  let c0_i32_217 : BitVec 32 := 0#32
  let v454 : BitVec 1 := Scalar.cmpi .ne v453 c0_i32_217
  v454

def k0_off169 (v11_2 : BitVec 32) (k0_t18 : Fin (k0_t18_loop v11_2).trips) : Fin 1 → Nat :=
  let c0_i32_194 : BitVec 32 := 0#32
  let c128_i32_175 : BitVec 32 := 128#32
  let v377 : BitVec 32 := Scalar.addi v11_2 c128_i32_175
  let c1_i32_176 : BitVec 32 := 1#32
  let v378 : BitVec 32 := Scalar.subi v377 c1_i32_176
  let c0_i32_178 : BitVec 32 := 0#32
  let v380 : BitVec 1 := Scalar.cmpi .sgt v378 c0_i32_178
  let v381 : BitVec 32 := Scalar.extui v380
  let c0_i32_179 : BitVec 32 := 0#32
  let v382 : BitVec 1 := Scalar.cmpi .slt v378 c0_i32_179
  let v383 : BitVec 32 := Scalar.extui v382
  let v384 : BitVec 32 := Scalar.subi v381 v383
  let c128_i32_177 : BitVec 32 := 128#32
  let c0_i32_180 : BitVec 32 := 0#32
  let v385 : BitVec 1 := Scalar.cmpi .sgt c128_i32_177 c0_i32_180
  let v386 : BitVec 32 := Scalar.extui v385
  let c0_i32_181 : BitVec 32 := 0#32
  let v387 : BitVec 1 := Scalar.cmpi .slt c128_i32_177 c0_i32_181
  let v388 : BitVec 32 := Scalar.extui v387
  let v389 : BitVec 32 := Scalar.subi v386 v388
  let v390 : BitVec 1 := Scalar.cmpi .ne v384 v389
  let v391 : BitVec 32 := Scalar.remsi v378 c128_i32_177
  let c0_i32_182 : BitVec 32 := 0#32
  let v392 : BitVec 1 := Scalar.cmpi .ne v391 c0_i32_182
  let v393 : BitVec 1 := Scalar.andi v390 v392
  let v379 : BitVec 32 := Scalar.divsi v378 c128_i32_177
  let c1_i32_183 : BitVec 32 := 1#32
  let v394 : BitVec 32 := Scalar.subi v379 c1_i32_183
  let v395 : BitVec 32 := Scalar.select v393 v394 v379
  let c4_i32_184 : BitVec 32 := 4#32
  let v396 : BitVec 32 := Scalar.addi v395 c4_i32_184
  let c1_i32_185 : BitVec 32 := 1#32
  let v397 : BitVec 32 := Scalar.subi v396 c1_i32_185
  let c0_i32_187 : BitVec 32 := 0#32
  let v399 : BitVec 1 := Scalar.cmpi .sgt v397 c0_i32_187
  let v400 : BitVec 32 := Scalar.extui v399
  let c0_i32_188 : BitVec 32 := 0#32
  let v401 : BitVec 1 := Scalar.cmpi .slt v397 c0_i32_188
  let v402 : BitVec 32 := Scalar.extui v401
  let v403 : BitVec 32 := Scalar.subi v400 v402
  let c4_i32_186 : BitVec 32 := 4#32
  let c0_i32_189 : BitVec 32 := 0#32
  let v404 : BitVec 1 := Scalar.cmpi .sgt c4_i32_186 c0_i32_189
  let v405 : BitVec 32 := Scalar.extui v404
  let c0_i32_190 : BitVec 32 := 0#32
  let v406 : BitVec 1 := Scalar.cmpi .slt c4_i32_186 c0_i32_190
  let v407 : BitVec 32 := Scalar.extui v406
  let v408 : BitVec 32 := Scalar.subi v405 v407
  let v409 : BitVec 1 := Scalar.cmpi .ne v403 v408
  let v410 : BitVec 32 := Scalar.remsi v397 c4_i32_186
  let c0_i32_191 : BitVec 32 := 0#32
  let v411 : BitVec 1 := Scalar.cmpi .ne v410 c0_i32_191
  let v412 : BitVec 1 := Scalar.andi v409 v411
  let v398 : BitVec 32 := Scalar.divsi v397 c4_i32_186
  let c1_i32_192 : BitVec 32 := 1#32
  let v413 : BitVec 32 := Scalar.subi v398 c1_i32_192
  let v414 : BitVec 32 := Scalar.select v412 v413 v398
  let v415 : BitVec 32 := Scalar.subi v414 c0_i32_194
  let c1_i32_195 : BitVec 32 := 1#32
  let v417 : BitVec 32 := Scalar.divsi v415 c1_i32_195
  let v418 : BitVec 32 := Scalar.muli v417 c1_i32_195
  let v419 : BitVec 32 := Scalar.addi c0_i32_194 v418
  let c1_i32_197 : BitVec 32 := 1#32
  let arg22 : BitVec 32 := Scf.iv v419 c1_i32_197 k0_t18
  let c4_i32_218 : BitVec 32 := 4#32
  let v455 : BitVec 32 := Scalar.muli arg22 c4_i32_218
  let c3_i32_219 : BitVec 32 := 3#32
  let v456 : BitVec 32 := Scalar.addi v455 c3_i32_219
  let c128_i32_221 : BitVec 32 := 128#32
  let v460 : BitVec 32 := Scalar.muli v456 c128_i32_221
  ![v460.toNat]
def k0_cond160 (v11_2 : BitVec 32) (k0_t18 : Fin (k0_t18_loop v11_2).trips) : BitVec 1 :=
  let c0_i32_194 : BitVec 32 := 0#32
  let c128_i32_175 : BitVec 32 := 128#32
  let v377 : BitVec 32 := Scalar.addi v11_2 c128_i32_175
  let c1_i32_176 : BitVec 32 := 1#32
  let v378 : BitVec 32 := Scalar.subi v377 c1_i32_176
  let c0_i32_178 : BitVec 32 := 0#32
  let v380 : BitVec 1 := Scalar.cmpi .sgt v378 c0_i32_178
  let v381 : BitVec 32 := Scalar.extui v380
  let c0_i32_179 : BitVec 32 := 0#32
  let v382 : BitVec 1 := Scalar.cmpi .slt v378 c0_i32_179
  let v383 : BitVec 32 := Scalar.extui v382
  let v384 : BitVec 32 := Scalar.subi v381 v383
  let c128_i32_177 : BitVec 32 := 128#32
  let c0_i32_180 : BitVec 32 := 0#32
  let v385 : BitVec 1 := Scalar.cmpi .sgt c128_i32_177 c0_i32_180
  let v386 : BitVec 32 := Scalar.extui v385
  let c0_i32_181 : BitVec 32 := 0#32
  let v387 : BitVec 1 := Scalar.cmpi .slt c128_i32_177 c0_i32_181
  let v388 : BitVec 32 := Scalar.extui v387
  let v389 : BitVec 32 := Scalar.subi v386 v388
  let v390 : BitVec 1 := Scalar.cmpi .ne v384 v389
  let v391 : BitVec 32 := Scalar.remsi v378 c128_i32_177
  let c0_i32_182 : BitVec 32 := 0#32
  let v392 : BitVec 1 := Scalar.cmpi .ne v391 c0_i32_182
  let v393 : BitVec 1 := Scalar.andi v390 v392
  let v379 : BitVec 32 := Scalar.divsi v378 c128_i32_177
  let c1_i32_183 : BitVec 32 := 1#32
  let v394 : BitVec 32 := Scalar.subi v379 c1_i32_183
  let v395 : BitVec 32 := Scalar.select v393 v394 v379
  let c4_i32_184 : BitVec 32 := 4#32
  let v396 : BitVec 32 := Scalar.addi v395 c4_i32_184
  let c1_i32_185 : BitVec 32 := 1#32
  let v397 : BitVec 32 := Scalar.subi v396 c1_i32_185
  let c0_i32_187 : BitVec 32 := 0#32
  let v399 : BitVec 1 := Scalar.cmpi .sgt v397 c0_i32_187
  let v400 : BitVec 32 := Scalar.extui v399
  let c0_i32_188 : BitVec 32 := 0#32
  let v401 : BitVec 1 := Scalar.cmpi .slt v397 c0_i32_188
  let v402 : BitVec 32 := Scalar.extui v401
  let v403 : BitVec 32 := Scalar.subi v400 v402
  let c4_i32_186 : BitVec 32 := 4#32
  let c0_i32_189 : BitVec 32 := 0#32
  let v404 : BitVec 1 := Scalar.cmpi .sgt c4_i32_186 c0_i32_189
  let v405 : BitVec 32 := Scalar.extui v404
  let c0_i32_190 : BitVec 32 := 0#32
  let v406 : BitVec 1 := Scalar.cmpi .slt c4_i32_186 c0_i32_190
  let v407 : BitVec 32 := Scalar.extui v406
  let v408 : BitVec 32 := Scalar.subi v405 v407
  let v409 : BitVec 1 := Scalar.cmpi .ne v403 v408
  let v410 : BitVec 32 := Scalar.remsi v397 c4_i32_186
  let c0_i32_191 : BitVec 32 := 0#32
  let v411 : BitVec 1 := Scalar.cmpi .ne v410 c0_i32_191
  let v412 : BitVec 1 := Scalar.andi v409 v411
  let v398 : BitVec 32 := Scalar.divsi v397 c4_i32_186
  let c1_i32_192 : BitVec 32 := 1#32
  let v413 : BitVec 32 := Scalar.subi v398 c1_i32_192
  let v414 : BitVec 32 := Scalar.select v412 v413 v398
  let v415 : BitVec 32 := Scalar.subi v414 c0_i32_194
  let c1_i32_195 : BitVec 32 := 1#32
  let v417 : BitVec 32 := Scalar.divsi v415 c1_i32_195
  let v418 : BitVec 32 := Scalar.muli v417 c1_i32_195
  let v419 : BitVec 32 := Scalar.addi c0_i32_194 v418
  let c1_i32_197 : BitVec 32 := 1#32
  let arg22 : BitVec 32 := Scf.iv v419 c1_i32_197 k0_t18
  let c4_i32_218 : BitVec 32 := 4#32
  let v455 : BitVec 32 := Scalar.muli arg22 c4_i32_218
  let c3_i32_219 : BitVec 32 := 3#32
  let v456 : BitVec 32 := Scalar.addi v455 c3_i32_219
  let v457 : BitVec 1 := Scalar.cmpi .slt v456 v395
  let v458 : BitVec 32 := Scalar.extui v457
  let c0_i32_220 : BitVec 32 := 0#32
  let v459 : BitVec 1 := Scalar.cmpi .ne v458 c0_i32_220
  v459

def k0_chk8_0 (v11_2 : BitVec 32) : Prop :=
  (∀ (r : Fin 8), ∀ a, (k0_off9 v11_2 (BitVec.ofNat 32 (16 * r.val))) a + S16.size a ≤ S6528.size a) ∧
  ((k0_t11_loop v11_2).OK) ∧
  (∀ k0_t11 : Fin (k0_t11_loop v11_2).trips, ∀ (k0_h65 : k0_cond65 v11_2 k0_t11 = 1#1), ∀ a, (k0_off74 v11_2 k0_t11) a + S128.size a ≤ S6528.size a) ∧
  (∀ k0_t11 : Fin (k0_t11_loop v11_2).trips, ∀ (k0_h66 : k0_cond66 v11_2 k0_t11 = 1#1), ∀ a, (k0_off75 v11_2 k0_t11) a + S128.size a ≤ S6528.size a) ∧
  (∀ k0_t11 : Fin (k0_t11_loop v11_2).trips, ∀ (k0_h67 : k0_cond67 v11_2 k0_t11 = 1#1), ∀ a, (k0_off76 v11_2 k0_t11) a + S128.size a ≤ S6528.size a) ∧
  (∀ k0_t11 : Fin (k0_t11_loop v11_2).trips, ∀ (k0_h68 : k0_cond68 v11_2 k0_t11 = 1#1), ∀ a, (k0_off77 v11_2 k0_t11) a + S128.size a ≤ S6528.size a) ∧
  (∀ k0_t11 : Fin (k0_t11_loop v11_2).trips, ∀ (k0_h69 : k0_cond69 v11_2 k0_t11 = 1#1), ∀ a, (k0_off78 v11_2 k0_t11) a + S128.size a ≤ S6528.size a) ∧
  (∀ k0_t11 : Fin (k0_t11_loop v11_2).trips, ∀ (k0_h70 : k0_cond70 v11_2 k0_t11 = 1#1), ∀ a, (k0_off79 v11_2 k0_t11) a + S128.size a ≤ S6528.size a) ∧
  (∀ k0_t11 : Fin (k0_t11_loop v11_2).trips, ∀ (k0_h71 : k0_cond71 v11_2 k0_t11 = 1#1), ∀ a, (k0_off80 v11_2 k0_t11) a + S128.size a ≤ S6528.size a) ∧
  (∀ k0_t11 : Fin (k0_t11_loop v11_2).trips, ∀ (k0_h72 : k0_cond72 v11_2 k0_t11 = 1#1), ∀ a, (k0_off81 v11_2 k0_t11) a + S128.size a ≤ S6528.size a) ∧
  ((k0_t12_loop v11_2).OK) ∧
  (∀ k0_t12 : Fin (k0_t12_loop v11_2).trips, ∀ (k0_h73 : k0_cond73 v11_2 k0_t12 = 1#1), ∀ a, (k0_off82 v11_2 k0_t12) a + S128.size a ≤ S6528.size a) ∧
  (∀ k0_t12 : Fin (k0_t12_loop v11_2).trips, ∀ (k0_h74 : k0_cond74 v11_2 k0_t12 = 1#1), ∀ a, (k0_off83 v11_2 k0_t12) a + S128.size a ≤ S6528.size a) ∧
  (∀ k0_t12 : Fin (k0_t12_loop v11_2).trips, ∀ (k0_h75 : k0_cond75 v11_2 k0_t12 = 1#1), ∀ a, (k0_off84 v11_2 k0_t12) a + S128.size a ≤ S6528.size a) ∧
  (∀ k0_t12 : Fin (k0_t12_loop v11_2).trips, ∀ (k0_h76 : k0_cond76 v11_2 k0_t12 = 1#1), ∀ a, (k0_off85 v11_2 k0_t12) a + S128.size a ≤ S6528.size a) ∧
  (∀ k0_t12 : Fin (k0_t12_loop v11_2).trips, ∀ (k0_h77 : k0_cond77 v11_2 k0_t12 = 1#1), ∀ a, (k0_off86 v11_2 k0_t12) a + S128.size a ≤ S6528.size a) ∧
  (∀ k0_t12 : Fin (k0_t12_loop v11_2).trips, ∀ (k0_h78 : k0_cond78 v11_2 k0_t12 = 1#1), ∀ a, (k0_off87 v11_2 k0_t12) a + S128.size a ≤ S6528.size a) ∧
  (∀ k0_t12 : Fin (k0_t12_loop v11_2).trips, ∀ (k0_h79 : k0_cond79 v11_2 k0_t12 = 1#1), ∀ a, (k0_off88 v11_2 k0_t12) a + S128.size a ≤ S6528.size a) ∧
  (∀ k0_t12 : Fin (k0_t12_loop v11_2).trips, ∀ (k0_h80 : k0_cond80 v11_2 k0_t12 = 1#1), ∀ a, (k0_off89 v11_2 k0_t12) a + S128.size a ≤ S6528.size a) ∧
  ((k0_t17_loop v11_2).OK) ∧
  (∀ k0_t17 : Fin (k0_t17_loop v11_2).trips, ∀ (k0_h145 : k0_cond145 v11_2 k0_t17 = 1#1), ∀ a, (k0_off154 v11_2 k0_t17) a + S128.size a ≤ S6528.size a) ∧
  (∀ k0_t17 : Fin (k0_t17_loop v11_2).trips, ∀ (k0_h146 : k0_cond146 v11_2 k0_t17 = 1#1), ∀ a, (k0_off155 v11_2 k0_t17) a + S128.size a ≤ S6528.size a) ∧
  (∀ k0_t17 : Fin (k0_t17_loop v11_2).trips, ∀ (k0_h147 : k0_cond147 v11_2 k0_t17 = 1#1), ∀ a, (k0_off156 v11_2 k0_t17) a + S128.size a ≤ S6528.size a) ∧
  (∀ k0_t17 : Fin (k0_t17_loop v11_2).trips, ∀ (k0_h148 : k0_cond148 v11_2 k0_t17 = 1#1), ∀ a, (k0_off157 v11_2 k0_t17) a + S128.size a ≤ S6528.size a) ∧
  (∀ k0_t17 : Fin (k0_t17_loop v11_2).trips, ∀ (k0_h149 : k0_cond149 v11_2 k0_t17 = 1#1), ∀ a, (k0_off158 v11_2 k0_t17) a + S128.size a ≤ S6528.size a) ∧
  (∀ k0_t17 : Fin (k0_t17_loop v11_2).trips, ∀ (k0_h150 : k0_cond150 v11_2 k0_t17 = 1#1), ∀ a, (k0_off159 v11_2 k0_t17) a + S128.size a ≤ S6528.size a) ∧
  (∀ k0_t17 : Fin (k0_t17_loop v11_2).trips, ∀ (k0_h151 : k0_cond151 v11_2 k0_t17 = 1#1), ∀ a, (k0_off160 v11_2 k0_t17) a + S128.size a ≤ S6528.size a) ∧
  (∀ k0_t17 : Fin (k0_t17_loop v11_2).trips, ∀ (k0_h152 : k0_cond152 v11_2 k0_t17 = 1#1), ∀ a, (k0_off161 v11_2 k0_t17) a + S128.size a ≤ S6528.size a) ∧
  ((k0_t18_loop v11_2).OK) ∧
  (∀ k0_t18 : Fin (k0_t18_loop v11_2).trips, ∀ (k0_h153 : k0_cond153 v11_2 k0_t18 = 1#1), ∀ a, (k0_off162 v11_2 k0_t18) a + S128.size a ≤ S6528.size a) ∧
  (∀ k0_t18 : Fin (k0_t18_loop v11_2).trips, ∀ (k0_h154 : k0_cond154 v11_2 k0_t18 = 1#1), ∀ a, (k0_off163 v11_2 k0_t18) a + S128.size a ≤ S6528.size a) ∧
  (∀ k0_t18 : Fin (k0_t18_loop v11_2).trips, ∀ (k0_h155 : k0_cond155 v11_2 k0_t18 = 1#1), ∀ a, (k0_off164 v11_2 k0_t18) a + S128.size a ≤ S6528.size a)
def k0_chk8_1 (v11_2 : BitVec 32) : Prop :=
  (∀ k0_t18 : Fin (k0_t18_loop v11_2).trips, ∀ (k0_h156 : k0_cond156 v11_2 k0_t18 = 1#1), ∀ a, (k0_off165 v11_2 k0_t18) a + S128.size a ≤ S6528.size a) ∧
  (∀ k0_t18 : Fin (k0_t18_loop v11_2).trips, ∀ (k0_h157 : k0_cond157 v11_2 k0_t18 = 1#1), ∀ a, (k0_off166 v11_2 k0_t18) a + S128.size a ≤ S6528.size a) ∧
  (∀ k0_t18 : Fin (k0_t18_loop v11_2).trips, ∀ (k0_h158 : k0_cond158 v11_2 k0_t18 = 1#1), ∀ a, (k0_off167 v11_2 k0_t18) a + S128.size a ≤ S6528.size a) ∧
  (∀ k0_t18 : Fin (k0_t18_loop v11_2).trips, ∀ (k0_h159 : k0_cond159 v11_2 k0_t18 = 1#1), ∀ a, (k0_off168 v11_2 k0_t18) a + S128.size a ≤ S6528.size a) ∧
  (∀ k0_t18 : Fin (k0_t18_loop v11_2).trips, ∀ (k0_h160 : k0_cond160 v11_2 k0_t18 = 1#1), ∀ a, (k0_off169 v11_2 k0_t18) a + S128.size a ≤ S6528.size a)
def k0_chk8 (v11_2 : BitVec 32) : Prop :=
  k0_chk8_0 v11_2 ∧
  k0_chk8_1 v11_2
theorem k0_off9_inb : ∀ (v11_2 : BitVec 32) (k0_hw8 : k0_chk8 v11_2), ∀ (r : Fin 8), ∀ a, (k0_off9 v11_2 (BitVec.ofNat 32 (16 * r.val))) a + S16.size a ≤ S6528.size a := fun v11_2 k0_hw8 r => k0_hw8.1.1 r
theorem k0_t11_ok : ∀ (v11_2 : BitVec 32) (k0_hw8 : k0_chk8 v11_2), (k0_t11_loop v11_2).OK := fun v11_2 k0_hw8 => k0_hw8.1.2.1
theorem k0_off74_inb : ∀ (v11_2 : BitVec 32) (k0_hw8 : k0_chk8 v11_2) (k0_t11 : Fin (k0_t11_loop v11_2).trips), ∀ (k0_h65 : k0_cond65 v11_2 k0_t11 = 1#1), ∀ a, (k0_off74 v11_2 k0_t11) a + S128.size a ≤ S6528.size a := fun v11_2 k0_hw8 k0_t11 k0_h65 => k0_hw8.1.2.2.1 k0_t11 k0_h65
theorem k0_off75_inb : ∀ (v11_2 : BitVec 32) (k0_hw8 : k0_chk8 v11_2) (k0_t11 : Fin (k0_t11_loop v11_2).trips), ∀ (k0_h66 : k0_cond66 v11_2 k0_t11 = 1#1), ∀ a, (k0_off75 v11_2 k0_t11) a + S128.size a ≤ S6528.size a := fun v11_2 k0_hw8 k0_t11 k0_h66 => k0_hw8.1.2.2.2.1 k0_t11 k0_h66
theorem k0_off76_inb : ∀ (v11_2 : BitVec 32) (k0_hw8 : k0_chk8 v11_2) (k0_t11 : Fin (k0_t11_loop v11_2).trips), ∀ (k0_h67 : k0_cond67 v11_2 k0_t11 = 1#1), ∀ a, (k0_off76 v11_2 k0_t11) a + S128.size a ≤ S6528.size a := fun v11_2 k0_hw8 k0_t11 k0_h67 => k0_hw8.1.2.2.2.2.1 k0_t11 k0_h67
theorem k0_off77_inb : ∀ (v11_2 : BitVec 32) (k0_hw8 : k0_chk8 v11_2) (k0_t11 : Fin (k0_t11_loop v11_2).trips), ∀ (k0_h68 : k0_cond68 v11_2 k0_t11 = 1#1), ∀ a, (k0_off77 v11_2 k0_t11) a + S128.size a ≤ S6528.size a := fun v11_2 k0_hw8 k0_t11 k0_h68 => k0_hw8.1.2.2.2.2.2.1 k0_t11 k0_h68
theorem k0_off78_inb : ∀ (v11_2 : BitVec 32) (k0_hw8 : k0_chk8 v11_2) (k0_t11 : Fin (k0_t11_loop v11_2).trips), ∀ (k0_h69 : k0_cond69 v11_2 k0_t11 = 1#1), ∀ a, (k0_off78 v11_2 k0_t11) a + S128.size a ≤ S6528.size a := fun v11_2 k0_hw8 k0_t11 k0_h69 => k0_hw8.1.2.2.2.2.2.2.1 k0_t11 k0_h69
theorem k0_off79_inb : ∀ (v11_2 : BitVec 32) (k0_hw8 : k0_chk8 v11_2) (k0_t11 : Fin (k0_t11_loop v11_2).trips), ∀ (k0_h70 : k0_cond70 v11_2 k0_t11 = 1#1), ∀ a, (k0_off79 v11_2 k0_t11) a + S128.size a ≤ S6528.size a := fun v11_2 k0_hw8 k0_t11 k0_h70 => k0_hw8.1.2.2.2.2.2.2.2.1 k0_t11 k0_h70
theorem k0_off80_inb : ∀ (v11_2 : BitVec 32) (k0_hw8 : k0_chk8 v11_2) (k0_t11 : Fin (k0_t11_loop v11_2).trips), ∀ (k0_h71 : k0_cond71 v11_2 k0_t11 = 1#1), ∀ a, (k0_off80 v11_2 k0_t11) a + S128.size a ≤ S6528.size a := fun v11_2 k0_hw8 k0_t11 k0_h71 => k0_hw8.1.2.2.2.2.2.2.2.2.1 k0_t11 k0_h71
theorem k0_off81_inb : ∀ (v11_2 : BitVec 32) (k0_hw8 : k0_chk8 v11_2) (k0_t11 : Fin (k0_t11_loop v11_2).trips), ∀ (k0_h72 : k0_cond72 v11_2 k0_t11 = 1#1), ∀ a, (k0_off81 v11_2 k0_t11) a + S128.size a ≤ S6528.size a := fun v11_2 k0_hw8 k0_t11 k0_h72 => k0_hw8.1.2.2.2.2.2.2.2.2.2.1 k0_t11 k0_h72
theorem k0_t12_ok : ∀ (v11_2 : BitVec 32) (k0_hw8 : k0_chk8 v11_2), (k0_t12_loop v11_2).OK := fun v11_2 k0_hw8 => k0_hw8.1.2.2.2.2.2.2.2.2.2.2.1
theorem k0_off82_inb : ∀ (v11_2 : BitVec 32) (k0_hw8 : k0_chk8 v11_2) (k0_t12 : Fin (k0_t12_loop v11_2).trips), ∀ (k0_h73 : k0_cond73 v11_2 k0_t12 = 1#1), ∀ a, (k0_off82 v11_2 k0_t12) a + S128.size a ≤ S6528.size a := fun v11_2 k0_hw8 k0_t12 k0_h73 => k0_hw8.1.2.2.2.2.2.2.2.2.2.2.2.1 k0_t12 k0_h73
theorem k0_off83_inb : ∀ (v11_2 : BitVec 32) (k0_hw8 : k0_chk8 v11_2) (k0_t12 : Fin (k0_t12_loop v11_2).trips), ∀ (k0_h74 : k0_cond74 v11_2 k0_t12 = 1#1), ∀ a, (k0_off83 v11_2 k0_t12) a + S128.size a ≤ S6528.size a := fun v11_2 k0_hw8 k0_t12 k0_h74 => k0_hw8.1.2.2.2.2.2.2.2.2.2.2.2.2.1 k0_t12 k0_h74
theorem k0_off84_inb : ∀ (v11_2 : BitVec 32) (k0_hw8 : k0_chk8 v11_2) (k0_t12 : Fin (k0_t12_loop v11_2).trips), ∀ (k0_h75 : k0_cond75 v11_2 k0_t12 = 1#1), ∀ a, (k0_off84 v11_2 k0_t12) a + S128.size a ≤ S6528.size a := fun v11_2 k0_hw8 k0_t12 k0_h75 => k0_hw8.1.2.2.2.2.2.2.2.2.2.2.2.2.2.1 k0_t12 k0_h75
theorem k0_off85_inb : ∀ (v11_2 : BitVec 32) (k0_hw8 : k0_chk8 v11_2) (k0_t12 : Fin (k0_t12_loop v11_2).trips), ∀ (k0_h76 : k0_cond76 v11_2 k0_t12 = 1#1), ∀ a, (k0_off85 v11_2 k0_t12) a + S128.size a ≤ S6528.size a := fun v11_2 k0_hw8 k0_t12 k0_h76 => k0_hw8.1.2.2.2.2.2.2.2.2.2.2.2.2.2.2.1 k0_t12 k0_h76
theorem k0_off86_inb : ∀ (v11_2 : BitVec 32) (k0_hw8 : k0_chk8 v11_2) (k0_t12 : Fin (k0_t12_loop v11_2).trips), ∀ (k0_h77 : k0_cond77 v11_2 k0_t12 = 1#1), ∀ a, (k0_off86 v11_2 k0_t12) a + S128.size a ≤ S6528.size a := fun v11_2 k0_hw8 k0_t12 k0_h77 => k0_hw8.1.2.2.2.2.2.2.2.2.2.2.2.2.2.2.2.1 k0_t12 k0_h77
theorem k0_off87_inb : ∀ (v11_2 : BitVec 32) (k0_hw8 : k0_chk8 v11_2) (k0_t12 : Fin (k0_t12_loop v11_2).trips), ∀ (k0_h78 : k0_cond78 v11_2 k0_t12 = 1#1), ∀ a, (k0_off87 v11_2 k0_t12) a + S128.size a ≤ S6528.size a := fun v11_2 k0_hw8 k0_t12 k0_h78 => k0_hw8.1.2.2.2.2.2.2.2.2.2.2.2.2.2.2.2.2.1 k0_t12 k0_h78
theorem k0_off88_inb : ∀ (v11_2 : BitVec 32) (k0_hw8 : k0_chk8 v11_2) (k0_t12 : Fin (k0_t12_loop v11_2).trips), ∀ (k0_h79 : k0_cond79 v11_2 k0_t12 = 1#1), ∀ a, (k0_off88 v11_2 k0_t12) a + S128.size a ≤ S6528.size a := fun v11_2 k0_hw8 k0_t12 k0_h79 => k0_hw8.1.2.2.2.2.2.2.2.2.2.2.2.2.2.2.2.2.2.1 k0_t12 k0_h79
theorem k0_off89_inb : ∀ (v11_2 : BitVec 32) (k0_hw8 : k0_chk8 v11_2) (k0_t12 : Fin (k0_t12_loop v11_2).trips), ∀ (k0_h80 : k0_cond80 v11_2 k0_t12 = 1#1), ∀ a, (k0_off89 v11_2 k0_t12) a + S128.size a ≤ S6528.size a := fun v11_2 k0_hw8 k0_t12 k0_h80 => k0_hw8.1.2.2.2.2.2.2.2.2.2.2.2.2.2.2.2.2.2.2.1 k0_t12 k0_h80
theorem k0_t17_ok : ∀ (v11_2 : BitVec 32) (k0_hw8 : k0_chk8 v11_2), (k0_t17_loop v11_2).OK := fun v11_2 k0_hw8 => k0_hw8.1.2.2.2.2.2.2.2.2.2.2.2.2.2.2.2.2.2.2.2.1
theorem k0_off154_inb : ∀ (v11_2 : BitVec 32) (k0_hw8 : k0_chk8 v11_2) (k0_t17 : Fin (k0_t17_loop v11_2).trips), ∀ (k0_h145 : k0_cond145 v11_2 k0_t17 = 1#1), ∀ a, (k0_off154 v11_2 k0_t17) a + S128.size a ≤ S6528.size a := fun v11_2 k0_hw8 k0_t17 k0_h145 => k0_hw8.1.2.2.2.2.2.2.2.2.2.2.2.2.2.2.2.2.2.2.2.2.1 k0_t17 k0_h145
theorem k0_off155_inb : ∀ (v11_2 : BitVec 32) (k0_hw8 : k0_chk8 v11_2) (k0_t17 : Fin (k0_t17_loop v11_2).trips), ∀ (k0_h146 : k0_cond146 v11_2 k0_t17 = 1#1), ∀ a, (k0_off155 v11_2 k0_t17) a + S128.size a ≤ S6528.size a := fun v11_2 k0_hw8 k0_t17 k0_h146 => k0_hw8.1.2.2.2.2.2.2.2.2.2.2.2.2.2.2.2.2.2.2.2.2.2.1 k0_t17 k0_h146
theorem k0_off156_inb : ∀ (v11_2 : BitVec 32) (k0_hw8 : k0_chk8 v11_2) (k0_t17 : Fin (k0_t17_loop v11_2).trips), ∀ (k0_h147 : k0_cond147 v11_2 k0_t17 = 1#1), ∀ a, (k0_off156 v11_2 k0_t17) a + S128.size a ≤ S6528.size a := fun v11_2 k0_hw8 k0_t17 k0_h147 => k0_hw8.1.2.2.2.2.2.2.2.2.2.2.2.2.2.2.2.2.2.2.2.2.2.2.1 k0_t17 k0_h147
theorem k0_off157_inb : ∀ (v11_2 : BitVec 32) (k0_hw8 : k0_chk8 v11_2) (k0_t17 : Fin (k0_t17_loop v11_2).trips), ∀ (k0_h148 : k0_cond148 v11_2 k0_t17 = 1#1), ∀ a, (k0_off157 v11_2 k0_t17) a + S128.size a ≤ S6528.size a := fun v11_2 k0_hw8 k0_t17 k0_h148 => k0_hw8.1.2.2.2.2.2.2.2.2.2.2.2.2.2.2.2.2.2.2.2.2.2.2.2.1 k0_t17 k0_h148
theorem k0_off158_inb : ∀ (v11_2 : BitVec 32) (k0_hw8 : k0_chk8 v11_2) (k0_t17 : Fin (k0_t17_loop v11_2).trips), ∀ (k0_h149 : k0_cond149 v11_2 k0_t17 = 1#1), ∀ a, (k0_off158 v11_2 k0_t17) a + S128.size a ≤ S6528.size a := fun v11_2 k0_hw8 k0_t17 k0_h149 => k0_hw8.1.2.2.2.2.2.2.2.2.2.2.2.2.2.2.2.2.2.2.2.2.2.2.2.2.1 k0_t17 k0_h149
theorem k0_off159_inb : ∀ (v11_2 : BitVec 32) (k0_hw8 : k0_chk8 v11_2) (k0_t17 : Fin (k0_t17_loop v11_2).trips), ∀ (k0_h150 : k0_cond150 v11_2 k0_t17 = 1#1), ∀ a, (k0_off159 v11_2 k0_t17) a + S128.size a ≤ S6528.size a := fun v11_2 k0_hw8 k0_t17 k0_h150 => k0_hw8.1.2.2.2.2.2.2.2.2.2.2.2.2.2.2.2.2.2.2.2.2.2.2.2.2.2.1 k0_t17 k0_h150
theorem k0_off160_inb : ∀ (v11_2 : BitVec 32) (k0_hw8 : k0_chk8 v11_2) (k0_t17 : Fin (k0_t17_loop v11_2).trips), ∀ (k0_h151 : k0_cond151 v11_2 k0_t17 = 1#1), ∀ a, (k0_off160 v11_2 k0_t17) a + S128.size a ≤ S6528.size a := fun v11_2 k0_hw8 k0_t17 k0_h151 => k0_hw8.1.2.2.2.2.2.2.2.2.2.2.2.2.2.2.2.2.2.2.2.2.2.2.2.2.2.2.1 k0_t17 k0_h151
theorem k0_off161_inb : ∀ (v11_2 : BitVec 32) (k0_hw8 : k0_chk8 v11_2) (k0_t17 : Fin (k0_t17_loop v11_2).trips), ∀ (k0_h152 : k0_cond152 v11_2 k0_t17 = 1#1), ∀ a, (k0_off161 v11_2 k0_t17) a + S128.size a ≤ S6528.size a := fun v11_2 k0_hw8 k0_t17 k0_h152 => k0_hw8.1.2.2.2.2.2.2.2.2.2.2.2.2.2.2.2.2.2.2.2.2.2.2.2.2.2.2.2.1 k0_t17 k0_h152
theorem k0_t18_ok : ∀ (v11_2 : BitVec 32) (k0_hw8 : k0_chk8 v11_2), (k0_t18_loop v11_2).OK := fun v11_2 k0_hw8 => k0_hw8.1.2.2.2.2.2.2.2.2.2.2.2.2.2.2.2.2.2.2.2.2.2.2.2.2.2.2.2.2.1
theorem k0_off162_inb : ∀ (v11_2 : BitVec 32) (k0_hw8 : k0_chk8 v11_2) (k0_t18 : Fin (k0_t18_loop v11_2).trips), ∀ (k0_h153 : k0_cond153 v11_2 k0_t18 = 1#1), ∀ a, (k0_off162 v11_2 k0_t18) a + S128.size a ≤ S6528.size a := fun v11_2 k0_hw8 k0_t18 k0_h153 => k0_hw8.1.2.2.2.2.2.2.2.2.2.2.2.2.2.2.2.2.2.2.2.2.2.2.2.2.2.2.2.2.2.1 k0_t18 k0_h153
theorem k0_off163_inb : ∀ (v11_2 : BitVec 32) (k0_hw8 : k0_chk8 v11_2) (k0_t18 : Fin (k0_t18_loop v11_2).trips), ∀ (k0_h154 : k0_cond154 v11_2 k0_t18 = 1#1), ∀ a, (k0_off163 v11_2 k0_t18) a + S128.size a ≤ S6528.size a := fun v11_2 k0_hw8 k0_t18 k0_h154 => k0_hw8.1.2.2.2.2.2.2.2.2.2.2.2.2.2.2.2.2.2.2.2.2.2.2.2.2.2.2.2.2.2.2.1 k0_t18 k0_h154
theorem k0_off164_inb : ∀ (v11_2 : BitVec 32) (k0_hw8 : k0_chk8 v11_2) (k0_t18 : Fin (k0_t18_loop v11_2).trips), ∀ (k0_h155 : k0_cond155 v11_2 k0_t18 = 1#1), ∀ a, (k0_off164 v11_2 k0_t18) a + S128.size a ≤ S6528.size a := fun v11_2 k0_hw8 k0_t18 k0_h155 => k0_hw8.1.2.2.2.2.2.2.2.2.2.2.2.2.2.2.2.2.2.2.2.2.2.2.2.2.2.2.2.2.2.2.2 k0_t18 k0_h155
theorem k0_off165_inb : ∀ (v11_2 : BitVec 32) (k0_hw8 : k0_chk8 v11_2) (k0_t18 : Fin (k0_t18_loop v11_2).trips), ∀ (k0_h156 : k0_cond156 v11_2 k0_t18 = 1#1), ∀ a, (k0_off165 v11_2 k0_t18) a + S128.size a ≤ S6528.size a := fun v11_2 k0_hw8 k0_t18 k0_h156 => k0_hw8.2.1 k0_t18 k0_h156
theorem k0_off166_inb : ∀ (v11_2 : BitVec 32) (k0_hw8 : k0_chk8 v11_2) (k0_t18 : Fin (k0_t18_loop v11_2).trips), ∀ (k0_h157 : k0_cond157 v11_2 k0_t18 = 1#1), ∀ a, (k0_off166 v11_2 k0_t18) a + S128.size a ≤ S6528.size a := fun v11_2 k0_hw8 k0_t18 k0_h157 => k0_hw8.2.2.1 k0_t18 k0_h157
theorem k0_off167_inb : ∀ (v11_2 : BitVec 32) (k0_hw8 : k0_chk8 v11_2) (k0_t18 : Fin (k0_t18_loop v11_2).trips), ∀ (k0_h158 : k0_cond158 v11_2 k0_t18 = 1#1), ∀ a, (k0_off167 v11_2 k0_t18) a + S128.size a ≤ S6528.size a := fun v11_2 k0_hw8 k0_t18 k0_h158 => k0_hw8.2.2.2.1 k0_t18 k0_h158
theorem k0_off168_inb : ∀ (v11_2 : BitVec 32) (k0_hw8 : k0_chk8 v11_2) (k0_t18 : Fin (k0_t18_loop v11_2).trips), ∀ (k0_h159 : k0_cond159 v11_2 k0_t18 = 1#1), ∀ a, (k0_off168 v11_2 k0_t18) a + S128.size a ≤ S6528.size a := fun v11_2 k0_hw8 k0_t18 k0_h159 => k0_hw8.2.2.2.2.1 k0_t18 k0_h159
theorem k0_off169_inb : ∀ (v11_2 : BitVec 32) (k0_hw8 : k0_chk8 v11_2) (k0_t18 : Fin (k0_t18_loop v11_2).trips), ∀ (k0_h160 : k0_cond160 v11_2 k0_t18 = 1#1), ∀ a, (k0_off169 v11_2 k0_t18) a + S128.size a ≤ S6528.size a := fun v11_2 k0_hw8 k0_t18 k0_h160 => k0_hw8.2.2.2.2.2 k0_t18 k0_h160

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x200000x64 : Shape := ⟨3, ![2, 200000, 64]⟩
abbrev S100000 : Shape := ⟨1, ![100000]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S2x100000x64 : Shape := ⟨3, ![2, 100000, 64]⟩

abbrev nBuf : Space → Nat
  | .hbm => 72
  | .vmem => 0
  | .smem => 0
  | _ => 0

abbrev bufTy : (tb : Table) → Fin (tcTables nBuf tb) → BufTy
  | .hbm, ⟨0, _⟩ => ⟨S2x200000x64, .f32⟩
  | .hbm, ⟨1, _⟩ => ⟨S2x200000x64, .f32⟩
  | .hbm, ⟨2, _⟩ => ⟨S100000, .i32⟩
  | .hbm, ⟨3, _⟩ => ⟨S100000, .i32⟩
  | .hbm, ⟨4, _⟩ => ⟨S100000, .i32⟩
  | .hbm, ⟨5, _⟩ => ⟨S100000, .i32⟩
  | .hbm, ⟨6, _⟩ => ⟨S_, .f32⟩
  | .hbm, ⟨7, _⟩ => ⟨S2x200000x64, .f32⟩
  | .hbm, ⟨8, _⟩ => ⟨S_, .i32⟩
  | .hbm, ⟨9, _⟩ => ⟨S100000, .i32⟩
  | .hbm, ⟨10, _⟩ => ⟨S100000, .i1⟩
  | .hbm, ⟨11, _⟩ => ⟨S_, .i32⟩
  | .hbm, ⟨12, _⟩ => ⟨S100000, .i32⟩
  | .hbm, ⟨13, _⟩ => ⟨S100000, .i32⟩
  | .hbm, ⟨14, _⟩ => ⟨S100000, .i32⟩
  | .hbm, ⟨15, _⟩ => ⟨S100000x1, .i32⟩
  | .hbm, ⟨16, _⟩ => ⟨S1, .i32⟩
  | .hbm, ⟨17, _⟩ => ⟨S_, .i32⟩
  | .hbm, ⟨18, _⟩ => ⟨S100000x1, .i32⟩
  | .hbm, ⟨19, _⟩ => ⟨S100000x1, .i1⟩
  | .hbm, ⟨20, _⟩ => ⟨S1x1, .i32⟩
  | .hbm, ⟨21, _⟩ => ⟨S100000x1, .i32⟩
  | .hbm, ⟨22, _⟩ => ⟨S100000x1, .i1⟩
  | .hbm, ⟨23, _⟩ => ⟨S100000x1, .i1⟩
  | .hbm, ⟨24, _⟩ => ⟨S_, .i1⟩
  | .hbm, ⟨25, _⟩ => ⟨S100000, .i1⟩
  | .hbm, ⟨26, _⟩ => ⟨S2x100000x64, .f32⟩
  | .hbm, ⟨27, _⟩ => ⟨S2x100000x64, .i1⟩
  | .hbm, ⟨28, _⟩ => ⟨S_, .f32⟩
  | .hbm, ⟨29, _⟩ => ⟨S2x100000x64, .f32⟩
  | .hbm, ⟨30, _⟩ => ⟨S2x100000x64, .f32⟩
  | .hbm, ⟨31, _⟩ => ⟨S_, .i32⟩
  | .hbm, ⟨32, _⟩ => ⟨S100000, .i32⟩
  | .hbm, ⟨33, _⟩ => ⟨S100000, .i1⟩
  | .hbm, ⟨34, _⟩ => ⟨S_, .i32⟩
  | .hbm, ⟨35, _⟩ => ⟨S100000, .i32⟩
  | .hbm, ⟨36, _⟩ => ⟨S100000, .i32⟩
  | .hbm, ⟨37, _⟩ => ⟨S100000, .i32⟩
  | .hbm, ⟨38, _⟩ => ⟨S100000x1, .i32⟩
  | .hbm, ⟨39, _⟩ => ⟨S2x200000x64, .f32⟩
  | .hbm, ⟨40, _⟩ => ⟨S_, .i32⟩
  | .hbm, ⟨41, _⟩ => ⟨S100000, .i32⟩
  | .hbm, ⟨42, _⟩ => ⟨S100000, .i1⟩
  | .hbm, ⟨43, _⟩ => ⟨S_, .i32⟩
  | .hbm, ⟨44, _⟩ => ⟨S100000, .i32⟩
  | .hbm, ⟨45, _⟩ => ⟨S100000, .i32⟩
  | .hbm, ⟨46, _⟩ => ⟨S100000, .i32⟩
  | .hbm, ⟨47, _⟩ => ⟨S100000x1, .i32⟩
  | .hbm, ⟨48, _⟩ => ⟨S1, .i32⟩
  | .hbm, ⟨49, _⟩ => ⟨S_, .i32⟩
  | .hbm, ⟨50, _⟩ => ⟨S100000x1, .i32⟩
  | .hbm, ⟨51, _⟩ => ⟨S100000x1, .i1⟩
  | .hbm, ⟨52, _⟩ => ⟨S1x1, .i32⟩
  | .hbm, ⟨53, _⟩ => ⟨S100000x1, .i32⟩
  | .hbm, ⟨54, _⟩ => ⟨S100000x1, .i1⟩
  | .hbm, ⟨55, _⟩ => ⟨S100000x1, .i1⟩
  | .hbm, ⟨56, _⟩ => ⟨S_, .i1⟩
  | .hbm, ⟨57, _⟩ => ⟨S100000, .i1⟩
  | .hbm, ⟨58, _⟩ => ⟨S2x100000x64, .f32⟩
  | .hbm, ⟨59, _⟩ => ⟨S2x100000x64, .i1⟩
  | .hbm, ⟨60, _⟩ => ⟨S_, .f32⟩
  | .hbm, ⟨61, _⟩ => ⟨S2x100000x64, .f32⟩
  | .hbm, ⟨62, _⟩ => ⟨S2x100000x64, .f32⟩
  | .hbm, ⟨63, _⟩ => ⟨S_, .i32⟩
  | .hbm, ⟨64, _⟩ => ⟨S100000, .i32⟩
  | .hbm, ⟨65, _⟩ => ⟨S100000, .i1⟩
  | .hbm, ⟨66, _⟩ => ⟨S_, .i32⟩
  | .hbm, ⟨67, _⟩ => ⟨S100000, .i32⟩
  | .hbm, ⟨68, _⟩ => ⟨S100000, .i32⟩
  | .hbm, ⟨69, _⟩ => ⟨S100000, .i32⟩
  | .hbm, ⟨70, _⟩ => ⟨S100000x1, .i32⟩
  | .hbm, ⟨71, _⟩ => ⟨S2x200000x64, .f32⟩
  | _, _ => ⟨S2x200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v1 : Ref sig .tc := ⟨.hbm, 30, rfl⟩
abbrev main_c : Ref sig .tc := ⟨.hbm, 31, rfl⟩
abbrev main_v2 : Ref sig .tc := ⟨.hbm, 32, rfl⟩
abbrev main_v3 : Ref sig .tc := ⟨.hbm, 33, rfl⟩
abbrev main_c_0 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v9 : Ref sig .tc := ⟨.hbm, 62, rfl⟩
abbrev main_c_1 : Ref sig .tc := ⟨.hbm, 63, rfl⟩
abbrev main_v10 : Ref sig .tc := ⟨.hbm, 64, rfl⟩
abbrev main_v11 : Ref sig .tc := ⟨.hbm, 65, rfl⟩
abbrev main_c_2 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩

abbrev nD : Nat := 1
abbrev τ : Topo := Topo.v7x

variable {F : FTy → Type} [FloatOps F]
-- ==== Proof.Body.lean ====
/-
  The six copy loops of the tile's body, each turn written as one sequence of guarded copies. A turn handles a group of
  four chunks of 128 rows; a chunk past the list's end is skipped by its guard.
-/
module

public import proofs.«01_k».proof.Proof.Gen.KernelIdeal.Skeleton

@[expose] public section

set_option synthInstance.maxSize 4096

noncomputable section

namespace Cert.Proof

open Idealize.ShloMosaic Idealize.SL.Sem
open Cert.KernelIdeal Cert.KernelIdeal.Gen

universe u

variable {F : FTy → Type} [FloatOps F]

/-! ## Guarded operations -/

/-- An operation run when the bit `c` is set, then the rest. -/
def guardThen {E : Type → Type u} {β : Type} (c : BitVec 1) (op : c = 1#1 → Prog E PUnit) (K : Prog E β) : Prog E β :=
  if h : c = 1#1 then op h >>= fun _ => K else K

/-- A guarded operation followed by more is the guarded operation with the longer rest. -/
theorem guardThen_bind {E : Type → Type u} {β γ : Type} (c : BitVec 1) (op : c = 1#1 → Prog E PUnit) (K : Prog E β)
    (k : β → Prog E γ) : (guardThen c op K >>= k) = guardThen c op (K >>= k) := by
  unfold guardThen; split
  · exact Prog.bind_assoc _ _ _
  · rfl

/-! ## Chunk counts, offsets and guards as the tile computes them -/

/-- The floor of `a / b` of words, with the sign corrections the kernel writes. -/
def floorW (a b : BitVec 32) : BitVec 32 :=
  Scalar.select
    (Scalar.andi
      (Scalar.cmpi .ne
        (Scalar.subi (Scalar.extui (Scalar.cmpi .sgt a 0#32)) (Scalar.extui (Scalar.cmpi .slt a 0#32)) : BitVec 32)
        (Scalar.subi (Scalar.extui (Scalar.cmpi .sgt b 0#32)) (Scalar.extui (Scalar.cmpi .slt b 0#32)) : BitVec 32))
      (Scalar.cmpi .ne (Scalar.remsi a b) 0#32))
    (Scalar.subi (Scalar.divsi a b) 1#32) (Scalar.divsi a b)

/-- The number of chunks of 128 a list of `c` entries makes. -/
def chunksW (c : BitVec 32) : BitVec 32 := floorW (Scalar.subi (Scalar.addi c 128#32) 1#32) 128#32

/-- The number of groups of four chunks a list of `c` entries makes. -/
def groupsW (c : BitVec 32) : BitVec 32 := floorW (Scalar.subi (Scalar.addi (chunksW c) 4#32) 1#32) 4#32

/-- Chunk `kk` of the group `t`. -/
def chunkW (t : ℕ) (kk : BitVec 32) : BitVec 32 := Scalar.addi (Scalar.muli (Scf.iv 0#32 1#32 t) 4#32) kk

/-- Whether chunk `kk` of the group `t` lies before the list's end. -/
def guardW (c : BitVec 32) (t : ℕ) (kk : BitVec 32) : BitVec 1 :=
  Scalar.cmpi .ne (Scalar.extui (Scalar.cmpi .slt (chunkW t kk) (chunksW c)) : BitVec 32) 0#32

/-- Where chunk `kk` of the group `t` starts in its list. -/
def chunkOff (t : ℕ) (kk : BitVec 32) : Fin 1 → Nat := ![(Scalar.muli (chunkW t kk) 128#32).toNat]

/-! ## The copies of one chunk -/

section ops

variable (i : grid0.Coords)

/-- The layer `l` of an array of two layers. -/
def layerOf (a : Memref sig .scVector .hbm S2x200000x128 .f32) (l : ℕ)
    (hl : ∀ a, (![l, 0, 0] : Fin 3 → Nat) a + S1x200000x128.size a ≤ S2x200000x128.size a) :
    Memref sig .scVector .hbm S200000x128 .f32 :=
  ((a.slice (Rect.unit (s := S2x200000x128) ![l, 0, 0] S1x200000x128.size hl) (fun _ => rfl)).squeeze S200000x128
    squeezes_S1x200000x128_S200000x128).slice
      (Rect.unit (s := S200000x128) ![0, 0] S200000x128.size inb_S200000x128_S200000x128_0_0) (fun _ => rfl)

/-- The block of 128 rows of the row buffer that starts at row `o`. -/
def blockOf (rb : Memref sig .scVector .vmem S512x128 .f32) (o : ℕ)
    (ho : ∀ a, (![o, 0] : Fin 2 → Nat) a + S128x128.size a ≤ S512x128.size a) : Memref sig .scVector .vmem S128x128 .f32 :=
  rb.slice (Rect.unit (s := S512x128) ![o, 0] S128x128.size ho) (fun _ => rfl)

/-- A chunk of a list. -/
def chunkOf (L : Memref sig .scVector .vmem S6528 .i32) (off : Fin 1 → Nat) (h : ∀ a, off a + S128.size a ≤ S6528.size a) :
    Memref sig .scVector .vmem S128 .i32 :=
  L.slice (Rect.unit (s := S6528) off S128.size h) (fun _ => rfl)

/-- The program type of the tile's body. -/
abbrev TileProg (α : Type) := Prog (TpuEff nD τ sig (Elt F) Λ₀ (.scVector ((i 0).castLE hcore0) ((i 1).castLE hsub0))) α

/-- Issue the gather of one chunk of rows. -/
def gIssue (src : Memref sig .scVector .hbm S200000x128 .f32) (blk : Memref sig .scVector .vmem S128x128 .f32)
    (l : Memref sig .scVector .vmem S128 .i32) (sem : DmaSem sig) : TileProg (F := F) i PUnit :=
  SparseCore.enqueueIndirectGather rfl src blk gathers_S200000x128_S128x128 l rfl sem (View.wordExact_bits rfl) rfl (Or.inl rfl)

/-- Wait for the gather of one chunk of rows. -/
def gWait (src : Memref sig .scVector .hbm S200000x128 .f32) (blk : Memref sig .scVector .vmem S128x128 .f32)
    (sem : DmaSem sig) : TileProg (F := F) i PUnit :=
  SparseCore.waitIndirectGather sem src blk (View.wordExact_bits rfl) (View.wordExact_bits rfl)

/-- Issue the scatter of one chunk of rows. -/
def sIssue (blk : Memref sig .scVector .vmem S128x128 .f32) (dst : Memref sig .scVector .hbm S200000x128 .f32)
    (l : Memref sig .scVector .vmem S128 .i32) (sem : DmaSem sig) : TileProg (F := F) i PUnit :=
  SparseCore.enqueueIndirectScatter rfl blk dst gathers_S200000x128_S128x128 l rfl sem rfl (Or.inl rfl)

/-- Wait for the scatter of one chunk of rows. -/
def sWait (blk : Memref sig .scVector .vmem S128x128 .f32) (dst : Memref sig .scVector .hbm S200000x128 .f32)
    (sem : DmaSem sig) : TileProg (F := F) i PUnit :=
  SparseCore.waitIndirectScatter sem blk dst (View.wordExact_bits rfl) (View.wordExact_bits rfl)

/-- Four guarded operations, one for each chunk of the group `t`, then the rest. -/
def four (c : BitVec 32) (t : ℕ) {β : Type} (op : ∀ kk : Fin 4, guardW c t (BitVec.ofNat 32 kk.val) = 1#1 → TileProg (F := F) i PUnit)
    (K : TileProg (F := F) i β) : TileProg (F := F) i β :=
  guardThen (guardW c t 0#32) (op 0) <| guardThen (guardW c t 1#32) (op 1) <|
    guardThen (guardW c t 2#32) (op 2) <| guardThen (guardW c t 3#32) (op 3) K

/-- The four blocks of the row buffer lie inside it. -/
theorem block_inb (kk : Fin 4) : ∀ a, (![128 * kk.val, 0] : Fin 2 → Nat) a + S128x128.size a ≤ S512x128.size a := by
  intro a; fin_cases kk <;> fin_cases a <;> decide

/-- Every guarded chunk of the group `t` lies inside a list. -/
abbrev ChunksIn (c : BitVec 32) (t : ℕ) : Prop :=
  ∀ kk : Fin 4, guardW c t (BitVec.ofNat 32 kk.val) = 1#1 →
    ∀ a, chunkOff t (BitVec.ofNat 32 kk.val) a + S128.size a ≤ S6528.size a

/-- One group of a copying loop: four guarded gathers, their waits, four guarded scatters, their waits. -/
def copyGroup (c : BitVec 32) (t : ℕ) (hin : ChunksIn c t) (src dst : Memref sig .scVector .hbm S200000x128 .f32)
    (Ls Ld : Memref sig .scVector .vmem S6528 .i32) (rb : Memref sig .scVector .vmem S512x128 .f32) (sg ss : DmaSem sig) :
    TileProg (F := F) i Unit :=
  four i c t (fun kk h => gIssue i src (blockOf rb (128 * kk.val) (block_inb kk)) (chunkOf Ls _ (hin kk h)) sg) <|
  four i c t (fun kk _ => gWait i src (blockOf rb (128 * kk.val) (block_inb kk)) sg) <|
  four i c t (fun kk h => sIssue i (blockOf rb (128 * kk.val) (block_inb kk)) dst (chunkOf Ld _ (hin kk h)) ss) <|
  four i c t (fun kk _ => sWait i (blockOf rb (128 * kk.val) (block_inb kk)) dst ss) (pure ⟨⟩)

/-- One group of a zeroing loop: four guarded scatters of the zero block, then their waits. -/
def zeroGroup (c : BitVec 32) (t : ℕ) (hin : ChunksIn c t) (zb : Memref sig .scVector .vmem S128x128 .f32)
    (dst : Memref sig .scVector .hbm S200000x128 .f32) (Ld : Memref sig .scVector .vmem S6528 .i32) (ss : DmaSem sig) :
    TileProg (F := F) i Unit :=
  four i c t (fun kk h => sIssue i zb dst (chunkOf Ld _ (hin kk h)) ss) <|
  four i c t (fun _ _ => sWait i zb dst ss) (pure ⟨⟩)

/-- The first printed part of a copying group: its gathers and two of their waits. -/
def copyA (c : BitVec 32) (t : ℕ) (hin : ChunksIn c t) (src : Memref sig .scVector .hbm S200000x128 .f32)
    (Ls : Memref sig .scVector .vmem S6528 .i32) (rb : Memref sig .scVector .vmem S512x128 .f32) (sg : DmaSem sig)
    {β : Type} (K : TileProg (F := F) i β) : TileProg (F := F) i β :=
  four i c t (fun kk h => gIssue i src (blockOf rb (128 * kk.val) (block_inb kk)) (chunkOf Ls _ (hin kk h)) sg) <|
  guardThen (guardW c t 0#32) (fun _ => gWait i src (blockOf rb 0 (block_inb 0)) sg) <|
  guardThen (guardW c t 1#32) (fun _ => gWait i src (blockOf rb 128 (block_inb 1)) sg) K

/-- The second printed part of a copying group: the other waits, the scatters and the first wait for them. -/
def copyB (c : BitVec 32) (t : ℕ) (hin : ChunksIn c t) (src dst : Memref sig .scVector .hbm S200000x128 .f32)
    (Ld : Memref sig .scVector .vmem S6528 .i32) (rb : Memref sig .scVector .vmem S512x128 .f32) (sg ss : DmaSem sig)
    {β : Type} (K : TileProg (F := F) i β) : TileProg (F := F) i β :=
  guardThen (guardW c t 2#32) (fun _ => gWait i src (blockOf rb 256 (block_inb 2)) sg) <|
  guardThen (guardW c t 3#32) (fun _ => gWait i src (blockOf rb 384 (block_inb 3)) sg) <|
  four i c t (fun kk h => sIssue i (blockOf rb (128 * kk.val) (block_inb kk)) dst (chunkOf Ld _ (hin kk h)) ss) <|
  guardThen (guardW c t 0#32) (fun _ => sWait i (blockOf rb 0 (block_inb 0)) dst ss) K

/-- The first printed part of a zeroing group: its scatters and two of their waits. -/
def zeroA (c : BitVec 32) (t : ℕ) (hin : ChunksIn c t) (zb : Memref sig .scVector .vmem S128x128 .f32)
    (dst : Memref sig .scVector .hbm S200000x128 .f32) (Ld : Memref sig .scVector .vmem S6528 .i32) (ss : DmaSem sig)
    {β : Type} (K : TileProg (F := F) i β) : TileProg (F := F) i β :=
  four i c t (fun kk h => sIssue i zb dst (chunkOf Ld _ (hin kk h)) ss) <|
  guardThen (guardW c t 0#32) (fun _ => sWait i zb dst ss) <|
  guardThen (guardW c t 1#32) (fun _ => sWait i zb dst ss) K

/-- More after a first part joins its rest. -/
theorem copyA_bind {c : BitVec 32} {t : ℕ} {hin : ChunksIn c t} {src Ls rb sg} {β γ : Type} (K : TileProg (F := F) i β)
    (k : β → TileProg (F := F) i γ) :
    (copyA i c t hin src Ls rb sg K >>= k) = copyA i c t hin src Ls rb sg (K >>= k) := by
  simp only [copyA, four, guardThen_bind]

/-- More after a second part joins its rest. -/
theorem copyB_bind {c : BitVec 32} {t : ℕ} {hin : ChunksIn c t} {src dst Ld rb sg ss} {β γ : Type} (K : TileProg (F := F) i β)
    (k : β → TileProg (F := F) i γ) :
    (copyB i c t hin src dst Ld rb sg ss K >>= k) = copyB i c t hin src dst Ld rb sg ss (K >>= k) := by
  simp only [copyB, four, guardThen_bind]

/-- More after a first part of a zeroing group joins its rest. -/
theorem zeroA_bind {c : BitVec 32} {t : ℕ} {hin : ChunksIn c t} {zb dst Ld ss} {β γ : Type} (K : TileProg (F := F) i β)
    (k : β → TileProg (F := F) i γ) :
    (zeroA i c t hin zb dst Ld ss K >>= k) = zeroA i c t hin zb dst Ld ss (K >>= k) := by
  simp only [zeroA, four, guardThen_bind]

end ops

/-! ## The loops' bodies -/

section bodies

variable (i : grid0.Coords) (arg2 : Memref sig .scVector .hbm S2x200000x128 .f32)
  (harg2 : arg2.IsWhole) (arg3 : Memref sig .scVector .hbm S2x200000x128 .f32)
  (harg3 : arg3.IsWhole) (arg4 : Memref sig .scVector .hbm S100000 .i32)
  (harg4 : arg4.IsWhole) (arg5 : Memref sig .scVector .hbm S100000 .i32)
  (harg5 : arg5.IsWhole) (arg6 : Memref sig .scVector .hbm S100000 .i32)
  (harg6 : arg6.IsWhole) (arg7 : Memref sig .scVector .hbm S100000 .i32)
  (harg7 : arg7.IsWhole) (arg8 : Memref sig .scVector .hbm S128x128 .f32)
  (harg8 : arg8.IsWhole) (arg9 : Memref sig .scVector .hbm S2x200000x128 .f32)
  (harg9 : arg9.IsWhole) (arg10 : Memref sig .scVector .vmem S6256 .i32)
  (harg10 : arg10.IsWhole) (arg11 : Memref sig .scVector .vmem S4000 .i32)
  (harg11 : arg11.IsWhole) (arg12 : Memref sig .scVector .vmem S4000 .i32)
  (harg12 : arg12.IsWhole) (arg13 : Memref sig .scVector .vmem S6528 .i32)
  (harg13 : arg13.IsWhole) (arg14 : Memref sig .scVector .vmem S6528 .i32)
  (harg14 : arg14.IsWhole) (arg15 : Memref sig .scVector .vmem S6528 .i32)
  (harg15 : arg15.IsWhole) (arg16 : Memref sig .scVector .vmem S6528 .i32)
  (harg16 : arg16.IsWhole) (arg17 : Memref sig .scVector .vmem S6528 .i32)
  (harg17 : arg17.IsWhole) (arg18 : Memref sig .scVector .vmem S512x128 .f32)
  (harg18 : arg18.IsWhole) (arg19 : Memref sig .scVector .vmem S128x128 .f32)
  (harg19 : arg19.IsWhole) (arg20 : DmaSems sig S_) (arg21 : DmaSems sig S_) (v423_r0 : DmaSems sig S_) (v423_r1 : DmaSems sig S_) (v423_r2 : DmaSems sig S_) (v423_r3 : DmaSems sig S_) (v420_r4 : DmaSems sig S_)

/-- A turn of the first loop is a copying group: layer 0, rows of the first array. -/
theorem t7_body_eq (v11_0 v11_1 : BitVec 32) (h6 : k0_chk6 v11_0) (v163 c128_i32_63 v164 v166 v168 v180 : BitVec 32) (t : Fin (k0_t7_loop v11_0).trips)
    (hin : ChunksIn v11_0 t.val) :
    k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4
        v11_0 v11_1 h6 v163 c128_i32_63 v164 v166 v168 v180 t () =
      copyGroup i v11_0 t.val hin (layerOf arg2 0 inb_S2x200000x128_S1x200000x128_0_0_0) (layerOf arg9 0 inb_S2x200000x128_S1x200000x128_0_0_0) arg13 arg14 arg18 arg20.sem arg21.sem := by
  unfold k0_t7_body
  rw [k0_part2_eq_skeleton, k0_part3_eq_skeleton]
  have eA : ∃ x, k0_part2_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 v11_0 h6 v180 0#32 1#32 t =
      copyA i v11_0 t.val hin (layerOf arg2 0 inb_S2x200000x128_S1x200000x128_0_0_0) arg13 arg18 arg20.sem (pure x) := ⟨_, rfl⟩
  have eB : ∀ x : Σ' (_ : BitVec 32) (_ : BitVec 32), BitVec 1, ∃ y,
      k0_part3_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 v11_0 h6 v180 t x.1 x.2.1 x.2.2 =
      copyB i v11_0 t.val hin (layerOf arg2 0 inb_S2x200000x128_S1x200000x128_0_0_0) (layerOf arg9 0 inb_S2x200000x128_S1x200000x128_0_0_0) arg14 arg18 arg20.sem arg21.sem (pure y) :=
    fun _ => ⟨_, rfl⟩
  obtain ⟨x, hx⟩ := eA
  rw [hx, copyA_bind]
  refine congrArg (copyA i v11_0 t.val hin _ _ _ _) ?_
  obtain ⟨y, hy⟩ := eB x
  refine (congrArg (· >>= _) hy).trans ?_
  rw [copyB_bind]
  exact congrArg (copyB i v11_0 t.val hin _ _ _ _ _ _) rfl

/-- A turn of the second loop is a copying group: layer 0, rows of the second array. -/
theorem t9_body_eq (v11_1 v11_2 : BitVec 32) (h7 : k0_chk7 v11_1) (v223 c0_i32_102 v247 : BitVec 32) (t : Fin (k0_t9_loop v11_1).trips)
    (hin : ChunksIn v11_1 t.val) :
    k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4
        v11_1 v11_2 h7 v223 c0_i32_102 v247 t () =
      copyGroup i v11_1 t.val hin (layerOf arg3 0 inb_S2x200000x128_S1x200000x128_0_0_0) (layerOf arg9 0 inb_S2x200000x128_S1x200000x128_0_0_0) arg15 arg16 arg18 arg20.sem arg21.sem := by
  unfold k0_t9_body
  rw [k0_part6_eq_skeleton, k0_part7_eq_skeleton]
  have eA : ∃ x, k0_part6_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 v11_1 h7 v223 c0_i32_102 1#32 t =
      copyA i v11_1 t.val hin (layerOf arg3 0 inb_S2x200000x128_S1x200000x128_0_0_0) arg15 arg18 arg20.sem (pure x) := ⟨_, rfl⟩
  have eB : ∀ x : Σ' (_ : BitVec 32) (_ : BitVec 32), BitVec 1, ∃ y,
      k0_part7_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 v11_1 h7 v223 t x.1 x.2.1 x.2.2 =
      copyB i v11_1 t.val hin (layerOf arg3 0 inb_S2x200000x128_S1x200000x128_0_0_0) (layerOf arg9 0 inb_S2x200000x128_S1x200000x128_0_0_0) arg16 arg18 arg20.sem arg21.sem (pure y) :=
    fun _ => ⟨_, rfl⟩
  obtain ⟨x, hx⟩ := eA
  rw [hx, copyA_bind]
  refine congrArg (copyA i v11_1 t.val hin _ _ _ _) ?_
  obtain ⟨y, hy⟩ := eB x
  refine (congrArg (· >>= _) hy).trans ?_
  rw [copyB_bind]
  exact congrArg (copyB i v11_1 t.val hin _ _ _ _ _ _) rfl

/-- A turn of the third loop is a zeroing group: layer 0. -/
theorem t11_body_eq (v11_0 v11_2 : BitVec 32) (h8 : k0_chk8 v11_2) (v266 v285 : BitVec 32) (t : Fin (k0_t11_loop v11_2).trips) (hin : ChunksIn v11_2 t.val) :
    k0_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4
        v11_0 v11_2 h8 v266 v285 t () =
      zeroGroup i v11_2 t.val hin arg19 (layerOf arg9 0 inb_S2x200000x128_S1x200000x128_0_0_0) arg17 arg21.sem := by
  unfold k0_t11_body
  rw [k0_part10_eq_skeleton]
  have eA : ∃ x, k0_part10_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 v11_2 h8 v266 0#32 1#32 t =
      zeroA i v11_2 t.val hin arg19 (layerOf arg9 0 inb_S2x200000x128_S1x200000x128_0_0_0) arg17 arg21.sem (pure x) := ⟨_, rfl⟩
  obtain ⟨x, hx⟩ := eA
  rw [hx, zeroA_bind]
  exact congrArg (zeroA i v11_2 t.val hin _ _ _ _) rfl

/-- A turn of the fourth loop is a copying group: layer 1, rows of the first array. -/
theorem t13_body_eq (v11_0 v11_1 : BitVec 32) (h6 : k0_chk6 v11_0) (v309 v311 c4_i32_140 v312 v317 v322 : BitVec 32) (t : Fin (k0_t13_loop v11_0).trips)
    (hin : ChunksIn v11_0 t.val) :
    k0_t13_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4
        v11_0 v11_1 h6 v309 v311 c4_i32_140 v312 v317 v322 t () =
      copyGroup i v11_0 t.val hin (layerOf arg2 1 inb_S2x200000x128_S1x200000x128_1_0_0) (layerOf arg9 1 inb_S2x200000x128_S1x200000x128_1_0_0) arg13 arg14 arg18 arg20.sem arg21.sem := by
  unfold k0_t13_body
  rw [k0_part12_eq_skeleton, k0_part13_eq_skeleton]
  have eA : ∃ x, k0_part12_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 v11_0 h6 v309 0#32 1#32 t =
      copyA i v11_0 t.val hin (layerOf arg2 1 inb_S2x200000x128_S1x200000x128_1_0_0) arg13 arg18 arg20.sem (pure x) := ⟨_, rfl⟩
  have eB : ∀ x : Σ' (_ : BitVec 32) (_ : BitVec 32), BitVec 1, ∃ y,
      k0_part13_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 v11_0 h6 v309 t x.1 x.2.1 x.2.2 =
      copyB i v11_0 t.val hin (layerOf arg2 1 inb_S2x200000x128_S1x200000x128_1_0_0) (layerOf arg9 1 inb_S2x200000x128_S1x200000x128_1_0_0) arg14 arg18 arg20.sem arg21.sem (pure y) :=
    fun _ => ⟨_, rfl⟩
  obtain ⟨x, hx⟩ := eA
  rw [hx, copyA_bind]
  refine congrArg (copyA i v11_0 t.val hin _ _ _ _) ?_
  obtain ⟨y, hy⟩ := eB x
  refine (congrArg (· >>= _) hy).trans ?_
  rw [copyB_bind]
  exact congrArg (copyB i v11_0 t.val hin _ _ _ _ _ _) rfl

/-- A turn of the fifth loop is a copying group: layer 1, rows of the second array. -/
theorem t15_body_eq (v11_1 v11_2 : BitVec 32) (h7 : k0_chk7 v11_1) (v352 v354 c4_i32_163 v355 v357 v359 : BitVec 32) (t : Fin (k0_t15_loop v11_1).trips)
    (hin : ChunksIn v11_1 t.val) :
    k0_t15_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4
        v11_1 v11_2 h7 v352 v354 c4_i32_163 v355 v357 v359 t () =
      copyGroup i v11_1 t.val hin (layerOf arg3 1 inb_S2x200000x128_S1x200000x128_1_0_0) (layerOf arg9 1 inb_S2x200000x128_S1x200000x128_1_0_0) arg15 arg16 arg18 arg20.sem arg21.sem := by
  unfold k0_t15_body
  rw [k0_part16_eq_skeleton, k0_part17_eq_skeleton]
  have eA : ∃ x, k0_part16_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 v11_1 h7 v352 0#32 1#32 t =
      copyA i v11_1 t.val hin (layerOf arg3 1 inb_S2x200000x128_S1x200000x128_1_0_0) arg15 arg18 arg20.sem (pure x) := ⟨_, rfl⟩
  have eB : ∀ x : Σ' (_ : BitVec 32) (_ : BitVec 32), BitVec 1, ∃ y,
      k0_part17_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 v11_1 h7 v352 t x.1 x.2.1 x.2.2 =
      copyB i v11_1 t.val hin (layerOf arg3 1 inb_S2x200000x128_S1x200000x128_1_0_0) (layerOf arg9 1 inb_S2x200000x128_S1x200000x128_1_0_0) arg16 arg18 arg20.sem arg21.sem (pure y) :=
    fun _ => ⟨_, rfl⟩
  obtain ⟨x, hx⟩ := eA
  rw [hx, copyA_bind]
  refine congrArg (copyA i v11_1 t.val hin _ _ _ _) ?_
  obtain ⟨y, hy⟩ := eB x
  refine (congrArg (· >>= _) hy).trans ?_
  rw [copyB_bind]
  exact congrArg (copyB i v11_1 t.val hin _ _ _ _ _ _) rfl

/-- A turn of the sixth loop is a zeroing group: layer 1. -/
theorem t17_body_eq (v11_2 : BitVec 32) (h8 : k0_chk8 v11_2) (v395 : BitVec 32) (t : Fin (k0_t17_loop v11_2).trips) (hin : ChunksIn v11_2 t.val) :
    k0_t17_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4
        v11_2 h8 v395 t () =
      zeroGroup i v11_2 t.val hin arg19 (layerOf arg9 1 inb_S2x200000x128_S1x200000x128_1_0_0) arg17 arg21.sem := by
  unfold k0_t17_body
  rw [k0_part20_eq_skeleton]
  have eA : ∃ x, k0_part20_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 v11_2 h8 v395 0#32 1#32 t =
      zeroA i v11_2 t.val hin arg19 (layerOf arg9 1 inb_S2x200000x128_S1x200000x128_1_0_0) arg17 arg21.sem (pure x) := ⟨_, rfl⟩
  obtain ⟨x, hx⟩ := eA
  rw [hx, zeroA_bind]
  exact congrArg (zeroA i v11_2 t.val hin _ _ _ _) rfl

end bodies

end Cert.Proof
-- ==== Proof.Rows.lean ====
/-
  Row transfers counted as a batch. One indirect copy issues one row transfer per entry of its list; here every row is
  one transfer of a counted batch (`Transfers.Batch`) on the copy's semaphore, so several copies may stand on one
  semaphore at once, and rows that land in the same place are allowed when the destination is held in write mode.
-/
module

public import Idealize.ShloMosaic.Lib.Batch
public import Idealize.ShloMosaic.Lib.WriteMode
public import Idealize.ShloMosaic.Lib.SparseCore.Stream
public import Idealize.ShloMosaic.Lib.SparseCore.Scatter
public import Idealize.ShloMosaic.Lib.SparseCore.Ops
public import Idealize.ShloMosaic.Lib.Tactic

@[expose] public section

noncomputable section

namespace Cert.Proof.Rows

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers (Batch batchBody pending batch_creditUpdate)

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- The transfers of a batch from the `k`-th on are the next `o` and those from the `(k + o)`-th on. -/
theorem bigSep_pending_add {n : ℕ} (Φ : Fin n → sProp 𝕄) (k o : ℕ) (h : k + o ≤ n) :
    bigSep (pending k) Φ = iprop(bigSep (Finset.univ : Finset (Fin o)) (fun j => Φ ⟨k + j, by omega⟩) ∗ bigSep (pending (k + o)) Φ) := by
  have hinj : Function.Injective (fun j : Fin o => (⟨k + j, by omega⟩ : Fin n)) := fun i j hij => by
    simp only [Fin.mk.injEq] at hij; exact Fin.ext (by omega)
  have hset : pending (n := n) k = Finset.univ.map ⟨_, hinj⟩ ∪ pending (k + o) := by
    ext t
    simp only [pending, Finset.mem_filter, Finset.mem_univ, true_and, Finset.mem_union, Finset.mem_map, Function.Embedding.coeFn_mk]
    constructor
    · intro hk
      by_cases h' : k + o ≤ t.val
      · exact Or.inr h'
      · exact Or.inl ⟨⟨t.val - k, by omega⟩, Fin.ext (by simp; omega)⟩
    · rintro (⟨j, rfl⟩ | h')
      · simp
      · omega
  have hdis : Disjoint (Finset.univ.map ⟨_, hinj⟩) (pending (n := n) (k + o)) := by
    rw [Finset.disjoint_left]
    intro t ht ht'
    obtain ⟨j, -, rfl⟩ := Finset.mem_map.mp ht
    have hj := j.isLt
    simp [pending] at ht'
    omega
  rw [hset, BI.bigSep_union hdis, bigSep_map]; rfl

/-- THE STREAM OF A BATCH. An indirect copy issued as the next `o` transfers of a batch, one per entry of its list: each
    entry's resources `Res` give its list element and, when that is back, its row's footprint, delivering the batch's `D`. -/
theorem wp_streamBatch [Infinite Name] [EC.LandsIn (upEmb : UEmb _ 𝕄)] {o : ℕ}
    {offsM : Memref sig c.2.kind .vmem si .i32} {hp : c.2.kind = .scVector} {hn : si.numel = o} {sem : DmaSem sig}
    {row : Fin o → Elt F .i32 → Option (RowDma τ sig (Elt F) c.2 sem)}
    {k : PUnit → Prog (TpuEff nD τ sig (Elt F) Λ c.2) α}
    {qo : PosShare TreeShare} {fo : Buf (Elt F) (offsM.view.loc c)} {rd : Fin o → RowDma τ sig (Elt F) c.2 sem}
    (ι : Ix) (N : ℕ) {n : ℕ} {Res D : Fin n → sProp 𝕄} {j u : ℕ} (hj : j + o ≤ n) (hu : u ≤ j * N)
    (hA : (Stream.issued c offsM.view hn sem row 0).RowsAgree)
    (hrd : ∀ i, row i ((Stream.issued c offsM.view hn sem row 0).word fo i) = some (rd i))
    (hN : ∀ i, (rd i).dst.view.dmaCredit = N)
    (P : sProp 𝕄) [BI.Persistent P]
    (hrow : ∀ (i : Fin o) (CU : sProp 𝕄),
      (∀ R₀ : sProp 𝕄, (R₀ ⊢ D ⟨j + i, by omega⟩) → CU ⊢ creditUpdate (c, SemLoc.dma sem) ((rd i).dst.view.amount (.dma sem)) 0 R₀) →
      iprop(P ∗ Res ⟨j + i, by omega⟩ ∗ CU)
        ⊢ iprop((Stream.issued c offsM.view hn sem row 0).heldEntry qo fo i
            ∗ ((Stream.issued c offsM.view hn sem row 0).heldEntry qo fo i -∗ rowRes c (rd i)))) :
    iprop(P ∗ bigSep (pending j) Res ∗ Batch EC c (.dma sem) ι N D j u)
      ⊢ iprop((iprop(bigSep (pending (j + o)) Res ∗ Batch EC c (.dma sem) ι N D (j + o) u) -∗ wp frame (wpE defs 𝒱 c bd) Set.univ (k ⟨⟩) Q)
          -∗ wp frame (wpE defs 𝒱 c bd) Set.univ (.op (.enqueueIndirectDma hp offsM hn sem row) k) Q) := by
  unfold Batch
  iintro ⟨#HP, HR, ⟨%γ, %γ₀, %κ, #Hinv, HI, H0, Hcred⟩⟩ Hk
  ihave HR' := (Entails.of_eq (bigSep_pending_add Res j o hj)) $$ HR
  icases HR' with ⟨HR, HRest⟩
  ihave HI' := (Entails.of_eq (bigSep_pending_add (fun t => count EC (γ t) 0) j o hj)) $$ HI
  icases HI' with ⟨HI, HIest⟩
  iapply (wp_enqueueIndirectDma 𝒱 c bd Set.univ (qo := qo) (fo := fo) (rd := rd) ι (o * N) hA hrd
    (by rw [Finset.sum_congr rfl fun i _ => hN i]; simp)) $$ [HR HI]
  · unfold Stream.res
    ihave H1 := Transfers.bigSep_sep_in _ _ _ $$ [HR HI]; · isplitl [HR] <;> iassumption
    have hr : ∀ i : Fin o, iprop(iprop(P ∗ inv κ (batchBody EC (c, SemLoc.dma sem) N D γ γ₀)) ∗ (Res ⟨j + i, by omega⟩ ∗ count EC (γ ⟨j + i, by omega⟩) 0))
        ⊢ iprop((Stream.issued c offsM.view hn sem row 0).heldEntry qo fo i
            ∗ ((Stream.issued c offsM.view hn sem row 0).heldEntry qo fo i -∗ rowRes c (rd i))) := fun i => by
      iintro ⟨⟨#HP, #Hinv⟩, Hr, Hc⟩
      iapply (hrow i iprop(inv κ (batchBody EC (c, SemLoc.dma sem) N D γ γ₀) ∗ count EC (γ ⟨j + i, by omega⟩) 0) (fun R₀ hR => by
        rw [show (rd i).dst.view.amount (.dma sem) = N from hN i]
        exact batch_creditUpdate EC ⟨j + i, by omega⟩ hR))
      isplitr; · iexact HP
      isplitl [Hr]; · iexact Hr
      isplitr; · iexact Hinv
      iexact Hc
    iapply (Transfers.bigSep_mono_pers Finset.univ _ _ _ fun i _ => hr i)
    isplitr
    · isplitr; · iexact HP
      iexact Hinv
    · iexact H1
  iintro Hcred'
  iapply Hk
  isplitl [HRest]; · iexact HRest
  iexists γ, γ₀, κ
  isplitr; · iexact Hinv
  isplitl [HIest]; · iexact HIest
  isplitl [H0]; · iexact H0
  rw [show (j + o) * N - u = (j * N - u) + o * N by rw [Nat.add_mul]; omega, ← tallyAt_add]
  icombine Hcred Hcred' as H
  iexact H

/-- The list element that entry `i` of an indirect copy reads. -/
abbrev entryOf (offs : Memref sig c.2.kind .vmem si .i32) {o : ℕ} (hn : si.numel = o) (i : Fin o) : Idx (offs.view.loc c) :=
  offs.view.emb (si.rowMajor.symm (i.cast hn.symm))

/-- AN INDIRECT GATHER as the next transfers of a batch: entry `i` copies the source's row that the list names into the
    destination's row `i`. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {qo : PosShare TreeShare} {fs : Buf (Elt F) (src.view.loc c)} {fd : Buf (Elt F) (dst.view.loc c)} {fo : Buf (Elt F) (offs.view.loc c)}
    (ι : Ix) (N : ℕ) {n : ℕ} {Res D : Fin n → sProp 𝕄} {j u : ℕ} (hj : j + s.size hg.axis' ≤ n) (hu : u ≤ j * N)
    (hin : ∀ x, (offs.view.read (Elt F) fo x).toNat < s₀.size hg.axis)
    (hN : ∀ i, (dst.slice (s.rowRect hg.axis' i) (s.stride_rowRect hg.axis' i)).view.dmaCredit = N)
    (qs : Fin (s.size hg.axis') → PosShare TreeShare) (Fr : Fin (s.size hg.axis') → sProp 𝕄)
    (hRes : ∀ i : Fin (s.size hg.axis'), Res ⟨j + i, by omega⟩
      ⊢ iprop((dst.view.loc c ↦[(dst.view.slice (s.rowRect hg.axis' i)).set]{fullShare} fd)
          ∗ (offs.view.loc c ↦[{entryOf c offs hn i}]{qo} fo) ∗ (src.view.loc c ↦[src.view.set]{qs i} fs) ∗ Fr i))
    (hD : ∀ i : Fin (s.size hg.axis'),
      iprop((dst.view.loc c ↦[(dst.view.slice (s.rowRect hg.axis' i)).set]{fullShare} ((dst.view.slice (s.rowRect hg.axis' i)).write (Elt F) fd
              (fun x => src.view.read (Elt F) fs (hg.rowIdx (rows (offs.view.read (Elt F) fo) hn hin i) x)) Finset.univ))
          ∗ (offs.view.loc c ↦[{entryOf c offs hn i}]{qo} fo) ∗ (src.view.loc c ↦[src.view.set]{qs i} fs) ∗ Fr i)
        ⊢ D ⟨j + i, by omega⟩) :
    iprop(bigSep (pending j) Res ∗ Batch EC c (.dma sem) ι N D j u)
      ⊢ iprop((iprop(bigSep (pending (j + s.size hg.axis')) Res ∗ Batch EC c (.dma sem) ι N D (j + s.size hg.axis') u)
              -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  refine Entails.trans ?_ (wp_streamBatch (Res := Res) (D := D) EC 𝒱 c bd (qo := qo) (fo := fo) (rd := rd) ι N hj hu hA hrd hN iprop(⌜True⌝) ?_)
  · iintro ⟨HR, HB⟩
    isplitr; · ipureintro; trivial
    isplitl [HR] <;> iassumption
  · intro i CU hCU
    iintro ⟨-, HR, HC⟩
    ihave HR' := (hRes i) $$ HR
    icases HR' with ⟨Hd, He, Hs, Hf⟩
    isplitl [He]; · iexact He
    iintro He
    unfold rowRes
    iexists qs i, fs, iprop((dst.view.loc c ↦[(dst.view.slice (s.rowRect hg.axis' i)).set]{fullShare} ((dst.view.slice (s.rowRect hg.axis' i)).write (Elt F) fd
              (fun x => src.view.read (Elt F) fs (hg.rowIdx (rows (offs.view.read (Elt F) fo) hn hin i) x)) Finset.univ))
          ∗ (offs.view.loc c ↦[{entryOf c offs hn i}]{qo} fo) ∗ Fr i)
    isplitl [Hs]; · iexact Hs
    isplitl [Hd He Hf]
    · iapply writeUpdate_frame
      isplitl [Hd]
      · iapply (pointsTo_writeUpdate c (v := dst.view.slice (s.rowRect hg.axis' i)) subset_rfl) $$ Hd
      · isplitl [He]; · iexact He
        iexact Hf
    · iapply (hCU _ ?_) $$ HC
      refine Entails.trans ?_ (hD i)
      iintro ⟨⟨H1, H2, H4⟩, H3⟩
      isplitl [H1]; · iexact H1
      isplitl [H2]; · iexact H2
      isplitl [H3] <;> iassumption

variable (emb : UEmb (WmRA nD τ sig (Elt F)) U) {ιwm : Name}

/-- AN INDIRECT SCATTER as the next transfers of a batch, into a destination held in write mode: entry `i` copies the
    source's row `i`, whose contents the target admits, over the destination's row that the list names, and marks it. -/
theorem wp_scatterBatch [Infinite Name] [EC.LandsIn (upEmb : UEmb _ 𝕄)]
    {src : Memref sig c.2.kind .vmem s e} {dst : Memref sig c.2.kind sp s₀ e} {hg : s₀.Gathers a s}
    {offs : Memref sig c.2.kind .vmem si .i32} {hn : si.numel = s.size hg.axis'} {sem : DmaSem sig}
    {hp : c.2.kind = .scVector} {he : e.bits = 32} {hsp : sp = .hbm ∨ sp = .shared} {hr : s₀.StreamRows a}
    {k : PUnit → Prog (TpuEff nD τ sig (Elt F) Λ c.2) α}
    {qo : PosShare TreeShare} {fs : Buf (Elt F) (src.view.loc c)} {fd : Buf (Elt F) (dst.view.loc c)} {fo : Buf (Elt F) (offs.view.loc c)}
    {g : Tgt (Elt F) (dst.view.loc c)} {A : Finset (Idx (dst.view.loc c))}
    (ι : Ix) (N : ℕ) {n : ℕ} {Res D : Fin n → sProp 𝕄} {j u : ℕ} (hj : j + s.size hg.axis' ≤ n) (hu : u ≤ j * N)
    (hin : ∀ x, (offs.view.read (Elt F) fo x).toNat < s₀.size hg.axis)
    (hN : ∀ x, (dst.slice (s₀.rowRect hg.axis x) (s₀.stride_rowRect hg.axis _)).view.dmaCredit = N)
    (qs qd : Fin (s.size hg.axis') → PosShare TreeShare) (Fr : Fin (s.size hg.axis') → sProp 𝕄)
    (hS : ∀ x, (dst.view.slice (s₀.rowRect hg.axis x)).set ⊆ A)
    (hw : ∀ i, (dst.view.slice (s₀.rowRect hg.axis (rows (offs.view.read (Elt F) fo) hn hin i))).Admitted (Elt F) g
      (scatterRowPayload c src hg fs i) Finset.univ)
    (hRes : ∀ i : Fin (s.size hg.axis'), Res ⟨j + i, by omega⟩
      ⊢ iprop((src.view.loc c ↦[(src.view.slice (s.rowRect hg.axis' i)).set]{qs i} fs)
          ∗ (offs.view.loc c ↦[{entryOf c offs hn i}]{qo} fo) ∗ willBeTo (Ix := Ix) emb (dst.view.loc c) A (qd i) fd g ∅ ∗ Fr i))
    (hD : ∀ i : Fin (s.size hg.axis'),
      iprop((src.view.loc c ↦[(src.view.slice (s.rowRect hg.axis' i)).set]{qs i} fs)
          ∗ (offs.view.loc c ↦[{entryOf c offs hn i}]{qo} fo)
          ∗ willBeTo (Ix := Ix) emb (dst.view.loc c) A (qd i) fd g
              (dst.view.slice (s₀.rowRect hg.axis (rows (offs.view.read (Elt F) fo) hn hin i))).set ∗ Fr i)
        ⊢ D ⟨j + i, by omega⟩) :
    iprop(wmInv emb ιwm ∗ bigSep (pending j) Res ∗ Batch EC c (.dma sem) ι N D j u)
      ⊢ iprop((iprop(bigSep (pending (j + s.size hg.axis')) Res ∗ Batch EC c (.dma sem) ι N D (j + s.size hg.axis') u)
              -∗ wp frame (wpE defs 𝒱 c bd) Set.univ (k ⟨⟩) Q)
          -∗ wp frame (wpE defs 𝒱 c bd) Set.univ (enqueueIndirectScatter hp src dst hg offs hn sem he hsp hr >>= k) Q) := by
  classical
  rw [enqueueIndirectScatter_bind]
  let S : Stream nD τ sig (Elt F) :=
    Stream.issued c offs.view hn sem (fun j w => (rowOf (s₀.size hg.axis) w).map (scatterRow c src dst hg sem he hsp hr j)) 0
  let r : Fin (s.size hg.axis') → Fin (s₀.size hg.axis) := rows (offs.view.read (Elt F) fo) hn hin
  let rd : Fin (s.size hg.axis') → RowDma τ sig (Elt F) c.2 sem := fun j => scatterRow c src dst hg sem he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsrcset : ∀ j, (src.view.slice (s.rowRect hg.axis' j)).set = (rd j).src.view.set := fun j =>
    (View.set_cast (v := src.view.slice (s.rowRect hg.axis' j)) _ _).symm
  refine wp_streamBatch (Res := Res) (D := D) EC 𝒱 c bd (qo := qo) (fo := fo) (rd := rd) ι N hj hu hA hrd (fun i => hN (r i))
    (wmInv emb ιwm) ?_
  intro i CU hCU
  iintro ⟨#HP, HR, HC⟩
  ihave HR' := (hRes i) $$ HR
  icases HR' with ⟨Hs, He, Hd, Hf⟩
  isplitl [He]; · iexact He
  iintro He
  unfold rowRes
  iexists qs i, fs, iprop(willBeTo (Ix := Ix) emb (dst.view.loc c) A (qd i) fd g
              (∅ ∪ (dst.view.slice (s₀.rowRect hg.axis (rows (offs.view.read (Elt F) fo) hn hin i))).set)
          ∗ (offs.view.loc c ↦[{entryOf c offs hn i}]{qo} fo) ∗ Fr i)
  isplitl [Hs]; · iapply (Entails.of_eq (congrArg (fun I => (src.view.loc c ↦[I]{qs i} fs : sProp 𝕄)) (hsrcset i))) $$ Hs
  isplitl [Hd He Hf]
  · iapply writeUpdate_frame
    isplitl [Hd]
    · iapply (willBeTo_writeUpdate (emb := emb) c (v := dst.view.slice (s₀.rowRect hg.axis (r i))) (hS (r i)) (hw i))
      isplitr; · iexact HP
      iexact Hd
    · isplitl [He]; · iexact He
      iexact Hf
  · iapply (hCU _ ?_) $$ HC
    refine Entails.trans ?_ (hD i)
    rw [Finset.empty_union, hsrcset i]
    iintro ⟨⟨H1, H2, H4⟩, H3⟩
    isplitl [H3]; · iexact H3
    isplitl [H2]; · iexact H2
    isplitl [H1] <;> iassumption

end Cert.Proof.Rows
-- ==== Proof.Pieces.lean ====
/-
  Cutting and joining what a tile holds: elements of a buffer into disjoint sets, a buffer held in write mode into
  pieces of its share whose marks join.
-/
module

public import proofs.«01_k».proof.Proof.Rows

@[expose] public section

noncomputable section

namespace Cert.Proof.Rows

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers (pending)

variable {nD : Nat} {τ : Topo} {sig : RefSig} {Ix : Type} [DecidableEq Ix]
variable {Val : EltTy → Type} {Name : Type} [DecidableEq Name]
variable {U : Type} [URA U] {Lvl : Type} [Preorder Lvl]

local notation "𝕄" => MT nD τ sig Ix Val Name U Lvl

/-- No transfer of a batch is before the first. -/
theorem pending_zero {n : ℕ} : pending (n := n) 0 = Finset.univ := by simp [pending]

/-- No transfer of a batch is after the last. -/
theorem pending_last {n : ℕ} : pending (n := n) n = ∅ := by
  ext t; simp [pending]

variable {ℓ : Loc nD τ sig} {q : PosShare TreeShare} {n : ℕ}

/-- A whole buffer is its elements in disjoint sets and the rest of it. -/
theorem cover_split (K : Fin n → Finset (Idx ℓ)) (hK : ∀ t t', t ≠ t' → Disjoint (K t) (K t')) (f : Buf Val ℓ) :
    (ℓ ↦[Finset.univ]{q} f : sProp 𝕄)
      ⊢ iprop(bigSep Finset.univ (fun t => ℓ ↦[K t]{q} f) ∗ ℓ ↦[Finset.univ \ Finset.univ.biUnion K]{q} f) := by
  rw [← pointsTo_biUnion Finset.univ K fun t _ t' _ h => hK t t' h]
  exact (pointsTo_split_subset (Finset.subset_univ _)).1

/-- Disjoint sets of a buffer's elements and the rest of it, each held with contents of its own, are the whole buffer,
    with each set's contents on the set. -/
theorem cover_join (K : Fin n → Finset (Idx ℓ)) (hK : ∀ t t', t ≠ t' → Disjoint (K t) (K t')) (f : Fin n → Buf Val ℓ)
    (f₀ : Buf Val ℓ) :
    iprop(bigSep Finset.univ (fun t => ℓ ↦[K t]{q} f t) ∗ ℓ ↦[Finset.univ \ Finset.univ.biUnion K]{q} f₀)
      ⊢ (iprop(∃ G, ⌜∀ t, ∀ p ∈ K t, G p = f t p⌝ ∗ ℓ ↦[Finset.univ]{q} G) : sProp 𝕄) := by
  classical
  iintro ⟨H, H0⟩
  ihave H' := (pointsTo_biUnion_join Finset.univ K f f₀ fun t _ t' _ h => hK t t' h) $$ H
  icases H' with ⟨%g, %hg, H⟩
  ihave H2 := (pointsTo_join (I := Finset.univ \ Finset.univ.biUnion K) (J := Finset.univ.biUnion K) Finset.sdiff_disjoint) $$ [H0 H]
  · isplitl [H0] <;> iassumption
  rw [Finset.sdiff_union_of_subset (Finset.subset_univ _)]
  iexists _
  isplitr
  swap; · iexact H2
  ipureintro
  intro t p hp
  rw [Finset.piecewise_eq_of_mem _ _ _ (Finset.mem_biUnion.mpr ⟨t, Finset.mem_univ _, hp⟩)]
  exact hg t (Finset.mem_univ _) p hp

/-- Disjoint sets of a buffer's elements and the rest of it are the whole buffer. -/
theorem cover_join_same (K : Fin n → Finset (Idx ℓ)) (hK : ∀ t t', t ≠ t' → Disjoint (K t) (K t')) (f : Buf Val ℓ) :
    iprop(bigSep Finset.univ (fun t => ℓ ↦[K t]{q} f) ∗ ℓ ↦[Finset.univ \ Finset.univ.biUnion K]{q} f)
      ⊢ (ℓ ↦[Finset.univ]{q} f : sProp 𝕄) := by
  rw [← pointsTo_biUnion Finset.univ K fun t _ t' _ h => hK t t' h]
  exact (pointsTo_split_subset (Finset.subset_univ _)).2

section WillBe

variable (emb : UEmb (WmRA nD τ sig Val) U) {I W : Finset (Idx ℓ)} {f : Buf Val ℓ} {g : Tgt Val ℓ} {q₁ q₂ : PosShare TreeShare}

omit [Preorder Lvl] in
/-- A buffer in write mode is cut by its share, the marks going to the first part. -/
theorem willBe_cut [h : IsOp q q₁ q₂] :
    (willBeTo (Ix := Ix) emb ℓ I q f g W : sProp 𝕄)
      ⊢ iprop(willBeTo (Ix := Ix) emb ℓ I q₁ f g W ∗ willBeTo (Ix := Ix) emb ℓ I q₂ f g ∅) := by
  have e := BI.own_op_elim (BI.Region.isOp_willBe_share_union (ι := (wmEmb Ix emb : UEmb _ 𝕄).toEmb) (k := ℓ) (I := I) (f := f)
    (t := g) (h := h) (W₁ := W) (W₂ := ∅)).mem_op
  rw [Finset.union_empty] at e
  exact e

omit [Preorder Lvl] in
/-- Two parts of a buffer in write mode join, and so do their marks. -/
theorem willBe_meet [h : IsOp q q₁ q₂] {W' : Finset (Idx ℓ)} :
    iprop(willBeTo (Ix := Ix) emb ℓ I q₁ f g W ∗ willBeTo (Ix := Ix) emb ℓ I q₂ f g W')
      ⊢ (willBeTo (Ix := Ix) emb ℓ I q f g (W ∪ W') : sProp 𝕄) :=
  BI.own_op_intro (BI.Region.isOp_willBe_share_union (ι := (wmEmb Ix emb : UEmb _ 𝕄).toEmb) (k := ℓ) (I := I) (f := f)
    (t := g) (h := h) (W₁ := W) (W₂ := W')).mem_op

/-- A buffer in write mode, cut into `n + 1` pieces of its share with no marks. -/
theorem willBe_pieces_succ : ∀ (n : ℕ) (q : PosShare TreeShare), (willBeTo (Ix := Ix) emb ℓ I q f g ∅ : sProp 𝕄)
      ⊢ bigSep Finset.univ fun k : Fin (n + 1) => willBeTo (Ix := Ix) emb ℓ I (piece q n k) f g ∅
  | 0, q => Entails.of_eq (BI.bigSep_univ_of_subsingleton (0 : Fin 1)
      (Φ := fun k : Fin 1 => (willBeTo (Ix := Ix) emb ℓ I (piece q 0 k) f g ∅ : sProp 𝕄))).symm
  | n + 1, q => by
    haveI : IsOp q q.left q.right := ⟨PosShare.mem_left_op_right q⟩
    rw [bigSep_univ_succ (Ix := Ix) (Name := Name) (U := U) (Lvl := Lvl)]
    refine (willBe_cut (q₁ := q.left) (q₂ := q.right) emb).trans (sep_mono (Entails.of_eq ?_) ((willBe_pieces_succ n q.right).trans (Entails.of_eq ?_)))
    · rfl
    · rfl

/-- Pieces of the share of a buffer in write mode join, and so do their marks. -/
theorem willBe_join_succ : ∀ (n : ℕ) (q : PosShare TreeShare) (M : Fin (n + 1) → Finset (Idx ℓ)),
    (bigSep Finset.univ fun k : Fin (n + 1) => willBeTo (Ix := Ix) emb ℓ I (piece q n k) f g (M k))
      ⊢ (iprop(∃ W', ⌜∀ k, M k ⊆ W'⌝ ∗ willBeTo (Ix := Ix) emb ℓ I q f g W') : sProp 𝕄)
  | 0, q, M => by
    refine (Entails.of_eq (BI.bigSep_univ_of_subsingleton (0 : Fin 1)
      (Φ := fun k : Fin 1 => (willBeTo (Ix := Ix) emb ℓ I (piece q 0 k) f g (M k) : sProp 𝕄)))).trans ?_
    iintro H
    iexists M 0
    isplitr
    · ipureintro; intro k; rw [Subsingleton.elim (α := Fin 1) k 0]
    · iexact H
  | n + 1, q, M => by
    classical
    haveI : IsOp q q.left q.right := ⟨PosShare.mem_left_op_right q⟩
    rw [bigSep_univ_succ (Ix := Ix) (Name := Name) (U := U) (Lvl := Lvl)]
    have ih : (bigSep Finset.univ fun k : Fin (n + 1) => willBeTo (Ix := Ix) emb ℓ I (piece q (n + 1) k.succ) f g (M k.succ))
        ⊢ (iprop(∃ W', ⌜∀ k : Fin (n + 1), M k.succ ⊆ W'⌝ ∗ willBeTo (Ix := Ix) emb ℓ I q.right f g W') : sProp 𝕄) :=
      willBe_join_succ n q.right fun k => M k.succ
    iintro ⟨H0, H⟩
    ihave H' := ih $$ H
    icases H' with ⟨%W', %hW, H⟩
    iexists M 0 ∪ W'
    isplitr
    · ipureintro
      intro k
      refine Fin.cases (Finset.subset_union_left) (fun k => (hW k).trans Finset.subset_union_right) k
    · iapply (willBe_meet (q₁ := q.left) (q₂ := q.right) emb)
      isplitl [H0]
      · iexact H0
      · iexact H

/-- A buffer in write mode, cut into `n` pieces of its share with no marks. -/
theorem willBe_piecesOf (hn : 0 < n) : (willBeTo (Ix := Ix) emb ℓ I q f g ∅ : sProp 𝕄)
      ⊢ bigSep Finset.univ fun k : Fin n => willBeTo (Ix := Ix) emb ℓ I (pieceOf q n hn k) f g ∅ := by
  obtain ⟨n, rfl⟩ : ∃ m, n = m + 1 := ⟨n - 1, by omega⟩
  exact willBe_pieces_succ emb n q

/-- The `n` pieces of the share of a buffer in write mode join, and so do their marks. -/
theorem willBe_joinOf (hn : 0 < n) (M : Fin n → Finset (Idx ℓ)) :
    (bigSep Finset.univ fun k : Fin n => willBeTo (Ix := Ix) emb ℓ I (pieceOf q n hn k) f g (M k))
      ⊢ (iprop(∃ W', ⌜∀ k, M k ⊆ W'⌝ ∗ willBeTo (Ix := Ix) emb ℓ I q f g W') : sProp 𝕄) := by
  obtain ⟨n, rfl⟩ : ∃ m, n = m + 1 := ⟨n - 1, by omega⟩
  exact willBe_join_succ emb n q M

instance {q : PosShare TreeShare} : Storable (upEmb : UEmb _ 𝕄) (willBeTo (Ix := Ix) emb ℓ I q f g W : sProp 𝕄) := by
  unfold willBeTo; infer_instance

end WillBe

end Cert.Proof.Rows
-- ==== Proof.Group.lean ====
/-
  Places in a tile's lists, in its row buffer and in a layer: which elements a chunk, a block of the buffer and a far row have,
  and what one row's transfer carries.
-/
module

public import proofs.«01_k».proof.Proof.Body
public import proofs.«01_k».proof.Proof.Pieces
public import Idealize.ShloMosaic.Lib.Memref

@[expose] public section

set_option synthInstance.maxSize 4096

noncomputable section

namespace Cert.Proof

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers (Batch pending)
open Cert.KernelIdeal Cert.KernelIdeal.Gen
open Cert.Proof.Rows

variable {F : FTy → Type} [FloatOps F]

/-! ## Places -/

/-- The place `k` of a list. -/
def lix (k : ℕ) : S6528.Idx := fun a => ⟨k % 6528, by fin_cases a; exact Nat.mod_lt _ (by decide)⟩

/-- Row `r`, column `ch` of the row buffer. -/
def bix (r : ℕ) (ch : Fin 128) : S512x128.Idx := fun a =>
  ⟨(![r % 512, ch.val] : Fin 2 → ℕ) a, by fin_cases a <;> [exact Nat.mod_lt _ (by decide); exact ch.isLt]⟩

/-- Row `r`, column `ch` of a layer of an array. -/
def six (r : ℕ) (ch : Fin 128) : S200000x128.Idx := fun a =>
  ⟨(![r % 200000, ch.val] : Fin 2 → ℕ) a, by fin_cases a <;> [exact Nat.mod_lt _ (by decide); exact ch.isLt]⟩

/-- Row `r`, column `ch` of a block of 128 rows. -/
def oix (r : ℕ) (ch : Fin 128) : S128x128.Idx := fun a =>
  ⟨(![r % 128, ch.val] : Fin 2 → ℕ) a, by fin_cases a <;> [exact Nat.mod_lt _ (by decide); exact ch.isLt]⟩

/-- Entry `k` of 128 words is at place `k`. -/
theorem rowMajor_S128 : ∀ k : Fin 128, ((S128.rowMajor.symm k) 0).val = k.val := by decide +kernel

/-- A chunk's words are the list's from the chunk's start on. -/
theorem chunk_emb (L : Memref sig .scVector .vmem S6528 .i32) (o : ℕ) (off : Fin 1 → ℕ) (ho : off = ![o])
    (h : ∀ a, off a + S128.size a ≤ S6528.size a) (x : S128.Idx) :
    (chunkOf L off h).view.emb x = L.view.emb (lix (o + (x 0).val)) := by
  subst ho
  refine congrArg L.view.emb (funext fun a => Fin.ext ?_)
  have ha : a = 0 := Subsingleton.elim (α := Fin 1) a 0
  subst ha
  have h0 := h 0
  have hx := (x 0).isLt
  simp only [Matrix.cons_val_zero] at h0
  change o + 1 * (x 0).val = (o + (x 0).val) % 6528
  have h1 : S128.size 0 = 128 := rfl
  have h2 : S6528.size 0 = 6528 := rfl
  rw [Nat.mod_eq_of_lt (by omega)]; omega

/-- How a copy's rows sit in its far array and in its block. -/
abbrev hG : S200000x128.Gathers 0 S128x128 := gathers_S200000x128_S128x128

/-- The column of a place in one row of a block. -/
def rcol (x : (S128x128.rowShape hG.axis').Idx) : Fin 128 := ⟨(x ⟨1, Nat.le_refl 2⟩).val, (x ⟨1, Nat.le_refl 2⟩).isLt⟩

/-- The column of a place in one row of a layer. -/
def tcol (x : (S200000x128.rowShape hG.axis).Idx) : Fin 128 := ⟨(x ⟨1, Nat.le_refl 2⟩).val, (x ⟨1, Nat.le_refl 2⟩).isLt⟩

/-- The place of a column in one row of a block. -/
def rmk (ch : Fin 128) : (S128x128.rowShape hG.axis').Idx := fun a => ⟨(![0, ch.val] : Fin 2 → ℕ) a, by
  fin_cases a
  · exact Nat.zero_lt_one
  · exact ch.isLt⟩

/-- The place of a column in one row of a layer. -/
def tmk (ch : Fin 128) : (S200000x128.rowShape hG.axis).Idx := fun a => ⟨(![0, ch.val] : Fin 2 → ℕ) a, by
  fin_cases a
  · exact Nat.zero_lt_one
  · exact ch.isLt⟩

/-- The row of a place in one row of a block is the first. -/
theorem rrow (x : (S128x128.rowShape hG.axis').Idx) : (x ⟨0, by decide⟩).val = 0 :=
  Nat.lt_one_iff.mp (x ⟨0, by decide⟩).isLt

/-- The row of a place in one row of a layer is the first. -/
theorem trow (x : (S200000x128.rowShape hG.axis).Idx) : (x ⟨0, by decide⟩).val = 0 :=
  Nat.lt_one_iff.mp (x ⟨0, by decide⟩).isLt

/-- A row of a block of 128 rows, by its columns. -/
theorem oix_emb (k : Fin 128) (x : (S128x128.rowShape hG.axis').Idx) :
    (S128x128.rowRect hG.axis' k).emb x = oix k.val (rcol x) := by
  refine funext fun a => Fin.ext ?_
  have hk := k.isLt
  fin_cases a
  · change k.val + 1 * (x ⟨0, by decide⟩).val = k.val % 128
    rw [rrow, Nat.mod_eq_of_lt hk]; omega
  · change 0 + 1 * (x ⟨1, by decide⟩).val = (x ⟨1, by decide⟩).val
    omega

/-- A row of a layer, by its columns. -/
theorem six_emb (r : Fin 200000) (x : (S200000x128.rowShape hG.axis).Idx) :
    (S200000x128.rowRect hG.axis r).emb x = six r.val (tcol x) := by
  refine funext fun a => Fin.ext ?_
  have hk := r.isLt
  fin_cases a
  · change r.val + 1 * (x ⟨0, by decide⟩).val = r.val % 200000
    rw [trow, Nat.mod_eq_of_lt hk]; omega
  · change 0 + 1 * (x ⟨1, by decide⟩).val = (x ⟨1, by decide⟩).val
    omega

/-- A row a gather copies from, by its columns. -/
theorem six_rowIdx (r : Fin 200000) (x : (S128x128.rowShape hG.axis').Idx) : hG.rowIdx r x = six r.val (rcol x) := by
  refine funext fun a => Fin.ext ?_
  have hk := r.isLt
  fin_cases a
  · exact (congrArg Fin.val (hG.rowIdx_axis r x)).trans (Nat.mod_eq_of_lt hk).symm
  · exact hG.rowIdx_of_ne r x ⟨1, by decide⟩ (by decide)

/-- The rows of a block of the row buffer are the buffer's. -/
theorem block_emb (rb : Memref sig .scVector .vmem S512x128 .f32) (kk : Fin 4) (k : ℕ) (hk : k < 128) (ch : Fin 128) :
    (blockOf rb (128 * kk.val) (block_inb kk)).view.emb (oix k ch) = rb.view.emb (bix (128 * kk.val + k) ch) := by
  refine congrArg rb.view.emb (funext fun a => Fin.ext ?_)
  have hkk := kk.isLt
  fin_cases a
  · change 128 * kk.val + 1 * (k % 128) = (128 * kk.val + k) % 512
    rw [Nat.mod_eq_of_lt hk, Nat.mod_eq_of_lt (by omega)]; omega
  · change 0 + 1 * ch.val = ch.val
    omega

/-- Row and column of the row buffer are read off a place. -/
theorem bix_inj {r r' : ℕ} {ch ch' : Fin 128} (hr : r < 512) (hr' : r' < 512) (h : bix r ch = bix r' ch') : r = r' ∧ ch = ch' := by
  have h0 : r % 512 = r' % 512 := congrArg Fin.val (congrFun h 0)
  have h1 : ch.val = ch'.val := congrArg Fin.val (congrFun h 1)
  rw [Nat.mod_eq_of_lt hr, Nat.mod_eq_of_lt hr'] at h0
  exact ⟨h0, Fin.ext h1⟩

/-- A list's place is read off. -/
theorem lix_inj {k k' : ℕ} (hk : k < 6528) (hk' : k' < 6528) (h : lix k = lix k') : k = k' := by
  have h0 : k % 6528 = k' % 6528 := congrArg Fin.val (congrFun h 0)
  rwa [Nat.mod_eq_of_lt hk, Nat.mod_eq_of_lt hk'] at h0

section at_tile

variable (d : Dev nD) (i : grid0.Coords)

/-- The tile that runs the body. -/
abbrev thr : Thread nD τ := (d, .scVector ((i 0).castLE hcore0) ((i 1).castLE hsub0))

/-- Word `k` of a list. -/
def lst (L : Memref sig .scVector .vmem S6528 .i32) (f : Buf (Elt F) (L.view.loc (thr d i))) (k : ℕ) : BitVec 32 :=
  L.view.read (Elt F) f (lix k)

/-- The elements of row `r` of the row buffer. -/
def rowSet (rb : Memref sig .scVector .vmem S512x128 .f32) (r : ℕ) : Finset (Idx (rb.view.loc (thr d i))) :=
  Finset.univ.image fun ch : Fin 128 => rb.view.emb (bix r ch)

/-- The elements of row `r` of a layer. -/
def farRow (dst : Memref sig .scVector .hbm S200000x128 .f32) (r : ℕ) : Finset (Idx (dst.view.loc (thr d i))) :=
  Finset.univ.image fun ch : Fin 128 => dst.view.emb (six r ch)

/-- A row of a block is a row of the row buffer. -/
theorem block_set (rb : Memref sig .scVector .vmem S512x128 .f32) (kk : Fin 4) (k : Fin 128) :
    (((blockOf rb (128 * kk.val) (block_inb kk)).view.slice (S128x128.rowRect hG.axis' k)).set
      : Finset (Idx (rb.view.loc (thr d i)))) = rowSet d i rb (128 * kk.val + k.val) := by
  ext p
  constructor
  · intro h
    obtain ⟨x, -, rfl⟩ := Finset.mem_map.mp h
    refine Finset.mem_image.mpr ⟨rcol x, Finset.mem_univ _, ?_⟩
    exact (block_emb rb kk k.val k.isLt (rcol x)).symm.trans
      (congrArg (blockOf rb (128 * kk.val) (block_inb kk)).view.emb (oix_emb k x).symm)
  · intro h
    obtain ⟨ch, -, rfl⟩ := Finset.mem_image.mp h
    refine Finset.mem_map.mpr ⟨rmk ch, Finset.mem_univ _, ?_⟩
    exact (congrArg (blockOf rb (128 * kk.val) (block_inb kk)).view.emb (oix_emb k (rmk ch))).trans
      (block_emb rb kk k.val k.isLt ch)

/-- A row of a layer, as a view, is the row's elements. -/
theorem farRow_eq (dst : Memref sig .scVector .hbm S200000x128 .f32) (r : Fin 200000) :
    ((dst.view.slice (S200000x128.rowRect hG.axis r)).set : Finset (Idx (dst.view.loc (thr d i)))) = farRow d i dst r.val := by
  ext p
  constructor
  · intro h
    obtain ⟨x, -, rfl⟩ := Finset.mem_map.mp h
    exact Finset.mem_image.mpr ⟨tcol x, Finset.mem_univ _, congrArg dst.view.emb (six_emb r x).symm⟩
  · intro h
    obtain ⟨ch, -, rfl⟩ := Finset.mem_image.mp h
    exact Finset.mem_map.mpr ⟨tmk ch, Finset.mem_univ _, congrArg dst.view.emb (six_emb r (tmk ch))⟩

/-- What a scatter writes from row `k` of its block. -/
theorem payload_eq (blk : Memref sig .scVector .vmem S128x128 .f32) (f : Buf (Elt F) (blk.view.loc (thr d i))) (k : Fin 128)
    (x : (S200000x128.rowShape hG.axis).Idx) :
    scatterRowPayload (thr d i) blk hG f k x = blk.view.read (Elt F) f (oix k.val (tcol x)) := by
  change blk.view.read (Elt F) f ((S128x128.rowRect hG.axis' k).emb ((Shape.idxEquiv hG.rowShape_eq).symm x)) = _
  rw [oix_emb]
  refine congrArg (fun ch => blk.view.read (Elt F) f (oix k.val ch)) (Fin.ext ?_)
  exact Shape.idxEquiv_symm_apply_val hG.rowShape_eq x ⟨1, by decide⟩

end at_tile

end Cert.Proof
-- ==== Proof.Phase.lean ====
/-
  One group of a copy loop: its guarded gathers and their waits bring the named rows into the row buffer; its guarded
  scatters and their waits write rows where the list names them, into the result held in write mode.
-/
module

public import proofs.«01_k».proof.Proof.Group

@[expose] public section

set_option synthInstance.maxSize 4096

noncomputable section

namespace Cert.Proof

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers (Batch pending)
open Cert.KernelIdeal Cert.KernelIdeal.Gen
open Cert.Proof.Rows

variable {F : FTy → Type} [FloatOps F]

/-- Memory of a tile is credited by the bits moved. -/
theorem credit_vmem (b : Memref sig .scVector .vmem S128x128 .f32) (s : Shape) :
    sig.dmaCredit .scVector (Kind.table .scVector .vmem) b.view.buf s .f32 = s.numel * 32 := rfl

/-- Far memory is credited by the bits moved. -/
theorem credit_hbm (b : Memref sig .scVector .hbm S200000x128 .f32) (s : Shape) :
    sig.dmaCredit .scVector (Kind.table .scVector .hbm) b.view.buf s .f32 = s.numel * 32 := rfl

/-- One row is 128 words. -/
theorem numel_row : (S128x128.rowShape hG.axis').numel = 128 := by decide

/-- One row of a layer is 128 words. -/
theorem numel_far : (S200000x128.rowShape hG.axis).numel = 128 := by decide

/-- A block is 128 rows of 128 words. -/
theorem numel_block : S128x128.numel = 128 * 128 := by decide

variable {Ix : Type} [DecidableEq Ix] {Name : Type} [DecidableEq Name] [Infinite Name]
variable {U : Type} [URA U] {Lvl : Type} [Preorder Lvl]
variable {defs : Defs nD τ sig (Elt F) Λ₀} (𝒱 : Variants) (bd : Option 𝒱.V)
variable (d : Dev nD) (i : grid0.Coords)

local notation "𝕄" => MT nD τ sig Ix (Elt F) Name U Lvl

/-- Running a program on the tile. -/
abbrev run {β : Type} (defs : Defs nD τ sig (Elt F) Λ₀) (p : TileProg (F := F) i β) (Q : β → sProp 𝕄) : sProp 𝕄 :=
  wp frame (wpE defs 𝒱 (thr d i) bd) Set.univ p Q

/-- A guarded operation: with the guard set the operation makes `P'` of `P`; otherwise `P` is `P'` already. -/
theorem wp_guardThen {β : Type} {cb : BitVec 1} {op : cb = 1#1 → TileProg (F := F) i PUnit} {K : TileProg (F := F) i β}
    {Q : β → sProp 𝕄} {P P' : sProp 𝕄}
    (hpos : ∀ h : cb = 1#1, P ⊢ iprop((P' -∗ run 𝒱 bd d i defs K Q) -∗ run 𝒱 bd d i defs (op h >>= fun _ => K) Q))
    (hneg : cb ≠ 1#1 → P ⊢ P') :
    P ⊢ iprop((P' -∗ run 𝒱 bd d i defs K Q) -∗ run 𝒱 bd d i defs (guardThen cb op K) Q) := by
  unfold guardThen
  split
  · exact hpos _
  · iintro H Hk
    iapply Hk
    iapply (hneg ‹_›) $$ H

/-- Four guarded operations of which the first `m` are run: each takes the state one step on. -/
theorem wp_four {cw : BitVec 32} {t m : ℕ} (hg : ∀ kk : Fin 4, guardW cw t (BitVec.ofNat 32 kk.val) = 1#1 ↔ kk.val < m)
    (hm : m ≤ 4) {β : Type} {op : ∀ kk : Fin 4, guardW cw t (BitVec.ofNat 32 kk.val) = 1#1 → TileProg (F := F) i PUnit}
    {K : TileProg (F := F) i β} {Q : β → sProp 𝕄} (S : ℕ → sProp 𝕄)
    (hstep : ∀ (kk : Fin 4) (h : guardW cw t (BitVec.ofNat 32 kk.val) = 1#1), kk.val < m → ∀ K' : TileProg (F := F) i β,
      S kk.val ⊢ iprop((S (kk.val + 1) -∗ run 𝒱 bd d i defs K' Q) -∗ run 𝒱 bd d i defs (op kk h >>= fun _ => K') Q)) :
    S 0 ⊢ iprop((S m -∗ run 𝒱 bd d i defs K Q) -∗ run 𝒱 bd d i defs (four i cw t op K) Q) := by
  have step : ∀ (kk : Fin 4) (K' : TileProg (F := F) i β), S (min kk.val m)
      ⊢ iprop((S (min (kk.val + 1) m) -∗ run 𝒱 bd d i defs K' Q)
          -∗ run 𝒱 bd d i defs (guardThen (guardW cw t (BitVec.ofNat 32 kk.val)) (op kk) K') Q) := fun kk K' => by
    refine wp_guardThen 𝒱 bd d i (fun h => ?_) (fun h => ?_)
    · have hk := (hg kk).mp h
      rw [Nat.min_eq_left hk.le, Nat.min_eq_left hk]
      exact hstep kk h hk K'
    · have hk : m ≤ kk.val := not_lt.mp fun h' => h ((hg kk).mpr h')
      rw [Nat.min_eq_right hk, Nat.min_eq_right (hk.trans (Nat.le_succ _))]
  rw [show S 0 = S (min 0 m) by rw [Nat.zero_min], show S m = S (min 4 m) by rw [Nat.min_eq_right hm]]
  unfold four
  iintro H Hk
  iapply (show S (min 0 m) ⊢ iprop((S (min 1 m) -∗ run 𝒱 bd d i defs _ Q)
      -∗ run 𝒱 bd d i defs (guardThen (guardW cw t 0#32) (op 0) _) Q) from step 0 _) $$ H
  iintro H
  iapply (show S (min 1 m) ⊢ iprop((S (min 2 m) -∗ run 𝒱 bd d i defs _ Q)
      -∗ run 𝒱 bd d i defs (guardThen (guardW cw t 1#32) (op 1) _) Q) from step 1 _) $$ H
  iintro H
  iapply (show S (min 2 m) ⊢ iprop((S (min 3 m) -∗ run 𝒱 bd d i defs _ Q)
      -∗ run 𝒱 bd d i defs (guardThen (guardW cw t 2#32) (op 2) _) Q) from step 2 _) $$ H
  iintro H
  iapply (show S (min 3 m) ⊢ iprop((S (min 4 m) -∗ run 𝒱 bd d i defs _ Q)
      -∗ run 𝒱 bd d i defs (guardThen (guardW cw t 3#32) (op 3) _) Q) from step 3 _) $$ H
  iexact Hk

/-! ## Facts of one group -/

/-- The word of a chunk at `x` is the list's. -/
theorem chunk_read (L : Memref sig .scVector .vmem S6528 .i32) (f : Buf (Elt F) (L.view.loc (thr d i))) (o : ℕ) (off : Fin 1 → ℕ)
    (ho : off = ![o]) (h : ∀ a, off a + S128.size a ≤ S6528.size a) (x : S128.Idx) :
    (chunkOf L off h).view.read (Elt F) f x = lst d i L f (o + (x 0).val) :=
  congrArg (fun p => _root_.cast (congrArg (Elt F) L.view.elt_eq) (f p)) (chunk_emb L o off ho h x)

/-- The entry `k` of a chunk is the list's. -/
theorem chunk_entry (L : Memref sig .scVector .vmem S6528 .i32) (o : ℕ) (off : Fin 1 → ℕ)
    (ho : off = ![o]) (h : ∀ a, off a + S128.size a ≤ S6528.size a) (k : Fin 128) :
    (entryOf (thr d i) (chunkOf L off h) (o := 128) rfl k : Idx (L.view.loc (thr d i))) = L.view.emb (lix (o + k.val)) := by
  refine (chunk_emb L o off ho h _).trans (congrArg (fun n => L.view.emb (lix (o + n))) ?_)
  exact rowMajor_S128 k

/-- The row of a list's chunk entry is its word. -/
theorem chunk_rows (L : Memref sig .scVector .vmem S6528 .i32) (f : Buf (Elt F) (L.view.loc (thr d i))) (o : ℕ) (off : Fin 1 → ℕ)
    (ho : off = ![o]) (h : ∀ a, off a + S128.size a ≤ S6528.size a)
    (hr : ∀ x, ((chunkOf L off h).view.read (Elt F) f x).toNat < 200000) (k : Fin 128) :
    (rows ((chunkOf L off h).view.read (Elt F) f) (o := 128) rfl hr k).val = (lst d i L f (o + k.val)).toNat := by
  refine (congrArg BitVec.toNat (chunk_read d i L f o off ho h _)).trans ?_
  exact congrArg (fun n => (lst d i L f (o + n)).toNat) (rowMajor_S128 k)

/-- Different rows of the row buffer share no element. -/
theorem rowSet_disjoint (rb : Memref sig .scVector .vmem S512x128 .f32) {n : ℕ} (hn : n ≤ 512) (k k' : Fin n) (h : k ≠ k') :
    Disjoint (rowSet d i rb k.val) (rowSet d i rb k'.val) := by
  rw [Finset.disjoint_left]
  intro p hp hp'
  obtain ⟨ch, -, rfl⟩ := Finset.mem_image.mp hp
  obtain ⟨ch', -, e⟩ := Finset.mem_image.mp hp'
  have := (bix_inj (by omega) (by omega) (rb.view.emb.injective e)).1
  exact h (Fin.ext this.symm)

/-- Different entries of a list are different elements. -/
theorem entry_disjoint (L : Memref sig .scVector .vmem S6528 .i32) {n o : ℕ} (hn : o + n ≤ 6528) (k k' : Fin n) (h : k ≠ k') :
    Disjoint ({L.view.emb (lix (o + k.val))} : Finset (Idx (L.view.loc (thr d i)))) {L.view.emb (lix (o + k'.val))} := by
  rw [Finset.disjoint_singleton]
  intro e
  have hk := k.isLt
  have hk' := k'.isLt
  have := lix_inj (by omega) (by omega) (L.view.emb.injective e)
  exact h (Fin.ext (by omega))

/-- A family of triples is three families. -/
theorem three_out {n : ℕ} (A B C : Fin n → sProp 𝕄) : bigSep Finset.univ (fun k => iprop(A k ∗ B k ∗ C k))
    ⊢ iprop(bigSep Finset.univ A ∗ bigSep Finset.univ B ∗ bigSep Finset.univ C) :=
  (Transfers.bigSep_sep_out _ A _).trans (sep_mono .rfl (Transfers.bigSep_sep_out _ B C))

section gather

variable (src : Memref sig .scVector .hbm S200000x128 .f32) (rb : Memref sig .scVector .vmem S512x128 .f32)
variable (L : Memref sig .scVector .vmem S6528 .i32) (sem : DmaSem sig)

/-- The row buffer after the rows the list names from `o` on have come. -/
def gathered (fd : Buf (Elt F) (rb.view.loc (thr d i))) (fo : Buf (Elt F) (L.view.loc (thr d i)))
    (fa : Buf (Elt F) (src.view.loc (thr d i))) (o : ℕ) : Buf (Elt F) (rb.view.loc (thr d i)) :=
  rb.view.write (Elt F) fd
    (fun p : S512x128.Idx => src.view.read (Elt F) fa (six (lst d i L fo (o + (p 0).val)).toNat ⟨(p 1).val, (p 1).isLt⟩)) Finset.univ

/-- Row `k` of the buffer is then the row the list names. -/
theorem gathered_row (fd : Buf (Elt F) (rb.view.loc (thr d i))) (fo : Buf (Elt F) (L.view.loc (thr d i)))
    (fa : Buf (Elt F) (src.view.loc (thr d i))) (o k : ℕ) (hk : k < 512) (ch : Fin 128) :
    gathered d i src rb L fd fo fa o (rb.view.emb (bix k ch))
      = _root_.cast (congrArg (Elt F) rb.view.elt_eq.symm) (src.view.read (Elt F) fa (six (lst d i L fo (o + k)).toNat ch)) := by
  refine (View.write_emb_of_mem (v := rb.view) _ _ (Finset.mem_univ _)).trans (congrArg _ ?_)
  change src.view.read (Elt F) fa (six (lst d i L fo (o + k % 512)).toNat ch) = _
  rw [Nat.mod_eq_of_lt hk]

/-- What entry `k` of the group's gathers holds while it runs, the row buffer's row being as `f` has it. -/
def gPart {n : ℕ} (hn : 0 < n) (f : Buf (Elt F) (rb.view.loc (thr d i))) (fo : Buf (Elt F) (L.view.loc (thr d i)))
    (fa : Buf (Elt F) (src.view.loc (thr d i))) (qa : PosShare TreeShare) (o : ℕ) (k : Fin n) : sProp 𝕄 :=
  iprop((rb.view.loc (thr d i) ↦[rowSet d i rb k.val]{fullShare} f)
    ∗ (L.view.loc (thr d i) ↦[{L.view.emb (lix (o + k.val))}]{fullShare} fo)
    ∗ (src.view.loc (thr d i) ↦[Finset.univ]{pieceOf qa n hn k} fa))

instance {n : ℕ} (hn : 0 < n) (f : Buf (Elt F) (rb.view.loc (thr d i))) (fo : Buf (Elt F) (L.view.loc (thr d i)))
    (fa : Buf (Elt F) (src.view.loc (thr d i))) (qa : PosShare TreeShare) (o : ℕ) (k : Fin n) :
    Storable (upEmb : UEmb _ 𝕄) (gPart (Ix := Ix) (Name := Name) (U := U) (Lvl := Lvl) d i src rb L hn f fo fa qa o k) := by
  unfold gPart; infer_instance

/-- THE GATHERS OF A GROUP, issued and waited for. -/
theorem gather_phase (EC : UEmb Counters 𝕄) [EC.LandsIn (upEmb : UEmb _ 𝕄)] {cw : BitVec 32} {t m : ℕ} (hin : ChunksIn cw t)
    (hg : ∀ kk : Fin 4, guardW cw t (BitVec.ofNat 32 kk.val) = 1#1 ↔ kk.val < m) (hm : m ≤ 4) (hm0 : 0 < m)
    (hoff : ∀ kk : Fin 4, kk.val < m → chunkOff t (BitVec.ofNat 32 kk.val) = ![512 * t + 128 * kk.val])
    (hle : 512 * t + 128 * m ≤ 6528) {β : Type} {K : TileProg (F := F) i β} {Q : β → sProp 𝕄}
    (fd : Buf (Elt F) (rb.view.loc (thr d i))) (fo : Buf (Elt F) (L.view.loc (thr d i)))
    (fa : Buf (Elt F) (src.view.loc (thr d i))) (qa : PosShare TreeShare)
    (hr : ∀ k, k < 128 * m → (lst d i L fo (512 * t + k)).toNat < 200000)
    (ι : Ix) (O : CellTallies nD τ sig Ix) (W : Waits sig Ix) :
    iprop((rb.view.loc (thr d i) ↦[Finset.univ]{fullShare} fd) ∗ (L.view.loc (thr d i) ↦[Finset.univ]{fullShare} fo)
        ∗ (src.view.loc (thr d i) ↦[Finset.univ]{qa} fa) ∗ semVal (thr d i, SemLoc.dma sem) 0 ∗ owes (thr d i) O W
        ∗ □ MayWait (thr d i) (.dma sem) ι O)
      ⊢ iprop((iprop((∃ G, ⌜∀ k < 128 * m, ∀ ch, rb.view.read (Elt F) G (bix k ch)
              = src.view.read (Elt F) fa (six (lst d i L fo (512 * t + k)).toNat ch)⌝
            ∗ rb.view.loc (thr d i) ↦[Finset.univ]{fullShare} G) ∗ (L.view.loc (thr d i) ↦[Finset.univ]{fullShare} fo)
          ∗ (src.view.loc (thr d i) ↦[Finset.univ]{qa} fa) ∗ semVal (thr d i, SemLoc.dma sem) 0
          ∗ ∃ W', ⌜∀ p ∈ W', p ∈ W ∨ p.2 = ι⌝ ∗ owes (thr d i) O W') -∗ run 𝒱 bd d i defs K Q)
        -∗ run 𝒱 bd d i defs
          (four i cw t (fun kk h => gIssue i src (blockOf rb (128 * kk.val) (block_inb kk)) (chunkOf L _ (hin kk h)) sem) <|
            four i cw t (fun kk _ => gWait i src (blockOf rb (128 * kk.val) (block_inb kk)) sem) K) Q) := by
  have hn : 0 < 128 * m := by omega
  have hn4 : 128 * m ≤ 512 := by omega
  let Res := gPart (Ix := Ix) (Name := Name) (U := U) (Lvl := Lvl) d i src rb L hn fd fo fa qa (512 * t)
  let D := gPart (Ix := Ix) (Name := Name) (U := U) (Lvl := Lvl) d i src rb L hn
    (gathered d i src rb L fd fo fa (512 * t)) fo fa qa (512 * t)
  have hissue : ∀ (kk : Fin 4) (h : guardW cw t (BitVec.ofNat 32 kk.val) = 1#1), kk.val < m → ∀ K' : TileProg (F := F) i β,
      iprop(bigSep (pending (128 * kk.val)) Res ∗ Batch EC (thr d i) (.dma sem) ι 4096 D (128 * kk.val) 0)
      ⊢ iprop((iprop(bigSep (pending (128 * kk.val + 128)) Res ∗ Batch EC (thr d i) (.dma sem) ι 4096 D (128 * kk.val + 128) 0)
          -∗ run 𝒱 bd d i defs K' Q)
        -∗ run 𝒱 bd d i defs (gIssue i src (blockOf rb (128 * kk.val) (block_inb kk)) (chunkOf L _ (hin kk h)) sem >>= fun _ => K') Q) := by
    intro kk h hk K'
    have hkk := kk.isLt
    have ho := hoff kk hk
    have hrow : ∀ x, ((chunkOf L _ (hin kk h)).view.read (Elt F) fo x).toNat < 200000 := fun x => by
      have hx : (x 0).val < 128 := (x 0).isLt
      rw [chunk_read d i L fo _ _ ho (hin kk h) x, show 512 * t + 128 * kk.val + (x 0).val = 512 * t + (128 * kk.val + (x 0).val) by omega]
      exact hr _ (by omega)
    unfold gIssue
    have main := wp_gatherBatch (defs := defs) (Q := Q) (k := fun _ => K') EC 𝒱 (thr d i) bd (src := src)
      (dst := blockOf rb (128 * kk.val) (block_inb kk)) (hg := hG) (offs := chunkOf L _ (hin kk h)) (hn := rfl) (sem := sem)
      (hp := rfl) (hsrc := View.wordExact_bits rfl) (he := rfl) (hsp := Or.inl rfl) (hr := by decide)
      (fs := fa) (fd := fd) (fo := fo) (qo := fullShare) (Res := Res) (D := D) ι 4096
      (j := 128 * kk.val) (u := 0) (by change 128 * kk.val + 128 ≤ 128 * m; omega) (Nat.zero_le _) hrow
    refine main (fun k => ?_)
      (fun k => pieceOf qa (128 * m) hn ⟨128 * kk.val + k.val, by have : k.val < 128 := k.isLt; omega⟩)
      (fun k => iprop(src.view.loc (thr d i) ↦[Finset.univ \ src.view.set]{pieceOf qa (128 * m) hn
        ⟨128 * kk.val + k.val, by have : k.val < 128 := k.isLt; omega⟩} fa)) (fun k => ?_) (fun k => ?_)
    · change (S128x128.rowShape hG.axis').numel * 32 = 4096
      rw [numel_row]
    · have hset := block_set d i rb kk k
      have hent := chunk_entry d i L _ _ ho (hin kk h) k
      change iprop((rb.view.loc (thr d i) ↦[rowSet d i rb (128 * kk.val + k.val)]{fullShare} fd)
        ∗ (L.view.loc (thr d i) ↦[{L.view.emb (lix (512 * t + (128 * kk.val + k.val)))}]{fullShare} fo)
        ∗ (src.view.loc (thr d i) ↦[Finset.univ]{pieceOf qa (128 * m) hn _} fa)) ⊢ _
      rw [← hset, ← Nat.add_assoc (512 * t), ← hent]
      iintro ⟨H1, H2, H3⟩
      isplitl [H1]; · iexact H1
      isplitl [H2]; · iexact H2
      iapply (pointsTo_split_subset (Finset.subset_univ _)).1
      iexact H3
    · have hset := block_set d i rb kk k
      have hent := chunk_entry d i L _ _ ho (hin kk h) k
      change _ ⊢ iprop((rb.view.loc (thr d i) ↦[rowSet d i rb (128 * kk.val + k.val)]{fullShare} gathered d i src rb L fd fo fa (512 * t))
        ∗ (L.view.loc (thr d i) ↦[{L.view.emb (lix (512 * t + (128 * kk.val + k.val)))}]{fullShare} fo)
        ∗ (src.view.loc (thr d i) ↦[Finset.univ]{pieceOf qa (128 * m) hn _} fa))
      rw [← hset, ← Nat.add_assoc (512 * t), ← hent]
      iintro ⟨H1, H2, H3⟩
      isplitl [H1]
      · iapply (Entails.of_eq (pointsTo_congr fun p hp => ?_)) $$ H1
        obtain ⟨x, -, rfl⟩ := Finset.mem_map.mp hp
        have hk : k.val < 128 := k.isLt
        refine (View.write_emb_of_mem _ _ (Finset.mem_univ _)).trans ?_
        have e : ((blockOf rb (128 * kk.val) (block_inb kk)).view.slice (S128x128.rowRect hG.axis' k)).emb x
            = rb.view.emb (bix (128 * kk.val + k.val) (rcol x)) :=
          (congrArg (blockOf rb (128 * kk.val) (block_inb kk)).view.emb (oix_emb k x)).trans (block_emb rb kk k.val hk (rcol x))
        rw [e]
        refine Eq.trans ?_ (gathered_row d i src rb L fd fo fa (512 * t) _ (by omega) (rcol x)).symm
        refine congrArg (fun w => _root_.cast (congrArg (Elt F) rb.view.elt_eq.symm) (src.view.read (Elt F) fa w)) ?_
        refine (six_rowIdx _ x).trans (congrArg (fun r => six r (rcol x)) ?_)
        exact (chunk_rows d i L fo _ _ ho (hin kk h) hrow k).trans (by rw [Nat.add_assoc])
      isplitl [H2]; · iexact H2
      iapply (pointsTo_split_subset (Finset.subset_univ src.view.set)).2
      iexact H3
  have hwait : ∀ (kk : Fin 4) (_ : guardW cw t (BitVec.ofNat 32 kk.val) = 1#1), kk.val < m → ∀ K' : TileProg (F := F) i β,
      iprop(Batch EC (thr d i) (.dma sem) ι 4096 D (128 * m) (128 * 4096 * kk.val)
        ∗ (∃ W', ⌜∀ p ∈ W', p ∈ W ∨ p.2 = ι⌝ ∗ owes (thr d i) O W') ∗ □ MayWait (thr d i) (.dma sem) ι O)
      ⊢ iprop((iprop(Batch EC (thr d i) (.dma sem) ι 4096 D (128 * m) (128 * 4096 * (kk.val + 1))
            ∗ (∃ W', ⌜∀ p ∈ W', p ∈ W ∨ p.2 = ι⌝ ∗ owes (thr d i) O W') ∗ □ MayWait (thr d i) (.dma sem) ι O)
          -∗ run 𝒱 bd d i defs K' Q)
        -∗ run 𝒱 bd d i defs (gWait i src (blockOf rb (128 * kk.val) (block_inb kk)) sem >>= fun _ => K') Q) := by
    intro kk _ hk K'
    iintro ⟨HB, ⟨%W', %hW', HO⟩, #HM⟩ Hk
    unfold gWait
    iapply (Transfers.wp_waitBatchMulO EC 𝒱 (thr d i) bd ι (N := 4096) (D := D) (j := 128 * m) (u := 128 * 4096 * kk.val) 128 (by
      change S128x128.numel * 32 = _; rw [numel_block]) (by omega)) $$ [HB HO]
    · isplitl [HB]; · iexact HB
      isplitl [HO]; · iexact HO
      iexact HM
    iintro ⟨HB, HO⟩
    iapply Hk
    isplitl [HB]
    · rw [show 128 * 4096 * (kk.val + 1) = 128 * 4096 * kk.val + 128 * 4096 by omega]; iexact HB
    isplitl [HO]
    · iexists insert (SemLoc.dma sem, ι) W'
      isplitr
      · ipureintro
        intro p hp
        rcases Finset.mem_insert.mp hp with rfl | hp
        · exact Or.inr rfl
        · exact hW' p hp
      · iexact HO
    · iexact HM
  iintro ⟨HR, HL, HA, HS, HO, #HM⟩ Hk
  imod (Transfers.batch_alloc' EC (thr d i) ι 4096 D) $$ HS with HB
  ihave HR' := (cover_split (fun k : Fin (128 * m) => rowSet d i rb k.val) (rowSet_disjoint d i rb hn4) fd) $$ HR
  icases HR' with ⟨HR, HRr⟩
  ihave HL' := (cover_split (fun k : Fin (128 * m) => ({L.view.emb (lix (512 * t + k.val))} : Finset (Idx (L.view.loc (thr d i)))))
    (entry_disjoint d i L hle) fo) $$ HL
  icases HL' with ⟨HL, HLr⟩
  ihave HA' := (Entails.of_eq (pointsTo_piecesOf Finset.univ fa hn qa)) $$ HA
  iapply (wp_four 𝒱 bd d i hg hm (fun n => iprop(bigSep (pending (128 * n)) Res ∗ Batch EC (thr d i) (.dma sem) ι 4096 D (128 * n) 0))
    hissue) $$ [HR HL HA' HB]
  · isplitr [HB]
    · rw [pending_zero]
      ihave H1 := (Transfers.bigSep_sep_in _ _ _) $$ [HL HA']
      · isplitl [HL]; · iexact HL
        iexact HA'
      ihave H2 := (Transfers.bigSep_sep_in _ _ _) $$ [HR H1]
      · isplitl [HR]; · iexact HR
        iexact H1
      iexact H2
    · iexact HB
  iintro ⟨-, HB⟩
  iapply (wp_four 𝒱 bd d i hg hm (fun n => iprop(Batch EC (thr d i) (.dma sem) ι 4096 D (128 * m) (128 * 4096 * n)
        ∗ (∃ W', ⌜∀ p ∈ W', p ∈ W ∨ p.2 = ι⌝ ∗ owes (thr d i) O W') ∗ □ MayWait (thr d i) (.dma sem) ι O)) hwait) $$ [HB HO]
  · isplitl [HB]; · iexact HB
    isplitl [HO]
    · iexists W
      isplitr
      · ipureintro; intro p hp; exact Or.inl hp
      · iexact HO
    · iexact HM
  iintro ⟨HB, HO, -⟩
  rw [show 128 * 4096 * m = 4096 * (128 * m) by omega]
  imod (Transfers.batch_collect' EC (thr d i) (N := 4096) (Nat.succ_pos _)) $$ HB with ⟨HD, HS⟩
  ihave H1 := (three_out (fun k : Fin (128 * m) => iprop(rb.view.loc (thr d i) ↦[rowSet d i rb k.val]{fullShare} gathered d i src rb L fd fo fa (512 * t)))
    (fun k => iprop(L.view.loc (thr d i) ↦[{L.view.emb (lix (512 * t + k.val))}]{fullShare} fo))
    (fun k => iprop(src.view.loc (thr d i) ↦[Finset.univ]{pieceOf qa (128 * m) hn k} fa))) $$ [HD]
  · iexact HD
  icases H1 with ⟨HR, HL, HA⟩
  iapply Hk
  isplitl [HR HRr]
  · ihave HR' := (cover_join (fun k : Fin (128 * m) => rowSet d i rb k.val) (rowSet_disjoint d i rb hn4)
      (fun _ => gathered d i src rb L fd fo fa (512 * t)) fd) $$ [HR HRr]
    · isplitl [HR] <;> iassumption
    icases HR' with ⟨%G, %hG', HR⟩
    iexists G
    isplitr
    · ipureintro
      intro k hk ch
      rw [View.read_apply, hG' ⟨k, hk⟩ _ (Finset.mem_image.mpr ⟨ch, Finset.mem_univ _, rfl⟩),
        gathered_row d i src rb L fd fo fa (512 * t) k (by omega) ch, cast_cast, cast_eq]
    · iexact HR
  isplitl [HL HLr]
  · iapply (cover_join_same (fun k : Fin (128 * m) => ({L.view.emb (lix (512 * t + k.val))} : Finset (Idx (L.view.loc (thr d i)))))
      (entry_disjoint d i L hle) fo)
    isplitl [HL] <;> iassumption
  isplitl [HA]
  · iapply (Entails.of_eq (pointsTo_piecesOf Finset.univ fa hn qa).symm); iexact HA
  isplitl [HS]; · iexact HS
  iexact HO

end gather

section scatter

variable (emb : UEmb (WmRA nD τ sig (Elt F)) U) (ιwm : Name)
variable (blk : Fin 4 → Memref sig .scVector .vmem S128x128 .f32) (dst : Memref sig .scVector .hbm S200000x128 .f32)
variable (L : Memref sig .scVector .vmem S6528 .i32) (sem : DmaSem sig)

/-- What entry `k` of the group's scatters holds while it runs: its source, its list entry, its piece of the result. -/
def sPart {n : ℕ} (hn : 0 < n) (Src : Fin n → sProp 𝕄) (fo : Buf (Elt F) (L.view.loc (thr d i)))
    (f₀ : Buf (Elt F) (dst.view.loc (thr d i))) (g : Tgt (Elt F) (dst.view.loc (thr d i))) (qw : PosShare TreeShare) (o : ℕ)
    (M : Fin n → Finset (Idx (dst.view.loc (thr d i)))) (k : Fin n) : sProp 𝕄 :=
  iprop(Src k ∗ (L.view.loc (thr d i) ↦[{L.view.emb (lix (o + k.val))}]{fullShare} fo)
    ∗ willBeTo (Ix := Ix) emb (dst.view.loc (thr d i)) Finset.univ (pieceOf qw n hn k) f₀ g (M k))

instance {n : ℕ} (hn : 0 < n) (Src : Fin n → sProp 𝕄) [∀ k, Storable (upEmb : UEmb _ 𝕄) (Src k)] (fo : Buf (Elt F) (L.view.loc (thr d i)))
    (f₀ : Buf (Elt F) (dst.view.loc (thr d i))) (g : Tgt (Elt F) (dst.view.loc (thr d i))) (qw : PosShare TreeShare) (o : ℕ)
    (M : Fin n → Finset (Idx (dst.view.loc (thr d i)))) (k : Fin n) :
    Storable (upEmb : UEmb _ 𝕄) (sPart (Ix := Ix) (Name := Name) (U := U) (Lvl := Lvl) d i emb dst L hn Src fo f₀ g qw o M k) := by
  unfold sPart; infer_instance

/-- THE SCATTERS OF A GROUP, issued and waited for. -/
theorem scatter_phase (EC : UEmb Counters 𝕄) [EC.LandsIn (upEmb : UEmb _ 𝕄)] {cw : BitVec 32} {t m : ℕ} (hin : ChunksIn cw t)
    (hg : ∀ kk : Fin 4, guardW cw t (BitVec.ofNat 32 kk.val) = 1#1 ↔ kk.val < m) (hm : m ≤ 4) (hm0 : 0 < m)
    (hoff : ∀ kk : Fin 4, kk.val < m → chunkOff t (BitVec.ofNat 32 kk.val) = ![512 * t + 128 * kk.val])
    (hle : 512 * t + 128 * m ≤ 6528) {β : Type} {K : TileProg (F := F) i β} {Q : β → sProp 𝕄}
    (Src : Fin (128 * m) → sProp 𝕄) [∀ k, Storable (upEmb : UEmb _ 𝕄) (Src k)]
    (fs : ∀ kk, Buf (Elt F) ((blk kk).view.loc (thr d i))) (qs : ∀ _ : Fin 4, Fin 128 → PosShare TreeShare)
    (Fr : ∀ _ : Fin 4, Fin 128 → sProp 𝕄)
    (hSrc : ∀ (kk : Fin 4) (k : Fin 128) (h : 128 * kk.val + k.val < 128 * m), Src ⟨128 * kk.val + k.val, h⟩
      ⊣⊢ iprop(((blk kk).view.loc (thr d i) ↦[((blk kk).view.slice (S128x128.rowRect hG.axis' k)).set]{qs kk k} fs kk) ∗ Fr kk k))
    (fo : Buf (Elt F) (L.view.loc (thr d i)))
    (f₀ : Buf (Elt F) (dst.view.loc (thr d i))) (g : Tgt (Elt F) (dst.view.loc (thr d i))) (qw : PosShare TreeShare)
    (hr : ∀ k, k < 128 * m → (lst d i L fo (512 * t + k)).toNat < 200000)
    (hv : ∀ (kk : Fin 4) (k : Fin 128), kk.val < m → ∀ ch u,
      dst.view.read (fun e => Option (Elt F e)) g (six (lst d i L fo (512 * t + (128 * kk.val + k.val))).toNat ch) = some u →
      (blk kk).view.read (Elt F) (fs kk) (oix k.val ch) = u)
    (ι : Ix) (O : CellTallies nD τ sig Ix) (W : Waits sig Ix) (Mk : Finset (Idx (dst.view.loc (thr d i)))) :
    iprop(wmInv emb ιwm ∗ bigSep Finset.univ Src ∗ (L.view.loc (thr d i) ↦[Finset.univ]{fullShare} fo)
        ∗ willBeTo (Ix := Ix) emb (dst.view.loc (thr d i)) Finset.univ qw f₀ g Mk
        ∗ semVal (thr d i, SemLoc.dma sem) 0 ∗ owes (thr d i) O W ∗ □ MayWait (thr d i) (.dma sem) ι O)
      ⊢ iprop((iprop(bigSep Finset.univ Src ∗ (L.view.loc (thr d i) ↦[Finset.univ]{fullShare} fo)
          ∗ (∃ Mk', ⌜Mk ⊆ Mk' ∧ ∀ k < 128 * m, farRow d i dst (lst d i L fo (512 * t + k)).toNat ⊆ Mk'⌝
            ∗ willBeTo (Ix := Ix) emb (dst.view.loc (thr d i)) Finset.univ qw f₀ g Mk')
          ∗ semVal (thr d i, SemLoc.dma sem) 0
          ∗ ∃ W', ⌜∀ p ∈ W', p ∈ W ∨ p.2 = ι⌝ ∗ owes (thr d i) O W') -∗ run 𝒱 bd d i defs K Q)
        -∗ run 𝒱 bd d i defs
          (four i cw t (fun kk h => sIssue i (blk kk) dst (chunkOf L _ (hin kk h)) sem) <|
            four i cw t (fun kk _ => sWait i (blk kk) dst sem) K) Q) := by
  classical
  have hn : 0 < 128 * m := by omega
  have hn4 : 128 * m ≤ 512 := by omega
  let Res := sPart (Ix := Ix) (Name := Name) (U := U) (Lvl := Lvl) d i emb dst L hn Src fo f₀ g qw.right (512 * t) (fun _ => ∅)
  let M : Fin (128 * m) → Finset (Idx (dst.view.loc (thr d i))) := fun k => farRow d i dst (lst d i L fo (512 * t + k.val)).toNat
  let D := sPart (Ix := Ix) (Name := Name) (U := U) (Lvl := Lvl) d i emb dst L hn Src fo f₀ g qw.right (512 * t) M
  have hissue : ∀ (kk : Fin 4) (h : guardW cw t (BitVec.ofNat 32 kk.val) = 1#1), kk.val < m → ∀ K' : TileProg (F := F) i β,
      iprop(wmInv emb ιwm ∗ bigSep (pending (128 * kk.val)) Res ∗ Batch EC (thr d i) (.dma sem) ι 4096 D (128 * kk.val) 0)
      ⊢ iprop((iprop(wmInv emb ιwm ∗ bigSep (pending (128 * kk.val + 128)) Res ∗ Batch EC (thr d i) (.dma sem) ι 4096 D (128 * kk.val + 128) 0)
          -∗ run 𝒱 bd d i defs K' Q)
        -∗ run 𝒱 bd d i defs (sIssue i (blk kk) dst (chunkOf L _ (hin kk h)) sem >>= fun _ => K') Q) := by
    intro kk h hk K'
    have hkk := kk.isLt
    have ho := hoff kk hk
    have hrow : ∀ x, ((chunkOf L _ (hin kk h)).view.read (Elt F) fo x).toNat < 200000 := fun x => by
      have hx : (x 0).val < 128 := (x 0).isLt
      rw [chunk_read d i L fo _ _ ho (hin kk h) x, show 512 * t + 128 * kk.val + (x 0).val = 512 * t + (128 * kk.val + (x 0).val) by omega]
      exact hr _ (by omega)
    have hrows : ∀ k : Fin 128, (rows ((chunkOf L _ (hin kk h)).view.read (Elt F) fo) (o := 128) rfl hrow k).val
        = (lst d i L fo (512 * t + (128 * kk.val + k.val))).toNat := fun k =>
      (chunk_rows d i L fo _ _ ho (hin kk h) hrow k).trans (by rw [Nat.add_assoc])
    unfold sIssue
    have main := wp_scatterBatch (defs := defs) (Q := Q) (k := fun _ => K') EC 𝒱 (thr d i) bd emb (ιwm := ιwm) (src := blk kk)
      (dst := dst) (hg := hG) (offs := chunkOf L _ (hin kk h)) (hn := rfl) (sem := sem)
      (hp := rfl) (he := rfl) (hsp := Or.inl rfl) (hr := by decide)
      (fs := fs kk) (fd := f₀) (fo := fo) (g := g) (A := Finset.univ) (qo := fullShare) (Res := Res) (D := D) ι 4096
      (j := 128 * kk.val) (u := 0) (by change 128 * kk.val + 128 ≤ 128 * m; omega) (Nat.zero_le _) hrow
    have hmain := main (fun k => ?_) (qs kk)
      (fun k => pieceOf qw.right (128 * m) hn ⟨128 * kk.val + k.val, by have : k.val < 128 := k.isLt; omega⟩)
      (Fr kk) (fun _ => Finset.subset_univ _) (fun k => ?_) (fun k => ?_) (fun k => ?_)
    · iintro ⟨#HI, HR, HB⟩ Hk
      iapply hmain $$ [HR HB]
      · isplitr; · iexact HI
        isplitl [HR]; · iexact HR
        iexact HB
      iintro ⟨HR, HB⟩
      iapply Hk
      isplitr; · iexact HI
      isplitl [HR]; · iexact HR
      iexact HB
    · change (S200000x128.rowShape hG.axis).numel * 32 = 4096
      rw [numel_far]
    · intro x _ u hu
      have e := six_emb (rows ((chunkOf L _ (hin kk h)).view.read (Elt F) fo) (o := 128) rfl hrow k) x
      refine (payload_eq d i (blk kk) (fs kk) k x).trans (hv kk k hk (tcol x) u ?_)
      refine Eq.trans ?_ hu
      rw [View.read_apply, View.read_apply]
      refine congrArg (fun w => _root_.cast (congrArg (fun e => Option (Elt F e)) dst.view.elt_eq) (g (dst.view.emb w))) ?_
      exact (congrArg (fun r => six r (tcol x)) (hrows k).symm).trans e.symm
    · have hent := chunk_entry d i L _ _ ho (hin kk h) k
      have hk' : k.val < 128 := k.isLt
      change iprop(Src ⟨128 * kk.val + k.val, _⟩
        ∗ (L.view.loc (thr d i) ↦[{L.view.emb (lix (512 * t + (128 * kk.val + k.val)))}]{fullShare} fo)
        ∗ willBeTo (Ix := Ix) emb (dst.view.loc (thr d i)) Finset.univ (pieceOf qw.right (128 * m) hn _) f₀ g ∅) ⊢ _
      rw [← Nat.add_assoc (512 * t), ← hent]
      iintro ⟨H1, H2, H3⟩
      ihave H1' := (hSrc kk k _).1 $$ H1
      icases H1' with ⟨H1, H4⟩
      isplitl [H1]; · iexact H1
      isplitl [H2]; · iexact H2
      isplitl [H3]; · iexact H3
      iexact H4
    · have hent := chunk_entry d i L _ _ ho (hin kk h) k
      have hk' : k.val < 128 := k.isLt
      change _ ⊢ iprop(Src ⟨128 * kk.val + k.val, _⟩
        ∗ (L.view.loc (thr d i) ↦[{L.view.emb (lix (512 * t + (128 * kk.val + k.val)))}]{fullShare} fo)
        ∗ willBeTo (Ix := Ix) emb (dst.view.loc (thr d i)) Finset.univ (pieceOf qw.right (128 * m) hn _) f₀ g
          (farRow d i dst (lst d i L fo (512 * t + (128 * kk.val + k.val))).toNat))
      rw [← hrows k, ← farRow_eq d i dst, ← Nat.add_assoc (512 * t), ← hent]
      iintro ⟨H1, H2, H3, H4⟩
      isplitl [H1 H4]
      · iapply (hSrc kk k _).2
        isplitl [H1]; · iexact H1
        iexact H4
      isplitl [H2]; · iexact H2
      iexact H3
  have hwait : ∀ (kk : Fin 4) (_ : guardW cw t (BitVec.ofNat 32 kk.val) = 1#1), kk.val < m → ∀ K' : TileProg (F := F) i β,
      iprop(Batch EC (thr d i) (.dma sem) ι 4096 D (128 * m) (128 * 4096 * kk.val)
        ∗ (∃ W', ⌜∀ p ∈ W', p ∈ W ∨ p.2 = ι⌝ ∗ owes (thr d i) O W') ∗ □ MayWait (thr d i) (.dma sem) ι O)
      ⊢ iprop((iprop(Batch EC (thr d i) (.dma sem) ι 4096 D (128 * m) (128 * 4096 * (kk.val + 1))
            ∗ (∃ W', ⌜∀ p ∈ W', p ∈ W ∨ p.2 = ι⌝ ∗ owes (thr d i) O W') ∗ □ MayWait (thr d i) (.dma sem) ι O)
          -∗ run 𝒱 bd d i defs K' Q)
        -∗ run 𝒱 bd d i defs (sWait i (blk kk) dst sem >>= fun _ => K') Q) := by
    intro kk _ hk K'
    iintro ⟨HB, ⟨%W', %hW', HO⟩, #HM⟩ Hk
    unfold sWait
    iapply (Transfers.wp_waitBatchMulO EC 𝒱 (thr d i) bd ι (N := 4096) (D := D) (j := 128 * m) (u := 128 * 4096 * kk.val) 128 (by
      change S128x128.numel * 32 = _; rw [numel_block]) (by omega)) $$ [HB HO]
    · isplitl [HB]; · iexact HB
      isplitl [HO]; · iexact HO
      iexact HM
    iintro ⟨HB, HO⟩
    iapply Hk
    isplitl [HB]
    · rw [show 128 * 4096 * (kk.val + 1) = 128 * 4096 * kk.val + 128 * 4096 by omega]; iexact HB
    isplitl [HO]
    · iexists insert (SemLoc.dma sem, ι) W'
      isplitr
      · ipureintro
        intro p hp
        rcases Finset.mem_insert.mp hp with rfl | hp
        · exact Or.inr rfl
        · exact hW' p hp
      · iexact HO
    · iexact HM
  haveI hop : IsOp qw qw.left qw.right := ⟨PosShare.mem_left_op_right qw⟩
  iintro ⟨#HI, HR, HL, HW, HS, HO, #HM⟩ Hk
  imod (Transfers.batch_alloc' EC (thr d i) ι 4096 D) $$ HS with HB
  ihave HL' := (cover_split (fun k : Fin (128 * m) => ({L.view.emb (lix (512 * t + k.val))} : Finset (Idx (L.view.loc (thr d i)))))
    (entry_disjoint d i L hle) fo) $$ HL
  icases HL' with ⟨HL, HLr⟩
  ihave HW' := (willBe_cut (q₁ := qw.left) (q₂ := qw.right) emb) $$ HW
  icases HW' with ⟨HW, HA⟩
  ihave HA' := (willBe_piecesOf emb hn) $$ HA
  iapply (wp_four 𝒱 bd d i hg hm (fun n => iprop(wmInv emb ιwm ∗ bigSep (pending (128 * n)) Res ∗ Batch EC (thr d i) (.dma sem) ι 4096 D (128 * n) 0))
    hissue) $$ [HR HL HA' HB]
  · isplitr; · iexact HI
    isplitr [HB]
    · rw [pending_zero]
      ihave H1 := (Transfers.bigSep_sep_in _ _ _) $$ [HL HA']
      · isplitl [HL]; · iexact HL
        iexact HA'
      ihave H2 := (Transfers.bigSep_sep_in _ _ _) $$ [HR H1]
      · isplitl [HR]; · iexact HR
        iexact H1
      iexact H2
    · iexact HB
  iintro ⟨-, -, HB⟩
  iapply (wp_four 𝒱 bd d i hg hm (fun n => iprop(Batch EC (thr d i) (.dma sem) ι 4096 D (128 * m) (128 * 4096 * n)
        ∗ (∃ W', ⌜∀ p ∈ W', p ∈ W ∨ p.2 = ι⌝ ∗ owes (thr d i) O W') ∗ □ MayWait (thr d i) (.dma sem) ι O)) hwait) $$ [HB HO]
  · isplitl [HB]; · iexact HB
    isplitl [HO]
    · iexists W
      isplitr
      · ipureintro; intro p hp; exact Or.inl hp
      · iexact HO
    · iexact HM
  iintro ⟨HB, HO, -⟩
  rw [show 128 * 4096 * m = 4096 * (128 * m) by omega]
  imod (Transfers.batch_collect' EC (thr d i) (N := 4096) (Nat.succ_pos _)) $$ HB with ⟨HD, HS⟩
  ihave H1 := (three_out Src
    (fun k => iprop(L.view.loc (thr d i) ↦[{L.view.emb (lix (512 * t + k.val))}]{fullShare} fo))
    (fun k => willBeTo (Ix := Ix) emb (dst.view.loc (thr d i)) Finset.univ (pieceOf qw.right (128 * m) hn k) f₀ g (M k))) $$ [HD]
  · iexact HD
  icases H1 with ⟨HR, HL, HA⟩
  ihave HA' := (willBe_joinOf emb hn M) $$ HA
  icases HA' with ⟨%Mk', %hMk, HA⟩
  iapply Hk
  isplitl [HR]; · iexact HR
  isplitl [HL HLr]
  · iapply (cover_join_same (fun k : Fin (128 * m) => ({L.view.emb (lix (512 * t + k.val))} : Finset (Idx (L.view.loc (thr d i)))))
      (entry_disjoint d i L hle) fo)
    isplitl [HL] <;> iassumption
  isplitl [HW HA]
  · iexists Mk ∪ Mk'
    isplitr
    · ipureintro
      exact ⟨Finset.subset_union_left, fun k hk => (hMk ⟨k, hk⟩).trans Finset.subset_union_right⟩
    · iapply (willBe_meet (q₁ := qw.left) (q₂ := qw.right) emb)
      isplitl [HW] <;> iassumption
  isplitl [HS]; · iexact HS
  iexact HO

end scatter

end Cert.Proof
-- ==== Proof.Values.lean ====
/-
  The words the tile computes, as functions of places: the window of winners, the lists cut out of it, running sums.
-/
module

public import proofs.«01_k».proof.KernelIdeal
public import Mathlib.Data.Nat.Count

@[expose] public section

noncomputable section

namespace Cert.Proof

open Idealize.ShloMosaic

/-- Word `k` of a vector; zero past its end. -/
def wd {n : Fin 1 → ℕ} (f : (⟨1, n⟩ : Shape).Idx → BitVec 32) (k : ℕ) : BitVec 32 :=
  if h : k < n 0 then f (Shape.ofLane ⟨k, h⟩) else 0

/-- Lane `j` of a vector register. -/
abbrev ln (j : Fin 16) : Cert.KernelIdeal.S16.Idx := Shape.ofLane (d := ![16]) j

open Cert.KernelIdeal (S16 S6256 S6528)

theorem ln_eq (x : S16.Idx) : ∃ j, x = ln j := ⟨x 0, funext fun a => by rw [Fin.eq_zero a]; rfl⟩
theorem rowMajor_ln : ∀ j : Fin 16, (S16.rowMajor (ln j)).val = j.val := by decide +kernel
theorem and_one : ∀ a b : BitVec 1, a &&& b = 1#1 ↔ a = 1#1 ∧ b = 1#1 := by decide
theorem xor_one : ∀ a : BitVec 1, a ^^^ 1#1 = 1#1 ↔ ¬a = 1#1 := by decide
theorem ofBool_one (b : Bool) : BitVec.ofBool b = 1#1 ↔ b = true := by cases b <;> decide

/-! ## An indexed store -/

section store

variable {n : Fin 1 → ℕ} (f : (⟨1, n⟩ : Shape).Idx → BitVec 32) (idx v : S16.Idx → BitVec 32) (mask : S16.Idx → BitVec 1)
variable (h : ∀ a x, ((![idx] : Fin 1 → IVec S16 32) a x).toNat < n a)

/-- One lane's step of an indexed store. -/
def laneStep (g : (⟨1, n⟩ : Shape).Idx → BitVec 32) (k : Fin 16) : (⟨1, n⟩ : Shape).Idx → BitVec 32 :=
  if mask (ln k) = 1 then fun j => if ∀ a, (j a).val = ((![idx] : Fin 1 → IVec S16 32) a (ln k)).toNat then v (ln k) else g j else g

variable {F : FTy → Type} [FloatOps F]

/-- An indexed store is its lanes' steps in order. -/
theorem store_fold : storeIdx (F := F) (s := ⟨1, n⟩) (e := .i32) (d := ![16]) f ![idx] v mask false h
    = (List.finRange 16).foldl (laneStep idx v mask) f := by
  unfold storeIdx
  refine congrFun (congrFun (congrArg List.foldl (funext fun g => funext fun k => ?_)) f) (List.finRange 16)
  unfold laneStep
  by_cases hm : mask (ln k) = 1
  · refine (if_pos hm).trans (Eq.trans (funext fun j => ?_) (if_pos hm).symm)
    by_cases hj : ∀ a, (j a).val = ((![idx] : Fin 1 → IVec S16 32) a (ln k)).toNat
    · exact (if_pos hj).trans (if_pos hj).symm
    · exact (if_neg hj).trans (if_neg hj).symm
  · exact (if_neg hm).trans (if_neg hm).symm

omit [FloatOps F] in
/-- Lanes that do not name the place leave it. -/
theorem fold_miss {p : ℕ} (hp : p < n 0) : ∀ (l : List (Fin 16)) (g : (⟨1, n⟩ : Shape).Idx → BitVec 32),
    (∀ k ∈ l, mask (ln k) = 1 → (idx (ln k)).toNat ≠ p) → wd (l.foldl (laneStep idx v mask) g) p = wd g p
  | [], _, _ => rfl
  | k :: l, g, hl => by
    rw [List.foldl_cons, fold_miss hp l _ fun k' hk' => hl k' (List.mem_cons_of_mem _ hk')]
    unfold laneStep
    split
    · rename_i hm
      unfold wd
      rw [dif_pos hp, dif_pos hp]
      exact if_neg fun hj => hl k List.mem_cons_self hm (hj 0).symm
    · rfl

/-- A place no lane names keeps its word. -/
theorem store_miss {p : ℕ} (hp : p < n 0) (hno : ∀ k : Fin 16, mask (ln k) = 1 → (idx (ln k)).toNat ≠ p) :
    wd (storeIdx (F := F) (s := ⟨1, n⟩) (e := .i32) (d := ![16]) f ![idx] v mask false h) p = wd f p := by
  rw [store_fold]; exact fold_miss idx v mask hp _ _ fun k _ => hno k

/-- A place takes the word of the last lane that names it. -/
theorem store_hit {p : ℕ} (hp : p < n 0) (k : Fin 16) (hm : mask (ln k) = 1) (hk : (idx (ln k)).toNat = p)
    (hlast : ∀ k' : Fin 16, k < k' → mask (ln k') = 1 → (idx (ln k')).toNat ≠ p) :
    wd (storeIdx (F := F) (s := ⟨1, n⟩) (e := .i32) (d := ![16]) f ![idx] v mask false h) p = v (ln k) := by
  rw [store_fold]
  obtain ⟨l₁, l₂, hl⟩ := List.append_of_mem (List.mem_finRange k)
  have hs := List.pairwise_lt_finRange 16
  rw [hl] at hs ⊢
  rw [List.foldl_append, List.foldl_cons, fold_miss idx v mask hp l₂ _ fun k' hk' => hlast k'
    ((List.pairwise_cons.mp (List.pairwise_append.mp hs).2.1).1 k' hk')]
  unfold laneStep wd
  rw [if_pos hm, dif_pos hp]
  refine if_pos fun a => ?_
  rw [Fin.eq_zero a]
  exact hk.symm

end store

/-! ## The window -/

section window

variable (tt gg : ℕ → BitVec 32)

/-- The number written last for the row `r` by the first `n` pairs, all ones if there is none. -/
def winW : ℕ → ℕ → BitVec 32
  | 0, _ => 0xFFFFFFFF#32
  | n + 1, r => if (tt n).toNat = r then gg n else winW n r

theorem winW_miss {n r : ℕ} : ∀ {m : ℕ}, n ≤ m → (∀ k, n ≤ k → k < m → (tt k).toNat ≠ r) → winW tt gg m r = winW tt gg n r
  | m, hnm, h => by
    rcases Nat.eq_or_lt_of_le hnm with rfl | hlt
    · rfl
    obtain ⟨m, rfl⟩ : ∃ k, m = k + 1 := ⟨m - 1, by omega⟩
    rw [winW, if_neg (h m (by omega) (by omega))]
    exact winW_miss (by omega) fun k h1 h2 => h k h1 (by omega)

theorem winW_hit {k r m : ℕ} (hk : k < m) (h : (tt k).toNat = r) (hl : ∀ k', k < k' → k' < m → (tt k').toNat ≠ r) :
    winW tt gg m r = gg k := by
  rw [winW_miss tt gg (n := k + 1) hk fun k' h1 h2 => hl k' h1 h2, winW, if_pos h]

variable {F : FTy → Type} [FloatOps F]

/-- SIXTEEN PAIRS: the window after an indexed store of the last pair for each of its rows. -/
theorem win_step {n base : ℕ} (f : S6256.Idx → BitVec 32) (t rel v : S16.Idx → BitVec 32) (inb : S16.Idx → BitVec 1)
    (h : ∀ a x, ((![select inb rel (broadcast S16 0#32)] : Fin 1 → IVec S16 32) a x).toNat < S6256.size a)
    (ht : ∀ j : Fin 16, t (ln j) = tt (n + j.val)) (hv : ∀ j : Fin 16, v (ln j) = gg (n + j.val))
    (hinb : ∀ j : Fin 16, inb (ln j) = 1#1 ↔ base ≤ (t (ln j)).toNat ∧ (t (ln j)).toNat < base + 6250)
    (hrel : ∀ j : Fin 16, inb (ln j) = 1#1 → (rel (ln j)).toNat = (t (ln j)).toNat - base)
    (hf : ∀ x < 6250, wd f x = winW tt gg n (base + x)) {x : ℕ} (hx : x < 6250) :
    wd (storeIdx (F := F) (s := S6256) (e := .i32) (d := ![16]) f ![select inb rel (broadcast S16 0#32)] v
      (andi (scanCount inb rel).1 inb) false h) x = winW tt gg (n + 16) (base + x) := by
  have hx' : x < (![6256] : Fin 1 → ℕ) 0 := show x < 6256 by omega
  have hmask : ∀ k : Fin 16, andi (scanCount inb rel).1 inb (ln k) = 1 →
      inb (ln k) = 1#1 ∧ ∀ j, (S16.rowMajor (ln k)).val < (S16.rowMajor j).val → ¬(inb j = 1 ∧ rel j = rel (ln k)) := by
    intro k hm
    have h2 := (and_one _ _).mp hm
    refine ⟨h2.2, ?_⟩
    have h3 := h2.1
    unfold scanCount at h3
    simp only at h3
    split at h3
    · rename_i h4; exact h4.2
    · exact absurd h3 (by decide)
  have hidx : ∀ k : Fin 16, inb (ln k) = 1#1 → (select inb rel (broadcast S16 0#32) (ln k)).toNat = (t (ln k)).toNat - base := by
    intro k hk
    rw [← hrel k hk]
    unfold select Scalar.select
    rw [hk]; rfl
  by_cases hex : ∃ j : Fin 16, (tt (n + j.val)).toNat = base + x
  · obtain ⟨j, hj, hmax⟩ : ∃ j : Fin 16, (tt (n + j.val)).toNat = base + x ∧ ∀ j' : Fin 16, j < j' → (tt (n + j'.val)).toNat ≠ base + x := by
      classical
      obtain ⟨j, hj, hm⟩ := Finset.exists_max_image (Finset.univ.filter fun j : Fin 16 => (tt (n + j.val)).toNat = base + x) id
        (by obtain ⟨j, hj⟩ := hex; exact ⟨j, Finset.mem_filter.mpr ⟨Finset.mem_univ _, hj⟩⟩)
      refine ⟨j, (Finset.mem_filter.mp hj).2, fun j' hlt h' => ?_⟩
      exact absurd (hm j' (Finset.mem_filter.mpr ⟨Finset.mem_univ _, h'⟩)) (not_le.mpr hlt)
    have hin : inb (ln j) = 1#1 := (hinb j).mpr (by rw [ht, hj]; omega)
    rw [winW_hit tt gg (k := n + j.val) (by omega) hj (fun k' h1 h2 => by
        have := hmax ⟨k' - n, by omega⟩ (by rw [Fin.lt_def]; show j.val < k' - n; omega)
        rwa [show n + (⟨k' - n, by omega⟩ : Fin 16).val = k' by show n + (k' - n) = k'; omega] at this), ← hv j]
    refine store_hit _ _ _ _ h hx' j ?_ ?_ ?_
    · refine (and_one _ _).mpr ⟨?_, hin⟩
      unfold scanCount
      simp only
      rw [if_pos]; · rfl
      refine ⟨hin, fun i hi ⟨h1, h2⟩ => ?_⟩
      obtain ⟨i, rfl⟩ := ln_eq i
      rw [rowMajor_ln, rowMajor_ln] at hi
      have e := congrArg BitVec.toNat h2
      rw [hrel i h1, hrel j hin] at e
      have b1 := (hinb i).mp h1
      have b2 := (hinb j).mp hin
      refine hmax i (Fin.lt_def.mpr hi) ?_
      rw [← ht i]; rw [ht j, hj] at e b2; omega
    · rw [hidx j hin, ht j, hj]; omega
    · intro k hk hm
      have h2 := (hmask k hm).1
      rw [hidx k h2]
      have b := (hinb k).mp h2
      have := hmax k hk
      rw [← ht k] at this; omega
  · rw [winW_miss tt gg (n := n) (by omega) (fun k h1 h2 hk => hex ⟨⟨k - n, by omega⟩, by
        show (tt (n + (k - n))).toNat = _; rwa [show n + (k - n) = k by omega]⟩), ← hf x hx]
    refine store_miss _ _ _ _ h hx' fun k hm hk => hex ⟨k, ?_⟩
    have h2 := (hmask k hm).1
    rw [hidx k h2] at hk
    have b := (hinb k).mp h2
    rw [← ht k]; omega

end window

/-! ## Running sums -/

theorem scan_zero (kind : ScanKind) (v : IVec S16 32) : scan (d := ![16]) kind v (ln 0) = v (ln 0) := rfl

theorem scan_succ (kind : ScanKind) (v : IVec S16 32) : ∀ j : Fin 15,
    scan (d := ![16]) kind v (ln j.succ) = kind.step (scan (d := ![16]) kind v (ln j.castSucc)) (v (ln j.succ)) := by
  intro j; fin_cases j <;> rfl

section lists

variable (cls : ℕ → Prop) [DecidablePred cls]

theorem count_le {b : ℕ} (hb : ∀ p, cls p → p < b) (n : ℕ) : Nat.count cls n ≤ b := by
  rw [Nat.count_eq_card_filter_range]
  calc _ ≤ (Finset.range b).card := Finset.card_le_card fun p hp => Finset.mem_range.mpr (hb p (Finset.mem_filter.mp hp).2)
    _ = b := Finset.card_range b

theorem count_surj : ∀ (n k : ℕ), k < Nat.count cls n → ∃ p < n, cls p ∧ Nat.count cls p = k
  | 0, k, h => absurd h (by simp)
  | n + 1, k, h => by
    rw [Nat.count_succ] at h
    by_cases hc : cls n
    · rw [if_pos hc] at h
      rcases Nat.lt_succ_iff_lt_or_eq.mp h with h | h
      · obtain ⟨p, hp, h1⟩ := count_surj n k h
        exact ⟨p, by omega, h1⟩
      · exact ⟨n, by omega, hc, h.symm⟩
    · rw [if_neg hc] at h
      obtain ⟨p, hp, h1⟩ := count_surj n k h
      exact ⟨p, by omega, h1⟩

variable {cls} {s : ℕ} {m : S16.Idx → BitVec 1} (hm : ∀ j : Fin 16, m (ln j) = 1#1 ↔ cls (s + j.val))
include hm

theorem lane_bit (j : Fin 16) : (m (ln j)).setWidth 32 = BitVec.ofNat 32 (if cls (s + j.val) then 1 else 0) := by
  by_cases h : cls (s + j.val)
  · rw [if_pos h, (hm j).mpr h]; rfl
  · rw [if_neg h]
    have : ∀ b : BitVec 1, b ≠ 1#1 → b.setWidth 32 = BitVec.ofNat 32 0 := by decide
    exact this _ fun e => h ((hm j).mp e)

/-- The running count of a mask. -/
theorem scan_count (j : Fin 16) :
    scan (d := ![16]) .sum (fun i => (m i).setWidth 32) (ln j) = BitVec.ofNat 32 (Nat.count cls (s + j.val + 1) - Nat.count cls s) := by
  have main : ∀ k (hk : k < 16), scan (d := ![16]) .sum (fun i => (m i).setWidth 32) (ln ⟨k, hk⟩)
      = BitVec.ofNat 32 (Nat.count cls (s + k + 1) - Nat.count cls s) := by
    intro k
    induction k with
    | zero =>
      intro hk
      refine (scan_zero _ _).trans ((lane_bit hm 0).trans ?_)
      rw [Nat.count_succ]; simp
    | succ k ih =>
      intro hk
      refine (scan_succ .sum _ ⟨k, by omega⟩).trans ?_
      refine (congrArg₂ (fun a b : BitVec 32 => a + b) (ih (by omega)) (lane_bit hm ⟨k + 1, hk⟩)).trans ?_
      rw [← BitVec.ofNat_add]
      congr 1
      have h1 := Nat.count_monotone cls (show s ≤ s + k + 1 by omega)
      have h2 := Nat.count_succ cls (s + k + 1)
      simp only at *
      rw [show s + (k + 1) = s + k + 1 by omega, h2]; omega
  exact main j.val j.isLt

/-- The place of a lane's entry: the number of entries before it. -/
theorem lane_rank (j : Fin 16) :
    BitVec.ofNat 32 (Nat.count cls s) + scan (d := ![16]) .sum (fun i => (m i).setWidth 32) (ln j) - (m (ln j)).setWidth 32
      = BitVec.ofNat 32 (Nat.count cls (s + j.val)) := by
  rw [scan_count hm, lane_bit hm, ← BitVec.ofNat_add]
  have h1 := Nat.count_monotone cls (show s ≤ s + j.val by omega)
  have h2 := Nat.count_succ cls (s + j.val)
  rw [h2, show Nat.count cls s + ((Nat.count cls (s + j.val) + if cls (s + j.val) then 1 else 0) - Nat.count cls s)
    = Nat.count cls (s + j.val) + (if cls (s + j.val) then 1 else 0) by omega, BitVec.ofNat_add, BitVec.add_sub_cancel]

/-- The largest running count, with the sign bit turned over before and after, is the last. -/
theorem scan_total :
    scan (d := ![16]) .max (xori (scan (d := ![16]) .sum (fun i => (m i).setWidth 32)) (broadcast S16 2147483648#32)) (ln 15) ^^^ 2147483648#32
      = BitVec.ofNat 32 (Nat.count cls (s + 16) - Nat.count cls s) := by
  have small : ∀ k, Nat.count cls (s + k) - Nat.count cls s ≤ k := fun k => by
    rw [Nat.count_add]
    have := Nat.count_le (p := fun n => cls (s + n)) (n := k)
    omega
  have step : ∀ a : Fin 17, ∀ b : Fin 17, a ≤ b →
      IntOp.maxui (BitVec.ofNat 32 a.val ^^^ 2147483648#32) (BitVec.ofNat 32 b.val ^^^ 2147483648#32) = BitVec.ofNat 32 b.val ^^^ 2147483648#32 := by
    decide +kernel
  have main : ∀ k (hk : k < 16), scan (d := ![16]) .max (xori (scan (d := ![16]) .sum (fun i => (m i).setWidth 32)) (broadcast S16 2147483648#32)) (ln ⟨k, hk⟩)
      = BitVec.ofNat 32 (Nat.count cls (s + k + 1) - Nat.count cls s) ^^^ 2147483648#32 := by
    intro k
    induction k with
    | zero =>
      intro hk
      exact (scan_zero _ _).trans (congrArg (· ^^^ 2147483648#32) (scan_count hm 0))
    | succ k ih =>
      intro hk
      refine (scan_succ .max _ ⟨k, by omega⟩).trans ?_
      refine (congrArg₂ IntOp.maxui (ih (by omega)) (congrArg (· ^^^ 2147483648#32) (scan_count hm ⟨k + 1, hk⟩))).trans ?_
      have h1 := Nat.count_monotone cls (show s + k + 1 ≤ s + (k + 1) + 1 by omega)
      exact step ⟨Nat.count cls (s + k + 1) - Nat.count cls s, by have := small (k + 1); rw [← Nat.add_assoc] at this; omega⟩
        ⟨Nat.count cls (s + (k + 1) + 1) - Nat.count cls s, by have := small (k + 2); rw [show s + (k + 2) = s + (k + 1) + 1 by omega] at this; omega⟩
        (by rw [Fin.le_def]; show _ - _ ≤ _ - _; omega)
  rw [show (15 : Fin 16) = ⟨15, by decide⟩ from rfl, main 15 (by decide), BitVec.xor_assoc, BitVec.xor_self, BitVec.xor_zero]

omit [DecidablePred cls] hm in
theorem ofNat_toNat_small {k : ℕ} (hk : k < 2 ^ 32) : (BitVec.ofNat 32 k).toNat = k := by
  rw [BitVec.toNat_ofNat]; exact Nat.mod_eq_of_lt hk

variable {F : FTy → Type} [FloatOps F]

/-- SIXTEEN ENTRIES: a list after an indexed store of the lanes of its class at their places. -/
theorem list_step (f : S6528.Idx → BitVec 32) (idx v : S16.Idx → BitVec 32) (val : ℕ → BitVec 32)
    (h : ∀ a x, ((![idx] : Fin 1 → IVec S16 32) a x).toNat < S6528.size a) (hb : ∀ p, cls p → p < 6250)
    (hidx : ∀ j : Fin 16, idx (ln j) = BitVec.ofNat 32 (Nat.count cls (s + j.val)))
    (hv : ∀ j : Fin 16, cls (s + j.val) → v (ln j) = val (s + j.val))
    (hf : ∀ p < s, cls p → wd f (Nat.count cls p) = val p) {p : ℕ} (hp : p < s + 16) (hc : cls p) :
    wd (storeIdx (F := F) (s := S6528) (e := .i32) (d := ![16]) f ![idx] v m false h) (Nat.count cls p) = val p := by
  have hle : ∀ n, Nat.count cls n ≤ 6250 := count_le cls hb
  have hn : ∀ j : Fin 16, (idx (ln j)).toNat = Nat.count cls (s + j.val) := fun j => by
    rw [hidx j, ofNat_toNat_small (by have := hle (s + j.val); omega)]
  have hp' : Nat.count cls p < (![6528] : Fin 1 → ℕ) 0 := show _ < 6528 by have := hle p; omega
  by_cases hps : p < s
  · rw [store_miss _ _ _ _ h hp', hf p hps hc]
    intro k _
    rw [hn k]
    have := Nat.count_strict_mono hc (show p < s + k.val by omega)
    omega
  · have e : s + (⟨p - s, by omega⟩ : Fin 16).val = p := by show s + (p - s) = p; omega
    rw [store_hit _ _ _ _ h hp' ⟨p - s, by omega⟩ ((hm _).mpr (by rw [e]; exact hc)) (by rw [hn, e]), hv _ (by rw [e]; exact hc), e]
    intro k hk hmk
    rw [hn k]
    have := Nat.count_strict_mono hc (show p < s + k.val by rw [Fin.lt_def] at hk; simp only at hk; omega)
    omega

/-- The places of a store's lanes lie inside the list. -/
theorem rank_in {idx : S16.Idx → BitVec 32} (hb : ∀ p, cls p → p < 6250)
    (hidx : ∀ j : Fin 16, idx (ln j) = BitVec.ofNat 32 (Nat.count cls (s + j.val))) :
    ∀ a x, ((![idx] : Fin 1 → IVec S16 32) a x).toNat < S6528.size a := by
  intro a x
  obtain ⟨j, rfl⟩ := ln_eq x
  rw [Fin.eq_zero a]
  show (idx (ln j)).toNat < 6528
  have := count_le cls hb (s + j.val)
  rw [hidx j, ofNat_toNat_small (by omega)]; omega

end lists

end Cert.Proof
-- ==== Proof.Lanes.lean ====
/-
  The vectors the tile computes, lane by lane.
-/
module

public import proofs.«01_k».proof.Proof.Values
public import proofs.«01_k».proof.Proof.Gen.KernelIdeal.Skeleton

@[expose] public section

noncomputable section

namespace Cert.Proof

open Idealize.ShloMosaic
open Cert.KernelIdeal Cert.KernelIdeal.Gen

variable {F : FTy → Type} [FloatOps F]

/-! ## Places -/

theorem off1_eq : ∀ t : Fin k0_t1_loop.trips, k0_off1 t = ![16 * t.val] := by decide +kernel
theorem off2_eq : ∀ t : Fin k0_t2_loop.trips, k0_off2 t = ![4000 * t.val] := by decide +kernel
theorem off3_eq : ∀ t : Fin k0_t3_loop.trips, k0_off3 t = ![16 * t.val] := by decide +kernel
theorem off4_eq : ∀ t : Fin k0_t4_loop.trips, k0_off4 t = ![4000 * t.val] := by decide +kernel
theorem off5_eq : ∀ t : Fin k0_t5_loop.trips, k0_off5 t = ![16 * t.val] := by decide +kernel
theorem off6_eq : ∀ t : Fin k0_t6_loop.trips, k0_off6 t = ![16 * t.val] := by decide +kernel
theorem trips1 : k0_t1_loop.trips = 391 := by decide +kernel
theorem trips2 : k0_t2_loop.trips = 25 := by decide +kernel
theorem trips3 : k0_t3_loop.trips = 250 := by decide +kernel
theorem trips4 : k0_t4_loop.trips = 25 := by decide +kernel
theorem trips5 : k0_t5_loop.trips = 250 := by decide +kernel
theorem trips6 : k0_t6_loop.trips = 391 := by decide +kernel

/-- The first row a tile owns. -/
def base (i : grid0.Coords) : ℕ := ((i 1).val * 2 + (i 0).val) * 6250

/-- The same as the tile's word. -/
def baseW (i : grid0.Coords) : BitVec 32 :=
  Scalar.muli (Scalar.addi (Scalar.muli (BitVec.ofNat 32 (i 1).val) 2#32) (BitVec.ofNat 32 (i 0).val)) 6250#32

theorem baseW_eq (i : grid0.Coords) : baseW i = BitVec.ofNat 32 (base i) := by
  have h : ∀ (a : Fin 2) (b : Fin 16), Scalar.muli (Scalar.addi (Scalar.muli (BitVec.ofNat 32 b.val) 2#32) (BitVec.ofNat 32 a.val)) 6250#32
      = BitVec.ofNat 32 ((b.val * 2 + a.val) * 6250) := by decide +kernel
  exact h (i 0) (i 1)

theorem base_lt (i : grid0.Coords) : base i + 6250 ≤ 200000 := by
  have h0 : (i 0).val < 2 := (i 0).isLt
  have h1 : (i 1).val < 16 := (i 1).isLt
  unfold base; omega

/-! ## One vector of pairs -/

theorem in_rows (x : BitVec 32) :
    BitVec.ofBool ((0#32).sle x) &&& BitVec.ofBool (x.slt 6250#32) = 1#1 ↔ x.toNat < 6250 := by
  rw [and_one, ofBool_one, ofBool_one, BitVec.sle_eq_decide, BitVec.slt_eq_decide, decide_eq_true_eq, decide_eq_true_eq,
    BitVec.toInt_eq_toNat_cond, BitVec.toInt_eq_toNat_cond, BitVec.toInt_eq_toNat_cond]
  simp only [BitVec.toNat_ofNat]
  have := x.isLt
  split <;> split <;> omega

section pairs

variable (i : grid0.Coords) (t : Vec F S16 .i32) (hb : ∀ j : Fin 16, (t (ln j)).toNat < 200000)
include hb

theorem rel_nat (j : Fin 16) : (k0_pay17 i t (ln j)).toNat = (4294967296 - base i + (t (ln j)).toNat) % 4294967296 := by
  have e : k0_pay17 i t (ln j) = t (ln j) - baseW i := rfl
  have := base_lt i
  rw [e, baseW_eq, BitVec.toNat_sub, BitVec.toNat_ofNat]; omega

theorem inb_iff (j : Fin 16) : k0_pay18 i t (ln j) = 1#1 ↔ base i ≤ (t (ln j)).toNat ∧ (t (ln j)).toNat < base i + 6250 := by
  refine (in_rows (k0_pay17 i t (ln j))).trans ?_
  have h1 := base_lt i
  have h2 := hb j
  rw [rel_nat i t hb]; omega

theorem rel_of (j : Fin 16) (h : k0_pay18 i t (ln j) = 1#1) : (k0_pay17 i t (ln j)).toNat = (t (ln j)).toNat - base i := by
  have h1 := base_lt i
  have h2 := (inb_iff i t hb j).mp h
  rw [rel_nat i t hb]; omega

/-- Every lane's place lies in the window. -/
theorem pay20_in : ∀ a x, ((![k0_pay20 i t] : Fin 1 → IVec S16 32) a x).toNat < S6256.size a := by
  intro a x
  obtain ⟨j, rfl⟩ := ln_eq x
  rw [Fin.eq_zero a]
  show (k0_pay20 i t (ln j)).toNat < 6256
  have e : k0_pay20 i t (ln j) = if k0_pay18 i t (ln j) = 1#1 then k0_pay17 i t (ln j) else 0#32 := rfl
  rw [e]
  split
  · rename_i h
    have h2 := (inb_iff i t hb j).mp h
    rw [rel_of i t hb j h]; omega
  · decide

theorem chk1 : k0_chk1 (k0_pay20 i t) := pay20_in i t hb
theorem chk2 : k0_chk2 (k0_pay25 i t) := pay20_in i t hb

/-- SIXTEEN PAIRS of the first list. -/
theorem pairs_first (tt gg : ℕ → BitVec 32) {n : ℕ} (f : S6256.Idx → BitVec 32) (g : Vec F S16 .i32)
    (ht : ∀ j : Fin 16, t (ln j) = tt (n + j.val)) (hg : ∀ j : Fin 16, g (ln j) = gg (n + j.val)) (h)
    (hf : ∀ x < 6250, wd f x = winW tt gg n (base i + x)) {x : ℕ} (hx : x < 6250) :
    wd (storeIdx (F := F) (s := S6256) (e := .i32) (d := ![16]) f ![k0_pay20 i t] (k0_pay19 g) (k0_pay21 i t) false h) x
      = winW tt gg (n + 16) (base i + x) :=
  win_step (F := F) tt gg f t (k0_pay17 i t) (k0_pay19 g) (k0_pay18 i t) h ht
    (fun j => (BitVec.add_zero (g (ln j))).trans (hg j)) (inb_iff i t hb) (rel_of i t hb) hf hx

/-- SIXTEEN PAIRS of the second list. -/
theorem pairs_second (tt gg : ℕ → BitVec 32) {n : ℕ} (f : S6256.Idx → BitVec 32) (g : Vec F S16 .i32)
    (ht : ∀ j : Fin 16, t (ln j) = tt (n + j.val)) (hg : ∀ j : Fin 16, g (ln j) + 200000#32 = gg (n + j.val)) (h)
    (hf : ∀ x < 6250, wd f x = winW tt gg n (base i + x)) {x : ℕ} (hx : x < 6250) :
    wd (storeIdx (F := F) (s := S6256) (e := .i32) (d := ![16]) f ![k0_pay25 i t] (k0_pay24 g) (k0_pay26 i t) false h) x
      = winW tt gg (n + 16) (base i + x) :=
  win_step (F := F) tt gg f t (k0_pay17 i t) (k0_pay24 g) (k0_pay18 i t) h ht hg (inb_iff i t hb) (rel_of i t hb) hf hx

end pairs

/-! ## One vector of the window, sorted into the lists -/

/-- The rows the first array gives. -/
def cls0 (w : ℕ → BitVec 32) (p : ℕ) : Prop := p < 6250 ∧ (w p).toNat < 200000
/-- The rows the second array gives. -/
def cls1 (w : ℕ → BitVec 32) (p : ℕ) : Prop := p < 6250 ∧ 200000 ≤ (w p).toNat ∧ (w p).toNat < 2147483648
/-- The rows no pair names. -/
def clsz (w : ℕ → BitVec 32) (p : ℕ) : Prop := p < 6250 ∧ 2147483648 ≤ (w p).toNat

instance (w : ℕ → BitVec 32) : DecidablePred (cls0 w) := fun _ => instDecidableAnd
instance (w : ℕ → BitVec 32) : DecidablePred (cls1 w) := fun _ => instDecidableAnd
instance (w : ℕ → BitVec 32) : DecidablePred (clsz w) := fun _ => instDecidableAnd

abbrev iotaV : IVec S16 32 := iota .scVector S16 32 [0] iota_S16_d0_w32_scVector

section sorting

variable (t : Fin k0_t6_loop.trips) (v : Vec F S16 .i32) (w : ℕ → BitVec 32)

theorem pay1_lane (j : Fin 16) : k0_pay1 iotaV 0#32 1#32 t (ln j) = BitVec.ofNat 32 (16 * t.val + j.val) := by
  have h1 : ∀ j : Fin 16, iotaV (ln j) = BitVec.ofNat 32 j.val := by decide +kernel
  have h2 : ∀ t : Fin k0_t6_loop.trips, Scalar.muli (Scf.iv 0#32 1#32 t) 16#32 = BitVec.ofNat 32 (16 * t.val) := by decide +kernel
  have e : k0_pay1 iotaV 0#32 1#32 t (ln j) = Scalar.muli (Scf.iv 0#32 1#32 t) 16#32 + iotaV (ln j) := rfl
  rw [e, h1, h2, ← BitVec.ofNat_add]

theorem pay2_iff (j : Fin 16) : k0_pay2 iotaV 0#32 1#32 t (ln j) = 1#1 ↔ 16 * t.val + j.val < 6250 := by
  have e : k0_pay2 iotaV 0#32 1#32 t (ln j) = BitVec.ofBool ((k0_pay1 iotaV 0#32 1#32 t (ln j)).slt 6250#32) := rfl
  have ht : t.val < 391 := lt_of_lt_of_eq t.isLt trips6
  rw [e, pay1_lane, ofBool_one, BitVec.slt_eq_decide, decide_eq_true_eq, BitVec.toInt_eq_toNat_cond, BitVec.toInt_eq_toNat_cond]
  simp only [BitVec.toNat_ofNat]
  split <;> split <;> omega

theorem pay3_lane (i : grid0.Coords) (j : Fin 16) :
    k0_pay3 (baseW i) iotaV 0#32 1#32 t (ln j) = BitVec.ofNat 32 (base i + (16 * t.val + j.val)) := by
  have e : k0_pay3 (baseW i) iotaV 0#32 1#32 t (ln j) = baseW i + k0_pay1 iotaV 0#32 1#32 t (ln j) := rfl
  rw [e, pay1_lane, baseW_eq, ← BitVec.ofNat_add]

theorem pay4_iff (x : S16.Idx) : k0_pay4 v x = 1#1 ↔ 2147483648 ≤ (v x : BitVec 32).toNat := by
  have e : k0_pay4 v x = BitVec.ofBool ((v x : BitVec 32).slt 0#32) := rfl
  rw [e, ofBool_one, BitVec.slt_eq_decide, decide_eq_true_eq, BitVec.toInt_eq_toNat_cond, BitVec.toInt_eq_toNat_cond]
  simp only [BitVec.toNat_ofNat]
  have := (v x : BitVec 32).isLt
  split <;> split <;> omega

theorem pay5_iff (x : S16.Idx) : k0_pay5 v x = 1#1 ↔ 200000 ≤ (v x : BitVec 32).toNat ∧ (v x : BitVec 32).toNat < 2147483648 := by
  have e : k0_pay5 v x = BitVec.ofBool ((200000#32).sle (v x : BitVec 32)) := rfl
  rw [e, ofBool_one, BitVec.sle_eq_decide, decide_eq_true_eq, BitVec.toInt_eq_toNat_cond, BitVec.toInt_eq_toNat_cond]
  simp only [BitVec.toNat_ofNat]
  have := (v x : BitVec 32).isLt
  split <;> split <;> omega

variable (hv : ∀ j : Fin 16, 16 * t.val + j.val < 6250 → v (ln j) = w (16 * t.val + j.val))
include hv

theorem pay6_iff (j : Fin 16) : k0_pay6 iotaV 0#32 1#32 t v (ln j) = 1#1 ↔ cls0 w (16 * t.val + j.val) := by
  have e : k0_pay6 iotaV 0#32 1#32 t v (ln j) = (k0_pay2 iotaV 0#32 1#32 t (ln j) &&& (k0_pay4 v (ln j) ^^^ 1#1)) &&& (k0_pay5 v (ln j) ^^^ 1#1) := rfl
  rw [e, and_one, and_one, xor_one, xor_one, pay2_iff, pay4_iff, pay5_iff]
  unfold cls0
  constructor
  · rintro ⟨⟨h1, h2⟩, h3⟩
    rw [hv j h1] at h2 h3
    omega
  · rintro ⟨h1, h2⟩
    rw [hv j h1]
    omega

theorem pay7_iff (j : Fin 16) : k0_pay7 iotaV 0#32 1#32 t v (ln j) = 1#1 ↔ cls1 w (16 * t.val + j.val) := by
  have e : k0_pay7 iotaV 0#32 1#32 t v (ln j) = k0_pay2 iotaV 0#32 1#32 t (ln j) &&& k0_pay5 v (ln j) := rfl
  rw [e, and_one, pay2_iff, pay5_iff]
  unfold cls1
  refine and_congr_right fun h1 => ?_
  rw [hv j h1]

theorem pay8_iff (j : Fin 16) : k0_pay8 iotaV 0#32 1#32 t v (ln j) = 1#1 ↔ clsz w (16 * t.val + j.val) := by
  have e : k0_pay8 iotaV 0#32 1#32 t v (ln j) = k0_pay2 iotaV 0#32 1#32 t (ln j) &&& k0_pay4 v (ln j) := rfl
  rw [e, and_one, pay2_iff, pay4_iff]
  unfold clsz
  refine and_congr_right fun h1 => ?_
  rw [hv j h1]

theorem pay12_lane (j : Fin 16) : k0_pay12 iotaV 0#32 1#32 t (BitVec.ofNat 32 (Nat.count (cls0 w) (16 * t.val))) v (ln j)
    = BitVec.ofNat 32 (Nat.count (cls0 w) (16 * t.val + j.val)) := lane_rank (pay6_iff t v w hv) j
theorem pay13_lane (j : Fin 16) : k0_pay13 iotaV 0#32 1#32 t (BitVec.ofNat 32 (Nat.count (cls1 w) (16 * t.val))) v (ln j)
    = BitVec.ofNat 32 (Nat.count (cls1 w) (16 * t.val + j.val)) := lane_rank (pay7_iff t v w hv) j
theorem pay14_lane (j : Fin 16) : k0_pay14 iotaV 0#32 1#32 t (BitVec.ofNat 32 (Nat.count (clsz w) (16 * t.val))) v (ln j)
    = BitVec.ofNat 32 (Nat.count (clsz w) (16 * t.val + j.val)) := lane_rank (pay8_iff t v w hv) j

omit hv in
theorem count_next (cls : ℕ → Prop) [DecidablePred cls] (s : ℕ) :
    BitVec.ofNat 32 (Nat.count cls s) + BitVec.ofNat 32 (Nat.count cls (s + 16) - Nat.count cls s) = BitVec.ofNat 32 (Nat.count cls (s + 16)) := by
  rw [← BitVec.ofNat_add]
  congr 1
  have := Nat.count_monotone cls (show s ≤ s + 16 by omega)
  omega

theorem pay27_next : Scalar.addi (BitVec.ofNat 32 (Nat.count (cls0 w) (16 * t.val)))
    (extractAt ![15] (k0_pay27 (k0_pay9 iotaV 0#32 1#32 t v)) inpos_S16_p15) = BitVec.ofNat 32 (Nat.count (cls0 w) (16 * t.val + 16)) :=
  (congrArg (BitVec.ofNat 32 (Nat.count (cls0 w) (16 * t.val)) + ·) (scan_total (pay6_iff t v w hv))).trans (count_next _ _)
theorem pay28_next : Scalar.addi (BitVec.ofNat 32 (Nat.count (cls1 w) (16 * t.val)))
    (extractAt ![15] (k0_pay28 (k0_pay10 iotaV 0#32 1#32 t v)) inpos_S16_p15) = BitVec.ofNat 32 (Nat.count (cls1 w) (16 * t.val + 16)) :=
  (congrArg (BitVec.ofNat 32 (Nat.count (cls1 w) (16 * t.val)) + ·) (scan_total (pay7_iff t v w hv))).trans (count_next _ _)
theorem pay29_next : Scalar.addi (BitVec.ofNat 32 (Nat.count (clsz w) (16 * t.val)))
    (extractAt ![15] (k0_pay29 (k0_pay11 iotaV 0#32 1#32 t v)) inpos_S16_p15) = BitVec.ofNat 32 (Nat.count (clsz w) (16 * t.val + 16)) :=
  (congrArg (BitVec.ofNat 32 (Nat.count (clsz w) (16 * t.val)) + ·) (scan_total (pay8_iff t v w hv))).trans (count_next _ _)

end sorting

/-! ## Padding -/

theorem first_word (v : S16.Idx → BitVec 32) :
    extractAt ![0] (extractStridedSlice S1 ![0] v slices_S16_o0_S1) inpos_S1_p0 = v (ln 0) := by
  refine congrArg v (funext fun a => Fin.ext ?_)
  have ha : a = 0 := Subsingleton.elim (α := Fin 1) a 0
  subst ha
  rfl

theorem pad_word (v : S16.Idx → BitVec 32) (x : S16.Idx) :
    addi (broadcast S16 0#32) (broadcast S16 (extractAt ![0] (extractStridedSlice S1 ![0] v slices_S16_o0_S1) inpos_S1_p0)) x = v (ln 0) :=
  (congrArg (0#32 + ·) (first_word v)).trans (BitVec.zero_add _)

theorem pay30_eq (v : Vec F S16 .i32) (x : S16.Idx) : k0_pay30 v x = v (ln 0) := pad_word v x
theorem pay32_eq (v : Vec F S16 .i32) (x : S16.Idx) : k0_pay32 k0_pay31 v x = v (ln 0) := pad_word v x
theorem pay33_eq (v : Vec F S16 .i32) (x : S16.Idx) : k0_pay33 v x = v (ln 0) := pad_word v x
theorem pay34_eq (v : Vec F S16 .i32) (x : S16.Idx) : k0_pay34 v x = v (ln 0) := pad_word v x
theorem pay35_eq (v : Vec F S16 .i32) (x : S16.Idx) : k0_pay35 v x = v (ln 0) := pad_word v x

end Cert.Proof
-- ==== Proof.Vec.lean ====
/-
  Loads and stores of vectors of 16 words in a buffer of words, told by the words before and after.
-/
module

public import proofs.«01_k».proof.Proof.Phase
public import proofs.«01_k».proof.Proof.Lanes

@[expose] public section

set_option synthInstance.maxSize 4096

noncomputable section

namespace Cert.Proof

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Cert.KernelIdeal Cert.KernelIdeal.Gen

variable {F : FTy → Type} [FloatOps F]
variable {Ix : Type} [DecidableEq Ix] {Name : Type} [DecidableEq Name] [Infinite Name]
variable {U : Type} [URA U] {Lvl : Type} [Preorder Lvl]
variable {defs : Defs nD τ sig (Elt F) Λ₀} (𝒱 : Variants) (bd : Option 𝒱.V)
variable (d : Dev nD) (i : grid0.Coords)

local notation "𝕄" => MT nD τ sig Ix (Elt F) Name U Lvl

/-- A buffer of words of which `P` holds. -/
def words {n : ℕ} (L : Memref sig .scVector .vmem ⟨1, ![n]⟩ .i32) (P : (ℕ → BitVec 32) → Prop) : sProp 𝕄 :=
  iprop(∃ f : Buf (Elt F) (L.view.loc (thr d i)), ⌜P (wd (L.view.read (Elt F) f))⌝ ∗ (L.view.loc (thr d i) ↦[Finset.univ]{fullShare} f))

section rules

variable {n : ℕ} (L : Memref sig .scVector .vmem ⟨1, ![n]⟩ .i32)

theorem words_mono {P P' : (ℕ → BitVec 32) → Prop} (h : ∀ w, P w → P' w) :
    words (Ix := Ix) (Name := Name) (U := U) (Lvl := Lvl) (F := F) d i L P ⊢ words d i L P' := by
  unfold words
  iintro ⟨%f, %hf, H⟩
  iexists f
  isplitr; · ipureintro; exact h _ hf
  iexact H

variable {off : Fin 1 → ℕ} {o : ℕ} (ho : off = ![o]) (inb : ∀ a, off a + S16.size a ≤ (⟨1, ![n]⟩ : Shape).size a)

include ho in
omit [FloatOps F] in
/-- Lane `j` of a vector at `o` is word `o + j`. -/
theorem vec_read (f : Buf (Elt F) (L.view.loc (thr d i))) (j : Fin 16) :
    (L.access (Rect.unit (s := ⟨1, ![n]⟩) off S16.size inb)).read (Elt F) f (ln j) = wd (L.view.read (Elt F) f) (o + j.val) := by
  subst ho
  have h0 : o + 16 ≤ n := inb 0
  have hj : o + j.val < n := by omega
  unfold wd
  rw [dif_pos (show o + j.val < (![n] : Fin 1 → ℕ) 0 from hj)]
  refine congrArg (L.view.read (Elt F) f) (funext fun a => Fin.ext ?_)
  have ha : a = 0 := Subsingleton.elim (α := Fin 1) a 0
  subst ha
  show o + 1 * j.val = o + j.val
  omega

include ho in
/-- A vector read: its lanes are the words at its place. -/
theorem wp_loadVec {P : (ℕ → BitVec 32) → Prop} {hl} {β : Type} {k : Vec F S16 .i32 → TileProg (F := F) i β} {Q : β → sProp 𝕄} :
    words (Ix := Ix) (Name := Name) (U := U) (Lvl := Lvl) (F := F) d i L P
      ⊢ iprop((∀ v : Vec F S16 .i32, ⌜∃ w, P w ∧ ∀ j : Fin 16, v (ln j) = w (o + j.val)⌝
          -∗ words d i L P -∗ run 𝒱 bd d i defs (k v) Q)
        -∗ run 𝒱 bd d i defs (Prog.lift (.load L (Rect.unit (s := ⟨1, ![n]⟩) off S16.size inb).toLoadRect hl) >>= k) Q) := by
  unfold words
  iintro ⟨%f, %hf, H⟩ Hk
  iapply (wp_load_rect (defs := defs) 𝒱 (thr d i) bd Set.univ (Q := Q) (m := L) (r := Rect.unit (s := ⟨1, ![n]⟩) off S16.size inb)
    (hl := hl) (k := k) (S := Finset.univ) (q := fullShare) (f := f) (Finset.subset_univ _)) $$ H
  iintro H
  iapply Hk $$ %_ [] [H]
  · ipureintro
    exact ⟨_, hf, fun j => vec_read d i L ho inb f j⟩
  · iexists f
    isplitr; · ipureintro; exact hf
    iexact H

include ho in
/-- A vector stored: its lanes are the words at its place, the others stay. -/
theorem wp_storeVec {P P' : (ℕ → BitVec 32) → Prop} {v : Vec F S16 .i32} {hx hm} {β : Type} {k : PUnit → TileProg (F := F) i β} {Q : β → sProp 𝕄}
    (hP : ∀ w w', P w → (∀ j : Fin 16, w' (o + j.val) = v (ln j)) → (∀ p, p < o ∨ o + 16 ≤ p → w' p = w p) → P' w') :
    words (Ix := Ix) (Name := Name) (U := U) (Lvl := Lvl) (F := F) d i L P
      ⊢ iprop((words d i L P' -∗ run 𝒱 bd d i defs (k ⟨⟩) Q)
        -∗ run 𝒱 bd d i defs (Prog.lift (.store L (Rect.unit (s := ⟨1, ![n]⟩) off S16.size inb) v Finset.univ hx hm) >>= k) Q) := by
  unfold words
  iintro ⟨%f, %hf, H⟩ Hk
  iapply (wp_store (defs := defs) 𝒱 (thr d i) bd Set.univ (Q := Q) (m := L) (r := Rect.unit (s := ⟨1, ![n]⟩) off S16.size inb)
    (w := v) (Mk := Finset.univ) (hx := hx) (hm := hm) (k := k) (S := Finset.univ) (f := f) (Finset.subset_univ _)) $$ H
  iintro H
  iapply Hk $$ [H]
  iexists _
  isplitr
  rotate_left
  · iexact H
  ipureintro
  refine hP _ _ hf (fun j => ?_) fun p hp => ?_
  · rw [← vec_read d i L ho inb]
    exact congrFun (View.read_write_univ (v := L.access (Rect.unit (s := ⟨1, ![n]⟩) off S16.size inb)) f v) (ln j)
  · unfold wd
    split
    · refine View.read_slice_write_of_not_mem (v := L.view) (Rect.unit (s := ⟨1, ![n]⟩) off S16.size inb) f v Finset.univ fun hm => ?_
      obtain ⟨x, _, hx⟩ := Finset.mem_map.mp hm
      have e : ((Rect.unit (s := ⟨1, ![n]⟩) off S16.size inb).emb x 0).val = p := congrArg (fun y => (y 0).val) hx
      subst ho
      have e' : o + 1 * (x 0).val = p := e
      have : (x 0).val < 16 := (x 0).isLt
      omega
    · rfl

/-- An indexed store of 16 lanes. -/
theorem wp_storeAt {P P' : (ℕ → BitVec 32) → Prop} {idx : IVec S16 32} {v : Vec F S16 .i32} {mask : IVec S16 1}
    {h : ∀ a x, ((![idx] : Fin 1 → IVec S16 32) a x).toNat < (⟨1, ![n]⟩ : Shape).size a} {hs} {β : Type} {k : PUnit → TileProg (F := F) i β} {Q : β → sProp 𝕄}
    (hP : ∀ f : (⟨1, ![n]⟩ : Shape).Idx → BitVec 32, P (wd f) →
      P' (wd (storeIdx (F := F) (s := ⟨1, ![n]⟩) (e := .i32) (d := ![16]) f ![idx] v mask false h))) :
    words (Ix := Ix) (Name := Name) (U := U) (Lvl := Lvl) (F := F) d i L P
      ⊢ iprop((words d i L P' -∗ run 𝒱 bd d i defs (k ⟨⟩) Q)
        -∗ run 𝒱 bd d i defs (SparseCore.vectorStoreIdx L ![idx] v mask false h hs >>= k) Q) := by
  have hset : (L.access (.whole ⟨1, ![n]⟩)).set ⊆ (Finset.univ : Finset (Idx (L.view.loc (thr d i)))) := Finset.subset_univ _
  have hr : ∀ f, (L.access (.whole ⟨1, ![n]⟩)).read (Elt F) f = L.view.read (Elt F) f := fun f => funext fun x =>
    congrArg (L.view.read (Elt F) f) (funext fun a => Fin.ext (by show 0 + 1 * (x a).val = (x a).val; omega))
  unfold words
  iintro ⟨%f, %hf, H⟩ Hk
  iapply (wp_load_rect (defs := defs) 𝒱 (thr d i) bd Set.univ (Q := Q) (m := L) (r := Rect.whole ⟨1, ![n]⟩) (hl := View.loadsAt_rect hs.loads)
    (k := fun f' => .op (.store L (.whole ⟨1, ![n]⟩) (storeIdx f' ![idx] v mask false h) Finset.univ hs (.inl rfl)) k)
    (S := Finset.univ) (q := fullShare) (f := f) hset) $$ H
  iintro H
  iapply (wp_store (defs := defs) 𝒱 (thr d i) bd Set.univ (Q := Q) (m := L) (r := .whole ⟨1, ![n]⟩) (Mk := Finset.univ)
    (hx := hs) (hm := .inl rfl) (k := k) (f := f) (S := Finset.univ) (Finset.subset_univ _)) $$ H
  iintro H
  iapply Hk $$ [H]
  iexists _
  isplitr
  rotate_left
  · iexact H
  ipureintro
  rw [← hr ((L.access (.whole ⟨1, ![n]⟩)).write (Elt F) f _ Finset.univ), View.read_write_univ, hr]
  exact hP _ hf

end rules

end Cert.Proof
-- ==== Proof.Words.lean ====
/-
  What the tile's chunk arithmetic computes: a list of at most 6250 entries makes so many chunks of 128 and so many
  groups of four chunks; every guarded chunk lies inside its list.
-/
module

public import proofs.«01_k».proof.Proof.Body

@[expose] public section

noncomputable section

namespace Cert.Proof

open Idealize.ShloMosaic Idealize.SL.Sem
open Cert.KernelIdeal Cert.KernelIdeal.Gen

/-- The loop over a list's groups. -/
def groupLoop (c : BitVec 32) : Scf.Loop 32 :=
  ⟨0#32, Scalar.addi 0#32 (Scalar.muli (Scalar.divsi (Scalar.subi (groupsW c) 0#32) 1#32) 1#32), 1#32⟩

/-- The loop behind it, which starts where that one stops. -/
def tailLoop (c : BitVec 32) : Scf.Loop 32 :=
  ⟨Scalar.addi 0#32 (Scalar.muli (Scalar.divsi (Scalar.subi (groupsW c) 0#32) 1#32) 1#32),
    Scalar.addi 0#32 (Scalar.subi (groupsW c) 0#32), 1#32⟩

/-- The number of chunks of a list of `n` entries. -/
def chunks (n : ℕ) : ℕ := (n + 127) / 128

/-- The number of groups of a list of `n` entries. -/
def groups (n : ℕ) : ℕ := (n + 511) / 512

theorem chunk_facts : ∀ n : Fin 6251, chunksW (BitVec.ofNat 32 n.val) = BitVec.ofNat 32 (chunks n.val) := by decide +kernel

theorem group_facts : ∀ g : Fin 50,
    floorW (Scalar.subi (Scalar.addi (BitVec.ofNat 32 g.val) 4#32) 1#32) 4#32 = BitVec.ofNat 32 ((g.val + 3) / 4) := by
  decide +kernel

theorem trip_facts : ∀ g : Fin 14,
    let w := Scalar.addi 0#32 (Scalar.muli (Scalar.divsi (Scalar.subi (BitVec.ofNat 32 g.val) 0#32) 1#32) 1#32)
    let u := Scalar.addi 0#32 (Scalar.subi (BitVec.ofNat 32 g.val) 0#32)
    Scf.trips 0#32 w 1#32 = g.val ∧ Scf.OK 0#32 w 1#32 ∧ Scf.trips w u 1#32 = 0 ∧ Scf.OK w u 1#32 := by
  decide +kernel

theorem guard_facts : ∀ t : Fin 14, ∀ kk : Fin 4, ∀ g : Fin 50,
    Scalar.cmpi .ne (Scalar.extui (Scalar.cmpi .slt (chunkW t.val (BitVec.ofNat 32 kk.val)) (BitVec.ofNat 32 g.val)) : BitVec 32) 0#32
      = 1#1 ↔ 4 * t.val + kk.val < g.val := by
  decide +kernel

theorem off_facts : ∀ t : Fin 14, ∀ kk : Fin 4,
    (Scalar.muli (chunkW t.val (BitVec.ofNat 32 kk.val)) 128#32).toNat = 128 * (4 * t.val + kk.val) := by
  decide +kernel

variable {n : ℕ} (hn : n ≤ 6250)

include hn

theorem chunks_lt : chunks n < 50 := by unfold chunks; omega
theorem groups_lt : groups n < 14 := by unfold groups; omega

/-- A list of `n` entries makes `chunks n` chunks. -/
theorem chunksW_eq : chunksW (BitVec.ofNat 32 n) = BitVec.ofNat 32 (chunks n) := chunk_facts ⟨n, by omega⟩

/-- A list of `n` entries makes `groups n` groups. -/
theorem groupsW_eq : groupsW (BitVec.ofNat 32 n) = BitVec.ofNat 32 (groups n) := by
  unfold groupsW
  rw [chunksW_eq hn, group_facts ⟨chunks n, chunks_lt hn⟩]
  congr 1; simp only [chunks, groups]; omega

/-- The loop over the groups runs once for each group, -/
theorem groupLoop_trips : (groupLoop (BitVec.ofNat 32 n)).trips = groups n := by
  have := (trip_facts ⟨groups n, groups_lt hn⟩).1
  rw [groupLoop, groupsW_eq hn]; exact this
/-- is a loop with a meaning, -/
theorem groupLoop_ok : (groupLoop (BitVec.ofNat 32 n)).OK := by
  have := (trip_facts ⟨groups n, groups_lt hn⟩).2.1
  rw [groupLoop, groupsW_eq hn]; exact this
/-- and the loop behind it never runs -/
theorem tailLoop_trips : (tailLoop (BitVec.ofNat 32 n)).trips = 0 := by
  have := (trip_facts ⟨groups n, groups_lt hn⟩).2.2.1
  rw [tailLoop, groupsW_eq hn]; exact this
/-- and has a meaning too. -/
theorem tailLoop_ok : (tailLoop (BitVec.ofNat 32 n)).OK := by
  have := (trip_facts ⟨groups n, groups_lt hn⟩).2.2.2
  rw [tailLoop, groupsW_eq hn]; exact this

/-- The guard of chunk `kk` of the group `t`. -/
theorem guardW_iff {t : ℕ} (ht : t < groups n) (kk : Fin 4) :
    guardW (BitVec.ofNat 32 n) t (BitVec.ofNat 32 kk.val) = 1#1 ↔ 4 * t + kk.val < chunks n := by
  unfold guardW; rw [chunksW_eq hn]
  exact guard_facts ⟨t, lt_trans ht (groups_lt hn)⟩ kk ⟨chunks n, chunks_lt hn⟩

omit hn in
/-- The offset of chunk `kk` of the group `t`. -/
theorem chunkOff_eq {t : ℕ} (ht : t < 14) (kk : Fin 4) : chunkOff t (BitVec.ofNat 32 kk.val) = ![128 * (4 * t + kk.val)] := by
  unfold chunkOff; rw [off_facts ⟨t, ht⟩ kk]

/-- Every guarded chunk lies inside its list. -/
theorem chunksIn {t : ℕ} (ht : t < groups n) : ChunksIn (BitVec.ofNat 32 n) t := by
  intro kk h a
  have h1 := (guardW_iff hn ht kk).mp h
  rw [chunkOff_eq (lt_trans ht (groups_lt hn))]
  fin_cases a
  show 128 * (4 * t + kk.val) + 128 ≤ 6528
  have := chunks_lt hn
  have : chunks n = (n + 127) / 128 := rfl
  omega

theorem pad_in (r : Fin 8) : ∀ a, (k0_off7 (BitVec.ofNat 32 n) (BitVec.ofNat 32 (16 * r.val))) a + S16.size a ≤ S6528.size a := by
  intro a; fin_cases a
  show (BitVec.ofNat 32 n + BitVec.ofNat 32 (16 * r.val)).toNat + 16 ≤ 6528
  have := r.isLt
  simp only [BitVec.toNat_add, BitVec.toNat_ofNat]; omega

/-- The checks before the padding of the first list hold. -/
theorem chk6 : k0_chk6 (BitVec.ofNat 32 n) := by
  have hp := pad_in hn
  have hG : ∀ (t : Fin (groupLoop (BitVec.ofNat 32 n)).trips) (kk : Fin 4), guardW (BitVec.ofNat 32 n) t.val (BitVec.ofNat 32 kk.val) = 1#1 →
    ∀ a, chunkOff t.val (BitVec.ofNat 32 kk.val) a + S128.size a ≤ S6528.size a :=
    fun t kk => chunksIn hn (lt_of_lt_of_eq t.isLt (groupLoop_trips hn)) kk
  have hT : ∀ {P : Fin (tailLoop (BitVec.ofNat 32 n)).trips → Prop} (t), P t :=
    fun t => absurd (lt_of_lt_of_eq t.isLt (tailLoop_trips hn)) (Nat.not_lt_zero _)
  have ok := groupLoop_ok hn
  have ok' := tailLoop_ok hn
  exact ⟨⟨hp, ok, fun t => hG t 0, fun t => hG t 1, fun t => hG t 2, fun t => hG t 3, fun t => hG t 0, fun t => hG t 1, fun t => hG t 2, fun t => hG t 3,
    fun t => hG t 0, fun t => hG t 1, fun t => hG t 2, fun t => hG t 3, fun t => hG t 0, fun t => hG t 1, fun t => hG t 2, fun t => hG t 3,
    ok', hT, hT, hT, hT, hT, hT, hT, hT, hT, hT, hT, hT, hT⟩, ⟨hT, hT, hT, ok, fun t => hG t 0, fun t => hG t 1, fun t => hG t 2, fun t => hG t 3, fun t => hG t 0, fun t => hG t 1, fun t => hG t 2, fun t => hG t 3,
    fun t => hG t 0, fun t => hG t 1, fun t => hG t 2, fun t => hG t 3, fun t => hG t 0, fun t => hG t 1, fun t => hG t 2, fun t => hG t 3,
    ok', hT, hT, hT, hT, hT, hT, hT, hT, hT, hT, hT⟩, hT, hT, hT, hT, hT⟩

/-- The checks before the padding of the second list hold. -/
theorem chk7 : k0_chk7 (BitVec.ofNat 32 n) := chk6 hn

/-- The checks before the padding of the third list hold. -/
theorem chk8 : k0_chk8 (BitVec.ofNat 32 n) := by
  have hp := pad_in hn
  have hG : ∀ (t : Fin (groupLoop (BitVec.ofNat 32 n)).trips) (kk : Fin 4), guardW (BitVec.ofNat 32 n) t.val (BitVec.ofNat 32 kk.val) = 1#1 →
    ∀ a, chunkOff t.val (BitVec.ofNat 32 kk.val) a + S128.size a ≤ S6528.size a :=
    fun t kk => chunksIn hn (lt_of_lt_of_eq t.isLt (groupLoop_trips hn)) kk
  have hT : ∀ {P : Fin (tailLoop (BitVec.ofNat 32 n)).trips → Prop} (t), P t :=
    fun t => absurd (lt_of_lt_of_eq t.isLt (tailLoop_trips hn)) (Nat.not_lt_zero _)
  have ok := groupLoop_ok hn
  have ok' := tailLoop_ok hn
  exact ⟨⟨hp, ok, fun t => hG t 0, fun t => hG t 1, fun t => hG t 2, fun t => hG t 3, fun t => hG t 0, fun t => hG t 1, fun t => hG t 2, fun t => hG t 3,
    ok', hT, hT, hT, hT, hT, hT, hT, hT, ok, fun t => hG t 0, fun t => hG t 1, fun t => hG t 2, fun t => hG t 3, fun t => hG t 0, fun t => hG t 1, fun t => hG t 2, fun t => hG t 3,
    ok', hT, hT, hT⟩, hT, hT, hT, hT, hT⟩

end Cert.Proof
-- ==== Proof.Loops.lean ====
/-
  The loops over a list's groups: a copying loop writes, at the rows its second list names, the rows its first list
  names; a zeroing loop writes zeros at the rows its list names.
-/
module

public import proofs.«01_k».proof.Proof.Phase
public import proofs.«01_k».proof.Proof.Words

@[expose] public section

set_option synthInstance.maxSize 4096

noncomputable section

namespace Cert.Proof

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers (Batch pending)
open Cert.KernelIdeal Cert.KernelIdeal.Gen
open Cert.Proof.Rows

variable {F : FTy → Type} [FloatOps F]
variable {Ix : Type} [DecidableEq Ix] {Name : Type} [DecidableEq Name] [Infinite Name]
variable {U : Type} [URA U] {Lvl : Type} [Preorder Lvl]
variable {defs : Defs nD τ sig (Elt F) Λ₀} (𝒱 : Variants) (bd : Option 𝒱.V)
variable (d : Dev nD) (i : grid0.Coords)

local notation "𝕄" => MT nD τ sig Ix (Elt F) Name U Lvl

/-- A program that is done leaves what it has. -/
theorem run_done {β : Type} {a : β} {Q : β → sProp 𝕄} : Q a ⊢ run 𝒱 bd d i defs (pure a) Q := by
  change _ ⊢ iprop(|={Set.univ}=> Q a)
  iintro H
  imodintro
  iexact H

/-- The chunks the group `t` of a list of `n` entries runs. -/
def inGroup (n t : ℕ) : ℕ := min 4 (chunks n - 4 * t)

section group_facts

variable {n t : ℕ} (hn : n ≤ 6250) (ht : t < groups n)
include hn ht

theorem inGroup_pos : 0 < inGroup n t := by unfold inGroup chunks; unfold groups at ht; omega
theorem inGroup_guard (kk : Fin 4) : guardW (BitVec.ofNat 32 n) t (BitVec.ofNat 32 kk.val) = 1#1 ↔ kk.val < inGroup n t := by
  have := kk.isLt
  rw [guardW_iff hn ht]; unfold inGroup; omega
theorem inGroup_off (kk : Fin 4) (_ : kk.val < inGroup n t) : chunkOff t (BitVec.ofNat 32 kk.val) = ![512 * t + 128 * kk.val] := by
  rw [chunkOff_eq (lt_trans ht (groups_lt hn)), show 128 * (4 * t + kk.val) = 512 * t + 128 * kk.val by omega]
theorem inGroup_le : 512 * t + 128 * inGroup n t ≤ 6528 := by
  have := chunks_lt hn
  have := inGroup_pos hn ht
  unfold inGroup at *; omega

omit hn in
theorem inGroup_in {k : ℕ} (hk : k < 128 * inGroup n t) : 512 * t + k < 128 * chunks n := by unfold inGroup at hk; omega

omit hn in
theorem inGroup_next {k : ℕ} (h1 : k < 128 * chunks n) (h2 : k < 512 * (t + 1)) (h3 : 512 * t ≤ k) : k - 512 * t < 128 * inGroup n t := by
  unfold inGroup; omega

end group_facts

variable (emb : UEmb (WmRA nD τ sig (Elt F)) U) (ιwm : Name)

/-- The result in write mode, with the rows named by the first `j` entries of a list marked. -/
def marked (dst : Memref sig .scVector .hbm S200000x128 .f32) (Ld : Memref sig .scVector .vmem S6528 .i32)
    (fo : Buf (Elt F) (Ld.view.loc (thr d i))) (f₀ : Buf (Elt F) (dst.view.loc (thr d i)))
    (g : Tgt (Elt F) (dst.view.loc (thr d i))) (qw : PosShare TreeShare) (Mk : Finset (Idx (dst.view.loc (thr d i)))) (e j : ℕ) : sProp 𝕄 :=
  iprop(∃ Mk', ⌜Mk ⊆ Mk' ∧ ∀ k < e, k < j → farRow d i dst (lst d i Ld fo k).toNat ⊆ Mk'⌝
    ∗ willBeTo (Ix := Ix) emb (dst.view.loc (thr d i)) Finset.univ qw f₀ g Mk')

/-- The thread's record of waits, extended at the index `ι` only. -/
def waited (ι : Ix) (O : CellTallies nD τ sig Ix) (W : Waits sig Ix) : sProp 𝕄 :=
  iprop(∃ W', ⌜∀ p ∈ W', p ∈ W ∨ p.2 = ι⌝ ∗ owes (thr d i) O W')

section Copy

variable (src dst : Memref sig .scVector .hbm S200000x128 .f32) (Ls Ld : Memref sig .scVector .vmem S6528 .i32)
variable (rb : Memref sig .scVector .vmem S512x128 .f32) (sg ss : DmaSem sig)

/-- What a copying loop holds before its group `t`. -/
def copyInv (n : ℕ) (fs : Buf (Elt F) (Ls.view.loc (thr d i))) (fo : Buf (Elt F) (Ld.view.loc (thr d i)))
    (fa : Buf (Elt F) (src.view.loc (thr d i))) (qa : PosShare TreeShare)
    (f₀ : Buf (Elt F) (dst.view.loc (thr d i))) (g : Tgt (Elt F) (dst.view.loc (thr d i))) (qw : PosShare TreeShare)
    (Mk : Finset (Idx (dst.view.loc (thr d i)))) (ι : Ix) (O : CellTallies nD τ sig Ix) (W : Waits sig Ix) (t : ℕ) : sProp 𝕄 :=
  iprop(wmInv emb ιwm ∗ □ MayWait (thr d i) (.dma sg) ι O ∗ □ MayWait (thr d i) (.dma ss) ι O
    ∗ (∃ fd, rb.view.loc (thr d i) ↦[Finset.univ]{fullShare} fd)
    ∗ (Ls.view.loc (thr d i) ↦[Finset.univ]{fullShare} fs) ∗ (Ld.view.loc (thr d i) ↦[Finset.univ]{fullShare} fo)
    ∗ (src.view.loc (thr d i) ↦[Finset.univ]{qa} fa)
    ∗ marked (Ix := Ix) (Name := Name) (U := U) (Lvl := Lvl) d i emb dst Ld fo f₀ g qw Mk (128 * chunks n) (512 * t)
    ∗ semVal (thr d i, SemLoc.dma sg) 0 ∗ semVal (thr d i, SemLoc.dma ss) 0 ∗ waited (Name := Name) (U := U) (Lvl := Lvl) d i ι O W)

/-- ONE COPYING GROUP. -/
theorem copyGroup_wp (EC : UEmb Counters 𝕄) [EC.LandsIn (upEmb : UEmb _ 𝕄)] {n t : ℕ} (hn : n ≤ 6250) (ht : t < groups n)
    (hin : ChunksIn (BitVec.ofNat 32 n) t) (fs : Buf (Elt F) (Ls.view.loc (thr d i))) (fo : Buf (Elt F) (Ld.view.loc (thr d i)))
    (fa : Buf (Elt F) (src.view.loc (thr d i))) (qa : PosShare TreeShare)
    (f₀ : Buf (Elt F) (dst.view.loc (thr d i))) (g : Tgt (Elt F) (dst.view.loc (thr d i))) (qw : PosShare TreeShare)
    (hrs : ∀ k < 128 * chunks n, (lst d i Ls fs k).toNat < 200000) (hro : ∀ k < 128 * chunks n, (lst d i Ld fo k).toNat < 200000)
    (hv : ∀ k < 128 * chunks n, ∀ ch u, dst.view.read (fun e => Option (Elt F e)) g (six (lst d i Ld fo k).toNat ch) = some u →
      src.view.read (Elt F) fa (six (lst d i Ls fs k).toNat ch) = u)
    (Mk : Finset (Idx (dst.view.loc (thr d i)))) (ι : Ix) (O : CellTallies nD τ sig Ix) (W : Waits sig Ix) :
    copyInv (Ix := Ix) (Name := Name) (U := U) (Lvl := Lvl) d i emb ιwm src dst Ls Ld rb sg ss n fs fo fa qa f₀ g qw Mk ι O W t
      ⊢ run 𝒱 bd d i defs (copyGroup i (BitVec.ofNat 32 n) t hin src dst Ls Ld rb sg ss)
        (fun _ => copyInv (Ix := Ix) (Name := Name) (U := U) (Lvl := Lvl) d i emb ιwm src dst Ls Ld rb sg ss n fs fo fa qa f₀ g qw Mk ι O W (t + 1)) := by
  classical
  have hg := inGroup_guard hn ht
  have hm : inGroup n t ≤ 4 := Nat.min_le_left _ _
  have hm0 := inGroup_pos hn ht
  have hoff := inGroup_off hn ht
  have hle := inGroup_le hn ht
  have hn4 : 128 * inGroup n t ≤ 512 := by omega
  unfold copyInv copyGroup waited marked
  iintro ⟨#HI, #HMg, #HMs, ⟨%fd, HRB⟩, HLs, HLd, HA, ⟨%Mk1, %hMk1, HW⟩, Hsg, Hss, ⟨%W1, %hW1, HO⟩⟩
  iapply (gather_phase (defs := defs) 𝒱 bd d i src rb Ls sg EC hin hg hm hm0 hoff hle fd fs fa qa
    (fun k hk => hrs _ (inGroup_in ht hk)) ι O W1) $$ [HRB HLs HA Hsg HO]
  · isplitl [HRB]; · iexact HRB
    isplitl [HLs]; · iexact HLs
    isplitl [HA]; · iexact HA
    isplitl [Hsg]; · iexact Hsg
    isplitl [HO]; · iexact HO
    iexact HMg
  iintro ⟨⟨%G, %hG, HRB⟩, HLs, HA, Hsg, ⟨%W2, %hW2, HO⟩⟩
  ihave HR := (cover_split (fun k : Fin (128 * inGroup n t) => rowSet d i rb k.val) (rowSet_disjoint d i rb hn4) G) $$ HRB
  icases HR with ⟨HR, HRr⟩
  iapply (scatter_phase (defs := defs) 𝒱 bd d i emb ιwm (fun kk => blockOf rb (128 * kk.val) (block_inb kk)) dst Ld ss EC hin hg hm hm0 hoff hle
    (fun k : Fin (128 * inGroup n t) => iprop(rb.view.loc (thr d i) ↦[rowSet d i rb k.val]{fullShare} G)) (fun _ => G) (fun _ _ => fullShare)
    (fun _ _ => iprop(emp)) (fun kk k _ => by
      have e := block_set d i rb kk k
      constructor
      · refine (Entails.of_eq ?_).trans (Entails.of_eq (sep_emp_eq'' _).symm)
        exact congrArg (fun S => (rb.view.loc (thr d i) ↦[S]{fullShare} G : sProp 𝕄)) e.symm
      · refine (Entails.of_eq (sep_emp_eq'' _)).trans (Entails.of_eq ?_)
        exact congrArg (fun S => (rb.view.loc (thr d i) ↦[S]{fullShare} G : sProp 𝕄)) e) fo f₀ g qw
    (fun k hk => hro _ (inGroup_in ht hk)) (fun kk k hk ch u hu => by
      have hk' : 128 * kk.val + k.val < 128 * inGroup n t := by have := k.isLt; omega
      have h1 := hv _ (inGroup_in ht hk') ch u hu
      have h2 := hG _ hk' ch
      refine Eq.trans ?_ (h2.trans h1)
      exact congrArg (fun p => _root_.cast (congrArg (Elt F) rb.view.elt_eq) (G p)) (block_emb rb kk k.val k.isLt ch)) ι O W2 Mk1) $$ [HR HLd HW Hss HO]
  · isplitr; · iexact HI
    isplitl [HR]; · iexact HR
    isplitl [HLd]; · iexact HLd
    isplitl [HW]; · iexact HW
    isplitl [Hss]; · iexact Hss
    isplitl [HO]; · iexact HO
    iexact HMs
  iintro ⟨HR, HLd, ⟨%Mk2, %hMk2, HW⟩, Hss, ⟨%W3, %hW3, HO⟩⟩
  iapply (run_done (defs := defs) 𝒱 bd d i)
  isplitr; · iexact HI
  isplitr; · iexact HMg
  isplitr; · iexact HMs
  isplitl [HR HRr]
  · iexists G
    iapply (cover_join_same (fun k : Fin (128 * inGroup n t) => rowSet d i rb k.val) (rowSet_disjoint d i rb hn4) G)
    isplitl [HR]; · iexact HR
    iexact HRr
  isplitl [HLs]; · iexact HLs
  isplitl [HLd]; · iexact HLd
  isplitl [HA]; · iexact HA
  isplitl [HW]
  · iexists Mk2
    isplitr
    · ipureintro
      refine ⟨hMk1.1.trans hMk2.1, fun k hk hk' => ?_⟩
      by_cases h : k < 512 * t
      · exact (hMk1.2 k hk h).trans hMk2.1
      · have := hMk2.2 _ (inGroup_next ht hk hk' (by omega))
        rwa [show 512 * t + (k - 512 * t) = k by omega] at this
    · iexact HW
  isplitl [Hsg]; · iexact Hsg
  isplitl [Hss]; · iexact Hss
  iexists W3
  isplitr
  · ipureintro
    intro p hp
    rcases hW3 p hp with h | h
    · rcases hW2 p h with h | h
      · exact hW1 p h
      · exact Or.inr h
    · exact Or.inr h
  · iexact HO

/-- A COPYING LOOP, with the loop behind it that never runs: every row its list names is written. -/
theorem copyLoop_wp (EC : UEmb Counters 𝕄) [EC.LandsIn (upEmb : UEmb _ 𝕄)] {n : ℕ} (hn : n ≤ 6250)
    (fs : Buf (Elt F) (Ls.view.loc (thr d i))) (fo : Buf (Elt F) (Ld.view.loc (thr d i)))
    (fa : Buf (Elt F) (src.view.loc (thr d i))) (qa : PosShare TreeShare)
    (f₀ : Buf (Elt F) (dst.view.loc (thr d i))) (g : Tgt (Elt F) (dst.view.loc (thr d i))) (qw : PosShare TreeShare)
    (hrs : ∀ k < 128 * chunks n, (lst d i Ls fs k).toNat < 200000) (hro : ∀ k < 128 * chunks n, (lst d i Ld fo k).toNat < 200000)
    (hv : ∀ k < 128 * chunks n, ∀ ch u, dst.view.read (fun e => Option (Elt F e)) g (six (lst d i Ld fo k).toNat ch) = some u →
      src.view.read (Elt F) fa (six (lst d i Ls fs k).toNat ch) = u)
    (Mk : Finset (Idx (dst.view.loc (thr d i)))) (ι : Ix) (O : CellTallies nD τ sig Ix) (W : Waits sig Ix)
    (ok : (groupLoop (BitVec.ofNat 32 n)).OK) (body : Fin (groupLoop (BitVec.ofNat 32 n)).trips → Unit → TileProg (F := F) i Unit)
    (hb : ∀ (t : Fin (groupLoop (BitVec.ofNat 32 n)).trips) (hin : ChunksIn (BitVec.ofNat 32 n) t.val),
      body t () = copyGroup i (BitVec.ofNat 32 n) t.val hin src dst Ls Ld rb sg ss)
    (ok' : (tailLoop (BitVec.ofNat 32 n)).OK) (body' : Fin (tailLoop (BitVec.ofNat 32 n)).trips → Unit → TileProg (F := F) i Unit)
    {β : Type} {K : TileProg (F := F) i β} {Q : β → sProp 𝕄} :
    copyInv (Ix := Ix) (Name := Name) (U := U) (Lvl := Lvl) d i emb ιwm src dst Ls Ld rb sg ss n fs fo fa qa f₀ g qw Mk ι O W 0
      ⊢ iprop((copyInv (Ix := Ix) (Name := Name) (U := U) (Lvl := Lvl) d i emb ιwm src dst Ls Ld rb sg ss n fs fo fa qa f₀ g qw Mk ι O W (groups n)
            -∗ run 𝒱 bd d i defs K Q)
        -∗ run 𝒱 bd d i defs (Scf.Loop.for (groupLoop (BitVec.ofNat 32 n)) ok () body >>= fun _ =>
            Scf.Loop.for (tailLoop (BitVec.ofNat 32 n)) ok' () body' >>= fun _ => K) Q) := by
  iintro H Hk
  iapply (Scf.wp_for_bind frame (wpE defs 𝒱 (thr d i) bd) Set.univ _ _ _ ok () body
    (fun t _ => copyInv (Ix := Ix) (Name := Name) (U := U) (Lvl := Lvl) d i emb ιwm src dst Ls Ld rb sg ss n fs fo fa qa f₀ g qw Mk ι O W t)
    (fun t _ => by
      have ht : t.val < groups n := lt_of_lt_of_eq t.isLt (groupLoop_trips hn)
      rw [hb t (chunksIn hn ht)]
      exact copyGroup_wp (defs := defs) 𝒱 bd d i emb ιwm src dst Ls Ld rb sg ss EC hn ht _ fs fo fa qa f₀ g qw hrs hro hv Mk ι O W)) $$ H
  iintro %_ H
  iapply (Scf.wp_for_bind frame (wpE defs 𝒱 (thr d i) bd) Set.univ _ _ _ ok' () body'
    (fun _ _ => copyInv (Ix := Ix) (Name := Name) (U := U) (Lvl := Lvl) d i emb ιwm src dst Ls Ld rb sg ss n fs fo fa qa f₀ g qw Mk ι O W (groups n))
    (fun t _ => absurd (lt_of_lt_of_eq t.isLt (tailLoop_trips hn)) (Nat.not_lt_zero _))) $$ [H]
  · rw [← groupLoop_trips hn]; iexact H
  iintro %_ H
  iapply Hk $$ H

end Copy

section Zero

variable (dst : Memref sig .scVector .hbm S200000x128 .f32) (Ld : Memref sig .scVector .vmem S6528 .i32)
variable (zb : Memref sig .scVector .vmem S128x128 .f32) (ss : DmaSem sig)

/-- What a zeroing loop holds before its group `t`. -/
def zeroInv (n : ℕ) (fz : Buf (Elt F) (zb.view.loc (thr d i))) (fo : Buf (Elt F) (Ld.view.loc (thr d i)))
    (f₀ : Buf (Elt F) (dst.view.loc (thr d i))) (g : Tgt (Elt F) (dst.view.loc (thr d i))) (qw : PosShare TreeShare)
    (Mk : Finset (Idx (dst.view.loc (thr d i)))) (ι : Ix) (O : CellTallies nD τ sig Ix) (W : Waits sig Ix) (t : ℕ) : sProp 𝕄 :=
  iprop(wmInv emb ιwm ∗ □ MayWait (thr d i) (.dma ss) ι O
    ∗ (zb.view.loc (thr d i) ↦[Finset.univ]{fullShare} fz) ∗ (Ld.view.loc (thr d i) ↦[Finset.univ]{fullShare} fo)
    ∗ marked (Ix := Ix) (Name := Name) (U := U) (Lvl := Lvl) d i emb dst Ld fo f₀ g qw Mk (128 * chunks n) (512 * t)
    ∗ semVal (thr d i, SemLoc.dma ss) 0 ∗ waited (Name := Name) (U := U) (Lvl := Lvl) d i ι O W)

/-- ONE ZEROING GROUP. -/
theorem zeroGroup_wp (EC : UEmb Counters 𝕄) [EC.LandsIn (upEmb : UEmb _ 𝕄)] {n t : ℕ} (hn : n ≤ 6250) (ht : t < groups n)
    (hin : ChunksIn (BitVec.ofNat 32 n) t) (fz : Buf (Elt F) (zb.view.loc (thr d i))) (fo : Buf (Elt F) (Ld.view.loc (thr d i)))
    (f₀ : Buf (Elt F) (dst.view.loc (thr d i))) (g : Tgt (Elt F) (dst.view.loc (thr d i))) (qw : PosShare TreeShare)
    (hro : ∀ k < 128 * chunks n, (lst d i Ld fo k).toNat < 200000)
    (hv : ∀ k < 128 * chunks n, ∀ ch u, dst.view.read (fun e => Option (Elt F e)) g (six (lst d i Ld fo k).toNat ch) = some u →
      ∀ r, zb.view.read (Elt F) fz (oix r ch) = u)
    (Mk : Finset (Idx (dst.view.loc (thr d i)))) (ι : Ix) (O : CellTallies nD τ sig Ix) (W : Waits sig Ix) :
    zeroInv (Ix := Ix) (Name := Name) (U := U) (Lvl := Lvl) d i emb ιwm dst Ld zb ss n fz fo f₀ g qw Mk ι O W t
      ⊢ run 𝒱 bd d i defs (zeroGroup i (BitVec.ofNat 32 n) t hin zb dst Ld ss)
        (fun _ => zeroInv (Ix := Ix) (Name := Name) (U := U) (Lvl := Lvl) d i emb ιwm dst Ld zb ss n fz fo f₀ g qw Mk ι O W (t + 1)) := by
  classical
  have hg := inGroup_guard hn ht
  have hm : inGroup n t ≤ 4 := Nat.min_le_left _ _
  have hm0 := inGroup_pos hn ht
  have hoff := inGroup_off hn ht
  have hle := inGroup_le hn ht
  have hp : 0 < 128 * inGroup n t := by omega
  unfold zeroInv zeroGroup waited marked
  iintro ⟨#HI, #HMs, HZ, HLd, ⟨%Mk1, %hMk1, HW⟩, Hss, ⟨%W1, %hW1, HO⟩⟩
  have ep : (zb.view.loc (thr d i) ↦[Finset.univ]{fullShare} fz : sProp 𝕄) = _ := pointsTo_piecesOf Finset.univ fz hp fullShare
  ihave HR := (Entails.of_eq ep) $$ HZ
  iapply (scatter_phase (defs := defs) 𝒱 bd d i emb ιwm (fun _ => zb) dst Ld ss EC hin hg hm hm0 hoff hle
    (fun k : Fin (128 * inGroup n t) => iprop(zb.view.loc (thr d i) ↦[Finset.univ]{pieceOf fullShare _ hp k} fz)) (fun _ => fz)
    (fun kk k => if h : 128 * kk.val + k.val < 128 * inGroup n t then pieceOf fullShare _ hp ⟨128 * kk.val + k.val, h⟩ else fullShare)
    (fun kk k => iprop(zb.view.loc (thr d i) ↦[Finset.univ \ (zb.view.slice (S128x128.rowRect hG.axis' k)).set]{
      if h : 128 * kk.val + k.val < 128 * inGroup n t then pieceOf fullShare _ hp ⟨128 * kk.val + k.val, h⟩ else fullShare} fz)) (fun kk k h => by
      simp only [dif_pos h]
      exact ⟨(pointsTo_split_subset (Finset.subset_univ _)).1, (pointsTo_split_subset (Finset.subset_univ _)).2⟩) fo f₀ g qw
    (fun k hk => hro _ (inGroup_in ht hk)) (fun kk k hk ch u hu => by
      have hk' : 128 * kk.val + k.val < 128 * inGroup n t := by have := k.isLt; omega
      exact hv _ (inGroup_in ht hk') ch u hu _) ι O W1 Mk1) $$ [HR HLd HW Hss HO]
  · isplitr; · iexact HI
    isplitl [HR]; · iexact HR
    isplitl [HLd]; · iexact HLd
    isplitl [HW]; · iexact HW
    isplitl [Hss]; · iexact Hss
    isplitl [HO]; · iexact HO
    iexact HMs
  iintro ⟨HR, HLd, ⟨%Mk2, %hMk2, HW⟩, Hss, ⟨%W3, %hW3, HO⟩⟩
  iapply (run_done (defs := defs) 𝒱 bd d i)
  isplitr; · iexact HI
  isplitr; · iexact HMs
  isplitl [HR]
  · iapply (Entails.of_eq ep.symm) $$ HR
  isplitl [HLd]; · iexact HLd
  isplitl [HW]
  · iexists Mk2
    isplitr
    · ipureintro
      refine ⟨hMk1.1.trans hMk2.1, fun k hk hk' => ?_⟩
      by_cases h : k < 512 * t
      · exact (hMk1.2 k hk h).trans hMk2.1
      · have := hMk2.2 _ (inGroup_next ht hk hk' (by omega))
        rwa [show 512 * t + (k - 512 * t) = k by omega] at this
    · iexact HW
  isplitl [Hss]; · iexact Hss
  iexists W3
  isplitr
  · ipureintro
    intro p hp
    rcases hW3 p hp with h | h
    · exact hW1 p h
    · exact Or.inr h
  · iexact HO

/-- A ZEROING LOOP, with the loop behind it that never runs: every row its list names is written. -/
theorem zeroLoop_wp (EC : UEmb Counters 𝕄) [EC.LandsIn (upEmb : UEmb _ 𝕄)] {n : ℕ} (hn : n ≤ 6250)
    (fz : Buf (Elt F) (zb.view.loc (thr d i))) (fo : Buf (Elt F) (Ld.view.loc (thr d i)))
    (f₀ : Buf (Elt F) (dst.view.loc (thr d i))) (g : Tgt (Elt F) (dst.view.loc (thr d i))) (qw : PosShare TreeShare)
    (hro : ∀ k < 128 * chunks n, (lst d i Ld fo k).toNat < 200000)
    (hv : ∀ k < 128 * chunks n, ∀ ch u, dst.view.read (fun e => Option (Elt F e)) g (six (lst d i Ld fo k).toNat ch) = some u →
      ∀ r, zb.view.read (Elt F) fz (oix r ch) = u)
    (Mk : Finset (Idx (dst.view.loc (thr d i)))) (ι : Ix) (O : CellTallies nD τ sig Ix) (W : Waits sig Ix)
    (ok : (groupLoop (BitVec.ofNat 32 n)).OK) (body : Fin (groupLoop (BitVec.ofNat 32 n)).trips → Unit → TileProg (F := F) i Unit)
    (hb : ∀ (t : Fin (groupLoop (BitVec.ofNat 32 n)).trips) (hin : ChunksIn (BitVec.ofNat 32 n) t.val),
      body t () = zeroGroup i (BitVec.ofNat 32 n) t.val hin zb dst Ld ss)
    (ok' : (tailLoop (BitVec.ofNat 32 n)).OK) (body' : Fin (tailLoop (BitVec.ofNat 32 n)).trips → Unit → TileProg (F := F) i Unit)
    {β : Type} {K : TileProg (F := F) i β} {Q : β → sProp 𝕄} :
    zeroInv (Ix := Ix) (Name := Name) (U := U) (Lvl := Lvl) d i emb ιwm dst Ld zb ss n fz fo f₀ g qw Mk ι O W 0
      ⊢ iprop((zeroInv (Ix := Ix) (Name := Name) (U := U) (Lvl := Lvl) d i emb ιwm dst Ld zb ss n fz fo f₀ g qw Mk ι O W (groups n)
            -∗ run 𝒱 bd d i defs K Q)
        -∗ run 𝒱 bd d i defs (Scf.Loop.for (groupLoop (BitVec.ofNat 32 n)) ok () body >>= fun _ =>
            Scf.Loop.for (tailLoop (BitVec.ofNat 32 n)) ok' () body' >>= fun _ => K) Q) := by
  iintro H Hk
  iapply (Scf.wp_for_bind frame (wpE defs 𝒱 (thr d i) bd) Set.univ _ _ _ ok () body
    (fun t _ => zeroInv (Ix := Ix) (Name := Name) (U := U) (Lvl := Lvl) d i emb ιwm dst Ld zb ss n fz fo f₀ g qw Mk ι O W t)
    (fun t _ => by
      have ht : t.val < groups n := lt_of_lt_of_eq t.isLt (groupLoop_trips hn)
      rw [hb t (chunksIn hn ht)]
      exact zeroGroup_wp (defs := defs) 𝒱 bd d i emb ιwm dst Ld zb ss EC hn ht _ fz fo f₀ g qw hro hv Mk ι O W)) $$ H
  iintro %_ H
  iapply (Scf.wp_for_bind frame (wpE defs 𝒱 (thr d i) bd) Set.univ _ _ _ ok' () body'
    (fun _ _ => zeroInv (Ix := Ix) (Name := Name) (U := U) (Lvl := Lvl) d i emb ιwm dst Ld zb ss n fz fo f₀ g qw Mk ι O W (groups n))
    (fun t _ => absurd (lt_of_lt_of_eq t.isLt (tailLoop_trips hn)) (Nat.not_lt_zero _))) $$ [H]
  · rw [← groupLoop_trips hn]; iexact H
  iintro %_ H
  iapply Hk $$ H

end Zero

end Cert.Proof
-- ==== Proof.Fill.lean ====
/-
  The window of winners: filled with all ones, then rewritten by the pairs of the first list and of the second, which
  come in chunks of 4000 and vectors of 16.
-/
module

public import proofs.«01_k».proof.Proof.Vec
public import proofs.«01_k».proof.Proof.Loops

@[expose] public section

set_option synthInstance.maxSize 4096

noncomputable section

namespace Cert.Proof

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Cert.KernelIdeal Cert.KernelIdeal.Gen

variable {F : FTy → Type} [FloatOps F]
variable {Ix : Type} [DecidableEq Ix] {Name : Type} [DecidableEq Name] [Infinite Name]
variable {U : Type} [URA U] {Lvl : Type} [Preorder Lvl]
variable {defs : Defs nD τ sig (Elt F) Λ₀} (𝒱 : Variants) (bd : Option 𝒱.V)
variable (d : Dev nD)

local notation "𝕄" => MT nD τ sig Ix (Elt F) Name U Lvl

/-! ## A copy and its wait -/

/-- A COPY FROM FAR MEMORY, AWAITED: the tile's buffer takes what the far buffer reads. -/
theorem wp_fetch (i : grid0.Coords) {s : Shape} {e : EltTy} (src : Memref sig .scVector .hbm s e) (dst : Memref sig .scVector .vmem s e) (sem : DmaSem sig)
    (EC : UEmb Counters 𝕄) [EC.LandsIn (upEmb : UEmb _ 𝕄)] (hN0 : 0 < dst.view.dmaCredit)
    {S : Finset (Idx (src.view.loc (thr d i)))} (hS : src.view.set ⊆ S) (q : PosShare TreeShare) (f : Buf (Elt F) (src.view.loc (thr d i)))
    (fd : Buf (Elt F) (dst.view.loc (thr d i))) (ι : Ix) (O : CellTallies nD τ sig Ix) (W : Waits sig Ix)
    {h1 h2 h3 h4 h5} {β : Type} {K : TileProg (F := F) i β} {Q : β → sProp 𝕄} :
    iprop(□ MayWait (thr d i) (.dma sem) ι O ∗ (src.view.loc (thr d i) ↦[S]{q} f) ∗ (dst.view.loc (thr d i) ↦[Finset.univ]{fullShare} fd)
        ∗ semVal (thr d i, SemLoc.dma sem) 0 ∗ waited d i ι O W)
      ⊢ iprop((((src.view.loc (thr d i) ↦[S]{q} f)
            ∗ (dst.view.loc (thr d i) ↦[Finset.univ]{fullShare} (dst.view.write (Elt F) fd (src.view.read (Elt F) f) Finset.univ))
            ∗ semVal (thr d i, SemLoc.dma sem) 0 ∗ waited d i ι O W) -∗ run 𝒱 bd d i defs K Q)
        -∗ run 𝒱 bd d i defs (Prog.lift (.enqueueDma src (.here dst) (.dma sem) h1 h2 h3) >>= fun _ =>
            Prog.lift (.waitDma2 sem src dst h4 h5) >>= fun _ => K) Q) := by
  unfold waited
  iintro ⟨#HM, Hs, Hd, Hsem, ⟨%W1, %hW1, HO⟩⟩ Hk
  ihave Hs := (pointsTo_split_subset (q := q) (f := f) (S := S) hS).1 $$ Hs
  icases Hs with ⟨Hs, Hr⟩
  iapply (Transfers.wp_dmaLocal EC 𝒱 (thr d i) bd (src := src) (dst := dst) (sm := .dma sem) (q := q) (fs := f) (Sd := Finset.univ) (fd := fd)
    ι dst.view.dmaCredit rfl hN0 (Finset.subset_univ _)) $$ [Hs Hd Hsem]
  · isplitl [Hs]; · iexact Hs
    isplitl [Hd]; · iexact Hd
    iexact Hsem
  iintro Hfl
  iapply (Transfers.wp_waitLocalO EC 𝒱 (thr d i) bd (sem := sem) (srcw := src) (dstw := dst) ι (rfl : dst.view.dmaCredit = _) (O := O) (W := W1)) $$ [Hfl HO]
  · isplitl [Hfl]; · iexact Hfl
    isplitl [HO]; · iexact HO
    iexact HM
  iintro ⟨⟨Hd, Hs⟩, Hsem, HO⟩
  iapply Hk
  ihave Hs := (pointsTo_split_subset (q := q) (f := f) (S := S) hS).2 $$ [Hs Hr]
  · isplitl [Hs]; · iexact Hs
    iexact Hr
  isplitl [Hs]; · iexact Hs
  isplitl [Hd]; · iexact Hd
  isplitl [Hsem]; · iexact Hsem
  iexists _
  isplitr
  rotate_left
  · iexact HO
  ipureintro
  intro p hp
  rcases Finset.mem_insert.mp hp with rfl | hp
  · exact .inr rfl
  · exact hW1 p hp

/-- The word `k` of a list in far memory. -/
def farW (i : grid0.Coords) (L : Memref sig .scVector .hbm S100000 .i32) (f : Buf (Elt F) (L.view.loc (thr d i))) (k : ℕ) : BitVec 32 :=
  wd (L.view.read (Elt F) f) k

/-- A CHUNK of a list fetched: the tile's buffer holds the list's words from the chunk's start. -/
theorem wp_fetchChunk (i : grid0.Coords) (L : Memref sig .scVector .hbm S100000 .i32) (B : Memref sig .scVector .vmem S4000 .i32) (sem : DmaSem sig)
    (EC : UEmb Counters 𝕄) [EC.LandsIn (upEmb : UEmb _ 𝕄)] {off : Fin 1 → ℕ} {o : ℕ} (ho : off = ![o])
    (inb : ∀ a, off a + S4000.size a ≤ S100000.size a) (q : PosShare TreeShare) (f : Buf (Elt F) (L.view.loc (thr d i)))
    {P : (ℕ → BitVec 32) → Prop} (ι : Ix) (O : CellTallies nD τ sig Ix) (W : Waits sig Ix)
    {h0 h1 h2 h3 h4 h5} {β : Type} {K : TileProg (F := F) i β} {Q : β → sProp 𝕄} :
    iprop(□ MayWait (thr d i) (.dma sem) ι O ∗ (L.view.loc (thr d i) ↦[Finset.univ]{q} f) ∗ words d i B P
        ∗ semVal (thr d i, SemLoc.dma sem) 0 ∗ waited d i ι O W)
      ⊢ iprop((((L.view.loc (thr d i) ↦[Finset.univ]{q} f) ∗ words d i B (fun w => ∀ k < 4000, w k = farW d i L f (o + k))
            ∗ semVal (thr d i, SemLoc.dma sem) 0 ∗ waited d i ι O W) -∗ run 𝒱 bd d i defs K Q)
        -∗ run 𝒱 bd d i defs (Prog.lift (.enqueueDma (L.slice (Rect.unit (s := S100000) off S4000.size inb) h0) (.here B) (.dma sem) h1 h2 h3) >>= fun _ =>
            Prog.lift (.waitDma2 sem (L.slice (Rect.unit (s := S100000) off S4000.size inb) h0) B h4 h5) >>= fun _ => K) Q) := by
  unfold words
  iintro ⟨#HM, HL, ⟨%fd, %hfd, HB⟩, Hsem, HO⟩ Hk
  iapply (wp_fetch (defs := defs) 𝒱 bd d i (L.slice (Rect.unit (s := S100000) off S4000.size inb) h0) B sem EC
    (show 0 < S4000.numel * 32 by decide) (Finset.subset_univ _) q f fd ι O W) $$ [HL HB Hsem HO]
  · isplitr; · iexact HM
    isplitl [HL]; · iexact HL
    isplitl [HB]; · iexact HB
    isplitl [Hsem]; · iexact Hsem
    iexact HO
  iintro ⟨HL, HB, Hsem, HO⟩
  iapply Hk
  isplitl [HL]; · iexact HL
  isplitl [HB]
  · iexists _
    isplitr
    rotate_left
    · iexact HB
    ipureintro
    intro k hk
    subst ho
    have h0 : o + 4000 ≤ 100000 := inb 0
    rw [View.read_write_univ]
    unfold farW wd
    rw [dif_pos (show k < (![4000] : Fin 1 → ℕ) 0 from hk), dif_pos (show o + k < (![100000] : Fin 1 → ℕ) 0 by show o + k < 100000; omega)]
    refine congrArg (L.view.read (Elt F) f) (funext fun a => Fin.ext ?_)
    have ha : a = 0 := Subsingleton.elim (α := Fin 1) a 0
    subst ha
    show o + 1 * k = o + k
    omega
  isplitl [Hsem]; · iexact Hsem
  iexact HO

section bodies

variable (i : grid0.Coords)
  (arg2 : Memref sig .scVector .hbm S2x200000x128 .f32) (harg2 : arg2.IsWhole) (arg3 : Memref sig .scVector .hbm S2x200000x128 .f32)
  (harg3 : arg3.IsWhole) (arg4 : Memref sig .scVector .hbm S100000 .i32) (harg4 : arg4.IsWhole)
  (arg5 : Memref sig .scVector .hbm S100000 .i32) (harg5 : arg5.IsWhole) (arg6 : Memref sig .scVector .hbm S100000 .i32)
  (harg6 : arg6.IsWhole) (arg7 : Memref sig .scVector .hbm S100000 .i32) (harg7 : arg7.IsWhole)
  (arg8 : Memref sig .scVector .hbm S128x128 .f32) (harg8 : arg8.IsWhole) (arg9 : Memref sig .scVector .hbm S2x200000x128 .f32)
  (harg9 : arg9.IsWhole) (arg10 : Memref sig .scVector .vmem S6256 .i32) (harg10 : arg10.IsWhole)
  (arg11 : Memref sig .scVector .vmem S4000 .i32) (harg11 : arg11.IsWhole) (arg12 : Memref sig .scVector .vmem S4000 .i32)
  (harg12 : arg12.IsWhole) (arg13 : Memref sig .scVector .vmem S6528 .i32) (harg13 : arg13.IsWhole)
  (arg14 : Memref sig .scVector .vmem S6528 .i32) (harg14 : arg14.IsWhole) (arg15 : Memref sig .scVector .vmem S6528 .i32)
  (harg15 : arg15.IsWhole) (arg16 : Memref sig .scVector .vmem S6528 .i32) (harg16 : arg16.IsWhole)
  (arg17 : Memref sig .scVector .vmem S6528 .i32) (harg17 : arg17.IsWhole) (arg18 : Memref sig .scVector .vmem S512x128 .f32)
  (harg18 : arg18.IsWhole) (arg19 : Memref sig .scVector .vmem S128x128 .f32) (harg19 : arg19.IsWhole) (arg20 : DmaSems sig S_)
  (arg21 : DmaSems sig S_) (v423_r0 : DmaSems sig S_) (v423_r1 : DmaSems sig S_) (v423_r2 : DmaSems sig S_)
  (v423_r3 : DmaSems sig S_) (v420_r4 : DmaSems sig S_)

/-! ## All ones -/

/-- Of the window's first `n` words. -/
def onesP (n : ℕ) (w : ℕ → BitVec 32) : Prop := ∀ x < n, w x = 0xFFFFFFFF#32

theorem t1_wp (t : Fin k0_t1_loop.trips) :
    words (Ix := Ix) (Name := Name) (U := U) (Lvl := Lvl) (F := F) d i arg10 (onesP (16 * t.val))
      ⊢ run 𝒱 bd d i defs (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 t ())
          (fun _ => words d i arg10 (onesP (16 * (t.val + 1)))) := by
  unfold k0_t1_body
  iintro H
  iapply (wp_loadVec (defs := defs) 𝒱 bd d i arg10 (off1_eq t) _) $$ H
  iintro %v %_ H
  iapply (wp_storeVec (defs := defs) (P' := onesP (16 * (t.val + 1))) 𝒱 bd d i arg10 (off1_eq t) _ (fun w w' hw h1 h2 x hx => by
    by_cases hl : x < 16 * t.val
    · rw [h2 x (.inl hl)]; exact hw x hl
    · have := h1 ⟨x - 16 * t.val, by omega⟩
      rw [show 16 * t.val + (⟨x - 16 * t.val, by omega⟩ : Fin 16).val = x by show 16 * t.val + (x - 16 * t.val) = x; omega] at this
      rw [this]; rfl)) $$ H
  iintro H
  iapply (run_done (defs := defs) 𝒱 bd d i)
  iexact H

/-- The first loop fills the window with all ones. -/
theorem t1_loop {β : Type} {K : TileProg (F := F) i β} {Q : β → sProp 𝕄} {P : (ℕ → BitVec 32) → Prop} :
    words (Ix := Ix) (Name := Name) (U := U) (Lvl := Lvl) (F := F) d i arg10 P
      ⊢ iprop((words d i arg10 (onesP 6256) -∗ run 𝒱 bd d i defs K Q)
        -∗ run 𝒱 bd d i defs (Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4) >>= fun _ => K) Q) := by
  iintro H Hk
  iapply (Scf.wp_for_bind frame (wpE defs 𝒱 (thr d i) bd) Set.univ _ _ _ k0_t1_ok () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4)
    (fun t _ => words (Ix := Ix) (Name := Name) (U := U) (Lvl := Lvl) (F := F) d i arg10 (onesP (16 * t)))
    (fun t _ => t1_wp (defs := defs) 𝒱 bd d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 t)) $$ [H]
  · iapply (words_mono d i arg10 (fun w _ x hx => absurd hx (Nat.not_lt_zero x))) $$ H
  iintro %_ H
  iapply Hk
  rw [show onesP 6256 = onesP (16 * k0_t1_loop.trips) by rw [trips1]]
  iexact H

/-! ## The pairs -/

/-- The window after `n` pairs. -/
def winP (tt gg : ℕ → BitVec 32) (n : ℕ) (w : ℕ → BitVec 32) : Prop := ∀ x < 6250, w x = winW tt gg n (base i + x)

variable (tt gg : ℕ → BitVec 32) (htt : ∀ k, (tt k).toNat < 200000)

include htt in
theorem t3_wp (n : ℕ) (t : Fin k0_t3_loop.trips) :
    iprop(words (Ix := Ix) (Name := Name) (U := U) (Lvl := Lvl) (F := F) d i arg10 (winP i tt gg (n + 16 * t.val))
        ∗ words d i arg11 (fun w => ∀ k < 4000, w k = tt (n + k)) ∗ words d i arg12 (fun w => ∀ k < 4000, w k = gg (n + k)))
      ⊢ run 𝒱 bd d i defs (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 t ())
          (fun _ => iprop(words d i arg10 (winP i tt gg (n + 16 * (t.val + 1)))
            ∗ words d i arg11 (fun w => ∀ k < 4000, w k = tt (n + k)) ∗ words d i arg12 (fun w => ∀ k < 4000, w k = gg (n + k)))) := by
  have ht : t.val < 250 := lt_of_lt_of_eq t.isLt trips3
  unfold k0_t3_body
  iintro ⟨H, H1, H2⟩
  iapply (wp_loadVec (defs := defs) 𝒱 bd d i arg11 (off3_eq t) _) $$ H1
  iintro %v %hv H1
  iapply (wp_loadVec (defs := defs) 𝒱 bd d i arg12 (off3_eq t) _) $$ H2
  iintro %g %hg H2
  have hv' : ∀ j : Fin 16, v (ln j) = tt (n + 16 * t.val + j.val) := fun j => by
    obtain ⟨w, hw, he⟩ := hv
    rw [he j, hw _ (by omega), Nat.add_assoc]
  have hg' : ∀ j : Fin 16, g (ln j) = gg (n + 16 * t.val + j.val) := fun j => by
    obtain ⟨w, hw, he⟩ := hg
    rw [he j, hw _ (by omega), Nat.add_assoc]
  have hb : ∀ j : Fin 16, (v (ln j)).toNat < 200000 := fun j => by rw [hv' j]; exact htt _
  iapply (wp_assume (defs := defs) 𝒱 (thr d i) bd Set.univ (chk1 i v hb))
  iapply (wp_storeAt (defs := defs) (P' := winP i tt gg (n + 16 * (t.val + 1))) 𝒱 bd d i arg10 (fun f hf x hx => by
    rw [show n + 16 * (t.val + 1) = n + 16 * t.val + 16 by omega]
    exact pairs_first (F := F) i v hb tt gg f g hv' hg' _ hf hx)) $$ H
  iintro H
  iapply (run_done (defs := defs) 𝒱 bd d i)
  isplitl [H]; · iexact H
  isplitl [H1]; · iexact H1
  iexact H2

include htt in
theorem t5_wp (n : ℕ) (gs : ℕ → BitVec 32) (hgs : ∀ k, gs k + 200000#32 = gg (n + k)) (t : Fin k0_t5_loop.trips) :
    iprop(words (Ix := Ix) (Name := Name) (U := U) (Lvl := Lvl) (F := F) d i arg10 (winP i tt gg (n + 16 * t.val))
        ∗ words d i arg11 (fun w => ∀ k < 4000, w k = tt (n + k)) ∗ words d i arg12 (fun w => ∀ k < 4000, w k = gs k))
      ⊢ run 𝒱 bd d i defs (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 t ())
          (fun _ => iprop(words d i arg10 (winP i tt gg (n + 16 * (t.val + 1)))
            ∗ words d i arg11 (fun w => ∀ k < 4000, w k = tt (n + k)) ∗ words d i arg12 (fun w => ∀ k < 4000, w k = gs k))) := by
  have ht : t.val < 250 := lt_of_lt_of_eq t.isLt trips5
  unfold k0_t5_body
  iintro ⟨H, H1, H2⟩
  iapply (wp_loadVec (defs := defs) 𝒱 bd d i arg11 (off5_eq t) _) $$ H1
  iintro %v %hv H1
  iapply (wp_loadVec (defs := defs) 𝒱 bd d i arg12 (off5_eq t) _) $$ H2
  iintro %g %hg H2
  have hv' : ∀ j : Fin 16, v (ln j) = tt (n + 16 * t.val + j.val) := fun j => by
    obtain ⟨w, hw, he⟩ := hv
    rw [he j, hw _ (by omega), Nat.add_assoc]
  have hg' : ∀ j : Fin 16, g (ln j) + 200000#32 = gg (n + 16 * t.val + j.val) := fun j => by
    obtain ⟨w, hw, he⟩ := hg
    rw [he j, hw _ (by omega), hgs, Nat.add_assoc]
  have hb : ∀ j : Fin 16, (v (ln j)).toNat < 200000 := fun j => by rw [hv' j]; exact htt _
  iapply (wp_assume (defs := defs) 𝒱 (thr d i) bd Set.univ (chk2 i v hb))
  iapply (wp_storeAt (defs := defs) (P' := winP i tt gg (n + 16 * (t.val + 1))) 𝒱 bd d i arg10 (fun f hf x hx => by
    rw [show n + 16 * (t.val + 1) = n + 16 * t.val + 16 by omega]
    exact pairs_second (F := F) i v hb tt gg f g hv' hg' _ hf hx)) $$ H
  iintro H
  iapply (run_done (defs := defs) 𝒱 bd d i)
  isplitl [H]; · iexact H
  isplitl [H1]; · iexact H1
  iexact H2

/-- What the loops over a list's chunks hold: the window, the two buffers of a chunk, the list's two arrays. -/
def fillInv (LT LF : Memref sig .scVector .hbm S100000 .i32) (sT sF : DmaSem sig) (n : ℕ)
    (fT : Buf (Elt F) (LT.view.loc (thr d i))) (fF : Buf (Elt F) (LF.view.loc (thr d i))) (qT qF : PosShare TreeShare)
    (ι : Ix) (O : CellTallies nD τ sig Ix) (W : Waits sig Ix) : sProp 𝕄 :=
  iprop(□ MayWait (thr d i) (.dma sT) ι O ∗ □ MayWait (thr d i) (.dma sF) ι O
    ∗ words d i arg10 (winP i tt gg n) ∗ words d i arg11 (fun _ => True) ∗ words d i arg12 (fun _ => True)
    ∗ (LT.view.loc (thr d i) ↦[Finset.univ]{qT} fT) ∗ (LF.view.loc (thr d i) ↦[Finset.univ]{qF} fF)
    ∗ semVal (thr d i, SemLoc.dma sT) 0 ∗ semVal (thr d i, SemLoc.dma sF) 0 ∗ waited d i ι O W)

variable (qT qF : PosShare TreeShare) (ι : Ix) (O : CellTallies nD τ sig Ix) (W : Waits sig Ix)

include htt in
theorem t2_wp (EC : UEmb Counters 𝕄) [EC.LandsIn (upEmb : UEmb _ 𝕄)] (f5 : Buf (Elt F) (arg5.view.loc (thr d i))) (f4 : Buf (Elt F) (arg4.view.loc (thr d i)))
    (h5 : ∀ k < 100000, farW d i arg5 f5 k = tt k) (h4 : ∀ k < 100000, farW d i arg4 f4 k = gg k) (t : Fin k0_t2_loop.trips) :
    fillInv (Ix := Ix) (Name := Name) (U := U) (Lvl := Lvl) d i arg10 arg11 arg12 tt gg arg5 arg4 v423_r0.sem v423_r1.sem (4000 * t.val) f5 f4 qT qF ι O W
      ⊢ run 𝒱 bd d i defs (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 t ())
          (fun _ => fillInv (Ix := Ix) (Name := Name) (U := U) (Lvl := Lvl) d i arg10 arg11 arg12 tt gg arg5 arg4 v423_r0.sem v423_r1.sem (4000 * (t.val + 1)) f5 f4 qT qF ι O W) := by
  have ht : t.val < 25 := lt_of_lt_of_eq t.isLt trips2
  unfold k0_t2_body fillInv
  iintro ⟨#M0, #M1, H, H1, H2, HT, HF, S0, S1, HO⟩
  iapply (wp_fetchChunk (defs := defs) 𝒱 bd d i arg5 arg11 v423_r0.sem EC (off2_eq t) _ qT f5 ι O W) $$ [HT H1 S0 HO]
  · isplitr; · iexact M0
    isplitl [HT]; · iexact HT
    isplitl [H1]; · iexact H1
    isplitl [S0]; · iexact S0
    iexact HO
  iintro ⟨HT, H1, S0, HO⟩
  iapply (wp_fetchChunk (defs := defs) 𝒱 bd d i arg4 arg12 v423_r1.sem EC (off2_eq t) _ qF f4 ι O W) $$ [HF H2 S1 HO]
  · isplitr; · iexact M1
    isplitl [HF]; · iexact HF
    isplitl [H2]; · iexact H2
    isplitl [S1]; · iexact S1
    iexact HO
  iintro ⟨HF, H2, S1, HO⟩
  iapply (Scf.wp_for_bind frame (wpE defs 𝒱 (thr d i) bd) Set.univ _ _ _ k0_t3_ok () (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4)
    (fun v _ => iprop(words (Ix := Ix) (Name := Name) (U := U) (Lvl := Lvl) (F := F) d i arg10 (winP i tt gg (4000 * t.val + 16 * v))
        ∗ words d i arg11 (fun w => ∀ k < 4000, w k = tt (4000 * t.val + k)) ∗ words d i arg12 (fun w => ∀ k < 4000, w k = gg (4000 * t.val + k))))
    (fun v _ => t3_wp (defs := defs) 𝒱 bd d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 tt gg htt (4000 * t.val) v)) $$ [H H1 H2]
  · isplitl [H]; · iexact H
    isplitl [H1]
    · iapply (words_mono d i arg11 (fun w hw k hk => by rw [hw k hk, h5 _ (by omega)])) $$ H1
    · iapply (words_mono d i arg12 (fun w hw k hk => by rw [hw k hk, h4 _ (by omega)])) $$ H2
  iintro %_ ⟨H, H1, H2⟩
  iapply (run_done (defs := defs) 𝒱 bd d i)
  isplitr; · iexact M0
  isplitr; · iexact M1
  isplitl [H]
  · iapply (words_mono d i arg10 (fun w hw => by
      rwa [show 4000 * t.val + 16 * k0_t3_loop.trips = 4000 * (t.val + 1) by rw [trips3]; omega] at hw)) $$ H
  isplitl [H1]; · iapply (words_mono d i arg11 (fun _ _ => trivial)) $$ H1
  isplitl [H2]; · iapply (words_mono d i arg12 (fun _ _ => trivial)) $$ H2
  isplitl [HT]; · iexact HT
  isplitl [HF]; · iexact HF
  isplitl [S0]; · iexact S0
  isplitl [S1]; · iexact S1
  iexact HO

include htt in
theorem t4_wp (EC : UEmb Counters 𝕄) [EC.LandsIn (upEmb : UEmb _ 𝕄)] (f7 : Buf (Elt F) (arg7.view.loc (thr d i))) (f6 : Buf (Elt F) (arg6.view.loc (thr d i)))
    (h7 : ∀ k < 100000, farW d i arg7 f7 k = tt (100000 + k)) (h6 : ∀ k, farW d i arg6 f6 k + 200000#32 = gg (100000 + k)) (t : Fin k0_t4_loop.trips) :
    fillInv (Ix := Ix) (Name := Name) (U := U) (Lvl := Lvl) d i arg10 arg11 arg12 tt gg arg7 arg6 v423_r2.sem v423_r3.sem (100000 + 4000 * t.val) f7 f6 qT qF ι O W
      ⊢ run 𝒱 bd d i defs (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 t ())
          (fun _ => fillInv (Ix := Ix) (Name := Name) (U := U) (Lvl := Lvl) d i arg10 arg11 arg12 tt gg arg7 arg6 v423_r2.sem v423_r3.sem (100000 + 4000 * (t.val + 1)) f7 f6 qT qF ι O W) := by
  have ht : t.val < 25 := lt_of_lt_of_eq t.isLt trips4
  unfold k0_t4_body fillInv
  iintro ⟨#M0, #M1, H, H1, H2, HT, HF, S0, S1, HO⟩
  iapply (wp_fetchChunk (defs := defs) 𝒱 bd d i arg7 arg11 v423_r2.sem EC (off4_eq t) _ qT f7 ι O W) $$ [HT H1 S0 HO]
  · isplitr; · iexact M0
    isplitl [HT]; · iexact HT
    isplitl [H1]; · iexact H1
    isplitl [S0]; · iexact S0
    iexact HO
  iintro ⟨HT, H1, S0, HO⟩
  iapply (wp_fetchChunk (defs := defs) 𝒱 bd d i arg6 arg12 v423_r3.sem EC (off4_eq t) _ qF f6 ι O W) $$ [HF H2 S1 HO]
  · isplitr; · iexact M1
    isplitl [HF]; · iexact HF
    isplitl [H2]; · iexact H2
    isplitl [S1]; · iexact S1
    iexact HO
  iintro ⟨HF, H2, S1, HO⟩
  iapply (Scf.wp_for_bind frame (wpE defs 𝒱 (thr d i) bd) Set.univ _ _ _ k0_t5_ok () (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4)
    (fun v _ => iprop(words (Ix := Ix) (Name := Name) (U := U) (Lvl := Lvl) (F := F) d i arg10 (winP i tt gg (100000 + 4000 * t.val + 16 * v))
        ∗ words d i arg11 (fun w => ∀ k < 4000, w k = tt (100000 + 4000 * t.val + k))
        ∗ words d i arg12 (fun w => ∀ k < 4000, w k = farW d i arg6 f6 (4000 * t.val + k))))
    (fun v _ => t5_wp (defs := defs) 𝒱 bd d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 tt gg htt (100000 + 4000 * t.val) (fun k => farW d i arg6 f6 (4000 * t.val + k))
      (fun k => by rw [h6, Nat.add_assoc]) v)) $$ [H H1 H2]
  · isplitl [H]; · iexact H
    isplitl [H1]
    · iapply (words_mono d i arg11 (fun w hw k hk => by rw [hw k hk, h7 _ (by omega), Nat.add_assoc])) $$ H1
    · iexact H2
  iintro %_ ⟨H, H1, H2⟩
  iapply (run_done (defs := defs) 𝒱 bd d i)
  isplitr; · iexact M0
  isplitr; · iexact M1
  isplitl [H]
  · iapply (words_mono d i arg10 (fun w hw => by
      rwa [show 100000 + 4000 * t.val + 16 * k0_t5_loop.trips = 100000 + 4000 * (t.val + 1) by rw [trips5]; omega] at hw)) $$ H
  isplitl [H1]; · iapply (words_mono d i arg11 (fun _ _ => trivial)) $$ H1
  isplitl [H2]; · iapply (words_mono d i arg12 (fun _ _ => trivial)) $$ H2
  isplitl [HT]; · iexact HT
  isplitl [HF]; · iexact HF
  isplitl [S0]; · iexact S0
  isplitl [S1]; · iexact S1
  iexact HO

end bodies

end Cert.Proof
-- ==== Proof.Lists.lean ====
/-
  The lists of rows: compressed out of the window, sixteen words at a time, then padded with copies of their first entry.
-/
module

public import proofs.«01_k».proof.Proof.Fill

@[expose] public section

set_option synthInstance.maxSize 4096

noncomputable section

namespace Cert.Proof

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Cert.KernelIdeal Cert.KernelIdeal.Gen

variable {F : FTy → Type} [FloatOps F]
variable {Ix : Type} [DecidableEq Ix] {Name : Type} [DecidableEq Name] [Infinite Name]
variable {U : Type} [URA U] {Lvl : Type} [Preorder Lvl]
variable {defs : Defs nD τ sig (Elt F) Λ₀} (𝒱 : Variants) (bd : Option 𝒱.V)
variable (d : Dev nD)

local notation "𝕄" => MT nD τ sig Ix (Elt F) Name U Lvl

/-- A list holds its class's entries among the first `n` rows, in order. -/
def listP (cls : ℕ → Prop) [DecidablePred cls] (val : ℕ → BitVec 32) (n : ℕ) (w : ℕ → BitVec 32) : Prop :=
  ∀ p < n, cls p → w (Nat.count cls p) = val p

/-- A list of all its class's entries, followed by `16 * r` copies of its first word. -/
def padP (cls : ℕ → Prop) [DecidablePred cls] (val : ℕ → BitVec 32) (x : BitVec 32) (r : ℕ) (w : ℕ → BitVec 32) : Prop :=
  listP cls val 6250 w ∧ w 0 = x ∧ ∀ k, Nat.count cls 6250 ≤ k → k < Nat.count cls 6250 + 16 * r → w k = x

section pad

variable (cls : ℕ → Prop) [DecidablePred cls] (val : ℕ → BitVec 32) (x : BitVec 32)

theorem pad_step (r : ℕ) (v : S16.Idx → BitVec 32) (hv : ∀ y, v y = x) (w w' : ℕ → BitVec 32)
    (hw : padP cls val x r w) (h1 : ∀ j : Fin 16, w' (Nat.count cls 6250 + 16 * r + j.val) = v (ln j))
    (h2 : ∀ p, p < Nat.count cls 6250 + 16 * r ∨ Nat.count cls 6250 + 16 * r + 16 ≤ p → w' p = w p) : padP cls val x (r + 1) w' := by
  have new : ∀ k, Nat.count cls 6250 + 16 * r ≤ k → k < Nat.count cls 6250 + 16 * r + 16 → w' k = x := fun k ha hb => by
    have := h1 ⟨k - (Nat.count cls 6250 + 16 * r), by omega⟩
    rw [hv, show Nat.count cls 6250 + 16 * r + (k - (Nat.count cls 6250 + 16 * r)) = k by omega] at this
    exact this
  refine ⟨fun p hp hc => ?_, ?_, fun k ha hb => ?_⟩
  · have : Nat.count cls p < Nat.count cls 6250 := Nat.count_strict_mono hc hp
    rw [h2 _ (.inl (by omega)), hw.1 p hp hc]
  · by_cases h0 : Nat.count cls 6250 + 16 * r = 0
    · exact new 0 (by omega) (by omega)
    · rw [h2 0 (.inl (by omega))]; exact hw.2.1
  · by_cases hl : k < Nat.count cls 6250 + 16 * r
    · rw [h2 k (.inl hl)]; exact hw.2.2 k ha hl
    · exact new k (by omega) (by omega)

theorem pad_start {w : ℕ → BitVec 32} (h : listP cls val 6250 w) (h0 : w 0 = x) : padP cls val x 0 w :=
  ⟨h, h0, fun _ h1 h2 => absurd h2 (Nat.not_lt.mpr (by rw [Nat.mul_zero, Nat.add_zero]; exact h1))⟩

omit val x in
/-- No row past 6250 has a class. -/
theorem count_top (h : ∀ p, cls p → p < 6250) : Nat.count cls (16 * 391) = Nat.count cls 6250 := by
  rw [show 16 * 391 = 6250 + 6 from rfl, Nat.count_add]
  have : ∀ n, Nat.count (fun k => cls (6250 + k)) n = 0 := fun n => by
    induction n with
    | zero => rfl
    | succ n ih => rw [Nat.count_succ, ih, if_neg fun hc => absurd (h _ hc) (by omega)]
  rw [this, Nat.add_zero]

end pad

/-- A vector loaded, and remembered: what is read stays what the list holds. -/
theorem wp_loadKept (i : grid0.Coords) {n : ℕ} (L : Memref sig .scVector .vmem ⟨1, ![n]⟩ .i32) {off : Fin 1 → ℕ} {o : ℕ} (ho : off = ![o])
    (inb : ∀ a, off a + S16.size a ≤ (⟨1, ![n]⟩ : Shape).size a)
    {P : (ℕ → BitVec 32) → Prop} {hl} {β : Type} {k : Vec F S16 .i32 → TileProg (F := F) i β} {Q : β → sProp 𝕄} :
    words (Ix := Ix) (Name := Name) (U := U) (Lvl := Lvl) (F := F) d i L P
      ⊢ iprop((∀ v : Vec F S16 .i32, words d i L (fun w => P w ∧ ∀ j : Fin 16, v (ln j) = w (o + j.val)) -∗ run 𝒱 bd d i defs (k v) Q)
        -∗ run 𝒱 bd d i defs (Prog.lift (.load L (Rect.unit (s := ⟨1, ![n]⟩) off S16.size inb).toLoadRect hl) >>= k) Q) := by
  unfold words
  iintro ⟨%f, %hf, H⟩ Hk
  iapply (wp_load_rect (defs := defs) 𝒱 (thr d i) bd Set.univ (Q := Q) (m := L) (r := Rect.unit (s := ⟨1, ![n]⟩) off S16.size inb)
    (hl := hl) (k := k) (S := Finset.univ) (q := fullShare) (f := f) (Finset.subset_univ _)) $$ H
  iintro H
  iapply Hk $$ %_ [H]
  iexists f
  isplitr
  · ipureintro
    exact ⟨hf, fun j => vec_read d i L ho inb f j⟩
  iexact H

/-- A check that holds. -/
theorem wp_check (i : grid0.Coords) {p : Prop} {dp : Decidable p} (h : p) {β : Type} {k : PLift p → TileProg (F := F) i β} {Q : β → sProp 𝕄} :
    run 𝒱 bd d i defs (k ⟨h⟩) Q ⊢ run 𝒱 bd d i defs (Prog.lift (TpuEff.assume p dp) >>= k) Q :=
  wp_assume (defs := defs) 𝒱 (thr d i) bd Set.univ h

/-- ONE STEP OF PADDING: sixteen more copies. -/
theorem wp_pad (i : grid0.Coords) (L : Memref sig .scVector .vmem S6528 .i32) (cls : ℕ → Prop) [DecidablePred cls] (val : ℕ → BitVec 32) (x : BitVec 32) (r : ℕ)
    {off : Fin 1 → ℕ} (ho : off = ![Nat.count cls 6250 + 16 * r]) (inb : ∀ a, off a + S16.size a ≤ S6528.size a) {v : Vec F S16 .i32} (hv : ∀ y, v y = x)
    {hl hx hm} {β : Type} {k : PUnit → TileProg (F := F) i β} {Q : β → sProp 𝕄} :
    words (Ix := Ix) (Name := Name) (U := U) (Lvl := Lvl) (F := F) d i L (padP cls val x r)
      ⊢ iprop((words d i L (padP cls val x (r + 1)) -∗ run 𝒱 bd d i defs (k ⟨⟩) Q)
        -∗ run 𝒱 bd d i defs (Prog.lift (.load L (Rect.unit (s := S6528) off S16.size inb).toLoadRect hl) >>= fun _ : Vec F S16 .i32 =>
            Prog.lift (.store L (Rect.unit (s := S6528) off S16.size inb) v Finset.univ hx hm) >>= k) Q) := by
  iintro H Hk
  iapply (wp_loadVec (defs := defs) 𝒱 bd d i L ho inb) $$ H
  iintro %_ %_ H
  iapply (wp_storeVec (defs := defs) (P' := padP cls val x (r + 1)) 𝒱 bd d i L ho inb (fun w w' hw h1 h2 => pad_step cls val x r v hv w w' hw h1 h2)) $$ H
  iintro H
  iapply Hk
  iexact H

theorem word_at {n : ℕ} (hn : n ≤ 6250) (r : Fin 8) : (BitVec.ofNat 32 n + BitVec.ofNat 32 (16 * r.val)).toNat = n + 16 * r.val := by
  have := r.isLt
  simp only [BitVec.toNat_add, BitVec.toNat_ofNat]; omega

theorem off7_at {n : ℕ} (hn : n ≤ 6250) (r : Fin 8) : k0_off7 (BitVec.ofNat 32 n) (BitVec.ofNat 32 (16 * r.val)) = ![n + 16 * r.val] :=
  congrArg (fun k => ![k]) (word_at hn r)
theorem off8_at {n : ℕ} (hn : n ≤ 6250) (r : Fin 8) : k0_off8 (BitVec.ofNat 32 n) (BitVec.ofNat 32 (16 * r.val)) = ![n + 16 * r.val] :=
  congrArg (fun k => ![k]) (word_at hn r)
theorem off9_at {n : ℕ} (hn : n ≤ 6250) (r : Fin 8) : k0_off9 (BitVec.ofNat 32 n) (BitVec.ofNat 32 (16 * r.val)) = ![n + 16 * r.val] :=
  congrArg (fun k => ![k]) (word_at hn r)

theorem count0_le (w : ℕ → BitVec 32) (n : ℕ) : Nat.count (cls0 w) n ≤ 6250 := count_le _ (fun _ h => h.1) n
theorem count1_le (w : ℕ → BitVec 32) (n : ℕ) : Nat.count (cls1 w) n ≤ 6250 := count_le _ (fun _ h => h.1) n
theorem countz_le (w : ℕ → BitVec 32) (n : ℕ) : Nat.count (clsz w) n ≤ 6250 := count_le _ (fun _ h => h.1) n

section bodies

variable (i : grid0.Coords)
  (arg2 : Memref sig .scVector .hbm S2x200000x128 .f32) (harg2 : arg2.IsWhole) (arg3 : Memref sig .scVector .hbm S2x200000x128 .f32)
  (harg3 : arg3.IsWhole) (arg4 : Memref sig .scVector .hbm S100000 .i32) (harg4 : arg4.IsWhole)
  (arg5 : Memref sig .scVector .hbm S100000 .i32) (harg5 : arg5.IsWhole) (arg6 : Memref sig .scVector .hbm S100000 .i32)
  (harg6 : arg6.IsWhole) (arg7 : Memref sig .scVector .hbm S100000 .i32) (harg7 : arg7.IsWhole)
  (arg8 : Memref sig .scVector .hbm S128x128 .f32) (harg8 : arg8.IsWhole) (arg9 : Memref sig .scVector .hbm S2x200000x128 .f32)
  (harg9 : arg9.IsWhole) (arg10 : Memref sig .scVector .vmem S6256 .i32) (harg10 : arg10.IsWhole)
  (arg11 : Memref sig .scVector .vmem S4000 .i32) (harg11 : arg11.IsWhole) (arg12 : Memref sig .scVector .vmem S4000 .i32)
  (harg12 : arg12.IsWhole) (arg13 : Memref sig .scVector .vmem S6528 .i32) (harg13 : arg13.IsWhole)
  (arg14 : Memref sig .scVector .vmem S6528 .i32) (harg14 : arg14.IsWhole) (arg15 : Memref sig .scVector .vmem S6528 .i32)
  (harg15 : arg15.IsWhole) (arg16 : Memref sig .scVector .vmem S6528 .i32) (harg16 : arg16.IsWhole)
  (arg17 : Memref sig .scVector .vmem S6528 .i32) (harg17 : arg17.IsWhole) (arg18 : Memref sig .scVector .vmem S512x128 .f32)
  (harg18 : arg18.IsWhole) (arg19 : Memref sig .scVector .vmem S128x128 .f32) (harg19 : arg19.IsWhole) (arg20 : DmaSems sig S_)
  (arg21 : DmaSems sig S_) (v423_r0 : DmaSems sig S_) (v423_r1 : DmaSems sig S_) (v423_r2 : DmaSems sig S_)
  (v423_r3 : DmaSems sig S_) (v420_r4 : DmaSems sig S_)

variable (w : ℕ → BitVec 32)

/-- The row of the output that row `p` of the tile's window is. -/
def rowW (p : ℕ) : BitVec 32 := BitVec.ofNat 32 (base i + p)
/-- The row of the second array a word names. -/
def lowW (p : ℕ) : BitVec 32 := w p - 200000#32

/-- The five lists, of the window's first `n` words. -/
def listsInv (n : ℕ) : sProp 𝕄 :=
  iprop(words d i arg10 (fun u => ∀ x < 6250, u x = w x)
    ∗ words d i arg13 (listP (cls0 w) w n) ∗ words d i arg14 (listP (cls0 w) (rowW i) n)
    ∗ words d i arg15 (listP (cls1 w) (lowW w) n) ∗ words d i arg16 (listP (cls1 w) (rowW i) n) ∗ words d i arg17 (listP (clsz w) (rowW i) n))

/-- The three counts, of the window's first `n` words. -/
def counts (n : ℕ) : BitVec 32 × BitVec 32 × BitVec 32 :=
  (BitVec.ofNat 32 (Nat.count (cls0 w) n), BitVec.ofNat 32 (Nat.count (cls1 w) n), BitVec.ofNat 32 (Nat.count (clsz w) n))

theorem counts_top : counts w (16 * 391) = counts w 6250 := by
  unfold counts
  rw [count_top (cls0 w) (fun _ h => h.1), count_top (cls1 w) (fun _ h => h.1), count_top (clsz w) (fun _ h => h.1)]

/-- SIXTEEN WORDS of the window sorted into the lists. -/
theorem t6_wp (t : Fin k0_t6_loop.trips) :
    listsInv (Ix := Ix) (Name := Name) (U := U) (Lvl := Lvl) (F := F) d i arg10 arg13 arg14 arg15 arg16 arg17 w (16 * t.val)
      ⊢ run 𝒱 bd d i defs (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 (baseW i) iotaV t (counts w (16 * t.val)))
          (fun acc => iprop(⌜acc = counts w (16 * (t.val + 1))⌝
            ∗ listsInv (Ix := Ix) (Name := Name) (U := U) (Lvl := Lvl) (F := F) d i arg10 arg13 arg14 arg15 arg16 arg17 w (16 * (t.val + 1)))) := by
  unfold k0_t6_body counts
  dsimp only
  rw [show 16 * (t.val + 1) = 16 * t.val + 16 by omega]
  unfold run
  rw [wp_bind, k0_part1_eq_skeleton]
  unfold k0_part1_skel listsInv
  dsimp only
  iintro ⟨H, H13, H14, H15, H16, H17⟩
  iapply (wp_loadVec (defs := defs) 𝒱 bd d i arg10 (off6_eq t) _) $$ H
  iintro %v %hv H
  have hv' : ∀ j : Fin 16, 16 * t.val + j.val < 6250 → v (ln j) = w (16 * t.val + j.val) := fun j hj => by
    obtain ⟨u, hu, he⟩ := hv
    rw [he j, hu _ hj]
  have r0 := pay12_lane (F := F) t v w hv'
  have r1 := pay13_lane (F := F) t v w hv'
  have r2 := pay14_lane (F := F) t v w hv'
  have k0 := rank_in (pay6_iff (F := F) t v w hv') (fun _ h => h.1) r0
  have k1 := rank_in (pay7_iff (F := F) t v w hv') (fun _ h => h.1) r1
  have k2 := rank_in (pay8_iff (F := F) t v w hv') (fun _ h => h.1) r2
  have c3 : k0_chk3 (k0_pay12 iotaV 0#32 1#32 t (BitVec.ofNat 32 (Nat.count (cls0 w) (16 * t.val))) v) := ⟨k0, k0⟩
  have c4 : k0_chk4 (k0_pay13 iotaV 0#32 1#32 t (BitVec.ofNat 32 (Nat.count (cls1 w) (16 * t.val))) v) := ⟨k1, k1⟩
  have c5 : k0_chk5 (k0_pay14 iotaV 0#32 1#32 t (BitVec.ofNat 32 (Nat.count (clsz w) (16 * t.val))) v) := k2
  iapply (wp_check (defs := defs) 𝒱 bd d i c3)
  iapply (wp_check (defs := defs) 𝒱 bd d i c4)
  iapply (wp_check (defs := defs) 𝒱 bd d i c5)
  iapply (wp_storeAt (defs := defs) (P' := listP (cls0 w) w (16 * t.val + 16)) 𝒱 bd d i arg13 (fun f hf p hp hc =>
    list_step (pay6_iff (F := F) t v w hv') f _ v w _ (fun _ h => h.1) r0 (fun j hj => hv' j hj.1) hf hp hc)) $$ H13
  iintro H13
  iapply (wp_storeAt (defs := defs) (P' := listP (cls0 w) (rowW i) (16 * t.val + 16)) 𝒱 bd d i arg14 (fun f hf p hp hc =>
    list_step (pay6_iff (F := F) t v w hv') f _ _ (rowW i) _ (fun _ h => h.1) r0 (fun j _ => pay3_lane t i j) hf hp hc)) $$ H14
  iintro H14
  iapply (run_done (defs := defs) 𝒱 bd d i)
  iapply (wp_storeAt (defs := defs) (P' := listP (cls1 w) (lowW w) (16 * t.val + 16)) 𝒱 bd d i arg15 (fun f hf p hp hc =>
    list_step (pay7_iff (F := F) t v w hv') f _ _ (lowW w) _ (fun _ h => h.1) r1
      (fun j hj => congrArg (· - 200000#32) (hv' j hj.1)) hf hp hc)) $$ H15
  iintro H15
  iapply (wp_storeAt (defs := defs) (P' := listP (cls1 w) (rowW i) (16 * t.val + 16)) 𝒱 bd d i arg16 (fun f hf p hp hc =>
    list_step (pay7_iff (F := F) t v w hv') f _ _ (rowW i) _ (fun _ h => h.1) r1 (fun j _ => pay3_lane t i j) hf hp hc)) $$ H16
  iintro H16
  iapply (wp_storeAt (defs := defs) (P' := listP (clsz w) (rowW i) (16 * t.val + 16)) 𝒱 bd d i arg17 (fun f hf p hp hc =>
    list_step (pay8_iff (F := F) t v w hv') f _ _ (rowW i) _ (fun _ h => h.1) r2 (fun j _ => pay3_lane t i j) hf hp hc)) $$ H17
  iintro H17
  iapply (run_done (defs := defs) 𝒱 bd d i)
  isplitr
  · ipureintro
    exact Prod.ext (pay27_next (F := F) t v w hv') (Prod.ext (pay28_next (F := F) t v w hv') (pay29_next (F := F) t v w hv'))
  isplitl [H]; · iexact H
  isplitl [H13]; · iexact H13
  isplitl [H14]; · iexact H14
  isplitl [H15]; · iexact H15
  isplitl [H16]; · iexact H16
  iexact H17

/-! ## Padding -/

/-- The first list's places padded, and its words but for three copies. -/
theorem part23_wp (hw6) (v17 : IVec S16 32) (v18 : IVec S16 32) (v19 : Vec F S16 .i32) (x y : BitVec 32) (hx : ∀ z, v17 z = x) (hy : ∀ z, k0_pay32 v18 v19 z = y)
    {Q : _ → sProp 𝕄} :
    iprop(words d i arg13 (padP (cls0 w) w y 0) ∗ words d i arg14 (padP (cls0 w) (rowW i) x 0))
      ⊢ iprop((words d i arg13 (padP (cls0 w) w y 5) -∗ words d i arg14 (padP (cls0 w) (rowW i) x 6) -∗ Q ⟨k0_pay32 v18 v19, 80#32⟩)
        -∗ run 𝒱 bd d i defs (k0_part23 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 (BitVec.ofNat 32 (Nat.count (cls0 w) 6250)) hw6 v17 v18 v19) Q) := by
  have o := fun r => off7_at (count0_le w 6250) r
  rw [k0_part23_eq_skeleton]
  unfold k0_part23_skel
  dsimp only
  iintro ⟨H13, H14⟩ Hk
  iapply (wp_pad (defs := defs) 𝒱 bd d i arg14 (cls0 w) (rowW i) x 0 (o 0) _ hx) $$ H14
  iintro H14
  iapply (wp_pad (defs := defs) 𝒱 bd d i arg13 (cls0 w) w y 0 (o 0) _ hy) $$ H13
  iintro H13
  iapply (wp_pad (defs := defs) 𝒱 bd d i arg14 (cls0 w) (rowW i) x 1 (o 1) _ hx) $$ H14
  iintro H14
  iapply (wp_pad (defs := defs) 𝒱 bd d i arg13 (cls0 w) w y 1 (o 1) _ hy) $$ H13
  iintro H13
  iapply (wp_pad (defs := defs) 𝒱 bd d i arg14 (cls0 w) (rowW i) x 2 (o 2) _ hx) $$ H14
  iintro H14
  iapply (wp_pad (defs := defs) 𝒱 bd d i arg13 (cls0 w) w y 2 (o 2) _ hy) $$ H13
  iintro H13
  iapply (wp_pad (defs := defs) 𝒱 bd d i arg14 (cls0 w) (rowW i) x 3 (o 3) _ hx) $$ H14
  iintro H14
  iapply (wp_pad (defs := defs) 𝒱 bd d i arg13 (cls0 w) w y 3 (o 3) _ hy) $$ H13
  iintro H13
  iapply (wp_pad (defs := defs) 𝒱 bd d i arg14 (cls0 w) (rowW i) x 4 (o 4) _ hx) $$ H14
  iintro H14
  iapply (wp_pad (defs := defs) 𝒱 bd d i arg13 (cls0 w) w y 4 (o 4) _ hy) $$ H13
  iintro H13
  iapply (wp_pad (defs := defs) 𝒱 bd d i arg14 (cls0 w) (rowW i) x 5 (o 5) _ hx) $$ H14
  iintro H14
  iapply (run_done (defs := defs) 𝒱 bd d i)
  iapply Hk $$ H13 H14

/-- The first list padded; the second's padding begun. -/
theorem part24_wp (hw7) (hw6) (v17 v23 : IVec S16 32) (x y : BitVec 32) (hx : ∀ z, v17 z = x) (hy : ∀ z, v23 z = y)
    {Q : _ → sProp 𝕄} :
    iprop(words d i arg13 (padP (cls0 w) w y 5) ∗ words d i arg14 (padP (cls0 w) (rowW i) x 6)
        ∗ words d i arg15 (listP (cls1 w) (lowW w) 6250) ∗ words d i arg16 (listP (cls1 w) (rowW i) 6250))
      ⊢ iprop((∀ (x' y' : BitVec 32) (v77 v83 : IVec S16 32), ⌜(∀ z, v77 z = x') ∧ ∀ z, v83 z = y'⌝
          -∗ words d i arg13 (padP (cls0 w) w y 8) -∗ words d i arg14 (padP (cls0 w) (rowW i) x 8)
          -∗ words d i arg15 (padP (cls1 w) (lowW w) y' 2) -∗ words d i arg16 (padP (cls1 w) (rowW i) x' 2) -∗ Q ⟨v77, v83⟩)
        -∗ run 𝒱 bd d i defs (k0_part24 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 (BitVec.ofNat 32 (Nat.count (cls0 w) 6250)) (BitVec.ofNat 32 (Nat.count (cls1 w) 6250)) hw7 hw6 v17 v23 80#32) Q) := by
  have o := fun r => off7_at (count0_le w 6250) r
  rw [k0_part24_eq_skeleton]
  unfold k0_part24_skel
  dsimp only
  iintro ⟨H13, H14, H15, H16⟩ Hk
  iapply (wp_pad (defs := defs) 𝒱 bd d i arg13 (cls0 w) w y 5 (o 5) _ hy) $$ H13
  iintro H13
  iapply (wp_pad (defs := defs) 𝒱 bd d i arg14 (cls0 w) (rowW i) x 6 (o 6) _ hx) $$ H14
  iintro H14
  iapply (wp_pad (defs := defs) 𝒱 bd d i arg13 (cls0 w) w y 6 (o 6) _ hy) $$ H13
  iintro H13
  iapply (wp_pad (defs := defs) 𝒱 bd d i arg14 (cls0 w) (rowW i) x 7 (o 7) _ hx) $$ H14
  iintro H14
  iapply (wp_pad (defs := defs) 𝒱 bd d i arg13 (cls0 w) w y 7 (o 7) _ hy) $$ H13
  iintro H13
  iapply (wp_loadKept (defs := defs) 𝒱 bd d i arg16 (o := 0) rfl _) $$ H16
  iintro %v73 H16
  iapply (wp_loadKept (defs := defs) 𝒱 bd d i arg15 (o := 0) rfl _) $$ H15
  iintro %v79 H15
  have o := fun r => off8_at (count1_le w 6250) r
  have hx' := pay33_eq (F := F) v73
  have hy' := pay34_eq (F := F) v79
  generalize v73 (ln 0) = x' at hx'
  generalize v79 (ln 0) = y' at hy'
  ihave H16 := (words_mono d i arg16 (P' := padP (cls1 w) (rowW i) x' 0) (fun u hu => pad_start _ _ _ hu.1 ((hu.2 0).symm.trans ((pay33_eq (F := F) v73 (ln 0)).symm.trans (hx' _))))) $$ H16
  ihave H15 := (words_mono d i arg15 (P' := padP (cls1 w) (lowW w) y' 0) (fun u hu => pad_start _ _ _ hu.1 ((hu.2 0).symm.trans ((pay34_eq (F := F) v79 (ln 0)).symm.trans (hy' _))))) $$ H15
  iapply (wp_pad (defs := defs) 𝒱 bd d i arg16 (cls1 w) (rowW i) x' 0 (o 0) _ hx') $$ H16
  iintro H16
  iapply (wp_pad (defs := defs) 𝒱 bd d i arg15 (cls1 w) (lowW w) y' 0 (o 0) _ hy') $$ H15
  iintro H15
  iapply (wp_pad (defs := defs) 𝒱 bd d i arg16 (cls1 w) (rowW i) x' 1 (o 1) _ hx') $$ H16
  iintro H16
  iapply (wp_pad (defs := defs) 𝒱 bd d i arg15 (cls1 w) (lowW w) y' 1 (o 1) _ hy') $$ H15
  iintro H15
  iapply (run_done (defs := defs) 𝒱 bd d i)
  iapply Hk $$ %x' %y' %_ %_ %⟨hx', hy'⟩ H13 H14 H15 H16

/-- The second list padded. -/
theorem part25_wp (hw7) (v77 v83 : IVec S16 32) (x' y' : BitVec 32) (hx' : ∀ z, v77 z = x') (hy' : ∀ z, v83 z = y')
    {Q : _ → sProp 𝕄} :
    iprop(words d i arg15 (padP (cls1 w) (lowW w) y' 2) ∗ words d i arg16 (padP (cls1 w) (rowW i) x' 2))
      ⊢ iprop((words d i arg15 (padP (cls1 w) (lowW w) y' 8) -∗ words d i arg16 (padP (cls1 w) (rowW i) x' 8) -∗ Q ⟨⟩)
        -∗ run 𝒱 bd d i defs (k0_part25 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 (BitVec.ofNat 32 (Nat.count (cls1 w) 6250)) hw7 v77 v83) Q) := by
  have o := fun r => off8_at (count1_le w 6250) r
  rw [k0_part25_eq_skeleton]
  unfold k0_part25_skel
  dsimp only
  iintro ⟨H15, H16⟩ Hk
  iapply (wp_pad (defs := defs) 𝒱 bd d i arg16 (cls1 w) (rowW i) x' 2 (o 2) _ hx') $$ H16
  iintro H16
  iapply (wp_pad (defs := defs) 𝒱 bd d i arg15 (cls1 w) (lowW w) y' 2 (o 2) _ hy') $$ H15
  iintro H15
  iapply (wp_pad (defs := defs) 𝒱 bd d i arg16 (cls1 w) (rowW i) x' 3 (o 3) _ hx') $$ H16
  iintro H16
  iapply (wp_pad (defs := defs) 𝒱 bd d i arg15 (cls1 w) (lowW w) y' 3 (o 3) _ hy') $$ H15
  iintro H15
  iapply (wp_pad (defs := defs) 𝒱 bd d i arg16 (cls1 w) (rowW i) x' 4 (o 4) _ hx') $$ H16
  iintro H16
  iapply (wp_pad (defs := defs) 𝒱 bd d i arg15 (cls1 w) (lowW w) y' 4 (o 4) _ hy') $$ H15
  iintro H15
  iapply (wp_pad (defs := defs) 𝒱 bd d i arg16 (cls1 w) (rowW i) x' 5 (o 5) _ hx') $$ H16
  iintro H16
  iapply (wp_pad (defs := defs) 𝒱 bd d i arg15 (cls1 w) (lowW w) y' 5 (o 5) _ hy') $$ H15
  iintro H15
  iapply (wp_pad (defs := defs) 𝒱 bd d i arg16 (cls1 w) (rowW i) x' 6 (o 6) _ hx') $$ H16
  iintro H16
  iapply (wp_pad (defs := defs) 𝒱 bd d i arg15 (cls1 w) (lowW w) y' 6 (o 6) _ hy') $$ H15
  iintro H15
  iapply (wp_pad (defs := defs) 𝒱 bd d i arg16 (cls1 w) (rowW i) x' 7 (o 7) _ hx') $$ H16
  iintro H16
  iapply (wp_pad (defs := defs) 𝒱 bd d i arg15 (cls1 w) (lowW w) y' 7 (o 7) _ hy') $$ H15
  iintro H15
  iapply (run_done (defs := defs) 𝒱 bd d i)
  iapply Hk $$ H15 H16

/-- The third list padded. -/
theorem part26_wp (v11_0 : BitVec 32) (hw8)
    {Q : _ → sProp 𝕄} :
    words d i arg17 (listP (clsz w) (rowW i) 6250)
      ⊢ iprop((∀ x r, words d i arg17 (padP (clsz w) (rowW i) x 8) -∗ Q r)
        -∗ run 𝒱 bd d i defs (k0_part26 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 v11_0 (BitVec.ofNat 32 (Nat.count (clsz w) 6250)) hw8) Q) := by
  have o := fun r => off9_at (countz_le w 6250) r
  rw [k0_part26_eq_skeleton]
  unfold k0_part26_skel
  dsimp only
  iintro H17 Hk
  iapply (wp_loadKept (defs := defs) 𝒱 bd d i arg17 (o := 0) rfl _) $$ H17
  iintro %v133 H17
  have hx := pay35_eq (F := F) v133
  generalize v133 (ln 0) = x at hx
  ihave H17 := (words_mono d i arg17 (P' := padP (clsz w) (rowW i) x 0) (fun u hu => pad_start _ _ _ hu.1 ((hu.2 0).symm.trans ((pay35_eq (F := F) v133 (ln 0)).symm.trans (hx _))))) $$ H17
  iapply (wp_pad (defs := defs) 𝒱 bd d i arg17 (clsz w) (rowW i) x 0 (o 0) _ hx) $$ H17
  iintro H17
  iapply (wp_pad (defs := defs) 𝒱 bd d i arg17 (clsz w) (rowW i) x 1 (o 1) _ hx) $$ H17
  iintro H17
  iapply (wp_pad (defs := defs) 𝒱 bd d i arg17 (clsz w) (rowW i) x 2 (o 2) _ hx) $$ H17
  iintro H17
  iapply (wp_pad (defs := defs) 𝒱 bd d i arg17 (clsz w) (rowW i) x 3 (o 3) _ hx) $$ H17
  iintro H17
  iapply (wp_pad (defs := defs) 𝒱 bd d i arg17 (clsz w) (rowW i) x 4 (o 4) _ hx) $$ H17
  iintro H17
  iapply (wp_pad (defs := defs) 𝒱 bd d i arg17 (clsz w) (rowW i) x 5 (o 5) _ hx) $$ H17
  iintro H17
  iapply (wp_pad (defs := defs) 𝒱 bd d i arg17 (clsz w) (rowW i) x 6 (o 6) _ hx) $$ H17
  iintro H17
  iapply (wp_pad (defs := defs) 𝒱 bd d i arg17 (clsz w) (rowW i) x 7 (o 7) _ hx) $$ H17
  iintro H17
  iapply (run_done (defs := defs) 𝒱 bd d i)
  iapply Hk $$ %x %_ H17

/-! ## The tile's lists, from the index arrays -/

/-- What the tile holds to build its lists: the window and lists, the index arrays, the block of zeros, the copies' semaphores. -/
def headInv (ι : Ix) (O : CellTallies nD τ sig Ix) (W : Waits sig Ix) (q5 q4 q7 q6 q8 : PosShare TreeShare)
    (f5 : Buf (Elt F) (arg5.view.loc (thr d i))) (f4 : Buf (Elt F) (arg4.view.loc (thr d i)))
    (f7 : Buf (Elt F) (arg7.view.loc (thr d i))) (f6 : Buf (Elt F) (arg6.view.loc (thr d i))) (f8 : Buf (Elt F) (arg8.view.loc (thr d i))) : sProp 𝕄 :=
  iprop(□ MayWait (thr d i) (.dma v423_r0.sem) ι O ∗ □ MayWait (thr d i) (.dma v423_r1.sem) ι O ∗ □ MayWait (thr d i) (.dma v423_r2.sem) ι O
    ∗ □ MayWait (thr d i) (.dma v423_r3.sem) ι O ∗ □ MayWait (thr d i) (.dma v420_r4.sem) ι O
    ∗ words d i arg10 (fun _ => True) ∗ words d i arg11 (fun _ => True) ∗ words d i arg12 (fun _ => True)
    ∗ (arg5.view.loc (thr d i) ↦[Finset.univ]{q5} f5) ∗ (arg4.view.loc (thr d i) ↦[Finset.univ]{q4} f4)
    ∗ (arg7.view.loc (thr d i) ↦[Finset.univ]{q7} f7) ∗ (arg6.view.loc (thr d i) ↦[Finset.univ]{q6} f6)
    ∗ (arg8.view.loc (thr d i) ↦[Finset.univ]{q8} f8)
    ∗ semVal (thr d i, SemLoc.dma v423_r0.sem) 0 ∗ semVal (thr d i, SemLoc.dma v423_r1.sem) 0 ∗ semVal (thr d i, SemLoc.dma v423_r2.sem) 0
    ∗ semVal (thr d i, SemLoc.dma v423_r3.sem) 0 ∗ semVal (thr d i, SemLoc.dma v420_r4.sem) 0 ∗ waited d i ι O W)

/-- FROM THE INDEX ARRAYS TO THE LISTS: the window of winners, then its rows sorted by where they come from. -/
theorem part22_wp (EC : UEmb Counters 𝕄) [EC.LandsIn (upEmb : UEmb _ 𝕄)] (tt gg : ℕ → BitVec 32) (htt : ∀ k, (tt k).toNat < 200000)
    (ι : Ix) (O : CellTallies nD τ sig Ix) (W : Waits sig Ix) (q5 q4 q7 q6 q8 : PosShare TreeShare)
    (f5 : Buf (Elt F) (arg5.view.loc (thr d i))) (f4 : Buf (Elt F) (arg4.view.loc (thr d i)))
    (f7 : Buf (Elt F) (arg7.view.loc (thr d i))) (f6 : Buf (Elt F) (arg6.view.loc (thr d i))) (f8 : Buf (Elt F) (arg8.view.loc (thr d i)))
    (h5 : ∀ k < 100000, farW d i arg5 f5 k = tt k) (h4 : ∀ k < 100000, farW d i arg4 f4 k = gg k)
    (h7 : ∀ k < 100000, farW d i arg7 f7 k = tt (100000 + k)) (h6 : ∀ k, farW d i arg6 f6 k + 200000#32 = gg (100000 + k))
    (hw : ∀ p, w p = winW tt gg 200000 (base i + p))
    (c8 : k0_chk8 (BitVec.ofNat 32 (Nat.count (clsz w) 6250))) (c7 : k0_chk7 (BitVec.ofNat 32 (Nat.count (cls1 w) 6250)))
    (c6 : k0_chk6 (BitVec.ofNat 32 (Nat.count (cls0 w) 6250)))
    {Q : _ → sProp 𝕄} :
    iprop(headInv (Ix := Ix) (Name := Name) (U := U) (Lvl := Lvl) d i arg4 arg5 arg6 arg7 arg8 arg10 arg11 arg12 v423_r0 v423_r1 v423_r2 v423_r3 v420_r4 ι O W q5 q4 q7 q6 q8 f5 f4 f7 f6 f8
        ∗ words d i arg13 (fun _ => True) ∗ words d i arg14 (fun _ => True) ∗ words d i arg15 (fun _ => True) ∗ words d i arg16 (fun _ => True)
        ∗ words d i arg17 (fun _ => True) ∗ ∃ fz, arg19.view.loc (thr d i) ↦[Finset.univ]{fullShare} fz)
      ⊢ iprop((∀ (v17 : IVec S16 32) (v19 : Vec F S16 .i32) (x : BitVec 32), ⌜∀ z, v17 z = x⌝
          -∗ headInv (Ix := Ix) (Name := Name) (U := U) (Lvl := Lvl) d i arg4 arg5 arg6 arg7 arg8 arg10 arg11 arg12 v423_r0 v423_r1 v423_r2 v423_r3 v420_r4 ι O W q5 q4 q7 q6 q8 f5 f4 f7 f6 f8
          -∗ words d i arg13 (padP (cls0 w) w (v19 (ln 0)) 0) -∗ words d i arg14 (padP (cls0 w) (rowW i) x 0)
          -∗ words d i arg15 (listP (cls1 w) (lowW w) 6250) -∗ words d i arg16 (listP (cls1 w) (rowW i) 6250)
          -∗ words d i arg17 (listP (clsz w) (rowW i) 6250)
          -∗ (∃ fz, ⌜arg19.view.read (Elt F) fz = arg8.view.read (Elt F) f8⌝ ∗ arg19.view.loc (thr d i) ↦[Finset.univ]{fullShare} fz)
          -∗ Q ⟨BitVec.ofNat 32 (Nat.count (cls0 w) 6250), BitVec.ofNat 32 (Nat.count (cls1 w) 6250), BitVec.ofNat 32 (Nat.count (clsz w) 6250), c8, c7, c6, v17, k0_pay31, v19⟩)
        -∗ run 𝒱 bd d i defs (k0_part22 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4) Q) := by
  rw [k0_part22_eq_skeleton]
  unfold k0_part22_skel headInv
  dsimp only
  iintro ⟨⟨#M0, #M1, #M2, #M3, #M4, H, H11, H12, F5, F4, F7, F6, F8, S0, S1, S2, S3, S4, HO⟩, H13, H14, H15, H16, H17, ⟨%fz, HZ⟩⟩ Hk
  iapply (t1_loop (defs := defs) 𝒱 bd d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4) $$ H
  iintro H
  ihave H := (words_mono d i arg10 (P' := winP i tt gg (4000 * 0)) (fun u hu x hx => hu x (by omega))) $$ H
  iapply (Scf.wp_for_bind frame (wpE defs 𝒱 (thr d i) bd) Set.univ _ _ _ k0_t2_ok () (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4)
    (fun t _ => fillInv (Ix := Ix) (Name := Name) (U := U) (Lvl := Lvl) d i arg10 arg11 arg12 tt gg arg5 arg4 v423_r0.sem v423_r1.sem (4000 * t) f5 f4 q5 q4 ι O W)
    (fun t _ => t2_wp (defs := defs) 𝒱 bd d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 tt gg htt q5 q4 ι O W EC f5 f4 h5 h4 t)) $$ [H H11 H12 F5 F4 S0 S1 HO]
  · unfold fillInv
    isplitr; · iexact M0
    isplitr; · iexact M1
    isplitl [H]; · iexact H
    isplitl [H11]; · iexact H11
    isplitl [H12]; · iexact H12
    isplitl [F5]; · iexact F5
    isplitl [F4]; · iexact F4
    isplitl [S0]; · iexact S0
    isplitl [S1]; · iexact S1
    iexact HO
  unfold fillInv
  iintro %_ ⟨-, -, H, H11, H12, F5, F4, S0, S1, HO⟩
  ihave H := (words_mono d i arg10 (P' := winP i tt gg (100000 + 4000 * 0)) (fun u hu => by
    rwa [show 4000 * k0_t2_loop.trips = 100000 + 4000 * 0 by rw [trips2]] at hu)) $$ H
  iapply (Scf.wp_for_bind frame (wpE defs 𝒱 (thr d i) bd) Set.univ _ _ _ k0_t4_ok () (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4)
    (fun t _ => fillInv (Ix := Ix) (Name := Name) (U := U) (Lvl := Lvl) d i arg10 arg11 arg12 tt gg arg7 arg6 v423_r2.sem v423_r3.sem (100000 + 4000 * t) f7 f6 q7 q6 ι O W)
    (fun t _ => t4_wp (defs := defs) 𝒱 bd d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 tt gg htt q7 q6 ι O W EC f7 f6 h7 h6 t)) $$ [H H11 H12 F7 F6 S2 S3 HO]
  · unfold fillInv
    isplitr; · iexact M2
    isplitr; · iexact M3
    isplitl [H]; · iexact H
    isplitl [H11]; · iexact H11
    isplitl [H12]; · iexact H12
    isplitl [F7]; · iexact F7
    isplitl [F6]; · iexact F6
    isplitl [S2]; · iexact S2
    isplitl [S3]; · iexact S3
    iexact HO
  unfold fillInv
  iintro %_ ⟨-, -, H, H11, H12, F7, F6, S2, S3, HO⟩
  ihave H := (words_mono d i arg10 (P' := fun u => ∀ x < 6250, u x = w x) (fun u hu x hx => by
    rw [hu x hx, hw, show 100000 + 4000 * k0_t4_loop.trips = 200000 by rw [trips4]])) $$ H
  iapply (wp_fetch (defs := defs) 𝒱 bd d i arg8 arg19 v420_r4.sem EC (show 0 < S128x128.numel * 32 by decide) (Finset.subset_univ _) q8 f8 fz ι O W) $$ [F8 HZ S4 HO]
  · isplitr; · iexact M4
    isplitl [F8]; · iexact F8
    isplitl [HZ]; · iexact HZ
    isplitl [S4]; · iexact S4
    iexact HO
  iintro ⟨F8, HZ, S4, HO⟩
  iapply (Scf.wp_for_bind frame (wpE defs 𝒱 (thr d i) bd) Set.univ _ _ _ k0_t6_ok (0#32, 0#32, 0#32) (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 (baseW i) iotaV)
    (fun t acc => iprop(⌜acc = counts w (16 * t)⌝
      ∗ listsInv (Ix := Ix) (Name := Name) (U := U) (Lvl := Lvl) (F := F) d i arg10 arg13 arg14 arg15 arg16 arg17 w (16 * t)))
    (fun t acc => by
      iintro ⟨%he, H⟩
      subst he
      iapply (t6_wp (defs := defs) 𝒱 bd d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 w t) $$ H)) $$ [H H13 H14 H15 H16 H17]
  · unfold listsInv
    isplitr; · ipureintro; rfl
    isplitl [H]; · iexact H
    isplitl [H13]; · iapply (words_mono d i arg13 (fun _ _ p hp => absurd hp (Nat.not_lt_zero p))) $$ H13
    isplitl [H14]; · iapply (words_mono d i arg14 (fun _ _ p hp => absurd hp (Nat.not_lt_zero p))) $$ H14
    isplitl [H15]; · iapply (words_mono d i arg15 (fun _ _ p hp => absurd hp (Nat.not_lt_zero p))) $$ H15
    isplitl [H16]; · iapply (words_mono d i arg16 (fun _ _ p hp => absurd hp (Nat.not_lt_zero p))) $$ H16
    iapply (words_mono d i arg17 (fun _ _ p hp => absurd hp (Nat.not_lt_zero p))) $$ H17
  iintro %acc ⟨%ha, H⟩
  have ha' : acc = counts w 6250 := (ha.trans (congrArg (fun n => counts w (16 * n)) trips6)).trans (counts_top w)
  subst ha'
  unfold counts listsInv
  dsimp only
  icases H with ⟨H, H13, H14, H15, H16, H17⟩
  iapply (wp_check (defs := defs) 𝒱 bd d i c8)
  iapply (wp_check (defs := defs) 𝒱 bd d i c7)
  iapply (wp_check (defs := defs) 𝒱 bd d i c6)
  iapply (wp_loadKept (defs := defs) 𝒱 bd d i arg14 (o := 0) rfl _) $$ H14
  iintro %v13 H14
  iapply (wp_loadKept (defs := defs) 𝒱 bd d i arg13 (o := 0) rfl _) $$ H13
  iintro %v19 H13
  iapply (run_done (defs := defs) 𝒱 bd d i)
  iapply Hk $$ %_ %v19 %(v13 (ln 0)) %(pay30_eq (F := F) v13) [H H11 H12 F5 F4 F7 F6 F8 S0 S1 S2 S3 S4 HO] [H13] [H14] [H15] [H16] [H17] [HZ]
  · isplitr; · iexact M0
    isplitr; · iexact M1
    isplitr; · iexact M2
    isplitr; · iexact M3
    isplitr; · iexact M4
    isplitl [H]; · iapply (words_mono d i arg10 (fun _ _ => trivial)) $$ H
    isplitl [H11]; · iexact H11
    isplitl [H12]; · iexact H12
    isplitl [F5]; · iexact F5
    isplitl [F4]; · iexact F4
    isplitl [F7]; · iexact F7
    isplitl [F6]; · iexact F6
    isplitl [F8]; · iexact F8
    isplitl [S0]; · iexact S0
    isplitl [S1]; · iexact S1
    isplitl [S2]; · iexact S2
    isplitl [S3]; · iexact S3
    isplitl [S4]; · iexact S4
    iexact HO
  · iapply (words_mono d i arg13 (fun u hu => pad_start _ _ _ (fun p hp => hu.1 p (lt_of_lt_of_eq (show p < 16 * 391 by omega) (congrArg (16 * ·) trips6.symm))) (hu.2 0).symm)) $$ H13
  · iapply (words_mono d i arg14 (fun u hu => pad_start _ _ _ (fun p hp => hu.1 p (lt_of_lt_of_eq (show p < 16 * 391 by omega) (congrArg (16 * ·) trips6.symm))) (hu.2 0).symm)) $$ H14
  · iapply (words_mono d i arg15 (fun u hu p hp => hu p (lt_of_lt_of_eq (show p < 16 * 391 by omega) (congrArg (16 * ·) trips6.symm)))) $$ H15
  · iapply (words_mono d i arg16 (fun u hu p hp => hu p (lt_of_lt_of_eq (show p < 16 * 391 by omega) (congrArg (16 * ·) trips6.symm)))) $$ H16
  · iapply (words_mono d i arg17 (fun u hu p hp => hu p (lt_of_lt_of_eq (show p < 16 * 391 by omega) (congrArg (16 * ·) trips6.symm)))) $$ H17
  · iexists _
    isplitr
    rotate_left
    · iexact HZ
    ipureintro
    exact View.read_write_univ _ _

end bodies

end Cert.Proof
-- ==== Proof.Copy.lean ====
/-
  The rows of a list written: every row of the list's class takes its value, whatever the list's places and padding.
-/
module

public import proofs.«01_k».proof.Proof.Lists

@[expose] public section

set_option synthInstance.maxSize 4096

noncomputable section

namespace Cert.Proof

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Cert.KernelIdeal Cert.KernelIdeal.Gen
open Cert.Proof.Rows

variable {F : FTy → Type} [FloatOps F]
variable {Ix : Type} [DecidableEq Ix] {Name : Type} [DecidableEq Name] [Infinite Name]
variable {U : Type} [URA U] {Lvl : Type} [Preorder Lvl]
variable {defs : Defs nD τ sig (Elt F) Λ₀} (𝒱 : Variants) (bd : Option 𝒱.V)
variable (d : Dev nD) (i : grid0.Coords)

local notation "𝕄" => MT nD τ sig Ix (Elt F) Name U Lvl

/-- Every place a chunk of a padded list covers holds an entry of its class, in both of two lists alike. -/
theorem pad_entry (cls : ℕ → Prop) [DecidablePred cls] {valS valD : ℕ → BitVec 32} {x y : BitVec 32} {wS wD : ℕ → BitVec 32}
    (hS : padP cls valS y 8 wS) (hD : padP cls valD x 8 wD) {k : ℕ} (hk : k < 128 * chunks (Nat.count cls 6250)) :
    ∃ p < 6250, cls p ∧ wS k = valS p ∧ wD k = valD p := by
  by_cases hl : k < Nat.count cls 6250
  · obtain ⟨p, hp, hc, rfl⟩ := count_surj cls 6250 k hl
    exact ⟨p, hp, hc, hS.1 p hp hc, hD.1 p hp hc⟩
  · unfold chunks at hk
    obtain ⟨p, hp, hc, h0⟩ := count_surj cls 6250 0 (by omega)
    refine ⟨p, hp, hc, ?_, ?_⟩
    · rw [hS.2.2 k (by omega) (by omega), ← hS.2.1, ← h0]; exact hS.1 p hp hc
    · rw [hD.2.2 k (by omega) (by omega), ← hD.2.1, ← h0]; exact hD.1 p hp hc

theorem lst_eq (L : Memref sig .scVector .vmem S6528 .i32) (f : Buf (Elt F) (L.view.loc (thr d i))) {k : ℕ} (hk : k < 6528) :
    lst d i L f k = wd (L.view.read (Elt F) f) k := by
  unfold lst wd
  rw [dif_pos (show k < (![6528] : Fin 1 → ℕ) 0 from hk)]
  refine congrArg (L.view.read (Elt F) f) (funext fun a => Fin.ext ?_)
  have ha : a = 0 := Subsingleton.elim (α := Fin 1) a 0
  subst ha
  exact Nat.mod_eq_of_lt hk

theorem rowW_nat {p : ℕ} (hp : p < 6250) : (rowW i p).toNat = base i + p := by
  have := base_lt i
  unfold rowW
  rw [BitVec.toNat_ofNat]; omega

theorem covers_lt {n k : ℕ} (hn : n ≤ 6250) (hk : k < 128 * chunks n) : k < 6528 := by unfold chunks at hk; omega

variable (emb : UEmb (WmRA nD τ sig (Elt F)) U) (ιwm : Name)

/-- The output's elements marked so far satisfy `C`. -/
def covered (dst : Memref sig .scVector .hbm S200000x128 .f32) (f₀ : Buf (Elt F) (dst.view.loc (thr d i))) (g : Tgt (Elt F) (dst.view.loc (thr d i)))
    (qw : PosShare TreeShare) (C : Finset (Idx (dst.view.loc (thr d i))) → Prop) : sProp 𝕄 :=
  iprop(∃ Mk, ⌜C Mk⌝ ∗ willBeTo (Ix := Ix) emb (dst.view.loc (thr d i)) Finset.univ qw f₀ g Mk)

section copying

variable (src dst : Memref sig .scVector .hbm S200000x128 .f32) (Ls Ld : Memref sig .scVector .vmem S6528 .i32)
variable (rb : Memref sig .scVector .vmem S512x128 .f32) (sg ss : DmaSem sig)
variable (cls : ℕ → Prop) [DecidablePred cls] (valS : ℕ → BitVec 32)

/-- What the loops over a copied list hold. -/
def copyRes (x y : BitVec 32) (fa : Buf (Elt F) (src.view.loc (thr d i))) (qa : PosShare TreeShare)
    (f₀ : Buf (Elt F) (dst.view.loc (thr d i))) (g : Tgt (Elt F) (dst.view.loc (thr d i))) (qw : PosShare TreeShare)
    (ι : Ix) (O : CellTallies nD τ sig Ix) (W : Waits sig Ix) (C : Finset (Idx (dst.view.loc (thr d i))) → Prop) : sProp 𝕄 :=
  iprop(wmInv emb ιwm ∗ □ MayWait (thr d i) (.dma sg) ι O ∗ □ MayWait (thr d i) (.dma ss) ι O
    ∗ (∃ fd, rb.view.loc (thr d i) ↦[Finset.univ]{fullShare} fd)
    ∗ words d i Ls (padP cls valS y 8) ∗ words d i Ld (padP cls (rowW i) x 8)
    ∗ (src.view.loc (thr d i) ↦[Finset.univ]{qa} fa)
    ∗ covered (Ix := Ix) (Name := Name) (U := U) (Lvl := Lvl) d i emb dst f₀ g qw C
    ∗ semVal (thr d i, SemLoc.dma sg) 0 ∗ semVal (thr d i, SemLoc.dma ss) 0 ∗ waited (Name := Name) (U := U) (Lvl := Lvl) d i ι O W)

/-- A LIST COPIED: every row of its class takes the row its value names. -/
theorem copyList_wp (EC : UEmb Counters 𝕄) [EC.LandsIn (upEmb : UEmb _ 𝕄)] (hcls : ∀ p, cls p → p < 6250) (x y : BitVec 32)
    (fa : Buf (Elt F) (src.view.loc (thr d i))) (qa : PosShare TreeShare)
    (f₀ : Buf (Elt F) (dst.view.loc (thr d i))) (g : Tgt (Elt F) (dst.view.loc (thr d i))) (qw : PosShare TreeShare)
    (hS : ∀ p, cls p → (valS p).toNat < 200000)
    (hv : ∀ p, cls p → ∀ ch u, dst.view.read (fun e => Option (Elt F e)) g (six (base i + p) ch) = some u →
      src.view.read (Elt F) fa (six (valS p).toNat ch) = u)
    (ι : Ix) (O : CellTallies nD τ sig Ix) (W : Waits sig Ix) (C : Finset (Idx (dst.view.loc (thr d i))) → Prop) (hC : ∀ M M', M ⊆ M' → C M → C M')
    (ok : (groupLoop (BitVec.ofNat 32 (Nat.count cls 6250))).OK)
    (body : Fin (groupLoop (BitVec.ofNat 32 (Nat.count cls 6250))).trips → Unit → TileProg (F := F) i Unit)
    (hb : ∀ (t : Fin (groupLoop (BitVec.ofNat 32 (Nat.count cls 6250))).trips) (hin : ChunksIn (BitVec.ofNat 32 (Nat.count cls 6250)) t.val),
      body t () = copyGroup i (BitVec.ofNat 32 (Nat.count cls 6250)) t.val hin src dst Ls Ld rb sg ss)
    (ok' : (tailLoop (BitVec.ofNat 32 (Nat.count cls 6250))).OK)
    (body' : Fin (tailLoop (BitVec.ofNat 32 (Nat.count cls 6250))).trips → Unit → TileProg (F := F) i Unit)
    {β : Type} {K : TileProg (F := F) i β} {Q : β → sProp 𝕄} :
    copyRes (Ix := Ix) (Name := Name) (U := U) (Lvl := Lvl) d i emb ιwm src dst Ls Ld rb sg ss cls valS x y fa qa f₀ g qw ι O W C
      ⊢ iprop((copyRes (Ix := Ix) (Name := Name) (U := U) (Lvl := Lvl) d i emb ιwm src dst Ls Ld rb sg ss cls valS x y fa qa f₀ g qw ι O W
              (fun M => C M ∧ ∀ p, cls p → farRow d i dst (base i + p) ⊆ M)
            -∗ run 𝒱 bd d i defs K Q)
        -∗ run 𝒱 bd d i defs (Scf.Loop.for (groupLoop (BitVec.ofNat 32 (Nat.count cls 6250))) ok () body >>= fun _ =>
            Scf.Loop.for (tailLoop (BitVec.ofNat 32 (Nat.count cls 6250))) ok' () body' >>= fun _ => K) Q) := by
  have hn : Nat.count cls 6250 ≤ 6250 := count_le cls hcls 6250
  unfold copyRes words covered
  iintro ⟨#HI, #Mg, #Ms, HR, ⟨%fs, %hfs, HLs⟩, ⟨%fo, %hfo, HLd⟩, Ha, ⟨%Mk, %hMk, HW⟩, Sg, Ss, HO⟩ Hk
  have ent : ∀ k < 128 * chunks (Nat.count cls 6250), ∃ p < 6250, cls p ∧ lst d i Ls fs k = valS p ∧ (lst d i Ld fo k).toNat = base i + p := fun k hk => by
    obtain ⟨p, hp, hc, h1, h2⟩ := pad_entry cls hfs hfo hk
    have hk' := covers_lt hn hk
    refine ⟨p, hp, hc, (lst_eq d i Ls fs hk').trans h1, ?_⟩
    rw [lst_eq d i Ld fo hk', h2, rowW_nat i hp]
  iapply (copyLoop_wp (defs := defs) 𝒱 bd d i emb ιwm src dst Ls Ld rb sg ss EC hn fs fo fa qa f₀ g qw
    (fun k hk => by obtain ⟨p, _, hc, h1, _⟩ := ent k hk; rw [h1]; exact hS p hc)
    (fun k hk => by obtain ⟨p, hp, _, _, h2⟩ := ent k hk; have := base_lt i; omega)
    (fun k hk ch u hu => by obtain ⟨p, _, hc, h1, h2⟩ := ent k hk; rw [h2] at hu; rw [h1]; exact hv p hc ch u hu)
    Mk ι O W ok body hb ok' body') $$ [HR HLs HLd Ha HW Sg Ss HO]
  · unfold copyInv marked
    isplitr; · iexact HI
    isplitr; · iexact Mg
    isplitr; · iexact Ms
    isplitl [HR]; · iexact HR
    isplitl [HLs]; · iexact HLs
    isplitl [HLd]; · iexact HLd
    isplitl [Ha]; · iexact Ha
    isplitl [HW]
    · iexists Mk
      isplitr
      · ipureintro
        exact ⟨Finset.Subset.refl _, fun k _ hk => absurd hk (by omega)⟩
      iexact HW
    isplitl [Sg]; · iexact Sg
    isplitl [Ss]; · iexact Ss
    iexact HO
  unfold copyInv marked
  iintro ⟨-, -, -, HR, HLs, HLd, Ha, ⟨%Mk', %hMk', HW⟩, Sg, Ss, HO⟩
  iapply Hk
  isplitr; · iexact HI
  isplitr; · iexact Mg
  isplitr; · iexact Ms
  isplitl [HR]; · iexact HR
  isplitl [HLs]
  · iexists fs
    isplitr; · ipureintro; exact hfs
    iexact HLs
  isplitl [HLd]
  · iexists fo
    isplitr; · ipureintro; exact hfo
    iexact HLd
  isplitl [Ha]; · iexact Ha
  isplitl [HW]
  · iexists Mk'
    isplitr
    · ipureintro
      refine ⟨hC _ _ hMk'.1 hMk, fun p hc => ?_⟩
      have hp := hcls p hc
      have hlt : Nat.count cls p < Nat.count cls 6250 := Nat.count_strict_mono hc hp
      have h1 : Nat.count cls p < 128 * chunks (Nat.count cls 6250) := by unfold chunks; omega
      have := hMk'.2 (Nat.count cls p) h1 (by unfold groups; omega)
      rwa [lst_eq d i Ld fo (covers_lt hn h1), hfo.1 p hp hc, rowW_nat i hp] at this
    iexact HW
  isplitl [Sg]; · iexact Sg
  isplitl [Ss]; · iexact Ss
  iexact HO

end copying

section zeroing

variable (dst : Memref sig .scVector .hbm S200000x128 .f32) (Ld : Memref sig .scVector .vmem S6528 .i32)
variable (zb : Memref sig .scVector .vmem S128x128 .f32) (ss : DmaSem sig)
variable (cls : ℕ → Prop) [DecidablePred cls]

/-- What the loops over a zeroed list hold. -/
def zeroRes (x : BitVec 32) (fz : Buf (Elt F) (zb.view.loc (thr d i)))
    (f₀ : Buf (Elt F) (dst.view.loc (thr d i))) (g : Tgt (Elt F) (dst.view.loc (thr d i))) (qw : PosShare TreeShare)
    (ι : Ix) (O : CellTallies nD τ sig Ix) (W : Waits sig Ix) (C : Finset (Idx (dst.view.loc (thr d i))) → Prop) : sProp 𝕄 :=
  iprop(wmInv emb ιwm ∗ □ MayWait (thr d i) (.dma ss) ι O
    ∗ (zb.view.loc (thr d i) ↦[Finset.univ]{fullShare} fz) ∗ words d i Ld (padP cls (rowW i) x 8)
    ∗ covered (Ix := Ix) (Name := Name) (U := U) (Lvl := Lvl) d i emb dst f₀ g qw C
    ∗ semVal (thr d i, SemLoc.dma ss) 0 ∗ waited (Name := Name) (U := U) (Lvl := Lvl) d i ι O W)

/-- A LIST ZEROED: every row of its class takes the block's row. -/
theorem zeroList_wp (EC : UEmb Counters 𝕄) [EC.LandsIn (upEmb : UEmb _ 𝕄)] (hcls : ∀ p, cls p → p < 6250) (x : BitVec 32)
    (fz : Buf (Elt F) (zb.view.loc (thr d i)))
    (f₀ : Buf (Elt F) (dst.view.loc (thr d i))) (g : Tgt (Elt F) (dst.view.loc (thr d i))) (qw : PosShare TreeShare)
    (hv : ∀ p, cls p → ∀ ch u, dst.view.read (fun e => Option (Elt F e)) g (six (base i + p) ch) = some u →
      ∀ r, zb.view.read (Elt F) fz (oix r ch) = u)
    (ι : Ix) (O : CellTallies nD τ sig Ix) (W : Waits sig Ix) (C : Finset (Idx (dst.view.loc (thr d i))) → Prop) (hC : ∀ M M', M ⊆ M' → C M → C M')
    (ok : (groupLoop (BitVec.ofNat 32 (Nat.count cls 6250))).OK)
    (body : Fin (groupLoop (BitVec.ofNat 32 (Nat.count cls 6250))).trips → Unit → TileProg (F := F) i Unit)
    (hb : ∀ (t : Fin (groupLoop (BitVec.ofNat 32 (Nat.count cls 6250))).trips) (hin : ChunksIn (BitVec.ofNat 32 (Nat.count cls 6250)) t.val),
      body t () = zeroGroup i (BitVec.ofNat 32 (Nat.count cls 6250)) t.val hin zb dst Ld ss)
    (ok' : (tailLoop (BitVec.ofNat 32 (Nat.count cls 6250))).OK)
    (body' : Fin (tailLoop (BitVec.ofNat 32 (Nat.count cls 6250))).trips → Unit → TileProg (F := F) i Unit)
    {β : Type} {K : TileProg (F := F) i β} {Q : β → sProp 𝕄} :
    zeroRes (Ix := Ix) (Name := Name) (U := U) (Lvl := Lvl) d i emb ιwm dst Ld zb ss cls x fz f₀ g qw ι O W C
      ⊢ iprop((zeroRes (Ix := Ix) (Name := Name) (U := U) (Lvl := Lvl) d i emb ιwm dst Ld zb ss cls x fz f₀ g qw ι O W
              (fun M => C M ∧ ∀ p, cls p → farRow d i dst (base i + p) ⊆ M)
            -∗ run 𝒱 bd d i defs K Q)
        -∗ run 𝒱 bd d i defs (Scf.Loop.for (groupLoop (BitVec.ofNat 32 (Nat.count cls 6250))) ok () body >>= fun _ =>
            Scf.Loop.for (tailLoop (BitVec.ofNat 32 (Nat.count cls 6250))) ok' () body' >>= fun _ => K) Q) := by
  have hn : Nat.count cls 6250 ≤ 6250 := count_le cls hcls 6250
  unfold zeroRes words covered
  iintro ⟨#HI, #Ms, HZ, ⟨%fo, %hfo, HLd⟩, ⟨%Mk, %hMk, HW⟩, Ss, HO⟩ Hk
  have ent : ∀ k < 128 * chunks (Nat.count cls 6250), ∃ p < 6250, cls p ∧ (lst d i Ld fo k).toNat = base i + p := fun k hk => by
    obtain ⟨p, hp, hc, _, h2⟩ := pad_entry cls hfo hfo hk
    refine ⟨p, hp, hc, ?_⟩
    rw [lst_eq d i Ld fo (covers_lt hn hk), h2, rowW_nat i hp]
  iapply (zeroLoop_wp (defs := defs) 𝒱 bd d i emb ιwm dst Ld zb ss EC hn fz fo f₀ g qw
    (fun k hk => by obtain ⟨p, hp, _, h2⟩ := ent k hk; have := base_lt i; omega)
    (fun k hk ch u hu => by obtain ⟨p, _, hc, h2⟩ := ent k hk; rw [h2] at hu; exact hv p hc ch u hu)
    Mk ι O W ok body hb ok' body') $$ [HZ HLd HW Ss HO]
  · unfold zeroInv marked
    isplitr; · iexact HI
    isplitr; · iexact Ms
    isplitl [HZ]; · iexact HZ
    isplitl [HLd]; · iexact HLd
    isplitl [HW]
    · iexists Mk
      isplitr
      · ipureintro
        exact ⟨Finset.Subset.refl _, fun k _ hk => absurd hk (by omega)⟩
      iexact HW
    isplitl [Ss]; · iexact Ss
    iexact HO
  unfold zeroInv marked
  iintro ⟨-, -, HZ, HLd, ⟨%Mk', %hMk', HW⟩, Ss, HO⟩
  iapply Hk
  isplitr; · iexact HI
  isplitr; · iexact Ms
  isplitl [HZ]; · iexact HZ
  isplitl [HLd]
  · iexists fo
    isplitr; · ipureintro; exact hfo
    iexact HLd
  isplitl [HW]
  · iexists Mk'
    isplitr
    · ipureintro
      refine ⟨hC _ _ hMk'.1 hMk, fun p hc => ?_⟩
      have hp := hcls p hc
      have hlt : Nat.count cls p < Nat.count cls 6250 := Nat.count_strict_mono hc hp
      have h1 : Nat.count cls p < 128 * chunks (Nat.count cls 6250) := by unfold chunks; omega
      have := hMk'.2 (Nat.count cls p) h1 (by unfold groups; omega)
      rwa [lst_eq d i Ld fo (covers_lt hn h1), hfo.1 p hp hc, rowW_nat i hp] at this
    iexact HW
  isplitl [Ss]; · iexact Ss
  iexact HO

end zeroing

end Cert.Proof
-- ==== Proof.Tile.lean ====
/-
  The tile's program: its lists from the index arrays, then both layers of its rows.
-/
module

public import proofs.«01_k».proof.Proof.Copy
public import proofs.«01_k».proof.Proof.Body

@[expose] public section

set_option synthInstance.maxSize 4096

noncomputable section

namespace Cert.Proof

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Cert.KernelIdeal Cert.KernelIdeal.Gen
open Cert.Proof.Rows

variable {F : FTy → Type} [FloatOps F]
variable {Ix : Type} [DecidableEq Ix] {Name : Type} [DecidableEq Name] [Infinite Name]
variable {U : Type} [URA U] {Lvl : Type} [Preorder Lvl]
variable {defs : Defs nD τ sig (Elt F) Λ₀} (𝒱 : Variants) (bd : Option 𝒱.V)
variable (d : Dev nD)

local notation "𝕄" => MT nD τ sig Ix (Elt F) Name U Lvl

/-- A program followed by another. -/
theorem run_bind (i : grid0.Coords) {α β : Type} {p : TileProg (F := F) i α} {k : α → TileProg (F := F) i β} {Q : β → sProp 𝕄} :
    run 𝒱 bd d i defs p (fun a => run 𝒱 bd d i defs (k a) Q) ⊢ run 𝒱 bd d i defs (p >>= k) Q := by
  unfold run
  rw [wp_bind]

section bodies

variable (i : grid0.Coords)
  (arg2 : Memref sig .scVector .hbm S2x200000x128 .f32) (harg2 : arg2.IsWhole) (arg3 : Memref sig .scVector .hbm S2x200000x128 .f32)
  (harg3 : arg3.IsWhole) (arg4 : Memref sig .scVector .hbm S100000 .i32) (harg4 : arg4.IsWhole)
  (arg5 : Memref sig .scVector .hbm S100000 .i32) (harg5 : arg5.IsWhole) (arg6 : Memref sig .scVector .hbm S100000 .i32)
  (harg6 : arg6.IsWhole) (arg7 : Memref sig .scVector .hbm S100000 .i32) (harg7 : arg7.IsWhole)
  (arg8 : Memref sig .scVector .hbm S128x128 .f32) (harg8 : arg8.IsWhole) (arg9 : Memref sig .scVector .hbm S2x200000x128 .f32)
  (harg9 : arg9.IsWhole) (arg10 : Memref sig .scVector .vmem S6256 .i32) (harg10 : arg10.IsWhole)
  (arg11 : Memref sig .scVector .vmem S4000 .i32) (harg11 : arg11.IsWhole) (arg12 : Memref sig .scVector .vmem S4000 .i32)
  (harg12 : arg12.IsWhole) (arg13 : Memref sig .scVector .vmem S6528 .i32) (harg13 : arg13.IsWhole)
  (arg14 : Memref sig .scVector .vmem S6528 .i32) (harg14 : arg14.IsWhole) (arg15 : Memref sig .scVector .vmem S6528 .i32)
  (harg15 : arg15.IsWhole) (arg16 : Memref sig .scVector .vmem S6528 .i32) (harg16 : arg16.IsWhole)
  (arg17 : Memref sig .scVector .vmem S6528 .i32) (harg17 : arg17.IsWhole) (arg18 : Memref sig .scVector .vmem S512x128 .f32)
  (harg18 : arg18.IsWhole) (arg19 : Memref sig .scVector .vmem S128x128 .f32) (harg19 : arg19.IsWhole) (arg20 : DmaSems sig S_)
  (arg21 : DmaSems sig S_) (v423_r0 : DmaSems sig S_) (v423_r1 : DmaSems sig S_) (v423_r2 : DmaSems sig S_)
  (v423_r3 : DmaSems sig S_) (v420_r4 : DmaSems sig S_)

variable (w : ℕ → BitVec 32) (emb : UEmb (WmRA nD τ sig (Elt F)) U) (ιwm : Name)
variable (f₀ : Buf (Elt F) (arg9.view.loc (thr d i))) (g : Tgt (Elt F) (arg9.view.loc (thr d i))) (qw : PosShare TreeShare)
variable (ι : Ix) (O : CellTallies nD τ sig Ix) (W : Waits sig Ix) (C : Finset (Idx (arg9.view.loc (thr d i))) → Prop)

/-- The rows of a class of layer `l`. -/
abbrev RowsIn (l : ℕ) (hl : ∀ a, (![l, 0, 0] : Fin 3 → Nat) a + S1x200000x128.size a ≤ S2x200000x128.size a) (cls : ℕ → Prop)
    (M : Finset (Idx (arg9.view.loc (thr d i)))) : Prop :=
  ∀ p, cls p → farRow d i (layerOf arg9 l hl) (base i + p) ⊆ M

/-- The target of a class's rows in layer `l` is what an array's layer gives at the rows the values name. -/
def Gives (l : ℕ) (hl : ∀ a, (![l, 0, 0] : Fin 3 → Nat) a + S1x200000x128.size a ≤ S2x200000x128.size a) (a : Memref sig .scVector .hbm S2x200000x128 .f32)
    (fa : Buf (Elt F) (a.view.loc (thr d i))) (cls : ℕ → Prop) (val : ℕ → BitVec 32) : Prop :=
  ∀ p, cls p → ∀ ch u, (layerOf arg9 l hl).view.read (fun e => Option (Elt F e)) g (six (base i + p) ch) = some u →
    (layerOf a l hl).view.read (Elt F) fa (six (val p).toNat ch) = u

/-- The target of the rows no pair names is what a block gives. -/
def GivesZ (l : ℕ) (hl : ∀ a, (![l, 0, 0] : Fin 3 → Nat) a + S1x200000x128.size a ≤ S2x200000x128.size a)
    (fz : Buf (Elt F) (arg19.view.loc (thr d i))) (cls : ℕ → Prop) : Prop :=
  ∀ p, cls p → ∀ ch u, (layerOf arg9 l hl).view.read (fun e => Option (Elt F e)) g (six (base i + p) ch) = some u →
    ∀ r, arg19.view.read (Elt F) fz (oix r ch) = u

/-- Layer 0, rows of the first array. -/
theorem part27_wp (EC : UEmb Counters 𝕄) [EC.LandsIn (upEmb : UEmb _ 𝕄)] (x y : BitVec 32) (fa : Buf (Elt F) (arg2.view.loc (thr d i))) (qa : PosShare TreeShare)
    (hv : Gives d i arg9 g 0 inb_S2x200000x128_S1x200000x128_0_0_0 arg2 fa (cls0 w) w)
    (hC : ∀ M M', M ⊆ M' → C M → C M') (c : BitVec 32) (hw6) (v163 v128 v164 v166 v168 : BitVec 32)
    {Q : _ → sProp 𝕄} :
    copyRes (Ix := Ix) (Name := Name) (U := U) (Lvl := Lvl) d i emb ιwm (layerOf arg2 0 inb_S2x200000x128_S1x200000x128_0_0_0) (layerOf arg9 0 inb_S2x200000x128_S1x200000x128_0_0_0) arg13 arg14 arg18 arg20.sem arg21.sem (cls0 w) w x y fa qa f₀ g qw ι O W C
      ⊢ iprop((∀ r, copyRes (Ix := Ix) (Name := Name) (U := U) (Lvl := Lvl) d i emb ιwm (layerOf arg2 0 inb_S2x200000x128_S1x200000x128_0_0_0) (layerOf arg9 0 inb_S2x200000x128_S1x200000x128_0_0_0) arg13 arg14 arg18 arg20.sem arg21.sem (cls0 w) w x y fa qa f₀ g qw ι O W (fun M => C M ∧ RowsIn d i arg9 0 inb_S2x200000x128_S1x200000x128_0_0_0 (cls0 w) M) -∗ Q r)
        -∗ run 𝒱 bd d i defs (k0_part27 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 (BitVec.ofNat 32 (Nat.count (cls0 w) 6250)) c hw6 v163 v128 v164 v166 v168) Q) := by
  rw [k0_part27_eq_skeleton]
  unfold k0_part27_skel
  iintro H Hk
  iapply (copyList_wp (defs := defs) 𝒱 bd d i emb ιwm (layerOf arg2 0 inb_S2x200000x128_S1x200000x128_0_0_0) (layerOf arg9 0 inb_S2x200000x128_S1x200000x128_0_0_0) arg13 arg14 arg18 arg20.sem arg21.sem (cls0 w) w EC (fun _ h => h.1) x y fa qa f₀ g qw (fun _ h => h.2) hv ι O W C hC
    _ _ (fun t hin => t7_body_eq (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 _ _ hw6 _ _ _ _ _ _ t hin) _ _) $$ H
  iintro H
  iapply (run_done (defs := defs) 𝒱 bd d i)
  iapply Hk
  iexact H

/-- Layer 0, rows of the second array. -/
theorem part29_wp (EC : UEmb Counters 𝕄) [EC.LandsIn (upEmb : UEmb _ 𝕄)] (x y : BitVec 32) (fa : Buf (Elt F) (arg3.view.loc (thr d i))) (qa : PosShare TreeShare) (hlow : ∀ p, cls1 w p → (lowW w p).toNat < 200000)
    (hv : Gives d i arg9 g 0 inb_S2x200000x128_S1x200000x128_0_0_0 arg3 fa (cls1 w) (lowW w))
    (hC : ∀ M M', M ⊆ M' → C M → C M') (c : BitVec 32) (hw7) (v1 v2 v3 : BitVec 32)
    {Q : _ → sProp 𝕄} :
    copyRes (Ix := Ix) (Name := Name) (U := U) (Lvl := Lvl) d i emb ιwm (layerOf arg3 0 inb_S2x200000x128_S1x200000x128_0_0_0) (layerOf arg9 0 inb_S2x200000x128_S1x200000x128_0_0_0) arg15 arg16 arg18 arg20.sem arg21.sem (cls1 w) (lowW w) x y fa qa f₀ g qw ι O W C
      ⊢ iprop((∀ r, copyRes (Ix := Ix) (Name := Name) (U := U) (Lvl := Lvl) d i emb ιwm (layerOf arg3 0 inb_S2x200000x128_S1x200000x128_0_0_0) (layerOf arg9 0 inb_S2x200000x128_S1x200000x128_0_0_0) arg15 arg16 arg18 arg20.sem arg21.sem (cls1 w) (lowW w) x y fa qa f₀ g qw ι O W (fun M => C M ∧ RowsIn d i arg9 0 inb_S2x200000x128_S1x200000x128_0_0_0 (cls1 w) M) -∗ Q r)
        -∗ run 𝒱 bd d i defs (k0_part29 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 (BitVec.ofNat 32 (Nat.count (cls1 w) 6250)) c hw7 v1 v2 v3) Q) := by
  rw [k0_part29_eq_skeleton]
  unfold k0_part29_skel
  iintro H Hk
  iapply (copyList_wp (defs := defs) 𝒱 bd d i emb ιwm (layerOf arg3 0 inb_S2x200000x128_S1x200000x128_0_0_0) (layerOf arg9 0 inb_S2x200000x128_S1x200000x128_0_0_0) arg15 arg16 arg18 arg20.sem arg21.sem (cls1 w) (lowW w) EC (fun _ h => h.1) x y fa qa f₀ g qw hlow hv ι O W C hC
    _ _ (fun t hin => t9_body_eq (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 _ _ hw7 _ _ _ t hin) _ _) $$ H
  iintro H
  iapply (run_done (defs := defs) 𝒱 bd d i)
  iapply Hk
  iexact H

/-- Layer 0, rows of zeros. -/
theorem part30_wp (EC : UEmb Counters 𝕄) [EC.LandsIn (upEmb : UEmb _ 𝕄)] (x : BitVec 32) (fz : Buf (Elt F) (arg19.view.loc (thr d i)))
    (hv : GivesZ d i arg9 arg19 g 0 inb_S2x200000x128_S1x200000x128_0_0_0 fz (clsz w))
    (hC : ∀ M M', M ⊆ M' → C M → C M') (c : BitVec 32) (hw8) (v1 v2 : BitVec 32)
    {Q : _ → sProp 𝕄} :
    zeroRes (Ix := Ix) (Name := Name) (U := U) (Lvl := Lvl) d i emb ιwm (layerOf arg9 0 inb_S2x200000x128_S1x200000x128_0_0_0) arg17 arg19 arg21.sem (clsz w) x fz f₀ g qw ι O W C
      ⊢ iprop((∀ r, zeroRes (Ix := Ix) (Name := Name) (U := U) (Lvl := Lvl) d i emb ιwm (layerOf arg9 0 inb_S2x200000x128_S1x200000x128_0_0_0) arg17 arg19 arg21.sem (clsz w) x fz f₀ g qw ι O W (fun M => C M ∧ RowsIn d i arg9 0 inb_S2x200000x128_S1x200000x128_0_0_0 (clsz w) M) -∗ Q r)
        -∗ run 𝒱 bd d i defs (k0_part30 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 c (BitVec.ofNat 32 (Nat.count (clsz w) 6250)) hw8 v1 v2) Q) := by
  rw [k0_part30_eq_skeleton]
  unfold k0_part30_skel
  iintro H Hk
  iapply (zeroList_wp (defs := defs) 𝒱 bd d i emb ιwm (layerOf arg9 0 inb_S2x200000x128_S1x200000x128_0_0_0) arg17 arg19 arg21.sem (clsz w) EC (fun _ h => h.1) x fz f₀ g qw hv ι O W C hC
    _ _ (fun t hin => t11_body_eq (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 _ _ hw8 _ _ t hin) _ _) $$ H
  iintro H
  iapply (run_done (defs := defs) 𝒱 bd d i)
  iapply Hk
  iexact H

/-- Layer 1, rows of the first array. -/
theorem part31_wp (EC : UEmb Counters 𝕄) [EC.LandsIn (upEmb : UEmb _ 𝕄)] (x y : BitVec 32) (fa : Buf (Elt F) (arg2.view.loc (thr d i))) (qa : PosShare TreeShare)
    (hv : Gives d i arg9 g 1 inb_S2x200000x128_S1x200000x128_1_0_0 arg2 fa (cls0 w) w)
    (hC : ∀ M M', M ⊆ M' → C M → C M') (c : BitVec 32) (hw6) (v1 v2 v3 v4 v5 v6 : BitVec 32)
    {Q : _ → sProp 𝕄} :
    copyRes (Ix := Ix) (Name := Name) (U := U) (Lvl := Lvl) d i emb ιwm (layerOf arg2 1 inb_S2x200000x128_S1x200000x128_1_0_0) (layerOf arg9 1 inb_S2x200000x128_S1x200000x128_1_0_0) arg13 arg14 arg18 arg20.sem arg21.sem (cls0 w) w x y fa qa f₀ g qw ι O W C
      ⊢ iprop((∀ r, copyRes (Ix := Ix) (Name := Name) (U := U) (Lvl := Lvl) d i emb ιwm (layerOf arg2 1 inb_S2x200000x128_S1x200000x128_1_0_0) (layerOf arg9 1 inb_S2x200000x128_S1x200000x128_1_0_0) arg13 arg14 arg18 arg20.sem arg21.sem (cls0 w) w x y fa qa f₀ g qw ι O W (fun M => C M ∧ RowsIn d i arg9 1 inb_S2x200000x128_S1x200000x128_1_0_0 (cls0 w) M) -∗ Q r)
        -∗ run 𝒱 bd d i defs (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 (BitVec.ofNat 32 (Nat.count (cls0 w) 6250)) c hw6 v1 v2 v3 v4 v5 v6) Q) := by
  rw [k0_part31_eq_skeleton]
  unfold k0_part31_skel
  iintro H Hk
  iapply (copyList_wp (defs := defs) 𝒱 bd d i emb ιwm (layerOf arg2 1 inb_S2x200000x128_S1x200000x128_1_0_0) (layerOf arg9 1 inb_S2x200000x128_S1x200000x128_1_0_0) arg13 arg14 arg18 arg20.sem arg21.sem (cls0 w) w EC (fun _ h => h.1) x y fa qa f₀ g qw (fun _ h => h.2) hv ι O W C hC
    _ _ (fun t hin => t13_body_eq (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 _ _ hw6 _ _ _ _ _ _ t hin) _ _) $$ H
  iintro H
  iapply (run_done (defs := defs) 𝒱 bd d i)
  iapply Hk
  iexact H

/-- Layer 1, rows of the second array. -/
theorem part32_wp (EC : UEmb Counters 𝕄) [EC.LandsIn (upEmb : UEmb _ 𝕄)] (x y : BitVec 32) (fa : Buf (Elt F) (arg3.view.loc (thr d i))) (qa : PosShare TreeShare) (hlow : ∀ p, cls1 w p → (lowW w p).toNat < 200000)
    (hv : Gives d i arg9 g 1 inb_S2x200000x128_S1x200000x128_1_0_0 arg3 fa (cls1 w) (lowW w))
    (hC : ∀ M M', M ⊆ M' → C M → C M') (c : BitVec 32) (hw7) (v1 v2 v3 v4 v5 v6 : BitVec 32)
    {Q : _ → sProp 𝕄} :
    copyRes (Ix := Ix) (Name := Name) (U := U) (Lvl := Lvl) d i emb ιwm (layerOf arg3 1 inb_S2x200000x128_S1x200000x128_1_0_0) (layerOf arg9 1 inb_S2x200000x128_S1x200000x128_1_0_0) arg15 arg16 arg18 arg20.sem arg21.sem (cls1 w) (lowW w) x y fa qa f₀ g qw ι O W C
      ⊢ iprop((∀ r, copyRes (Ix := Ix) (Name := Name) (U := U) (Lvl := Lvl) d i emb ιwm (layerOf arg3 1 inb_S2x200000x128_S1x200000x128_1_0_0) (layerOf arg9 1 inb_S2x200000x128_S1x200000x128_1_0_0) arg15 arg16 arg18 arg20.sem arg21.sem (cls1 w) (lowW w) x y fa qa f₀ g qw ι O W (fun M => C M ∧ RowsIn d i arg9 1 inb_S2x200000x128_S1x200000x128_1_0_0 (cls1 w) M) -∗ Q r)
        -∗ run 𝒱 bd d i defs (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 (BitVec.ofNat 32 (Nat.count (cls1 w) 6250)) c hw7 v1 v2 v3 v4 v5 v6) Q) := by
  rw [k0_part32_eq_skeleton]
  unfold k0_part32_skel
  iintro H Hk
  iapply (copyList_wp (defs := defs) 𝒱 bd d i emb ιwm (layerOf arg3 1 inb_S2x200000x128_S1x200000x128_1_0_0) (layerOf arg9 1 inb_S2x200000x128_S1x200000x128_1_0_0) arg15 arg16 arg18 arg20.sem arg21.sem (cls1 w) (lowW w) EC (fun _ h => h.1) x y fa qa f₀ g qw hlow hv ι O W C hC
    _ _ (fun t hin => t15_body_eq (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 _ _ hw7 _ _ _ _ _ _ t hin) _ _) $$ H
  iintro H
  iapply (run_done (defs := defs) 𝒱 bd d i)
  iapply Hk
  iexact H

/-- What the tile holds besides the lists. -/
def tileRes (q5 q4 q7 q6 q8 q2 q3 : PosShare TreeShare)
    (f5 : Buf (Elt F) (arg5.view.loc (thr d i))) (f4 : Buf (Elt F) (arg4.view.loc (thr d i)))
    (f7 : Buf (Elt F) (arg7.view.loc (thr d i))) (f6 : Buf (Elt F) (arg6.view.loc (thr d i))) (f8 : Buf (Elt F) (arg8.view.loc (thr d i)))
    (f2 : Buf (Elt F) (arg2.view.loc (thr d i))) (f3 : Buf (Elt F) (arg3.view.loc (thr d i))) : sProp 𝕄 :=
  iprop(headInv (Ix := Ix) (Name := Name) (U := U) (Lvl := Lvl) d i arg4 arg5 arg6 arg7 arg8 arg10 arg11 arg12 v423_r0 v423_r1 v423_r2 v423_r3 v420_r4 ι O W q5 q4 q7 q6 q8 f5 f4 f7 f6 f8
    ∗ words d i arg13 (fun _ => True) ∗ words d i arg14 (fun _ => True) ∗ words d i arg15 (fun _ => True) ∗ words d i arg16 (fun _ => True)
    ∗ words d i arg17 (fun _ => True) ∗ (∃ fz, arg19.view.loc (thr d i) ↦[Finset.univ]{fullShare} fz)
    ∗ (∃ fd, arg18.view.loc (thr d i) ↦[Finset.univ]{fullShare} fd)
    ∗ (arg2.view.loc (thr d i) ↦[Finset.univ]{q2} f2) ∗ (arg3.view.loc (thr d i) ↦[Finset.univ]{q3} f3)
    ∗ semVal (thr d i, SemLoc.dma arg20.sem) 0 ∗ semVal (thr d i, SemLoc.dma arg21.sem) 0)

/-- Both layers of all the tile's rows. -/
def AllRows (M : Finset (Idx (arg9.view.loc (thr d i)))) : Prop :=
  ∀ p < 6250, farRow d i (layerOf arg9 0 inb_S2x200000x128_S1x200000x128_0_0_0) (base i + p) ⊆ M
    ∧ farRow d i (layerOf arg9 1 inb_S2x200000x128_S1x200000x128_1_0_0) (base i + p) ⊆ M

/-- Every row of the window is of one class. -/
theorem cls_split (p : ℕ) (hp : p < 6250) : cls0 w p ∨ cls1 w p ∨ clsz w p := by
  unfold cls0 cls1 clsz
  omega

/-- THE TILE: both layers of its rows take what the winning pairs name. -/
theorem body_wp (EC : UEmb Counters 𝕄) [EC.LandsIn (upEmb : UEmb _ 𝕄)] (tt gg : ℕ → BitVec 32) (htt : ∀ k, (tt k).toNat < 200000)
    (q5 q4 q7 q6 q8 q2 q3 : PosShare TreeShare)
    (f5 : Buf (Elt F) (arg5.view.loc (thr d i))) (f4 : Buf (Elt F) (arg4.view.loc (thr d i)))
    (f7 : Buf (Elt F) (arg7.view.loc (thr d i))) (f6 : Buf (Elt F) (arg6.view.loc (thr d i))) (f8 : Buf (Elt F) (arg8.view.loc (thr d i)))
    (f2 : Buf (Elt F) (arg2.view.loc (thr d i))) (f3 : Buf (Elt F) (arg3.view.loc (thr d i)))
    (h5 : ∀ k < 100000, farW d i arg5 f5 k = tt k) (h4 : ∀ k < 100000, farW d i arg4 f4 k = gg k)
    (h7 : ∀ k < 100000, farW d i arg7 f7 k = tt (100000 + k)) (h6 : ∀ k, farW d i arg6 f6 k + 200000#32 = gg (100000 + k))
    (hw : ∀ p, w p = winW tt gg 200000 (base i + p))
    (hlow : ∀ p, cls1 w p → (lowW w p).toNat < 200000)
    (g00 : Gives d i arg9 g 0 inb_S2x200000x128_S1x200000x128_0_0_0 arg2 f2 (cls0 w) w)
    (g01 : Gives d i arg9 g 0 inb_S2x200000x128_S1x200000x128_0_0_0 arg3 f3 (cls1 w) (lowW w))
    (g0z : ∀ fz, arg19.view.read (Elt F) fz = arg8.view.read (Elt F) f8 → GivesZ d i arg9 arg19 g 0 inb_S2x200000x128_S1x200000x128_0_0_0 fz (clsz w))
    (g10 : Gives d i arg9 g 1 inb_S2x200000x128_S1x200000x128_1_0_0 arg2 f2 (cls0 w) w)
    (g11 : Gives d i arg9 g 1 inb_S2x200000x128_S1x200000x128_1_0_0 arg3 f3 (cls1 w) (lowW w))
    (g1z : ∀ fz, arg19.view.read (Elt F) fz = arg8.view.read (Elt F) f8 → GivesZ d i arg9 arg19 g 1 inb_S2x200000x128_S1x200000x128_1_0_0 fz (clsz w))
    {Q : _ → sProp 𝕄} :
    iprop(wmInv emb ιwm ∗ □ MayWait (thr d i) (.dma arg20.sem) ι O ∗ □ MayWait (thr d i) (.dma arg21.sem) ι O
        ∗ tileRes (Ix := Ix) (Name := Name) (U := U) (Lvl := Lvl) d i arg2 arg3 arg4 arg5 arg6 arg7 arg8 arg10 arg11 arg12 arg13 arg14 arg15 arg16 arg17 arg18 arg19 arg20 arg21 v423_r0 v423_r1 v423_r2 v423_r3 v420_r4 ι O W q5 q4 q7 q6 q8 q2 q3 f5 f4 f7 f6 f8 f2 f3
        ∗ willBeTo emb (arg9.view.loc (thr d i)) Finset.univ qw f₀ g ∅)
      ⊢ iprop((tileRes (Ix := Ix) (Name := Name) (U := U) (Lvl := Lvl) d i arg2 arg3 arg4 arg5 arg6 arg7 arg8 arg10 arg11 arg12 arg13 arg14 arg15 arg16 arg17 arg18 arg19 arg20 arg21 v423_r0 v423_r1 v423_r2 v423_r3 v420_r4 ι O W q5 q4 q7 q6 q8 q2 q3 f5 f4 f7 f6 f8 f2 f3
          -∗ (∃ M, ⌜AllRows d i arg9 M⌝ ∗ willBeTo emb (arg9.view.loc (thr d i)) Finset.univ qw f₀ g M) -∗ Q ⟨⟩)
        -∗ run 𝒱 bd d i defs (cc0__sc_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4) Q) := by
  let C27 : Finset (Idx (arg9.view.loc (thr d i))) → Prop := fun _ => True
  have m27 : ∀ M M', M ⊆ M' → C27 M → C27 M' := fun _ _ _ _ => trivial
  let C29 : Finset (Idx (arg9.view.loc (thr d i))) → Prop := fun M => C27 M ∧ RowsIn d i arg9 0 inb_S2x200000x128_S1x200000x128_0_0_0 (cls0 w) M
  have m29 : ∀ M M', M ⊆ M' → C29 M → C29 M' := fun M M' hM h => ⟨m27 M M' hM h.1, fun p hp => (h.2 p hp).trans hM⟩
  let C30 : Finset (Idx (arg9.view.loc (thr d i))) → Prop := fun M => C29 M ∧ RowsIn d i arg9 0 inb_S2x200000x128_S1x200000x128_0_0_0 (cls1 w) M
  have m30 : ∀ M M', M ⊆ M' → C30 M → C30 M' := fun M M' hM h => ⟨m29 M M' hM h.1, fun p hp => (h.2 p hp).trans hM⟩
  let C31 : Finset (Idx (arg9.view.loc (thr d i))) → Prop := fun M => C30 M ∧ RowsIn d i arg9 0 inb_S2x200000x128_S1x200000x128_0_0_0 (clsz w) M
  have m31 : ∀ M M', M ⊆ M' → C31 M → C31 M' := fun M M' hM h => ⟨m30 M M' hM h.1, fun p hp => (h.2 p hp).trans hM⟩
  let C32 : Finset (Idx (arg9.view.loc (thr d i))) → Prop := fun M => C31 M ∧ RowsIn d i arg9 1 inb_S2x200000x128_S1x200000x128_1_0_0 (cls0 w) M
  have m32 : ∀ M M', M ⊆ M' → C32 M → C32 M' := fun M M' hM h => ⟨m31 M M' hM h.1, fun p hp => (h.2 p hp).trans hM⟩
  let C33 : Finset (Idx (arg9.view.loc (thr d i))) → Prop := fun M => C32 M ∧ RowsIn d i arg9 1 inb_S2x200000x128_S1x200000x128_1_0_0 (cls1 w) M
  have m33 : ∀ M M', M ⊆ M' → C33 M → C33 M' := fun M M' hM h => ⟨m32 M M' hM h.1, fun p hp => (h.2 p hp).trans hM⟩
  rw [cc0__sc_body_eq_skeleton]
  unfold cc0__sc_body_skel tileRes
  iintro ⟨#HI, #MG, #MS, ⟨HD, H13, H14, H15, H16, H17, HZ, HR, H2, H3, SG, SS⟩, HW⟩ Hk
  iapply (run_bind (defs := defs) 𝒱 bd d i)
  iapply (part22_wp (defs := defs) 𝒱 bd d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 w EC tt gg htt ι O W q5 q4 q7 q6 q8 f5 f4 f7 f6 f8 h5 h4 h7 h6 hw
    (chk8 (countz_le w 6250)) (chk7 (count1_le w 6250)) (chk6 (count0_le w 6250))) $$ [HD H13 H14 H15 H16 H17 HZ]
  · isplitl [HD]
    · iexact HD
    isplitl [H13]
    · iexact H13
    isplitl [H14]
    · iexact H14
    isplitl [H15]
    · iexact H15
    isplitl [H16]
    · iexact H16
    isplitl [H17]
    · iexact H17
    · iexact HZ
  iintro %v17 %v19 %x0 %hx0 HD H13 H14 H15 H16 H17 ⟨%fz, %hz, HZ⟩
  dsimp only
  iapply (run_bind (defs := defs) 𝒱 bd d i)
  iapply (part23_wp (defs := defs) 𝒱 bd d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 w _ v17 k0_pay31 v19 x0 (v19 (ln 0)) hx0 (pay32_eq v19)) $$ [H13 H14]
  · isplitl [H13]
    · iexact H13
    · iexact H14
  iintro H13 H14
  dsimp only
  iapply (run_bind (defs := defs) 𝒱 bd d i)
  iapply (part24_wp (defs := defs) 𝒱 bd d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 w _ _ v17 _ x0 (v19 (ln 0)) hx0 (pay32_eq v19)) $$ [H13 H14 H15 H16]
  · isplitl [H13]
    · iexact H13
    isplitl [H14]
    · iexact H14
    isplitl [H15]
    · iexact H15
    · iexact H16
  iintro %x1 %y1 %v77 %v83 %hxy H13 H14 H15 H16
  dsimp only
  iapply (run_bind (defs := defs) 𝒱 bd d i)
  iapply (part25_wp (defs := defs) 𝒱 bd d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 w _ v77 v83 x1 y1 hxy.1 hxy.2) $$ [H15 H16]
  · isplitl [H15]
    · iexact H15
    · iexact H16
  iintro H15 H16
  iapply (run_bind (defs := defs) 𝒱 bd d i)
  iapply (part26_wp (defs := defs) 𝒱 bd d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 w _ _) $$ H17
  iintro %xz %r H17
  obtain ⟨e0, e1, e2, e3, e4⟩ := r
  dsimp only
  unfold headInv
  icases HD with ⟨#M0, #M1, #M2, #M3, #M4, H10, H11, H12, F5, F4, F7, F6, F8, S0, S1, S2, S3, S4, HO⟩
  ihave HW := (show willBeTo emb (arg9.view.loc (thr d i)) Finset.univ qw f₀ g ∅
    ⊢ covered (Ix := Ix) (Name := Name) (U := U) (Lvl := Lvl) d i emb (layerOf arg9 0 inb_S2x200000x128_S1x200000x128_0_0_0) f₀ g qw C27 from by
      unfold covered
      iintro H
      iexists ∅
      isplitr
      · ipureintro; trivial
      · iexact H) $$ HW
  ihave H : copyRes (Ix := Ix) (Name := Name) (U := U) (Lvl := Lvl) d i emb ιwm (layerOf arg2 0 inb_S2x200000x128_S1x200000x128_0_0_0) (layerOf arg9 0 inb_S2x200000x128_S1x200000x128_0_0_0) arg13 arg14 arg18 arg20.sem arg21.sem (cls0 w) w x0 (v19 (ln 0)) f2 q2 f₀ g qw ι O W C27 $$ [HR H13 H14 H2 HW SG SS HO]
  · unfold copyRes
    isplitr
    · iexact HI
    isplitr
    · iexact MG
    isplitr
    · iexact MS
    isplitl [HR]
    · iexact HR
    isplitl [H13]
    · iexact H13
    isplitl [H14]
    · iexact H14
    isplitl [H2]
    · iexact H2
    isplitl [HW]
    · iexact HW
    isplitl [SG]
    · iexact SG
    isplitl [SS]
    · iexact SS
    · iexact HO
  iapply (run_bind (defs := defs) 𝒱 bd d i)
  iapply (part27_wp (defs := defs) 𝒱 bd d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 w emb ιwm f₀ g qw ι O W C27 EC x0 (v19 (ln 0)) f2 q2 g00 m27 _ _ _ _ _ _ _) $$ H
  iintro %r27 H
  unfold copyRes
  icases H with ⟨-, -, -, HR, H13, H14, H2, HW, SG, SS, HO⟩
  iapply (run_bind (defs := defs) 𝒱 bd d i)
  rw [k0_part28_eq_skeleton]
  unfold k0_part28_skel
  iapply (run_done (defs := defs) 𝒱 bd d i)
  dsimp only
  ihave H : copyRes (Ix := Ix) (Name := Name) (U := U) (Lvl := Lvl) d i emb ιwm (layerOf arg3 0 inb_S2x200000x128_S1x200000x128_0_0_0) (layerOf arg9 0 inb_S2x200000x128_S1x200000x128_0_0_0) arg15 arg16 arg18 arg20.sem arg21.sem (cls1 w) (lowW w) x1 y1 f3 q3 f₀ g qw ι O W C29 $$ [HR H15 H16 H3 HW SG SS HO]
  · unfold copyRes
    isplitr
    · iexact HI
    isplitr
    · iexact MG
    isplitr
    · iexact MS
    isplitl [HR]
    · iexact HR
    isplitl [H15]
    · iexact H15
    isplitl [H16]
    · iexact H16
    isplitl [H3]
    · iexact H3
    isplitl [HW]
    · iexact HW
    isplitl [SG]
    · iexact SG
    isplitl [SS]
    · iexact SS
    · iexact HO
  iapply (run_bind (defs := defs) 𝒱 bd d i)
  iapply (part29_wp (defs := defs) 𝒱 bd d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 w emb ιwm f₀ g qw ι O W C29 EC x1 y1 f3 q3 hlow g01 m29 _ _ _ _ _) $$ H
  iintro %r29 H
  obtain ⟨e0, e1⟩ := r29
  dsimp only
  unfold copyRes
  icases H with ⟨-, -, -, HR, H15, H16, H3, HW, SG, SS, HO⟩
  ihave H : zeroRes (Ix := Ix) (Name := Name) (U := U) (Lvl := Lvl) d i emb ιwm (layerOf arg9 0 inb_S2x200000x128_S1x200000x128_0_0_0) arg17 arg19 arg21.sem (clsz w) xz fz f₀ g qw ι O W C30 $$ [HZ H17 HW SS HO]
  · unfold zeroRes
    isplitr
    · iexact HI
    isplitr
    · iexact MS
    isplitl [HZ]
    · iexact HZ
    isplitl [H17]
    · iexact H17
    isplitl [HW]
    · iexact HW
    isplitl [SS]
    · iexact SS
    · iexact HO
  iapply (run_bind (defs := defs) 𝒱 bd d i)
  iapply (part30_wp (defs := defs) 𝒱 bd d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 w emb ιwm f₀ g qw ι O W C30 EC xz fz (g0z fz hz) m30 _ _ _ _) $$ H
  iintro %r30 H
  obtain ⟨e0, e1, e2, e3, e4, e5⟩ := r30
  dsimp only
  unfold zeroRes
  icases H with ⟨-, -, HZ, H17, HW, SS, HO⟩
  ihave H : copyRes (Ix := Ix) (Name := Name) (U := U) (Lvl := Lvl) d i emb ιwm (layerOf arg2 1 inb_S2x200000x128_S1x200000x128_1_0_0) (layerOf arg9 1 inb_S2x200000x128_S1x200000x128_1_0_0) arg13 arg14 arg18 arg20.sem arg21.sem (cls0 w) w x0 (v19 (ln 0)) f2 q2 f₀ g qw ι O W C31 $$ [HR H13 H14 H2 HW SG SS HO]
  · unfold copyRes
    isplitr
    · iexact HI
    isplitr
    · iexact MG
    isplitr
    · iexact MS
    isplitl [HR]
    · iexact HR
    isplitl [H13]
    · iexact H13
    isplitl [H14]
    · iexact H14
    isplitl [H2]
    · iexact H2
    isplitl [HW]
    · iexact HW
    isplitl [SG]
    · iexact SG
    isplitl [SS]
    · iexact SS
    · iexact HO
  iapply (run_bind (defs := defs) 𝒱 bd d i)
  iapply (part31_wp (defs := defs) 𝒱 bd d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 w emb ιwm f₀ g qw ι O W C31 EC x0 (v19 (ln 0)) f2 q2 g10 m31 _ _ _ _ _ _ _ _) $$ H
  iintro %r31 H
  obtain ⟨e0, e1, e2, e3, e4, e5⟩ := r31
  dsimp only
  unfold copyRes
  icases H with ⟨-, -, -, HR, H13, H14, H2, HW, SG, SS, HO⟩
  ihave H : copyRes (Ix := Ix) (Name := Name) (U := U) (Lvl := Lvl) d i emb ιwm (layerOf arg3 1 inb_S2x200000x128_S1x200000x128_1_0_0) (layerOf arg9 1 inb_S2x200000x128_S1x200000x128_1_0_0) arg15 arg16 arg18 arg20.sem arg21.sem (cls1 w) (lowW w) x1 y1 f3 q3 f₀ g qw ι O W C32 $$ [HR H15 H16 H3 HW SG SS HO]
  · unfold copyRes
    isplitr
    · iexact HI
    isplitr
    · iexact MG
    isplitr
    · iexact MS
    isplitl [HR]
    · iexact HR
    isplitl [H15]
    · iexact H15
    isplitl [H16]
    · iexact H16
    isplitl [H3]
    · iexact H3
    isplitl [HW]
    · iexact HW
    isplitl [SG]
    · iexact SG
    isplitl [SS]
    · iexact SS
    · iexact HO
  iapply (run_bind (defs := defs) 𝒱 bd d i)
  iapply (part32_wp (defs := defs) 𝒱 bd d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 w emb ιwm f₀ g qw ι O W C32 EC x1 y1 f3 q3 hlow g11 m32 _ _ _ _ _ _ _ _) $$ H
  iintro %r32 H
  obtain ⟨e0, e1⟩ := r32
  dsimp only
  unfold copyRes
  icases H with ⟨-, -, -, HR, H15, H16, H3, HW, SG, SS, HO⟩
  ihave H : zeroRes (Ix := Ix) (Name := Name) (U := U) (Lvl := Lvl) d i emb ιwm (layerOf arg9 1 inb_S2x200000x128_S1x200000x128_1_0_0) arg17 arg19 arg21.sem (clsz w) xz fz f₀ g qw ι O W C33 $$ [HZ H17 HW SS HO]
  · unfold zeroRes
    isplitr
    · iexact HI
    isplitr
    · iexact MS
    isplitl [HZ]
    · iexact HZ
    isplitl [H17]
    · iexact H17
    isplitl [HW]
    · iexact HW
    isplitl [SS]
    · iexact SS
    · iexact HO
  iapply (zeroList_wp (defs := defs) 𝒱 bd d i emb ιwm (layerOf arg9 1 inb_S2x200000x128_S1x200000x128_1_0_0) arg17 arg19 arg21.sem (clsz w) EC (fun _ h => h.1) xz fz f₀ g qw (g1z fz hz) ι O W C33 m33
    _ _ (fun t hin => t17_body_eq (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v423_r0 v423_r1 v423_r2 v423_r3 v420_r4 _ _ _ t hin) _ _) $$ H
  iintro H
  iapply (run_done (defs := defs) 𝒱 bd d i)
  unfold zeroRes
  icases H with ⟨-, -, HZ, H17, HW, SS, HO⟩
  iapply Hk $$ [H10 H11 H12 F5 F4 F7 F6 F8 S0 S1 S2 S3 S4 HO H13 H14 H15 H16 H17 HZ HR H2 H3 SG SS] [HW]
  · isplitl [H10 H11 H12 F5 F4 F7 F6 F8 S0 S1 S2 S3 S4 HO]
    · isplitr
      · iexact M0
      isplitr
      · iexact M1
      isplitr
      · iexact M2
      isplitr
      · iexact M3
      isplitr
      · iexact M4
      isplitl [H10]
      · iexact H10
      isplitl [H11]
      · iexact H11
      isplitl [H12]
      · iexact H12
      isplitl [F5]
      · iexact F5
      isplitl [F4]
      · iexact F4
      isplitl [F7]
      · iexact F7
      isplitl [F6]
      · iexact F6
      isplitl [F8]
      · iexact F8
      isplitl [S0]
      · iexact S0
      isplitl [S1]
      · iexact S1
      isplitl [S2]
      · iexact S2
      isplitl [S3]
      · iexact S3
      isplitl [S4]
      · iexact S4
      iexact HO
    isplitl [H13]
    · iapply (words_mono d i arg13 (fun _ _ => trivial)) $$ H13
    isplitl [H14]
    · iapply (words_mono d i arg14 (fun _ _ => trivial)) $$ H14
    isplitl [H15]
    · iapply (words_mono d i arg15 (fun _ _ => trivial)) $$ H15
    isplitl [H16]
    · iapply (words_mono d i arg16 (fun _ _ => trivial)) $$ H16
    isplitl [H17]
    · iapply (words_mono d i arg17 (fun _ _ => trivial)) $$ H17
    isplitl [HZ]
    · iexists fz
      iexact HZ
    isplitl [HR]
    · iexact HR
    isplitl [H2]
    · iexact H2
    isplitl [H3]
    · iexact H3
    isplitl [SG]
    · iexact SG
    · iexact SS
  · unfold covered
    icases HW with ⟨%M, %hM, HW⟩
    iexists M
    isplitr
    · ipureintro
      obtain ⟨⟨⟨⟨⟨⟨-, a0⟩, a1⟩, a2⟩, b0⟩, b1⟩, b2⟩ := hM
      intro p hp
      rcases cls_split w p hp with h | h | h
      · exact ⟨a0 p h, b0 p h⟩
      · exact ⟨a1 p h, b1 p h⟩
      · exact ⟨a2 p h, b2 p h⟩
    · iexact HW

end bodies

end Cert.Proof
-- ==== Proof.Target.lean ====
/-
  What the program leaves: every row takes the row its last pair names, or zeros; and where a layer's rows lie.
-/
module

public import proofs.«01_k».proof.Proof.Tile

@[expose] public section

noncomputable section

namespace Cert.Proof

open Idealize.ShloMosaic
open Cert.KernelIdeal Cert.KernelIdeal.Gen
open Cert.Proof.Rows

variable {F : FTy → Type} [FloatOps F]

/-- Layer `l`, row `r`, column `ch`. -/
def ix (l r : ℕ) (ch : Fin 128) : S2x200000x128.Idx := fun a =>
  ⟨(![l % 2, r % 200000, ch.val] : Fin 3 → ℕ) a, by fin_cases a <;> [exact Nat.mod_lt _ (by decide); exact Nat.mod_lt _ (by decide); exact ch.isLt]⟩

theorem ix_eta (x : S2x200000x128.Idx) : ix (x 0).val (x 1).val (x 2) = x := by
  refine funext fun a => Fin.ext ?_
  match a with
  | 0 => exact Nat.mod_eq_of_lt (x 0).isLt
  | 1 => exact Nat.mod_eq_of_lt (x 1).isLt
  | 2 => rfl

/-- A layer's element is the array's. -/
theorem layer_emb (a : Memref sig .scVector .hbm S2x200000x128 .f32) (l : ℕ)
    (hl : ∀ a, (![l, 0, 0] : Fin 3 → Nat) a + S1x200000x128.size a ≤ S2x200000x128.size a) (r : ℕ) (ch : Fin 128) :
    (layerOf a l hl).view.emb (six r ch) = a.view.emb (ix l r ch) := by
  have h2 : l < 2 := by have := hl 0; simp at this; omega
  have e0 : (Rect.unit (s := S200000x128) ![0, 0] S200000x128.size inb_S200000x128_S200000x128_0_0).emb (six r ch) = six r ch := by
    refine funext fun a => Fin.ext ?_
    match a with
    | 0 => exact (Nat.zero_add _).trans (Nat.one_mul _)
    | 1 => exact (Nat.zero_add _).trans (Nat.one_mul _)
  let y : S1x200000x128.Idx := fun a =>
    ⟨(![0, r % 200000, ch.val] : Fin 3 → ℕ) a, by fin_cases a <;> [exact Nat.one_pos; exact Nat.mod_lt _ (by decide); exact ch.isLt]⟩
  have e1 : Shape.reshapeEquiv squeezes_S1x200000x128_S200000x128.numel_eq (six r ch) = y := by
    refine Shape.reshapeEquiv_eq_of_rowMajor _ ?_
    rw [Shape.rowMajor_val_three, Shape.rowMajor_val_two]
    show (0 * 200000 + r % 200000) * 128 + ch.val = r % 200000 * 128 + ch.val
    omega
  have e2 : (Rect.unit (s := S2x200000x128) ![l, 0, 0] S1x200000x128.size hl).emb y = ix l r ch := by
    refine funext fun a => Fin.ext ?_
    match a with
    | 0 => show l + 1 * 0 = l % 2; omega
    | 1 => show 0 + 1 * (r % 200000) = r % 200000; omega
    | 2 => show 0 + 1 * ch.val = ch.val; omega
  show a.view.emb ((Rect.unit (s := S2x200000x128) ![l, 0, 0] S1x200000x128.size hl).emb (Shape.reshapeEquiv squeezes_S1x200000x128_S200000x128.numel_eq
    ((Rect.unit (s := S200000x128) ![0, 0] S200000x128.size inb_S200000x128_S200000x128_0_0).emb (six r ch)))) = _
  rw [e0, e1, e2]

/-- The rows the pairs write. -/
def ttOf (t0 t1 : S100000.Idx → BitVec 32) (k : ℕ) : BitVec 32 := if k < 100000 then wd t0 k else wd t1 (k - 100000)

/-- The rows the pairs read, the second array's after the first's. -/
def ggOf (f0 f1 : S100000.Idx → BitVec 32) (k : ℕ) : BitVec 32 := if k < 100000 then wd f0 k else wd f1 (k - 100000) + 200000#32

theorem wd_lt {f : S100000.Idx → BitVec 32} (h : ∀ x, (f x).toNat < 200000) (k : ℕ) : (wd f k).toNat < 200000 := by
  unfold wd
  split
  · exact h _
  · decide

theorem ttOf_lt {t0 t1 : S100000.Idx → BitVec 32} (h0 : ∀ x, (t0 x).toNat < 200000) (h1 : ∀ x, (t1 x).toNat < 200000) (k : ℕ) :
    (ttOf t0 t1 k).toNat < 200000 := by
  unfold ttOf
  split
  · exact wd_lt h0 _
  · exact wd_lt h1 _

theorem ggOf_lt {f0 f1 : S100000.Idx → BitVec 32} (h0 : ∀ x, (f0 x).toNat < 200000) (h1 : ∀ x, (f1 x).toNat < 200000) (k : ℕ) :
    (ggOf f0 f1 k).toNat < 400000 := by
  unfold ggOf
  split
  · have := wd_lt h0 k; omega
  · have := wd_lt h1 (k - 100000)
    rw [BitVec.toNat_add]
    show (_ + 200000) % 4294967296 < 400000
    omega

/-- The winner of a row is all ones or a row some pair reads. -/
theorem winW_lt {tt gg : ℕ → BitVec 32} (hg : ∀ k, (gg k).toNat < 400000) (n r : ℕ) :
    (winW tt gg n r).toNat = 4294967295 ∨ (winW tt gg n r).toNat < 400000 := by
  induction n with
  | zero => exact Or.inl rfl
  | succ n ih =>
    unfold winW
    split
    · exact Or.inr (hg n)
    · exact ih

theorem lowW_eq {w : ℕ → BitVec 32} {p : ℕ} (h : 200000 ≤ (w p).toNat) : (lowW w p).toNat = (w p).toNat - 200000 := by
  unfold lowW
  rw [BitVec.toNat_sub]
  have := (w p).isLt
  show (4294967296 - 200000 + _) % 4294967296 = _
  omega

/-- What the padded result holds at an element: the row the winner names, in the array it is of. -/
def tgt {α : Type} (a0 a1 : S2x200000x128.Idx → α) (z : α) (tt gg : ℕ → BitVec 32) (x : S2x200000x128.Idx) : α :=
  let v := (winW tt gg 200000 (x 1).val).toNat
  if v < 200000 then a0 (ix (x 0).val v (x 2)) else if v < 2147483648 then a1 (ix (x 0).val (v - 200000) (x 2)) else z

/-- Every element of the padded result is in some tile's rows. -/
theorem row_tile (r : ℕ) (hr : r < 200000) : ∃ (c : Fin 2) (s : Fin 16) (p : ℕ), p < 6250 ∧ (s.val * 2 + c.val) * 6250 + p = r :=
  ⟨⟨r / 6250 % 2, Nat.mod_lt _ (by decide)⟩, ⟨r / 6250 / 2, by omega⟩, r % 6250, Nat.mod_lt _ (by decide), by
    show (r / 6250 / 2 * 2 + r / 6250 % 2) * 6250 + r % 6250 = r
    omega⟩

end Cert.Proof
-- ==== Proof.Deal.lean ====
/-
  The set-up of the launch: the program as the launch theorem sees it, the ghost state, the arrays, what the call hands to the SparseCores and their
  tiles, and how a share of all that is cut and joined.
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Target
public import proofs.«01_k».proof.Proof.Pieces

@[expose] public section

set_option synthInstance.maxSize 4096

noncomputable section

namespace Cert.Proof.Launch

open Cert.KernelIdeal Cert.KernelIdeal.Gen
open Cert.Proof Cert.Proof.Rows

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the write mode, the transfers' counters -/

abbrev UH : Type := URounds (GSem nD τ sig) ℕ
abbrev UW (F : FTy → Type) : Type := WmRA nD τ sig (Elt F)
abbrev UU (F : FTy → Type) : Type := UH × (UW F × Counters)

local notation "𝕄" => MT nD τ sig (HIx 1) (Elt F) ℕ (UU F) ℕ

abbrev EH : Emb UH (MT nD τ sig (HIx 1) (Elt F) ℕ (UU F) ℕ) := embL

/-- The write mode's place in the ghost state. -/
abbrev emb : UEmb (UW F) (UU F) := (UEmb.inl : UEmb (UW F) (UW F × Counters)).trans UEmb.inr

/-! ## The arrays -/

variable (m : (ℓ : Loc nD τ sig) → Buf (Elt F) ℓ)

abbrev aLoc (d : Dev nD) : Loc nD τ sig := (SparseCore.T d).loc main_v1
abbrev bLoc (d : Dev nD) : Loc nD τ sig := (SparseCore.T d).loc main_v2
abbrev fLoc (d : Dev nD) : Loc nD τ sig := (SparseCore.T d).loc main_arg2
abbrev tLoc (d : Dev nD) : Loc nD τ sig := (SparseCore.T d).loc main_arg3
abbrev hLoc (d : Dev nD) : Loc nD τ sig := (SparseCore.T d).loc main_arg4
abbrev uLoc (d : Dev nD) : Loc nD τ sig := (SparseCore.T d).loc main_arg5
abbrev zLoc (d : Dev nD) : Loc nD τ sig := (SparseCore.T d).loc main_v0
abbrev oLoc (d : Dev nD) : Loc nD τ sig := (SparseCore.T d).loc main_v3

/-- What the proof asks of the launch memory: every index names a row. -/
def PreOK : Prop := ∀ d : Dev nD, (∀ x : S100000.Idx, (m (fLoc d) x : BitVec 32).toNat < 200000) ∧ (∀ x : S100000.Idx, (m (tLoc d) x : BitVec 32).toNat < 200000)
  ∧ (∀ x : S100000.Idx, (m (hLoc d) x : BitVec 32).toNat < 200000) ∧ (∀ x : S100000.Idx, (m (uLoc d) x : BitVec 32).toNat < 200000)

/-- The rows the pairs write. -/
def tt (d : Dev nD) : ℕ → BitVec 32 := ttOf (m (tLoc d)) (m (uLoc d))
/-- The rows the pairs read. -/
def gg (d : Dev nD) : ℕ → BitVec 32 := ggOf (m (fLoc d)) (m (hLoc d))

variable [FloatOps F]

/-- An input array with its rows lengthened to 128 columns. -/
def padOf (x : S2x200000x64.Idx → F .f32) : S2x200000x128.Idx → F .f32 :=
  pad S2x200000x128 ![0, 0, 0] ![0, 0, 64] ![0, 0, 0] x (sitofp .f32 (constantI S_ 32 0#32)) pads_S2x200000x64_S2x200000x128_000_000_0640 h_S_

def A0 (d : Dev nD) : Buf (Elt F) (aLoc d) := padOf (m ((SparseCore.T d).loc main_arg0))
def A1 (d : Dev nD) : Buf (Elt F) (bLoc d) := padOf (m ((SparseCore.T d).loc main_arg1))

/-- Zero. -/
def zv : F .f32 := FloatOps.ofBits .f32 0x00000000#32
def Zb (d : Dev nD) : Buf (Elt F) (zLoc d) := fun _ => (zv : F .f32)

/-- What the call leaves in the padded result. -/
def res (d : Dev nD) : Buf (Elt F) (oLoc d) := tgt (α := F .f32) (A0 m d) (A1 m d) zv (tt m d) (gg m d)

/-! ## What is handed over -/

/-- A share of everything that is only read. -/
def inP (d : Dev nD) (q : PosShare TreeShare) : sProp 𝕄 :=
  iprop((aLoc d ↦{q} A0 m d) ∗ (bLoc d ↦{q} A1 m d) ∗ (fLoc d ↦{q} m (fLoc d)) ∗ (tLoc d ↦{q} m (tLoc d)) ∗ (hLoc d ↦{q} m (hLoc d))
    ∗ (uLoc d ↦{q} m (uLoc d)) ∗ (zLoc d ↦{q} Zb d))

/-- A share of the result in write mode, the elements of a set written. -/
def outP (d : Dev nD) (q : PosShare TreeShare) (M : Finset S2x200000x128.Idx) : sProp 𝕄 :=
  willBeTo (Ix := HIx 1) emb (oLoc d) Finset.univ q (m (oLoc d)) (fun x => some (res m d x)) M

/-- The rows of tile `(c, i)` are in a set, -/
def TileRows (c : Fin 2) (i : Fin 16) (M : Finset S2x200000x128.Idx) : Prop :=
  ∀ p < 6250, ∀ l < 2, ∀ ch : Fin 128, ix l ((i.val * 2 + c.val) * 6250 + p) ch ∈ M
/-- and those of every tile of SparseCore `c`. -/
def CoreRows (c : Fin 2) (M : Finset S2x200000x128.Idx) : Prop := ∀ i, TileRows c i M

/-- SparseCore `c`'s share, -/
abbrev cq (c : Fin 2) : PosShare TreeShare := Idealize.ShloMosaic.pieceOf fullShare 2 (by decide) c
/-- and its tile `i`'s. -/
abbrev tq (c : Fin 2) (i : Fin 16) : PosShare TreeShare := Idealize.ShloMosaic.pieceOf (cq c) 16 (by decide) i

/-- What is taken at a share, -/
abbrev takes (d : Dev nD) (q : PosShare TreeShare) : sProp 𝕄 := iprop(inP m d q ∗ outP m d q ∅)
/-- and what is brought back. -/
abbrev brings (d : Dev nD) (q : PosShare TreeShare) (R : Finset S2x200000x128.Idx → Prop) : sProp 𝕄 :=
  iprop(inP m d q ∗ ∃ M, ⌜R M⌝ ∗ outP m d q M)

instance (d : Dev nD) (q : PosShare TreeShare) : BI.Storable (upEmb : UEmb _ 𝕄) (inP m d q) := by unfold inP; infer_instance
instance (d : Dev nD) (q : PosShare TreeShare) (M : Finset S2x200000x128.Idx) : BI.Storable (upEmb : UEmb _ 𝕄) (outP m d q M) := by unfold outP; infer_instance

/-- The reads' shares cut into `n`. -/
theorem inP_pieces (d : Dev nD) (q : PosShare TreeShare) {n : ℕ} (hn : 0 < n) :
    (inP m d q : sProp 𝕄) = bigSep Finset.univ fun k : Fin n => inP m d (Idealize.ShloMosaic.pieceOf q n hn k) := by
  unfold inP
  simp only [bigSep_sep']
  rw [Idealize.ShloMosaic.pointsTo_piecesOf Finset.univ (A0 m d) hn q, Idealize.ShloMosaic.pointsTo_piecesOf Finset.univ (A1 m d) hn q,
    Idealize.ShloMosaic.pointsTo_piecesOf Finset.univ (m (fLoc d)) hn q, Idealize.ShloMosaic.pointsTo_piecesOf Finset.univ (m (tLoc d)) hn q,
    Idealize.ShloMosaic.pointsTo_piecesOf Finset.univ (m (hLoc d)) hn q, Idealize.ShloMosaic.pointsTo_piecesOf Finset.univ (m (uLoc d)) hn q,
    Idealize.ShloMosaic.pointsTo_piecesOf Finset.univ (Zb (F := F) d) hn q]

/-- What is taken at a share cut into `n`. -/
theorem takes_pieces (d : Dev nD) (q : PosShare TreeShare) {n : ℕ} (hn : 0 < n) :
    (takes m d q : sProp 𝕄) ⊢ bigSep Finset.univ fun k : Fin n => takes m d (Idealize.ShloMosaic.pieceOf q n hn k) := by
  rw [bigSep_sep', ← inP_pieces]
  exact sep_mono_right (willBe_piecesOf (Ix := HIx 1) emb hn)

/-- What `n` pieces bring back joined. -/
theorem brings_join (d : Dev nD) (q : PosShare TreeShare) {n : ℕ} (hn : 0 < n) (R : Fin n → Finset S2x200000x128.Idx → Prop)
    (hR : ∀ k M M', M ⊆ M' → R k M → R k M') :
    (bigSep Finset.univ fun k : Fin n => brings m d (Idealize.ShloMosaic.pieceOf q n hn k) (R k)) ⊢ (brings m d q fun M => ∀ k, R k M : sProp 𝕄) := by
  rw [bigSep_sep', ← inP_pieces]
  refine sep_mono_right ((bigSep_exists_pi Finset.univ
    (fun k (M : Finset S2x200000x128.Idx) => iprop(⌜R k M⌝ ∗ outP m d (Idealize.ShloMosaic.pieceOf q n hn k) M))).trans ?_)
  iintro ⟨%Ms, H⟩
  ihave H0 := (bigSep_pure_sep Finset.univ (fun k => R k (Ms k)) fun k => outP m d (Idealize.ShloMosaic.pieceOf q n hn k) (Ms k)) $$ H
  icases H0 with ⟨%hMs, H⟩
  unfold outP
  ihave H' := (willBe_joinOf (Ix := HIx 1) (ℓ := oLoc d) emb hn Ms) $$ H
  icases H' with ⟨%W', %hW, H⟩
  iexists W'
  isplitr
  · ipureintro; exact fun k => hR k _ _ (hW k) (hMs k (Finset.mem_univ k))
  · iexact H

theorem TileRows.mono {c : Fin 2} {i : Fin 16} (M M' : Finset S2x200000x128.Idx) (h : M ⊆ M') (hM : TileRows c i M) : TileRows c i M' :=
  fun p hp l hl ch => h (hM p hp l hl ch)
theorem CoreRows.mono {c : Fin 2} (M M' : Finset S2x200000x128.Idx) (h : M ⊆ M') (hM : CoreRows c M) : CoreRows c M' := fun i => (hM i).mono _ _ h

/-- Every element is in some SparseCore's rows. -/
theorem all_rows {M : Finset S2x200000x128.Idx} (h : ∀ c, CoreRows c M) : M = Finset.univ := by
  refine Finset.eq_univ_iff_forall.mpr fun x => ?_
  obtain ⟨c, s, p, hp, e⟩ := row_tile (x 1).val (x 1).isLt
  have := h c s p hp (x 0).val (x 0).isLt (x 2)
  rw [e, ix_eta] at this
  exact this

/-- The call's handshakes: each SparseCore takes its share and brings it back with its rows written, and so does each of its tiles; a thread knows
    the write mode's invariant. -/
def P : (K (F := F)).Pay (nD := nD) (Val := Elt F) (Name := ℕ) (U := UU F) where
  st := fun q d c => match q with | 0 => takes m d (cq (Fin.cast nCore_zero c))
  dn := fun q d c => match q with | 0 => brings m d (cq (Fin.cast nCore_zero c)) (CoreRows (Fin.cast nCore_zero c))
  go := fun q d c i => match q with | 0 => takes m d (tq (Fin.cast nCore_zero c) (Fin.cast nSub_zero i))
  td := fun q d c i => match q with
    | 0 => brings m d (tq (Fin.cast nCore_zero c) (Fin.cast nSub_zero i)) (TileRows (Fin.cast nCore_zero c) (Fin.cast nSub_zero i))
  x := fun _ _ => iprop(∃ ιwm, wmInv emb ιwm)

instance P_storable : (P (F := F) m).IsStorable where
  st q d c := match q with
    | 0 => (inferInstance : BI.Storable (upEmb : UEmb _ 𝕄) (takes m d (cq (Fin.cast nCore_zero c))))
  dn q d c := match q with
    | 0 => (inferInstance : BI.Storable (upEmb : UEmb _ 𝕄) (brings m d (cq (Fin.cast nCore_zero c)) (CoreRows (Fin.cast nCore_zero c))))
  go q d c i := match q with
    | 0 => (inferInstance : BI.Storable (upEmb : UEmb _ 𝕄) (takes m d (tq (Fin.cast nCore_zero c) (Fin.cast nSub_zero i))))
  td q d c i := match q with
    | 0 => (inferInstance : BI.Storable (upEmb : UEmb _ 𝕄)
      (brings m d (tq (Fin.cast nCore_zero c) (Fin.cast nSub_zero i)) (TileRows (Fin.cast nCore_zero c) (Fin.cast nSub_zero i))))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A SparseCore's share dealt to its tiles and gathered. -/
theorem vecSplit : (K (F := F)).VecSplit' (P m) 0 := by
  intro d c
  show (takes m d (cq (Fin.cast nCore_zero c)) : sProp 𝕄) ⊢ |={Set.univ}=> iprop(
      (bigSep Finset.univ fun i : Fin ((K (F := F)).nSub 0) => takes m d (tq (Fin.cast nCore_zero c) (Fin.cast nSub_zero i)))
      ∗ ((bigSep Finset.univ fun i : Fin ((K (F := F)).nSub 0) =>
          brings m d (tq (Fin.cast nCore_zero c) (Fin.cast nSub_zero i)) (TileRows (Fin.cast nCore_zero c) (Fin.cast nSub_zero i)))
          -∗ brings m d (cq (Fin.cast nCore_zero c)) (CoreRows (Fin.cast nCore_zero c))))
  rw [bigSep_tasks (F := F) (fun i => takes m d (tq (Fin.cast nCore_zero c) i)),
    bigSep_tasks (F := F) (fun i => brings m d (tq (Fin.cast nCore_zero c) i) (TileRows (Fin.cast nCore_zero c) i))]
  iintro H; imodintro
  isplitl [H]
  · iapply (takes_pieces m d (cq (Fin.cast nCore_zero c)) (n := 16) (Nat.succ_pos 15)); iexact H
  iintro H
  iapply (brings_join m d (cq (Fin.cast nCore_zero c)) (n := 16) (Nat.succ_pos 15) (TileRows (Fin.cast nCore_zero c)) fun _ _ _ h hM => hM.mono _ _ h)
  iexact H

/-- What the call takes for the SparseCores, -/
theorem st0 (d : Dev nD) : (takes m d fullShare : sProp 𝕄) ⊢ bigSep Finset.univ fun c : Fin ((K (F := F)).nCore 0) => (P m).st 0 d c := by
  show _ ⊢ bigSep Finset.univ fun c : Fin ((K (F := F)).nCore 0) => takes m d (cq (Fin.cast nCore_zero c))
  rw [bigSep_cores (F := F) (fun c => takes m d (cq c))]
  exact takes_pieces m d fullShare (n := 2) (by decide)
/-- and what it hands back. -/
theorem dn0 (d : Dev nD) : (bigSep Finset.univ fun c : Fin ((K (F := F)).nCore 0) => (P m).dn 0 d c) ⊢ (brings m d fullShare fun M => ∀ c, CoreRows c M : sProp 𝕄) := by
  show (bigSep Finset.univ fun c : Fin ((K (F := F)).nCore 0) => brings m d (cq (Fin.cast nCore_zero c)) (CoreRows (Fin.cast nCore_zero c))) ⊢ _
  rw [bigSep_cores (F := F) (fun c => brings m d (cq c) (CoreRows c))]
  exact brings_join m d fullShare (n := 2) (by decide) CoreRows fun _ _ _ h hM => hM.mono _ _ h

/-! ## The ghost state at launch -/

/-- Each thread's knowledge of the write mode, one device's TensorCore's included. -/
abbrev knows : sProp 𝕄 := iprop(∃ ιwm, wmInv (nD := nD) (τ := τ) (sig := sig) (Ix := HIx 1) (Name := ℕ) (Lvl := ℕ) (emb : UEmb (UW F) (UU F)) ιwm)

def u₀ : UU F := (initOf (K (F := F)).hsCells (K (F := F)).hsToks, (wm₀ nD τ sig (Elt F), 1))

theorem dealt {I : Type} [Fintype I] [DecidableEq I] : (knows (F := F)) ⊢ (bigSep Finset.univ fun _ : I => knows (F := F)) :=
  bigSep_of_persistent _ _

/-- The launch element gives the handshakes' rounds and everyone's knowledge of the write mode. -/
theorem hu₀ (ρ : Dev nD → PrngReg) : (ownU (u₀ (F := F)) : sProp 𝕄)
    ⊢ |={Set.univ}=> iprop(BI.own (EH (initOf (K (F := F)).hsCells (K (F := F)).hsToks)) ∗ (bigSep Finset.univ fun _ : Dev nD => knows (F := F))
        ∗ bigSep Finset.univ fun thr : Thread nD τ => bigSep Finset.univ fun q : Fin 1 => (P m).x q thr) := by
  unfold u₀
  iintro Hu
  ihave H := (ownU_pair (initOf (K (F := F)).hsCells (K (F := F)).hsToks) ((wm₀ nD τ sig (Elt F), 1) : UW F × Counters)) $$ Hu
  icases H with ⟨HH, HR⟩
  ihave H2 := (own_pair_emb embR (wm₀ nD τ sig (Elt F)) (1 : Counters)) $$ HR
  icases H2 with ⟨HW, -⟩
  ihave HW' := (show (BI.own (((Emb.inl : Emb (UW F) (UW F × Counters)).trans embR) (wm₀ nD τ sig (Elt F))) : sProp 𝕄)
      ⊢ ownU ((emb : UEmb (UW F) (UU F)) (wm₀ nD τ sig (Elt F))) from Entails.of_eq rfl) $$ HW
  imod (wmInv_alloc (Ix := HIx 1) (Name := ℕ) (Lvl := ℕ) (emb := (emb : UEmb (UW F) (UU F))) (⟨m, fun _ => 0, ρ⟩ : MemSt nD τ sig (Elt F)) ∅ (E := Set.univ)) $$ HW' with ⟨%ιwm, -, #Hinv⟩
  imodintro
  isplitl [HH]; · iexact HH
  isplitr
  · iapply dealt; iexists ιwm; iexact Hinv
  · ihave Hk : knows (F := F) $$ []
    · iexists ιwm; iexact Hinv
    iapply (dealt.trans (bigSep_mono fun (_ : Thread nD τ) _ => dealt (I := Fin 1))); iexact Hk

end Cert.Proof.Launch
-- ==== Proof.Task.lean ====
/-
  A tile's task at launch: its own buffers and semaphores, its share of the arrays, the values behind the targets, and its obligation.
-/
module

public import proofs.«01_k».proof.Proof.Deal

@[expose] public section

set_option synthInstance.maxSize 4096

noncomputable section

namespace Cert.Proof.Launch

open Cert.KernelIdeal Cert.KernelIdeal.Gen
open Cert.Proof Cert.Proof.Rows

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ (UU F) ℕ

variable (m : (ℓ : Loc nD τ sig) → Buf (Elt F) ℓ)

/-- Some of a set's assertions, listed, and the rest. -/
theorem bigSep_list {I : Type} [DecidableEq I] (Φ : I → sProp 𝕄) : ∀ (l : List I) (s : Finset I), l.Nodup → (∀ a ∈ l, a ∈ s) →
    bigSep s Φ = l.foldr (fun a R => iprop(Φ a ∗ R)) (bigSep (s \ l.toFinset) Φ)
  | [], s, _, _ => by simp
  | a :: l, s, hn, hs => by
    have hn' := List.nodup_cons.mp hn
    rw [SparseCore.bigSep_erase' (hs a List.mem_cons_self), List.foldr_cons,
      bigSep_list Φ l (s.erase a) hn'.2 fun b hb => Finset.mem_erase.mpr ⟨fun e => hn'.1 (e ▸ hb), hs b (List.mem_cons_of_mem _ hb)⟩]
    have e : s.erase a \ l.toFinset = s \ (a :: l).toFinset := by
      ext b; simp only [Finset.mem_sdiff, Finset.mem_erase, List.toFinset_cons, Finset.mem_insert]; tauto
    rw [e]

section Tile

variable (d : Dev nD) (L : grid0.Coords)

abbrev cV (L : grid0.Coords) : Fin τ.nSC := (L 0).castLE hcore0
abbrev jV (L : grid0.Coords) : Fin τ.nSub := (L 1).castLE hsub0

/-- The semaphores of the task, -/
abbrev semList : List (SemLoc sig) :=
  [.dma cc0_scratch10.sem, .dma cc0_scratch11.sem, .dma cc0_scoped0.sem, .dma cc0_scoped1.sem, .dma cc0_scoped2.sem, .dma cc0_scoped3.sem, .dma cc0_scoped4.sem]
/-- and its buffers. -/
abbrev bufList : List (Ref sig .scVector) :=
  [cc0_scratch0, cc0_scratch1, cc0_scratch2, cc0_scratch3, cc0_scratch4, cc0_scratch5, cc0_scratch6, cc0_scratch7, cc0_scratch8, cc0_scratch9]

theorem bufList_nodup : bufList.Nodup := by decide

/-- A tile's own semaphores are the task's and the rest. -/
theorem ownSems0_V :
    (ownSems0 (V d (cV L) (jV L)) : sProp 𝕄)
      = (semList.map fun s => ((V d (cV L) (jV L), s) : GSem nD τ sig)).foldr (fun a R => iprop(semVal a 0 ∗ R))
          (bigSep (ownCells (V d (cV L) (jV L)) \ (semList.map fun s => ((V d (cV L) (jV L), s) : GSem nD τ sig)).toFinset) fun g => semVal g 0) := by
  unfold SparseCore.Cfg.ownSems0
  refine bigSep_list (fun g => semVal g 0) _ _ (List.Nodup.map (fun a b h => (Prod.mk.inj h).2) (by decide)) fun a ha => ?_
  obtain ⟨s, hs, rfl⟩ := List.mem_map.mp ha
  exact mem_ownCells.mpr ⟨rfl, (show ∀ s ∈ semList, s.isScoped .scVector = true by decide) s hs⟩

/-- A tile's own buffers are the task's and the rest. -/
theorem ownBufs_V :
    (ownBufs (V d (cV L) (jV L)) : sProp 𝕄)
      = (bufList.map fun b => (Proc.scVector (cV L) (jV L)).devRef b).foldr (fun b R => iprop((∃ f, ((d, b) : Loc nD τ sig) ↦{fullShare} f) ∗ R))
          (bigSep (ownRefs (τ := τ) (.scVector (cV L) (jV L)) \ (bufList.map fun b => (Proc.scVector (cV L) (jV L)).devRef b).toFinset)
            fun b => iprop(∃ f, ((d, b) : Loc nD τ sig) ↦{fullShare} f)) := by
  unfold SparseCore.Cfg.ownBufs
  refine bigSep_list (fun b => iprop(∃ f, ((d, b) : Loc nD τ sig) ↦{fullShare} f)) _ _
    (List.Nodup.map (Proc.devRef_injective _) bufList_nodup) fun a ha => ?_
  obtain ⟨b, hb, rfl⟩ := List.mem_map.mp ha
  refine SparseCore.Cfg.mem_ownRefs_of_owner (p := Proc.scVector (cV L) (jV L)) ?_
  fin_cases hb <;> rfl

variable [FloatOps F]

abbrev aV : Memref sig .scVector .hbm S2x200000x128 .f32 := Memref.whole main_v1_scv
abbrev bV : Memref sig .scVector .hbm S2x200000x128 .f32 := Memref.whole main_v2_scv
abbrev fV : Memref sig .scVector .hbm S100000 .i32 := Memref.whole main_arg2_scv
abbrev tV : Memref sig .scVector .hbm S100000 .i32 := Memref.whole main_arg3_scv
abbrev hV : Memref sig .scVector .hbm S100000 .i32 := Memref.whole main_arg4_scv
abbrev uV : Memref sig .scVector .hbm S100000 .i32 := Memref.whole main_arg5_scv
abbrev zV : Memref sig .scVector .hbm S128x128 .f32 := Memref.whole main_v0_scv
abbrev oV : Memref sig .scVector .hbm S2x200000x128 .f32 := Memref.whole main_v3_scv

/-- The winners of the tile's rows. -/
abbrev wT (p : ℕ) : BitVec 32 := winW (tt m d) (gg m d) 200000 (base L + p)

theorem base_lt {p : ℕ} (hp : p < 6250) : base L + p < 200000 := by
  have h0 : (L 0).val < 2 := (L 0).isLt
  have h1 : (L 1).val < 16 := (L 1).isLt
  unfold base
  omega

theorem wT_lt (hpre : PreOK m) (p : ℕ) : (wT m d L p).toNat = 4294967295 ∨ (wT m d L p).toNat < 400000 :=
  winW_lt (ggOf_lt (hpre d).1 (hpre d).2.2.1) _ _

/-- What a target asks of a layer's rows: the reads of a layer, entry by entry. -/
theorem layer_read {Val : EltTy → Type} (a : Memref sig .scVector .hbm S2x200000x128 .f32) (f : a.view.ref.ty.Contents Val) (A : S2x200000x128.Idx → Val .f32)
    (h : ∀ x, a.view.read Val f x = A x) (l : ℕ)
    (hl : ∀ a, (![l, 0, 0] : Fin 3 → Nat) a + S1x200000x128.size a ≤ S2x200000x128.size a) (r : ℕ) (ch : Fin 128) :
    (layerOf a l hl).view.read Val f (six r ch) = A (ix l r ch) := by
  rw [← h]
  exact congrArg (fun y => _root_.cast (congrArg Val a.view.elt_eq) (f y)) (layer_emb a l hl r ch)

/-- A whole array reads as it is. -/
theorem aV_read (x : S2x200000x128.Idx) (f : S2x200000x128.Idx → F .f32) : aV.view.read (Elt F) f x = f x := (View.read_apply _ _).trans (cast_eq _ _)
theorem bV_read (x : S2x200000x128.Idx) (f : S2x200000x128.Idx → F .f32) : bV.view.read (Elt F) f x = f x := (View.read_apply _ _).trans (cast_eq _ _)
theorem oV_read (x : S2x200000x128.Idx) (f : S2x200000x128.Idx → Option (F .f32)) : oV.view.read (fun e => Option (Elt F e)) f x = f x :=
  (View.read_apply _ _).trans (cast_eq _ _)

/-- The result's target. -/
abbrev goalT : Tgt (Elt F) (oV.view.loc (thr d L)) := fun x => some (res m d x)

theorem ix_eq {l r : ℕ} (v : ℕ) (ch : Fin 128) : ix ((ix l r ch) 0).val v ((ix l r ch) 2) = ix l v ch := by
  refine funext fun a => Fin.ext ?_
  match a with
  | 0 => exact Nat.mod_mod _ _
  | 1 => rfl
  | 2 => rfl

/-- The result at a row of the tile, -/
theorem res_at {p : ℕ} (hp : p < 6250) (l : ℕ) (ch : Fin 128) :
    (res m d (ix l (base L + p) ch) : F .f32) =
      if (wT m d L p).toNat < 200000 then A0 m d (ix l (wT m d L p).toNat ch)
      else if (wT m d L p).toNat < 2147483648 then A1 m d (ix l ((wT m d L p).toNat - 200000) ch) else zv := by
  unfold res tgt
  dsimp only
  have e : ((ix l (base L + p) ch) 1).val = base L + p := Nat.mod_eq_of_lt (base_lt L hp)
  rw [e, ix_eq, ix_eq]

/-- a row of the first array, -/
theorem gives0 (l : ℕ) (hl : ∀ a, (![l, 0, 0] : Fin 3 → Nat) a + S1x200000x128.size a ≤ S2x200000x128.size a) :
    Gives d L oV (goalT m d L) l hl aV (A0 m d) (cls0 (wT m d L)) (wT m d L) := by
  intro p hp ch u hu
  have hu := (layer_read (Val := fun e => Option (Elt F e)) oV (fun x => some (res m d x)) (fun x => some (res m d x)) (fun x => oV_read x _) l hl (base L + p) ch).symm.trans hu
  refine (layer_read aV (A0 m d) (A0 m d) (fun x => aV_read x _) l hl _ ch).trans ?_
  rw [← Option.some.inj hu]
  refine Eq.trans ?_ (res_at m d L hp.1 l ch).symm
  rw [if_pos hp.2]

/-- a row of the second, -/
theorem gives1 (l : ℕ) (hl : ∀ a, (![l, 0, 0] : Fin 3 → Nat) a + S1x200000x128.size a ≤ S2x200000x128.size a) :
    Gives d L oV (goalT m d L) l hl bV (A1 m d) (cls1 (wT m d L)) (lowW (wT m d L)) := by
  intro p hp ch u hu
  have hu := (layer_read (Val := fun e => Option (Elt F e)) oV (fun x => some (res m d x)) (fun x => some (res m d x)) (fun x => oV_read x _) l hl (base L + p) ch).symm.trans hu
  refine (layer_read bV (A1 m d) (A1 m d) (fun x => bV_read x _) l hl _ ch).trans ?_
  rw [← Option.some.inj hu]
  refine Eq.trans ?_ (res_at m d L hp.1 l ch).symm
  rw [if_neg (Nat.not_lt.mpr hp.2.1), if_pos hp.2.2, lowW_eq hp.2.1]

/-- and zeros. -/
theorem givesZ (l : ℕ) (hl : ∀ a, (![l, 0, 0] : Fin 3 → Nat) a + S1x200000x128.size a ≤ S2x200000x128.size a)
    (zb : Memref sig .scVector .vmem S128x128 .f32) (fz : Buf (Elt F) (zb.view.loc (thr d L)))
    (hz : zb.view.read (Elt F) fz = zV.view.read (Elt F) (Zb (F := F) d)) :
    GivesZ d L oV zb (goalT m d L) l hl fz (clsz (wT m d L)) := by
  intro p hp ch u hu r
  have hu := (layer_read (Val := fun e => Option (Elt F e)) oV (fun x => some (res m d x)) (fun x => some (res m d x)) (fun x => oV_read x _) l hl (base L + p) ch).symm.trans hu
  rw [hz, ← Option.some.inj hu]
  refine Eq.trans ?_ (res_at m d L hp.1 l ch).symm
  rw [if_neg (Nat.not_lt.mpr (le_trans (by decide) hp.2)), if_neg (Nat.not_lt.mpr hp.2)]
  exact (View.read_apply _ _).trans (cast_eq _ _)

/-- The words of an index array. -/
theorem far_eq (f : S100000.Idx → BitVec 32) (k : ℕ) :
    farW (F := F) d L fV f k = wd f k ∧ farW (F := F) d L tV f k = wd f k ∧ farW (F := F) d L hV f k = wd f k ∧ farW (F := F) d L uV f k = wd f k :=
  ⟨congrArg (wd · k) (View.read_whole _ _), congrArg (wd · k) (View.read_whole _ _), congrArg (wd · k) (View.read_whole _ _), congrArg (wd · k) (View.read_whole _ _)⟩

/-- The tile's rows written are the rows of its part of the result. -/
theorem tileRows_of {M : Finset S2x200000x128.Idx} (h : AllRows d L oV M) : TileRows (L 0) (L 1) M := by
  intro p hp l hl ch
  obtain ⟨h0, h1⟩ := h p hp
  have key : ∀ (l : ℕ) (hl : ∀ a, (![l, 0, 0] : Fin 3 → Nat) a + S1x200000x128.size a ≤ S2x200000x128.size a),
      farRow d L (layerOf oV l hl) (base L + p) ⊆ M → ix l (base L + p) ch ∈ M := fun l hl h =>
    h (Finset.mem_image.mpr ⟨ch, Finset.mem_univ _, layer_emb oV l hl _ ch⟩)
  match l, hl with
  | 0, _ => exact key 0 _ h0
  | 1, _ => exact key 1 _ h1

/-- A whole buffer of the tile's holds some words. -/
theorem words_of {n : ℕ} (B : Memref sig .scVector .vmem ⟨1, ![n]⟩ .i32) :
    (iprop(∃ f, B.view.loc (thr d L) ↦[Finset.univ]{fullShare} f) : sProp 𝕄) ⊢ words d L B (fun _ => True) := by
  unfold words
  iintro ⟨%f, H⟩
  iexists f; isplitr
  · ipureintro; trivial
  · iexact H
theorem of_words {n : ℕ} (B : Memref sig .scVector .vmem ⟨1, ![n]⟩ .i32) :
    words d L B (fun _ => True) ⊢ (iprop(∃ f, B.view.loc (thr d L) ↦[Finset.univ]{fullShare} f) : sProp 𝕄) := by
  unfold words
  iintro ⟨%f, -, H⟩
  iexists f; iexact H

/-- The task on tile `L`: from its share of the arrays, its buffers and its semaphores, its rows written and the rest as before. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ knows (F := F) ∗ takes m d (tq (L 0) (L 1))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L aV (Memref.isWhole_whole _) bV (Memref.isWhole_whole _) fV (Memref.isWhole_whole _) tV (Memref.isWhole_whole _) hV (Memref.isWhole_whole _) uV (Memref.isWhole_whole _) zV (Memref.isWhole_whole _) oV (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)
            cc0_scratch10 cc0_scratch11 cc0_scoped0 cc0_scoped1 cc0_scoped2 cc0_scoped3 cc0_scoped4)
          fun _ => iprop(brings m d (tq (L 0) (L 1)) (TileRows (L 0) (L 1))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  simp only [List.map_cons, List.map_nil, List.foldr_cons, List.foldr_nil]
  have hmw (s : SemLoc sig) : (levAts (K (F := F)).L (K (F := F)).lev : sProp 𝕄) ⊢ iprop(□ MayWait (thr d L) s none O) := by
    iintro #Hlv
    ihave #Hm := (show levAts (K (F := F)).L (K (F := F)).lev ⊢ Transfers.MayWaits (thr d L) none O from
      (K (F := F)).mayWaits_none (thr := V d (cV L) (jV L)) hO) $$ Hlv
    imodintro
    iapply (Transfers.MayWaits.elim s); iexact Hm
  unfold takes inP outP
  iintro ⟨#Hlv, ⟨%ιwm, #Hinv⟩, ⟨⟨Ha, Hb, Hf, Ht, Hh, Hu, Hz⟩, Ho⟩, ⟨B0, B1, B2, B3, B4, B5, B6, B7, B8, B9, Hbufs⟩,
    ⟨S0, S1, S2, S3, S4, S5, S6, Hsems⟩, HO⟩
  have h5 : ∀ k < 100000, farW (F := F) d L tV (m (tLoc d)) k = tt m d k := fun k hk => (far_eq d L _ k).2.1.trans (if_pos hk).symm
  have h4 : ∀ k < 100000, farW (F := F) d L fV (m (fLoc d)) k = gg m d k := fun k hk => (far_eq d L _ k).1.trans (if_pos hk).symm
  have h7 : ∀ k < 100000, farW (F := F) d L uV (m (uLoc d)) k = tt m d (100000 + k) := fun k _ => by
    refine (far_eq d L _ k).2.2.2.trans ?_
    unfold tt ttOf
    rw [if_neg (by omega), Nat.add_sub_cancel_left]
  have h6 : ∀ k, farW (F := F) d L hV (m (hLoc d)) k + 200000#32 = gg m d (100000 + k) := fun k => by
    refine (congrArg (· + 200000#32) (far_eq d L _ k).2.2.1).trans ?_
    unfold gg ggOf
    rw [if_neg (by omega), Nat.add_sub_cancel_left]
  have hlow : ∀ p, cls1 (wT m d L) p → (lowW (wT m d L) p).toNat < 200000 := fun p hp => by
    rw [lowW_eq hp.2.1]
    have h1 := wT_lt m d L hpre p
    have h2 := hp.2.2
    have h3 := hp.2.1
    omega
  have hb {Q : PUnit → sProp 𝕄} := body_wp (Q := Q) (Ix := HIx 1) (Name := ℕ) (U := UU F) (Lvl := ℕ) (defs := defs₀ (F := F)) 𝒱₀ none d L aV (Memref.isWhole_whole _) bV (Memref.isWhole_whole _) fV (Memref.isWhole_whole _) tV (Memref.isWhole_whole _) hV (Memref.isWhole_whole _) uV (Memref.isWhole_whole _) zV (Memref.isWhole_whole _) oV (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)
            cc0_scratch10 cc0_scratch11 cc0_scoped0 cc0_scoped1 cc0_scoped2 cc0_scoped3 cc0_scoped4
    (wT m d L) (emb (F := F)) ιwm (m (oLoc d)) (goalT m d L) (tq (L 0) (L 1)) none O W countersEmb (tt m d) (gg m d)
    (ttOf_lt (hpre d).2.1 (hpre d).2.2.2) (tq (L 0) (L 1)) (tq (L 0) (L 1)) (tq (L 0) (L 1)) (tq (L 0) (L 1)) (tq (L 0) (L 1)) (tq (L 0) (L 1)) (tq (L 0) (L 1))
    (m (tLoc d)) (m (fLoc d)) (m (uLoc d)) (m (hLoc d)) (Zb (F := F) d) (A0 m d) (A1 m d)
    h5 h4 h7 h6 (fun _ => rfl) hlow
    (gives0 m d L 0 _) (gives1 m d L 0 _) (fun fz hz => givesZ m d L 0 _ (Memref.whole cc0_scratch9) fz hz)
    (gives0 m d L 1 _) (gives1 m d L 1 _) (fun fz hz => givesZ m d L 1 _ (Memref.whole cc0_scratch9) fz hz)
  unfold run tileRes headInv waited at hb
  iapply hb $$ [Ha Hb Hf Ht Hh Hu Hz Ho B0 B1 B2 B3 B4 B5 B6 B7 B8 B9 S0 S1 S2 S3 S4 S5 S6 HO]
  · isplitr; · iexact Hinv
    isplitr; · iapply (hmw _); iexact Hlv
    isplitr; · iapply (hmw _); iexact Hlv
    isplitr [Ho]
    · isplitl [B0 B1 B2 Hf Ht Hh Hu Hz S2 S3 S4 S5 S6 HO]
      · isplitr; · iapply (hmw _); iexact Hlv
        isplitr; · iapply (hmw _); iexact Hlv
        isplitr; · iapply (hmw _); iexact Hlv
        isplitr; · iapply (hmw _); iexact Hlv
        isplitr; · iapply (hmw _); iexact Hlv
        isplitl [B0]; · iapply (words_of d L (Memref.whole cc0_scratch0)); iexact B0
        isplitl [B1]; · iapply (words_of d L (Memref.whole cc0_scratch1)); iexact B1
        isplitl [B2]; · iapply (words_of d L (Memref.whole cc0_scratch2)); iexact B2
        isplitl [Ht]; · iexact Ht
        isplitl [Hf]; · iexact Hf
        isplitl [Hu]; · iexact Hu
        isplitl [Hh]; · iexact Hh
        isplitl [Hz]; · iexact Hz
        isplitl [S2]; · iexact S2
        isplitl [S3]; · iexact S3
        isplitl [S4]; · iexact S4
        isplitl [S5]; · iexact S5
        isplitl [S6]; · iexact S6
        iexists W; isplitr
        · ipureintro; exact fun _ h => Or.inl h
        · iexact HO
      isplitl [B3]; · iapply (words_of d L (Memref.whole cc0_scratch3)); iexact B3
      isplitl [B4]; · iapply (words_of d L (Memref.whole cc0_scratch4)); iexact B4
      isplitl [B5]; · iapply (words_of d L (Memref.whole cc0_scratch5)); iexact B5
      isplitl [B6]; · iapply (words_of d L (Memref.whole cc0_scratch6)); iexact B6
      isplitl [B7]; · iapply (words_of d L (Memref.whole cc0_scratch7)); iexact B7
      isplitl [B9]; · iexact B9
      isplitl [B8]; · iexact B8
      isplitl [Ha]; · iexact Ha
      isplitl [Hb]; · iexact Hb
      isplitl [S0]; · iexact S0
      iexact S1
    · iexact Ho
  iintro ⟨⟨-, -, -, -, -, B0, B1, B2, Ht, Hf, Hu, Hh, Hz, S2, S3, S4, S5, S6, HO⟩, B3, B4, B5, B6, B7, B9, B8, Ha, Hb, S0, S1⟩ ⟨%M, %hM, Ho⟩
  isplitl [Ha Hb Hf Ht Hh Hu Hz Ho]
  · unfold brings inP outP
    isplitl [Ha Hb Hf Ht Hh Hu Hz]
    · isplitl [Ha]; · iexact Ha
      isplitl [Hb]; · iexact Hb
      isplitl [Hf]; · iexact Hf
      isplitl [Ht]; · iexact Ht
      isplitl [Hh]; · iexact Hh
      isplitl [Hu]; · iexact Hu
      iexact Hz
    · iexists M; isplitr
      · ipureintro; exact tileRows_of d L hM
      · iexact Ho
  isplitl [B0 B1 B2 B3 B4 B5 B6 B7 B8 B9 Hbufs]
  · isplitl [B0]; · iapply (of_words d L (Memref.whole cc0_scratch0)); iexact B0
    isplitl [B1]; · iapply (of_words d L (Memref.whole cc0_scratch1)); iexact B1
    isplitl [B2]; · iapply (of_words d L (Memref.whole cc0_scratch2)); iexact B2
    isplitl [B3]; · iapply (of_words d L (Memref.whole cc0_scratch3)); iexact B3
    isplitl [B4]; · iapply (of_words d L (Memref.whole cc0_scratch4)); iexact B4
    isplitl [B5]; · iapply (of_words d L (Memref.whole cc0_scratch5)); iexact B5
    isplitl [B6]; · iapply (of_words d L (Memref.whole cc0_scratch6)); iexact B6
    isplitl [B7]; · iapply (of_words d L (Memref.whole cc0_scratch7)); iexact B7
    isplitl [B8]; · iexact B8
    isplitl [B9]; · iexact B9
    iexact Hbufs
  isplitl [S0 S1 S2 S3 S4 S5 S6 Hsems]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact Hsems
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          aV (Memref.isWhole_whole _) bV (Memref.isWhole_whole _) fV (Memref.isWhole_whole _) tV (Memref.isWhole_whole _) hV (Memref.isWhole_whole _) uV (Memref.isWhole_whole _) zV (Memref.isWhole_whole _) oV (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)
          cc0_scratch10 cc0_scratch11 cc0_scoped0 cc0_scoped1 cc0_scoped2 cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile meets its obligation. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

end Cert.Proof.Launch
-- ==== Proof.Launch.lean ====
/-
  The whole program: the zeros and the two padded inputs, the call, the slice; its run from any launch memory whose indices name rows.
-/
module

public import proofs.«01_k».proof.Proof.Task

@[expose] public section

set_option synthInstance.maxSize 4096

noncomputable section

namespace Cert.Proof.Launch

open Cert.KernelIdeal Cert.KernelIdeal.Gen
open Cert.Proof Cert.Proof.Rows

open Idealize.ShloMosaic
open Idealize.ShloMosaic.SparseCore (S V T)
open Idealize.ShloMosaic.SparseCore.Cfg (HIx Pay)
open Idealize.ShloMosaic.StableHlo (held after seq nullary unary binary wp_seq wp_hlo_within tcRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ (UU F) ℕ

variable (m : (ℓ : Loc nD τ sig) → Buf (Elt F) ℓ) (ρ : Dev nD → PrngReg)

/-- The TensorCore's arrays. -/
def bufs : Finset (DevRef τ sig) := (tcRefs τ sig).filter fun b => ¬ b.isScoped

theorem unscoped_held (d : Dev nD) (W : Valuation τ sig (Elt F)) :
    (unscopedBufs d (fun b => W (Proc.devRef .tc b)) : sProp 𝕄) = held (SparseCore.T d) bufs W := by
  unfold unscopedBufs held bufs tcRefs
  rw [Finset.filter_map, BI.bigSep_map]
  rfl

theorem bufs_eq : bufs = tcRefs τ sig := by
  refine Finset.filter_true_of_mem fun b hb => ?_
  obtain ⟨r, -, rfl⟩ := Finset.mem_map.mp hb
  exact (show ∀ r : Ref sig .tc, ¬ (Proc.devRef (τ := τ) .tc r).isScoped by decide) r

theorem mem_bufs (b : Ref sig .tc) : (Proc.devRef .tc b : DevRef τ sig) ∈ bufs := bufs_eq ▸ StableHlo.devRef_mem_tcRefs b

variable [FloatOps F]

/-- What comes before the call. -/
abbrev ops : List (HloOp τ sig (Elt F)) :=
  [ nullary main_cst (constant S_ .f32 0x00000000#32),
    unary main_cst main_v0 (broadcastInDim S128x128 ![] bcast_S_S128x128),
    nullary main_c (constantI S_ 32 0#32),
    unary main_c main_call0_v0 (sitofp .f32),
    binary main_arg0 main_call0_v0 main_v1 (fun x v => pad S2x200000x128 ![0, 0, 0] ![0, 0, 64] ![0, 0, 0] x v pads_S2x200000x64_S2x200000x128_000_000_0640 h_S_),
    nullary main_c_0 (constantI S_ 32 0#32),
    unary main_c_0 main_call1_v0 (sitofp .f32),
    binary main_arg1 main_call1_v0 main_v2 (fun x v => pad S2x200000x128 ![0, 0, 0] ![0, 0, 64] ![0, 0, 0] x v pads_S2x200000x64_S2x200000x128_000_000_0640 h_S_) ]

/-- What comes after it. -/
abbrev last : HloOp τ sig (Elt F) := unary main_v3 main_v4 (extractStridedSlice S2x200000x64 ![0, 0, 0] · slices_S2x200000x128_S2x200000x64_0_0_0)

theorem main_eq (d : Dev nD) : main (F := F) d = (seq ops >>= fun _ => ((K (F := F)).run d 0 >>= fun _ => hlo rfl last fun _ => pure ⟨⟩)) := rfl

/-- The arrays at launch, before the call, and after it. -/
def V0 (d : Dev nD) : Valuation τ sig (Elt F) := fun b => m (d, b)
def V1 (d : Dev nD) : Valuation τ sig (Elt F) := after ops (V0 m d)
def V2 (d : Dev nD) : Valuation τ sig (Elt F) := Function.update (V1 m d) (Proc.devRef .tc main_v3 : DevRef τ sig) (res m d)
def V3 (d : Dev nD) : Valuation τ sig (Elt F) := (last (F := F)).result (V2 m d)

/-- The result: the call's first 64 columns. -/
def out (d : Dev nD) : Buf (Elt F) ((SparseCore.T (τ := τ) d).loc main_v4) :=
  extractStridedSlice S2x200000x64 ![0, 0, 0] (res m d : S2x200000x128.Idx → F .f32) slices_S2x200000x128_S2x200000x64_0_0_0

theorem V1_v1 (d : Dev nD) : V1 m d (Proc.devRef .tc main_v1 : DevRef τ sig) = A0 m d := by
  unfold V1; after_results; rfl
theorem V1_v2 (d : Dev nD) : V1 m d (Proc.devRef .tc main_v2 : DevRef τ sig) = A1 m d := by
  unfold V1; after_results; rfl
theorem V1_v0 (d : Dev nD) : V1 m d (Proc.devRef .tc main_v0 : DevRef τ sig) = Zb (F := F) d := by
  unfold V1; after_results; rfl

/-- The arrays nothing before the call writes. -/
theorem V1_kept (d : Dev nD) : V1 m d (Proc.devRef .tc main_arg0 : DevRef τ sig) = m ((SparseCore.T d).loc main_arg0) ∧ V1 m d (Proc.devRef .tc main_arg1 : DevRef τ sig) = m ((SparseCore.T d).loc main_arg1)
    ∧ V1 m d (Proc.devRef .tc main_arg2 : DevRef τ sig) = m (fLoc d) ∧ V1 m d (Proc.devRef .tc main_arg3 : DevRef τ sig) = m (tLoc d) ∧ V1 m d (Proc.devRef .tc main_arg4 : DevRef τ sig) = m (hLoc d)
    ∧ V1 m d (Proc.devRef .tc main_arg5 : DevRef τ sig) = m (uLoc d) ∧ V1 m d (Proc.devRef .tc main_v3 : DevRef τ sig) = m (oLoc d) := by
  unfold V1
  refine ⟨?_, ?_, ?_, ?_, ?_, ?_, ?_⟩ <;> after_results <;> rfl

theorem V3_v4 (d : Dev nD) : V3 m d (Proc.devRef .tc main_v4 : DevRef τ sig) = out m d := by
  unfold V3 V2
  rw [StableHlo.unary_result, Function.update_self]
  rfl

theorem V2_ne (d : Dev nD) {b : DevRef τ sig} (h : b ≠ (Proc.devRef .tc main_v3 : DevRef τ sig)) : V2 m d b = V1 m d b := Function.update_of_ne h _ _
theorem V3_ne (d : Dev nD) {b : DevRef τ sig} (h : b ≠ (Proc.devRef .tc main_v3 : DevRef τ sig)) (h' : b ≠ (Proc.devRef .tc main_v4 : DevRef τ sig)) : V3 m d b = V1 m d b := by
  refine Eq.trans ?_ (V2_ne m d h)
  unfold V3
  exact (last (F := F)).result_of_not_mem (V2 m d) (b := b) (fun e => h' (Finset.mem_singleton.mp e))

theorem ops_sub : ∀ op ∈ ops (F := F), op.bufs ⊆ bufs := by
  rw [bufs_eq]
  intro op h
  fin_cases h <;> first | exact StableHlo.nullary_bufs_sub _ _ _ | exact StableHlo.unary_bufs_sub _ _ _ _ _ | exact StableHlo.binary_bufs_sub _ _ _ _ _ _ _
theorem ops_fresh : ∀ op ∈ ops (F := F), op.fresh = ∅ := by
  intro op h
  fin_cases h <;> rfl
theorem last_sub : (last (F := F)).bufs ⊆ bufs := by
  rw [bufs_eq]
  exact StableHlo.unary_bufs_sub _ _ _ _ _

/-- The arrays the call takes, the result last, -/
abbrev callList : List (Ref sig .tc) := [main_v1, main_v2, main_arg2, main_arg3, main_arg4, main_arg5, main_v0, main_v3]
/-- and those a run is read at. -/
abbrev finList : List (Ref sig .tc) := [main_arg0, main_arg1, main_arg2, main_arg3, main_arg4, main_arg5, main_v4]

/-- Some of the arrays held, listed, and the rest. -/
theorem held_list (d : Dev nD) (l : List (Ref sig .tc)) (hn : l.Nodup) (W : Valuation τ sig (Elt F)) :
    (held (SparseCore.T d) bufs W : sProp 𝕄)
      = (l.map fun b => (Proc.devRef .tc b : DevRef τ sig)).foldr (fun b R => iprop((((d, b) : Loc nD τ sig) ↦{fullShare} W b) ∗ R))
          (held (SparseCore.T d) (bufs \ (l.map fun b => (Proc.devRef .tc b : DevRef τ sig)).toFinset) W) :=
  bigSep_list (fun b => (((d, b) : Loc nD τ sig) ↦{fullShare} W b)) _ bufs (hn.map (Proc.devRef_injective _)) fun a ha => by
    obtain ⟨b, -, rfl⟩ := List.mem_map.mp ha
    exact mem_bufs b

/-- The arrays before the call: those it takes, and the rest. -/
theorem held_V1 (d : Dev nD) : (held (SparseCore.T d) bufs (V1 m d) : sProp 𝕄)
    = iprop((aLoc d ↦{fullShare} A0 m d) ∗ (bLoc d ↦{fullShare} A1 m d) ∗ (fLoc d ↦{fullShare} m (fLoc d)) ∗ (tLoc d ↦{fullShare} m (tLoc d))
      ∗ (hLoc d ↦{fullShare} m (hLoc d)) ∗ (uLoc d ↦{fullShare} m (uLoc d)) ∗ (zLoc d ↦{fullShare} Zb (F := F) d) ∗ (oLoc d ↦{fullShare} m (oLoc d))
      ∗ held (SparseCore.T d) (bufs \ (callList.map fun b => (Proc.devRef .tc b : DevRef τ sig)).toFinset) (V1 m d)) := by
  rw [held_list d callList (by decide)]
  obtain ⟨-, -, h2, h3, h4, h5, h6⟩ := V1_kept m d
  simp only [List.map_cons, List.map_nil, List.foldr_cons, List.foldr_nil]
  rw [V1_v1, V1_v2, V1_v0, h2, h3, h4, h5, h6]

/-- The same after it. -/
theorem held_V2 (d : Dev nD) : (held (SparseCore.T d) bufs (V2 m d) : sProp 𝕄)
    = iprop((aLoc d ↦{fullShare} A0 m d) ∗ (bLoc d ↦{fullShare} A1 m d) ∗ (fLoc d ↦{fullShare} m (fLoc d)) ∗ (tLoc d ↦{fullShare} m (tLoc d))
      ∗ (hLoc d ↦{fullShare} m (hLoc d)) ∗ (uLoc d ↦{fullShare} m (uLoc d)) ∗ (zLoc d ↦{fullShare} Zb (F := F) d) ∗ (oLoc d ↦{fullShare} res m d)
      ∗ held (SparseCore.T d) (bufs \ (callList.map fun b => (Proc.devRef .tc b : DevRef τ sig)).toFinset) (V1 m d)) := by
  rw [held_list d callList (by decide)]
  obtain ⟨-, -, h2, h3, h4, h5, -⟩ := V1_kept m d
  have hr : (held (SparseCore.T d) (bufs \ (callList.map fun b => (Proc.devRef .tc b : DevRef τ sig)).toFinset) (V2 m d) : sProp 𝕄)
      = held (SparseCore.T d) (bufs \ (callList.map fun b => (Proc.devRef .tc b : DevRef τ sig)).toFinset) (V1 m d) := by
    refine bigSep_congr fun b hb => ?_
    rw [V2_ne m d]
    rintro rfl
    exact (Finset.mem_sdiff.mp hb).2 (by decide)
  rw [hr]
  simp only [List.map_cons, List.map_nil, List.foldr_cons, List.foldr_nil]
  rw [V2_ne m d (b := Proc.devRef .tc main_v1) (by decide), V2_ne m d (b := Proc.devRef .tc main_v2) (by decide), V2_ne m d (b := Proc.devRef .tc main_v0) (by decide),
    V2_ne m d (b := Proc.devRef .tc main_arg2) (by decide), V2_ne m d (b := Proc.devRef .tc main_arg3) (by decide),
    V2_ne m d (b := Proc.devRef .tc main_arg4) (by decide), V2_ne m d (b := Proc.devRef .tc main_arg5) (by decide),
    show V2 m d (Proc.devRef .tc main_v3) = res m d from Function.update_self _ _ _, V1_v1, V1_v2, V1_v0, h2, h3, h4, h5]

abbrev gLoc (d : Dev nD) : Loc nD τ sig := (SparseCore.T d).loc main_arg0
abbrev jLoc (d : Dev nD) : Loc nD τ sig := (SparseCore.T d).loc main_arg1
abbrev rLoc (d : Dev nD) : Loc nD τ sig := (SparseCore.T d).loc main_v4

/-- What the run is read at. -/
abbrev FIN (d : Dev nD) : sProp 𝕄 :=
  iprop((gLoc d ↦{fullShare} m (gLoc d)) ∗ (jLoc d ↦{fullShare} m (jLoc d)) ∗ (fLoc d ↦{fullShare} m (fLoc d)) ∗ (tLoc d ↦{fullShare} m (tLoc d))
    ∗ (hLoc d ↦{fullShare} m (hLoc d)) ∗ (uLoc d ↦{fullShare} m (uLoc d)) ∗ (rLoc d ↦{fullShare} out m d))

/-- The arrays at the end hold it. -/
theorem held_V3 (d : Dev nD) : (held (SparseCore.T d) bufs (V3 m d) : sProp 𝕄) ⊢ FIN m d := by
  rw [held_list d finList (by decide)]
  obtain ⟨h0, h1, h2, h3, h4, h5, -⟩ := V1_kept m d
  simp only [List.map_cons, List.map_nil, List.foldr_cons, List.foldr_nil]
  rw [V3_ne m d (b := Proc.devRef .tc main_arg0) (by decide) (by decide), V3_ne m d (b := Proc.devRef .tc main_arg1) (by decide) (by decide),
    V3_ne m d (b := Proc.devRef .tc main_arg2) (by decide) (by decide), V3_ne m d (b := Proc.devRef .tc main_arg3) (by decide) (by decide),
    V3_ne m d (b := Proc.devRef .tc main_arg4) (by decide) (by decide), V3_ne m d (b := Proc.devRef .tc main_arg5) (by decide) (by decide),
    V3_v4, h0, h1, h2, h3, h4, h5]
  iintro ⟨H0, H1, H2, H3, H4, H5, H6, -⟩
  isplitl [H0]; · iexact H0
  isplitl [H1]; · iexact H1
  isplitl [H2]; · iexact H2
  isplitl [H3]; · iexact H3
  isplitl [H4]; · iexact H4
  isplitl [H5]; · iexact H5
  iexact H6

set_option backward.isDefEq.respectTransparency.types false in
/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ knows (F := F))
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (SparseCore.T d) bufs (V0 m d) from unscoped_held d (V0 m d)]
  iintro ⟨#Hctx, Hst, ⟨Hb, Hheld, Hts, -⟩, %ιwm, #Hinv⟩
  iapply (wp_seq 𝒱 none Set.univ d bufs _ ops ops_sub ops_fresh (V0 m d)) $$ [Hb Hheld]
  · isplitl [Hb]; · iexact Hb
    iexact Hheld
  rw [show after ops (V0 m d) = V1 m d from rfl]
  iintro ⟨Hb, Hheld⟩
  ihave Hh := (Entails.of_eq (held_V1 m d)) $$ Hheld
  icases Hh with ⟨Ha, Hb', Hf, Ht, Hh, Hu, Hz, Ho, Hrest⟩
  imod (pointsTo_castIn (emb := emb (F := F)) (ℓ := oLoc d) (I := Finset.univ) (f := m (oLoc d)) (ιwm := ιwm) (E := Set.univ) (fun x => some (res m d x))) $$ [Ho] with Ho
  · isplitr; · iexact Hinv
    iexact Ho
  rw [wp_bind]
  iapply ((K (F := F)).wp_run (D (F := F)) 𝒱 (EH := EH) (P := P m) κ d 0) $$ [Hst Ha Hb' Hf Ht Hh Hu Hz Ho Hb Hts Hrest]
  isplitr; · iexact Hctx
  isplitl [Hst]; · iexact Hst
  isplitl [Ha Hb' Hf Ht Hh Hu Hz Ho]
  · iapply (st0 m d)
    unfold takes inP outP
    isplitr [Ho]
    · isplitl [Ha]; · iexact Ha
      isplitl [Hb']; · iexact Hb'
      isplitl [Hf]; · iexact Hf
      isplitl [Ht]; · iexact Ht
      isplitl [Hh]; · iexact Hh
      isplitl [Hu]; · iexact Hu
      iexact Hz
    · iexact Ho
  iintro ⟨Hst, Hdn⟩
  ihave Hdn' := (dn0 m d) $$ Hdn
  unfold brings inP outP
  icases Hdn' with ⟨⟨Ha, Hb', Hf, Ht, Hh, Hu, Hz⟩, %M, %hM, Ho⟩
  rw [all_rows hM]
  imod (willBeTo_castOut_some (emb := emb (F := F)) (ℓ := oLoc d) (I := Finset.univ) (f := m (oLoc d)) (g := res m d) (W := Finset.univ) (ιwm := ιwm) (E := Set.univ)) $$ [Ho] with Ho
  · isplitr; · iexact Hinv
    iexact Ho
  rw [Finset.piecewise_univ]
  iapply (wp_hlo_within 𝒱 (SparseCore.T d) none Set.univ (op := last) (S := bufs) last_sub (V := V2 m d)) $$ [Hb Ha Hb' Hf Ht Hh Hu Hz Ho Hrest]
  · isplitl [Hb]; · iexact Hb
    rw [held_V2]
    isplitl [Ha]; · iexact Ha
    isplitl [Hb']; · iexact Hb'
    isplitl [Hf]; · iexact Hf
    isplitl [Ht]; · iexact Ht
    isplitl [Hh]; · iexact Hh
    isplitl [Hu]; · iexact Hu
    isplitl [Hz]; · iexact Hz
    isplitl [Ho]; · iexact Ho
    iexact Hrest
  iintro ⟨Hb, Hheld⟩
  rw [wp_pure]; imodintro
  isplitl [Hst]; · iexact Hst
  isplitl [Hheld]
  · iapply (held_V3 m d); iexact Hheld
  isplitl [Hb] <;> iassumption

end Cert.Proof.Launch
-- ==== Proof.Same.lean ====
/-
  The program as printed and the program read over the extended reals are one text.
-/
module

public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

/-- The two signatures are one. -/
theorem sig_same : Cert.Kernel.sig = Cert.KernelIdeal.sig := rfl

set_option maxRecDepth 65536 in
set_option maxHeartbeats 0 in
/-- The two programs' bodies are one. -/
theorem defs_same : (Cert.Kernel.defs (F := F)) = (Cert.KernelIdeal.defs (F := F)) := rfl

set_option maxRecDepth 65536 in
/-- The two programs' threads are one. -/
theorem threads_same : (Cert.Kernel.threads (F := F)) = (Cert.KernelIdeal.threads (F := F)) := rfl

end Cert.Proof
-- ==== Proof.Run.lean ====
/-
  The run of the program from a launch memory whose indices name rows: it ends, its arguments are as they were, its result is the stated array.
-/
module

public import proofs.«01_k».proof.Proof.Launch
public import proofs.«01_k».proof.Proof.Same
public import proofs.«01_k».proof.Defs
public import proofs.«01_k».proof.Proof.Gen.Pre_in_range
public import Idealize.ShloMosaic.Lib.ReduceAll

@[expose] public section

set_option synthInstance.maxSize 4096

noncomputable section

namespace Cert.Proof.Launch

open Cert.KernelIdeal Cert.KernelIdeal.Gen
open Cert.Proof Cert.Proof.Rows

open Idealize.ShloMosaic
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (SparseCore.Cfg.HIx 1) (Elt F) ℕ (UU F) ℕ

section

variable (m : (ℓ : Loc nD τ sig) → Buf (Elt F) ℓ) (ρ : Dev nD → PrngReg) [FloatOps F]

/-- What the final memory of device `d` holds. -/
def fq (d : Dev nD) (s' : Phys nD τ sig (Elt F)) : Prop :=
  (s'.mem.mem (gLoc d) = m (gLoc d) ∧ s'.mem.mem (jLoc d) = m (jLoc d) ∧ s'.mem.mem (fLoc d) = m (fLoc d) ∧ s'.mem.mem (tLoc d) = m (tLoc d)
    ∧ s'.mem.mem (hLoc d) = m (hLoc d) ∧ s'.mem.mem (uLoc d) = m (uLoc d)) ∧ s'.mem.mem (rLoc d) = out m d

set_option maxRecDepth 16384 in
/-- An array held whole is what the memory has there, and is still held. -/
theorem read_of (ℓ : Loc nD τ sig) (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro ⟨HSI, Hx⟩
  ihave H := (persistent_entails_right (SI_pointsTo_agree (st := s') (ℓ := ℓ) (I := Finset.univ) (q := fullShare) (f := f))) $$ [HSI Hx]
  · isplitl [HSI] <;> iassumption
  icases H with ⟨%h, HSI, -⟩
  isplitr
  · ipureintro; exact funext fun i => h i (Finset.mem_univ i)
  iexact HSI

/-- The arrays read at the end. -/
theorem hfin (d : Dev nD) (s' : Phys nD τ sig (Elt F)) : iprop(FIN m d ∗ SI s') ⊢ (⌜fq m d s'⌝ : sProp 𝕄) := by
  iintro ⟨⟨H0, H1, H2, H3, H4, H5, H6⟩, HSI⟩
  ihave H := (read_of (gLoc d) (m (gLoc d)) s') $$ [HSI H0]
  · isplitl [HSI] <;> iassumption
  icases H with ⟨%h0, HSI⟩
  ihave H := (read_of (jLoc d) (m (jLoc d)) s') $$ [HSI H1]
  · isplitl [HSI] <;> iassumption
  icases H with ⟨%h1, HSI⟩
  ihave H := (read_of (fLoc d) (m (fLoc d)) s') $$ [HSI H2]
  · isplitl [HSI] <;> iassumption
  icases H with ⟨%h2, HSI⟩
  ihave H := (read_of (tLoc d) (m (tLoc d)) s') $$ [HSI H3]
  · isplitl [HSI] <;> iassumption
  icases H with ⟨%h3, HSI⟩
  ihave H := (read_of (hLoc d) (m (hLoc d)) s') $$ [HSI H4]
  · isplitl [HSI] <;> iassumption
  icases H with ⟨%h4, HSI⟩
  ihave H := (read_of (uLoc d) (m (uLoc d)) s') $$ [HSI H5]
  · isplitl [HSI] <;> iassumption
  icases H with ⟨%h5, HSI⟩
  ihave H := (read_of (rLoc d) (out m d) s') $$ [HSI H6]
  · isplitl [HSI] <;> iassumption
  icases H with ⟨%h6, -⟩
  ipureintro
  exact ⟨⟨h0, h1, h2, h3, h4, h5⟩, h6⟩

/-- What a run ends in. -/
def QC : PUnit × MemSt nD τ sig (Elt F) → Prop := fun r =>
  (∀ d : Dev nD, (r.2.mem (gLoc d) = m (gLoc d) ∧ r.2.mem (jLoc d) = m (jLoc d) ∧ r.2.mem (fLoc d) = m (fLoc d) ∧ r.2.mem (tLoc d) = m (tLoc d)
    ∧ r.2.mem (hLoc d) = m (hLoc d) ∧ r.2.mem (uLoc d) = m (uLoc d)) ∧ r.2.mem (rLoc d) = out m d) ∧ r.2.sem = fun _ => 0

/-- Every run ends there. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => knows (F := F)) (FIN m) (u₀ (F := F)) (sep_elim_left.trans (hu₀ m ρ)) (hmain m ρ) (fq m) (hfin m) (QC m) (fun _ h hz => ⟨h, hz⟩)

end

/-- A word that is at least 0 and below 200000, both read signed, is below 200000. -/
theorem word_of_tests (v : BitVec 32) (h : IntOp.cmpi .sge v 0#32 = 1#1) (h' : IntOp.cmpi .slt v 200000#32 = 1#1) : v.toNat < 200000 := by
  have hb (p : Bool) : (BitVec.ofBool p = 1#1) ↔ p = true := by cases p <;> decide
  simp only [IntOp.cmpi, hb, BitVec.sle_eq_decide, BitVec.slt_eq_decide, decide_eq_true_eq, BitVec.toInt_eq_toNat_cond, BitVec.toNat_ofNat,
    Nat.reducePow, Nat.reduceMod] at h h'
  omega

instance : Subsingleton (Cert.Pre_in_range.S_ : Shape).Idx := ⟨fun a b => funext fun i => i.elim0⟩

/-- The assumption on the arguments says that every word of the four index lists is below 200000. -/
theorem ok_of_fn [FloatOps F] (a0 a1 : FVec F Cert.Pre_in_range.S2x200000x64 .f32) (i2 i3 i4 i5 : IVec Cert.Pre_in_range.S100000 32)
    (h : Cert.Pre_in_range.fn (F := F) a0 a1 i2 i3 i4 i5 = fun _ => 1#1) :
    (∀ x, (i2 x).toNat < 200000) ∧ (∀ x, (i3 x).toNat < 200000) ∧ (∀ x, (i4 x).toNat < 200000) ∧ (∀ x, (i5 x).toNat < 200000) := by
  have e := congrFun h (fun i => i.elim0)
  unfold Cert.Pre_in_range.fn Cert.Pre_in_range.fn_part1 at e
  obtain ⟨e, f5⟩ := IntOp.andi_eq_one.1 e
  obtain ⟨e, g5⟩ := IntOp.andi_eq_one.1 e
  obtain ⟨e, f4⟩ := IntOp.andi_eq_one.1 e
  obtain ⟨e, g4⟩ := IntOp.andi_eq_one.1 e
  obtain ⟨e, f3⟩ := IntOp.andi_eq_one.1 e
  obtain ⟨e, g3⟩ := IntOp.andi_eq_one.1 e
  obtain ⟨g2, f2⟩ := IntOp.andi_eq_one.1 e
  exact ⟨fun x => word_of_tests _ (Host.reduce_andi_all _ _ _ _ _ g2 x) (Host.reduce_andi_all _ _ _ _ _ f2 x),
    fun x => word_of_tests _ (Host.reduce_andi_all _ _ _ _ _ g3 x) (Host.reduce_andi_all _ _ _ _ _ f3 x),
    fun x => word_of_tests _ (Host.reduce_andi_all _ _ _ _ _ g4 x) (Host.reduce_andi_all _ _ _ _ _ f4 x),
    fun x => word_of_tests _ (Host.reduce_andi_all _ _ _ _ _ g5 x) (Host.reduce_andi_all _ _ _ _ _ f5 x)⟩

/-- The program read over the extended reals ends with its arguments as they were. -/
theorem frame_ideal : Cert.quiescent_KernelIdeal := fun m ρ hpre =>
  (θ_run Cert.KernelIdeal.defs _ _).mono (fun _ h => ⟨fun d => (h.1 d).1, h.2⟩) (run_main (F := Ideal) m ρ fun d => ok_of_fn _ _ _ _ _ _ (hpre d))

/-- The program as printed ends with its arguments as they were. -/
theorem frame : Cert.quiescent_Kernel := fun m ρ hpre => by
  have h := (θ_run (Cert.KernelIdeal.defs (F := Bits)) _ _).mono (fun _ h => (⟨fun d => (h.1 d).1, h.2⟩ : _ ∧ _))
    (run_main (F := Bits) m ρ fun d => ok_of_fn _ _ _ _ _ _ (hpre d))
  rw [← defs_same, ← threads_same] at h
  exact h

end Cert.Proof.Launch
-- ==== Proof.Ref.lean ====
/-
  The run of the reference: its operations in order, the array it returns as one term in its arguments, the arguments kept.
-/
module

public import Idealize.ShloMosaic.Lib.StableHlo.Run
public import proofs.«01_k».proof.Proof.Gen.ReferenceIdeal
public import proofs.«01_k».proof.Defs
public import proofs.«01_k».proof.Proof.Gen.Pre_in_range
public import Idealize.ShloMosaic.Lib.Quiescent

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The operations of one row lookup. -/
abbrev takeOps (arg0 : TRef sig ⟨S2x200000x64, .f32⟩) (arg1 : TRef sig ⟨S100000, .i32⟩) (φ : fn_take.Bufs) : List (HloOp τ sig (Elt F)) :=
  [ TRef.nullary φ.c (constantI S_ 32 0#32),
    TRef.unary φ.c φ.v0 (broadcastInDim S100000 ![] bcast_S_S100000),
    TRef.binary arg1 φ.v0 φ.v1 (cmpi .slt),
    TRef.nullary φ.c_0 (constantI S_ 32 200000#32),
    TRef.unary φ.c_0 φ.v2 (broadcastInDim S100000 ![] bcast_S_S100000),
    TRef.binary arg1 φ.v2 φ.v3 addi,
    TRef.ternary φ.v1 φ.v3 arg1 φ.call0.v0 select,
    TRef.unary φ.call0.v0 φ.v5 (broadcastInDim S100000x1 ![0] bcast_S100000_S100000x1_0),
    TRef.nullary φ.c_1 (constantI S1 32 199999#32),
    TRef.nullary φ.c_2 (constantI S_ 32 0#32),
    TRef.unary φ.c_2 φ.v6 (broadcastInDim S100000x1 ![] bcast_S_S100000x1),
    TRef.binary φ.v5 φ.v6 φ.v7 (cmpi .sge),
    TRef.unary φ.c_1 φ.v8 (broadcastInDim S1x1 ![1] bcast_S1_S1x1_1),
    TRef.unary φ.v8 φ.v9 (broadcastInDim S100000x1 ![0, 1] bcast_S1x1_S100000x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S100000x1_S100000_d1 h_S_),
    TRef.binary arg0 φ.v5 φ.v13 (fun x i => Host.gather gather_S2x200000x64_S100000x1_S2x100000x64_02_1_n_n_1_1_2164 x i),
    TRef.unary φ.v12 φ.v14 (broadcastInDim S2x100000x64 ![1] bcast_S100000_S2x100000x64_1),
    TRef.nullary φ.cst (constant S_ .f32 0x7FC00000#32),
    TRef.unary φ.cst φ.v15 (broadcastInDim S2x100000x64 ![] bcast_S_S2x100000x64),
    TRef.ternary φ.v14 φ.v13 φ.v15 φ.v16 select ]

/-- The operations from the start to the first store of rows, -/
abbrev ops0 : List (HloOp τ sig (Elt F)) :=
  [ nullary main_cst (constant S_ .f32 0x00000000#32),
    unary main_cst main_v0 (broadcastInDim S2x200000x64 ![] bcast_S_S2x200000x64) ]
/-- the first store of rows, -/
abbrev ops1 : List (HloOp τ sig (Elt F)) :=
  [ nullary main_c (constantI S_ 32 0#32),
    unary main_c main_v2 (broadcastInDim S100000 ![] bcast_S_S100000),
    binary main_arg3 main_v2 main_v3 (cmpi .slt),
    nullary main_c_0 (constantI S_ 32 200000#32),
    unary main_c_0 main_v4 (broadcastInDim S100000 ![] bcast_S_S100000),
    binary main_arg3 main_v4 main_v5 addi,
    ternary main_v3 main_v5 main_arg3 main_v6 select,
    unary main_v6 main_v7 (broadcastInDim S100000x1 ![0] bcast_S100000_S100000x1_0),
    ternary main_v0 main_v7 main_v1 main_v8 (fun x i u => Host.scatter scatter_S2x200000x64_S100000x1_S2x100000x64_02_1_1_1 (fun _ b => b) x i u) ]
/-- and the second. -/
abbrev ops2 : List (HloOp τ sig (Elt F)) :=
  [ nullary main_c_1 (constantI S_ 32 0#32),
    unary main_c_1 main_v10 (broadcastInDim S100000 ![] bcast_S_S100000),
    binary main_arg5 main_v10 main_v11 (cmpi .slt),
    nullary main_c_2 (constantI S_ 32 200000#32),
    unary main_c_2 main_v12 (broadcastInDim S100000 ![] bcast_S_S100000),
    binary main_arg5 main_v12 main_v13 addi,
    ternary main_v11 main_v13 main_arg5 main_v14 select,
    unary main_v14 main_v15 (broadcastInDim S100000x1 ![0] bcast_S100000_S100000x1_0),
    ternary main_v8 main_v15 main_v9 main_v16 (fun x i u => Host.scatter scatter_S2x200000x64_S100000x1_S2x100000x64_02_1_1_1 (fun _ b => b) x i u) ]

/-- All of them. -/
abbrev ops : List (HloOp τ sig (Elt F)) :=
  ops0 ++ takeOps (.of main_arg0) (.of main_arg2) main_call0 ++ ops1 ++ takeOps (.of main_arg1) (.of main_arg4) main_call1 ++ ops2

/-- They are the reference. -/
theorem main_eq (c : Dev nD) : main (F := F) c = seq ops := rfl

/-- Indices made non-negative: a negative one counts from the end. -/
def wrap (i : IVec S100000 32) : IVec S100000 32 :=
  select (cmpi .slt i (broadcastInDim S100000 ![] bcast_S_S100000 (constantI S_ 32 0#32)))
    (addi i (broadcastInDim S100000 ![] bcast_S_S100000 (constantI S_ 32 200000#32))) i

/-- The same as a column. -/
def col (i : IVec S100000 32) : IVec S100000x1 32 := broadcastInDim S100000x1 ![0] bcast_S100000_S100000x1_0 (wrap i)

/-- Which of them name a row. -/
def inside (i : IVec S100000 32) : IVec S100000 1 :=
  Host.reduce IntOp.andi (andi (cmpi .sge (col i) (broadcastInDim S100000x1 ![] bcast_S_S100000x1 (constantI S_ 32 0#32)))
    (cmpi .sle (col i) (broadcastInDim S100000x1 ![0, 1] bcast_S1x1_S100000x1_0_1 (broadcastInDim S1x1 ![1] bcast_S1_S1x1_1 (constantI S1 32 199999#32)))))
    (constantI S_ 1 1#1) reducesTo_S100000x1_S100000_d1 h_S_

/-- The rows looked up. -/
def taken (a : FVec F S2x200000x64 .f32) (i : IVec S100000 32) : FVec F S2x100000x64 .f32 :=
  select (broadcastInDim S2x100000x64 ![1] bcast_S100000_S2x100000x64_1 (inside i))
    (Host.gather gather_S2x200000x64_S100000x1_S2x100000x64_02_1_n_n_1_1_2164 a (col i))
    (broadcastInDim S2x100000x64 ![] bcast_S_S2x100000x64 (constant S_ .f32 0x7FC00000#32))

/-- Rows stored. -/
def put (o : FVec F S2x200000x64 .f32) (i : IVec S100000 32) (u : FVec F S2x100000x64 .f32) : FVec F S2x200000x64 .f32 :=
  Host.scatter scatter_S2x200000x64_S100000x1_S2x100000x64_02_1_1_1 (fun _ b => b) o (col i) u

/-- What the reference returns. -/
def refOut (a0 a1 : FVec F S2x200000x64 .f32) (f0 t0 f1 t1 : IVec S100000 32) : FVec F S2x200000x64 .f32 :=
  put (put (broadcastInDim S2x200000x64 ![] bcast_S_S2x200000x64 (constant S_ .f32 0x00000000#32)) t0 (taken a0 f0)) t1 (taken a1 f1)

set_option maxRecDepth 16384 in
/-- The result's array after all the operations. -/
theorem out_eq (V : Valuation τ sig (Elt F)) :
    after ops V (main_v16 : DevRef τ sig)
      = refOut (V (main_arg0 : DevRef τ sig)) (V (main_arg1 : DevRef τ sig)) (V (main_arg2 : DevRef τ sig)) (V (main_arg3 : DevRef τ sig))
          (V (main_arg4 : DevRef τ sig)) (V (main_arg5 : DevRef τ sig)) := by
  simp only [ops, ops0, ops1, ops2, takeOps, List.cons_append, List.nil_append]
  after_results_simp
  unfold refOut put taken inside col wrap
  simp only [TRef.ofBuf, TRef.toBuf, cast_eq]
  rfl

/-- No operation writes an argument. -/
theorem kept (V : Valuation τ sig (Elt F)) :
    after ops V (main_arg0 : DevRef τ sig) = V (main_arg0 : DevRef τ sig) ∧ after ops V (main_arg1 : DevRef τ sig) = V (main_arg1 : DevRef τ sig)
      ∧ after ops V (main_arg2 : DevRef τ sig) = V (main_arg2 : DevRef τ sig) ∧ after ops V (main_arg3 : DevRef τ sig) = V (main_arg3 : DevRef τ sig)
      ∧ after ops V (main_arg4 : DevRef τ sig) = V (main_arg4 : DevRef τ sig) ∧ after ops V (main_arg5 : DevRef τ sig) = V (main_arg5 : DevRef τ sig) := by
  simp only [ops, ops0, ops1, ops2, takeOps, List.cons_append, List.nil_append, after_cons, after_nil]
  exact ⟨rfl, rfl, rfl, rfl, rfl, rfl⟩

theorem scopedRefs_eq : (Finset.univ.filter fun b : Ref sig .tc => b.isScoped) = ∅ := by decide
theorem scopedSems_eq : (Finset.univ.filter fun sm : SemLoc sig => sm.isScoped .tc) = ∅ := by decide

/-- Every operation of a lookup has the TensorCore's arrays, -/
theorem takeOps_sub (arg0 : TRef sig ⟨S2x200000x64, .f32⟩) (arg1 : TRef sig ⟨S100000, .i32⟩) (φ : fn_take.Bufs) :
    (takeOps (F := F) arg0 arg1 φ).Forall fun op => op.bufs ⊆ tcRefs τ sig :=
  ⟨nullary_bufs_sub .., unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub .., nullary_bufs_sub ..,
    unary_bufs_sub .., ternary_bufs_sub ..⟩

/-- and every operation. -/
theorem ops_sub : (ops : List (HloOp τ sig (Elt F))).Forall fun op => op.bufs ⊆ tcRefs τ sig := by
  refine List.forall_append.2 ⟨List.forall_append.2 ⟨List.forall_append.2 ⟨List.forall_append.2 ⟨?_, takeOps_sub _ _ _⟩, ?_⟩, takeOps_sub _ _ _⟩, ?_⟩
  · exact ⟨nullary_bufs_sub .., unary_bufs_sub ..⟩
  · exact ⟨nullary_bufs_sub .., unary_bufs_sub .., binary_bufs_sub .., nullary_bufs_sub .., unary_bufs_sub .., binary_bufs_sub ..,
      ternary_bufs_sub .., unary_bufs_sub .., ternary_bufs_sub ..⟩
  · exact ⟨nullary_bufs_sub .., unary_bufs_sub .., binary_bufs_sub .., nullary_bufs_sub .., unary_bufs_sub .., binary_bufs_sub ..,
      ternary_bufs_sub .., unary_bufs_sub .., ternary_bufs_sub ..⟩

/-- Every run of the reference ends with its result at that array and its arguments as they were. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v16)
          = refOut (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5) :=
  (θ_run defs _ _).mono (fun _ h c =>
      have k := kept (F := F) fun b => m (c, b)
      ⟨(h c main_v16).trans (out_eq _), (h c main_arg0).trans k.1, (h c main_arg1).trans k.2.1, (h c main_arg2).trans k.2.2.1,
        (h c main_arg3).trans k.2.2.2.1, (h c main_arg4).trans k.2.2.2.2.1, (h c main_arg5).trans k.2.2.2.2.2⟩)
    (run_seq scopedRefs_eq scopedSems_eq defs main (fun _ => ops) main_eq (fun _ => ops_sub) m ρ)

/-- The reference's arguments are kept. -/
theorem frame : Cert.quiescent_ReferenceIdeal := fun m ρ _ =>
  (θ_run defs _ _).mono (fun _ h => ⟨fun c => (h c).2, sem_eq_zero_of_no_sems rfl _⟩) (run_main (F := Ideal) m ρ)

/-- The same where its index arguments name rows. -/
theorem frame_in_range : Cert.quiescent_ReferenceIdeal_pre_in_range := fun m ρ _ => frame m ρ trivial

end Cert.Proof.Ref
-- ==== Proof.RefValue.lean ====
/-
  The value of the reference: with every index naming a row, a row holds what its last pair names, or zeros. It is the kernel's result.
-/
module

public import proofs.«01_k».proof.Proof.Ref
public import proofs.«01_k».proof.Proof.Run
public import Idealize.ShloMosaic.Lib.Routing.OpsSet
public import Idealize.ShloMosaic.Lib.LaneScatter.Pure
public import Idealize.ShloMosaic.Lib.ReduceAll
public import Idealize.ShloMosaic.Lib.ValueIdxCore
public import Idealize.ShloMosaic.Lib.KernelVsHost

@[expose] public section

noncomputable section

namespace Cert.Proof.Ref

open Cert.ReferenceIdeal Cert.ReferenceIdeal.Gen
open Idealize.ShloMosaic Idealize.ShloMosaic.ValueIdx Idealize.SL.Sem

variable {F : FTy → Type} [FloatOps F]

/-- Entry `k` of a list. -/
abbrev en (k : Fin 100000) : S100000.Idx := Shape.ofLane (d := ![100000]) k

theorem wd_en (f : S100000.Idx → BitVec 32) (k : Fin 100000) : wd f k.val = f (en k) := dif_pos k.isLt

/-- An entry of the column is the list's entry, when that names a row. -/
theorem col_at (i : IVec S100000 32) (h : ∀ x, (i x).toNat < 200000) (y : S100000x1.Idx) : col i y = i (en (y 0)) := by
  have e : wrap i (en (y 0)) = i (en (y 0)) := Routing.wrap_of_lt _ _ (by have := h (en (y 0)); show _ < 2147483648; omega)
  refine Eq.trans ?_ e
  show wrap i _ = wrap i _
  refine congrArg (wrap i) (funext fun a => Fin.ext ?_)
  match a with
  | 0 => rfl

/-- A word below 200000 passes the two tests of its being a row. -/
theorem tests_of_word (v : BitVec 32) (h : v.toNat < 200000) : IntOp.andi (IntOp.cmpi .sge v 0#32) (IntOp.cmpi .sle v 199999#32) = 1#1 := by
  have hb (p : Bool) : (BitVec.ofBool p = 1#1) ↔ p = true := by cases p <;> decide
  refine IntOp.andi_eq_one.2 ⟨?_, ?_⟩ <;>
  · simp only [IntOp.cmpi, hb, BitVec.sle_eq_decide, decide_eq_true_eq, BitVec.toInt_eq_toNat_cond, BitVec.toNat_ofNat, Nat.reducePow, Nat.reduceMod]
    omega

/-- Every entry is then inside. -/
theorem inside_at (i : IVec S100000 32) (h : ∀ x, (i x).toNat < 200000) (x : S100000.Idx) : inside i x = 1#1 := by
  refine Host.reduce_andi_one _ _ _ _ _ rfl fun y => ?_
  have e := col_at i h y
  show IntOp.andi (IntOp.cmpi .sge (col i y) 0#32) (IntOp.cmpi .sle (col i y) 199999#32) = 1#1
  rw [e]
  exact tests_of_word _ (h _)

/-- Entry `k` of a column. -/
def cl (k : Fin 100000) : S100000x1.Idx := ix2 k (0 : Fin 1)

/-- Where a lookup reads. -/
theorem gather_at {α : Type} (a : S2x200000x64.Idx → α) (idx : IVec S100000x1 32) (l : Fin 2) (k : Fin 100000) (ch : Fin 64) (v : Fin 200000)
    (hv : (idx (cl k)).toInt = (v.val : Int)) :
    Host.gather gather_S2x200000x64_S100000x1_S2x100000x64_02_1_n_n_1_1_2164 a idx (ix3 l k ch) = a (ix3 l v ch) := by
  let D := gather_S2x200000x64_S100000x1_S2x100000x64_02_1_n_n_1_1_2164
  have hb : ∀ b, D.batchCoord (ix3 l k ch) b = 0 := fun b => GatherDims.batchCoord_eq_zero _ _ _ List.not_mem_nil
  have s0 : D.start (ix3 l k ch) idx 0 = 0 := by unfold GatherDims.start; exact dif_neg (by decide)
  have s2 : D.start (ix3 l k ch) idx 2 = 0 := by unfold GatherDims.start; exact dif_neg (by decide)
  have o0 : D.offCoord (ix3 l k ch) 0 = l.val := by unfold GatherDims.offCoord; exact dif_pos (by decide)
  have o2 : D.offCoord (ix3 l k ch) 2 = ch.val := by unfold GatherDims.offCoord; exact dif_pos (by decide)
  have o1 : D.offCoord (ix3 l k ch) 1 = 0 :=
    GatherDims.offCoord_eq_zero _ _ _ (fun h => ((GatherDims.mem_sKept _ _).mp h).1 (List.mem_singleton.mpr rfl))
  have hsi : D.siIdx (ix3 l k ch) ⟨List.idxOf (1 : Fin 3) [(1 : Fin 3)], List.idxOf_lt_length_iff.2 (List.mem_singleton.mpr rfl)⟩ = cl k := by
    funext b; refine Fin.ext ?_
    match b with
    | 0 => rfl
    | 1 => rfl
  have s1 : D.start (ix3 l k ch) idx 1 = v.val := by
    have e : D.start (ix3 l k ch) idx 1 = min (idx (cl k)).toInt.toNat (200000 - 1) := by
      rw [← hsi]
      unfold GatherDims.start
      exact dif_pos (List.mem_singleton.mpr rfl)
    rw [e, hv, Int.toNat_natCast]
    have := v.isLt
    omega
  unfold Host.gather
  refine congrArg a (funext fun b => Fin.ext ?_)
  show D.start (ix3 l k ch) idx b + D.batchCoord (ix3 l k ch) b + D.offCoord (ix3 l k ch) b = _
  rw [hb b]
  match b with
  | 0 => rw [s0, o0]; exact Nat.zero_add _
  | 1 => rw [s1, o1]; rfl
  | 2 => rw [s2, o2]; exact Nat.zero_add _

theorem toInt_of_lt {v : BitVec 32} (h : v.toNat < 200000) : v.toInt = (v.toNat : Int) := by
  rw [BitVec.toInt_eq_toNat_cond, if_pos (by omega)]

/-- A row looked up is the row its index names. -/
theorem taken_at (a : FVec F S2x200000x64 .f32) (i : IVec S100000 32) (h : ∀ x, (i x).toNat < 200000) (l : Fin 2) (k : Fin 100000) (ch : Fin 64) :
    taken a i (ix3 l k ch) = a (ix3 l ⟨(i (en k)).toNat, h _⟩ ch) := by
  have e : broadcastInDim S2x100000x64 ![1] bcast_S100000_S2x100000x64_1 (inside i) (ix3 l k ch) = 1#1 := inside_at i h _
  have e2 := gather_at a (col i) l k ch ⟨(i (en k)).toNat, h _⟩ ((congrArg BitVec.toInt (col_at i h (cl k))).trans (toInt_of_lt (h _)))
  unfold taken select
  simp only []
  rw [e]
  exact e2

/-- Where an update of a store lands: its layer and column, the row its index names. -/
theorem lands (idx : IVec S100000x1 32) (y : S2x100000x64.Idx) (x : S2x200000x64.Idx) :
    scatter_S2x200000x64_S100000x1_S2x100000x64_02_1_1_1.resultIdx? y idx = some x
      ↔ (y 0).val = (x 0).val ∧ (idx (cl (y 1))).toInt = ((x 1).val : Int) ∧ (y 2).val = (x 2).val := by
  let D := scatter_S2x200000x64_S100000x1_S2x100000x64_02_1_1_1
  have hsi : D.siIdx y ⟨List.idxOf (1 : Fin 3) [(1 : Fin 3)], List.idxOf_lt_length_iff.2 (List.mem_singleton.mpr rfl)⟩ = cl (y 1) := by
    funext b; refine Fin.ext ?_
    match b with
    | 0 => rfl
    | 1 => rfl
  have s1 : D.start y idx 1 = (idx (cl (y 1))).toInt := by
    refine Eq.trans ?_ (congrArg (fun q => (idx q).toInt) hsi)
    unfold ScatterDims.start
    exact dif_pos (List.mem_singleton.mpr rfl)
  have s0 : D.start y idx 0 = 0 := by unfold ScatterDims.start; exact dif_neg (by decide)
  have s2 : D.start y idx 2 = 0 := by unfold ScatterDims.start; exact dif_neg (by decide)
  have w0 : D.window y 0 = (y 0).val := by unfold ScatterDims.window; exact dif_pos (by decide)
  have w1 : D.window y 1 = 0 := by unfold ScatterDims.window; exact dif_neg (by decide)
  have w2 : D.window y 2 = (y 2).val := by unfold ScatterDims.window; exact dif_pos (by decide)
  rw [Routing.resultIdx?_eq_some]
  constructor
  · intro h
    have h0 : D.start y idx 0 + (D.window y 0 : Int) = ((x 0).val : Int) := h 0
    have h1 : D.start y idx 1 + (D.window y 1 : Int) = ((x 1).val : Int) := h 1
    have h2 : D.start y idx 2 + (D.window y 2 : Int) = ((x 2).val : Int) := h 2
    rw [s0, w0] at h0; rw [s1, w1] at h1; rw [s2, w2] at h2
    exact ⟨by omega, by omega, by omega⟩
  · intro ⟨h0, h1, h2⟩ a
    match a with
    | 0 => show D.start y idx 0 + (D.window y 0 : Int) = ((x 0).val : Int); rw [s0, w0]; omega
    | 1 => show D.start y idx 1 + (D.window y 1 : Int) = ((x 1).val : Int); rw [s1, w1]; omega
    | 2 => show D.start y idx 2 + (D.window y 2 : Int) = ((x 2).val : Int); rw [s2, w2]; omega

/-- Of the updates that land at an element, the last in row-major order is what the store leaves there. -/
theorem scatter_set_last {α : Type} {s si u : Shape} {w : ℕ} (d : ScatterDims s si u) (x0 : s.Idx → α) (idx : IVec si w) (upd : u.Idx → α) (ι : s.Idx)
    (k : u.Idx) (hk : d.resultIdx? k idx = some ι) (hl : ∀ j, d.resultIdx? j idx = some ι → (u.rowMajor j).val ≤ (u.rowMajor k).val) :
    Host.scatter d (fun _ b => b) x0 idx upd ι = upd k := by
  classical
  let hit : ℕ → Prop := fun n => ∃ h : n < u.numel, d.resultIdx? (u.rowMajor.symm ⟨n, h⟩) idx = some ι
  let val : ℕ → α := fun n => if h : n < u.numel then upd (u.rowMajor.symm ⟨n, h⟩) else x0 ι
  have e : (fun (a : α) (n : Fin u.numel) => if d.resultIdx? (u.rowMajor.symm n) idx = some ι then upd (u.rowMajor.symm n) else a)
      = fun a n => if hit n.val then val n.val else a := by
    funext a n
    have hv : val n.val = upd (u.rowMajor.symm n) := dif_pos n.isLt
    by_cases hh : d.resultIdx? (u.rowMajor.symm n) idx = some ι
    · rw [if_pos hh, if_pos (show hit n.val from ⟨n.isLt, hh⟩), hv]
    · rw [if_neg hh, if_neg fun ⟨_, c⟩ => hh c]
  rw [Routing.scatter_at, e, Routing.foldl_finRange_lastHit,
    LaneScatter.lastHit_of_last (hit := hit) val _ (k := (u.rowMajor k).val) ⟨(u.rowMajor k).isLt, by rw [Fin.eta, Equiv.symm_apply_apply]; exact hk⟩
      (u.rowMajor k).isLt fun j h1 h2 ⟨_, c⟩ => by
        have := hl _ c
        rw [Equiv.apply_symm_apply] at this
        exact absurd h1 (Nat.not_lt.2 this)]
  show (if h : (u.rowMajor k).val < u.numel then _ else _) = _
  rw [dif_pos (u.rowMajor k).isLt, Fin.eta, Equiv.symm_apply_apply]

/-- A store read at an element whose row some pair names, the last of them pair `k`. -/
theorem put_last (o : FVec F S2x200000x64 .f32) (i : IVec S100000 32) (hi : ∀ x, (i x).toNat < 200000) (w : FVec F S2x100000x64 .f32)
    (l : Fin 2) (r : Fin 200000) (ch : Fin 64) (k : Fin 100000) (hk : (i (en k)).toNat = r.val)
    (hl : ∀ j : Fin 100000, k.val < j.val → (i (en j)).toNat ≠ r.val) : put o i w (ix3 l r ch) = w (ix3 l k ch) := by
  refine scatter_set_last _ _ _ _ _ _ ((lands _ _ _).2 ⟨rfl, ?_, rfl⟩) fun j hj => ?_
  · rw [col_at i hi, toInt_of_lt (hi _)]
    exact congrArg Int.ofNat hk
  · obtain ⟨h0, h1, h2⟩ := (lands _ _ _).1 hj
    rw [col_at i hi, toInt_of_lt (hi _)] at h1
    have hjk : ¬ k.val < (j 1).val := fun c => hl (j 1) c (Int.ofNat.inj h1)
    rw [Shape.rowMajor_val_three, Shape.rowMajor_val_three]
    show ((j 0).val * 100000 + (j 1).val) * 64 + (j 2).val ≤ (l.val * 100000 + k.val) * 64 + ch.val
    have h0' : (j 0).val = l.val := h0
    have h2' : (j 2).val = ch.val := h2
    omega

/-- And at an element whose row none names. -/
theorem put_miss (o : FVec F S2x200000x64 .f32) (i : IVec S100000 32) (hi : ∀ x, (i x).toNat < 200000) (w : FVec F S2x100000x64 .f32)
    (l : Fin 2) (r : Fin 200000) (ch : Fin 64) (hn : ∀ j : Fin 100000, (i (en j)).toNat ≠ r.val) : put o i w (ix3 l r ch) = o (ix3 l r ch) := by
  refine Routing.scatter_set_miss _ _ _ _ _ fun j hj => ?_
  obtain ⟨_, h1, _⟩ := (lands _ _ _).1 hj
  rw [col_at i hi, toInt_of_lt (hi _)] at h1
  exact hn (j 1) (Int.ofNat.inj h1)

/-- Either no entry of a list names a row, or there is a last that does. -/
theorem last_or_none (i : IVec S100000 32) (r : ℕ) :
    (∃ k : Fin 100000, (i (en k)).toNat = r ∧ ∀ j : Fin 100000, k.val < j.val → (i (en j)).toNat ≠ r) ∨ ∀ j : Fin 100000, (i (en j)).toNat ≠ r := by
  classical
  rcases LaneScatter.lastHit_cases (fun k => ∃ h : k < 100000, (i (en ⟨k, h⟩)).toNat = r) (fun _ => ()) () 100000 with ⟨k, hk, ⟨_, hh⟩, hl, _⟩ | ⟨hn, _⟩
  · exact Or.inl ⟨⟨k, hk⟩, hh, fun j h c => hl j.val h j.isLt ⟨j.isLt, c⟩⟩
  · exact Or.inr fun j c => hn j.val j.isLt ⟨j.isLt, c⟩

/-- The winner of a row whose last pair is `k`. -/
theorem winW_last {tt gg : ℕ → BitVec 32} {n r k : ℕ} (hk : k < n) (h : (tt k).toNat = r) (hl : ∀ j, k < j → j < n → (tt j).toNat ≠ r) :
    winW tt gg n r = gg k := by
  rw [winW_miss tt gg (n := k + 1) hk fun j h1 h2 => hl j h1 h2]
  exact if_pos h

theorem ttOf_lo (t0 t1 : IVec S100000 32) (k : Fin 100000) : ttOf t0 t1 k.val = t0 (en k) := (if_pos k.isLt).trans (wd_en t0 k)
theorem ttOf_hi (t0 t1 : IVec S100000 32) (k : Fin 100000) : ttOf t0 t1 (100000 + k.val) = t1 (en k) :=
  (if_neg (by omega)).trans (by rw [Nat.add_sub_cancel_left]; exact wd_en t1 k)
theorem ggOf_lo (f0 f1 : IVec S100000 32) (k : Fin 100000) : ggOf f0 f1 k.val = f0 (en k) := (if_pos k.isLt).trans (wd_en f0 k)
theorem ggOf_hi (f0 f1 : IVec S100000 32) (k : Fin 100000) : ggOf f0 f1 (100000 + k.val) = f1 (en k) + 200000#32 :=
  (if_neg (by omega)).trans (by rw [Nat.add_sub_cancel_left]; exact congrArg (· + 200000#32) (wd_en f1 k))

/-- An entry of the second list names no row of the pairs after the first. -/
theorem ttOf_hi_ne {t0 t1 : IVec S100000 32} {r j : ℕ} (h1 : 100000 ≤ j) (h2 : j < 200000) (hn : (t1 (en ⟨j - 100000, by omega⟩)).toNat ≠ r) :
    (ttOf t0 t1 j).toNat ≠ r := by
  have e := ttOf_hi t0 t1 ⟨j - 100000, by omega⟩
  rw [show 100000 + (j - 100000) = j by omega] at e
  rw [e]
  exact hn

/-- The first 64 columns of a lengthened array are the array. -/
theorem padOf_at (x : S2x200000x64.Idx → F .f32) (l : Fin 2) (v : ℕ) (hv : v < 200000) (ch : Fin 64) :
    Launch.padOf x (ix l.val v ⟨ch.val, by omega⟩) = x (ix3 l ⟨v, hv⟩ ch) := by
  refine pad_apply_of_inside _ _ _ _ _ _ _ _ _ fun a => ?_
  match a with
  | 0 => show l.val % 2 = 0 + l.val * (0 + 1); omega
  | 1 => show v % 200000 = 0 + v * (0 + 1); omega
  | 2 => show ch.val = 0 + ch.val * (0 + 1); omega

/-- The reference's result is the kernel's, at every element. -/
theorem refOut_at (a0 a1 : FVec F S2x200000x64 .f32) (f0 t0 f1 t1 : IVec S100000 32) (hf0 : ∀ x, (f0 x).toNat < 200000) (ht0 : ∀ x, (t0 x).toNat < 200000)
    (hf1 : ∀ x, (f1 x).toNat < 200000) (ht1 : ∀ x, (t1 x).toNat < 200000) (l : Fin 2) (r : Fin 200000) (ch : Fin 64) :
    refOut a0 a1 f0 t0 f1 t1 (ix3 l r ch)
      = tgt (Launch.padOf a0) (Launch.padOf a1) Launch.zv (ttOf t0 t1) (ggOf f0 f1) (ix l.val r.val ⟨ch.val, by omega⟩) := by
  have er : ((ix l.val r.val ⟨ch.val, by omega⟩) 1).val = r.val := Nat.mod_eq_of_lt r.isLt
  have el : ((ix l.val r.val ⟨ch.val, by omega⟩) 0).val = l.val := Nat.mod_eq_of_lt l.isLt
  have ec : (ix l.val r.val ⟨ch.val, by omega⟩) 2 = (⟨ch.val, by omega⟩ : Fin 128) := rfl
  unfold tgt
  rw [er, el, ec]
  unfold refOut
  rcases last_or_none t1 r.val with ⟨k, hk, hl⟩ | hn
  · rw [put_last _ _ ht1 _ _ _ _ k hk hl, taken_at _ _ hf1,
      winW_last (k := 100000 + k.val) (by omega) (by rw [ttOf_hi]; exact hk) (fun j h1 h2 => ttOf_hi_ne (by omega) h2 (hl _ (by show _ < j - 100000; omega))), ggOf_hi]
    have hlt := hf1 (en k)
    have hs : (f1 (en k) + 200000#32).toNat = (f1 (en k)).toNat + 200000 := by
      rw [BitVec.toNat_add]
      show (_ + 200000) % 4294967296 = _
      omega
    simp only [hs]
    rw [if_neg (by omega), if_pos (by omega), Nat.add_sub_cancel]
    exact (padOf_at a1 l _ hlt ch).symm
  · rw [put_miss _ _ ht1 _ _ _ _ hn,
      winW_miss _ _ (n := 100000) (by omega) fun j h1 h2 => ttOf_hi_ne h1 h2 (hn _)]
    rcases last_or_none t0 r.val with ⟨k, hk, hl⟩ | hn
    · rw [put_last _ _ ht0 _ _ _ _ k hk hl, taken_at _ _ hf0,
        winW_last (k := k.val) k.isLt (by rw [ttOf_lo]; exact hk) (fun j h1 h2 => by
          rw [show j = (⟨j, h2⟩ : Fin 100000).val from rfl, ttOf_lo]; exact hl _ h1), ggOf_lo]
      have hlt := hf0 (en k)
      simp only []
      rw [if_pos hlt]
      exact (padOf_at a0 l _ hlt ch).symm
    · rw [put_miss _ _ ht0 _ _ _ _ hn, winW_miss _ _ (n := 0) (by omega) fun j h1 h2 => by
          rw [show j = (⟨j, h2⟩ : Fin 100000).val from rfl, ttOf_lo]; exact hn _]
      rfl

/-- The reference's result is the kernel's. -/
theorem refOut_eq (m : (ℓ : Loc Cert.KernelIdeal.nD Cert.KernelIdeal.τ Cert.KernelIdeal.sig) → Buf (Elt F) ℓ) (h : Launch.PreOK m) (d : Dev Cert.KernelIdeal.nD) :
    refOut (m ((SparseCore.T d).loc Cert.KernelIdeal.main_arg0)) (m ((SparseCore.T d).loc Cert.KernelIdeal.main_arg1)) (m (Launch.fLoc d)) (m (Launch.tLoc d))
      (m (Launch.hLoc d)) (m (Launch.uLoc d)) = Launch.out m d := by
  funext x
  obtain ⟨hf0, ht0, hf1, ht1⟩ := h d
  have e := refOut_at (m ((SparseCore.T d).loc Cert.KernelIdeal.main_arg0)) (m ((SparseCore.T d).loc Cert.KernelIdeal.main_arg1)) _ _ _ _ hf0 ht0 hf1 ht1 (x 0) (x 1) (x 2)
  have ex : ix3 (x 0) (x 1) (x 2) = x := funext fun a => match a with
    | 0 => rfl
    | 1 => rfl
    | 2 => rfl
  refine ((congrArg _ ex).symm.trans e).trans ?_
  unfold Launch.out extractStridedSlice Launch.res Launch.A0 Launch.A1 Launch.tt Launch.gg
  refine congrArg _ (funext fun a => Fin.ext ?_)
  match a with
  | 0 => show (x 0).val % 2 = 0 + (x 0).val; have : (x 0).val < 2 := (x 0).isLt; omega
  | 1 => show (x 1).val % 200000 = 0 + (x 1).val; have : (x 1).val < 200000 := (x 1).isLt; omega
  | 2 => show (x 2).val = 0 + (x 2).val; omega

/-- Over the extended reals the kernel and the reference, from the same arguments, end with the same result. -/
theorem algebraic : Cert.algebraic_KernelIdeal_ReferenceIdeal := fun m g m' g' hpre hagree => by
  have hok : Launch.PreOK m := fun d => Launch.ok_of_fn _ _ _ _ _ _ (hpre d)
  refine ⟨fun c => Launch.out m c, ?_, ?_⟩
  · exact (θ_run Cert.KernelIdeal.defs _ _).mono (fun _ h d => ⟨(h.1 d).2, (h.1 d).1⟩) (Launch.run_main (F := Ideal) m g hok)
  · refine (θ_run Cert.ReferenceIdeal.defs _ _).mono (fun _ h c => ⟨(h c).1.trans ?_, (h c).2⟩) (run_main (F := Ideal) m' g')
    obtain ⟨e0, e1, e2, e3, e4, e5⟩ := hagree c
    rw [e0, e1, e2, e3, e4, e5]
    exact refOut_eq m hok c

end Cert.Proof.Ref
-- ==== Proof.lean ====
/- The proof of the claim: the programs' stated facts, then each part from the module that proves it. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import proofs.«01_k».proof.Proof.Run
public import proofs.«01_k».proof.Proof.Ref
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- Everything that is claimed. -/
theorem claim : Cert.Claim :=
  ⟨Cert.Kernel.Gen.facts, Cert.KernelIdeal.Gen.facts, Cert.ReferenceIdeal.Gen.facts, Cert.Pre_in_range.Gen.facts,
    Launch.frame, Launch.frame_ideal, Ref.frame, Ref.frame_in_range, trivial, Ref.algebraic⟩

end Cert.Proof

end
